-- ==== Defs.lean ====
def Pre_ConvPool (m : (ℓ : Loc Cert.ConvPool.nD Cert.ConvPool.τ Cert.ConvPool.sig) → Buf (Elt Bits) ℓ) : Prop :=
  True

def Pre_ConvPoolIdeal (m : (ℓ : Loc Cert.ConvPoolIdeal.nD Cert.ConvPoolIdeal.τ Cert.ConvPoolIdeal.sig) → Buf (Elt Ideal) ℓ) : Prop :=
  True

def Pre_ConvPoolRefIdeal (m : (ℓ : Loc Cert.ConvPoolRefIdeal.nD Cert.ConvPoolRefIdeal.τ Cert.ConvPoolRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_Du2 (m : (ℓ : Loc Cert.Du2.nD Cert.Du2.τ Cert.Du2.sig) → Buf (Elt Bits) ℓ) : Prop :=
  True

def Pre_Du2Ideal (m : (ℓ : Loc Cert.Du2Ideal.nD Cert.Du2Ideal.τ Cert.Du2Ideal.sig) → Buf (Elt Ideal) ℓ) : Prop :=
  True

def Pre_Du2RefIdeal (m : (ℓ : Loc Cert.Du2RefIdeal.nD Cert.Du2RefIdeal.τ Cert.Du2RefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Zin (m : (ℓ : Loc Cert.Zin.nD Cert.Zin.τ Cert.Zin.sig) → Buf (Elt Bits) ℓ) : Prop :=
  True

def Pre_ZinIdeal (m : (ℓ : Loc Cert.ZinIdeal.nD Cert.ZinIdeal.τ Cert.ZinIdeal.sig) → Buf (Elt Ideal) ℓ) : Prop :=
  True

def Pre_ZinRefIdeal (m : (ℓ : Loc Cert.ZinRefIdeal.nD Cert.ZinRefIdeal.τ Cert.ZinRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_FwdNorm (m : (ℓ : Loc Cert.FwdNorm.nD Cert.FwdNorm.τ Cert.FwdNorm.sig) → Buf (Elt Bits) ℓ) : Prop :=
  True

def Pre_FwdNormIdeal (m : (ℓ : Loc Cert.FwdNormIdeal.nD Cert.FwdNormIdeal.τ Cert.FwdNormIdeal.sig) → Buf (Elt Ideal) ℓ) : Prop :=
  True

def Pre_FwdNormRefIdeal (m : (ℓ : Loc Cert.FwdNormRefIdeal.nD Cert.FwdNormRefIdeal.τ Cert.FwdNormRefIdeal.sig) → Buf (Elt Ideal) ℓ) : Prop :=
  True

def Pre_FwdHead (m : (ℓ : Loc Cert.FwdHead.nD Cert.FwdHead.τ Cert.FwdHead.sig) → Buf (Elt Bits) ℓ) : Prop :=
  True

def Pre_FwdHeadIdeal (m : (ℓ : Loc Cert.FwdHeadIdeal.nD Cert.FwdHeadIdeal.τ Cert.FwdHeadIdeal.sig) → Buf (Elt Ideal) ℓ) : Prop :=
  True

def Pre_FwdHeadRefIdeal (m : (ℓ : Loc Cert.FwdHeadRefIdeal.nD Cert.FwdHeadRefIdeal.τ Cert.FwdHeadRefIdeal.sig) → Buf (Elt Ideal) ℓ) : Prop :=
  True

def Pre_FwdPool (m : (ℓ : Loc Cert.FwdPool.nD Cert.FwdPool.τ Cert.FwdPool.sig) → Buf (Elt Bits) ℓ) : Prop :=
  True

def Pre_FwdPoolIdeal (m : (ℓ : Loc Cert.FwdPoolIdeal.nD Cert.FwdPoolIdeal.τ Cert.FwdPoolIdeal.sig) → Buf (Elt Ideal) ℓ) : Prop :=
  True

def Pre_FwdPoolRefIdeal (m : (ℓ : Loc Cert.FwdPoolRefIdeal.nD Cert.FwdPoolRefIdeal.τ Cert.FwdPoolRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_OptOut (m : (ℓ : Loc Cert.OptOut.nD Cert.OptOut.τ Cert.OptOut.sig) → Buf (Elt Bits) ℓ) : Prop :=
  True

def Pre_OptOutIdeal (m : (ℓ : Loc Cert.OptOutIdeal.nD Cert.OptOutIdeal.τ Cert.OptOutIdeal.sig) → Buf (Elt Ideal) ℓ) : Prop :=
  True

def Pre_OptOutRefIdeal (m : (ℓ : Loc Cert.OptOutRefIdeal.nD Cert.OptOutRefIdeal.τ Cert.OptOutRefIdeal.sig) → Buf (Elt Ideal) ℓ) : Prop :=
  True

def Pre_OptGate (m : (ℓ : Loc Cert.OptGate.nD Cert.OptGate.τ Cert.OptGate.sig) → Buf (Elt Bits) ℓ) : Prop :=
  True

def Pre_OptGateIdeal (m : (ℓ : Loc Cert.OptGateIdeal.nD Cert.OptGateIdeal.τ Cert.OptGateIdeal.sig) → Buf (Elt Ideal) ℓ) : Prop :=
  True

def Pre_OptGateRefIdeal (m : (ℓ : Loc Cert.OptGateRefIdeal.nD Cert.OptGateRefIdeal.τ Cert.OptGateRefIdeal.sig) → Buf (Elt Ideal) ℓ) : Prop :=
  True

def Pre_OptDown (m : (ℓ : Loc Cert.OptDown.nD Cert.OptDown.τ Cert.OptDown.sig) → Buf (Elt Bits) ℓ) : Prop :=
  True

def Pre_OptDownIdeal (m : (ℓ : Loc Cert.OptDownIdeal.nD Cert.OptDownIdeal.τ Cert.OptDownIdeal.sig) → Buf (Elt Ideal) ℓ) : Prop :=
  True

def Pre_OptDownRefIdeal (m : (ℓ : Loc Cert.OptDownRefIdeal.nD Cert.OptDownRefIdeal.τ Cert.OptDownRefIdeal.sig) → Buf (Elt Ideal) ℓ) : Prop :=
  True

def Pre_Sum8 (m : (ℓ : Loc Cert.Sum8.nD Cert.Sum8.τ Cert.Sum8.sig) → Buf (Elt Bits) ℓ) : Prop :=
  True

def Pre_Sum8Ideal (m : (ℓ : Loc Cert.Sum8Ideal.nD Cert.Sum8Ideal.τ Cert.Sum8Ideal.sig) → Buf (Elt Ideal) ℓ) : Prop :=
  True

def Pre_Sum8RefIdeal (m : (ℓ : Loc Cert.Sum8RefIdeal.nD Cert.Sum8RefIdeal.τ Cert.Sum8RefIdeal.sig) → Buf (Elt Ideal) ℓ) : Prop :=
  True

def Pre_OptSmall (m : (ℓ : Loc Cert.OptSmall.nD Cert.OptSmall.τ Cert.OptSmall.sig) → Buf (Elt Bits) ℓ) : Prop :=
  True

def Pre_OptSmallIdeal (m : (ℓ : Loc Cert.OptSmallIdeal.nD Cert.OptSmallIdeal.τ Cert.OptSmallIdeal.sig) → Buf (Elt Ideal) ℓ) : Prop :=
  True

def Pre_OptSmallRefIdeal (m : (ℓ : Loc Cert.OptSmallRefIdeal.nD Cert.OptSmallRefIdeal.τ Cert.OptSmallRefIdeal.sig) → Buf (Elt Ideal) ℓ) : Prop :=
  True

def Pre_FoxPrep (m : (ℓ : Loc Cert.FoxPrep.nD Cert.FoxPrep.τ Cert.FoxPrep.sig) → Buf (Elt Bits) ℓ) : Prop :=
  True

def Pre_FoxPrepIdeal (m : (ℓ : Loc Cert.FoxPrepIdeal.nD Cert.FoxPrepIdeal.τ Cert.FoxPrepIdeal.sig) → Buf (Elt Ideal) ℓ) : Prop :=
  True

def Pre_FoxPrepRefIdeal (m : (ℓ : Loc Cert.FoxPrepRefIdeal.nD Cert.FoxPrepRefIdeal.τ Cert.FoxPrepRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_FoxPrepBwd (m : (ℓ : Loc Cert.FoxPrepBwd.nD Cert.FoxPrepBwd.τ Cert.FoxPrepBwd.sig) → Buf (Elt Bits) ℓ) : Prop :=
  True

def Pre_FoxPrepBwdIdeal (m : (ℓ : Loc Cert.FoxPrepBwdIdeal.nD Cert.FoxPrepBwdIdeal.τ Cert.FoxPrepBwdIdeal.sig) → Buf (Elt Ideal) ℓ) : Prop :=
  True

def Pre_FoxPrepBwdIdeal_smooth_foxprep [hPre_smooth_foxprep : Cert.Pre_smooth_foxprep.Facts] (m : (ℓ : Loc Cert.FoxPrepBwdIdeal.nD Cert.FoxPrepBwdIdeal.τ Cert.FoxPrepBwdIdeal.sig) → Buf (Elt Ideal) ℓ) : Prop :=
  ∀ c : Dev Cert.FoxPrepBwdIdeal.nD,
    (Cert.Pre_smooth_foxprep.fn (F := Ideal) (m ((c.tc : Thread Cert.FoxPrepBwdIdeal.nD Cert.FoxPrepBwdIdeal.τ).loc Cert.FoxPrepBwdIdeal.main_arg0)) (m ((c.tc : Thread Cert.FoxPrepBwdIdeal.nD Cert.FoxPrepBwdIdeal.τ).loc Cert.FoxPrepBwdIdeal.main_arg1)) (m ((c.tc : Thread Cert.FoxPrepBwdIdeal.nD Cert.FoxPrepBwdIdeal.τ).loc Cert.FoxPrepBwdIdeal.main_arg2)) (m ((c.tc : Thread Cert.FoxPrepBwdIdeal.nD Cert.FoxPrepBwdIdeal.τ).loc Cert.FoxPrepBwdIdeal.main_arg3)) (m ((c.tc : Thread Cert.FoxPrepBwdIdeal.nD Cert.FoxPrepBwdIdeal.τ).loc Cert.FoxPrepBwdIdeal.main_arg4))).1 = (fun _ => 1#1)
    ∧ (Cert.Pre_smooth_foxprep.fn (F := Ideal) (m ((c.tc : Thread Cert.FoxPrepBwdIdeal.nD Cert.FoxPrepBwdIdeal.τ).loc Cert.FoxPrepBwdIdeal.main_arg0)) (m ((c.tc : Thread Cert.FoxPrepBwdIdeal.nD Cert.FoxPrepBwdIdeal.τ).loc Cert.FoxPrepBwdIdeal.main_arg1)) (m ((c.tc : Thread Cert.FoxPrepBwdIdeal.nD Cert.FoxPrepBwdIdeal.τ).loc Cert.FoxPrepBwdIdeal.main_arg2)) (m ((c.tc : Thread Cert.FoxPrepBwdIdeal.nD Cert.FoxPrepBwdIdeal.τ).loc Cert.FoxPrepBwdIdeal.main_arg3)) (m ((c.tc : Thread Cert.FoxPrepBwdIdeal.nD Cert.FoxPrepBwdIdeal.τ).loc Cert.FoxPrepBwdIdeal.main_arg4))).2.1 = (fun _ => 1#1)
    ∧ (Cert.Pre_smooth_foxprep.fn (F := Ideal) (m ((c.tc : Thread Cert.FoxPrepBwdIdeal.nD Cert.FoxPrepBwdIdeal.τ).loc Cert.FoxPrepBwdIdeal.main_arg0)) (m ((c.tc : Thread Cert.FoxPrepBwdIdeal.nD Cert.FoxPrepBwdIdeal.τ).loc Cert.FoxPrepBwdIdeal.main_arg1)) (m ((c.tc : Thread Cert.FoxPrepBwdIdeal.nD Cert.FoxPrepBwdIdeal.τ).loc Cert.FoxPrepBwdIdeal.main_arg2)) (m ((c.tc : Thread Cert.FoxPrepBwdIdeal.nD Cert.FoxPrepBwdIdeal.τ).loc Cert.FoxPrepBwdIdeal.main_arg3)) (m ((c.tc : Thread Cert.FoxPrepBwdIdeal.nD Cert.FoxPrepBwdIdeal.τ).loc Cert.FoxPrepBwdIdeal.main_arg4))).2.2 = (fun _ => 1#1)

def Pre_FoxPrepBwdRefIdeal (m : (ℓ : Loc Cert.FoxPrepBwdRefIdeal.nD Cert.FoxPrepBwdRefIdeal.τ Cert.FoxPrepBwdRefIdeal.sig) → Buf (Elt Ideal) ℓ) : Prop :=
  True

def Pre_FoxPrepBwdRefIdeal_smooth_foxprep [hPre_smooth_foxprep : Cert.Pre_smooth_foxprep.Facts] (m : (ℓ : Loc Cert.FoxPrepBwdRefIdeal.nD Cert.FoxPrepBwdRefIdeal.τ Cert.FoxPrepBwdRefIdeal.sig) → Buf (Elt Ideal) ℓ) : Prop :=
  ∀ c : Dev Cert.FoxPrepBwdRefIdeal.nD,
    (Cert.Pre_smooth_foxprep.fn (F := Ideal) (m ((c.tc : Thread Cert.FoxPrepBwdRefIdeal.nD Cert.FoxPrepBwdRefIdeal.τ).loc Cert.FoxPrepBwdRefIdeal.main_arg0)) (m ((c.tc : Thread Cert.FoxPrepBwdRefIdeal.nD Cert.FoxPrepBwdRefIdeal.τ).loc Cert.FoxPrepBwdRefIdeal.main_arg1)) (m ((c.tc : Thread Cert.FoxPrepBwdRefIdeal.nD Cert.FoxPrepBwdRefIdeal.τ).loc Cert.FoxPrepBwdRefIdeal.main_arg2)) (m ((c.tc : Thread Cert.FoxPrepBwdRefIdeal.nD Cert.FoxPrepBwdRefIdeal.τ).loc Cert.FoxPrepBwdRefIdeal.main_arg3)) (m ((c.tc : Thread Cert.FoxPrepBwdRefIdeal.nD Cert.FoxPrepBwdRefIdeal.τ).loc Cert.FoxPrepBwdRefIdeal.main_arg4))).1 = (fun _ => 1#1)
    ∧ (Cert.Pre_smooth_foxprep.fn (F := Ideal) (m ((c.tc : Thread Cert.FoxPrepBwdRefIdeal.nD Cert.FoxPrepBwdRefIdeal.τ).loc Cert.FoxPrepBwdRefIdeal.main_arg0)) (m ((c.tc : Thread Cert.FoxPrepBwdRefIdeal.nD Cert.FoxPrepBwdRefIdeal.τ).loc Cert.FoxPrepBwdRefIdeal.main_arg1)) (m ((c.tc : Thread Cert.FoxPrepBwdRefIdeal.nD Cert.FoxPrepBwdRefIdeal.τ).loc Cert.FoxPrepBwdRefIdeal.main_arg2)) (m ((c.tc : Thread Cert.FoxPrepBwdRefIdeal.nD Cert.FoxPrepBwdRefIdeal.τ).loc Cert.FoxPrepBwdRefIdeal.main_arg3)) (m ((c.tc : Thread Cert.FoxPrepBwdRefIdeal.nD Cert.FoxPrepBwdRefIdeal.τ).loc Cert.FoxPrepBwdRefIdeal.main_arg4))).2.1 = (fun _ => 1#1)
    ∧ (Cert.Pre_smooth_foxprep.fn (F := Ideal) (m ((c.tc : Thread Cert.FoxPrepBwdRefIdeal.nD Cert.FoxPrepBwdRefIdeal.τ).loc Cert.FoxPrepBwdRefIdeal.main_arg0)) (m ((c.tc : Thread Cert.FoxPrepBwdRefIdeal.nD Cert.FoxPrepBwdRefIdeal.τ).loc Cert.FoxPrepBwdRefIdeal.main_arg1)) (m ((c.tc : Thread Cert.FoxPrepBwdRefIdeal.nD Cert.FoxPrepBwdRefIdeal.τ).loc Cert.FoxPrepBwdRefIdeal.main_arg2)) (m ((c.tc : Thread Cert.FoxPrepBwdRefIdeal.nD Cert.FoxPrepBwdRefIdeal.τ).loc Cert.FoxPrepBwdRefIdeal.main_arg3)) (m ((c.tc : Thread Cert.FoxPrepBwdRefIdeal.nD Cert.FoxPrepBwdRefIdeal.τ).loc Cert.FoxPrepBwdRefIdeal.main_arg4))).2.2 = (fun _ => 1#1)

def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkRefIdeal (m : (ℓ : Loc Cert.ChunkRefIdeal.nD Cert.ChunkRefIdeal.τ Cert.ChunkRefIdeal.sig) → Buf (Elt Ideal) ℓ) : Prop :=
  True

def quiescent_ConvPool [hConvPool : Cert.ConvPool.Facts] : Prop :=
  ∀ (m : (ℓ : Loc Cert.ConvPool.nD Cert.ConvPool.τ Cert.ConvPool.sig) → Buf (Elt Bits) ℓ) (g : Dev Cert.ConvPool.nD → PrngReg), Pre_ConvPool m →
    θ_run (Cert.ConvPool.defs (F := Bits)) (onTc (τ := Cert.ConvPool.τ) (Cert.ConvPool.main (F := Bits))) ⟨m, fun _ => 0, g⟩ (fun r => (∀ c : Dev Cert.ConvPool.nD,
      r.2.mem ((c.tc : Thread Cert.ConvPool.nD Cert.ConvPool.τ).loc Cert.ConvPool.main_arg0) = m ((c.tc : Thread Cert.ConvPool.nD Cert.ConvPool.τ).loc Cert.ConvPool.main_arg0)
      ∧ r.2.mem ((c.tc : Thread Cert.ConvPool.nD Cert.ConvPool.τ).loc Cert.ConvPool.main_arg1) = m ((c.tc : Thread Cert.ConvPool.nD Cert.ConvPool.τ).loc Cert.ConvPool.main_arg1)
      ∧ r.2.mem ((c.tc : Thread Cert.ConvPool.nD Cert.ConvPool.τ).loc Cert.ConvPool.main_arg2) = m ((c.tc : Thread Cert.ConvPool.nD Cert.ConvPool.τ).loc Cert.ConvPool.main_arg2)
      ∧ r.2.mem ((c.tc : Thread Cert.ConvPool.nD Cert.ConvPool.τ).loc Cert.ConvPool.main_arg3) = m ((c.tc : Thread Cert.ConvPool.nD Cert.ConvPool.τ).loc Cert.ConvPool.main_arg3)
      ∧ r.2.mem ((c.tc : Thread Cert.ConvPool.nD Cert.ConvPool.τ).loc Cert.ConvPool.main_arg4) = m ((c.tc : Thread Cert.ConvPool.nD Cert.ConvPool.τ).loc Cert.ConvPool.main_arg4))
      ∧ r.2.sem = fun _ => 0)

def quiescent_ConvPoolIdeal [hConvPoolIdeal : Cert.ConvPoolIdeal.Facts] : Prop :=
  ∀ (m : (ℓ : Loc Cert.ConvPoolIdeal.nD Cert.ConvPoolIdeal.τ Cert.ConvPoolIdeal.sig) → Buf (Elt Ideal) ℓ) (g : Dev Cert.ConvPoolIdeal.nD → PrngReg), Pre_ConvPoolIdeal m →
    θ_run (Cert.ConvPoolIdeal.defs (F := Ideal)) (onTc (τ := Cert.ConvPoolIdeal.τ) (Cert.ConvPoolIdeal.main (F := Ideal))) ⟨m, fun _ => 0, g⟩ (fun r => (∀ c : Dev Cert.ConvPoolIdeal.nD,
      r.2.mem ((c.tc : Thread Cert.ConvPoolIdeal.nD Cert.ConvPoolIdeal.τ).loc Cert.ConvPoolIdeal.main_arg0) = m ((c.tc : Thread Cert.ConvPoolIdeal.nD Cert.ConvPoolIdeal.τ).loc Cert.ConvPoolIdeal.main_arg0)
      ∧ r.2.mem ((c.tc : Thread Cert.ConvPoolIdeal.nD Cert.ConvPoolIdeal.τ).loc Cert.ConvPoolIdeal.main_arg1) = m ((c.tc : Thread Cert.ConvPoolIdeal.nD Cert.ConvPoolIdeal.τ).loc Cert.ConvPoolIdeal.main_arg1)
      ∧ r.2.mem ((c.tc : Thread Cert.ConvPoolIdeal.nD Cert.ConvPoolIdeal.τ).loc Cert.ConvPoolIdeal.main_arg2) = m ((c.tc : Thread Cert.ConvPoolIdeal.nD Cert.ConvPoolIdeal.τ).loc Cert.ConvPoolIdeal.main_arg2)
      ∧ r.2.mem ((c.tc : Thread Cert.ConvPoolIdeal.nD Cert.ConvPoolIdeal.τ).loc Cert.ConvPoolIdeal.main_arg3) = m ((c.tc : Thread Cert.ConvPoolIdeal.nD Cert.ConvPoolIdeal.τ).loc Cert.ConvPoolIdeal.main_arg3)
      ∧ r.2.mem ((c.tc : Thread Cert.ConvPoolIdeal.nD Cert.ConvPoolIdeal.τ).loc Cert.ConvPoolIdeal.main_arg4) = m ((c.tc : Thread Cert.ConvPoolIdeal.nD Cert.ConvPoolIdeal.τ).loc Cert.ConvPoolIdeal.main_arg4))
      ∧ r.2.sem = fun _ => 0)

def quiescent_ConvPoolRefIdeal [hConvPoolRefIdeal : Cert.ConvPoolRefIdeal.Facts] : Prop :=
  ∀ (m : (ℓ : Loc Cert.ConvPoolRefIdeal.nD Cert.ConvPoolRefIdeal.τ Cert.ConvPoolRefIdeal.sig) → Buf (Elt Ideal) ℓ) (g : Dev Cert.ConvPoolRefIdeal.nD → PrngReg), Pre_ConvPoolRefIdeal m →
    θ_run (Cert.ConvPoolRefIdeal.defs (F := Ideal)) (onTc (τ := Cert.ConvPoolRefIdeal.τ) (Cert.ConvPoolRefIdeal.main (F := Ideal))) ⟨m, fun _ => 0, g⟩ (fun r => (∀ c : Dev Cert.ConvPoolRefIdeal.nD,
      r.2.mem ((c.tc : Thread Cert.ConvPoolRefIdeal.nD Cert.ConvPoolRefIdeal.τ).loc Cert.ConvPoolRefIdeal.main_arg0) = m ((c.tc : Thread Cert.ConvPoolRefIdeal.nD Cert.ConvPoolRefIdeal.τ).loc Cert.ConvPoolRefIdeal.main_arg0)
      ∧ r.2.mem ((c.tc : Thread Cert.ConvPoolRefIdeal.nD Cert.ConvPoolRefIdeal.τ).loc Cert.ConvPoolRefIdeal.main_arg1) = m ((c.tc : Thread Cert.ConvPoolRefIdeal.nD Cert.ConvPoolRefIdeal.τ).loc Cert.ConvPoolRefIdeal.main_arg1)
      ∧ r.2.mem ((c.tc : Thread Cert.ConvPoolRefIdeal.nD Cert.ConvPoolRefIdeal.τ).loc Cert.ConvPoolRefIdeal.main_arg2) = m ((c.tc : Thread Cert.ConvPoolRefIdeal.nD Cert.ConvPoolRefIdeal.τ).loc Cert.ConvPoolRefIdeal.main_arg2)
      ∧ r.2.mem ((c.tc : Thread Cert.ConvPoolRefIdeal.nD Cert.ConvPoolRefIdeal.τ).loc Cert.ConvPoolRefIdeal.main_arg3) = m ((c.tc : Thread Cert.ConvPoolRefIdeal.nD Cert.ConvPoolRefIdeal.τ).loc Cert.ConvPoolRefIdeal.main_arg3)
      ∧ r.2.mem ((c.tc : Thread Cert.ConvPoolRefIdeal.nD Cert.ConvPoolRefIdeal.τ).loc Cert.ConvPoolRefIdeal.main_arg4) = m ((c.tc : Thread Cert.ConvPoolRefIdeal.nD Cert.ConvPoolRefIdeal.τ).loc Cert.ConvPoolRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_Du2 [hDu2 : Cert.Du2.Facts] : Prop :=
  ∀ (m : (ℓ : Loc Cert.Du2.nD Cert.Du2.τ Cert.Du2.sig) → Buf (Elt Bits) ℓ) (g : Dev Cert.Du2.nD → PrngReg), Pre_Du2 m →
    θ_run (Cert.Du2.defs (F := Bits)) (onTc (τ := Cert.Du2.τ) (Cert.Du2.main (F := Bits))) ⟨m, fun _ => 0, g⟩ (fun r => (∀ c : Dev Cert.Du2.nD,
      r.2.mem ((c.tc : Thread Cert.Du2.nD Cert.Du2.τ).loc Cert.Du2.main_arg0) = m ((c.tc : Thread Cert.Du2.nD Cert.Du2.τ).loc Cert.Du2.main_arg0)
      ∧ r.2.mem ((c.tc : Thread Cert.Du2.nD Cert.Du2.τ).loc Cert.Du2.main_arg1) = m ((c.tc : Thread Cert.Du2.nD Cert.Du2.τ).loc Cert.Du2.main_arg1)
      ∧ r.2.mem ((c.tc : Thread Cert.Du2.nD Cert.Du2.τ).loc Cert.Du2.main_arg2) = m ((c.tc : Thread Cert.Du2.nD Cert.Du2.τ).loc Cert.Du2.main_arg2)
      ∧ r.2.mem ((c.tc : Thread Cert.Du2.nD Cert.Du2.τ).loc Cert.Du2.main_arg3) = m ((c.tc : Thread Cert.Du2.nD Cert.Du2.τ).loc Cert.Du2.main_arg3))
      ∧ r.2.sem = fun _ => 0)

def quiescent_Du2Ideal [hDu2Ideal : Cert.Du2Ideal.Facts] : Prop :=
  ∀ (m : (ℓ : Loc Cert.Du2Ideal.nD Cert.Du2Ideal.τ Cert.Du2Ideal.sig) → Buf (Elt Ideal) ℓ) (g : Dev Cert.Du2Ideal.nD → PrngReg), Pre_Du2Ideal m →
    θ_run (Cert.Du2Ideal.defs (F := Ideal)) (onTc (τ := Cert.Du2Ideal.τ) (Cert.Du2Ideal.main (F := Ideal))) ⟨m, fun _ => 0, g⟩ (fun r => (∀ c : Dev Cert.Du2Ideal.nD,
      r.2.mem ((c.tc : Thread Cert.Du2Ideal.nD Cert.Du2Ideal.τ).loc Cert.Du2Ideal.main_arg0) = m ((c.tc : Thread Cert.Du2Ideal.nD Cert.Du2Ideal.τ).loc Cert.Du2Ideal.main_arg0)
      ∧ r.2.mem ((c.tc : Thread Cert.Du2Ideal.nD Cert.Du2Ideal.τ).loc Cert.Du2Ideal.main_arg1) = m ((c.tc : Thread Cert.Du2Ideal.nD Cert.Du2Ideal.τ).loc Cert.Du2Ideal.main_arg1)
      ∧ r.2.mem ((c.tc : Thread Cert.Du2Ideal.nD Cert.Du2Ideal.τ).loc Cert.Du2Ideal.main_arg2) = m ((c.tc : Thread Cert.Du2Ideal.nD Cert.Du2Ideal.τ).loc Cert.Du2Ideal.main_arg2)
      ∧ r.2.mem ((c.tc : Thread Cert.Du2Ideal.nD Cert.Du2Ideal.τ).loc Cert.Du2Ideal.main_arg3) = m ((c.tc : Thread Cert.Du2Ideal.nD Cert.Du2Ideal.τ).loc Cert.Du2Ideal.main_arg3))
      ∧ r.2.sem = fun _ => 0)

def quiescent_Du2RefIdeal [hDu2RefIdeal : Cert.Du2RefIdeal.Facts] : Prop :=
  ∀ (m : (ℓ : Loc Cert.Du2RefIdeal.nD Cert.Du2RefIdeal.τ Cert.Du2RefIdeal.sig) → Buf (Elt Ideal) ℓ) (g : Dev Cert.Du2RefIdeal.nD → PrngReg), Pre_Du2RefIdeal m →
    θ_run (Cert.Du2RefIdeal.defs (F := Ideal)) (onTc (τ := Cert.Du2RefIdeal.τ) (Cert.Du2RefIdeal.main (F := Ideal))) ⟨m, fun _ => 0, g⟩ (fun r => (∀ c : Dev Cert.Du2RefIdeal.nD,
      r.2.mem ((c.tc : Thread Cert.Du2RefIdeal.nD Cert.Du2RefIdeal.τ).loc Cert.Du2RefIdeal.main_arg0) = m ((c.tc : Thread Cert.Du2RefIdeal.nD Cert.Du2RefIdeal.τ).loc Cert.Du2RefIdeal.main_arg0)
      ∧ r.2.mem ((c.tc : Thread Cert.Du2RefIdeal.nD Cert.Du2RefIdeal.τ).loc Cert.Du2RefIdeal.main_arg1) = m ((c.tc : Thread Cert.Du2RefIdeal.nD Cert.Du2RefIdeal.τ).loc Cert.Du2RefIdeal.main_arg1)
      ∧ r.2.mem ((c.tc : Thread Cert.Du2RefIdeal.nD Cert.Du2RefIdeal.τ).loc Cert.Du2RefIdeal.main_arg2) = m ((c.tc : Thread Cert.Du2RefIdeal.nD Cert.Du2RefIdeal.τ).loc Cert.Du2RefIdeal.main_arg2)
      ∧ r.2.mem ((c.tc : Thread Cert.Du2RefIdeal.nD Cert.Du2RefIdeal.τ).loc Cert.Du2RefIdeal.main_arg3) = m ((c.tc : Thread Cert.Du2RefIdeal.nD Cert.Du2RefIdeal.τ).loc Cert.Du2RefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1))
      ∧ r.2.sem = fun _ => 0)

def quiescent_Zin [hZin : Cert.Zin.Facts] : Prop :=
  ∀ (m : (ℓ : Loc Cert.Zin.nD Cert.Zin.τ Cert.Zin.sig) → Buf (Elt Bits) ℓ) (g : Dev Cert.Zin.nD → PrngReg), Pre_Zin m →
    θ_run (Cert.Zin.defs (F := Bits)) (onTc (τ := Cert.Zin.τ) (Cert.Zin.main (F := Bits))) ⟨m, fun _ => 0, g⟩ (fun r => (∀ c : Dev Cert.Zin.nD,
      r.2.mem ((c.tc : Thread Cert.Zin.nD Cert.Zin.τ).loc Cert.Zin.main_arg0) = m ((c.tc : Thread Cert.Zin.nD Cert.Zin.τ).loc Cert.Zin.main_arg0)
      ∧ r.2.mem ((c.tc : Thread Cert.Zin.nD Cert.Zin.τ).loc Cert.Zin.main_arg1) = m ((c.tc : Thread Cert.Zin.nD Cert.Zin.τ).loc Cert.Zin.main_arg1))
      ∧ r.2.sem = fun _ => 0)

def quiescent_ZinIdeal [hZinIdeal : Cert.ZinIdeal.Facts] : Prop :=
  ∀ (m : (ℓ : Loc Cert.ZinIdeal.nD Cert.ZinIdeal.τ Cert.ZinIdeal.sig) → Buf (Elt Ideal) ℓ) (g : Dev Cert.ZinIdeal.nD → PrngReg), Pre_ZinIdeal m →
    θ_run (Cert.ZinIdeal.defs (F := Ideal)) (onTc (τ := Cert.ZinIdeal.τ) (Cert.ZinIdeal.main (F := Ideal))) ⟨m, fun _ => 0, g⟩ (fun r => (∀ c : Dev Cert.ZinIdeal.nD,
      r.2.mem ((c.tc : Thread Cert.ZinIdeal.nD Cert.ZinIdeal.τ).loc Cert.ZinIdeal.main_arg0) = m ((c.tc : Thread Cert.ZinIdeal.nD Cert.ZinIdeal.τ).loc Cert.ZinIdeal.main_arg0)
      ∧ r.2.mem ((c.tc : Thread Cert.ZinIdeal.nD Cert.ZinIdeal.τ).loc Cert.ZinIdeal.main_arg1) = m ((c.tc : Thread Cert.ZinIdeal.nD Cert.ZinIdeal.τ).loc Cert.ZinIdeal.main_arg1))
      ∧ r.2.sem = fun _ => 0)

def quiescent_ZinRefIdeal [hZinRefIdeal : Cert.ZinRefIdeal.Facts] : Prop :=
  ∀ (m : (ℓ : Loc Cert.ZinRefIdeal.nD Cert.ZinRefIdeal.τ Cert.ZinRefIdeal.sig) → Buf (Elt Ideal) ℓ) (g : Dev Cert.ZinRefIdeal.nD → PrngReg), Pre_ZinRefIdeal m →
    θ_run (Cert.ZinRefIdeal.defs (F := Ideal)) (onTc (τ := Cert.ZinRefIdeal.τ) (Cert.ZinRefIdeal.main (F := Ideal))) ⟨m, fun _ => 0, g⟩ (fun r => (∀ c : Dev Cert.ZinRefIdeal.nD,
      r.2.mem ((c.tc : Thread Cert.ZinRefIdeal.nD Cert.ZinRefIdeal.τ).loc Cert.ZinRefIdeal.main_arg0) = m ((c.tc : Thread Cert.ZinRefIdeal.nD Cert.ZinRefIdeal.τ).loc Cert.ZinRefIdeal.main_arg0)
      ∧ r.2.mem ((c.tc : Thread Cert.ZinRefIdeal.nD Cert.ZinRefIdeal.τ).loc Cert.ZinRefIdeal.main_arg1) = m ((c.tc : Thread Cert.ZinRefIdeal.nD Cert.ZinRefIdeal.τ).loc Cert.ZinRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_FwdNorm [hFwdNorm : Cert.FwdNorm.Facts] : Prop :=
  ∀ (m : (ℓ : Loc Cert.FwdNorm.nD Cert.FwdNorm.τ Cert.FwdNorm.sig) → Buf (Elt Bits) ℓ) (g : Dev Cert.FwdNorm.nD → PrngReg), Pre_FwdNorm m →
    θ_run (Cert.FwdNorm.defs (F := Bits)) (onTc (τ := Cert.FwdNorm.τ) (Cert.FwdNorm.main (F := Bits))) ⟨m, fun _ => 0, g⟩ (fun r => (∀ c : Dev Cert.FwdNorm.nD,
      r.2.mem ((c.tc : Thread Cert.FwdNorm.nD Cert.FwdNorm.τ).loc Cert.FwdNorm.main_arg0) = m ((c.tc : Thread Cert.FwdNorm.nD Cert.FwdNorm.τ).loc Cert.FwdNorm.main_arg0)
      ∧ r.2.mem ((c.tc : Thread Cert.FwdNorm.nD Cert.FwdNorm.τ).loc Cert.FwdNorm.main_arg1) = m ((c.tc : Thread Cert.FwdNorm.nD Cert.FwdNorm.τ).loc Cert.FwdNorm.main_arg1))
      ∧ r.2.sem = fun _ => 0)

def quiescent_FwdNormIdeal [hFwdNormIdeal : Cert.FwdNormIdeal.Facts] : Prop :=
  ∀ (m : (ℓ : Loc Cert.FwdNormIdeal.nD Cert.FwdNormIdeal.τ Cert.FwdNormIdeal.sig) → Buf (Elt Ideal) ℓ) (g : Dev Cert.FwdNormIdeal.nD → PrngReg), Pre_FwdNormIdeal m →
    θ_run (Cert.FwdNormIdeal.defs (F := Ideal)) (onTc (τ := Cert.FwdNormIdeal.τ) (Cert.FwdNormIdeal.main (F := Ideal))) ⟨m, fun _ => 0, g⟩ (fun r => (∀ c : Dev Cert.FwdNormIdeal.nD,
      r.2.mem ((c.tc : Thread Cert.FwdNormIdeal.nD Cert.FwdNormIdeal.τ).loc Cert.FwdNormIdeal.main_arg0) = m ((c.tc : Thread Cert.FwdNormIdeal.nD Cert.FwdNormIdeal.τ).loc Cert.FwdNormIdeal.main_arg0)
      ∧ r.2.mem ((c.tc : Thread Cert.FwdNormIdeal.nD Cert.FwdNormIdeal.τ).loc Cert.FwdNormIdeal.main_arg1) = m ((c.tc : Thread Cert.FwdNormIdeal.nD Cert.FwdNormIdeal.τ).loc Cert.FwdNormIdeal.main_arg1))
      ∧ r.2.sem = fun _ => 0)

def quiescent_FwdNormRefIdeal [hFwdNormRefIdeal : Cert.FwdNormRefIdeal.Facts] : Prop :=
  ∀ (m : (ℓ : Loc Cert.FwdNormRefIdeal.nD Cert.FwdNormRefIdeal.τ Cert.FwdNormRefIdeal.sig) → Buf (Elt Ideal) ℓ) (g : Dev Cert.FwdNormRefIdeal.nD → PrngReg), Pre_FwdNormRefIdeal m →
    θ_run (Cert.FwdNormRefIdeal.defs (F := Ideal)) (onTc (τ := Cert.FwdNormRefIdeal.τ) (Cert.FwdNormRefIdeal.main (F := Ideal))) ⟨m, fun _ => 0, g⟩ (fun r => (∀ c : Dev Cert.FwdNormRefIdeal.nD,
      r.2.mem ((c.tc : Thread Cert.FwdNormRefIdeal.nD Cert.FwdNormRefIdeal.τ).loc Cert.FwdNormRefIdeal.main_arg0) = m ((c.tc : Thread Cert.FwdNormRefIdeal.nD Cert.FwdNormRefIdeal.τ).loc Cert.FwdNormRefIdeal.main_arg0)
      ∧ r.2.mem ((c.tc : Thread Cert.FwdNormRefIdeal.nD Cert.FwdNormRefIdeal.τ).loc Cert.FwdNormRefIdeal.main_arg1) = m ((c.tc : Thread Cert.FwdNormRefIdeal.nD Cert.FwdNormRefIdeal.τ).loc Cert.FwdNormRefIdeal.main_arg1))
      ∧ r.2.sem = fun _ => 0)

def quiescent_FwdHead [hFwdHead : Cert.FwdHead.Facts] : Prop :=
  ∀ (m : (ℓ : Loc Cert.FwdHead.nD Cert.FwdHead.τ Cert.FwdHead.sig) → Buf (Elt Bits) ℓ) (g : Dev Cert.FwdHead.nD → PrngReg), Pre_FwdHead m →
    θ_run (Cert.FwdHead.defs (F := Bits)) (onTc (τ := Cert.FwdHead.τ) (Cert.FwdHead.main (F := Bits))) ⟨m, fun _ => 0, g⟩ (fun r => (∀ c : Dev Cert.FwdHead.nD,
      r.2.mem ((c.tc : Thread Cert.FwdHead.nD Cert.FwdHead.τ).loc Cert.FwdHead.main_arg0) = m ((c.tc : Thread Cert.FwdHead.nD Cert.FwdHead.τ).loc Cert.FwdHead.main_arg0)
      ∧ r.2.mem ((c.tc : Thread Cert.FwdHead.nD Cert.FwdHead.τ).loc Cert.FwdHead.main_arg1) = m ((c.tc : Thread Cert.FwdHead.nD Cert.FwdHead.τ).loc Cert.FwdHead.main_arg1)
      ∧ r.2.mem ((c.tc : Thread Cert.FwdHead.nD Cert.FwdHead.τ).loc Cert.FwdHead.main_arg2) = m ((c.tc : Thread Cert.FwdHead.nD Cert.FwdHead.τ).loc Cert.FwdHead.main_arg2))
      ∧ r.2.sem = fun _ => 0)

def quiescent_FwdHeadIdeal [hFwdHeadIdeal : Cert.FwdHeadIdeal.Facts] : Prop :=
  ∀ (m : (ℓ : Loc Cert.FwdHeadIdeal.nD Cert.FwdHeadIdeal.τ Cert.FwdHeadIdeal.sig) → Buf (Elt Ideal) ℓ) (g : Dev Cert.FwdHeadIdeal.nD → PrngReg), Pre_FwdHeadIdeal m →
    θ_run (Cert.FwdHeadIdeal.defs (F := Ideal)) (onTc (τ := Cert.FwdHeadIdeal.τ) (Cert.FwdHeadIdeal.main (F := Ideal))) ⟨m, fun _ => 0, g⟩ (fun r => (∀ c : Dev Cert.FwdHeadIdeal.nD,
      r.2.mem ((c.tc : Thread Cert.FwdHeadIdeal.nD Cert.FwdHeadIdeal.τ).loc Cert.FwdHeadIdeal.main_arg0) = m ((c.tc : Thread Cert.FwdHeadIdeal.nD Cert.FwdHeadIdeal.τ).loc Cert.FwdHeadIdeal.main_arg0)
      ∧ r.2.mem ((c.tc : Thread Cert.FwdHeadIdeal.nD Cert.FwdHeadIdeal.τ).loc Cert.FwdHeadIdeal.main_arg1) = m ((c.tc : Thread Cert.FwdHeadIdeal.nD Cert.FwdHeadIdeal.τ).loc Cert.FwdHeadIdeal.main_arg1)
      ∧ r.2.mem ((c.tc : Thread Cert.FwdHeadIdeal.nD Cert.FwdHeadIdeal.τ).loc Cert.FwdHeadIdeal.main_arg2) = m ((c.tc : Thread Cert.FwdHeadIdeal.nD Cert.FwdHeadIdeal.τ).loc Cert.FwdHeadIdeal.main_arg2))
      ∧ r.2.sem = fun _ => 0)

def quiescent_FwdHeadRefIdeal [hFwdHeadRefIdeal : Cert.FwdHeadRefIdeal.Facts] : Prop :=
  ∀ (m : (ℓ : Loc Cert.FwdHeadRefIdeal.nD Cert.FwdHeadRefIdeal.τ Cert.FwdHeadRefIdeal.sig) → Buf (Elt Ideal) ℓ) (g : Dev Cert.FwdHeadRefIdeal.nD → PrngReg), Pre_FwdHeadRefIdeal m →
    θ_run (Cert.FwdHeadRefIdeal.defs (F := Ideal)) (onTc (τ := Cert.FwdHeadRefIdeal.τ) (Cert.FwdHeadRefIdeal.main (F := Ideal))) ⟨m, fun _ => 0, g⟩ (fun r => (∀ c : Dev Cert.FwdHeadRefIdeal.nD,
      r.2.mem ((c.tc : Thread Cert.FwdHeadRefIdeal.nD Cert.FwdHeadRefIdeal.τ).loc Cert.FwdHeadRefIdeal.main_arg0) = m ((c.tc : Thread Cert.FwdHeadRefIdeal.nD Cert.FwdHeadRefIdeal.τ).loc Cert.FwdHeadRefIdeal.main_arg0)
      ∧ r.2.mem ((c.tc : Thread Cert.FwdHeadRefIdeal.nD Cert.FwdHeadRefIdeal.τ).loc Cert.FwdHeadRefIdeal.main_arg1) = m ((c.tc : Thread Cert.FwdHeadRefIdeal.nD Cert.FwdHeadRefIdeal.τ).loc Cert.FwdHeadRefIdeal.main_arg1)
      ∧ r.2.mem ((c.tc : Thread Cert.FwdHeadRefIdeal.nD Cert.FwdHeadRefIdeal.τ).loc Cert.FwdHeadRefIdeal.main_arg2) = m ((c.tc : Thread Cert.FwdHeadRefIdeal.nD Cert.FwdHeadRefIdeal.τ).loc Cert.FwdHeadRefIdeal.main_arg2))
      ∧ r.2.sem = fun _ => 0)

def quiescent_FwdPool [hFwdPool : Cert.FwdPool.Facts] : Prop :=
  ∀ (m : (ℓ : Loc Cert.FwdPool.nD Cert.FwdPool.τ Cert.FwdPool.sig) → Buf (Elt Bits) ℓ) (g : Dev Cert.FwdPool.nD → PrngReg), Pre_FwdPool m →
    θ_run (Cert.FwdPool.defs (F := Bits)) (onTc (τ := Cert.FwdPool.τ) (Cert.FwdPool.main (F := Bits))) ⟨m, fun _ => 0, g⟩ (fun r => (∀ c : Dev Cert.FwdPool.nD,
      r.2.mem ((c.tc : Thread Cert.FwdPool.nD Cert.FwdPool.τ).loc Cert.FwdPool.main_arg0) = m ((c.tc : Thread Cert.FwdPool.nD Cert.FwdPool.τ).loc Cert.FwdPool.main_arg0)
      ∧ r.2.mem ((c.tc : Thread Cert.FwdPool.nD Cert.FwdPool.τ).loc Cert.FwdPool.main_arg1) = m ((c.tc : Thread Cert.FwdPool.nD Cert.FwdPool.τ).loc Cert.FwdPool.main_arg1)
      ∧ r.2.mem ((c.tc : Thread Cert.FwdPool.nD Cert.FwdPool.τ).loc Cert.FwdPool.main_arg2) = m ((c.tc : Thread Cert.FwdPool.nD Cert.FwdPool.τ).loc Cert.FwdPool.main_arg2)
      ∧ r.2.mem ((c.tc : Thread Cert.FwdPool.nD Cert.FwdPool.τ).loc Cert.FwdPool.main_arg3) = m ((c.tc : Thread Cert.FwdPool.nD Cert.FwdPool.τ).loc Cert.FwdPool.main_arg3))
      ∧ r.2.sem = fun _ => 0)

def quiescent_FwdPoolIdeal [hFwdPoolIdeal : Cert.FwdPoolIdeal.Facts] : Prop :=
  ∀ (m : (ℓ : Loc Cert.FwdPoolIdeal.nD Cert.FwdPoolIdeal.τ Cert.FwdPoolIdeal.sig) → Buf (Elt Ideal) ℓ) (g : Dev Cert.FwdPoolIdeal.nD → PrngReg), Pre_FwdPoolIdeal m →
    θ_run (Cert.FwdPoolIdeal.defs (F := Ideal)) (onTc (τ := Cert.FwdPoolIdeal.τ) (Cert.FwdPoolIdeal.main (F := Ideal))) ⟨m, fun _ => 0, g⟩ (fun r => (∀ c : Dev Cert.FwdPoolIdeal.nD,
      r.2.mem ((c.tc : Thread Cert.FwdPoolIdeal.nD Cert.FwdPoolIdeal.τ).loc Cert.FwdPoolIdeal.main_arg0) = m ((c.tc : Thread Cert.FwdPoolIdeal.nD Cert.FwdPoolIdeal.τ).loc Cert.FwdPoolIdeal.main_arg0)
      ∧ r.2.mem ((c.tc : Thread Cert.FwdPoolIdeal.nD Cert.FwdPoolIdeal.τ).loc Cert.FwdPoolIdeal.main_arg1) = m ((c.tc : Thread Cert.FwdPoolIdeal.nD Cert.FwdPoolIdeal.τ).loc Cert.FwdPoolIdeal.main_arg1)
      ∧ r.2.mem ((c.tc : Thread Cert.FwdPoolIdeal.nD Cert.FwdPoolIdeal.τ).loc Cert.FwdPoolIdeal.main_arg2) = m ((c.tc : Thread Cert.FwdPoolIdeal.nD Cert.FwdPoolIdeal.τ).loc Cert.FwdPoolIdeal.main_arg2)
      ∧ r.2.mem ((c.tc : Thread Cert.FwdPoolIdeal.nD Cert.FwdPoolIdeal.τ).loc Cert.FwdPoolIdeal.main_arg3) = m ((c.tc : Thread Cert.FwdPoolIdeal.nD Cert.FwdPoolIdeal.τ).loc Cert.FwdPoolIdeal.main_arg3))
      ∧ r.2.sem = fun _ => 0)

def quiescent_FwdPoolRefIdeal [hFwdPoolRefIdeal : Cert.FwdPoolRefIdeal.Facts] : Prop :=
  ∀ (m : (ℓ : Loc Cert.FwdPoolRefIdeal.nD Cert.FwdPoolRefIdeal.τ Cert.FwdPoolRefIdeal.sig) → Buf (Elt Ideal) ℓ) (g : Dev Cert.FwdPoolRefIdeal.nD → PrngReg), Pre_FwdPoolRefIdeal m →
    θ_run (Cert.FwdPoolRefIdeal.defs (F := Ideal)) (onTc (τ := Cert.FwdPoolRefIdeal.τ) (Cert.FwdPoolRefIdeal.main (F := Ideal))) ⟨m, fun _ => 0, g⟩ (fun r => (∀ c : Dev Cert.FwdPoolRefIdeal.nD,
      r.2.mem ((c.tc : Thread Cert.FwdPoolRefIdeal.nD Cert.FwdPoolRefIdeal.τ).loc Cert.FwdPoolRefIdeal.main_arg0) = m ((c.tc : Thread Cert.FwdPoolRefIdeal.nD Cert.FwdPoolRefIdeal.τ).loc Cert.FwdPoolRefIdeal.main_arg0)
      ∧ r.2.mem ((c.tc : Thread Cert.FwdPoolRefIdeal.nD Cert.FwdPoolRefIdeal.τ).loc Cert.FwdPoolRefIdeal.main_arg1) = m ((c.tc : Thread Cert.FwdPoolRefIdeal.nD Cert.FwdPoolRefIdeal.τ).loc Cert.FwdPoolRefIdeal.main_arg1)
      ∧ r.2.mem ((c.tc : Thread Cert.FwdPoolRefIdeal.nD Cert.FwdPoolRefIdeal.τ).loc Cert.FwdPoolRefIdeal.main_arg2) = m ((c.tc : Thread Cert.FwdPoolRefIdeal.nD Cert.FwdPoolRefIdeal.τ).loc Cert.FwdPoolRefIdeal.main_arg2)
      ∧ r.2.mem ((c.tc : Thread Cert.FwdPoolRefIdeal.nD Cert.FwdPoolRefIdeal.τ).loc Cert.FwdPoolRefIdeal.main_arg3) = m ((c.tc : Thread Cert.FwdPoolRefIdeal.nD Cert.FwdPoolRefIdeal.τ).loc Cert.FwdPoolRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_OptOut [hOptOut : Cert.OptOut.Facts] : Prop :=
  ∀ (m : (ℓ : Loc Cert.OptOut.nD Cert.OptOut.τ Cert.OptOut.sig) → Buf (Elt Bits) ℓ) (g : Dev Cert.OptOut.nD → PrngReg), Pre_OptOut m →
    θ_run (Cert.OptOut.defs (F := Bits)) (onTc (τ := Cert.OptOut.τ) (Cert.OptOut.main (F := Bits))) ⟨m, fun _ => 0, g⟩ (fun r => (∀ c : Dev Cert.OptOut.nD,
      r.2.mem ((c.tc : Thread Cert.OptOut.nD Cert.OptOut.τ).loc Cert.OptOut.main_arg0) = m ((c.tc : Thread Cert.OptOut.nD Cert.OptOut.τ).loc Cert.OptOut.main_arg0)
      ∧ r.2.mem ((c.tc : Thread Cert.OptOut.nD Cert.OptOut.τ).loc Cert.OptOut.main_arg1) = m ((c.tc : Thread Cert.OptOut.nD Cert.OptOut.τ).loc Cert.OptOut.main_arg1)
      ∧ r.2.mem ((c.tc : Thread Cert.OptOut.nD Cert.OptOut.τ).loc Cert.OptOut.main_arg2) = m ((c.tc : Thread Cert.OptOut.nD Cert.OptOut.τ).loc Cert.OptOut.main_arg2)
      ∧ r.2.mem ((c.tc : Thread Cert.OptOut.nD Cert.OptOut.τ).loc Cert.OptOut.main_arg3) = m ((c.tc : Thread Cert.OptOut.nD Cert.OptOut.τ).loc Cert.OptOut.main_arg3)
      ∧ r.2.mem ((c.tc : Thread Cert.OptOut.nD Cert.OptOut.τ).loc Cert.OptOut.main_arg4) = m ((c.tc : Thread Cert.OptOut.nD Cert.OptOut.τ).loc Cert.OptOut.main_arg4))
      ∧ r.2.sem = fun _ => 0)

def quiescent_OptOutIdeal [hOptOutIdeal : Cert.OptOutIdeal.Facts] : Prop :=
  ∀ (m : (ℓ : Loc Cert.OptOutIdeal.nD Cert.OptOutIdeal.τ Cert.OptOutIdeal.sig) → Buf (Elt Ideal) ℓ) (g : Dev Cert.OptOutIdeal.nD → PrngReg), Pre_OptOutIdeal m →
    θ_run (Cert.OptOutIdeal.defs (F := Ideal)) (onTc (τ := Cert.OptOutIdeal.τ) (Cert.OptOutIdeal.main (F := Ideal))) ⟨m, fun _ => 0, g⟩ (fun r => (∀ c : Dev Cert.OptOutIdeal.nD,
      r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
      ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
      ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
      ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3)
      ∧ r.2.mem ((c.tc : Thread Cert.OptOutIdeal.nD Cert.OptOutIdeal.τ).loc Cert.OptOutIdeal.main_arg4) = m ((c.tc : Thread Cert.OptOutIdeal.nD Cert.OptOutIdeal.τ).loc Cert.OptOutIdeal.main_arg4))
      ∧ r.2.sem = fun _ => 0)

def quiescent_OptOutRefIdeal [hOptOutRefIdeal : Cert.OptOutRefIdeal.Facts] : Prop :=
  ∀ (m : (ℓ : Loc Cert.OptOutRefIdeal.nD Cert.OptOutRefIdeal.τ Cert.OptOutRefIdeal.sig) → Buf (Elt Ideal) ℓ) (g : Dev Cert.OptOutRefIdeal.nD → PrngReg), Pre_OptOutRefIdeal m →
    θ_run (Cert.OptOutRefIdeal.defs (F := Ideal)) (onTc (τ := Cert.OptOutRefIdeal.τ) (Cert.OptOutRefIdeal.main (F := Ideal))) ⟨m, fun _ => 0, g⟩ (fun r => (∀ c : Dev Cert.OptOutRefIdeal.nD,
      r.2.mem ((c.tc : Thread Cert.OptOutRefIdeal.nD Cert.OptOutRefIdeal.τ).loc Cert.OptOutRefIdeal.main_arg0) = m ((c.tc : Thread Cert.OptOutRefIdeal.nD Cert.OptOutRefIdeal.τ).loc Cert.OptOutRefIdeal.main_arg0)
      ∧ r.2.mem ((c.tc : Thread Cert.OptOutRefIdeal.nD Cert.OptOutRefIdeal.τ).loc Cert.OptOutRefIdeal.main_arg1) = m ((c.tc : Thread Cert.OptOutRefIdeal.nD Cert.OptOutRefIdeal.τ).loc Cert.OptOutRefIdeal.main_arg1)
      ∧ r.2.mem ((c.tc : Thread Cert.OptOutRefIdeal.nD Cert.OptOutRefIdeal.τ).loc Cert.OptOutRefIdeal.main_arg2) = m ((c.tc : Thread Cert.OptOutRefIdeal.nD Cert.OptOutRefIdeal.τ).loc Cert.OptOutRefIdeal.main_arg2)
      ∧ r.2.mem ((c.tc : Thread Cert.OptOutRefIdeal.nD Cert.OptOutRefIdeal.τ).loc Cert.OptOutRefIdeal.main_arg3) = m ((c.tc : Thread Cert.OptOutRefIdeal.nD Cert.OptOutRefIdeal.τ).loc Cert.OptOutRefIdeal.main_arg3)
      ∧ r.2.mem ((c.tc : Thread Cert.OptOutRefIdeal.nD Cert.OptOutRefIdeal.τ).loc Cert.OptOutRefIdeal.main_arg4) = m ((c.tc : Thread Cert.OptOutRefIdeal.nD Cert.OptOutRefIdeal.τ).loc Cert.OptOutRefIdeal.main_arg4))
      ∧ r.2.sem = fun _ => 0)

def quiescent_OptGate [hOptGate : Cert.OptGate.Facts] : Prop :=
  ∀ (m : (ℓ : Loc Cert.OptGate.nD Cert.OptGate.τ Cert.OptGate.sig) → Buf (Elt Bits) ℓ) (g : Dev Cert.OptGate.nD → PrngReg), Pre_OptGate m →
    θ_run (Cert.OptGate.defs (F := Bits)) (onTc (τ := Cert.OptGate.τ) (Cert.OptGate.main (F := Bits))) ⟨m, fun _ => 0, g⟩ (fun r => (∀ c : Dev Cert.OptGate.nD,
      r.2.mem ((c.tc : Thread Cert.OptGate.nD Cert.OptGate.τ).loc Cert.OptGate.main_arg0) = m ((c.tc : Thread Cert.OptGate.nD Cert.OptGate.τ).loc Cert.OptGate.main_arg0)
      ∧ r.2.mem ((c.tc : Thread Cert.OptGate.nD Cert.OptGate.τ).loc Cert.OptGate.main_arg1) = m ((c.tc : Thread Cert.OptGate.nD Cert.OptGate.τ).loc Cert.OptGate.main_arg1)
      ∧ r.2.mem ((c.tc : Thread Cert.OptGate.nD Cert.OptGate.τ).loc Cert.OptGate.main_arg2) = m ((c.tc : Thread Cert.OptGate.nD Cert.OptGate.τ).loc Cert.OptGate.main_arg2)
      ∧ r.2.mem ((c.tc : Thread Cert.OptGate.nD Cert.OptGate.τ).loc Cert.OptGate.main_arg3) = m ((c.tc : Thread Cert.OptGate.nD Cert.OptGate.τ).loc Cert.OptGate.main_arg3)
      ∧ r.2.mem ((c.tc : Thread Cert.OptGate.nD Cert.OptGate.τ).loc Cert.OptGate.main_arg4) = m ((c.tc : Thread Cert.OptGate.nD Cert.OptGate.τ).loc Cert.OptGate.main_arg4))
      ∧ r.2.sem = fun _ => 0)

def quiescent_OptGateIdeal [hOptGateIdeal : Cert.OptGateIdeal.Facts] : Prop :=
  ∀ (m : (ℓ : Loc Cert.OptGateIdeal.nD Cert.OptGateIdeal.τ Cert.OptGateIdeal.sig) → Buf (Elt Ideal) ℓ) (g : Dev Cert.OptGateIdeal.nD → PrngReg), Pre_OptGateIdeal m →
    θ_run (Cert.OptGateIdeal.defs (F := Ideal)) (onTc (τ := Cert.OptGateIdeal.τ) (Cert.OptGateIdeal.main (F := Ideal))) ⟨m, fun _ => 0, g⟩ (fun r => (∀ c : Dev Cert.OptGateIdeal.nD,
      r.2.mem ((c.tc : Thread Cert.OptGateIdeal.nD Cert.OptGateIdeal.τ).loc Cert.OptGateIdeal.main_arg0) = m ((c.tc : Thread Cert.OptGateIdeal.nD Cert.OptGateIdeal.τ).loc Cert.OptGateIdeal.main_arg0)
      ∧ r.2.mem ((c.tc : Thread Cert.OptGateIdeal.nD Cert.OptGateIdeal.τ).loc Cert.OptGateIdeal.main_arg1) = m ((c.tc : Thread Cert.OptGateIdeal.nD Cert.OptGateIdeal.τ).loc Cert.OptGateIdeal.main_arg1)
      ∧ r.2.mem ((c.tc : Thread Cert.OptGateIdeal.nD Cert.OptGateIdeal.τ).loc Cert.OptGateIdeal.main_arg2) = m ((c.tc : Thread Cert.OptGateIdeal.nD Cert.OptGateIdeal.τ).loc Cert.OptGateIdeal.main_arg2)
      ∧ r.2.mem ((c.tc : Thread Cert.OptGateIdeal.nD Cert.OptGateIdeal.τ).loc Cert.OptGateIdeal.main_arg3) = m ((c.tc : Thread Cert.OptGateIdeal.nD Cert.OptGateIdeal.τ).loc Cert.OptGateIdeal.main_arg3)
      ∧ r.2.mem ((c.tc : Thread Cert.OptGateIdeal.nD Cert.OptGateIdeal.τ).loc Cert.OptGateIdeal.main_arg4) = m ((c.tc : Thread Cert.OptGateIdeal.nD Cert.OptGateIdeal.τ).loc Cert.OptGateIdeal.main_arg4))
      ∧ r.2.sem = fun _ => 0)

def quiescent_OptGateRefIdeal [hOptGateRefIdeal : Cert.OptGateRefIdeal.Facts] : Prop :=
  ∀ (m : (ℓ : Loc Cert.OptGateRefIdeal.nD Cert.OptGateRefIdeal.τ Cert.OptGateRefIdeal.sig) → Buf (Elt Ideal) ℓ) (g : Dev Cert.OptGateRefIdeal.nD → PrngReg), Pre_OptGateRefIdeal m →
    θ_run (Cert.OptGateRefIdeal.defs (F := Ideal)) (onTc (τ := Cert.OptGateRefIdeal.τ) (Cert.OptGateRefIdeal.main (F := Ideal))) ⟨m, fun _ => 0, g⟩ (fun r => (∀ c : Dev Cert.OptGateRefIdeal.nD,
      r.2.mem ((c.tc : Thread Cert.OptGateRefIdeal.nD Cert.OptGateRefIdeal.τ).loc Cert.OptGateRefIdeal.main_arg0) = m ((c.tc : Thread Cert.OptGateRefIdeal.nD Cert.OptGateRefIdeal.τ).loc Cert.OptGateRefIdeal.main_arg0)
      ∧ r.2.mem ((c.tc : Thread Cert.OptGateRefIdeal.nD Cert.OptGateRefIdeal.τ).loc Cert.OptGateRefIdeal.main_arg1) = m ((c.tc : Thread Cert.OptGateRefIdeal.nD Cert.OptGateRefIdeal.τ).loc Cert.OptGateRefIdeal.main_arg1)
      ∧ r.2.mem ((c.tc : Thread Cert.OptGateRefIdeal.nD Cert.OptGateRefIdeal.τ).loc Cert.OptGateRefIdeal.main_arg2) = m ((c.tc : Thread Cert.OptGateRefIdeal.nD Cert.OptGateRefIdeal.τ).loc Cert.OptGateRefIdeal.main_arg2)
      ∧ r.2.mem ((c.tc : Thread Cert.OptGateRefIdeal.nD Cert.OptGateRefIdeal.τ).loc Cert.OptGateRefIdeal.main_arg3) = m ((c.tc : Thread Cert.OptGateRefIdeal.nD Cert.OptGateRefIdeal.τ).loc Cert.OptGateRefIdeal.main_arg3)
      ∧ r.2.mem ((c.tc : Thread Cert.OptGateRefIdeal.nD Cert.OptGateRefIdeal.τ).loc Cert.OptGateRefIdeal.main_arg4) = m ((c.tc : Thread Cert.OptGateRefIdeal.nD Cert.OptGateRefIdeal.τ).loc Cert.OptGateRefIdeal.main_arg4))
      ∧ r.2.sem = fun _ => 0)

def quiescent_OptDown [hOptDown : Cert.OptDown.Facts] : Prop :=
  ∀ (m : (ℓ : Loc Cert.OptDown.nD Cert.OptDown.τ Cert.OptDown.sig) → Buf (Elt Bits) ℓ) (g : Dev Cert.OptDown.nD → PrngReg), Pre_OptDown m →
    θ_run (Cert.OptDown.defs (F := Bits)) (onTc (τ := Cert.OptDown.τ) (Cert.OptDown.main (F := Bits))) ⟨m, fun _ => 0, g⟩ (fun r => (∀ c : Dev Cert.OptDown.nD,
      r.2.mem ((c.tc : Thread Cert.OptDown.nD Cert.OptDown.τ).loc Cert.OptDown.main_arg0) = m ((c.tc : Thread Cert.OptDown.nD Cert.OptDown.τ).loc Cert.OptDown.main_arg0)
      ∧ r.2.mem ((c.tc : Thread Cert.OptDown.nD Cert.OptDown.τ).loc Cert.OptDown.main_arg1) = m ((c.tc : Thread Cert.OptDown.nD Cert.OptDown.τ).loc Cert.OptDown.main_arg1)
      ∧ r.2.mem ((c.tc : Thread Cert.OptDown.nD Cert.OptDown.τ).loc Cert.OptDown.main_arg2) = m ((c.tc : Thread Cert.OptDown.nD Cert.OptDown.τ).loc Cert.OptDown.main_arg2)
      ∧ r.2.mem ((c.tc : Thread Cert.OptDown.nD Cert.OptDown.τ).loc Cert.OptDown.main_arg3) = m ((c.tc : Thread Cert.OptDown.nD Cert.OptDown.τ).loc Cert.OptDown.main_arg3)
      ∧ r.2.mem ((c.tc : Thread Cert.OptDown.nD Cert.OptDown.τ).loc Cert.OptDown.main_arg4) = m ((c.tc : Thread Cert.OptDown.nD Cert.OptDown.τ).loc Cert.OptDown.main_arg4))
      ∧ r.2.sem = fun _ => 0)

def quiescent_OptDownIdeal [hOptDownIdeal : Cert.OptDownIdeal.Facts] : Prop :=
  ∀ (m : (ℓ : Loc Cert.OptDownIdeal.nD Cert.OptDownIdeal.τ Cert.OptDownIdeal.sig) → Buf (Elt Ideal) ℓ) (g : Dev Cert.OptDownIdeal.nD → PrngReg), Pre_OptDownIdeal m →
    θ_run (Cert.OptDownIdeal.defs (F := Ideal)) (onTc (τ := Cert.OptDownIdeal.τ) (Cert.OptDownIdeal.main (F := Ideal))) ⟨m, fun _ => 0, g⟩ (fun r => (∀ c : Dev Cert.OptDownIdeal.nD,
      r.2.mem ((c.tc : Thread Cert.OptDownIdeal.nD Cert.OptDownIdeal.τ).loc Cert.OptDownIdeal.main_arg0) = m ((c.tc : Thread Cert.OptDownIdeal.nD Cert.OptDownIdeal.τ).loc Cert.OptDownIdeal.main_arg0)
      ∧ r.2.mem ((c.tc : Thread Cert.OptDownIdeal.nD Cert.OptDownIdeal.τ).loc Cert.OptDownIdeal.main_arg1) = m ((c.tc : Thread Cert.OptDownIdeal.nD Cert.OptDownIdeal.τ).loc Cert.OptDownIdeal.main_arg1)
      ∧ r.2.mem ((c.tc : Thread Cert.OptDownIdeal.nD Cert.OptDownIdeal.τ).loc Cert.OptDownIdeal.main_arg2) = m ((c.tc : Thread Cert.OptDownIdeal.nD Cert.OptDownIdeal.τ).loc Cert.OptDownIdeal.main_arg2)
      ∧ r.2.mem ((c.tc : Thread Cert.OptDownIdeal.nD Cert.OptDownIdeal.τ).loc Cert.OptDownIdeal.main_arg3) = m ((c.tc : Thread Cert.OptDownIdeal.nD Cert.OptDownIdeal.τ).loc Cert.OptDownIdeal.main_arg3)
      ∧ r.2.mem ((c.tc : Thread Cert.OptDownIdeal.nD Cert.OptDownIdeal.τ).loc Cert.OptDownIdeal.main_arg4) = m ((c.tc : Thread Cert.OptDownIdeal.nD Cert.OptDownIdeal.τ).loc Cert.OptDownIdeal.main_arg4))
      ∧ r.2.sem = fun _ => 0)

def quiescent_OptDownRefIdeal [hOptDownRefIdeal : Cert.OptDownRefIdeal.Facts] : Prop :=
  ∀ (m : (ℓ : Loc Cert.OptDownRefIdeal.nD Cert.OptDownRefIdeal.τ Cert.OptDownRefIdeal.sig) → Buf (Elt Ideal) ℓ) (g : Dev Cert.OptDownRefIdeal.nD → PrngReg), Pre_OptDownRefIdeal m →
    θ_run (Cert.OptDownRefIdeal.defs (F := Ideal)) (onTc (τ := Cert.OptDownRefIdeal.τ) (Cert.OptDownRefIdeal.main (F := Ideal))) ⟨m, fun _ => 0, g⟩ (fun r => (∀ c : Dev Cert.OptDownRefIdeal.nD,
      r.2.mem ((c.tc : Thread Cert.OptDownRefIdeal.nD Cert.OptDownRefIdeal.τ).loc Cert.OptDownRefIdeal.main_arg0) = m ((c.tc : Thread Cert.OptDownRefIdeal.nD Cert.OptDownRefIdeal.τ).loc Cert.OptDownRefIdeal.main_arg0)
      ∧ r.2.mem ((c.tc : Thread Cert.OptDownRefIdeal.nD Cert.OptDownRefIdeal.τ).loc Cert.OptDownRefIdeal.main_arg1) = m ((c.tc : Thread Cert.OptDownRefIdeal.nD Cert.OptDownRefIdeal.τ).loc Cert.OptDownRefIdeal.main_arg1)
      ∧ r.2.mem ((c.tc : Thread Cert.OptDownRefIdeal.nD Cert.OptDownRefIdeal.τ).loc Cert.OptDownRefIdeal.main_arg2) = m ((c.tc : Thread Cert.OptDownRefIdeal.nD Cert.OptDownRefIdeal.τ).loc Cert.OptDownRefIdeal.main_arg2)
      ∧ r.2.mem ((c.tc : Thread Cert.OptDownRefIdeal.nD Cert.OptDownRefIdeal.τ).loc Cert.OptDownRefIdeal.main_arg3) = m ((c.tc : Thread Cert.OptDownRefIdeal.nD Cert.OptDownRefIdeal.τ).loc Cert.OptDownRefIdeal.main_arg3)
      ∧ r.2.mem ((c.tc : Thread Cert.OptDownRefIdeal.nD Cert.OptDownRefIdeal.τ).loc Cert.OptDownRefIdeal.main_arg4) = m ((c.tc : Thread Cert.OptDownRefIdeal.nD Cert.OptDownRefIdeal.τ).loc Cert.OptDownRefIdeal.main_arg4))
      ∧ r.2.sem = fun _ => 0)

def quiescent_Sum8 [hSum8 : Cert.Sum8.Facts] : Prop :=
  ∀ (m : (ℓ : Loc Cert.Sum8.nD Cert.Sum8.τ Cert.Sum8.sig) → Buf (Elt Bits) ℓ) (g : Dev Cert.Sum8.nD → PrngReg), Pre_Sum8 m →
    θ_run (Cert.Sum8.defs (F := Bits)) (onTc (τ := Cert.Sum8.τ) (Cert.Sum8.main (F := Bits))) ⟨m, fun _ => 0, g⟩ (fun r => (∀ c : Dev Cert.Sum8.nD,
      r.2.mem ((c.tc : Thread Cert.Sum8.nD Cert.Sum8.τ).loc Cert.Sum8.main_arg0) = m ((c.tc : Thread Cert.Sum8.nD Cert.Sum8.τ).loc Cert.Sum8.main_arg0))
      ∧ r.2.sem = fun _ => 0)

def quiescent_Sum8Ideal [hSum8Ideal : Cert.Sum8Ideal.Facts] : Prop :=
  ∀ (m : (ℓ : Loc Cert.Sum8Ideal.nD Cert.Sum8Ideal.τ Cert.Sum8Ideal.sig) → Buf (Elt Ideal) ℓ) (g : Dev Cert.Sum8Ideal.nD → PrngReg), Pre_Sum8Ideal m →
    θ_run (Cert.Sum8Ideal.defs (F := Ideal)) (onTc (τ := Cert.Sum8Ideal.τ) (Cert.Sum8Ideal.main (F := Ideal))) ⟨m, fun _ => 0, g⟩ (fun r => (∀ c : Dev Cert.Sum8Ideal.nD,
      r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ r.2.sem = fun _ => 0)

def quiescent_Sum8RefIdeal [hSum8RefIdeal : Cert.Sum8RefIdeal.Facts] : Prop :=
  ∀ (m : (ℓ : Loc Cert.Sum8RefIdeal.nD Cert.Sum8RefIdeal.τ Cert.Sum8RefIdeal.sig) → Buf (Elt Ideal) ℓ) (g : Dev Cert.Sum8RefIdeal.nD → PrngReg), Pre_Sum8RefIdeal m →
    θ_run (Cert.Sum8RefIdeal.defs (F := Ideal)) (onTc (τ := Cert.Sum8RefIdeal.τ) (Cert.Sum8RefIdeal.main (F := Ideal))) ⟨m, fun _ => 0, g⟩ (fun r => (∀ c : Dev Cert.Sum8RefIdeal.nD,
      r.2.mem ((c.tc : Thread Cert.Sum8RefIdeal.nD Cert.Sum8RefIdeal.τ).loc Cert.Sum8RefIdeal.main_arg0) = m ((c.tc : Thread Cert.Sum8RefIdeal.nD Cert.Sum8RefIdeal.τ).loc Cert.Sum8RefIdeal.main_arg0))
      ∧ r.2.sem = fun _ => 0)

def quiescent_OptSmall [hOptSmall : Cert.OptSmall.Facts] : Prop :=
  ∀ (m : (ℓ : Loc Cert.OptSmall.nD Cert.OptSmall.τ Cert.OptSmall.sig) → Buf (Elt Bits) ℓ) (g : Dev Cert.OptSmall.nD → PrngReg), Pre_OptSmall m →
    θ_run (Cert.OptSmall.defs (F := Bits)) (onTc (τ := Cert.OptSmall.τ) (Cert.OptSmall.main (F := Bits))) ⟨m, fun _ => 0, g⟩ (fun r => (∀ c : Dev Cert.OptSmall.nD,
      r.2.mem ((c.tc : Thread Cert.OptSmall.nD Cert.OptSmall.τ).loc Cert.OptSmall.main_arg0) = m ((c.tc : Thread Cert.OptSmall.nD Cert.OptSmall.τ).loc Cert.OptSmall.main_arg0)
      ∧ r.2.mem ((c.tc : Thread Cert.OptSmall.nD Cert.OptSmall.τ).loc Cert.OptSmall.main_arg1) = m ((c.tc : Thread Cert.OptSmall.nD Cert.OptSmall.τ).loc Cert.OptSmall.main_arg1)
      ∧ r.2.mem ((c.tc : Thread Cert.OptSmall.nD Cert.OptSmall.τ).loc Cert.OptSmall.main_arg2) = m ((c.tc : Thread Cert.OptSmall.nD Cert.OptSmall.τ).loc Cert.OptSmall.main_arg2)
      ∧ r.2.mem ((c.tc : Thread Cert.OptSmall.nD Cert.OptSmall.τ).loc Cert.OptSmall.main_arg3) = m ((c.tc : Thread Cert.OptSmall.nD Cert.OptSmall.τ).loc Cert.OptSmall.main_arg3))
      ∧ r.2.sem = fun _ => 0)

def quiescent_OptSmallIdeal [hOptSmallIdeal : Cert.OptSmallIdeal.Facts] : Prop :=
  ∀ (m : (ℓ : Loc Cert.OptSmallIdeal.nD Cert.OptSmallIdeal.τ Cert.OptSmallIdeal.sig) → Buf (Elt Ideal) ℓ) (g : Dev Cert.OptSmallIdeal.nD → PrngReg), Pre_OptSmallIdeal m →
    θ_run (Cert.OptSmallIdeal.defs (F := Ideal)) (onTc (τ := Cert.OptSmallIdeal.τ) (Cert.OptSmallIdeal.main (F := Ideal))) ⟨m, fun _ => 0, g⟩ (fun r => (∀ c : Dev Cert.OptSmallIdeal.nD,
      r.2.mem ((c.tc : Thread Cert.OptSmallIdeal.nD Cert.OptSmallIdeal.τ).loc Cert.OptSmallIdeal.main_arg0) = m ((c.tc : Thread Cert.OptSmallIdeal.nD Cert.OptSmallIdeal.τ).loc Cert.OptSmallIdeal.main_arg0)
      ∧ r.2.mem ((c.tc : Thread Cert.OptSmallIdeal.nD Cert.OptSmallIdeal.τ).loc Cert.OptSmallIdeal.main_arg1) = m ((c.tc : Thread Cert.OptSmallIdeal.nD Cert.OptSmallIdeal.τ).loc Cert.OptSmallIdeal.main_arg1)
      ∧ r.2.mem ((c.tc : Thread Cert.OptSmallIdeal.nD Cert.OptSmallIdeal.τ).loc Cert.OptSmallIdeal.main_arg2) = m ((c.tc : Thread Cert.OptSmallIdeal.nD Cert.OptSmallIdeal.τ).loc Cert.OptSmallIdeal.main_arg2)
      ∧ r.2.mem ((c.tc : Thread Cert.OptSmallIdeal.nD Cert.OptSmallIdeal.τ).loc Cert.OptSmallIdeal.main_arg3) = m ((c.tc : Thread Cert.OptSmallIdeal.nD Cert.OptSmallIdeal.τ).loc Cert.OptSmallIdeal.main_arg3))
      ∧ r.2.sem = fun _ => 0)

def quiescent_OptSmallRefIdeal [hOptSmallRefIdeal : Cert.OptSmallRefIdeal.Facts] : Prop :=
  ∀ (m : (ℓ : Loc Cert.OptSmallRefIdeal.nD Cert.OptSmallRefIdeal.τ Cert.OptSmallRefIdeal.sig) → Buf (Elt Ideal) ℓ) (g : Dev Cert.OptSmallRefIdeal.nD → PrngReg), Pre_OptSmallRefIdeal m →
    θ_run (Cert.OptSmallRefIdeal.defs (F := Ideal)) (onTc (τ := Cert.OptSmallRefIdeal.τ) (Cert.OptSmallRefIdeal.main (F := Ideal))) ⟨m, fun _ => 0, g⟩ (fun r => (∀ c : Dev Cert.OptSmallRefIdeal.nD,
      r.2.mem ((c.tc : Thread Cert.OptSmallRefIdeal.nD Cert.OptSmallRefIdeal.τ).loc Cert.OptSmallRefIdeal.main_arg0) = m ((c.tc : Thread Cert.OptSmallRefIdeal.nD Cert.OptSmallRefIdeal.τ).loc Cert.OptSmallRefIdeal.main_arg0)
      ∧ r.2.mem ((c.tc : Thread Cert.OptSmallRefIdeal.nD Cert.OptSmallRefIdeal.τ).loc Cert.OptSmallRefIdeal.main_arg1) = m ((c.tc : Thread Cert.OptSmallRefIdeal.nD Cert.OptSmallRefIdeal.τ).loc Cert.OptSmallRefIdeal.main_arg1)
      ∧ r.2.mem ((c.tc : Thread Cert.OptSmallRefIdeal.nD Cert.OptSmallRefIdeal.τ).loc Cert.OptSmallRefIdeal.main_arg2) = m ((c.tc : Thread Cert.OptSmallRefIdeal.nD Cert.OptSmallRefIdeal.τ).loc Cert.OptSmallRefIdeal.main_arg2)
      ∧ r.2.mem ((c.tc : Thread Cert.OptSmallRefIdeal.nD Cert.OptSmallRefIdeal.τ).loc Cert.OptSmallRefIdeal.main_arg3) = m ((c.tc : Thread Cert.OptSmallRefIdeal.nD Cert.OptSmallRefIdeal.τ).loc Cert.OptSmallRefIdeal.main_arg3))
      ∧ r.2.sem = fun _ => 0)

def quiescent_FoxPrep [hFoxPrep : Cert.FoxPrep.Facts] : Prop :=
  ∀ (m : (ℓ : Loc Cert.FoxPrep.nD Cert.FoxPrep.τ Cert.FoxPrep.sig) → Buf (Elt Bits) ℓ) (g : Dev Cert.FoxPrep.nD → PrngReg), Pre_FoxPrep m →
    θ_run (Cert.FoxPrep.defs (F := Bits)) (onTc (τ := Cert.FoxPrep.τ) (Cert.FoxPrep.main (F := Bits))) ⟨m, fun _ => 0, g⟩ (fun r => (∀ c : Dev Cert.FoxPrep.nD,
      r.2.mem ((c.tc : Thread Cert.FoxPrep.nD Cert.FoxPrep.τ).loc Cert.FoxPrep.main_arg0) = m ((c.tc : Thread Cert.FoxPrep.nD Cert.FoxPrep.τ).loc Cert.FoxPrep.main_arg0)
      ∧ r.2.mem ((c.tc : Thread Cert.FoxPrep.nD Cert.FoxPrep.τ).loc Cert.FoxPrep.main_arg1) = m ((c.tc : Thread Cert.FoxPrep.nD Cert.FoxPrep.τ).loc Cert.FoxPrep.main_arg1))
      ∧ r.2.sem = fun _ => 0)

def quiescent_FoxPrepIdeal [hFoxPrepIdeal : Cert.FoxPrepIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ r.2.sem = fun _ => 0)

def quiescent_FoxPrepRefIdeal [hFoxPrepRefIdeal : Cert.FoxPrepRefIdeal.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxPrepBwd [hFoxPrepBwd : Cert.FoxPrepBwd.Facts] : Prop :=
  ∀ (m : (ℓ : Loc Cert.FoxPrepBwd.nD Cert.FoxPrepBwd.τ Cert.FoxPrepBwd.sig) → Buf (Elt Bits) ℓ) (g : Dev Cert.FoxPrepBwd.nD → PrngReg), Pre_FoxPrepBwd m →
    θ_run (Cert.FoxPrepBwd.defs (F := Bits)) (onTc (τ := Cert.FoxPrepBwd.τ) (Cert.FoxPrepBwd.main (F := Bits))) ⟨m, fun _ => 0, g⟩ (fun r => (∀ c : Dev Cert.FoxPrepBwd.nD,
      r.2.mem ((c.tc : Thread Cert.FoxPrepBwd.nD Cert.FoxPrepBwd.τ).loc Cert.FoxPrepBwd.main_arg0) = m ((c.tc : Thread Cert.FoxPrepBwd.nD Cert.FoxPrepBwd.τ).loc Cert.FoxPrepBwd.main_arg0)
      ∧ r.2.mem ((c.tc : Thread Cert.FoxPrepBwd.nD Cert.FoxPrepBwd.τ).loc Cert.FoxPrepBwd.main_arg1) = m ((c.tc : Thread Cert.FoxPrepBwd.nD Cert.FoxPrepBwd.τ).loc Cert.FoxPrepBwd.main_arg1)
      ∧ r.2.mem ((c.tc : Thread Cert.FoxPrepBwd.nD Cert.FoxPrepBwd.τ).loc Cert.FoxPrepBwd.main_arg2) = m ((c.tc : Thread Cert.FoxPrepBwd.nD Cert.FoxPrepBwd.τ).loc Cert.FoxPrepBwd.main_arg2)
      ∧ r.2.mem ((c.tc : Thread Cert.FoxPrepBwd.nD Cert.FoxPrepBwd.τ).loc Cert.FoxPrepBwd.main_arg3) = m ((c.tc : Thread Cert.FoxPrepBwd.nD Cert.FoxPrepBwd.τ).loc Cert.FoxPrepBwd.main_arg3)
      ∧ r.2.mem ((c.tc : Thread Cert.FoxPrepBwd.nD Cert.FoxPrepBwd.τ).loc Cert.FoxPrepBwd.main_arg4) = m ((c.tc : Thread Cert.FoxPrepBwd.nD Cert.FoxPrepBwd.τ).loc Cert.FoxPrepBwd.main_arg4))
      ∧ r.2.sem = fun _ => 0)

def quiescent_FoxPrepBwdIdeal [hFoxPrepBwdIdeal : Cert.FoxPrepBwdIdeal.Facts] : Prop :=
  ∀ (m : (ℓ : Loc Cert.FoxPrepBwdIdeal.nD Cert.FoxPrepBwdIdeal.τ Cert.FoxPrepBwdIdeal.sig) → Buf (Elt Ideal) ℓ) (g : Dev Cert.FoxPrepBwdIdeal.nD → PrngReg), Pre_FoxPrepBwdIdeal m →
    θ_run (Cert.FoxPrepBwdIdeal.defs (F := Ideal)) (onTc (τ := Cert.FoxPrepBwdIdeal.τ) (Cert.FoxPrepBwdIdeal.main (F := Ideal))) ⟨m, fun _ => 0, g⟩ (fun r => (∀ c : Dev Cert.FoxPrepBwdIdeal.nD,
      r.2.mem ((c.tc : Thread Cert.FoxPrepBwdIdeal.nD Cert.FoxPrepBwdIdeal.τ).loc Cert.FoxPrepBwdIdeal.main_arg0) = m ((c.tc : Thread Cert.FoxPrepBwdIdeal.nD Cert.FoxPrepBwdIdeal.τ).loc Cert.FoxPrepBwdIdeal.main_arg0)
      ∧ r.2.mem ((c.tc : Thread Cert.FoxPrepBwdIdeal.nD Cert.FoxPrepBwdIdeal.τ).loc Cert.FoxPrepBwdIdeal.main_arg1) = m ((c.tc : Thread Cert.FoxPrepBwdIdeal.nD Cert.FoxPrepBwdIdeal.τ).loc Cert.FoxPrepBwdIdeal.main_arg1)
      ∧ r.2.mem ((c.tc : Thread Cert.FoxPrepBwdIdeal.nD Cert.FoxPrepBwdIdeal.τ).loc Cert.FoxPrepBwdIdeal.main_arg2) = m ((c.tc : Thread Cert.FoxPrepBwdIdeal.nD Cert.FoxPrepBwdIdeal.τ).loc Cert.FoxPrepBwdIdeal.main_arg2)
      ∧ r.2.mem ((c.tc : Thread Cert.FoxPrepBwdIdeal.nD Cert.FoxPrepBwdIdeal.τ).loc Cert.FoxPrepBwdIdeal.main_arg3) = m ((c.tc : Thread Cert.FoxPrepBwdIdeal.nD Cert.FoxPrepBwdIdeal.τ).loc Cert.FoxPrepBwdIdeal.main_arg3)
      ∧ r.2.mem ((c.tc : Thread Cert.FoxPrepBwdIdeal.nD Cert.FoxPrepBwdIdeal.τ).loc Cert.FoxPrepBwdIdeal.main_arg4) = m ((c.tc : Thread Cert.FoxPrepBwdIdeal.nD Cert.FoxPrepBwdIdeal.τ).loc Cert.FoxPrepBwdIdeal.main_arg4))
      ∧ r.2.sem = fun _ => 0)

def quiescent_FoxPrepBwdIdeal_pre_smooth_foxprep [hFoxPrepBwdIdeal : Cert.FoxPrepBwdIdeal.Facts] [hPre_smooth_foxprep : Cert.Pre_smooth_foxprep.Facts] : Prop :=
  ∀ (m : (ℓ : Loc Cert.FoxPrepBwdIdeal.nD Cert.FoxPrepBwdIdeal.τ Cert.FoxPrepBwdIdeal.sig) → Buf (Elt Ideal) ℓ) (g : Dev Cert.FoxPrepBwdIdeal.nD → PrngReg), Pre_FoxPrepBwdIdeal_smooth_foxprep m →
    θ_run (Cert.FoxPrepBwdIdeal.defs (F := Ideal)) (onTc (τ := Cert.FoxPrepBwdIdeal.τ) (Cert.FoxPrepBwdIdeal.main (F := Ideal))) ⟨m, fun _ => 0, g⟩ (fun r => (∀ c : Dev Cert.FoxPrepBwdIdeal.nD,
      r.2.mem ((c.tc : Thread Cert.FoxPrepBwdIdeal.nD Cert.FoxPrepBwdIdeal.τ).loc Cert.FoxPrepBwdIdeal.main_arg0) = m ((c.tc : Thread Cert.FoxPrepBwdIdeal.nD Cert.FoxPrepBwdIdeal.τ).loc Cert.FoxPrepBwdIdeal.main_arg0)
      ∧ r.2.mem ((c.tc : Thread Cert.FoxPrepBwdIdeal.nD Cert.FoxPrepBwdIdeal.τ).loc Cert.FoxPrepBwdIdeal.main_arg1) = m ((c.tc : Thread Cert.FoxPrepBwdIdeal.nD Cert.FoxPrepBwdIdeal.τ).loc Cert.FoxPrepBwdIdeal.main_arg1)
      ∧ r.2.mem ((c.tc : Thread Cert.FoxPrepBwdIdeal.nD Cert.FoxPrepBwdIdeal.τ).loc Cert.FoxPrepBwdIdeal.main_arg2) = m ((c.tc : Thread Cert.FoxPrepBwdIdeal.nD Cert.FoxPrepBwdIdeal.τ).loc Cert.FoxPrepBwdIdeal.main_arg2)
      ∧ r.2.mem ((c.tc : Thread Cert.FoxPrepBwdIdeal.nD Cert.FoxPrepBwdIdeal.τ).loc Cert.FoxPrepBwdIdeal.main_arg3) = m ((c.tc : Thread Cert.FoxPrepBwdIdeal.nD Cert.FoxPrepBwdIdeal.τ).loc Cert.FoxPrepBwdIdeal.main_arg3)
      ∧ r.2.mem ((c.tc : Thread Cert.FoxPrepBwdIdeal.nD Cert.FoxPrepBwdIdeal.τ).loc Cert.FoxPrepBwdIdeal.main_arg4) = m ((c.tc : Thread Cert.FoxPrepBwdIdeal.nD Cert.FoxPrepBwdIdeal.τ).loc Cert.FoxPrepBwdIdeal.main_arg4))
      ∧ r.2.sem = fun _ => 0)

def quiescent_FoxPrepBwdRefIdeal [hFoxPrepBwdRefIdeal : Cert.FoxPrepBwdRefIdeal.Facts] : Prop :=
  ∀ (m : (ℓ : Loc Cert.FoxPrepBwdRefIdeal.nD Cert.FoxPrepBwdRefIdeal.τ Cert.FoxPrepBwdRefIdeal.sig) → Buf (Elt Ideal) ℓ) (g : Dev Cert.FoxPrepBwdRefIdeal.nD → PrngReg), Pre_FoxPrepBwdRefIdeal m →
    θ_run (Cert.FoxPrepBwdRefIdeal.defs (F := Ideal)) (onTc (τ := Cert.FoxPrepBwdRefIdeal.τ) (Cert.FoxPrepBwdRefIdeal.main (F := Ideal))) ⟨m, fun _ => 0, g⟩ (fun r => (∀ c : Dev Cert.FoxPrepBwdRefIdeal.nD,
      r.2.mem ((c.tc : Thread Cert.FoxPrepBwdRefIdeal.nD Cert.FoxPrepBwdRefIdeal.τ).loc Cert.FoxPrepBwdRefIdeal.main_arg0) = m ((c.tc : Thread Cert.FoxPrepBwdRefIdeal.nD Cert.FoxPrepBwdRefIdeal.τ).loc Cert.FoxPrepBwdRefIdeal.main_arg0)
      ∧ r.2.mem ((c.tc : Thread Cert.FoxPrepBwdRefIdeal.nD Cert.FoxPrepBwdRefIdeal.τ).loc Cert.FoxPrepBwdRefIdeal.main_arg1) = m ((c.tc : Thread Cert.FoxPrepBwdRefIdeal.nD Cert.FoxPrepBwdRefIdeal.τ).loc Cert.FoxPrepBwdRefIdeal.main_arg1)
      ∧ r.2.mem ((c.tc : Thread Cert.FoxPrepBwdRefIdeal.nD Cert.FoxPrepBwdRefIdeal.τ).loc Cert.FoxPrepBwdRefIdeal.main_arg2) = m ((c.tc : Thread Cert.FoxPrepBwdRefIdeal.nD Cert.FoxPrepBwdRefIdeal.τ).loc Cert.FoxPrepBwdRefIdeal.main_arg2)
      ∧ r.2.mem ((c.tc : Thread Cert.FoxPrepBwdRefIdeal.nD Cert.FoxPrepBwdRefIdeal.τ).loc Cert.FoxPrepBwdRefIdeal.main_arg3) = m ((c.tc : Thread Cert.FoxPrepBwdRefIdeal.nD Cert.FoxPrepBwdRefIdeal.τ).loc Cert.FoxPrepBwdRefIdeal.main_arg3)
      ∧ r.2.mem ((c.tc : Thread Cert.FoxPrepBwdRefIdeal.nD Cert.FoxPrepBwdRefIdeal.τ).loc Cert.FoxPrepBwdRefIdeal.main_arg4) = m ((c.tc : Thread Cert.FoxPrepBwdRefIdeal.nD Cert.FoxPrepBwdRefIdeal.τ).loc Cert.FoxPrepBwdRefIdeal.main_arg4))
      ∧ r.2.sem = fun _ => 0)

def quiescent_FoxPrepBwdRefIdeal_pre_smooth_foxprep [hFoxPrepBwdRefIdeal : Cert.FoxPrepBwdRefIdeal.Facts] [hPre_smooth_foxprep : Cert.Pre_smooth_foxprep.Facts] : Prop :=
  ∀ (m : (ℓ : Loc Cert.FoxPrepBwdRefIdeal.nD Cert.FoxPrepBwdRefIdeal.τ Cert.FoxPrepBwdRefIdeal.sig) → Buf (Elt Ideal) ℓ) (g : Dev Cert.FoxPrepBwdRefIdeal.nD → PrngReg), Pre_FoxPrepBwdRefIdeal_smooth_foxprep m →
    θ_run (Cert.FoxPrepBwdRefIdeal.defs (F := Ideal)) (onTc (τ := Cert.FoxPrepBwdRefIdeal.τ) (Cert.FoxPrepBwdRefIdeal.main (F := Ideal))) ⟨m, fun _ => 0, g⟩ (fun r => (∀ c : Dev Cert.FoxPrepBwdRefIdeal.nD,
      r.2.mem ((c.tc : Thread Cert.FoxPrepBwdRefIdeal.nD Cert.FoxPrepBwdRefIdeal.τ).loc Cert.FoxPrepBwdRefIdeal.main_arg0) = m ((c.tc : Thread Cert.FoxPrepBwdRefIdeal.nD Cert.FoxPrepBwdRefIdeal.τ).loc Cert.FoxPrepBwdRefIdeal.main_arg0)
      ∧ r.2.mem ((c.tc : Thread Cert.FoxPrepBwdRefIdeal.nD Cert.FoxPrepBwdRefIdeal.τ).loc Cert.FoxPrepBwdRefIdeal.main_arg1) = m ((c.tc : Thread Cert.FoxPrepBwdRefIdeal.nD Cert.FoxPrepBwdRefIdeal.τ).loc Cert.FoxPrepBwdRefIdeal.main_arg1)
      ∧ r.2.mem ((c.tc : Thread Cert.FoxPrepBwdRefIdeal.nD Cert.FoxPrepBwdRefIdeal.τ).loc Cert.FoxPrepBwdRefIdeal.main_arg2) = m ((c.tc : Thread Cert.FoxPrepBwdRefIdeal.nD Cert.FoxPrepBwdRefIdeal.τ).loc Cert.FoxPrepBwdRefIdeal.main_arg2)
      ∧ r.2.mem ((c.tc : Thread Cert.FoxPrepBwdRefIdeal.nD Cert.FoxPrepBwdRefIdeal.τ).loc Cert.FoxPrepBwdRefIdeal.main_arg3) = m ((c.tc : Thread Cert.FoxPrepBwdRefIdeal.nD Cert.FoxPrepBwdRefIdeal.τ).loc Cert.FoxPrepBwdRefIdeal.main_arg3)
      ∧ r.2.mem ((c.tc : Thread Cert.FoxPrepBwdRefIdeal.nD Cert.FoxPrepBwdRefIdeal.τ).loc Cert.FoxPrepBwdRefIdeal.main_arg4) = m ((c.tc : Thread Cert.FoxPrepBwdRefIdeal.nD Cert.FoxPrepBwdRefIdeal.τ).loc Cert.FoxPrepBwdRefIdeal.main_arg4))
      ∧ r.2.sem = fun _ => 0)

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1)
      ∧ r.2.mem ((c.tc : Thread Cert.Chunk.nD Cert.Chunk.τ).loc Cert.Chunk.main_arg2) = m ((c.tc : Thread Cert.Chunk.nD Cert.Chunk.τ).loc Cert.Chunk.main_arg2))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
      ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1)
      ∧ r.2.mem ((c.tc : Thread Cert.ChunkRefIdeal.nD Cert.ChunkRefIdeal.τ).loc Cert.ChunkRefIdeal.main_arg2) = m ((c.tc : Thread Cert.ChunkRefIdeal.nD Cert.ChunkRefIdeal.τ).loc Cert.ChunkRefIdeal.main_arg2))
      ∧ r.2.sem = fun _ => 0)

def preserves_ConvPool_ConvPoolIdeal : Prop :=
  True

def algebraic_ConvPoolIdeal_ConvPoolRefIdeal [hConvPoolIdeal : Cert.ConvPoolIdeal.Facts] [hConvPoolRefIdeal : Cert.ConvPoolRefIdeal.Facts] : Prop :=
  ∀ (m : (ℓ : Loc Cert.ConvPoolIdeal.nD Cert.ConvPoolIdeal.τ Cert.ConvPoolIdeal.sig) → Buf (Elt Ideal) ℓ) (g : Dev Cert.ConvPoolIdeal.nD → PrngReg)
    (m' : (ℓ : Loc Cert.ConvPoolRefIdeal.nD Cert.ConvPoolRefIdeal.τ Cert.ConvPoolRefIdeal.sig) → Buf (Elt Ideal) ℓ) (g' : Dev Cert.ConvPoolRefIdeal.nD → PrngReg), Pre_ConvPoolIdeal m →
    (∀ c : Dev Cert.ConvPoolIdeal.nD,
      m' ((c.tc : Thread Cert.ConvPoolRefIdeal.nD Cert.ConvPoolRefIdeal.τ).loc Cert.ConvPoolRefIdeal.main_arg0) = m ((c.tc : Thread Cert.ConvPoolIdeal.nD Cert.ConvPoolIdeal.τ).loc Cert.ConvPoolIdeal.main_arg0)
      ∧ m' ((c.tc : Thread Cert.ConvPoolRefIdeal.nD Cert.ConvPoolRefIdeal.τ).loc Cert.ConvPoolRefIdeal.main_arg1) = m ((c.tc : Thread Cert.ConvPoolIdeal.nD Cert.ConvPoolIdeal.τ).loc Cert.ConvPoolIdeal.main_arg1)
      ∧ m' ((c.tc : Thread Cert.ConvPoolRefIdeal.nD Cert.ConvPoolRefIdeal.τ).loc Cert.ConvPoolRefIdeal.main_arg2) = m ((c.tc : Thread Cert.ConvPoolIdeal.nD Cert.ConvPoolIdeal.τ).loc Cert.ConvPoolIdeal.main_arg2)
      ∧ m' ((c.tc : Thread Cert.ConvPoolRefIdeal.nD Cert.ConvPoolRefIdeal.τ).loc Cert.ConvPoolRefIdeal.main_arg3) = m ((c.tc : Thread Cert.ConvPoolIdeal.nD Cert.ConvPoolIdeal.τ).loc Cert.ConvPoolIdeal.main_arg3)
      ∧ m' ((c.tc : Thread Cert.ConvPoolRefIdeal.nD Cert.ConvPoolRefIdeal.τ).loc Cert.ConvPoolRefIdeal.main_arg4) = m ((c.tc : Thread Cert.ConvPoolIdeal.nD Cert.ConvPoolIdeal.τ).loc Cert.ConvPoolIdeal.main_arg4)) →
    ∃ (v0 : (c : Dev Cert.ConvPoolIdeal.nD) → Buf (Elt Ideal) ((c.tc : Thread Cert.ConvPoolIdeal.nD Cert.ConvPoolIdeal.τ).loc Cert.ConvPoolIdeal.main_v0_0)) (v1 : (c : Dev Cert.ConvPoolIdeal.nD) → Buf (Elt Ideal) ((c.tc : Thread Cert.ConvPoolIdeal.nD Cert.ConvPoolIdeal.τ).loc Cert.ConvPoolIdeal.main_v0_1)) (v2 : (c : Dev Cert.ConvPoolIdeal.nD) → Buf (Elt Ideal) ((c.tc : Thread Cert.ConvPoolIdeal.nD Cert.ConvPoolIdeal.τ).loc Cert.ConvPoolIdeal.main_v0_2)) (v3 : (c : Dev Cert.ConvPoolIdeal.nD) → Buf (Elt Ideal) ((c.tc : Thread Cert.ConvPoolIdeal.nD Cert.ConvPoolIdeal.τ).loc Cert.ConvPoolIdeal.main_v0_3)) (v4 : (c : Dev Cert.ConvPoolIdeal.nD) → Buf (Elt Ideal) ((c.tc : Thread Cert.ConvPoolIdeal.nD Cert.ConvPoolIdeal.τ).loc Cert.ConvPoolIdeal.main_v0_4)) (v5 : (c : Dev Cert.ConvPoolIdeal.nD) → Buf (Elt Ideal) ((c.tc : Thread Cert.ConvPoolIdeal.nD Cert.ConvPoolIdeal.τ).loc Cert.ConvPoolIdeal.main_v0_5)) (v6 : (c : Dev Cert.ConvPoolIdeal.nD) → Buf (Elt Ideal) ((c.tc : Thread Cert.ConvPoolIdeal.nD Cert.ConvPoolIdeal.τ).loc Cert.ConvPoolIdeal.main_v0_6)),
      θ_run (Cert.ConvPoolIdeal.defs (F := Ideal)) (onTc (τ := Cert.ConvPoolIdeal.τ) (Cert.ConvPoolIdeal.main (F := Ideal))) ⟨m, fun _ => 0, g⟩ (fun r => ∀ c : Dev Cert.ConvPoolIdeal.nD,
          r.2.mem ((c.tc : Thread Cert.ConvPoolIdeal.nD Cert.ConvPoolIdeal.τ).loc Cert.ConvPoolIdeal.main_v0_0) = v0 c
          ∧ r.2.mem ((c.tc : Thread Cert.ConvPoolIdeal.nD Cert.ConvPoolIdeal.τ).loc Cert.ConvPoolIdeal.main_v0_1) = v1 c
          ∧ r.2.mem ((c.tc : Thread Cert.ConvPoolIdeal.nD Cert.ConvPoolIdeal.τ).loc Cert.ConvPoolIdeal.main_v0_2) = v2 c
          ∧ r.2.mem ((c.tc : Thread Cert.ConvPoolIdeal.nD Cert.ConvPoolIdeal.τ).loc Cert.ConvPoolIdeal.main_v0_3) = v3 c
          ∧ r.2.mem ((c.tc : Thread Cert.ConvPoolIdeal.nD Cert.ConvPoolIdeal.τ).loc Cert.ConvPoolIdeal.main_v0_4) = v4 c
          ∧ r.2.mem ((c.tc : Thread Cert.ConvPoolIdeal.nD Cert.ConvPoolIdeal.τ).loc Cert.ConvPoolIdeal.main_v0_5) = v5 c
          ∧ r.2.mem ((c.tc : Thread Cert.ConvPoolIdeal.nD Cert.ConvPoolIdeal.τ).loc Cert.ConvPoolIdeal.main_v0_6) = v6 c
          ∧ r.2.mem ((c.tc : Thread Cert.ConvPoolIdeal.nD Cert.ConvPoolIdeal.τ).loc Cert.ConvPoolIdeal.main_arg0) = m ((c.tc : Thread Cert.ConvPoolIdeal.nD Cert.ConvPoolIdeal.τ).loc Cert.ConvPoolIdeal.main_arg0)
          ∧ r.2.mem ((c.tc : Thread Cert.ConvPoolIdeal.nD Cert.ConvPoolIdeal.τ).loc Cert.ConvPoolIdeal.main_arg1) = m ((c.tc : Thread Cert.ConvPoolIdeal.nD Cert.ConvPoolIdeal.τ).loc Cert.ConvPoolIdeal.main_arg1)
          ∧ r.2.mem ((c.tc : Thread Cert.ConvPoolIdeal.nD Cert.ConvPoolIdeal.τ).loc Cert.ConvPoolIdeal.main_arg2) = m ((c.tc : Thread Cert.ConvPoolIdeal.nD Cert.ConvPoolIdeal.τ).loc Cert.ConvPoolIdeal.main_arg2)
          ∧ r.2.mem ((c.tc : Thread Cert.ConvPoolIdeal.nD Cert.ConvPoolIdeal.τ).loc Cert.ConvPoolIdeal.main_arg3) = m ((c.tc : Thread Cert.ConvPoolIdeal.nD Cert.ConvPoolIdeal.τ).loc Cert.ConvPoolIdeal.main_arg3)
          ∧ r.2.mem ((c.tc : Thread Cert.ConvPoolIdeal.nD Cert.ConvPoolIdeal.τ).loc Cert.ConvPoolIdeal.main_arg4) = m ((c.tc : Thread Cert.ConvPoolIdeal.nD Cert.ConvPoolIdeal.τ).loc Cert.ConvPoolIdeal.main_arg4))
      ∧ θ_run (Cert.ConvPoolRefIdeal.defs (F := Ideal)) (onTc (τ := Cert.ConvPoolRefIdeal.τ) (Cert.ConvPoolRefIdeal.main (F := Ideal))) ⟨m', fun _ => 0, g'⟩ (fun r => ∀ c : Dev Cert.ConvPoolRefIdeal.nD,
          r.2.mem ((c.tc : Thread Cert.ConvPoolRefIdeal.nD Cert.ConvPoolRefIdeal.τ).loc Cert.ConvPoolRefIdeal.main_v451) = v0 c
          ∧ r.2.mem ((c.tc : Thread Cert.ConvPoolRefIdeal.nD Cert.ConvPoolRefIdeal.τ).loc Cert.ConvPoolRefIdeal.main_v452) = v1 c
          ∧ r.2.mem ((c.tc : Thread Cert.ConvPoolRefIdeal.nD Cert.ConvPoolRefIdeal.τ).loc Cert.ConvPoolRefIdeal.main_v453) = v2 c
          ∧ r.2.mem ((c.tc : Thread Cert.ConvPoolRefIdeal.nD Cert.ConvPoolRefIdeal.τ).loc Cert.ConvPoolRefIdeal.main_v454) = v3 c
          ∧ r.2.mem ((c.tc : Thread Cert.ConvPoolRefIdeal.nD Cert.ConvPoolRefIdeal.τ).loc Cert.ConvPoolRefIdeal.main_v448) = v4 c
          ∧ r.2.mem ((c.tc : Thread Cert.ConvPoolRefIdeal.nD Cert.ConvPoolRefIdeal.τ).loc Cert.ConvPoolRefIdeal.main_v400) = v5 c
          ∧ r.2.mem ((c.tc : Thread Cert.ConvPoolRefIdeal.nD Cert.ConvPoolRefIdeal.τ).loc Cert.ConvPoolRefIdeal.main_v246) = v6 c
          ∧ r.2.mem ((c.tc : Thread Cert.ConvPoolRefIdeal.nD Cert.ConvPoolRefIdeal.τ).loc Cert.ConvPoolRefIdeal.main_arg0) = m' ((c.tc : Thread Cert.ConvPoolRefIdeal.nD Cert.ConvPoolRefIdeal.τ).loc Cert.ConvPoolRefIdeal.main_arg0)
          ∧ r.2.mem ((c.tc : Thread Cert.ConvPoolRefIdeal.nD Cert.ConvPoolRefIdeal.τ).loc Cert.ConvPoolRefIdeal.main_arg1) = m' ((c.tc : Thread Cert.ConvPoolRefIdeal.nD Cert.ConvPoolRefIdeal.τ).loc Cert.ConvPoolRefIdeal.main_arg1)
          ∧ r.2.mem ((c.tc : Thread Cert.ConvPoolRefIdeal.nD Cert.ConvPoolRefIdeal.τ).loc Cert.ConvPoolRefIdeal.main_arg2) = m' ((c.tc : Thread Cert.ConvPoolRefIdeal.nD Cert.ConvPoolRefIdeal.τ).loc Cert.ConvPoolRefIdeal.main_arg2)
          ∧ r.2.mem ((c.tc : Thread Cert.ConvPoolRefIdeal.nD Cert.ConvPoolRefIdeal.τ).loc Cert.ConvPoolRefIdeal.main_arg3) = m' ((c.tc : Thread Cert.ConvPoolRefIdeal.nD Cert.ConvPoolRefIdeal.τ).loc Cert.ConvPoolRefIdeal.main_arg3)
          ∧ r.2.mem ((c.tc : Thread Cert.ConvPoolRefIdeal.nD Cert.ConvPoolRefIdeal.τ).loc Cert.ConvPoolRefIdeal.main_arg4) = m' ((c.tc : Thread Cert.ConvPoolRefIdeal.nD Cert.ConvPoolRefIdeal.τ).loc Cert.ConvPoolRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v51) = v0 c
          ∧ r.2.mem ((c.tc : Thread Cert.HeadRefIdeal.nD Cert.HeadRefIdeal.τ).loc Cert.HeadRefIdeal.main_v52) = v1 c
          ∧ r.2.mem ((c.tc : Thread Cert.HeadRefIdeal.nD Cert.HeadRefIdeal.τ).loc Cert.HeadRefIdeal.main_v53) = v2 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_v11) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v38) = v1 c
          ∧ r.2.mem ((c.tc : Thread Cert.NormRefIdeal.nD Cert.NormRefIdeal.τ).loc Cert.NormRefIdeal.main_v19) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v8) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_Du2_Du2Ideal : Prop :=
  True

def algebraic_Du2Ideal_Du2RefIdeal [hDu2Ideal : Cert.Du2Ideal.Facts] [hDu2RefIdeal : Cert.Du2RefIdeal.Facts] : Prop :=
  ∀ (m : (ℓ : Loc Cert.Du2Ideal.nD Cert.Du2Ideal.τ Cert.Du2Ideal.sig) → Buf (Elt Ideal) ℓ) (g : Dev Cert.Du2Ideal.nD → PrngReg)
    (m' : (ℓ : Loc Cert.Du2RefIdeal.nD Cert.Du2RefIdeal.τ Cert.Du2RefIdeal.sig) → Buf (Elt Ideal) ℓ) (g' : Dev Cert.Du2RefIdeal.nD → PrngReg), Pre_Du2Ideal m →
    (∀ c : Dev Cert.Du2Ideal.nD,
      m' ((c.tc : Thread Cert.Du2RefIdeal.nD Cert.Du2RefIdeal.τ).loc Cert.Du2RefIdeal.main_arg0) = m ((c.tc : Thread Cert.Du2Ideal.nD Cert.Du2Ideal.τ).loc Cert.Du2Ideal.main_arg0)
      ∧ m' ((c.tc : Thread Cert.Du2RefIdeal.nD Cert.Du2RefIdeal.τ).loc Cert.Du2RefIdeal.main_arg1) = m ((c.tc : Thread Cert.Du2Ideal.nD Cert.Du2Ideal.τ).loc Cert.Du2Ideal.main_arg1)
      ∧ m' ((c.tc : Thread Cert.Du2RefIdeal.nD Cert.Du2RefIdeal.τ).loc Cert.Du2RefIdeal.main_arg2) = m ((c.tc : Thread Cert.Du2Ideal.nD Cert.Du2Ideal.τ).loc Cert.Du2Ideal.main_arg2)
      ∧ m' ((c.tc : Thread Cert.Du2RefIdeal.nD Cert.Du2RefIdeal.τ).loc Cert.Du2RefIdeal.main_arg3) = m ((c.tc : Thread Cert.Du2Ideal.nD Cert.Du2Ideal.τ).loc Cert.Du2Ideal.main_arg3)) →
    ∃ (v0 : (c : Dev Cert.Du2Ideal.nD) → Buf (Elt Ideal) ((c.tc : Thread Cert.Du2Ideal.nD Cert.Du2Ideal.τ).loc Cert.Du2Ideal.main_v0)),
      θ_run (Cert.Du2Ideal.defs (F := Ideal)) (onTc (τ := Cert.Du2Ideal.τ) (Cert.Du2Ideal.main (F := Ideal))) ⟨m, fun _ => 0, g⟩ (fun r => ∀ c : Dev Cert.Du2Ideal.nD,
          r.2.mem ((c.tc : Thread Cert.Du2Ideal.nD Cert.Du2Ideal.τ).loc Cert.Du2Ideal.main_v0) = v0 c
          ∧ r.2.mem ((c.tc : Thread Cert.Du2Ideal.nD Cert.Du2Ideal.τ).loc Cert.Du2Ideal.main_arg0) = m ((c.tc : Thread Cert.Du2Ideal.nD Cert.Du2Ideal.τ).loc Cert.Du2Ideal.main_arg0)
          ∧ r.2.mem ((c.tc : Thread Cert.Du2Ideal.nD Cert.Du2Ideal.τ).loc Cert.Du2Ideal.main_arg1) = m ((c.tc : Thread Cert.Du2Ideal.nD Cert.Du2Ideal.τ).loc Cert.Du2Ideal.main_arg1)
          ∧ r.2.mem ((c.tc : Thread Cert.Du2Ideal.nD Cert.Du2Ideal.τ).loc Cert.Du2Ideal.main_arg2) = m ((c.tc : Thread Cert.Du2Ideal.nD Cert.Du2Ideal.τ).loc Cert.Du2Ideal.main_arg2)
          ∧ r.2.mem ((c.tc : Thread Cert.Du2Ideal.nD Cert.Du2Ideal.τ).loc Cert.Du2Ideal.main_arg3) = m ((c.tc : Thread Cert.Du2Ideal.nD Cert.Du2Ideal.τ).loc Cert.Du2Ideal.main_arg3))
      ∧ θ_run (Cert.Du2RefIdeal.defs (F := Ideal)) (onTc (τ := Cert.Du2RefIdeal.τ) (Cert.Du2RefIdeal.main (F := Ideal))) ⟨m', fun _ => 0, g'⟩ (fun r => ∀ c : Dev Cert.Du2RefIdeal.nD,
          r.2.mem ((c.tc : Thread Cert.Du2RefIdeal.nD Cert.Du2RefIdeal.τ).loc Cert.Du2RefIdeal.main_v13) = v0 c
          ∧ r.2.mem ((c.tc : Thread Cert.Du2RefIdeal.nD Cert.Du2RefIdeal.τ).loc Cert.Du2RefIdeal.main_arg0) = m' ((c.tc : Thread Cert.Du2RefIdeal.nD Cert.Du2RefIdeal.τ).loc Cert.Du2RefIdeal.main_arg0)
          ∧ r.2.mem ((c.tc : Thread Cert.Du2RefIdeal.nD Cert.Du2RefIdeal.τ).loc Cert.Du2RefIdeal.main_arg1) = m' ((c.tc : Thread Cert.Du2RefIdeal.nD Cert.Du2RefIdeal.τ).loc Cert.Du2RefIdeal.main_arg1)
          ∧ r.2.mem ((c.tc : Thread Cert.Du2RefIdeal.nD Cert.Du2RefIdeal.τ).loc Cert.Du2RefIdeal.main_arg2) = m' ((c.tc : Thread Cert.Du2RefIdeal.nD Cert.Du2RefIdeal.τ).loc Cert.Du2RefIdeal.main_arg2)
          ∧ r.2.mem ((c.tc : Thread Cert.Du2RefIdeal.nD Cert.Du2RefIdeal.τ).loc Cert.Du2RefIdeal.main_arg3) = m' ((c.tc : Thread Cert.Du2RefIdeal.nD Cert.Du2RefIdeal.τ).loc Cert.Du2RefIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v1)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v1) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v5) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v4) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1))

def preserves_Zin_ZinIdeal : Prop :=
  True

def algebraic_ZinIdeal_ZinRefIdeal [hZinIdeal : Cert.ZinIdeal.Facts] [hZinRefIdeal : Cert.ZinRefIdeal.Facts] : Prop :=
  ∀ (m : (ℓ : Loc Cert.ZinIdeal.nD Cert.ZinIdeal.τ Cert.ZinIdeal.sig) → Buf (Elt Ideal) ℓ) (g : Dev Cert.ZinIdeal.nD → PrngReg)
    (m' : (ℓ : Loc Cert.ZinRefIdeal.nD Cert.ZinRefIdeal.τ Cert.ZinRefIdeal.sig) → Buf (Elt Ideal) ℓ) (g' : Dev Cert.ZinRefIdeal.nD → PrngReg), Pre_ZinIdeal m →
    (∀ c : Dev Cert.ZinIdeal.nD,
      m' ((c.tc : Thread Cert.ZinRefIdeal.nD Cert.ZinRefIdeal.τ).loc Cert.ZinRefIdeal.main_arg0) = m ((c.tc : Thread Cert.ZinIdeal.nD Cert.ZinIdeal.τ).loc Cert.ZinIdeal.main_arg0)
      ∧ m' ((c.tc : Thread Cert.ZinRefIdeal.nD Cert.ZinRefIdeal.τ).loc Cert.ZinRefIdeal.main_arg1) = m ((c.tc : Thread Cert.ZinIdeal.nD Cert.ZinIdeal.τ).loc Cert.ZinIdeal.main_arg1)) →
    ∃ (v0 : (c : Dev Cert.ZinIdeal.nD) → Buf (Elt Ideal) ((c.tc : Thread Cert.ZinIdeal.nD Cert.ZinIdeal.τ).loc Cert.ZinIdeal.main_v0)),
      θ_run (Cert.ZinIdeal.defs (F := Ideal)) (onTc (τ := Cert.ZinIdeal.τ) (Cert.ZinIdeal.main (F := Ideal))) ⟨m, fun _ => 0, g⟩ (fun r => ∀ c : Dev Cert.ZinIdeal.nD,
          r.2.mem ((c.tc : Thread Cert.ZinIdeal.nD Cert.ZinIdeal.τ).loc Cert.ZinIdeal.main_v0) = v0 c
          ∧ r.2.mem ((c.tc : Thread Cert.ZinIdeal.nD Cert.ZinIdeal.τ).loc Cert.ZinIdeal.main_arg0) = m ((c.tc : Thread Cert.ZinIdeal.nD Cert.ZinIdeal.τ).loc Cert.ZinIdeal.main_arg0)
          ∧ r.2.mem ((c.tc : Thread Cert.ZinIdeal.nD Cert.ZinIdeal.τ).loc Cert.ZinIdeal.main_arg1) = m ((c.tc : Thread Cert.ZinIdeal.nD Cert.ZinIdeal.τ).loc Cert.ZinIdeal.main_arg1))
      ∧ θ_run (Cert.ZinRefIdeal.defs (F := Ideal)) (onTc (τ := Cert.ZinRefIdeal.τ) (Cert.ZinRefIdeal.main (F := Ideal))) ⟨m', fun _ => 0, g'⟩ (fun r => ∀ c : Dev Cert.ZinRefIdeal.nD,
          r.2.mem ((c.tc : Thread Cert.ZinRefIdeal.nD Cert.ZinRefIdeal.τ).loc Cert.ZinRefIdeal.main_v2) = v0 c
          ∧ r.2.mem ((c.tc : Thread Cert.ZinRefIdeal.nD Cert.ZinRefIdeal.τ).loc Cert.ZinRefIdeal.main_arg0) = m' ((c.tc : Thread Cert.ZinRefIdeal.nD Cert.ZinRefIdeal.τ).loc Cert.ZinRefIdeal.main_arg0)
          ∧ r.2.mem ((c.tc : Thread Cert.ZinRefIdeal.nD Cert.ZinRefIdeal.τ).loc Cert.ZinRefIdeal.main_arg1) = m' ((c.tc : Thread Cert.ZinRefIdeal.nD Cert.ZinRefIdeal.τ).loc Cert.ZinRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v4) = v0 c
          ∧ r.2.mem ((c.tc : Thread Cert.GateUpRefIdeal.nD Cert.GateUpRefIdeal.τ).loc Cert.GateUpRefIdeal.main_v9) = v1 c
          ∧ r.2.mem ((c.tc : Thread Cert.GateUpRefIdeal.nD Cert.GateUpRefIdeal.τ).loc Cert.GateUpRefIdeal.main_v12) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_FwdNorm_FwdNormIdeal : Prop :=
  True

def algebraic_FwdNormIdeal_FwdNormRefIdeal [hFwdNormIdeal : Cert.FwdNormIdeal.Facts] [hFwdNormRefIdeal : Cert.FwdNormRefIdeal.Facts] : Prop :=
  ∀ (m : (ℓ : Loc Cert.FwdNormIdeal.nD Cert.FwdNormIdeal.τ Cert.FwdNormIdeal.sig) → Buf (Elt Ideal) ℓ) (g : Dev Cert.FwdNormIdeal.nD → PrngReg)
    (m' : (ℓ : Loc Cert.FwdNormRefIdeal.nD Cert.FwdNormRefIdeal.τ Cert.FwdNormRefIdeal.sig) → Buf (Elt Ideal) ℓ) (g' : Dev Cert.FwdNormRefIdeal.nD → PrngReg), Pre_FwdNormIdeal m →
    (∀ c : Dev Cert.FwdNormIdeal.nD,
      m' ((c.tc : Thread Cert.FwdNormRefIdeal.nD Cert.FwdNormRefIdeal.τ).loc Cert.FwdNormRefIdeal.main_arg0) = m ((c.tc : Thread Cert.FwdNormIdeal.nD Cert.FwdNormIdeal.τ).loc Cert.FwdNormIdeal.main_arg0)
      ∧ m' ((c.tc : Thread Cert.FwdNormRefIdeal.nD Cert.FwdNormRefIdeal.τ).loc Cert.FwdNormRefIdeal.main_arg1) = m ((c.tc : Thread Cert.FwdNormIdeal.nD Cert.FwdNormIdeal.τ).loc Cert.FwdNormIdeal.main_arg1)) →
    ∃ (v0 : (c : Dev Cert.FwdNormIdeal.nD) → Buf (Elt Ideal) ((c.tc : Thread Cert.FwdNormIdeal.nD Cert.FwdNormIdeal.τ).loc Cert.FwdNormIdeal.main_v0)),
      θ_run (Cert.FwdNormIdeal.defs (F := Ideal)) (onTc (τ := Cert.FwdNormIdeal.τ) (Cert.FwdNormIdeal.main (F := Ideal))) ⟨m, fun _ => 0, g⟩ (fun r => ∀ c : Dev Cert.FwdNormIdeal.nD,
          r.2.mem ((c.tc : Thread Cert.FwdNormIdeal.nD Cert.FwdNormIdeal.τ).loc Cert.FwdNormIdeal.main_v0) = v0 c
          ∧ r.2.mem ((c.tc : Thread Cert.FwdNormIdeal.nD Cert.FwdNormIdeal.τ).loc Cert.FwdNormIdeal.main_arg0) = m ((c.tc : Thread Cert.FwdNormIdeal.nD Cert.FwdNormIdeal.τ).loc Cert.FwdNormIdeal.main_arg0)
          ∧ r.2.mem ((c.tc : Thread Cert.FwdNormIdeal.nD Cert.FwdNormIdeal.τ).loc Cert.FwdNormIdeal.main_arg1) = m ((c.tc : Thread Cert.FwdNormIdeal.nD Cert.FwdNormIdeal.τ).loc Cert.FwdNormIdeal.main_arg1))
      ∧ θ_run (Cert.FwdNormRefIdeal.defs (F := Ideal)) (onTc (τ := Cert.FwdNormRefIdeal.τ) (Cert.FwdNormRefIdeal.main (F := Ideal))) ⟨m', fun _ => 0, g'⟩ (fun r => ∀ c : Dev Cert.FwdNormRefIdeal.nD,
          r.2.mem ((c.tc : Thread Cert.FwdNormRefIdeal.nD Cert.FwdNormRefIdeal.τ).loc Cert.FwdNormRefIdeal.main_v14) = v0 c
          ∧ r.2.mem ((c.tc : Thread Cert.FwdNormRefIdeal.nD Cert.FwdNormRefIdeal.τ).loc Cert.FwdNormRefIdeal.main_arg0) = m' ((c.tc : Thread Cert.FwdNormRefIdeal.nD Cert.FwdNormRefIdeal.τ).loc Cert.FwdNormRefIdeal.main_arg0)
          ∧ r.2.mem ((c.tc : Thread Cert.FwdNormRefIdeal.nD Cert.FwdNormRefIdeal.τ).loc Cert.FwdNormRefIdeal.main_arg1) = m' ((c.tc : Thread Cert.FwdNormRefIdeal.nD Cert.FwdNormRefIdeal.τ).loc Cert.FwdNormRefIdeal.main_arg1))

def preserves_FwdHead_FwdHeadIdeal : Prop :=
  True

def algebraic_FwdHeadIdeal_FwdHeadRefIdeal [hFwdHeadIdeal : Cert.FwdHeadIdeal.Facts] [hFwdHeadRefIdeal : Cert.FwdHeadRefIdeal.Facts] : Prop :=
  ∀ (m : (ℓ : Loc Cert.FwdHeadIdeal.nD Cert.FwdHeadIdeal.τ Cert.FwdHeadIdeal.sig) → Buf (Elt Ideal) ℓ) (g : Dev Cert.FwdHeadIdeal.nD → PrngReg)
    (m' : (ℓ : Loc Cert.FwdHeadRefIdeal.nD Cert.FwdHeadRefIdeal.τ Cert.FwdHeadRefIdeal.sig) → Buf (Elt Ideal) ℓ) (g' : Dev Cert.FwdHeadRefIdeal.nD → PrngReg), Pre_FwdHeadIdeal m →
    (∀ c : Dev Cert.FwdHeadIdeal.nD,
      m' ((c.tc : Thread Cert.FwdHeadRefIdeal.nD Cert.FwdHeadRefIdeal.τ).loc Cert.FwdHeadRefIdeal.main_arg0) = m ((c.tc : Thread Cert.FwdHeadIdeal.nD Cert.FwdHeadIdeal.τ).loc Cert.FwdHeadIdeal.main_arg0)
      ∧ m' ((c.tc : Thread Cert.FwdHeadRefIdeal.nD Cert.FwdHeadRefIdeal.τ).loc Cert.FwdHeadRefIdeal.main_arg1) = m ((c.tc : Thread Cert.FwdHeadIdeal.nD Cert.FwdHeadIdeal.τ).loc Cert.FwdHeadIdeal.main_arg1)
      ∧ m' ((c.tc : Thread Cert.FwdHeadRefIdeal.nD Cert.FwdHeadRefIdeal.τ).loc Cert.FwdHeadRefIdeal.main_arg2) = m ((c.tc : Thread Cert.FwdHeadIdeal.nD Cert.FwdHeadIdeal.τ).loc Cert.FwdHeadIdeal.main_arg2)) →
    ∃ (v0 : (c : Dev Cert.FwdHeadIdeal.nD) → Buf (Elt Ideal) ((c.tc : Thread Cert.FwdHeadIdeal.nD Cert.FwdHeadIdeal.τ).loc Cert.FwdHeadIdeal.main_v0)),
      θ_run (Cert.FwdHeadIdeal.defs (F := Ideal)) (onTc (τ := Cert.FwdHeadIdeal.τ) (Cert.FwdHeadIdeal.main (F := Ideal))) ⟨m, fun _ => 0, g⟩ (fun r => ∀ c : Dev Cert.FwdHeadIdeal.nD,
          r.2.mem ((c.tc : Thread Cert.FwdHeadIdeal.nD Cert.FwdHeadIdeal.τ).loc Cert.FwdHeadIdeal.main_v0) = v0 c
          ∧ r.2.mem ((c.tc : Thread Cert.FwdHeadIdeal.nD Cert.FwdHeadIdeal.τ).loc Cert.FwdHeadIdeal.main_arg0) = m ((c.tc : Thread Cert.FwdHeadIdeal.nD Cert.FwdHeadIdeal.τ).loc Cert.FwdHeadIdeal.main_arg0)
          ∧ r.2.mem ((c.tc : Thread Cert.FwdHeadIdeal.nD Cert.FwdHeadIdeal.τ).loc Cert.FwdHeadIdeal.main_arg1) = m ((c.tc : Thread Cert.FwdHeadIdeal.nD Cert.FwdHeadIdeal.τ).loc Cert.FwdHeadIdeal.main_arg1)
          ∧ r.2.mem ((c.tc : Thread Cert.FwdHeadIdeal.nD Cert.FwdHeadIdeal.τ).loc Cert.FwdHeadIdeal.main_arg2) = m ((c.tc : Thread Cert.FwdHeadIdeal.nD Cert.FwdHeadIdeal.τ).loc Cert.FwdHeadIdeal.main_arg2))
      ∧ θ_run (Cert.FwdHeadRefIdeal.defs (F := Ideal)) (onTc (τ := Cert.FwdHeadRefIdeal.τ) (Cert.FwdHeadRefIdeal.main (F := Ideal))) ⟨m', fun _ => 0, g'⟩ (fun r => ∀ c : Dev Cert.FwdHeadRefIdeal.nD,
          r.2.mem ((c.tc : Thread Cert.FwdHeadRefIdeal.nD Cert.FwdHeadRefIdeal.τ).loc Cert.FwdHeadRefIdeal.main_v21) = v0 c
          ∧ r.2.mem ((c.tc : Thread Cert.FwdHeadRefIdeal.nD Cert.FwdHeadRefIdeal.τ).loc Cert.FwdHeadRefIdeal.main_arg0) = m' ((c.tc : Thread Cert.FwdHeadRefIdeal.nD Cert.FwdHeadRefIdeal.τ).loc Cert.FwdHeadRefIdeal.main_arg0)
          ∧ r.2.mem ((c.tc : Thread Cert.FwdHeadRefIdeal.nD Cert.FwdHeadRefIdeal.τ).loc Cert.FwdHeadRefIdeal.main_arg1) = m' ((c.tc : Thread Cert.FwdHeadRefIdeal.nD Cert.FwdHeadRefIdeal.τ).loc Cert.FwdHeadRefIdeal.main_arg1)
          ∧ r.2.mem ((c.tc : Thread Cert.FwdHeadRefIdeal.nD Cert.FwdHeadRefIdeal.τ).loc Cert.FwdHeadRefIdeal.main_arg2) = m' ((c.tc : Thread Cert.FwdHeadRefIdeal.nD Cert.FwdHeadRefIdeal.τ).loc Cert.FwdHeadRefIdeal.main_arg2))

def preserves_FwdPool_FwdPoolIdeal : Prop :=
  True

def algebraic_FwdPoolIdeal_FwdPoolRefIdeal [hFwdPoolIdeal : Cert.FwdPoolIdeal.Facts] [hFwdPoolRefIdeal : Cert.FwdPoolRefIdeal.Facts] : Prop :=
  ∀ (m : (ℓ : Loc Cert.FwdPoolIdeal.nD Cert.FwdPoolIdeal.τ Cert.FwdPoolIdeal.sig) → Buf (Elt Ideal) ℓ) (g : Dev Cert.FwdPoolIdeal.nD → PrngReg)
    (m' : (ℓ : Loc Cert.FwdPoolRefIdeal.nD Cert.FwdPoolRefIdeal.τ Cert.FwdPoolRefIdeal.sig) → Buf (Elt Ideal) ℓ) (g' : Dev Cert.FwdPoolRefIdeal.nD → PrngReg), Pre_FwdPoolIdeal m →
    (∀ c : Dev Cert.FwdPoolIdeal.nD,
      m' ((c.tc : Thread Cert.FwdPoolRefIdeal.nD Cert.FwdPoolRefIdeal.τ).loc Cert.FwdPoolRefIdeal.main_arg0) = m ((c.tc : Thread Cert.FwdPoolIdeal.nD Cert.FwdPoolIdeal.τ).loc Cert.FwdPoolIdeal.main_arg0)
      ∧ m' ((c.tc : Thread Cert.FwdPoolRefIdeal.nD Cert.FwdPoolRefIdeal.τ).loc Cert.FwdPoolRefIdeal.main_arg1) = m ((c.tc : Thread Cert.FwdPoolIdeal.nD Cert.FwdPoolIdeal.τ).loc Cert.FwdPoolIdeal.main_arg1)
      ∧ m' ((c.tc : Thread Cert.FwdPoolRefIdeal.nD Cert.FwdPoolRefIdeal.τ).loc Cert.FwdPoolRefIdeal.main_arg2) = m ((c.tc : Thread Cert.FwdPoolIdeal.nD Cert.FwdPoolIdeal.τ).loc Cert.FwdPoolIdeal.main_arg2)
      ∧ m' ((c.tc : Thread Cert.FwdPoolRefIdeal.nD Cert.FwdPoolRefIdeal.τ).loc Cert.FwdPoolRefIdeal.main_arg3) = m ((c.tc : Thread Cert.FwdPoolIdeal.nD Cert.FwdPoolIdeal.τ).loc Cert.FwdPoolIdeal.main_arg3)) →
    ∃ (v0 : (c : Dev Cert.FwdPoolIdeal.nD) → Buf (Elt Ideal) ((c.tc : Thread Cert.FwdPoolIdeal.nD Cert.FwdPoolIdeal.τ).loc Cert.FwdPoolIdeal.main_v0_0)) (v1 : (c : Dev Cert.FwdPoolIdeal.nD) → Buf (Elt Ideal) ((c.tc : Thread Cert.FwdPoolIdeal.nD Cert.FwdPoolIdeal.τ).loc Cert.FwdPoolIdeal.main_v0_1)),
      θ_run (Cert.FwdPoolIdeal.defs (F := Ideal)) (onTc (τ := Cert.FwdPoolIdeal.τ) (Cert.FwdPoolIdeal.main (F := Ideal))) ⟨m, fun _ => 0, g⟩ (fun r => ∀ c : Dev Cert.FwdPoolIdeal.nD,
          r.2.mem ((c.tc : Thread Cert.FwdPoolIdeal.nD Cert.FwdPoolIdeal.τ).loc Cert.FwdPoolIdeal.main_v0_0) = v0 c
          ∧ r.2.mem ((c.tc : Thread Cert.FwdPoolIdeal.nD Cert.FwdPoolIdeal.τ).loc Cert.FwdPoolIdeal.main_v0_1) = v1 c
          ∧ r.2.mem ((c.tc : Thread Cert.FwdPoolIdeal.nD Cert.FwdPoolIdeal.τ).loc Cert.FwdPoolIdeal.main_arg0) = m ((c.tc : Thread Cert.FwdPoolIdeal.nD Cert.FwdPoolIdeal.τ).loc Cert.FwdPoolIdeal.main_arg0)
          ∧ r.2.mem ((c.tc : Thread Cert.FwdPoolIdeal.nD Cert.FwdPoolIdeal.τ).loc Cert.FwdPoolIdeal.main_arg1) = m ((c.tc : Thread Cert.FwdPoolIdeal.nD Cert.FwdPoolIdeal.τ).loc Cert.FwdPoolIdeal.main_arg1)
          ∧ r.2.mem ((c.tc : Thread Cert.FwdPoolIdeal.nD Cert.FwdPoolIdeal.τ).loc Cert.FwdPoolIdeal.main_arg2) = m ((c.tc : Thread Cert.FwdPoolIdeal.nD Cert.FwdPoolIdeal.τ).loc Cert.FwdPoolIdeal.main_arg2)
          ∧ r.2.mem ((c.tc : Thread Cert.FwdPoolIdeal.nD Cert.FwdPoolIdeal.τ).loc Cert.FwdPoolIdeal.main_arg3) = m ((c.tc : Thread Cert.FwdPoolIdeal.nD Cert.FwdPoolIdeal.τ).loc Cert.FwdPoolIdeal.main_arg3))
      ∧ θ_run (Cert.FwdPoolRefIdeal.defs (F := Ideal)) (onTc (τ := Cert.FwdPoolRefIdeal.τ) (Cert.FwdPoolRefIdeal.main (F := Ideal))) ⟨m', fun _ => 0, g'⟩ (fun r => ∀ c : Dev Cert.FwdPoolRefIdeal.nD,
          r.2.mem ((c.tc : Thread Cert.FwdPoolRefIdeal.nD Cert.FwdPoolRefIdeal.τ).loc Cert.FwdPoolRefIdeal.main_v200) = v0 c
          ∧ r.2.mem ((c.tc : Thread Cert.FwdPoolRefIdeal.nD Cert.FwdPoolRefIdeal.τ).loc Cert.FwdPoolRefIdeal.main_v206) = v1 c
          ∧ r.2.mem ((c.tc : Thread Cert.FwdPoolRefIdeal.nD Cert.FwdPoolRefIdeal.τ).loc Cert.FwdPoolRefIdeal.main_arg0) = m' ((c.tc : Thread Cert.FwdPoolRefIdeal.nD Cert.FwdPoolRefIdeal.τ).loc Cert.FwdPoolRefIdeal.main_arg0)
          ∧ r.2.mem ((c.tc : Thread Cert.FwdPoolRefIdeal.nD Cert.FwdPoolRefIdeal.τ).loc Cert.FwdPoolRefIdeal.main_arg1) = m' ((c.tc : Thread Cert.FwdPoolRefIdeal.nD Cert.FwdPoolRefIdeal.τ).loc Cert.FwdPoolRefIdeal.main_arg1)
          ∧ r.2.mem ((c.tc : Thread Cert.FwdPoolRefIdeal.nD Cert.FwdPoolRefIdeal.τ).loc Cert.FwdPoolRefIdeal.main_arg2) = m' ((c.tc : Thread Cert.FwdPoolRefIdeal.nD Cert.FwdPoolRefIdeal.τ).loc Cert.FwdPoolRefIdeal.main_arg2)
          ∧ r.2.mem ((c.tc : Thread Cert.FwdPoolRefIdeal.nD Cert.FwdPoolRefIdeal.τ).loc Cert.FwdPoolRefIdeal.main_arg3) = m' ((c.tc : Thread Cert.FwdPoolRefIdeal.nD Cert.FwdPoolRefIdeal.τ).loc Cert.FwdPoolRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v18) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_v19) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_OptOut_OptOutIdeal : Prop :=
  True

def algebraic_OptOutIdeal_OptOutRefIdeal [hOptOutIdeal : Cert.OptOutIdeal.Facts] [hOptOutRefIdeal : Cert.OptOutRefIdeal.Facts] : Prop :=
  ∀ (m : (ℓ : Loc Cert.OptOutIdeal.nD Cert.OptOutIdeal.τ Cert.OptOutIdeal.sig) → Buf (Elt Ideal) ℓ) (g : Dev Cert.OptOutIdeal.nD → PrngReg)
    (m' : (ℓ : Loc Cert.OptOutRefIdeal.nD Cert.OptOutRefIdeal.τ Cert.OptOutRefIdeal.sig) → Buf (Elt Ideal) ℓ) (g' : Dev Cert.OptOutRefIdeal.nD → PrngReg), Pre_OptOutIdeal m →
    (∀ c : Dev Cert.OptOutIdeal.nD,
      m' ((c.tc : Thread Cert.OptOutRefIdeal.nD Cert.OptOutRefIdeal.τ).loc Cert.OptOutRefIdeal.main_arg0) = m ((c.tc : Thread Cert.OptOutIdeal.nD Cert.OptOutIdeal.τ).loc Cert.OptOutIdeal.main_arg0)
      ∧ m' ((c.tc : Thread Cert.OptOutRefIdeal.nD Cert.OptOutRefIdeal.τ).loc Cert.OptOutRefIdeal.main_arg1) = m ((c.tc : Thread Cert.OptOutIdeal.nD Cert.OptOutIdeal.τ).loc Cert.OptOutIdeal.main_arg1)
      ∧ m' ((c.tc : Thread Cert.OptOutRefIdeal.nD Cert.OptOutRefIdeal.τ).loc Cert.OptOutRefIdeal.main_arg2) = m ((c.tc : Thread Cert.OptOutIdeal.nD Cert.OptOutIdeal.τ).loc Cert.OptOutIdeal.main_arg2)
      ∧ m' ((c.tc : Thread Cert.OptOutRefIdeal.nD Cert.OptOutRefIdeal.τ).loc Cert.OptOutRefIdeal.main_arg3) = m ((c.tc : Thread Cert.OptOutIdeal.nD Cert.OptOutIdeal.τ).loc Cert.OptOutIdeal.main_arg3)
      ∧ m' ((c.tc : Thread Cert.OptOutRefIdeal.nD Cert.OptOutRefIdeal.τ).loc Cert.OptOutRefIdeal.main_arg4) = m ((c.tc : Thread Cert.OptOutIdeal.nD Cert.OptOutIdeal.τ).loc Cert.OptOutIdeal.main_arg4)) →
    ∃ (v0 : (c : Dev Cert.OptOutIdeal.nD) → Buf (Elt Ideal) ((c.tc : Thread Cert.OptOutIdeal.nD Cert.OptOutIdeal.τ).loc Cert.OptOutIdeal.main_v0_0)) (v1 : (c : Dev Cert.OptOutIdeal.nD) → Buf (Elt Ideal) ((c.tc : Thread Cert.OptOutIdeal.nD Cert.OptOutIdeal.τ).loc Cert.OptOutIdeal.main_v0_1)) (v2 : (c : Dev Cert.OptOutIdeal.nD) → Buf (Elt Ideal) ((c.tc : Thread Cert.OptOutIdeal.nD Cert.OptOutIdeal.τ).loc Cert.OptOutIdeal.main_v0_2)) (v3 : (c : Dev Cert.OptOutIdeal.nD) → Buf (Elt Ideal) ((c.tc : Thread Cert.OptOutIdeal.nD Cert.OptOutIdeal.τ).loc Cert.OptOutIdeal.main_v0_3)),
      θ_run (Cert.OptOutIdeal.defs (F := Ideal)) (onTc (τ := Cert.OptOutIdeal.τ) (Cert.OptOutIdeal.main (F := Ideal))) ⟨m, fun _ => 0, g⟩ (fun r => ∀ c : Dev Cert.OptOutIdeal.nD,
          r.2.mem ((c.tc : Thread Cert.OptOutIdeal.nD Cert.OptOutIdeal.τ).loc Cert.OptOutIdeal.main_v0_0) = v0 c
          ∧ r.2.mem ((c.tc : Thread Cert.OptOutIdeal.nD Cert.OptOutIdeal.τ).loc Cert.OptOutIdeal.main_v0_1) = v1 c
          ∧ r.2.mem ((c.tc : Thread Cert.OptOutIdeal.nD Cert.OptOutIdeal.τ).loc Cert.OptOutIdeal.main_v0_2) = v2 c
          ∧ r.2.mem ((c.tc : Thread Cert.OptOutIdeal.nD Cert.OptOutIdeal.τ).loc Cert.OptOutIdeal.main_v0_3) = v3 c
          ∧ r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
          ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
          ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
          ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3)
          ∧ r.2.mem ((c.tc : Thread Cert.OptOutIdeal.nD Cert.OptOutIdeal.τ).loc Cert.OptOutIdeal.main_arg4) = m ((c.tc : Thread Cert.OptOutIdeal.nD Cert.OptOutIdeal.τ).loc Cert.OptOutIdeal.main_arg4))
      ∧ θ_run (Cert.OptOutRefIdeal.defs (F := Ideal)) (onTc (τ := Cert.OptOutRefIdeal.τ) (Cert.OptOutRefIdeal.main (F := Ideal))) ⟨m', fun _ => 0, g'⟩ (fun r => ∀ c : Dev Cert.OptOutRefIdeal.nD,
          r.2.mem ((c.tc : Thread Cert.OptOutRefIdeal.nD Cert.OptOutRefIdeal.τ).loc Cert.OptOutRefIdeal.main_v2) = v0 c
          ∧ r.2.mem ((c.tc : Thread Cert.OptOutRefIdeal.nD Cert.OptOutRefIdeal.τ).loc Cert.OptOutRefIdeal.main_v26) = v1 c
          ∧ r.2.mem ((c.tc : Thread Cert.OptOutRefIdeal.nD Cert.OptOutRefIdeal.τ).loc Cert.OptOutRefIdeal.main_v7) = v2 c
          ∧ r.2.mem ((c.tc : Thread Cert.OptOutRefIdeal.nD Cert.OptOutRefIdeal.τ).loc Cert.OptOutRefIdeal.main_v13) = v3 c
          ∧ r.2.mem ((c.tc : Thread Cert.OptOutRefIdeal.nD Cert.OptOutRefIdeal.τ).loc Cert.OptOutRefIdeal.main_arg0) = m' ((c.tc : Thread Cert.OptOutRefIdeal.nD Cert.OptOutRefIdeal.τ).loc Cert.OptOutRefIdeal.main_arg0)
          ∧ r.2.mem ((c.tc : Thread Cert.OptOutRefIdeal.nD Cert.OptOutRefIdeal.τ).loc Cert.OptOutRefIdeal.main_arg1) = m' ((c.tc : Thread Cert.OptOutRefIdeal.nD Cert.OptOutRefIdeal.τ).loc Cert.OptOutRefIdeal.main_arg1)
          ∧ r.2.mem ((c.tc : Thread Cert.OptOutRefIdeal.nD Cert.OptOutRefIdeal.τ).loc Cert.OptOutRefIdeal.main_arg2) = m' ((c.tc : Thread Cert.OptOutRefIdeal.nD Cert.OptOutRefIdeal.τ).loc Cert.OptOutRefIdeal.main_arg2)
          ∧ r.2.mem ((c.tc : Thread Cert.OptOutRefIdeal.nD Cert.OptOutRefIdeal.τ).loc Cert.OptOutRefIdeal.main_arg3) = m' ((c.tc : Thread Cert.OptOutRefIdeal.nD Cert.OptOutRefIdeal.τ).loc Cert.OptOutRefIdeal.main_arg3)
          ∧ r.2.mem ((c.tc : Thread Cert.OptOutRefIdeal.nD Cert.OptOutRefIdeal.τ).loc Cert.OptOutRefIdeal.main_arg4) = m' ((c.tc : Thread Cert.OptOutRefIdeal.nD Cert.OptOutRefIdeal.τ).loc Cert.OptOutRefIdeal.main_arg4))

def preserves_OptGate_OptGateIdeal : Prop :=
  True

def algebraic_OptGateIdeal_OptGateRefIdeal [hOptGateIdeal : Cert.OptGateIdeal.Facts] [hOptGateRefIdeal : Cert.OptGateRefIdeal.Facts] : Prop :=
  ∀ (m : (ℓ : Loc Cert.OptGateIdeal.nD Cert.OptGateIdeal.τ Cert.OptGateIdeal.sig) → Buf (Elt Ideal) ℓ) (g : Dev Cert.OptGateIdeal.nD → PrngReg)
    (m' : (ℓ : Loc Cert.OptGateRefIdeal.nD Cert.OptGateRefIdeal.τ Cert.OptGateRefIdeal.sig) → Buf (Elt Ideal) ℓ) (g' : Dev Cert.OptGateRefIdeal.nD → PrngReg), Pre_OptGateIdeal m →
    (∀ c : Dev Cert.OptGateIdeal.nD,
      m' ((c.tc : Thread Cert.OptGateRefIdeal.nD Cert.OptGateRefIdeal.τ).loc Cert.OptGateRefIdeal.main_arg0) = m ((c.tc : Thread Cert.OptGateIdeal.nD Cert.OptGateIdeal.τ).loc Cert.OptGateIdeal.main_arg0)
      ∧ m' ((c.tc : Thread Cert.OptGateRefIdeal.nD Cert.OptGateRefIdeal.τ).loc Cert.OptGateRefIdeal.main_arg1) = m ((c.tc : Thread Cert.OptGateIdeal.nD Cert.OptGateIdeal.τ).loc Cert.OptGateIdeal.main_arg1)
      ∧ m' ((c.tc : Thread Cert.OptGateRefIdeal.nD Cert.OptGateRefIdeal.τ).loc Cert.OptGateRefIdeal.main_arg2) = m ((c.tc : Thread Cert.OptGateIdeal.nD Cert.OptGateIdeal.τ).loc Cert.OptGateIdeal.main_arg2)
      ∧ m' ((c.tc : Thread Cert.OptGateRefIdeal.nD Cert.OptGateRefIdeal.τ).loc Cert.OptGateRefIdeal.main_arg3) = m ((c.tc : Thread Cert.OptGateIdeal.nD Cert.OptGateIdeal.τ).loc Cert.OptGateIdeal.main_arg3)
      ∧ m' ((c.tc : Thread Cert.OptGateRefIdeal.nD Cert.OptGateRefIdeal.τ).loc Cert.OptGateRefIdeal.main_arg4) = m ((c.tc : Thread Cert.OptGateIdeal.nD Cert.OptGateIdeal.τ).loc Cert.OptGateIdeal.main_arg4)) →
    ∃ (v0 : (c : Dev Cert.OptGateIdeal.nD) → Buf (Elt Ideal) ((c.tc : Thread Cert.OptGateIdeal.nD Cert.OptGateIdeal.τ).loc Cert.OptGateIdeal.main_v0_0)) (v1 : (c : Dev Cert.OptGateIdeal.nD) → Buf (Elt Ideal) ((c.tc : Thread Cert.OptGateIdeal.nD Cert.OptGateIdeal.τ).loc Cert.OptGateIdeal.main_v0_1)) (v2 : (c : Dev Cert.OptGateIdeal.nD) → Buf (Elt Ideal) ((c.tc : Thread Cert.OptGateIdeal.nD Cert.OptGateIdeal.τ).loc Cert.OptGateIdeal.main_v0_2)) (v3 : (c : Dev Cert.OptGateIdeal.nD) → Buf (Elt Ideal) ((c.tc : Thread Cert.OptGateIdeal.nD Cert.OptGateIdeal.τ).loc Cert.OptGateIdeal.main_v0_3)),
      θ_run (Cert.OptGateIdeal.defs (F := Ideal)) (onTc (τ := Cert.OptGateIdeal.τ) (Cert.OptGateIdeal.main (F := Ideal))) ⟨m, fun _ => 0, g⟩ (fun r => ∀ c : Dev Cert.OptGateIdeal.nD,
          r.2.mem ((c.tc : Thread Cert.OptGateIdeal.nD Cert.OptGateIdeal.τ).loc Cert.OptGateIdeal.main_v0_0) = v0 c
          ∧ r.2.mem ((c.tc : Thread Cert.OptGateIdeal.nD Cert.OptGateIdeal.τ).loc Cert.OptGateIdeal.main_v0_1) = v1 c
          ∧ r.2.mem ((c.tc : Thread Cert.OptGateIdeal.nD Cert.OptGateIdeal.τ).loc Cert.OptGateIdeal.main_v0_2) = v2 c
          ∧ r.2.mem ((c.tc : Thread Cert.OptGateIdeal.nD Cert.OptGateIdeal.τ).loc Cert.OptGateIdeal.main_v0_3) = v3 c
          ∧ r.2.mem ((c.tc : Thread Cert.OptGateIdeal.nD Cert.OptGateIdeal.τ).loc Cert.OptGateIdeal.main_arg0) = m ((c.tc : Thread Cert.OptGateIdeal.nD Cert.OptGateIdeal.τ).loc Cert.OptGateIdeal.main_arg0)
          ∧ r.2.mem ((c.tc : Thread Cert.OptGateIdeal.nD Cert.OptGateIdeal.τ).loc Cert.OptGateIdeal.main_arg1) = m ((c.tc : Thread Cert.OptGateIdeal.nD Cert.OptGateIdeal.τ).loc Cert.OptGateIdeal.main_arg1)
          ∧ r.2.mem ((c.tc : Thread Cert.OptGateIdeal.nD Cert.OptGateIdeal.τ).loc Cert.OptGateIdeal.main_arg2) = m ((c.tc : Thread Cert.OptGateIdeal.nD Cert.OptGateIdeal.τ).loc Cert.OptGateIdeal.main_arg2)
          ∧ r.2.mem ((c.tc : Thread Cert.OptGateIdeal.nD Cert.OptGateIdeal.τ).loc Cert.OptGateIdeal.main_arg3) = m ((c.tc : Thread Cert.OptGateIdeal.nD Cert.OptGateIdeal.τ).loc Cert.OptGateIdeal.main_arg3)
          ∧ r.2.mem ((c.tc : Thread Cert.OptGateIdeal.nD Cert.OptGateIdeal.τ).loc Cert.OptGateIdeal.main_arg4) = m ((c.tc : Thread Cert.OptGateIdeal.nD Cert.OptGateIdeal.τ).loc Cert.OptGateIdeal.main_arg4))
      ∧ θ_run (Cert.OptGateRefIdeal.defs (F := Ideal)) (onTc (τ := Cert.OptGateRefIdeal.τ) (Cert.OptGateRefIdeal.main (F := Ideal))) ⟨m', fun _ => 0, g'⟩ (fun r => ∀ c : Dev Cert.OptGateRefIdeal.nD,
          r.2.mem ((c.tc : Thread Cert.OptGateRefIdeal.nD Cert.OptGateRefIdeal.τ).loc Cert.OptGateRefIdeal.main_v2) = v0 c
          ∧ r.2.mem ((c.tc : Thread Cert.OptGateRefIdeal.nD Cert.OptGateRefIdeal.τ).loc Cert.OptGateRefIdeal.main_v26) = v1 c
          ∧ r.2.mem ((c.tc : Thread Cert.OptGateRefIdeal.nD Cert.OptGateRefIdeal.τ).loc Cert.OptGateRefIdeal.main_v7) = v2 c
          ∧ r.2.mem ((c.tc : Thread Cert.OptGateRefIdeal.nD Cert.OptGateRefIdeal.τ).loc Cert.OptGateRefIdeal.main_v13) = v3 c
          ∧ r.2.mem ((c.tc : Thread Cert.OptGateRefIdeal.nD Cert.OptGateRefIdeal.τ).loc Cert.OptGateRefIdeal.main_arg0) = m' ((c.tc : Thread Cert.OptGateRefIdeal.nD Cert.OptGateRefIdeal.τ).loc Cert.OptGateRefIdeal.main_arg0)
          ∧ r.2.mem ((c.tc : Thread Cert.OptGateRefIdeal.nD Cert.OptGateRefIdeal.τ).loc Cert.OptGateRefIdeal.main_arg1) = m' ((c.tc : Thread Cert.OptGateRefIdeal.nD Cert.OptGateRefIdeal.τ).loc Cert.OptGateRefIdeal.main_arg1)
          ∧ r.2.mem ((c.tc : Thread Cert.OptGateRefIdeal.nD Cert.OptGateRefIdeal.τ).loc Cert.OptGateRefIdeal.main_arg2) = m' ((c.tc : Thread Cert.OptGateRefIdeal.nD Cert.OptGateRefIdeal.τ).loc Cert.OptGateRefIdeal.main_arg2)
          ∧ r.2.mem ((c.tc : Thread Cert.OptGateRefIdeal.nD Cert.OptGateRefIdeal.τ).loc Cert.OptGateRefIdeal.main_arg3) = m' ((c.tc : Thread Cert.OptGateRefIdeal.nD Cert.OptGateRefIdeal.τ).loc Cert.OptGateRefIdeal.main_arg3)
          ∧ r.2.mem ((c.tc : Thread Cert.OptGateRefIdeal.nD Cert.OptGateRefIdeal.τ).loc Cert.OptGateRefIdeal.main_arg4) = m' ((c.tc : Thread Cert.OptGateRefIdeal.nD Cert.OptGateRefIdeal.τ).loc Cert.OptGateRefIdeal.main_arg4))

def preserves_OptDown_OptDownIdeal : Prop :=
  True

def algebraic_OptDownIdeal_OptDownRefIdeal [hOptDownIdeal : Cert.OptDownIdeal.Facts] [hOptDownRefIdeal : Cert.OptDownRefIdeal.Facts] : Prop :=
  ∀ (m : (ℓ : Loc Cert.OptDownIdeal.nD Cert.OptDownIdeal.τ Cert.OptDownIdeal.sig) → Buf (Elt Ideal) ℓ) (g : Dev Cert.OptDownIdeal.nD → PrngReg)
    (m' : (ℓ : Loc Cert.OptDownRefIdeal.nD Cert.OptDownRefIdeal.τ Cert.OptDownRefIdeal.sig) → Buf (Elt Ideal) ℓ) (g' : Dev Cert.OptDownRefIdeal.nD → PrngReg), Pre_OptDownIdeal m →
    (∀ c : Dev Cert.OptDownIdeal.nD,
      m' ((c.tc : Thread Cert.OptDownRefIdeal.nD Cert.OptDownRefIdeal.τ).loc Cert.OptDownRefIdeal.main_arg0) = m ((c.tc : Thread Cert.OptDownIdeal.nD Cert.OptDownIdeal.τ).loc Cert.OptDownIdeal.main_arg0)
      ∧ m' ((c.tc : Thread Cert.OptDownRefIdeal.nD Cert.OptDownRefIdeal.τ).loc Cert.OptDownRefIdeal.main_arg1) = m ((c.tc : Thread Cert.OptDownIdeal.nD Cert.OptDownIdeal.τ).loc Cert.OptDownIdeal.main_arg1)
      ∧ m' ((c.tc : Thread Cert.OptDownRefIdeal.nD Cert.OptDownRefIdeal.τ).loc Cert.OptDownRefIdeal.main_arg2) = m ((c.tc : Thread Cert.OptDownIdeal.nD Cert.OptDownIdeal.τ).loc Cert.OptDownIdeal.main_arg2)
      ∧ m' ((c.tc : Thread Cert.OptDownRefIdeal.nD Cert.OptDownRefIdeal.τ).loc Cert.OptDownRefIdeal.main_arg3) = m ((c.tc : Thread Cert.OptDownIdeal.nD Cert.OptDownIdeal.τ).loc Cert.OptDownIdeal.main_arg3)
      ∧ m' ((c.tc : Thread Cert.OptDownRefIdeal.nD Cert.OptDownRefIdeal.τ).loc Cert.OptDownRefIdeal.main_arg4) = m ((c.tc : Thread Cert.OptDownIdeal.nD Cert.OptDownIdeal.τ).loc Cert.OptDownIdeal.main_arg4)) →
    ∃ (v0 : (c : Dev Cert.OptDownIdeal.nD) → Buf (Elt Ideal) ((c.tc : Thread Cert.OptDownIdeal.nD Cert.OptDownIdeal.τ).loc Cert.OptDownIdeal.main_v0_0)) (v1 : (c : Dev Cert.OptDownIdeal.nD) → Buf (Elt Ideal) ((c.tc : Thread Cert.OptDownIdeal.nD Cert.OptDownIdeal.τ).loc Cert.OptDownIdeal.main_v0_1)) (v2 : (c : Dev Cert.OptDownIdeal.nD) → Buf (Elt Ideal) ((c.tc : Thread Cert.OptDownIdeal.nD Cert.OptDownIdeal.τ).loc Cert.OptDownIdeal.main_v0_2)) (v3 : (c : Dev Cert.OptDownIdeal.nD) → Buf (Elt Ideal) ((c.tc : Thread Cert.OptDownIdeal.nD Cert.OptDownIdeal.τ).loc Cert.OptDownIdeal.main_v0_3)),
      θ_run (Cert.OptDownIdeal.defs (F := Ideal)) (onTc (τ := Cert.OptDownIdeal.τ) (Cert.OptDownIdeal.main (F := Ideal))) ⟨m, fun _ => 0, g⟩ (fun r => ∀ c : Dev Cert.OptDownIdeal.nD,
          r.2.mem ((c.tc : Thread Cert.OptDownIdeal.nD Cert.OptDownIdeal.τ).loc Cert.OptDownIdeal.main_v0_0) = v0 c
          ∧ r.2.mem ((c.tc : Thread Cert.OptDownIdeal.nD Cert.OptDownIdeal.τ).loc Cert.OptDownIdeal.main_v0_1) = v1 c
          ∧ r.2.mem ((c.tc : Thread Cert.OptDownIdeal.nD Cert.OptDownIdeal.τ).loc Cert.OptDownIdeal.main_v0_2) = v2 c
          ∧ r.2.mem ((c.tc : Thread Cert.OptDownIdeal.nD Cert.OptDownIdeal.τ).loc Cert.OptDownIdeal.main_v0_3) = v3 c
          ∧ r.2.mem ((c.tc : Thread Cert.OptDownIdeal.nD Cert.OptDownIdeal.τ).loc Cert.OptDownIdeal.main_arg0) = m ((c.tc : Thread Cert.OptDownIdeal.nD Cert.OptDownIdeal.τ).loc Cert.OptDownIdeal.main_arg0)
          ∧ r.2.mem ((c.tc : Thread Cert.OptDownIdeal.nD Cert.OptDownIdeal.τ).loc Cert.OptDownIdeal.main_arg1) = m ((c.tc : Thread Cert.OptDownIdeal.nD Cert.OptDownIdeal.τ).loc Cert.OptDownIdeal.main_arg1)
          ∧ r.2.mem ((c.tc : Thread Cert.OptDownIdeal.nD Cert.OptDownIdeal.τ).loc Cert.OptDownIdeal.main_arg2) = m ((c.tc : Thread Cert.OptDownIdeal.nD Cert.OptDownIdeal.τ).loc Cert.OptDownIdeal.main_arg2)
          ∧ r.2.mem ((c.tc : Thread Cert.OptDownIdeal.nD Cert.OptDownIdeal.τ).loc Cert.OptDownIdeal.main_arg3) = m ((c.tc : Thread Cert.OptDownIdeal.nD Cert.OptDownIdeal.τ).loc Cert.OptDownIdeal.main_arg3)
          ∧ r.2.mem ((c.tc : Thread Cert.OptDownIdeal.nD Cert.OptDownIdeal.τ).loc Cert.OptDownIdeal.main_arg4) = m ((c.tc : Thread Cert.OptDownIdeal.nD Cert.OptDownIdeal.τ).loc Cert.OptDownIdeal.main_arg4))
      ∧ θ_run (Cert.OptDownRefIdeal.defs (F := Ideal)) (onTc (τ := Cert.OptDownRefIdeal.τ) (Cert.OptDownRefIdeal.main (F := Ideal))) ⟨m', fun _ => 0, g'⟩ (fun r => ∀ c : Dev Cert.OptDownRefIdeal.nD,
          r.2.mem ((c.tc : Thread Cert.OptDownRefIdeal.nD Cert.OptDownRefIdeal.τ).loc Cert.OptDownRefIdeal.main_v2) = v0 c
          ∧ r.2.mem ((c.tc : Thread Cert.OptDownRefIdeal.nD Cert.OptDownRefIdeal.τ).loc Cert.OptDownRefIdeal.main_v26) = v1 c
          ∧ r.2.mem ((c.tc : Thread Cert.OptDownRefIdeal.nD Cert.OptDownRefIdeal.τ).loc Cert.OptDownRefIdeal.main_v7) = v2 c
          ∧ r.2.mem ((c.tc : Thread Cert.OptDownRefIdeal.nD Cert.OptDownRefIdeal.τ).loc Cert.OptDownRefIdeal.main_v13) = v3 c
          ∧ r.2.mem ((c.tc : Thread Cert.OptDownRefIdeal.nD Cert.OptDownRefIdeal.τ).loc Cert.OptDownRefIdeal.main_arg0) = m' ((c.tc : Thread Cert.OptDownRefIdeal.nD Cert.OptDownRefIdeal.τ).loc Cert.OptDownRefIdeal.main_arg0)
          ∧ r.2.mem ((c.tc : Thread Cert.OptDownRefIdeal.nD Cert.OptDownRefIdeal.τ).loc Cert.OptDownRefIdeal.main_arg1) = m' ((c.tc : Thread Cert.OptDownRefIdeal.nD Cert.OptDownRefIdeal.τ).loc Cert.OptDownRefIdeal.main_arg1)
          ∧ r.2.mem ((c.tc : Thread Cert.OptDownRefIdeal.nD Cert.OptDownRefIdeal.τ).loc Cert.OptDownRefIdeal.main_arg2) = m' ((c.tc : Thread Cert.OptDownRefIdeal.nD Cert.OptDownRefIdeal.τ).loc Cert.OptDownRefIdeal.main_arg2)
          ∧ r.2.mem ((c.tc : Thread Cert.OptDownRefIdeal.nD Cert.OptDownRefIdeal.τ).loc Cert.OptDownRefIdeal.main_arg3) = m' ((c.tc : Thread Cert.OptDownRefIdeal.nD Cert.OptDownRefIdeal.τ).loc Cert.OptDownRefIdeal.main_arg3)
          ∧ r.2.mem ((c.tc : Thread Cert.OptDownRefIdeal.nD Cert.OptDownRefIdeal.τ).loc Cert.OptDownRefIdeal.main_arg4) = m' ((c.tc : Thread Cert.OptDownRefIdeal.nD Cert.OptDownRefIdeal.τ).loc Cert.OptDownRefIdeal.main_arg4))

def preserves_Sum8_Sum8Ideal : Prop :=
  True

def algebraic_Sum8Ideal_Sum8RefIdeal [hSum8Ideal : Cert.Sum8Ideal.Facts] [hSum8RefIdeal : Cert.Sum8RefIdeal.Facts] : Prop :=
  ∀ (m : (ℓ : Loc Cert.Sum8Ideal.nD Cert.Sum8Ideal.τ Cert.Sum8Ideal.sig) → Buf (Elt Ideal) ℓ) (g : Dev Cert.Sum8Ideal.nD → PrngReg)
    (m' : (ℓ : Loc Cert.Sum8RefIdeal.nD Cert.Sum8RefIdeal.τ Cert.Sum8RefIdeal.sig) → Buf (Elt Ideal) ℓ) (g' : Dev Cert.Sum8RefIdeal.nD → PrngReg), Pre_Sum8Ideal m →
    (∀ c : Dev Cert.Sum8Ideal.nD,
      m' ((c.tc : Thread Cert.Sum8RefIdeal.nD Cert.Sum8RefIdeal.τ).loc Cert.Sum8RefIdeal.main_arg0) = m ((c.tc : Thread Cert.Sum8Ideal.nD Cert.Sum8Ideal.τ).loc Cert.Sum8Ideal.main_arg0)) →
    ∃ (v0 : (c : Dev Cert.Sum8Ideal.nD) → Buf (Elt Ideal) ((c.tc : Thread Cert.Sum8Ideal.nD Cert.Sum8Ideal.τ).loc Cert.Sum8Ideal.main_v0)),
      θ_run (Cert.Sum8Ideal.defs (F := Ideal)) (onTc (τ := Cert.Sum8Ideal.τ) (Cert.Sum8Ideal.main (F := Ideal))) ⟨m, fun _ => 0, g⟩ (fun r => ∀ c : Dev Cert.Sum8Ideal.nD,
          r.2.mem ((c.tc : Thread Cert.Sum8Ideal.nD Cert.Sum8Ideal.τ).loc Cert.Sum8Ideal.main_v0) = v0 c
          ∧ r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ θ_run (Cert.Sum8RefIdeal.defs (F := Ideal)) (onTc (τ := Cert.Sum8RefIdeal.τ) (Cert.Sum8RefIdeal.main (F := Ideal))) ⟨m', fun _ => 0, g'⟩ (fun r => ∀ c : Dev Cert.Sum8RefIdeal.nD,
          r.2.mem ((c.tc : Thread Cert.Sum8RefIdeal.nD Cert.Sum8RefIdeal.τ).loc Cert.Sum8RefIdeal.main_v1) = v0 c
          ∧ r.2.mem ((c.tc : Thread Cert.Sum8RefIdeal.nD Cert.Sum8RefIdeal.τ).loc Cert.Sum8RefIdeal.main_arg0) = m' ((c.tc : Thread Cert.Sum8RefIdeal.nD Cert.Sum8RefIdeal.τ).loc Cert.Sum8RefIdeal.main_arg0))

def preserves_OptSmall_OptSmallIdeal : Prop :=
  True

def algebraic_OptSmallIdeal_OptSmallRefIdeal [hOptSmallIdeal : Cert.OptSmallIdeal.Facts] [hOptSmallRefIdeal : Cert.OptSmallRefIdeal.Facts] : Prop :=
  ∀ (m : (ℓ : Loc Cert.OptSmallIdeal.nD Cert.OptSmallIdeal.τ Cert.OptSmallIdeal.sig) → Buf (Elt Ideal) ℓ) (g : Dev Cert.OptSmallIdeal.nD → PrngReg)
    (m' : (ℓ : Loc Cert.OptSmallRefIdeal.nD Cert.OptSmallRefIdeal.τ Cert.OptSmallRefIdeal.sig) → Buf (Elt Ideal) ℓ) (g' : Dev Cert.OptSmallRefIdeal.nD → PrngReg), Pre_OptSmallIdeal m →
    (∀ c : Dev Cert.OptSmallIdeal.nD,
      m' ((c.tc : Thread Cert.OptSmallRefIdeal.nD Cert.OptSmallRefIdeal.τ).loc Cert.OptSmallRefIdeal.main_arg0) = m ((c.tc : Thread Cert.OptSmallIdeal.nD Cert.OptSmallIdeal.τ).loc Cert.OptSmallIdeal.main_arg0)
      ∧ m' ((c.tc : Thread Cert.OptSmallRefIdeal.nD Cert.OptSmallRefIdeal.τ).loc Cert.OptSmallRefIdeal.main_arg1) = m ((c.tc : Thread Cert.OptSmallIdeal.nD Cert.OptSmallIdeal.τ).loc Cert.OptSmallIdeal.main_arg1)
      ∧ m' ((c.tc : Thread Cert.OptSmallRefIdeal.nD Cert.OptSmallRefIdeal.τ).loc Cert.OptSmallRefIdeal.main_arg2) = m ((c.tc : Thread Cert.OptSmallIdeal.nD Cert.OptSmallIdeal.τ).loc Cert.OptSmallIdeal.main_arg2)
      ∧ m' ((c.tc : Thread Cert.OptSmallRefIdeal.nD Cert.OptSmallRefIdeal.τ).loc Cert.OptSmallRefIdeal.main_arg3) = m ((c.tc : Thread Cert.OptSmallIdeal.nD Cert.OptSmallIdeal.τ).loc Cert.OptSmallIdeal.main_arg3)) →
    ∃ (v0 : (c : Dev Cert.OptSmallIdeal.nD) → Buf (Elt Ideal) ((c.tc : Thread Cert.OptSmallIdeal.nD Cert.OptSmallIdeal.τ).loc Cert.OptSmallIdeal.main_v0_0)) (v1 : (c : Dev Cert.OptSmallIdeal.nD) → Buf (Elt Ideal) ((c.tc : Thread Cert.OptSmallIdeal.nD Cert.OptSmallIdeal.τ).loc Cert.OptSmallIdeal.main_v0_1)) (v2 : (c : Dev Cert.OptSmallIdeal.nD) → Buf (Elt Ideal) ((c.tc : Thread Cert.OptSmallIdeal.nD Cert.OptSmallIdeal.τ).loc Cert.OptSmallIdeal.main_v0_2)),
      θ_run (Cert.OptSmallIdeal.defs (F := Ideal)) (onTc (τ := Cert.OptSmallIdeal.τ) (Cert.OptSmallIdeal.main (F := Ideal))) ⟨m, fun _ => 0, g⟩ (fun r => ∀ c : Dev Cert.OptSmallIdeal.nD,
          r.2.mem ((c.tc : Thread Cert.OptSmallIdeal.nD Cert.OptSmallIdeal.τ).loc Cert.OptSmallIdeal.main_v0_0) = v0 c
          ∧ r.2.mem ((c.tc : Thread Cert.OptSmallIdeal.nD Cert.OptSmallIdeal.τ).loc Cert.OptSmallIdeal.main_v0_1) = v1 c
          ∧ r.2.mem ((c.tc : Thread Cert.OptSmallIdeal.nD Cert.OptSmallIdeal.τ).loc Cert.OptSmallIdeal.main_v0_2) = v2 c
          ∧ r.2.mem ((c.tc : Thread Cert.OptSmallIdeal.nD Cert.OptSmallIdeal.τ).loc Cert.OptSmallIdeal.main_arg0) = m ((c.tc : Thread Cert.OptSmallIdeal.nD Cert.OptSmallIdeal.τ).loc Cert.OptSmallIdeal.main_arg0)
          ∧ r.2.mem ((c.tc : Thread Cert.OptSmallIdeal.nD Cert.OptSmallIdeal.τ).loc Cert.OptSmallIdeal.main_arg1) = m ((c.tc : Thread Cert.OptSmallIdeal.nD Cert.OptSmallIdeal.τ).loc Cert.OptSmallIdeal.main_arg1)
          ∧ r.2.mem ((c.tc : Thread Cert.OptSmallIdeal.nD Cert.OptSmallIdeal.τ).loc Cert.OptSmallIdeal.main_arg2) = m ((c.tc : Thread Cert.OptSmallIdeal.nD Cert.OptSmallIdeal.τ).loc Cert.OptSmallIdeal.main_arg2)
          ∧ r.2.mem ((c.tc : Thread Cert.OptSmallIdeal.nD Cert.OptSmallIdeal.τ).loc Cert.OptSmallIdeal.main_arg3) = m ((c.tc : Thread Cert.OptSmallIdeal.nD Cert.OptSmallIdeal.τ).loc Cert.OptSmallIdeal.main_arg3))
      ∧ θ_run (Cert.OptSmallRefIdeal.defs (F := Ideal)) (onTc (τ := Cert.OptSmallRefIdeal.τ) (Cert.OptSmallRefIdeal.main (F := Ideal))) ⟨m', fun _ => 0, g'⟩ (fun r => ∀ c : Dev Cert.OptSmallRefIdeal.nD,
          r.2.mem ((c.tc : Thread Cert.OptSmallRefIdeal.nD Cert.OptSmallRefIdeal.τ).loc Cert.OptSmallRefIdeal.main_v23) = v0 c
          ∧ r.2.mem ((c.tc : Thread Cert.OptSmallRefIdeal.nD Cert.OptSmallRefIdeal.τ).loc Cert.OptSmallRefIdeal.main_v4) = v1 c
          ∧ r.2.mem ((c.tc : Thread Cert.OptSmallRefIdeal.nD Cert.OptSmallRefIdeal.τ).loc Cert.OptSmallRefIdeal.main_v10) = v2 c
          ∧ r.2.mem ((c.tc : Thread Cert.OptSmallRefIdeal.nD Cert.OptSmallRefIdeal.τ).loc Cert.OptSmallRefIdeal.main_arg0) = m' ((c.tc : Thread Cert.OptSmallRefIdeal.nD Cert.OptSmallRefIdeal.τ).loc Cert.OptSmallRefIdeal.main_arg0)
          ∧ r.2.mem ((c.tc : Thread Cert.OptSmallRefIdeal.nD Cert.OptSmallRefIdeal.τ).loc Cert.OptSmallRefIdeal.main_arg1) = m' ((c.tc : Thread Cert.OptSmallRefIdeal.nD Cert.OptSmallRefIdeal.τ).loc Cert.OptSmallRefIdeal.main_arg1)
          ∧ r.2.mem ((c.tc : Thread Cert.OptSmallRefIdeal.nD Cert.OptSmallRefIdeal.τ).loc Cert.OptSmallRefIdeal.main_arg2) = m' ((c.tc : Thread Cert.OptSmallRefIdeal.nD Cert.OptSmallRefIdeal.τ).loc Cert.OptSmallRefIdeal.main_arg2)
          ∧ r.2.mem ((c.tc : Thread Cert.OptSmallRefIdeal.nD Cert.OptSmallRefIdeal.τ).loc Cert.OptSmallRefIdeal.main_arg3) = m' ((c.tc : Thread Cert.OptSmallRefIdeal.nD Cert.OptSmallRefIdeal.τ).loc Cert.OptSmallRefIdeal.main_arg3))

def preserves_FoxPrep_FoxPrepIdeal : Prop :=
  True

def algebraic_FoxPrepIdeal_FoxPrepRefIdeal [hFoxPrepIdeal : Cert.FoxPrepIdeal.Facts] [hFoxPrepRefIdeal : Cert.FoxPrepRefIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg)
    (m' : (ℓ : Loc Cert.FoxPrepRefIdeal.nD Cert.FoxPrepRefIdeal.τ Cert.FoxPrepRefIdeal.sig) → Buf (Elt Ideal) ℓ) (g' : Dev Cert.FoxPrepRefIdeal.nD → PrngReg), Pre_FoxPrepIdeal m →
    (∀ c : Dev Cert.FoxPrepIdeal.nD,
      m' ((c.tc : Thread Cert.FoxPrepRefIdeal.nD Cert.FoxPrepRefIdeal.τ).loc Cert.FoxPrepRefIdeal.main_arg0) = m ((c.tc : Thread Cert.FoxPrepIdeal.nD Cert.FoxPrepIdeal.τ).loc Cert.FoxPrepIdeal.main_arg0)
      ∧ m' ((c.tc : Thread Cert.FoxPrepRefIdeal.nD Cert.FoxPrepRefIdeal.τ).loc Cert.FoxPrepRefIdeal.main_arg1) = m ((c.tc : Thread Cert.FoxPrepIdeal.nD Cert.FoxPrepIdeal.τ).loc Cert.FoxPrepIdeal.main_arg1)) →
    ∃ (v0 : (c : Dev Cert.FoxPrepIdeal.nD) → Buf (Elt Ideal) ((c.tc : Thread Cert.FoxPrepIdeal.nD Cert.FoxPrepIdeal.τ).loc Cert.FoxPrepIdeal.main_v0_0)) (v1 : (c : Dev Cert.FoxPrepIdeal.nD) → Buf (Elt Ideal) ((c.tc : Thread Cert.FoxPrepIdeal.nD Cert.FoxPrepIdeal.τ).loc Cert.FoxPrepIdeal.main_v0_1)),
      θ_run (Cert.FoxPrepIdeal.defs (F := Ideal)) (onTc (τ := Cert.FoxPrepIdeal.τ) (Cert.FoxPrepIdeal.main (F := Ideal))) ⟨m, fun _ => 0, g⟩ (fun r => ∀ c : Dev Cert.FoxPrepIdeal.nD,
          r.2.mem ((c.tc : Thread Cert.FoxPrepIdeal.nD Cert.FoxPrepIdeal.τ).loc Cert.FoxPrepIdeal.main_v0_0) = v0 c
          ∧ r.2.mem ((c.tc : Thread Cert.FoxPrepIdeal.nD Cert.FoxPrepIdeal.τ).loc Cert.FoxPrepIdeal.main_v0_1) = v1 c
          ∧ r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
          ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ θ_run (Cert.FoxPrepRefIdeal.defs (F := Ideal)) (onTc (τ := Cert.FoxPrepRefIdeal.τ) (Cert.FoxPrepRefIdeal.main (F := Ideal))) ⟨m', fun _ => 0, g'⟩ (fun r => ∀ c : Dev Cert.FoxPrepRefIdeal.nD,
          r.2.mem ((c.tc : Thread Cert.FoxPrepRefIdeal.nD Cert.FoxPrepRefIdeal.τ).loc Cert.FoxPrepRefIdeal.main_v6) = v0 c
          ∧ r.2.mem ((c.tc : Thread Cert.FoxPrepRefIdeal.nD Cert.FoxPrepRefIdeal.τ).loc Cert.FoxPrepRefIdeal.main_v7) = v1 c
          ∧ r.2.mem ((c.tc : Thread Cert.FoxPrepRefIdeal.nD Cert.FoxPrepRefIdeal.τ).loc Cert.FoxPrepRefIdeal.main_arg0) = m' ((c.tc : Thread Cert.FoxPrepRefIdeal.nD Cert.FoxPrepRefIdeal.τ).loc Cert.FoxPrepRefIdeal.main_arg0)
          ∧ r.2.mem ((c.tc : Thread Cert.FoxPrepRefIdeal.nD Cert.FoxPrepRefIdeal.τ).loc Cert.FoxPrepRefIdeal.main_arg1) = m' ((c.tc : Thread Cert.FoxPrepRefIdeal.nD Cert.FoxPrepRefIdeal.τ).loc Cert.FoxPrepRefIdeal.main_arg1))

def preserves_Fox_FoxIdeal : Prop :=
  True

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v69) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_FoxPrepBwd_FoxPrepBwdIdeal : Prop :=
  True

def algebraic_FoxPrepBwdIdeal_FoxPrepBwdRefIdeal_pre_smooth_foxprep [hFoxPrepBwdIdeal : Cert.FoxPrepBwdIdeal.Facts] [hFoxPrepBwdRefIdeal : Cert.FoxPrepBwdRefIdeal.Facts] [hPre_smooth_foxprep : Cert.Pre_smooth_foxprep.Facts] : Prop :=
  ∀ (m : (ℓ : Loc Cert.FoxPrepBwdIdeal.nD Cert.FoxPrepBwdIdeal.τ Cert.FoxPrepBwdIdeal.sig) → Buf (Elt Ideal) ℓ) (g : Dev Cert.FoxPrepBwdIdeal.nD → PrngReg)
    (m' : (ℓ : Loc Cert.FoxPrepBwdRefIdeal.nD Cert.FoxPrepBwdRefIdeal.τ Cert.FoxPrepBwdRefIdeal.sig) → Buf (Elt Ideal) ℓ) (g' : Dev Cert.FoxPrepBwdRefIdeal.nD → PrngReg), Pre_FoxPrepBwdIdeal_smooth_foxprep m →
    (∀ c : Dev Cert.FoxPrepBwdIdeal.nD,
      m' ((c.tc : Thread Cert.FoxPrepBwdRefIdeal.nD Cert.FoxPrepBwdRefIdeal.τ).loc Cert.FoxPrepBwdRefIdeal.main_arg0) = m ((c.tc : Thread Cert.FoxPrepBwdIdeal.nD Cert.FoxPrepBwdIdeal.τ).loc Cert.FoxPrepBwdIdeal.main_arg0)
      ∧ m' ((c.tc : Thread Cert.FoxPrepBwdRefIdeal.nD Cert.FoxPrepBwdRefIdeal.τ).loc Cert.FoxPrepBwdRefIdeal.main_arg1) = m ((c.tc : Thread Cert.FoxPrepBwdIdeal.nD Cert.FoxPrepBwdIdeal.τ).loc Cert.FoxPrepBwdIdeal.main_arg1)
      ∧ m' ((c.tc : Thread Cert.FoxPrepBwdRefIdeal.nD Cert.FoxPrepBwdRefIdeal.τ).loc Cert.FoxPrepBwdRefIdeal.main_arg2) = m ((c.tc : Thread Cert.FoxPrepBwdIdeal.nD Cert.FoxPrepBwdIdeal.τ).loc Cert.FoxPrepBwdIdeal.main_arg2)
      ∧ m' ((c.tc : Thread Cert.FoxPrepBwdRefIdeal.nD Cert.FoxPrepBwdRefIdeal.τ).loc Cert.FoxPrepBwdRefIdeal.main_arg3) = m ((c.tc : Thread Cert.FoxPrepBwdIdeal.nD Cert.FoxPrepBwdIdeal.τ).loc Cert.FoxPrepBwdIdeal.main_arg3)
      ∧ m' ((c.tc : Thread Cert.FoxPrepBwdRefIdeal.nD Cert.FoxPrepBwdRefIdeal.τ).loc Cert.FoxPrepBwdRefIdeal.main_arg4) = m ((c.tc : Thread Cert.FoxPrepBwdIdeal.nD Cert.FoxPrepBwdIdeal.τ).loc Cert.FoxPrepBwdIdeal.main_arg4)) →
    ∃ (v0 : (c : Dev Cert.FoxPrepBwdIdeal.nD) → Buf (Elt Ideal) ((c.tc : Thread Cert.FoxPrepBwdIdeal.nD Cert.FoxPrepBwdIdeal.τ).loc Cert.FoxPrepBwdIdeal.main_v0_0)) (v1 : (c : Dev Cert.FoxPrepBwdIdeal.nD) → Buf (Elt Ideal) ((c.tc : Thread Cert.FoxPrepBwdIdeal.nD Cert.FoxPrepBwdIdeal.τ).loc Cert.FoxPrepBwdIdeal.main_v0_1)),
      θ_run (Cert.FoxPrepBwdIdeal.defs (F := Ideal)) (onTc (τ := Cert.FoxPrepBwdIdeal.τ) (Cert.FoxPrepBwdIdeal.main (F := Ideal))) ⟨m, fun _ => 0, g⟩ (fun r => ∀ c : Dev Cert.FoxPrepBwdIdeal.nD,
          r.2.mem ((c.tc : Thread Cert.FoxPrepBwdIdeal.nD Cert.FoxPrepBwdIdeal.τ).loc Cert.FoxPrepBwdIdeal.main_v0_0) = v0 c
          ∧ r.2.mem ((c.tc : Thread Cert.FoxPrepBwdIdeal.nD Cert.FoxPrepBwdIdeal.τ).loc Cert.FoxPrepBwdIdeal.main_v0_1) = v1 c
          ∧ r.2.mem ((c.tc : Thread Cert.FoxPrepBwdIdeal.nD Cert.FoxPrepBwdIdeal.τ).loc Cert.FoxPrepBwdIdeal.main_arg0) = m ((c.tc : Thread Cert.FoxPrepBwdIdeal.nD Cert.FoxPrepBwdIdeal.τ).loc Cert.FoxPrepBwdIdeal.main_arg0)
          ∧ r.2.mem ((c.tc : Thread Cert.FoxPrepBwdIdeal.nD Cert.FoxPrepBwdIdeal.τ).loc Cert.FoxPrepBwdIdeal.main_arg1) = m ((c.tc : Thread Cert.FoxPrepBwdIdeal.nD Cert.FoxPrepBwdIdeal.τ).loc Cert.FoxPrepBwdIdeal.main_arg1)
          ∧ r.2.mem ((c.tc : Thread Cert.FoxPrepBwdIdeal.nD Cert.FoxPrepBwdIdeal.τ).loc Cert.FoxPrepBwdIdeal.main_arg2) = m ((c.tc : Thread Cert.FoxPrepBwdIdeal.nD Cert.FoxPrepBwdIdeal.τ).loc Cert.FoxPrepBwdIdeal.main_arg2)
          ∧ r.2.mem ((c.tc : Thread Cert.FoxPrepBwdIdeal.nD Cert.FoxPrepBwdIdeal.τ).loc Cert.FoxPrepBwdIdeal.main_arg3) = m ((c.tc : Thread Cert.FoxPrepBwdIdeal.nD Cert.FoxPrepBwdIdeal.τ).loc Cert.FoxPrepBwdIdeal.main_arg3)
          ∧ r.2.mem ((c.tc : Thread Cert.FoxPrepBwdIdeal.nD Cert.FoxPrepBwdIdeal.τ).loc Cert.FoxPrepBwdIdeal.main_arg4) = m ((c.tc : Thread Cert.FoxPrepBwdIdeal.nD Cert.FoxPrepBwdIdeal.τ).loc Cert.FoxPrepBwdIdeal.main_arg4))
      ∧ θ_run (Cert.FoxPrepBwdRefIdeal.defs (F := Ideal)) (onTc (τ := Cert.FoxPrepBwdRefIdeal.τ) (Cert.FoxPrepBwdRefIdeal.main (F := Ideal))) ⟨m', fun _ => 0, g'⟩ (fun r => ∀ c : Dev Cert.FoxPrepBwdRefIdeal.nD,
          r.2.mem ((c.tc : Thread Cert.FoxPrepBwdRefIdeal.nD Cert.FoxPrepBwdRefIdeal.τ).loc Cert.FoxPrepBwdRefIdeal.main_v20) = v0 c
          ∧ r.2.mem ((c.tc : Thread Cert.FoxPrepBwdRefIdeal.nD Cert.FoxPrepBwdRefIdeal.τ).loc Cert.FoxPrepBwdRefIdeal.main_v17) = v1 c
          ∧ r.2.mem ((c.tc : Thread Cert.FoxPrepBwdRefIdeal.nD Cert.FoxPrepBwdRefIdeal.τ).loc Cert.FoxPrepBwdRefIdeal.main_arg0) = m' ((c.tc : Thread Cert.FoxPrepBwdRefIdeal.nD Cert.FoxPrepBwdRefIdeal.τ).loc Cert.FoxPrepBwdRefIdeal.main_arg0)
          ∧ r.2.mem ((c.tc : Thread Cert.FoxPrepBwdRefIdeal.nD Cert.FoxPrepBwdRefIdeal.τ).loc Cert.FoxPrepBwdRefIdeal.main_arg1) = m' ((c.tc : Thread Cert.FoxPrepBwdRefIdeal.nD Cert.FoxPrepBwdRefIdeal.τ).loc Cert.FoxPrepBwdRefIdeal.main_arg1)
          ∧ r.2.mem ((c.tc : Thread Cert.FoxPrepBwdRefIdeal.nD Cert.FoxPrepBwdRefIdeal.τ).loc Cert.FoxPrepBwdRefIdeal.main_arg2) = m' ((c.tc : Thread Cert.FoxPrepBwdRefIdeal.nD Cert.FoxPrepBwdRefIdeal.τ).loc Cert.FoxPrepBwdRefIdeal.main_arg2)
          ∧ r.2.mem ((c.tc : Thread Cert.FoxPrepBwdRefIdeal.nD Cert.FoxPrepBwdRefIdeal.τ).loc Cert.FoxPrepBwdRefIdeal.main_arg3) = m' ((c.tc : Thread Cert.FoxPrepBwdRefIdeal.nD Cert.FoxPrepBwdRefIdeal.τ).loc Cert.FoxPrepBwdRefIdeal.main_arg3)
          ∧ r.2.mem ((c.tc : Thread Cert.FoxPrepBwdRefIdeal.nD Cert.FoxPrepBwdRefIdeal.τ).loc Cert.FoxPrepBwdRefIdeal.main_arg4) = m' ((c.tc : Thread Cert.FoxPrepBwdRefIdeal.nD Cert.FoxPrepBwdRefIdeal.τ).loc Cert.FoxPrepBwdRefIdeal.main_arg4))

def preserves_Chunk_ChunkIdeal : Prop :=
  True

def algebraic_ChunkIdeal_ChunkRefIdeal [hChunkIdeal : Cert.ChunkIdeal.Facts] [hChunkRefIdeal : Cert.ChunkRefIdeal.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)
      ∧ m' ((c.tc : Thread Cert.ChunkRefIdeal.nD Cert.ChunkRefIdeal.τ).loc Cert.ChunkRefIdeal.main_arg2) = m ((c.tc : Thread Cert.ChunkIdeal.nD Cert.ChunkIdeal.τ).loc Cert.ChunkIdeal.main_arg2)) →
    ∃ (v0 : (c : Dev Cert.ChunkIdeal.nD) → Buf (Elt Ideal) ((c.tc : Thread Cert.ChunkIdeal.nD Cert.ChunkIdeal.τ).loc Cert.ChunkIdeal.main_v0_0)) (v1 : (c : Dev Cert.ChunkIdeal.nD) → Buf (Elt Ideal) ((c.tc : Thread Cert.ChunkIdeal.nD Cert.ChunkIdeal.τ).loc Cert.ChunkIdeal.main_v0_1)) (v2 : (c : Dev Cert.ChunkIdeal.nD) → Buf (Elt Ideal) ((c.tc : Thread Cert.ChunkIdeal.nD Cert.ChunkIdeal.τ).loc Cert.ChunkIdeal.main_v0_2)) (v3 : (c : Dev Cert.ChunkIdeal.nD) → Buf (Elt Ideal) ((c.tc : Thread Cert.ChunkIdeal.nD Cert.ChunkIdeal.τ).loc Cert.ChunkIdeal.main_v0_3)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v0_0) = v0 c
          ∧ r.2.mem ((c.tc : Thread Cert.ChunkIdeal.nD Cert.ChunkIdeal.τ).loc Cert.ChunkIdeal.main_v0_1) = v1 c
          ∧ r.2.mem ((c.tc : Thread Cert.ChunkIdeal.nD Cert.ChunkIdeal.τ).loc Cert.ChunkIdeal.main_v0_2) = v2 c
          ∧ r.2.mem ((c.tc : Thread Cert.ChunkIdeal.nD Cert.ChunkIdeal.τ).loc Cert.ChunkIdeal.main_v0_3) = v3 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
          ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v43) = v0 c
          ∧ r.2.mem ((c.tc : Thread Cert.ChunkRefIdeal.nD Cert.ChunkRefIdeal.τ).loc Cert.ChunkRefIdeal.main_v50) = v1 c
          ∧ r.2.mem ((c.tc : Thread Cert.ChunkRefIdeal.nD Cert.ChunkRefIdeal.τ).loc Cert.ChunkRefIdeal.main_v52) = v2 c
          ∧ r.2.mem ((c.tc : Thread Cert.ChunkRefIdeal.nD Cert.ChunkRefIdeal.τ).loc Cert.ChunkRefIdeal.main_v53) = v3 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1)
          ∧ r.2.mem ((c.tc : Thread Cert.ChunkRefIdeal.nD Cert.ChunkRefIdeal.τ).loc Cert.ChunkRefIdeal.main_arg2) = m' ((c.tc : Thread Cert.ChunkRefIdeal.nD Cert.ChunkRefIdeal.τ).loc Cert.ChunkRefIdeal.main_arg2))

def Claim : Prop :=
  ∃ (hConvPool : Cert.ConvPool.Facts) (hConvPoolIdeal : Cert.ConvPoolIdeal.Facts) (hConvPoolRefIdeal : Cert.ConvPoolRefIdeal.Facts) (hHead : Cert.Head.Facts) (hHeadIdeal : Cert.HeadIdeal.Facts) (hHeadRefIdeal : Cert.HeadRefIdeal.Facts) (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hDwDown : Cert.DwDown.Facts) (hDwDownIdeal : Cert.DwDownIdeal.Facts) (hDwDownRefIdeal : Cert.DwDownRefIdeal.Facts) (hDwGate : Cert.DwGate.Facts) (hDwGateIdeal : Cert.DwGateIdeal.Facts) (hDwGateRefIdeal : Cert.DwGateRefIdeal.Facts) (hDu2 : Cert.Du2.Facts) (hDu2Ideal : Cert.Du2Ideal.Facts) (hDu2RefIdeal : Cert.Du2RefIdeal.Facts) (hDwOut : Cert.DwOut.Facts) (hDwOutIdeal : Cert.DwOutIdeal.Facts) (hDwOutRefIdeal : Cert.DwOutRefIdeal.Facts) (hDy : Cert.Dy.Facts) (hDyIdeal : Cert.DyIdeal.Facts) (hDyRefIdeal : Cert.DyRefIdeal.Facts) (hDwIn : Cert.DwIn.Facts) (hDwInIdeal : Cert.DwInIdeal.Facts) (hDwInRefIdeal : Cert.DwInRefIdeal.Facts) (hDu : Cert.Du.Facts) (hDuIdeal : Cert.DuIdeal.Facts) (hDuRefIdeal : Cert.DuRefIdeal.Facts) (hZin : Cert.Zin.Facts) (hZinIdeal : Cert.ZinIdeal.Facts) (hZinRefIdeal : Cert.ZinRefIdeal.Facts) (hOut : Cert.Out.Facts) (hOutIdeal : Cert.OutIdeal.Facts) (hOutRefIdeal : Cert.OutRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hFwdNorm : Cert.FwdNorm.Facts) (hFwdNormIdeal : Cert.FwdNormIdeal.Facts) (hFwdNormRefIdeal : Cert.FwdNormRefIdeal.Facts) (hFwdHead : Cert.FwdHead.Facts) (hFwdHeadIdeal : Cert.FwdHeadIdeal.Facts) (hFwdHeadRefIdeal : Cert.FwdHeadRefIdeal.Facts) (hFwdPool : Cert.FwdPool.Facts) (hFwdPoolIdeal : Cert.FwdPoolIdeal.Facts) (hFwdPoolRefIdeal : Cert.FwdPoolRefIdeal.Facts) (hLoss : Cert.Loss.Facts) (hLossIdeal : Cert.LossIdeal.Facts) (hLossRefIdeal : Cert.LossRefIdeal.Facts) (hOptOut : Cert.OptOut.Facts) (hOptOutIdeal : Cert.OptOutIdeal.Facts) (hOptOutRefIdeal : Cert.OptOutRefIdeal.Facts) (hOptGate : Cert.OptGate.Facts) (hOptGateIdeal : Cert.OptGateIdeal.Facts) (hOptGateRefIdeal : Cert.OptGateRefIdeal.Facts) (hOptDown : Cert.OptDown.Facts) (hOptDownIdeal : Cert.OptDownIdeal.Facts) (hOptDownRefIdeal : Cert.OptDownRefIdeal.Facts) (hSum8 : Cert.Sum8.Facts) (hSum8Ideal : Cert.Sum8Ideal.Facts) (hSum8RefIdeal : Cert.Sum8RefIdeal.Facts) (hOptSmall : Cert.OptSmall.Facts) (hOptSmallIdeal : Cert.OptSmallIdeal.Facts) (hOptSmallRefIdeal : Cert.OptSmallRefIdeal.Facts) (hFoxPrep : Cert.FoxPrep.Facts) (hFoxPrepIdeal : Cert.FoxPrepIdeal.Facts) (hFoxPrepRefIdeal : Cert.FoxPrepRefIdeal.Facts) (hFox : Cert.Fox.Facts) (hFoxIdeal : Cert.FoxIdeal.Facts) (hFoxRefIdeal : Cert.FoxRefIdeal.Facts) (hFoxPrepBwd : Cert.FoxPrepBwd.Facts) (hFoxPrepBwdIdeal : Cert.FoxPrepBwdIdeal.Facts) (hFoxPrepBwdRefIdeal : Cert.FoxPrepBwdRefIdeal.Facts) (hChunk : Cert.Chunk.Facts) (hChunkIdeal : Cert.ChunkIdeal.Facts) (hChunkRefIdeal : Cert.ChunkRefIdeal.Facts) (hPre_finite_fox : Cert.Pre_finite_fox.Facts) (hPre_smooth_foxprep : Cert.Pre_smooth_foxprep.Facts),
    quiescent_ConvPool (hConvPool := hConvPool)
    ∧ quiescent_ConvPoolIdeal (hConvPoolIdeal := hConvPoolIdeal)
    ∧ quiescent_ConvPoolRefIdeal (hConvPoolRefIdeal := hConvPoolRefIdeal)
    ∧ quiescent_Head (hHead := hHead)
    ∧ quiescent_HeadIdeal (hHeadIdeal := hHeadIdeal)
    ∧ quiescent_HeadRefIdeal (hHeadRefIdeal := hHeadRefIdeal)
    ∧ quiescent_Gate (hGate := hGate)
    ∧ quiescent_GateIdeal (hGateIdeal := hGateIdeal)
    ∧ quiescent_GateRefIdeal (hGateRefIdeal := hGateRefIdeal)
    ∧ quiescent_Norm (hNorm := hNorm)
    ∧ quiescent_NormIdeal (hNormIdeal := hNormIdeal)
    ∧ quiescent_NormRefIdeal (hNormRefIdeal := hNormRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_Du2 (hDu2 := hDu2)
    ∧ quiescent_Du2Ideal (hDu2Ideal := hDu2Ideal)
    ∧ quiescent_Du2RefIdeal (hDu2RefIdeal := hDu2RefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dy (hDy := hDy)
    ∧ quiescent_DyIdeal (hDyIdeal := hDyIdeal)
    ∧ quiescent_DyRefIdeal (hDyRefIdeal := hDyRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Du (hDu := hDu)
    ∧ quiescent_DuIdeal (hDuIdeal := hDuIdeal)
    ∧ quiescent_DuRefIdeal (hDuRefIdeal := hDuRefIdeal)
    ∧ quiescent_Zin (hZin := hZin)
    ∧ quiescent_ZinIdeal (hZinIdeal := hZinIdeal)
    ∧ quiescent_ZinRefIdeal (hZinRefIdeal := hZinRefIdeal)
    ∧ quiescent_Out (hOut := hOut)
    ∧ quiescent_OutIdeal (hOutIdeal := hOutIdeal)
    ∧ quiescent_OutRefIdeal (hOutRefIdeal := hOutRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_FwdNorm (hFwdNorm := hFwdNorm)
    ∧ quiescent_FwdNormIdeal (hFwdNormIdeal := hFwdNormIdeal)
    ∧ quiescent_FwdNormRefIdeal (hFwdNormRefIdeal := hFwdNormRefIdeal)
    ∧ quiescent_FwdHead (hFwdHead := hFwdHead)
    ∧ quiescent_FwdHeadIdeal (hFwdHeadIdeal := hFwdHeadIdeal)
    ∧ quiescent_FwdHeadRefIdeal (hFwdHeadRefIdeal := hFwdHeadRefIdeal)
    ∧ quiescent_FwdPool (hFwdPool := hFwdPool)
    ∧ quiescent_FwdPoolIdeal (hFwdPoolIdeal := hFwdPoolIdeal)
    ∧ quiescent_FwdPoolRefIdeal (hFwdPoolRefIdeal := hFwdPoolRefIdeal)
    ∧ quiescent_Loss (hLoss := hLoss)
    ∧ quiescent_LossIdeal (hLossIdeal := hLossIdeal)
    ∧ quiescent_LossRefIdeal (hLossRefIdeal := hLossRefIdeal)
    ∧ quiescent_OptOut (hOptOut := hOptOut)
    ∧ quiescent_OptOutIdeal (hOptOutIdeal := hOptOutIdeal)
    ∧ quiescent_OptOutRefIdeal (hOptOutRefIdeal := hOptOutRefIdeal)
    ∧ quiescent_OptGate (hOptGate := hOptGate)
    ∧ quiescent_OptGateIdeal (hOptGateIdeal := hOptGateIdeal)
    ∧ quiescent_OptGateRefIdeal (hOptGateRefIdeal := hOptGateRefIdeal)
    ∧ quiescent_OptDown (hOptDown := hOptDown)
    ∧ quiescent_OptDownIdeal (hOptDownIdeal := hOptDownIdeal)
    ∧ quiescent_OptDownRefIdeal (hOptDownRefIdeal := hOptDownRefIdeal)
    ∧ quiescent_Sum8 (hSum8 := hSum8)
    ∧ quiescent_Sum8Ideal (hSum8Ideal := hSum8Ideal)
    ∧ quiescent_Sum8RefIdeal (hSum8RefIdeal := hSum8RefIdeal)
    ∧ quiescent_OptSmall (hOptSmall := hOptSmall)
    ∧ quiescent_OptSmallIdeal (hOptSmallIdeal := hOptSmallIdeal)
    ∧ quiescent_OptSmallRefIdeal (hOptSmallRefIdeal := hOptSmallRefIdeal)
    ∧ quiescent_FoxPrep (hFoxPrep := hFoxPrep)
    ∧ quiescent_FoxPrepIdeal (hFoxPrepIdeal := hFoxPrepIdeal)
    ∧ quiescent_FoxPrepRefIdeal (hFoxPrepRefIdeal := hFoxPrepRefIdeal)
    ∧ quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_FoxPrepBwd (hFoxPrepBwd := hFoxPrepBwd)
    ∧ quiescent_FoxPrepBwdIdeal (hFoxPrepBwdIdeal := hFoxPrepBwdIdeal)
    ∧ quiescent_FoxPrepBwdIdeal_pre_smooth_foxprep (hFoxPrepBwdIdeal := hFoxPrepBwdIdeal) (hPre_smooth_foxprep := hPre_smooth_foxprep)
    ∧ quiescent_FoxPrepBwdRefIdeal (hFoxPrepBwdRefIdeal := hFoxPrepBwdRefIdeal)
    ∧ quiescent_FoxPrepBwdRefIdeal_pre_smooth_foxprep (hFoxPrepBwdRefIdeal := hFoxPrepBwdRefIdeal) (hPre_smooth_foxprep := hPre_smooth_foxprep)
    ∧ quiescent_Chunk (hChunk := hChunk)
    ∧ quiescent_ChunkIdeal (hChunkIdeal := hChunkIdeal)
    ∧ quiescent_ChunkRefIdeal (hChunkRefIdeal := hChunkRefIdeal)
    ∧ preserves_ConvPool_ConvPoolIdeal
    ∧ algebraic_ConvPoolIdeal_ConvPoolRefIdeal (hConvPoolIdeal := hConvPoolIdeal) (hConvPoolRefIdeal := hConvPoolRefIdeal)
    ∧ preserves_Head_HeadIdeal
    ∧ algebraic_HeadIdeal_HeadRefIdeal (hHeadIdeal := hHeadIdeal) (hHeadRefIdeal := hHeadRefIdeal)
    ∧ preserves_Gate_GateIdeal
    ∧ algebraic_GateIdeal_GateRefIdeal (hGateIdeal := hGateIdeal) (hGateRefIdeal := hGateRefIdeal)
    ∧ preserves_Norm_NormIdeal
    ∧ algebraic_NormIdeal_NormRefIdeal (hNormIdeal := hNormIdeal) (hNormRefIdeal := hNormRefIdeal)
    ∧ preserves_DwDown_DwDownIdeal
    ∧ algebraic_DwDownIdeal_DwDownRefIdeal (hDwDownIdeal := hDwDownIdeal) (hDwDownRefIdeal := hDwDownRefIdeal)
    ∧ preserves_DwGate_DwGateIdeal
    ∧ algebraic_DwGateIdeal_DwGateRefIdeal (hDwGateIdeal := hDwGateIdeal) (hDwGateRefIdeal := hDwGateRefIdeal)
    ∧ preserves_Du2_Du2Ideal
    ∧ algebraic_Du2Ideal_Du2RefIdeal (hDu2Ideal := hDu2Ideal) (hDu2RefIdeal := hDu2RefIdeal)
    ∧ preserves_DwOut_DwOutIdeal
    ∧ algebraic_DwOutIdeal_DwOutRefIdeal (hDwOutIdeal := hDwOutIdeal) (hDwOutRefIdeal := hDwOutRefIdeal)
    ∧ preserves_Dy_DyIdeal
    ∧ algebraic_DyIdeal_DyRefIdeal (hDyIdeal := hDyIdeal) (hDyRefIdeal := hDyRefIdeal)
    ∧ preserves_DwIn_DwInIdeal
    ∧ algebraic_DwInIdeal_DwInRefIdeal (hDwInIdeal := hDwInIdeal) (hDwInRefIdeal := hDwInRefIdeal)
    ∧ preserves_Du_DuIdeal
    ∧ algebraic_DuIdeal_DuRefIdeal (hDuIdeal := hDuIdeal) (hDuRefIdeal := hDuRefIdeal)
    ∧ preserves_Zin_ZinIdeal
    ∧ algebraic_ZinIdeal_ZinRefIdeal (hZinIdeal := hZinIdeal) (hZinRefIdeal := hZinRefIdeal)
    ∧ preserves_Out_OutIdeal
    ∧ algebraic_OutIdeal_OutRefIdeal (hOutIdeal := hOutIdeal) (hOutRefIdeal := hOutRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_FwdNorm_FwdNormIdeal
    ∧ algebraic_FwdNormIdeal_FwdNormRefIdeal (hFwdNormIdeal := hFwdNormIdeal) (hFwdNormRefIdeal := hFwdNormRefIdeal)
    ∧ preserves_FwdHead_FwdHeadIdeal
    ∧ algebraic_FwdHeadIdeal_FwdHeadRefIdeal (hFwdHeadIdeal := hFwdHeadIdeal) (hFwdHeadRefIdeal := hFwdHeadRefIdeal)
    ∧ preserves_FwdPool_FwdPoolIdeal
    ∧ algebraic_FwdPoolIdeal_FwdPoolRefIdeal (hFwdPoolIdeal := hFwdPoolIdeal) (hFwdPoolRefIdeal := hFwdPoolRefIdeal)
    ∧ preserves_Loss_LossIdeal
    ∧ algebraic_LossIdeal_LossRefIdeal (hLossIdeal := hLossIdeal) (hLossRefIdeal := hLossRefIdeal)
    ∧ preserves_OptOut_OptOutIdeal
    ∧ algebraic_OptOutIdeal_OptOutRefIdeal (hOptOutIdeal := hOptOutIdeal) (hOptOutRefIdeal := hOptOutRefIdeal)
    ∧ preserves_OptGate_OptGateIdeal
    ∧ algebraic_OptGateIdeal_OptGateRefIdeal (hOptGateIdeal := hOptGateIdeal) (hOptGateRefIdeal := hOptGateRefIdeal)
    ∧ preserves_OptDown_OptDownIdeal
    ∧ algebraic_OptDownIdeal_OptDownRefIdeal (hOptDownIdeal := hOptDownIdeal) (hOptDownRefIdeal := hOptDownRefIdeal)
    ∧ preserves_Sum8_Sum8Ideal
    ∧ algebraic_Sum8Ideal_Sum8RefIdeal (hSum8Ideal := hSum8Ideal) (hSum8RefIdeal := hSum8RefIdeal)
    ∧ preserves_OptSmall_OptSmallIdeal
    ∧ algebraic_OptSmallIdeal_OptSmallRefIdeal (hOptSmallIdeal := hOptSmallIdeal) (hOptSmallRefIdeal := hOptSmallRefIdeal)
    ∧ preserves_FoxPrep_FoxPrepIdeal
    ∧ algebraic_FoxPrepIdeal_FoxPrepRefIdeal (hFoxPrepIdeal := hFoxPrepIdeal) (hFoxPrepRefIdeal := hFoxPrepRefIdeal)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ preserves_FoxPrepBwd_FoxPrepBwdIdeal
    ∧ algebraic_FoxPrepBwdIdeal_FoxPrepBwdRefIdeal_pre_smooth_foxprep (hFoxPrepBwdIdeal := hFoxPrepBwdIdeal) (hFoxPrepBwdRefIdeal := hFoxPrepBwdRefIdeal) (hPre_smooth_foxprep := hPre_smooth_foxprep)
    ∧ preserves_Chunk_ChunkIdeal
    ∧ algebraic_ChunkIdeal_ChunkRefIdeal (hChunkIdeal := hChunkIdeal) (hChunkRefIdeal := hChunkRefIdeal)
-- ==== Pre_finite_fox.lean ====
abbrev S2048x5760 : Shape := ⟨2, ![2048, 5760]⟩
abbrev S2048x128 : Shape := ⟨2, ![2048, 128]⟩
abbrev S128x2048 : Shape := ⟨2, ![128, 2048]⟩
abbrev S2x1x128 : Shape := ⟨3, ![2, 1, 128]⟩
abbrev S2048x1024 : Shape := ⟨2, ![2048, 1024]⟩
abbrev S2048x4 : Shape := ⟨2, ![2048, 4]⟩
abbrev S4x2048 : Shape := ⟨2, ![4, 2048]⟩
abbrev S1x1x128 : Shape := ⟨3, ![1, 1, 128]⟩
abbrev S1x128 : Shape := ⟨2, ![1, 128]⟩
abbrev S_ : Shape := ⟨0, ![]⟩

class Facts : Prop where
  slices_S2048x5760_S2048x1024_0_4096 : S2048x5760.Slices ![0, 4096] S2048x1024
  slices_S2048x128_S2048x4_0_0 : S2048x128.Slices ![0, 0] S2048x4
  slices_S128x2048_S4x2048_0_0 : S128x2048.Slices ![0, 0] S4x2048
  slices_S2x1x128_S1x1x128_0_0_0 : S2x1x128.Slices ![0, 0, 0] S1x1x128
  shapeCasts_S1x1x128_S1x128 : S1x1x128.ShapeCasts S1x128
  bcast_S_S2048x1024 : S_.BroadcastsInDim S2048x1024 (![] : Fin 0 → Fin S2048x1024.rank)
  bcast_S_S2048x4 : S_.BroadcastsInDim S2048x4 (![] : Fin 0 → Fin S2048x4.rank)
  bcast_S_S4x2048 : S_.BroadcastsInDim S4x2048 (![] : Fin 0 → Fin S4x2048.rank)
  bcast_S_S1x128 : S_.BroadcastsInDim S1x128 (![] : Fin 0 → Fin S1x128.rank)

variable [Facts]

def fn_part1 {F : FTy → Type} [FloatOps F] (main_v9 : IVec S2048x1024 1) (main_v12 : IVec S2048x4 1) (main_v15 : IVec S4x2048 1) (main_v18 : IVec S1x128 1) (main_v19 : FVec F S1x128 .f32) : IVec S2048x1024 1 × IVec S2048x4 1 × IVec S4x2048 1 × IVec S1x128 1 × IVec S1x128 1 :=
  let main_cst_3 : FVec F S_ .f32 := constant S_ .f32 0x7F800000#32
  let main_v20 : FVec F S1x128 .f32 := broadcastInDim S1x128 ![] bcast_S_S1x128 main_cst_3
  let main_v21 : IVec S1x128 1 := cmpf .olt main_v19 main_v20
  (main_v9, main_v12, main_v15, main_v18, main_v21)

def fn {F : FTy → Type} [FloatOps F] (main_arg0 : FVec F S2048x5760 .f32) (main_arg1 : FVec F S2048x128 .f32) (main_arg2 : FVec F S128x2048 .f32) (main_arg3 : FVec F S2x1x128 .f32) (main_arg4 : FVec F S2x1x128 .f32) : IVec S2048x1024 1 × IVec S2048x4 1 × IVec S4x2048 1 × IVec S1x128 1 × IVec S1x128 1 :=
  let main_v0 : FVec F S2048x1024 .f32 := (extractStridedSlice S2048x1024 ![0, 4096] · slices_S2048x5760_S2048x1024_0_4096) main_arg0
  let main_v1 : FVec F S2048x4 .f32 := (extractStridedSlice S2048x4 ![0, 0] · slices_S2048x128_S2048x4_0_0) main_arg1
  let main_v2 : FVec F S4x2048 .f32 := (extractStridedSlice S4x2048 ![0, 0] · slices_S128x2048_S4x2048_0_0) main_arg2
  let main_v3 : FVec F S1x1x128 .f32 := (extractStridedSlice S1x1x128 ![0, 0, 0] · slices_S2x1x128_S1x1x128_0_0_0) main_arg3
  let main_v4 : FVec F S1x128 .f32 := shapeCast S1x128 main_v3 shapeCasts_S1x1x128_S1x128
  let main_v5 : FVec F S1x1x128 .f32 := (extractStridedSlice S1x1x128 ![0, 0, 0] · slices_S2x1x128_S1x1x128_0_0_0) main_arg4
  let main_v6 : FVec F S1x128 .f32 := shapeCast S1x128 main_v5 shapeCasts_S1x1x128_S1x128
  let main_v7 : FVec F S2048x1024 .f32 := Host.absf main_v0
  let main_cst : FVec F S_ .f32 := constant S_ .f32 0x7F800000#32
  let main_v8 : FVec F S2048x1024 .f32 := broadcastInDim S2048x1024 ![] bcast_S_S2048x1024 main_cst
  let main_v9 : IVec S2048x1024 1 := cmpf .olt main_v7 main_v8
  let main_v10 : FVec F S2048x4 .f32 := Host.absf main_v1
  let main_cst_0 : FVec F S_ .f32 := constant S_ .f32 0x7F800000#32
  let main_v11 : FVec F S2048x4 .f32 := broadcastInDim S2048x4 ![] bcast_S_S2048x4 main_cst_0
  let main_v12 : IVec S2048x4 1 := cmpf .olt main_v10 main_v11
  let main_v13 : FVec F S4x2048 .f32 := Host.absf main_v2
  let main_cst_1 : FVec F S_ .f32 := constant S_ .f32 0x7F800000#32
  let main_v14 : FVec F S4x2048 .f32 := broadcastInDim S4x2048 ![] bcast_S_S4x2048 main_cst_1
  let main_v15 : IVec S4x2048 1 := cmpf .olt main_v13 main_v14
  let main_v16 : FVec F S1x128 .f32 := Host.absf main_v4
  let main_cst_2 : FVec F S_ .f32 := constant S_ .f32 0x7F800000#32
  let main_v17 : FVec F S1x128 .f32 := broadcastInDim S1x128 ![] bcast_S_S1x128 main_cst_2
  let main_v18 : IVec S1x128 1 := cmpf .olt main_v16 main_v17
  let main_v19 : FVec F S1x128 .f32 := Host.absf main_v6
  fn_part1 (F := F) main_v9 main_v12 main_v15 main_v18 main_v19
-- ==== Pre_smooth_foxprep.lean ====
abbrev S2048x5760 : Shape := ⟨2, ![2048, 5760]⟩
abbrev S2x1x128 : Shape := ⟨3, ![2, 1, 128]⟩
abbrev S4x2048x128 : Shape := ⟨3, ![4, 2048, 128]⟩
abbrev S4x8x2048 : Shape := ⟨3, ![4, 8, 2048]⟩
abbrev S2048x128 : Shape := ⟨2, ![2048, 128]⟩
abbrev S1x1x128 : Shape := ⟨3, ![1, 1, 128]⟩
abbrev S1x128 : Shape := ⟨2, ![1, 128]⟩
abbrev S_ : Shape := ⟨0, ![]⟩

class Facts : Prop where
  slices_S2048x5760_S2048x128_0_5632 : S2048x5760.Slices ![0, 5632] S2048x128
  slices_S2x1x128_S1x1x128_0_0_0 : S2x1x128.Slices ![0, 0, 0] S1x1x128
  shapeCasts_S1x1x128_S1x128 : S1x1x128.ShapeCasts S1x128
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S_S4x2048x128 : S_.BroadcastsInDim S4x2048x128 (![] : Fin 0 → Fin S4x2048x128.rank)
  bcast_S_S4x8x2048 : S_.BroadcastsInDim S4x8x2048 (![] : Fin 0 → Fin S4x8x2048.rank)

variable [Facts]

def fn {F : FTy → Type} [FloatOps F] (main_arg0 : FVec F S2048x5760 .f32) (main_arg1 : FVec F S2x1x128 .f32) (main_arg2 : FVec F S4x2048x128 .f32) (main_arg3 : FVec F S4x8x2048 .f32) (main_arg4 : FVec F S4x2048x128 .f32) : IVec S2048x128 1 × IVec S4x2048x128 1 × IVec S4x8x2048 1 :=
  let main_v0 : FVec F S2048x128 .f32 := (extractStridedSlice S2048x128 ![0, 5632] · slices_S2048x5760_S2048x128_0_5632) main_arg0
  let main_v1 : FVec F S1x1x128 .f32 := (extractStridedSlice S1x1x128 ![0, 0, 0] · slices_S2x1x128_S1x1x128_0_0_0) main_arg1
  let main_v2 : FVec F S1x128 .f32 := shapeCast S1x128 main_v1 shapeCasts_S1x1x128_S1x128
  let main_v3 : FVec F S2048x128 .f32 := broadcastInDim S2048x128 ![0, 1] bcast_S1x128_S2048x128_0_1 main_v2
  let main_v4 : FVec F S2048x128 .f32 := addf main_v0 main_v3
  let main_cst : FVec F S_ .f32 := constant S_ .f32 0x00000000#32
  let main_v5 : FVec F S2048x128 .f32 := broadcastInDim S2048x128 ![] bcast_S_S2048x128 main_cst
  let main_v6 : IVec S2048x128 1 := cmpf .une main_v4 main_v5
  let main_v7 : FVec F S4x2048x128 .f32 := Host.absf main_arg2
  let main_cst_0 : FVec F S_ .f32 := constant S_ .f32 0x7F800000#32
  let main_v8 : FVec F S4x2048x128 .f32 := broadcastInDim S4x2048x128 ![] bcast_S_S4x2048x128 main_cst_0
  let main_v9 : IVec S4x2048x128 1 := cmpf .olt main_v7 main_v8
  let main_v10 : FVec F S4x8x2048 .f32 := Host.absf main_arg3
  let main_cst_1 : FVec F S_ .f32 := constant S_ .f32 0x7F800000#32
  let main_v11 : FVec F S4x8x2048 .f32 := broadcastInDim S4x8x2048 ![] bcast_S_S4x8x2048 main_cst_1
  let main_v12 : IVec S4x8x2048 1 := cmpf .olt main_v10 main_v11
  (main_v6, main_v9, main_v12)
-- ==== ConvPool.lean ====
abbrev S2048x5760 : Shape := ⟨2, ![2048, 5760]⟩
abbrev S2x3x512 : Shape := ⟨3, ![2, 3, 512]⟩
abbrev S2x4x128x128 : Shape := ⟨4, ![2, 4, 128, 128]⟩
abbrev S2x1x512 : Shape := ⟨3, ![2, 1, 512]⟩
abbrev S2048x2048 : Shape := ⟨2, ![2048, 2048]⟩
abbrev S2048x512 : Shape := ⟨2, ![2048, 512]⟩
abbrev S3x512 : Shape := ⟨2, ![3, 512]⟩
abbrev S4x128x128 : Shape := ⟨3, ![4, 128, 128]⟩
abbrev S1x512 : Shape := ⟨2, ![1, 512]⟩
abbrev S2048x128 : Shape := ⟨2, ![2048, 128]⟩
abbrev S1x3x128 : Shape := ⟨3, ![1, 3, 128]⟩
abbrev S1x1x128x128 : Shape := ⟨4, ![1, 1, 128, 128]⟩
abbrev S1x1x128 : Shape := ⟨3, ![1, 1, 128]⟩
abbrev S3x128 : Shape := ⟨2, ![3, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩

abbrev nBuf : Space → Nat
  | .hbm => 12
  | .vmem => 32
  | .smem => 0
  | _ => 0

abbrev bufTy : (tb : Table) → Fin (tcTables nBuf tb) → BufTy
  | .hbm, ⟨0, _⟩ => ⟨S2048x5760, .f32⟩
  | .hbm, ⟨1, _⟩ => ⟨S2x3x512, .f32⟩
  | .hbm, ⟨2, _⟩ => ⟨S2x4x128x128, .f32⟩
  | .hbm, ⟨3, _⟩ => ⟨S2x1x512, .f32⟩
  | .hbm, ⟨4, _⟩ => ⟨S2048x2048, .f32⟩
  | .hbm, ⟨5, _⟩ => ⟨S2048x512, .bf16⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S3x512, .f32⟩
  | .hbm, ⟨10, _⟩ => ⟨S4x128x128, .f32⟩
  | .hbm, ⟨11, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x3x128, .f32⟩
  | .local _ .vmem, ⟨9, _⟩ => ⟨S1x3x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128, .f32⟩
  | .local _ .vmem, ⟨13, _⟩ => ⟨S1x1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S3x128, .f32⟩
  | .local _ .vmem, ⟨27, _⟩ => ⟨S3x128, .f32⟩
  | .local _ .vmem, ⟨28, _⟩ => ⟨S1x128x128, .f32⟩
  | .local _ .vmem, ⟨29, _⟩ => ⟨S1x128x128, .f32⟩
  | .local _ .vmem, ⟨30, _⟩ => ⟨S1x128, .f32⟩
  | .local _ .vmem, ⟨31, _⟩ => ⟨S1x128, .f32⟩
  | _, _ => ⟨S2048x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ConvPoolRefIdeal.lean ====
abbrev S2048x5760 : Shape := ⟨2, ![2048, 5760]⟩
abbrev S2x3x512 : Shape := ⟨3, ![2, 3, 512]⟩
abbrev S2x4x128x128 : Shape := ⟨4, ![2, 4, 128, 128]⟩
abbrev S2x1x512 : Shape := ⟨3, ![2, 1, 512]⟩
abbrev S2048x2048 : Shape := ⟨2, ![2048, 2048]⟩
abbrev S2048x512 : Shape := ⟨2, ![2048, 512]⟩
abbrev S1x3x512 : Shape := ⟨3, ![1, 3, 512]⟩
abbrev S3x512 : Shape := ⟨2, ![3, 512]⟩
abbrev S1x4x128x128 : Shape := ⟨4, ![1, 4, 128, 128]⟩
abbrev S4x128x128 : Shape := ⟨3, ![4, 128, 128]⟩
abbrev S1x1x512 : Shape := ⟨3, ![1, 1, 512]⟩
abbrev S1x512 : Shape := ⟨2, ![1, 512]⟩
abbrev S512 : Shape := ⟨1, ![512]⟩
abbrev S_ : Shape := ⟨0, ![]⟩
abbrev S2x512 : Shape := ⟨2, ![2, 512]⟩
abbrev S2046x512 : Shape := ⟨2, ![2046, 512]⟩
abbrev S2047x512 : Shape := ⟨2, ![2047, 512]⟩
abbrev S0x512 : Shape := ⟨2, ![0, 512]⟩
abbrev S2048 : Shape := ⟨1, ![2048]⟩
abbrev S2048x1 : Shape := ⟨2, ![2048, 1]⟩
abbrev S2048x128 : Shape := ⟨2, ![2048, 128]⟩
abbrev S0x128 : Shape := ⟨2, ![0, 128]⟩
abbrev S1x128 : Shape := ⟨2, ![1, 128]⟩
abbrev S2047x128 : Shape := ⟨2, ![2047, 128]⟩
abbrev S1x128x128 : Shape := ⟨3, ![1, 128, 128]⟩
abbrev S128x128 : Shape := ⟨2, ![128, 128]⟩
abbrev S2x128 : Shape := ⟨2, ![2, 128]⟩
abbrev S2046x128 : Shape := ⟨2, ![2046, 128]⟩
abbrev S3x128 : Shape := ⟨2, ![3, 128]⟩
abbrev S2045x128 : Shape := ⟨2, ![2045, 128]⟩
abbrev S4x128 : Shape := ⟨2, ![4, 128]⟩
abbrev S2044x128 : Shape := ⟨2, ![2044, 128]⟩
abbrev S5x128 : Shape := ⟨2, ![5, 128]⟩
abbrev S2043x128 : Shape := ⟨2, ![2043, 128]⟩
abbrev S6x128 : Shape := ⟨2, ![6, 128]⟩
abbrev S2042x128 : Shape := ⟨2, ![2042, 128]⟩
abbrev S7x128 : Shape := ⟨2, ![7, 128]⟩
abbrev S2041x128 : Shape := ⟨2, ![2041, 128]⟩
abbrev S8x128 : Shape := ⟨2, ![8, 128]⟩
abbrev S2040x128 : Shape := ⟨2, ![2040, 128]⟩
abbrev S9x128 : Shape := ⟨2, ![9, 128]⟩
abbrev S2039x128 : Shape := ⟨2, ![2039, 128]⟩
abbrev S10x128 : Shape := ⟨2, ![10, 128]⟩
abbrev S2038x128 : Shape := ⟨2, ![2038, 128]⟩
abbrev S11x128 : Shape := ⟨2, ![11, 128]⟩
abbrev S2037x128 : Shape := ⟨2, ![2037, 128]⟩
abbrev S12x128 : Shape := ⟨2, ![12, 128]⟩
abbrev S2036x128 : Shape := ⟨2, ![2036, 128]⟩
abbrev S13x128 : Shape := ⟨2, ![13, 128]⟩
abbrev S2035x128 : Shape := ⟨2, ![2035, 128]⟩
abbrev S14x128 : Shape := ⟨2, ![14, 128]⟩
abbrev S2034x128 : Shape := ⟨2, ![2034, 128]⟩
abbrev S15x128 : Shape := ⟨2, ![15, 128]⟩
abbrev S2033x128 : Shape := ⟨2, ![2033, 128]⟩

abbrev nBuf : Space → Nat
  | .hbm => 585
  | .vmem => 0
  | .smem => 0
  | _ => 0

abbrev hbmTy0_0 (i : Nat) : BufTy := match i % 128 with
  | 0 => ⟨S2048x5760, .f32⟩
  | 1 => ⟨S2x3x512, .f32⟩
  | 2 => ⟨S2x4x128x128, .f32⟩
  | 3 => ⟨S2x1x512, .f32⟩
  | 4 => ⟨S2048x2048, .f32⟩
  | 5 => ⟨S2048x512, .f32⟩
  | 6 => ⟨S2048x512, .f32⟩
  | 7 => ⟨S2048x512, .f32⟩
  | 8 => ⟨S2048x512, .f32⟩
  | 9 => ⟨S1x3x512, .f32⟩
  | 10 => ⟨S3x512, .f32⟩
  | 11 => ⟨S1x4x128x128, .f32⟩
  | 12 => ⟨S4x128x128, .f32⟩
  | 13 => ⟨S1x1x512, .f32⟩
  | 14 => ⟨S1x512, .f32⟩
  | 15 => ⟨S2048x512, .f32⟩
  | 16 => ⟨S1x512, .f32⟩
  | 17 => ⟨S512, .f32⟩
  | 18 => ⟨S_, .f32⟩
  | 19 => ⟨S2x512, .f32⟩
  | 20 => ⟨S2046x512, .f32⟩
  | 21 => ⟨S2048x512, .f32⟩
  | 22 => ⟨S_, .f32⟩
  | 23 => ⟨S2x512, .f32⟩
  | 24 => ⟨S1x512, .f32⟩
  | 25 => ⟨S2048x512, .f32⟩
  | 26 => ⟨S2048x512, .f32⟩
  | 27 => ⟨S_, .f32⟩
  | 28 => ⟨S2048x512, .f32⟩
  | 29 => ⟨S2048x512, .f32⟩
  | 30 => ⟨S1x512, .f32⟩
  | 31 => ⟨S512, .f32⟩
  | 32 => ⟨S_, .f32⟩
  | 33 => ⟨S1x512, .f32⟩
  | 34 => ⟨S2047x512, .f32⟩
  | 35 => ⟨S2048x512, .f32⟩
  | 36 => ⟨S_, .f32⟩
  | 37 => ⟨S1x512, .f32⟩
  | 38 => ⟨S1x512, .f32⟩
  | 39 => ⟨S2048x512, .f32⟩
  | 40 => ⟨S2048x512, .f32⟩
  | 41 => ⟨S2048x512, .f32⟩
  | 42 => ⟨S1x512, .f32⟩
  | 43 => ⟨S512, .f32⟩
  | 44 => ⟨S_, .f32⟩
  | 45 => ⟨S0x512, .f32⟩
  | 46 => ⟨S2048x512, .f32⟩
  | 47 => ⟨S_, .f32⟩
  | 48 => ⟨S0x512, .f32⟩
  | 49 => ⟨S1x512, .f32⟩
  | 50 => ⟨S2048x512, .f32⟩
  | 51 => ⟨S2048x512, .f32⟩
  | 52 => ⟨S2048x512, .f32⟩
  | 53 => ⟨S2048, .i32⟩
  | 54 => ⟨S2048, .f32⟩
  | 55 => ⟨S2048x1, .f32⟩
  | 56 => ⟨S2048x128, .f32⟩
  | 57 => ⟨S_, .f32⟩
  | 58 => ⟨S0x128, .f32⟩
  | 59 => ⟨S2048x128, .f32⟩
  | 60 => ⟨S_, .f32⟩
  | 61 => ⟨S0x128, .f32⟩
  | 62 => ⟨S_, .f32⟩
  | 63 => ⟨S2048x128, .f32⟩
  | 64 => ⟨S2048x128, .f32⟩
  | 65 => ⟨S_, .f32⟩
  | 66 => ⟨S1x128, .f32⟩
  | 67 => ⟨S2047x128, .f32⟩
  | 68 => ⟨S2048x128, .f32⟩
  | 69 => ⟨S_, .f32⟩
  | 70 => ⟨S1x128, .f32⟩
  | 71 => ⟨S2048x128, .f32⟩
  | 72 => ⟨S_, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x128, .f32⟩
  | 79 => ⟨S2048x128, .f32⟩
  | 80 => ⟨S2048x128, .f32⟩
  | 81 => ⟨S1x128x128, .f32⟩
  | 82 => ⟨S128x128, .f32⟩
  | 83 => ⟨S2048x128, .f32⟩
  | 84 => ⟨S2048x128, .f32⟩
  | 85 => ⟨S_, .f32⟩
  | 86 => ⟨S0x128, .f32⟩
  | 87 => ⟨S2048x128, .f32⟩
  | 88 => ⟨S_, .f32⟩
  | 89 => ⟨S0x128, .f32⟩
  | 90 => ⟨S_, .f32⟩
  | 91 => ⟨S2048x128, .f32⟩
  | 92 => ⟨S2048x128, .f32⟩
  | 93 => ⟨S_, .f32⟩
  | 94 => ⟨S1x128, .f32⟩
  | 95 => ⟨S2047x128, .f32⟩
  | 96 => ⟨S2048x128, .f32⟩
  | 97 => ⟨S_, .f32⟩
  | 98 => ⟨S1x128, .f32⟩
  | 99 => ⟨S2048x128, .f32⟩
  | 100 => ⟨S_, .f32⟩
  | 101 => ⟨S2x128, .f32⟩
  | 102 => ⟨S2046x128, .f32⟩
  | 103 => ⟨S2048x128, .f32⟩
  | 104 => ⟨S_, .f32⟩
  | 105 => ⟨S2x128, .f32⟩
  | 106 => ⟨S2048x128, .f32⟩
  | 107 => ⟨S_, .f32⟩
  | 108 => ⟨S3x128, .f32⟩
  | 109 => ⟨S2045x128, .f32⟩
  | 110 => ⟨S2048x128, .f32⟩
  | 111 => ⟨S_, .f32⟩
  | 112 => ⟨S3x128, .f32⟩
  | 113 => ⟨S2048x128, .f32⟩
  | 114 => ⟨S_, .f32⟩
  | 115 => ⟨S2048x1, .f32⟩
  | 116 => ⟨S2048x1, .f32⟩
  | 117 => ⟨S_, .f32⟩
  | 118 => ⟨S2048x1, .f32⟩
  | 119 => ⟨S2048x1, .f32⟩
  | 120 => ⟨S2048x128, .f32⟩
  | 121 => ⟨S2048x128, .f32⟩
  | 122 => ⟨S2048x128, .f32⟩
  | 123 => ⟨S1x128x128, .f32⟩
  | 124 => ⟨S128x128, .f32⟩
  | 125 => ⟨S2048x128, .f32⟩
  | 126 => ⟨S2048x128, .f32⟩
  | 127 => ⟨S_, .f32⟩
  | _ => ⟨S2048x5760, .f32⟩

abbrev hbmTy0_1 (i : Nat) : BufTy := match i % 128 with
  | 0 => ⟨S0x128, .f32⟩
  | 1 => ⟨S2048x128, .f32⟩
  | 2 => ⟨S_, .f32⟩
  | 3 => ⟨S0x128, .f32⟩
  | 4 => ⟨S_, .f32⟩
  | 5 => ⟨S2048x128, .f32⟩
  | 6 => ⟨S2048x128, .f32⟩
  | 7 => ⟨S_, .f32⟩
  | 8 => ⟨S1x128, .f32⟩
  | 9 => ⟨S2047x128, .f32⟩
  | 10 => ⟨S2048x128, .f32⟩
  | 11 => ⟨S_, .f32⟩
  | 12 => ⟨S1x128, .f32⟩
  | 13 => ⟨S2048x128, .f32⟩
  | 14 => ⟨S_, .f32⟩
  | 15 => ⟨S2x128, .f32⟩
  | 16 => ⟨S2046x128, .f32⟩
  | 17 => ⟨S2048x128, .f32⟩
  | 18 => ⟨S_, .f32⟩
  | 19 => ⟨S2x128, .f32⟩
  | 20 => ⟨S2048x128, .f32⟩
  | 21 => ⟨S_, .f32⟩
  | 22 => ⟨S3x128, .f32⟩
  | 23 => ⟨S2045x128, .f32⟩
  | 24 => ⟨S2048x128, .f32⟩
  | 25 => ⟨S_, .f32⟩
  | 26 => ⟨S3x128, .f32⟩
  | 27 => ⟨S2048x128, .f32⟩
  | 28 => ⟨S_, .f32⟩
  | 29 => ⟨S4x128, .f32⟩
  | 30 => ⟨S2044x128, .f32⟩
  | 31 => ⟨S2048x128, .f32⟩
  | 32 => ⟨S_, .f32⟩
  | 33 => ⟨S4x128, .f32⟩
  | 34 => ⟨S2048x128, .f32⟩
  | 35 => ⟨S_, .f32⟩
  | 36 => ⟨S5x128, .f32⟩
  | 37 => ⟨S2043x128, .f32⟩
  | 38 => ⟨S2048x128, .f32⟩
  | 39 => ⟨S_, .f32⟩
  | 40 => ⟨S5x128, .f32⟩
  | 41 => ⟨S2048x128, .f32⟩
  | 42 => ⟨S_, .f32⟩
  | 43 => ⟨S6x128, .f32⟩
  | 44 => ⟨S2042x128, .f32⟩
  | 45 => ⟨S2048x128, .f32⟩
  | 46 => ⟨S_, .f32⟩
  | 47 => ⟨S6x128, .f32⟩
  | 48 => ⟨S2048x128, .f32⟩
  | 49 => ⟨S_, .f32⟩
  | 50 => ⟨S7x128, .f32⟩
  | 51 => ⟨S2041x128, .f32⟩
  | 52 => ⟨S2048x128, .f32⟩
  | 53 => ⟨S_, .f32⟩
  | 54 => ⟨S7x128, .f32⟩
  | 55 => ⟨S2048x128, .f32⟩
  | 56 => ⟨S_, .f32⟩
  | 57 => ⟨S2048x1, .f32⟩
  | 58 => ⟨S2048x1, .f32⟩
  | 59 => ⟨S_, .f32⟩
  | 60 => ⟨S2048x1, .f32⟩
  | 61 => ⟨S2048x1, .f32⟩
  | 62 => ⟨S2048x128, .f32⟩
  | 63 => ⟨S2048x128, .f32⟩
  | 64 => ⟨S2048x128, .f32⟩
  | 65 => ⟨S1x128x128, .f32⟩
  | 66 => ⟨S128x128, .f32⟩
  | 67 => ⟨S2048x128, .f32⟩
  | 68 => ⟨S2048x128, .f32⟩
  | 69 => ⟨S_, .f32⟩
  | 70 => ⟨S0x128, .f32⟩
  | 71 => ⟨S2048x128, .f32⟩
  | 72 => ⟨S_, .f32⟩
  | 73 => ⟨S0x128, .f32⟩
  | 74 => ⟨S_, .f32⟩
  | 75 => ⟨S2048x128, .f32⟩
  | 76 => ⟨S2048x128, .f32⟩
  | 77 => ⟨S_, .f32⟩
  | 78 => ⟨S1x128, .f32⟩
  | 79 => ⟨S2047x128, .f32⟩
  | 80 => ⟨S2048x128, .f32⟩
  | 81 => ⟨S_, .f32⟩
  | 82 => ⟨S1x128, .f32⟩
  | 83 => ⟨S2048x128, .f32⟩
  | 84 => ⟨S_, .f32⟩
  | 85 => ⟨S2x128, .f32⟩
  | 86 => ⟨S2046x128, .f32⟩
  | 87 => ⟨S2048x128, .f32⟩
  | 88 => ⟨S_, .f32⟩
  | 89 => ⟨S2x128, .f32⟩
  | 90 => ⟨S2048x128, .f32⟩
  | 91 => ⟨S_, .f32⟩
  | 92 => ⟨S3x128, .f32⟩
  | 93 => ⟨S2045x128, .f32⟩
  | 94 => ⟨S2048x128, .f32⟩
  | 95 => ⟨S_, .f32⟩
  | 96 => ⟨S3x128, .f32⟩
  | 97 => ⟨S2048x128, .f32⟩
  | 98 => ⟨S_, .f32⟩
  | 99 => ⟨S4x128, .f32⟩
  | 100 => ⟨S2044x128, .f32⟩
  | 101 => ⟨S2048x128, .f32⟩
  | 102 => ⟨S_, .f32⟩
  | 103 => ⟨S4x128, .f32⟩
  | 104 => ⟨S2048x128, .f32⟩
  | 105 => ⟨S_, .f32⟩
  | 106 => ⟨S5x128, .f32⟩
  | 107 => ⟨S2043x128, .f32⟩
  | 108 => ⟨S2048x128, .f32⟩
  | 109 => ⟨S_, .f32⟩
  | 110 => ⟨S5x128, .f32⟩
  | 111 => ⟨S2048x128, .f32⟩
  | 112 => ⟨S_, .f32⟩
  | 113 => ⟨S6x128, .f32⟩
  | 114 => ⟨S2042x128, .f32⟩
  | 115 => ⟨S2048x128, .f32⟩
  | 116 => ⟨S_, .f32⟩
  | 117 => ⟨S6x128, .f32⟩
  | 118 => ⟨S2048x128, .f32⟩
  | 119 => ⟨S_, .f32⟩
  | 120 => ⟨S7x128, .f32⟩
  | 121 => ⟨S2041x128, .f32⟩
  | 122 => ⟨S2048x128, .f32⟩
  | 123 => ⟨S_, .f32⟩
  | 124 => ⟨S7x128, .f32⟩
  | 125 => ⟨S2048x128, .f32⟩
  | 126 => ⟨S_, .f32⟩
  | 127 => ⟨S8x128, .f32⟩
  | _ => ⟨S2048x5760, .f32⟩

abbrev hbmTy0_2 (i : Nat) : BufTy := match i % 128 with
  | 0 => ⟨S2040x128, .f32⟩
  | 1 => ⟨S2048x128, .f32⟩
  | 2 => ⟨S_, .f32⟩
  | 3 => ⟨S8x128, .f32⟩
  | 4 => ⟨S2048x128, .f32⟩
  | 5 => ⟨S_, .f32⟩
  | 6 => ⟨S9x128, .f32⟩
  | 7 => ⟨S2039x128, .f32⟩
  | 8 => ⟨S2048x128, .f32⟩
  | 9 => ⟨S_, .f32⟩
  | 10 => ⟨S9x128, .f32⟩
  | 11 => ⟨S2048x128, .f32⟩
  | 12 => ⟨S_, .f32⟩
  | 13 => ⟨S10x128, .f32⟩
  | 14 => ⟨S2038x128, .f32⟩
  | 15 => ⟨S2048x128, .f32⟩
  | 16 => ⟨S_, .f32⟩
  | 17 => ⟨S10x128, .f32⟩
  | 18 => ⟨S2048x128, .f32⟩
  | 19 => ⟨S_, .f32⟩
  | 20 => ⟨S11x128, .f32⟩
  | 21 => ⟨S2037x128, .f32⟩
  | 22 => ⟨S2048x128, .f32⟩
  | 23 => ⟨S_, .f32⟩
  | 24 => ⟨S11x128, .f32⟩
  | 25 => ⟨S2048x128, .f32⟩
  | 26 => ⟨S_, .f32⟩
  | 27 => ⟨S12x128, .f32⟩
  | 28 => ⟨S2036x128, .f32⟩
  | 29 => ⟨S2048x128, .f32⟩
  | 30 => ⟨S_, .f32⟩
  | 31 => ⟨S12x128, .f32⟩
  | 32 => ⟨S2048x128, .f32⟩
  | 33 => ⟨S_, .f32⟩
  | 34 => ⟨S13x128, .f32⟩
  | 35 => ⟨S2035x128, .f32⟩
  | 36 => ⟨S2048x128, .f32⟩
  | 37 => ⟨S_, .f32⟩
  | 38 => ⟨S13x128, .f32⟩
  | 39 => ⟨S2048x128, .f32⟩
  | 40 => ⟨S_, .f32⟩
  | 41 => ⟨S14x128, .f32⟩
  | 42 => ⟨S2034x128, .f32⟩
  | 43 => ⟨S2048x128, .f32⟩
  | 44 => ⟨S_, .f32⟩
  | 45 => ⟨S14x128, .f32⟩
  | 46 => ⟨S2048x128, .f32⟩
  | 47 => ⟨S_, .f32⟩
  | 48 => ⟨S15x128, .f32⟩
  | 49 => ⟨S2033x128, .f32⟩
  | 50 => ⟨S2048x128, .f32⟩
  | 51 => ⟨S_, .f32⟩
  | 52 => ⟨S15x128, .f32⟩
  | 53 => ⟨S2048x128, .f32⟩
  | 54 => ⟨S_, .f32⟩
  | 55 => ⟨S2048x1, .f32⟩
  | 56 => ⟨S2048x1, .f32⟩
  | 57 => ⟨S_, .f32⟩
  | 58 => ⟨S2048x1, .f32⟩
  | 59 => ⟨S2048x1, .f32⟩
  | 60 => ⟨S2048x128, .f32⟩
  | 61 => ⟨S2048x128, .f32⟩
  | 62 => ⟨S2048x128, .f32⟩
  | 63 => ⟨S1x128x128, .f32⟩
  | 64 => ⟨S128x128, .f32⟩
  | 65 => ⟨S2048x128, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S_, .f32⟩
  | 74 => ⟨S512, .f32⟩
  | 75 => ⟨S1x512, .f32⟩
  | 76 => ⟨S2048x512, .f32⟩
  | 77 => ⟨S2048x512, .f32⟩
  | 78 => ⟨S2048x128, .f32⟩
  | 79 => ⟨S2048x128, .f32⟩
  | 80 => ⟨S2048x128, .f32⟩
  | 81 => ⟨S2048x128, .f32⟩
  | 82 => ⟨S2048x512, .f32⟩
  | 83 => ⟨S2048x512, .f32⟩
  | 84 => ⟨S128x128, .f32⟩
  | 85 => ⟨S128x128, .f32⟩
  | 86 => ⟨S2048x128, .f32⟩
  | 87 => ⟨S1x128x128, .f32⟩
  | 88 => ⟨S_, .f32⟩
  | 89 => ⟨S4x128x128, .f32⟩
  | 90 => ⟨S2048x128, .f32⟩
  | 91 => ⟨S2048x128, .f32⟩
  | 92 => ⟨S2048x128, .f32⟩
  | 93 => ⟨S15x128, .f32⟩
  | 94 => ⟨S2033x128, .f32⟩
  | 95 => ⟨S_, .f32⟩
  | 96 => ⟨S2048x128, .f32⟩
  | 97 => ⟨S2048x128, .f32⟩
  | 98 => ⟨S14x128, .f32⟩
  | 99 => ⟨S2034x128, .f32⟩
  | 100 => ⟨S_, .f32⟩
  | 101 => ⟨S2048x128, .f32⟩
  | 102 => ⟨S2048x128, .f32⟩
  | 103 => ⟨S13x128, .f32⟩
  | 104 => ⟨S2035x128, .f32⟩
  | 105 => ⟨S_, .f32⟩
  | 106 => ⟨S2048x128, .f32⟩
  | 107 => ⟨S2048x128, .f32⟩
  | 108 => ⟨S12x128, .f32⟩
  | 109 => ⟨S2036x128, .f32⟩
  | 110 => ⟨S_, .f32⟩
  | 111 => ⟨S2048x128, .f32⟩
  | 112 => ⟨S2048x128, .f32⟩
  | 113 => ⟨S11x128, .f32⟩
  | 114 => ⟨S2037x128, .f32⟩
  | 115 => ⟨S_, .f32⟩
  | 116 => ⟨S2048x128, .f32⟩
  | 117 => ⟨S2048x128, .f32⟩
  | 118 => ⟨S10x128, .f32⟩
  | 119 => ⟨S2038x128, .f32⟩
  | 120 => ⟨S_, .f32⟩
  | 121 => ⟨S2048x128, .f32⟩
  | 122 => ⟨S2048x128, .f32⟩
  | 123 => ⟨S9x128, .f32⟩
  | 124 => ⟨S2039x128, .f32⟩
  | 125 => ⟨S_, .f32⟩
  | 126 => ⟨S2048x128, .f32⟩
  | 127 => ⟨S2048x128, .f32⟩
  | _ => ⟨S2048x5760, .f32⟩

abbrev hbmTy0_3 (i : Nat) : BufTy := match i % 128 with
  | 0 => ⟨S8x128, .f32⟩
  | 1 => ⟨S2040x128, .f32⟩
  | 2 => ⟨S_, .f32⟩
  | 3 => ⟨S2048x128, .f32⟩
  | 4 => ⟨S2048x128, .f32⟩
  | 5 => ⟨S7x128, .f32⟩
  | 6 => ⟨S2041x128, .f32⟩
  | 7 => ⟨S_, .f32⟩
  | 8 => ⟨S2048x128, .f32⟩
  | 9 => ⟨S2048x128, .f32⟩
  | 10 => ⟨S6x128, .f32⟩
  | 11 => ⟨S2042x128, .f32⟩
  | 12 => ⟨S_, .f32⟩
  | 13 => ⟨S2048x128, .f32⟩
  | 14 => ⟨S2048x128, .f32⟩
  | 15 => ⟨S5x128, .f32⟩
  | 16 => ⟨S2043x128, .f32⟩
  | 17 => ⟨S_, .f32⟩
  | 18 => ⟨S2048x128, .f32⟩
  | 19 => ⟨S2048x128, .f32⟩
  | 20 => ⟨S4x128, .f32⟩
  | 21 => ⟨S2044x128, .f32⟩
  | 22 => ⟨S_, .f32⟩
  | 23 => ⟨S2048x128, .f32⟩
  | 24 => ⟨S2048x128, .f32⟩
  | 25 => ⟨S3x128, .f32⟩
  | 26 => ⟨S2045x128, .f32⟩
  | 27 => ⟨S_, .f32⟩
  | 28 => ⟨S2048x128, .f32⟩
  | 29 => ⟨S2048x128, .f32⟩
  | 30 => ⟨S2x128, .f32⟩
  | 31 => ⟨S2046x128, .f32⟩
  | 32 => ⟨S_, .f32⟩
  | 33 => ⟨S2048x128, .f32⟩
  | 34 => ⟨S2048x128, .f32⟩
  | 35 => ⟨S1x128, .f32⟩
  | 36 => ⟨S2047x128, .f32⟩
  | 37 => ⟨S_, .f32⟩
  | 38 => ⟨S2048x128, .f32⟩
  | 39 => ⟨S2048x128, .f32⟩
  | 40 => ⟨S0x128, .f32⟩
  | 41 => ⟨S2048x128, .f32⟩
  | 42 => ⟨S2048x128, .f32⟩
  | 43 => ⟨S_, .f32⟩
  | 44 => ⟨S2048x512, .f32⟩
  | 45 => ⟨S128x128, .f32⟩
  | 46 => ⟨S128x128, .f32⟩
  | 47 => ⟨S2048x128, .f32⟩
  | 48 => ⟨S1x128x128, .f32⟩
  | 49 => ⟨S_, .f32⟩
  | 50 => ⟨S4x128x128, .f32⟩
  | 51 => ⟨S4x128x128, .f32⟩
  | 52 => ⟨S2048x128, .f32⟩
  | 53 => ⟨S2048x128, .f32⟩
  | 54 => ⟨S2048x128, .f32⟩
  | 55 => ⟨S7x128, .f32⟩
  | 56 => ⟨S2041x128, .f32⟩
  | 57 => ⟨S_, .f32⟩
  | 58 => ⟨S2048x128, .f32⟩
  | 59 => ⟨S2048x128, .f32⟩
  | 60 => ⟨S6x128, .f32⟩
  | 61 => ⟨S2042x128, .f32⟩
  | 62 => ⟨S_, .f32⟩
  | 63 => ⟨S2048x128, .f32⟩
  | 64 => ⟨S2048x128, .f32⟩
  | 65 => ⟨S5x128, .f32⟩
  | 66 => ⟨S2043x128, .f32⟩
  | 67 => ⟨S_, .f32⟩
  | 68 => ⟨S2048x128, .f32⟩
  | 69 => ⟨S2048x128, .f32⟩
  | 70 => ⟨S4x128, .f32⟩
  | 71 => ⟨S2044x128, .f32⟩
  | 72 => ⟨S_, .f32⟩
  | 73 => ⟨S2048x128, .f32⟩
  | 74 => ⟨S2048x128, .f32⟩
  | 75 => ⟨S3x128, .f32⟩
  | 76 => ⟨S2045x128, .f32⟩
  | 77 => ⟨S_, .f32⟩
  | 78 => ⟨S2048x128, .f32⟩
  | 79 => ⟨S2048x128, .f32⟩
  | 80 => ⟨S2x128, .f32⟩
  | 81 => ⟨S2046x128, .f32⟩
  | 82 => ⟨S_, .f32⟩
  | 83 => ⟨S2048x128, .f32⟩
  | 84 => ⟨S2048x128, .f32⟩
  | 85 => ⟨S1x128, .f32⟩
  | 86 => ⟨S2047x128, .f32⟩
  | 87 => ⟨S_, .f32⟩
  | 88 => ⟨S2048x128, .f32⟩
  | 89 => ⟨S2048x128, .f32⟩
  | 90 => ⟨S0x128, .f32⟩
  | 91 => ⟨S2048x128, .f32⟩
  | 92 => ⟨S2048x128, .f32⟩
  | 93 => ⟨S_, .f32⟩
  | 94 => ⟨S2048x512, .f32⟩
  | 95 => ⟨S2048x512, .f32⟩
  | 96 => ⟨S128x128, .f32⟩
  | 97 => ⟨S128x128, .f32⟩
  | 98 => ⟨S2048x128, .f32⟩
  | 99 => ⟨S1x128x128, .f32⟩
  | 100 => ⟨S_, .f32⟩
  | 101 => ⟨S4x128x128, .f32⟩
  | 102 => ⟨S4x128x128, .f32⟩
  | 103 => ⟨S2048x128, .f32⟩
  | 104 => ⟨S2048x128, .f32⟩
  | 105 => ⟨S2048x128, .f32⟩
  | 106 => ⟨S3x128, .f32⟩
  | 107 => ⟨S2045x128, .f32⟩
  | 108 => ⟨S_, .f32⟩
  | 109 => ⟨S2048x128, .f32⟩
  | 110 => ⟨S2048x128, .f32⟩
  | 111 => ⟨S2x128, .f32⟩
  | 112 => ⟨S2046x128, .f32⟩
  | 113 => ⟨S_, .f32⟩
  | 114 => ⟨S2048x128, .f32⟩
  | 115 => ⟨S2048x128, .f32⟩
  | 116 => ⟨S1x128, .f32⟩
  | 117 => ⟨S2047x128, .f32⟩
  | 118 => ⟨S_, .f32⟩
  | 119 => ⟨S2048x128, .f32⟩
  | 120 => ⟨S2048x128, .f32⟩
  | 121 => ⟨S0x128, .f32⟩
  | 122 => ⟨S2048x128, .f32⟩
  | 123 => ⟨S2048x128, .f32⟩
  | 124 => ⟨S_, .f32⟩
  | 125 => ⟨S2048x512, .f32⟩
  | 126 => ⟨S2048x512, .f32⟩
  | 127 => ⟨S128x128, .f32⟩
  | _ => ⟨S2048x5760, .f32⟩

abbrev hbmTy0_4 (i : Nat) : BufTy := match i % 128 with
  | 0 => ⟨S128x128, .f32⟩
  | 1 => ⟨S2048x128, .f32⟩
  | 2 => ⟨S1x128x128, .f32⟩
  | 3 => ⟨S_, .f32⟩
  | 4 => ⟨S4x128x128, .f32⟩
  | 5 => ⟨S4x128x128, .f32⟩
  | 6 => ⟨S2048x128, .f32⟩
  | 7 => ⟨S2048x128, .f32⟩
  | 8 => ⟨S2048x128, .f32⟩
  | 9 => ⟨S1x128, .f32⟩
  | 10 => ⟨S2047x128, .f32⟩
  | 11 => ⟨S_, .f32⟩
  | 12 => ⟨S2048x128, .f32⟩
  | 13 => ⟨S2048x128, .f32⟩
  | 14 => ⟨S0x128, .f32⟩
  | 15 => ⟨S2048x128, .f32⟩
  | 16 => ⟨S2048x128, .f32⟩
  | 17 => ⟨S_, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S_, .f32⟩
  | 24 => ⟨S512, .f32⟩
  | 25 => ⟨S1x512, .f32⟩
  | 26 => ⟨S_, .f32⟩
  | 27 => ⟨S512, .f32⟩
  | 28 => ⟨S0x512, .f32⟩
  | 29 => ⟨S2048x512, .f32⟩
  | 30 => ⟨S1x512, .f32⟩
  | 31 => ⟨S_, .f32⟩
  | 32 => ⟨S3x512, .f32⟩
  | 33 => ⟨S2048x512, .f32⟩
  | 34 => ⟨S2048x512, .f32⟩
  | 35 => ⟨S2048x512, .f32⟩
  | 36 => ⟨S_, .f32⟩
  | 37 => ⟨S512, .f32⟩
  | 38 => ⟨S1x512, .f32⟩
  | 39 => ⟨S_, .f32⟩
  | 40 => ⟨S512, .f32⟩
  | 41 => ⟨S1x512, .f32⟩
  | 42 => ⟨S2047x512, .f32⟩
  | 43 => ⟨S_, .f32⟩
  | 44 => ⟨S2048x512, .f32⟩
  | 45 => ⟨S2048x512, .f32⟩
  | 46 => ⟨S1x512, .f32⟩
  | 47 => ⟨S_, .f32⟩
  | 48 => ⟨S3x512, .f32⟩
  | 49 => ⟨S3x512, .f32⟩
  | 50 => ⟨S2048x512, .f32⟩
  | 51 => ⟨S2048x512, .f32⟩
  | 52 => ⟨S2048x512, .f32⟩
  | 53 => ⟨S_, .f32⟩
  | 54 => ⟨S512, .f32⟩
  | 55 => ⟨S1x512, .f32⟩
  | 56 => ⟨S_, .f32⟩
  | 57 => ⟨S512, .f32⟩
  | 58 => ⟨S2x512, .f32⟩
  | 59 => ⟨S2046x512, .f32⟩
  | 60 => ⟨S_, .f32⟩
  | 61 => ⟨S2048x512, .f32⟩
  | 62 => ⟨S2048x512, .f32⟩
  | 63 => ⟨S1x512, .f32⟩
  | 64 => ⟨S_, .f32⟩
  | 65 => ⟨S3x512, .f32⟩
  | 66 => ⟨S3x512, .f32⟩
  | 67 => ⟨S2048x512, .f32⟩
  | 68 => ⟨S2048x512, .f32⟩
  | 69 => ⟨S2048x512, .bf16⟩
  | 70 => ⟨S2048x512, .bf16⟩
  | 71 => ⟨S2048x512, .bf16⟩
  | 72 => ⟨S2048x512, .bf16⟩
  | _ => ⟨S2048x5760, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x5760, .f32⟩

abbrev bufTy : (tb : Table) → Fin (tcTables nBuf tb) → BufTy
  | .hbm, ⟨i, _⟩ => hbmTy i
  | _, _ => ⟨S2048x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_19 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_cst_22 : Ref sig .tc := ⟨.hbm, 114, rfl⟩
abbrev main_v86 : Ref sig .tc := ⟨.hbm, 115, rfl⟩
abbrev main_v87 : Ref sig .tc := ⟨.hbm, 116, rfl⟩
abbrev main_cst_23 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_24 : Ref sig .tc := ⟨.hbm, 127, rfl⟩
abbrev main_v97 : Ref sig .tc := ⟨.hbm, 128, rfl⟩
abbrev main_v98 : Ref sig .tc := ⟨.hbm, 129, rfl⟩
abbrev main_cst_25 : Ref sig .tc := ⟨.hbm, 130, rfl⟩
abbrev main_v99 : Ref sig .tc := ⟨.hbm, 131, rfl⟩
abbrev main_cst_26 : Ref sig .tc := ⟨.hbm, 132, rfl⟩
abbrev main_v100 : Ref sig .tc := ⟨.hbm, 133, rfl⟩
abbrev main_v101 : Ref sig .tc := ⟨.hbm, 134, rfl⟩
abbrev main_cst_27 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_28 : Ref sig .tc := ⟨.hbm, 139, rfl⟩
abbrev main_v105 : Ref sig .tc := ⟨.hbm, 140, rfl⟩
abbrev main_v106 : Ref sig .tc := ⟨.hbm, 141, rfl⟩
abbrev main_cst_29 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_30 : Ref sig .tc := ⟨.hbm, 146, rfl⟩
abbrev main_v110 : Ref sig .tc := ⟨.hbm, 147, rfl⟩
abbrev main_v111 : Ref sig .tc := ⟨.hbm, 148, rfl⟩
abbrev main_cst_31 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_32 : Ref sig .tc := ⟨.hbm, 153, rfl⟩
abbrev main_v115 : Ref sig .tc := ⟨.hbm, 154, rfl⟩
abbrev main_v116 : Ref sig .tc := ⟨.hbm, 155, rfl⟩
abbrev main_cst_33 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_34 : Ref sig .tc := ⟨.hbm, 160, rfl⟩
abbrev main_v120 : Ref sig .tc := ⟨.hbm, 161, rfl⟩
abbrev main_v121 : Ref sig .tc := ⟨.hbm, 162, rfl⟩
abbrev main_cst_35 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_36 : Ref sig .tc := ⟨.hbm, 167, rfl⟩
abbrev main_v125 : Ref sig .tc := ⟨.hbm, 168, rfl⟩
abbrev main_v126 : Ref sig .tc := ⟨.hbm, 169, rfl⟩
abbrev main_cst_37 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_38 : Ref sig .tc := ⟨.hbm, 174, rfl⟩
abbrev main_v130 : Ref sig .tc := ⟨.hbm, 175, rfl⟩
abbrev main_v131 : Ref sig .tc := ⟨.hbm, 176, rfl⟩
abbrev main_cst_39 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_40 : Ref sig .tc := ⟨.hbm, 181, rfl⟩
abbrev main_v135 : Ref sig .tc := ⟨.hbm, 182, rfl⟩
abbrev main_v136 : Ref sig .tc := ⟨.hbm, 183, rfl⟩
abbrev main_cst_41 : Ref sig .tc := ⟨.hbm, 184, rfl⟩
abbrev main_v137 : Ref sig .tc := ⟨.hbm, 185, rfl⟩
abbrev main_v138 : Ref sig .tc := ⟨.hbm, 186, rfl⟩
abbrev main_cst_42 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_43 : Ref sig .tc := ⟨.hbm, 197, rfl⟩
abbrev main_v148 : Ref sig .tc := ⟨.hbm, 198, rfl⟩
abbrev main_v149 : Ref sig .tc := ⟨.hbm, 199, rfl⟩
abbrev main_cst_44 : Ref sig .tc := ⟨.hbm, 200, rfl⟩
abbrev main_v150 : Ref sig .tc := ⟨.hbm, 201, rfl⟩
abbrev main_cst_45 : Ref sig .tc := ⟨.hbm, 202, rfl⟩
abbrev main_v151 : Ref sig .tc := ⟨.hbm, 203, rfl⟩
abbrev main_v152 : Ref sig .tc := ⟨.hbm, 204, rfl⟩
abbrev main_cst_46 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_47 : Ref sig .tc := ⟨.hbm, 209, rfl⟩
abbrev main_v156 : Ref sig .tc := ⟨.hbm, 210, rfl⟩
abbrev main_v157 : Ref sig .tc := ⟨.hbm, 211, rfl⟩
abbrev main_cst_48 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_49 : Ref sig .tc := ⟨.hbm, 216, rfl⟩
abbrev main_v161 : Ref sig .tc := ⟨.hbm, 217, rfl⟩
abbrev main_v162 : Ref sig .tc := ⟨.hbm, 218, rfl⟩
abbrev main_cst_50 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_51 : Ref sig .tc := ⟨.hbm, 223, rfl⟩
abbrev main_v166 : Ref sig .tc := ⟨.hbm, 224, rfl⟩
abbrev main_v167 : Ref sig .tc := ⟨.hbm, 225, rfl⟩
abbrev main_cst_52 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_53 : Ref sig .tc := ⟨.hbm, 230, rfl⟩
abbrev main_v171 : Ref sig .tc := ⟨.hbm, 231, rfl⟩
abbrev main_v172 : Ref sig .tc := ⟨.hbm, 232, rfl⟩
abbrev main_cst_54 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_55 : Ref sig .tc := ⟨.hbm, 237, rfl⟩
abbrev main_v176 : Ref sig .tc := ⟨.hbm, 238, rfl⟩
abbrev main_v177 : Ref sig .tc := ⟨.hbm, 239, rfl⟩
abbrev main_cst_56 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_cst_57 : Ref sig .tc := ⟨.hbm, 244, rfl⟩
abbrev main_v181 : Ref sig .tc := ⟨.hbm, 245, rfl⟩
abbrev main_v182 : Ref sig .tc := ⟨.hbm, 246, rfl⟩
abbrev main_cst_58 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_59 : Ref sig .tc := ⟨.hbm, 251, rfl⟩
abbrev main_v186 : Ref sig .tc := ⟨.hbm, 252, rfl⟩
abbrev main_v187 : Ref sig .tc := ⟨.hbm, 253, rfl⟩
abbrev main_cst_60 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_cst_61 : Ref sig .tc := ⟨.hbm, 258, rfl⟩
abbrev main_v191 : Ref sig .tc := ⟨.hbm, 259, rfl⟩
abbrev main_v192 : Ref sig .tc := ⟨.hbm, 260, rfl⟩
abbrev main_cst_62 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_cst_63 : Ref sig .tc := ⟨.hbm, 265, rfl⟩
abbrev main_v196 : Ref sig .tc := ⟨.hbm, 266, rfl⟩
abbrev main_v197 : Ref sig .tc := ⟨.hbm, 267, rfl⟩
abbrev main_cst_64 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_cst_65 : Ref sig .tc := ⟨.hbm, 272, rfl⟩
abbrev main_v201 : Ref sig .tc := ⟨.hbm, 273, rfl⟩
abbrev main_v202 : Ref sig .tc := ⟨.hbm, 274, rfl⟩
abbrev main_cst_66 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_cst_67 : Ref sig .tc := ⟨.hbm, 279, rfl⟩
abbrev main_v206 : Ref sig .tc := ⟨.hbm, 280, rfl⟩
abbrev main_v207 : Ref sig .tc := ⟨.hbm, 281, rfl⟩
abbrev main_cst_68 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_cst_69 : Ref sig .tc := ⟨.hbm, 286, rfl⟩
abbrev main_v211 : Ref sig .tc := ⟨.hbm, 287, rfl⟩
abbrev main_v212 : Ref sig .tc := ⟨.hbm, 288, rfl⟩
abbrev main_cst_70 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_cst_71 : Ref sig .tc := ⟨.hbm, 293, rfl⟩
abbrev main_v216 : Ref sig .tc := ⟨.hbm, 294, rfl⟩
abbrev main_v217 : Ref sig .tc := ⟨.hbm, 295, rfl⟩
abbrev main_cst_72 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_cst_73 : Ref sig .tc := ⟨.hbm, 300, rfl⟩
abbrev main_v221 : Ref sig .tc := ⟨.hbm, 301, rfl⟩
abbrev main_v222 : Ref sig .tc := ⟨.hbm, 302, rfl⟩
abbrev main_cst_74 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_cst_75 : Ref sig .tc := ⟨.hbm, 307, rfl⟩
abbrev main_v226 : Ref sig .tc := ⟨.hbm, 308, rfl⟩
abbrev main_v227 : Ref sig .tc := ⟨.hbm, 309, rfl⟩
abbrev main_cst_76 : Ref sig .tc := ⟨.hbm, 310, rfl⟩
abbrev main_v228 : Ref sig .tc := ⟨.hbm, 311, rfl⟩
abbrev main_v229 : Ref sig .tc := ⟨.hbm, 312, rfl⟩
abbrev main_cst_77 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_cst_78 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_cst_79 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_v263 : Ref sig .tc := ⟨.hbm, 349, rfl⟩
abbrev main_v264 : Ref sig .tc := ⟨.hbm, 350, rfl⟩
abbrev main_cst_80 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_cst_81 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_cst_82 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_cst_83 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_cst_84 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_cst_85 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_cst_86 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_cst_87 : Ref sig .tc := ⟨.hbm, 386, rfl⟩
abbrev main_v293 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_cst_88 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_cst_89 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_cst_90 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_cst_91 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_cst_92 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_v316 : Ref sig .tc := ⟨.hbm, 415, rfl⟩
abbrev main_cst_93 : Ref sig .tc := ⟨.hbm, 416, rfl⟩
abbrev main_v317 : Ref sig .tc := ⟨.hbm, 417, rfl⟩
abbrev main_v318 : Ref sig .tc := ⟨.hbm, 418, rfl⟩
abbrev main_v319 : Ref sig .tc := ⟨.hbm, 419, rfl⟩
abbrev main_v320 : Ref sig .tc := ⟨.hbm, 420, rfl⟩
abbrev main_cst_94 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_cst_95 : Ref sig .tc := ⟨.hbm, 427, rfl⟩
abbrev main_v326 : Ref sig .tc := ⟨.hbm, 428, rfl⟩
abbrev main_v327 : Ref sig .tc := ⟨.hbm, 429, rfl⟩
abbrev main_v328 : Ref sig .tc := ⟨.hbm, 430, rfl⟩
abbrev main_v329 : Ref sig .tc := ⟨.hbm, 431, rfl⟩
abbrev main_v330 : Ref sig .tc := ⟨.hbm, 432, rfl⟩
abbrev main_cst_96 : Ref sig .tc := ⟨.hbm, 433, rfl⟩
abbrev main_v331 : Ref sig .tc := ⟨.hbm, 434, rfl⟩
abbrev main_v332 : Ref sig .tc := ⟨.hbm, 435, rfl⟩
abbrev main_v333 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_cst_97 : Ref sig .tc := ⟨.hbm, 441, rfl⟩
abbrev main_v338 : Ref sig .tc := ⟨.hbm, 442, rfl⟩
abbrev main_v339 : Ref sig .tc := ⟨.hbm, 443, rfl⟩
abbrev main_v340 : Ref sig .tc := ⟨.hbm, 444, rfl⟩
abbrev main_v341 : Ref sig .tc := ⟨.hbm, 445, rfl⟩
abbrev main_cst_98 : Ref sig .tc := ⟨.hbm, 446, rfl⟩
abbrev main_v342 : Ref sig .tc := ⟨.hbm, 447, rfl⟩
abbrev main_v343 : Ref sig .tc := ⟨.hbm, 448, rfl⟩
abbrev main_v344 : Ref sig .tc := ⟨.hbm, 449, rfl⟩
abbrev main_v345 : Ref sig .tc := ⟨.hbm, 450, rfl⟩
abbrev main_cst_99 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_cst_100 : Ref sig .tc := ⟨.hbm, 456, rfl⟩
abbrev main_v350 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_cst_101 : Ref sig .tc := ⟨.hbm, 461, rfl⟩
abbrev main_v354 : Ref sig .tc := ⟨.hbm, 462, rfl⟩
abbrev main_v355 : Ref sig .tc := ⟨.hbm, 463, rfl⟩
abbrev main_v356 : Ref sig .tc := ⟨.hbm, 464, rfl⟩
abbrev main_v357 : Ref sig .tc := ⟨.hbm, 465, rfl⟩
abbrev main_cst_102 : Ref sig .tc := ⟨.hbm, 466, rfl⟩
abbrev main_v358 : Ref sig .tc := ⟨.hbm, 467, rfl⟩
abbrev main_v359 : Ref sig .tc := ⟨.hbm, 468, rfl⟩
abbrev main_v360 : Ref sig .tc := ⟨.hbm, 469, rfl⟩
abbrev main_v361 : Ref sig .tc := ⟨.hbm, 470, rfl⟩
abbrev main_cst_103 : Ref sig .tc := ⟨.hbm, 471, rfl⟩
abbrev main_v362 : Ref sig .tc := ⟨.hbm, 472, rfl⟩
abbrev main_v363 : Ref sig .tc := ⟨.hbm, 473, rfl⟩
abbrev main_v364 : Ref sig .tc := ⟨.hbm, 474, rfl⟩
abbrev main_v365 : Ref sig .tc := ⟨.hbm, 475, rfl⟩
abbrev main_v366 : Ref sig .tc := ⟨.hbm, 476, rfl⟩
abbrev main_cst_104 : Ref sig .tc := ⟨.hbm, 477, rfl⟩
abbrev main_v367 : Ref sig .tc := ⟨.hbm, 478, rfl⟩
abbrev main_v368 : Ref sig .tc := ⟨.hbm, 479, rfl⟩
abbrev main_v369 : Ref sig .tc := ⟨.hbm, 480, rfl⟩
abbrev main_v370 : Ref sig .tc := ⟨.hbm, 481, rfl⟩
abbrev main_v371 : Ref sig .tc := ⟨.hbm, 482, rfl⟩
abbrev main_v372 : Ref sig .tc := ⟨.hbm, 483, rfl⟩
abbrev main_cst_105 : Ref sig .tc := ⟨.hbm, 484, rfl⟩
abbrev main_v373 : Ref sig .tc := ⟨.hbm, 485, rfl⟩
abbrev main_v374 : Ref sig .tc := ⟨.hbm, 486, rfl⟩
abbrev main_v375 : Ref sig .tc := ⟨.hbm, 487, rfl⟩
abbrev main_v376 : Ref sig .tc := ⟨.hbm, 488, rfl⟩
abbrev main_v377 : Ref sig .tc := ⟨.hbm, 489, rfl⟩
abbrev main_v378 : Ref sig .tc := ⟨.hbm, 490, rfl⟩
abbrev main_v379 : Ref sig .tc := ⟨.hbm, 491, rfl⟩
abbrev main_cst_106 : Ref sig .tc := ⟨.hbm, 492, rfl⟩
abbrev main_v380 : Ref sig .tc := ⟨.hbm, 493, rfl⟩
abbrev main_v381 : Ref sig .tc := ⟨.hbm, 494, rfl⟩
abbrev main_v382 : Ref sig .tc := ⟨.hbm, 495, rfl⟩
abbrev main_v383 : Ref sig .tc := ⟨.hbm, 496, rfl⟩
abbrev main_cst_107 : Ref sig .tc := ⟨.hbm, 497, rfl⟩
abbrev main_v384 : Ref sig .tc := ⟨.hbm, 498, rfl⟩
abbrev main_v385 : Ref sig .tc := ⟨.hbm, 499, rfl⟩
abbrev main_v386 : Ref sig .tc := ⟨.hbm, 500, rfl⟩
abbrev main_v387 : Ref sig .tc := ⟨.hbm, 501, rfl⟩
abbrev main_cst_108 : Ref sig .tc := ⟨.hbm, 502, rfl⟩
abbrev main_v388 : Ref sig .tc := ⟨.hbm, 503, rfl⟩
abbrev main_v389 : Ref sig .tc := ⟨.hbm, 504, rfl⟩
abbrev main_v390 : Ref sig .tc := ⟨.hbm, 505, rfl⟩
abbrev main_v391 : Ref sig .tc := ⟨.hbm, 506, rfl⟩
abbrev main_v392 : Ref sig .tc := ⟨.hbm, 507, rfl⟩
abbrev main_cst_109 : Ref sig .tc := ⟨.hbm, 508, rfl⟩
abbrev main_v393 : Ref sig .tc := ⟨.hbm, 509, rfl⟩
abbrev main_v394 : Ref sig .tc := ⟨.hbm, 510, rfl⟩
abbrev main_v395 : Ref sig .tc := ⟨.hbm, 511, rfl⟩
abbrev main_v396 : Ref sig .tc := ⟨.hbm, 512, rfl⟩
abbrev main_v397 : Ref sig .tc := ⟨.hbm, 513, rfl⟩
abbrev main_v398 : Ref sig .tc := ⟨.hbm, 514, rfl⟩
abbrev main_cst_110 : Ref sig .tc := ⟨.hbm, 515, rfl⟩
abbrev main_v399 : Ref sig .tc := ⟨.hbm, 516, rfl⟩
abbrev main_v400 : Ref sig .tc := ⟨.hbm, 517, rfl⟩
abbrev main_v401 : Ref sig .tc := ⟨.hbm, 518, rfl⟩
abbrev main_v402 : Ref sig .tc := ⟨.hbm, 519, rfl⟩
abbrev main_v403 : Ref sig .tc := ⟨.hbm, 520, rfl⟩
abbrev main_v404 : Ref sig .tc := ⟨.hbm, 521, rfl⟩
abbrev main_v405 : Ref sig .tc := ⟨.hbm, 522, rfl⟩
abbrev main_cst_111 : Ref sig .tc := ⟨.hbm, 523, rfl⟩
abbrev main_v406 : Ref sig .tc := ⟨.hbm, 524, rfl⟩
abbrev main_v407 : Ref sig .tc := ⟨.hbm, 525, rfl⟩
abbrev main_v408 : Ref sig .tc := ⟨.hbm, 526, rfl⟩
abbrev main_v409 : Ref sig .tc := ⟨.hbm, 527, rfl⟩
abbrev main_v410 : Ref sig .tc := ⟨.hbm, 528, rfl⟩
abbrev main_cst_112 : Ref sig .tc := ⟨.hbm, 529, rfl⟩
abbrev main_v411 : Ref sig .tc := ⟨.hbm, 530, rfl⟩
abbrev main_v412 : Ref sig .tc := ⟨.hbm, 531, rfl⟩
abbrev main_v413 : Ref sig .tc := ⟨.hbm, 532, rfl⟩
abbrev main_v414 : Ref sig .tc := ⟨.hbm, 533, rfl⟩
abbrev main_v415 : Ref sig .tc := ⟨.hbm, 534, rfl⟩
abbrev main_cst_113 : Ref sig .tc := ⟨.hbm, 535, rfl⟩
abbrev main_v416 : Ref sig .tc := ⟨.hbm, 536, rfl⟩
abbrev main_v417 : Ref sig .tc := ⟨.hbm, 537, rfl⟩
abbrev main_cst_114 : Ref sig .tc := ⟨.hbm, 538, rfl⟩
abbrev main_v418 : Ref sig .tc := ⟨.hbm, 539, rfl⟩
abbrev main_v419 : Ref sig .tc := ⟨.hbm, 540, rfl⟩
abbrev main_v420 : Ref sig .tc := ⟨.hbm, 541, rfl⟩
abbrev main_v421 : Ref sig .tc := ⟨.hbm, 542, rfl⟩
abbrev main_cst_115 : Ref sig .tc := ⟨.hbm, 543, rfl⟩
abbrev main_v422 : Ref sig .tc := ⟨.hbm, 544, rfl⟩
abbrev main_v423 : Ref sig .tc := ⟨.hbm, 545, rfl⟩
abbrev main_v424 : Ref sig .tc := ⟨.hbm, 546, rfl⟩
abbrev main_v425 : Ref sig .tc := ⟨.hbm, 547, rfl⟩
abbrev main_cst_116 : Ref sig .tc := ⟨.hbm, 548, rfl⟩
abbrev main_v426 : Ref sig .tc := ⟨.hbm, 549, rfl⟩
abbrev main_v427 : Ref sig .tc := ⟨.hbm, 550, rfl⟩
abbrev main_cst_117 : Ref sig .tc := ⟨.hbm, 551, rfl⟩
abbrev main_v428 : Ref sig .tc := ⟨.hbm, 552, rfl⟩
abbrev main_v429 : Ref sig .tc := ⟨.hbm, 553, rfl⟩
abbrev main_v430 : Ref sig .tc := ⟨.hbm, 554, rfl⟩
abbrev main_cst_118 : Ref sig .tc := ⟨.hbm, 555, rfl⟩
abbrev main_v431 : Ref sig .tc := ⟨.hbm, 556, rfl⟩
abbrev main_v432 : Ref sig .tc := ⟨.hbm, 557, rfl⟩
abbrev main_v433 : Ref sig .tc := ⟨.hbm, 558, rfl⟩
abbrev main_cst_119 : Ref sig .tc := ⟨.hbm, 559, rfl⟩
abbrev main_v434 : Ref sig .tc := ⟨.hbm, 560, rfl⟩
abbrev main_v435 : Ref sig .tc := ⟨.hbm, 561, rfl⟩
abbrev main_v436 : Ref sig .tc := ⟨.hbm, 562, rfl⟩
abbrev main_v437 : Ref sig .tc := ⟨.hbm, 563, rfl⟩
abbrev main_v438 : Ref sig .tc := ⟨.hbm, 564, rfl⟩
abbrev main_cst_120 : Ref sig .tc := ⟨.hbm, 565, rfl⟩
abbrev main_v439 : Ref sig .tc := ⟨.hbm, 566, rfl⟩
abbrev main_v440 : Ref sig .tc := ⟨.hbm, 567, rfl⟩
abbrev main_cst_121 : Ref sig .tc := ⟨.hbm, 568, rfl⟩
abbrev main_v441 : Ref sig .tc := ⟨.hbm, 569, rfl⟩
abbrev main_v442 : Ref sig .tc := ⟨.hbm, 570, rfl⟩
abbrev main_v443 : Ref sig .tc := ⟨.hbm, 571, rfl⟩
abbrev main_cst_122 : Ref sig .tc := ⟨.hbm, 572, rfl⟩
abbrev main_v444 : Ref sig .tc := ⟨.hbm, 573, rfl⟩
abbrev main_v445 : Ref sig .tc := ⟨.hbm, 574, rfl⟩
abbrev main_v446 : Ref sig .tc := ⟨.hbm, 575, rfl⟩
abbrev main_cst_123 : Ref sig .tc := ⟨.hbm, 576, rfl⟩
abbrev main_v447 : Ref sig .tc := ⟨.hbm, 577, rfl⟩
abbrev main_v448 : Ref sig .tc := ⟨.hbm, 578, rfl⟩
abbrev main_v449 : Ref sig .tc := ⟨.hbm, 579, rfl⟩
abbrev main_v450 : Ref sig .tc := ⟨.hbm, 580, rfl⟩
abbrev main_v451 : Ref sig .tc := ⟨.hbm, 581, rfl⟩
abbrev main_v452 : Ref sig .tc := ⟨.hbm, 582, rfl⟩
abbrev main_v453 : Ref sig .tc := ⟨.hbm, 583, rfl⟩
abbrev main_v454 : Ref sig .tc := ⟨.hbm, 584, rfl⟩

abbrev nD : Nat := 1
abbrev τ : Topo := Topo.v7x

variable {F : FTy → Type} [FloatOps F]
-- ==== Head.lean ====
abbrev S2048x512 : Shape := ⟨2, ![2048, 512]⟩
abbrev S2048x5760 : Shape := ⟨2, ![2048, 5760]⟩
abbrev S2x1x128 : Shape := ⟨3, ![2, 1, 128]⟩
abbrev S2048x2048 : Shape := ⟨2, ![2048, 2048]⟩
abbrev S4x1x128 : Shape := ⟨3, ![4, 1, 128]⟩
abbrev S512x128 : Shape := ⟨2, ![512, 128]⟩
abbrev S1x1x128 : Shape := ⟨3, ![1, 1, 128]⟩
abbrev S1x128 : Shape := ⟨2, ![1, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 13
  | .smem => 0
  | _ => 0

abbrev bufTy : (tb : Table) → Fin (tcTables nBuf tb) → BufTy
  | .hbm, ⟨0, _⟩ => ⟨S2048x512, .f32⟩
  | .hbm, ⟨1, _⟩ => ⟨S2048x5760, .f32⟩
  | .hbm, ⟨2, _⟩ => ⟨S2x1x128, .f32⟩
  | .hbm, ⟨3, _⟩ => ⟨S2048x2048, .f32⟩
  | .hbm, ⟨4, _⟩ => ⟨S2048x512, .f32⟩
  | .hbm, ⟨5, _⟩ => ⟨S2048x512, .bf16⟩
  | .hbm, ⟨6, _⟩ => ⟨S4x1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .bf16⟩
  | .local _ .vmem, ⟨10, _⟩ => ⟨S512x128, .bf16⟩
  | .local _ .vmem, ⟨11, _⟩ => ⟨S1x1x128, .f32⟩
  | .local _ .vmem, ⟨12, _⟩ => ⟨S1x1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v60 : BitVec 1 := Scalar.cmpi .eq arg1 c0_i32
  let v61 : BitVec 32 := Scalar.extui v60
  let c0_i32_23 : BitVec 32 := 0#32
  let v62 : BitVec 1 := Scalar.cmpi .ne v61 c0_i32_23
  v62

def k0_cond2 (i : grid0.Coords) : BitVec 1 :=
  let arg1 : BitVec 32 := BitVec.ofNat 32 (i 1).val
  let c0_i32_24 : BitVec 32 := 0#32
  let v63 : BitVec 1 := Scalar.cmpi .sgt arg1 c0_i32_24
  let v64 : BitVec 32 := Scalar.extui v63
  let c0_i32_25 : BitVec 32 := 0#32
  let v65 : BitVec 1 := Scalar.cmpi .ne v64 c0_i32_25
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HeadRefIdeal.lean ====
abbrev S2048x512 : Shape := ⟨2, ![2048, 512]⟩
abbrev S2048x5760 : Shape := ⟨2, ![2048, 5760]⟩
abbrev S2x1x128 : Shape := ⟨3, ![2, 1, 128]⟩
abbrev S2048x2048 : Shape := ⟨2, ![2048, 2048]⟩
abbrev S1x1x128 : Shape := ⟨3, ![1, 1, 128]⟩
abbrev S1x128 : Shape := ⟨2, ![1, 128]⟩
abbrev S4x128 : Shape := ⟨2, ![4, 128]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩
abbrev S4x1x128 : Shape := ⟨3, ![4, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x5760, .f32⟩
  | .hbm, ⟨2, _⟩ => ⟨S2x1x128, .f32⟩
  | .hbm, ⟨3, _⟩ => ⟨S2048x2048, .f32⟩
  | .hbm, ⟨4, _⟩ => ⟨S1x1x128, .f32⟩
  | .hbm, ⟨5, _⟩ => ⟨S1x128, .f32⟩
  | .hbm, ⟨6, _⟩ => ⟨S4x128, .f32⟩
  | .hbm, ⟨7, _⟩ => ⟨S2048x512, .f32⟩
  | .hbm, ⟨8, _⟩ => ⟨S2048x4x128, .f32⟩
  | .hbm, ⟨9, _⟩ => ⟨S2048x4x128, .f32⟩
  | .hbm, ⟨10, _⟩ => ⟨S_, .f32⟩
  | .hbm, ⟨11, _⟩ => ⟨S2048x4, .f32⟩
  | .hbm, ⟨12, _⟩ => ⟨S2048x4x1, .f32⟩
  | .hbm, ⟨13, _⟩ => ⟨S_, .f32⟩
  | .hbm, ⟨14, _⟩ => ⟨S2048x4x1, .f32⟩
  | .hbm, ⟨15, _⟩ => ⟨S2048x4x1, .f32⟩
  | .hbm, ⟨16, _⟩ => ⟨S_, .f32⟩
  | .hbm, ⟨17, _⟩ => ⟨S2048x4x1, .f32⟩
  | .hbm, ⟨18, _⟩ => ⟨S2048x4x1, .f32⟩
  | .hbm, ⟨19, _⟩ => ⟨S2048x4x1, .f32⟩
  | .hbm, ⟨20, _⟩ => ⟨S2048x4x1, .f32⟩
  | .hbm, ⟨21, _⟩ => ⟨S_, .f32⟩
  | .hbm, ⟨22, _⟩ => ⟨S2048x4x1, .f32⟩
  | .hbm, ⟨23, _⟩ => ⟨S2048x4x1, .f32⟩
  | .hbm, ⟨24, _⟩ => ⟨S2048x4x128, .f32⟩
  | .hbm, ⟨25, _⟩ => ⟨S2048x4x128, .f32⟩
  | .hbm, ⟨26, _⟩ => ⟨S1x4x128, .f32⟩
  | .hbm, ⟨27, _⟩ => ⟨S2048x4x128, .f32⟩
  | .hbm, ⟨28, _⟩ => ⟨S2048x4x128, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x4x128, .f32⟩
  | .hbm, ⟨43, _⟩ => ⟨S2048x4x128, .f32⟩
  | .hbm, ⟨44, _⟩ => ⟨S2048x512, .f32⟩
  | .hbm, ⟨45, _⟩ => ⟨S2048x512, .f32⟩
  | .hbm, ⟨46, _⟩ => ⟨S2048x4x128, .f32⟩
  | .hbm, ⟨47, _⟩ => ⟨S2048x4x128, .f32⟩
  | .hbm, ⟨48, _⟩ => ⟨S2048x4x128, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x4x128, .f32⟩
  | .hbm, ⟨55, _⟩ => ⟨S_, .f32⟩
  | .hbm, ⟨56, _⟩ => ⟨S4x128, .f32⟩
  | .hbm, ⟨57, _⟩ => ⟨S1x4x128, .f32⟩
  | .hbm, ⟨58, _⟩ => ⟨S2048x4x128, .f32⟩
  | .hbm, ⟨59, _⟩ => ⟨S2048x4x128, .f32⟩
  | .hbm, ⟨60, _⟩ => ⟨S_, .f32⟩
  | .hbm, ⟨61, _⟩ => ⟨S4x128, .f32⟩
  | .hbm, ⟨62, _⟩ => ⟨S2048x4x128, .f32⟩
  | .hbm, ⟨63, _⟩ => ⟨S_, .f32⟩
  | .hbm, ⟨64, _⟩ => ⟨S2048x4, .f32⟩
  | .hbm, ⟨65, _⟩ => ⟨S2048x4x1, .f32⟩
  | .hbm, ⟨66, _⟩ => ⟨S2048x4x128, .f32⟩
  | .hbm, ⟨67, _⟩ => ⟨S2048x4x128, .f32⟩
  | .hbm, ⟨68, _⟩ => ⟨S2048x4x1, .f32⟩
  | .hbm, ⟨69, _⟩ => ⟨S_, .f32⟩
  | .hbm, ⟨70, _⟩ => ⟨S2048x4x1, .f32⟩
  | .hbm, ⟨71, _⟩ => ⟨S2048x4x1, .f32⟩
  | .hbm, ⟨72, _⟩ => ⟨S_, .f32⟩
  | .hbm, ⟨73, _⟩ => ⟨S2048x4, .f32⟩
  | .hbm, ⟨74, _⟩ => ⟨S2048x4x128, .f32⟩
  | .hbm, ⟨75, _⟩ => ⟨S2048x4x128, .f32⟩
  | .hbm, ⟨76, _⟩ => ⟨S2048x4x128, .f32⟩
  | .hbm, ⟨77, _⟩ => ⟨S2048x4x128, .f32⟩
  | .hbm, ⟨78, _⟩ => ⟨S2048x4x128, .f32⟩
  | .hbm, ⟨79, _⟩ => ⟨S2048x512, .f32⟩
  | .hbm, ⟨80, _⟩ => ⟨S2048x512, .bf16⟩
  | .hbm, ⟨81, _⟩ => ⟨S4x1x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v21_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v21_1 : Ref sig .tc := ⟨.hbm, 40, rfl⟩
abbrev main_v21_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Gate.lean ====
abbrev S2048x2048 : Shape := ⟨2, ![2048, 2048]⟩
abbrev S4x1408x2048 : Shape := ⟨3, ![4, 1408, 2048]⟩
abbrev S2048x5632 : Shape := ⟨2, ![2048, 5632]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S2048x2048 : Shape := ⟨2, ![2048, 2048]⟩
abbrev S4x1408x2048 : Shape := ⟨3, ![4, 1408, 2048]⟩
abbrev S2048x5632 : Shape := ⟨2, ![2048, 5632]⟩
abbrev S_ : Shape := ⟨0, ![]⟩
abbrev S5632x2048 : Shape := ⟨2, ![5632, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S4x1408x2048, .f32⟩
  | .hbm, ⟨19, _⟩ => ⟨S5632x2048, .f32⟩
  | .hbm, ⟨20, _⟩ => ⟨S2048x2048, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | .hbm, ⟨30, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Norm.lean ====
abbrev S2048x2048 : Shape := ⟨2, ![2048, 2048]⟩
abbrev S2x1x2048 : Shape := ⟨3, ![2, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2x1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_19 : BitVec 32 := 0#32
  let v44 : BitVec 1 := Scalar.cmpi .ne v43 c0_i32_19
  v44

def k0_cond2 (i : grid0.Coords) : BitVec 1 :=
  let arg0 : BitVec 32 := BitVec.ofNat 32 (i 0).val
  let c0_i32_20 : BitVec 32 := 0#32
  let v45 : BitVec 1 := Scalar.cmpi .sgt arg0 c0_i32_20
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2048x2048 : Shape := ⟨2, ![2048, 2048]⟩
abbrev S2x1x2048 : Shape := ⟨3, ![2, 1, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x1x2048, .f32⟩
  | .hbm, ⟨2, _⟩ => ⟨S2048x2048, .f32⟩
  | .hbm, ⟨3, _⟩ => ⟨S2048x2048, .f32⟩
  | .hbm, ⟨4, _⟩ => ⟨S1x1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== DwDown.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwGate.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Du2.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Du2RefIdeal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S_, .f32⟩
  | .hbm, ⟨5, _⟩ => ⟨S2048x2048, .f32⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S2048x5632, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DwOut.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4x512x2048, .f32⟩
  | .hbm, ⟨10, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dy.lean ====
abbrev S2048x2048 : Shape := ⟨2, ![2048, 2048]⟩
abbrev S4x512x2048 : Shape := ⟨3, ![4, 512, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S2048x2048 : Shape := ⟨2, ![2048, 2048]⟩
abbrev S4x512x2048 : Shape := ⟨3, ![4, 512, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S_, .f32⟩
  | .hbm, ⟨3, _⟩ => ⟨S2048x2048, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S2048x2048 : Shape := ⟨2, ![2048, 2048]⟩
abbrev S2048x5760 : Shape := ⟨2, ![2048, 5760]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5760, .bf16⟩
  | .hbm, ⟨2, _⟩ => ⟨S2048x5760, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S2048x2048 : Shape := ⟨2, ![2048, 2048]⟩
abbrev S2048x5760 : Shape := ⟨2, ![2048, 5760]⟩
abbrev S_ : Shape := ⟨0, ![]⟩
abbrev S5760x2048 : Shape := ⟨2, ![5760, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5760, .bf16⟩
  | .hbm, ⟨2, _⟩ => ⟨S_, .f32⟩
  | .hbm, ⟨3, _⟩ => ⟨S2048x5760, .f32⟩
  | .hbm, ⟨4, _⟩ => ⟨S2048x2048, .f32⟩
  | .hbm, ⟨5, _⟩ => ⟨S2048x5760, .f32⟩
  | .hbm, ⟨6, _⟩ => ⟨S2048x5760, .f32⟩
  | .hbm, ⟨7, _⟩ => ⟨S5760x2048, .f32⟩
  | .hbm, ⟨8, _⟩ => ⟨S2048x5760, .f32⟩
  | .hbm, ⟨9, _⟩ => ⟨S2048x5760, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Du.lean ====
abbrev S2048x5760 : Shape := ⟨2, ![2048, 5760]⟩
abbrev S2048x2048 : Shape := ⟨2, ![2048, 2048]⟩
abbrev S1024x1920 : Shape := ⟨2, ![1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5760, .bf16⟩
  | .hbm, ⟨1, _⟩ => ⟨S2048x5760, .bf16⟩
  | .hbm, ⟨2, _⟩ => ⟨S2048x2048, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuRefIdeal.lean ====
abbrev S2048x5760 : Shape := ⟨2, ![2048, 5760]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5760, .bf16⟩
  | .hbm, ⟨1, _⟩ => ⟨S2048x5760, .bf16⟩
  | .hbm, ⟨2, _⟩ => ⟨S_, .f32⟩
  | .hbm, ⟨3, _⟩ => ⟨S2048x2048, .f32⟩
  | .hbm, ⟨4, _⟩ => ⟨S2048x5760, .f32⟩
  | .hbm, ⟨5, _⟩ => ⟨S2048x5760, .f32⟩
  | .hbm, ⟨6, _⟩ => ⟨S2048x5760, .f32⟩
  | .hbm, ⟨7, _⟩ => ⟨S2048x2048, .f32⟩
  | _, _ => ⟨S2048x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Zin.lean ====
abbrev S2048x2048 : Shape := ⟨2, ![2048, 2048]⟩
abbrev S2048x5760 : Shape := ⟨2, ![2048, 5760]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5760, .bf16⟩
  | .hbm, ⟨2, _⟩ => ⟨S2048x5760, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZinRefIdeal.lean ====
abbrev S2048x2048 : Shape := ⟨2, ![2048, 2048]⟩
abbrev S2048x5760 : Shape := ⟨2, ![2048, 5760]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5760, .bf16⟩
  | .hbm, ⟨2, _⟩ => ⟨S2048x2048, .f32⟩
  | .hbm, ⟨3, _⟩ => ⟨S2048x5760, .f32⟩
  | .hbm, ⟨4, _⟩ => ⟨S2048x5760, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S2048x2048 : Shape := ⟨2, ![2048, 2048]⟩
abbrev S4x512x2048 : Shape := ⟨3, ![4, 512, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S2048x2048 : Shape := ⟨2, ![2048, 2048]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateUp.lean ====
abbrev S2048x2048 : Shape := ⟨2, ![2048, 2048]⟩
abbrev S4x2048x1408 : Shape := ⟨3, ![4, 2048, 1408]⟩
abbrev S2048x5632 : Shape := ⟨2, ![2048, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x5632, .f32⟩
  | .hbm, ⟨4, _⟩ => ⟨S2048x5632, .f32⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S4x2048x1408, .f32⟩
  | .hbm, ⟨10, _⟩ => ⟨S2048x4x1408, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Down.lean ====
abbrev S2048x5632 : Shape := ⟨2, ![2048, 5632]⟩
abbrev S4x1408x2048 : Shape := ⟨3, ![4, 1408, 2048]⟩
abbrev S2048x2048 : Shape := ⟨2, ![2048, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S4x1408x2048 : Shape := ⟨3, ![4, 1408, 2048]⟩
abbrev S2048x2048 : Shape := ⟨2, ![2048, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x2048, .f32⟩
  | .hbm, ⟨3, _⟩ => ⟨S2048x5632, .f32⟩
  | .hbm, ⟨4, _⟩ => ⟨S4x1408x2048, .f32⟩
  | .hbm, ⟨5, _⟩ => ⟨S5632x2048, .f32⟩
  | .hbm, ⟨6, _⟩ => ⟨S2048x2048, .f32⟩
  | .hbm, ⟨7, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FwdNorm.lean ====
abbrev S2048x2048 : Shape := ⟨2, ![2048, 2048]⟩
abbrev S2x1x2048 : Shape := ⟨3, ![2, 1, 2048]⟩
abbrev S256x2048 : Shape := ⟨2, ![256, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2x1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdNormRefIdeal.lean ====
abbrev S2048x2048 : Shape := ⟨2, ![2048, 2048]⟩
abbrev S2x1x2048 : Shape := ⟨3, ![2, 1, 2048]⟩
abbrev S_ : Shape := ⟨0, ![]⟩
abbrev S2048 : Shape := ⟨1, ![2048]⟩
abbrev S2048x1 : Shape := ⟨2, ![2048, 1]⟩
abbrev S1x1x2048 : Shape := ⟨3, ![1, 1, 2048]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x1x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FwdHead.lean ====
abbrev S2048x512 : Shape := ⟨2, ![2048, 512]⟩
abbrev S2048x5760 : Shape := ⟨2, ![2048, 5760]⟩
abbrev S2x1x128 : Shape := ⟨3, ![2, 1, 128]⟩
abbrev S512x128 : Shape := ⟨2, ![512, 128]⟩
abbrev S1x1x128 : Shape := ⟨3, ![1, 1, 128]⟩
abbrev S1x128 : Shape := ⟨2, ![1, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x5760, .f32⟩
  | .hbm, ⟨2, _⟩ => ⟨S2x1x128, .f32⟩
  | .hbm, ⟨3, _⟩ => ⟨S2048x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x1x128, .f32⟩
  | .local _ .vmem, ⟨5, _⟩ => ⟨S512x128, .bf16⟩
  | .local _ .vmem, ⟨6, _⟩ => ⟨S512x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FwdHeadRefIdeal.lean ====
abbrev S2048x512 : Shape := ⟨2, ![2048, 512]⟩
abbrev S2048x5760 : Shape := ⟨2, ![2048, 5760]⟩
abbrev S2x1x128 : Shape := ⟨3, ![2, 1, 128]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S128 : Shape := ⟨1, ![128]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x5760, .f32⟩
  | .hbm, ⟨2, _⟩ => ⟨S2x1x128, .f32⟩
  | .hbm, ⟨3, _⟩ => ⟨S2048x4x128, .f32⟩
  | .hbm, ⟨4, _⟩ => ⟨S2048x4x128, .f32⟩
  | .hbm, ⟨5, _⟩ => ⟨S_, .f32⟩
  | .hbm, ⟨6, _⟩ => ⟨S2048x4, .f32⟩
  | .hbm, ⟨7, _⟩ => ⟨S2048x4x1, .f32⟩
  | .hbm, ⟨8, _⟩ => ⟨S_, .f32⟩
  | .hbm, ⟨9, _⟩ => ⟨S2048x4x1, .f32⟩
  | .hbm, ⟨10, _⟩ => ⟨S2048x4x1, .f32⟩
  | .hbm, ⟨11, _⟩ => ⟨S_, .f32⟩
  | .hbm, ⟨12, _⟩ => ⟨S2048x4x1, .f32⟩
  | .hbm, ⟨13, _⟩ => ⟨S2048x4x1, .f32⟩
  | .hbm, ⟨14, _⟩ => ⟨S2048x4x1, .f32⟩
  | .hbm, ⟨15, _⟩ => ⟨S2048x4x128, .f32⟩
  | .hbm, ⟨16, _⟩ => ⟨S2048x4x128, .f32⟩
  | .hbm, ⟨17, _⟩ => ⟨S1x1x128, .f32⟩
  | .hbm, ⟨18, _⟩ => ⟨S128, .f32⟩
  | .hbm, ⟨19, _⟩ => ⟨S1x1x128, .f32⟩
  | .hbm, ⟨20, _⟩ => ⟨S2048x4x128, .f32⟩
  | .hbm, ⟨21, _⟩ => ⟨S2048x4x128, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x4x128, .f32⟩
  | .hbm, ⟨33, _⟩ => ⟨S2048x4x128, .f32⟩
  | .hbm, ⟨34, _⟩ => ⟨S2048x512, .f32⟩
  | .hbm, ⟨35, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== FwdPool.lean ====
abbrev S2048x5760 : Shape := ⟨2, ![2048, 5760]⟩
abbrev S2x3x512 : Shape := ⟨3, ![2, 3, 512]⟩
abbrev S2x4x128x128 : Shape := ⟨4, ![2, 4, 128, 128]⟩
abbrev S2x1x512 : Shape := ⟨3, ![2, 1, 512]⟩
abbrev S2048x512 : Shape := ⟨2, ![2048, 512]⟩
abbrev S2048x128 : Shape := ⟨2, ![2048, 128]⟩
abbrev S1x3x128 : Shape := ⟨3, ![1, 3, 128]⟩
abbrev S1x1x128x128 : Shape := ⟨4, ![1, 1, 128, 128]⟩
abbrev S1x1x128 : Shape := ⟨3, ![1, 1, 128]⟩
abbrev S1x128 : Shape := ⟨2, ![1, 128]⟩
abbrev S128x128 : Shape := ⟨2, ![128, 128]⟩

abbrev nBuf : Space → Nat
  | .hbm => 6
  | .vmem => 18
  | .smem => 0
  | _ => 0

abbrev bufTy : (tb : Table) → Fin (tcTables nBuf tb) → BufTy
  | .hbm, ⟨0, _⟩ => ⟨S2048x5760, .f32⟩
  | .hbm, ⟨1, _⟩ => ⟨S2x3x512, .f32⟩
  | .hbm, ⟨2, _⟩ => ⟨S2x4x128x128, .f32⟩
  | .hbm, ⟨3, _⟩ => ⟨S2x1x512, .f32⟩
  | .hbm, ⟨4, _⟩ => ⟨S2048x512, .bf16⟩
  | .hbm, ⟨5, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x3x128, .f32⟩
  | .local _ .vmem, ⟨9, _⟩ => ⟨S1x3x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128, .f32⟩
  | .local _ .vmem, ⟨13, _⟩ => ⟨S1x1x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | _, _ => ⟨S2048x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdPoolRefIdeal.lean ====
abbrev S2048x5760 : Shape := ⟨2, ![2048, 5760]⟩
abbrev S2x3x512 : Shape := ⟨3, ![2, 3, 512]⟩
abbrev S2x4x128x128 : Shape := ⟨4, ![2, 4, 128, 128]⟩
abbrev S2x1x512 : Shape := ⟨3, ![2, 1, 512]⟩
abbrev S2048x512 : Shape := ⟨2, ![2048, 512]⟩
abbrev S1x1x512 : Shape := ⟨3, ![1, 1, 512]⟩
abbrev S512 : Shape := ⟨1, ![512]⟩
abbrev S_ : Shape := ⟨0, ![]⟩
abbrev S2x512 : Shape := ⟨2, ![2, 512]⟩
abbrev S2046x512 : Shape := ⟨2, ![2046, 512]⟩
abbrev S1x512 : Shape := ⟨2, ![1, 512]⟩
abbrev S2047x512 : Shape := ⟨2, ![2047, 512]⟩
abbrev S0x512 : Shape := ⟨2, ![0, 512]⟩
abbrev S2048 : Shape := ⟨1, ![2048]⟩
abbrev S2048x1 : Shape := ⟨2, ![2048, 1]⟩
abbrev S2048x128 : Shape := ⟨2, ![2048, 128]⟩
abbrev S0x128 : Shape := ⟨2, ![0, 128]⟩
abbrev S1x128 : Shape := ⟨2, ![1, 128]⟩
abbrev S2047x128 : Shape := ⟨2, ![2047, 128]⟩
abbrev S1x1x128x128 : Shape := ⟨4, ![1, 1, 128, 128]⟩
abbrev S128x128 : Shape := ⟨2, ![128, 128]⟩
abbrev S2x128 : Shape := ⟨2, ![2, 128]⟩
abbrev S2046x128 : Shape := ⟨2, ![2046, 128]⟩
abbrev S3x128 : Shape := ⟨2, ![3, 128]⟩
abbrev S2045x128 : Shape := ⟨2, ![2045, 128]⟩
abbrev S4x128 : Shape := ⟨2, ![4, 128]⟩
abbrev S2044x128 : Shape := ⟨2, ![2044, 128]⟩
abbrev S5x128 : Shape := ⟨2, ![5, 128]⟩
abbrev S2043x128 : Shape := ⟨2, ![2043, 128]⟩
abbrev S6x128 : Shape := ⟨2, ![6, 128]⟩
abbrev S2042x128 : Shape := ⟨2, ![2042, 128]⟩
abbrev S7x128 : Shape := ⟨2, ![7, 128]⟩
abbrev S2041x128 : Shape := ⟨2, ![2041, 128]⟩
abbrev S8x128 : Shape := ⟨2, ![8, 128]⟩
abbrev S2040x128 : Shape := ⟨2, ![2040, 128]⟩
abbrev S9x128 : Shape := ⟨2, ![9, 128]⟩
abbrev S2039x128 : Shape := ⟨2, ![2039, 128]⟩
abbrev S10x128 : Shape := ⟨2, ![10, 128]⟩
abbrev S2038x128 : Shape := ⟨2, ![2038, 128]⟩
abbrev S11x128 : Shape := ⟨2, ![11, 128]⟩
abbrev S2037x128 : Shape := ⟨2, ![2037, 128]⟩
abbrev S12x128 : Shape := ⟨2, ![12, 128]⟩
abbrev S2036x128 : Shape := ⟨2, ![2036, 128]⟩
abbrev S13x128 : Shape := ⟨2, ![13, 128]⟩
abbrev S2035x128 : Shape := ⟨2, ![2035, 128]⟩
abbrev S14x128 : Shape := ⟨2, ![14, 128]⟩
abbrev S2034x128 : Shape := ⟨2, ![2034, 128]⟩
abbrev S15x128 : Shape := ⟨2, ![15, 128]⟩
abbrev S2033x128 : Shape := ⟨2, ![2033, 128]⟩

abbrev nBuf : Space → Nat
  | .hbm => 257
  | .vmem => 0
  | .smem => 0
  | _ => 0

abbrev hbmTy0_0 (i : Nat) : BufTy := match i % 128 with
  | 0 => ⟨S2048x5760, .f32⟩
  | 1 => ⟨S2x3x512, .f32⟩
  | 2 => ⟨S2x4x128x128, .f32⟩
  | 3 => ⟨S2x1x512, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S1x1x512, .f32⟩
  | 10 => ⟨S512, .f32⟩
  | 11 => ⟨S_, .f32⟩
  | 12 => ⟨S2x512, .f32⟩
  | 13 => ⟨S2046x512, .f32⟩
  | 14 => ⟨S2048x512, .f32⟩
  | 15 => ⟨S1x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S1x1x512, .f32⟩
  | 22 => ⟨S512, .f32⟩
  | 23 => ⟨S_, .f32⟩
  | 24 => ⟨S1x512, .f32⟩
  | 25 => ⟨S2047x512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S1x1x512, .f32⟩
  | 32 => ⟨S512, .f32⟩
  | 33 => ⟨S_, .f32⟩
  | 34 => ⟨S0x512, .f32⟩
  | 35 => ⟨S2048x512, .f32⟩
  | 36 => ⟨S1x512, .f32⟩
  | 37 => ⟨S2048x512, .f32⟩
  | 38 => ⟨S2048x512, .f32⟩
  | 39 => ⟨S2048x512, .f32⟩
  | 40 => ⟨S2048, .i32⟩
  | 41 => ⟨S2048, .f32⟩
  | 42 => ⟨S2048x1, .f32⟩
  | 43 => ⟨S2048x128, .f32⟩
  | 44 => ⟨S_, .f32⟩
  | 45 => ⟨S0x128, .f32⟩
  | 46 => ⟨S2048x128, .f32⟩
  | 47 => ⟨S_, .f32⟩
  | 48 => ⟨S2048x128, .f32⟩
  | 49 => ⟨S2048x128, .f32⟩
  | 50 => ⟨S_, .f32⟩
  | 51 => ⟨S1x128, .f32⟩
  | 52 => ⟨S2047x128, .f32⟩
  | 53 => ⟨S2048x128, .f32⟩
  | 54 => ⟨S2048x128, .f32⟩
  | 55 => ⟨S_, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x128, .f32⟩
  | 62 => ⟨S2048x128, .f32⟩
  | 63 => ⟨S2048x128, .f32⟩
  | 64 => ⟨S1x1x128x128, .f32⟩
  | 65 => ⟨S128x128, .f32⟩
  | 66 => ⟨S2048x128, .f32⟩
  | 67 => ⟨S2048x128, .f32⟩
  | 68 => ⟨S_, .f32⟩
  | 69 => ⟨S0x128, .f32⟩
  | 70 => ⟨S2048x128, .f32⟩
  | 71 => ⟨S_, .f32⟩
  | 72 => ⟨S2048x128, .f32⟩
  | 73 => ⟨S2048x128, .f32⟩
  | 74 => ⟨S_, .f32⟩
  | 75 => ⟨S1x128, .f32⟩
  | 76 => ⟨S2047x128, .f32⟩
  | 77 => ⟨S2048x128, .f32⟩
  | 78 => ⟨S2048x128, .f32⟩
  | 79 => ⟨S_, .f32⟩
  | 80 => ⟨S2x128, .f32⟩
  | 81 => ⟨S2046x128, .f32⟩
  | 82 => ⟨S2048x128, .f32⟩
  | 83 => ⟨S2048x128, .f32⟩
  | 84 => ⟨S_, .f32⟩
  | 85 => ⟨S3x128, .f32⟩
  | 86 => ⟨S2045x128, .f32⟩
  | 87 => ⟨S2048x128, .f32⟩
  | 88 => ⟨S2048x128, .f32⟩
  | 89 => ⟨S_, .f32⟩
  | 90 => ⟨S2048x1, .f32⟩
  | 91 => ⟨S2048x1, .f32⟩
  | 92 => ⟨S_, .f32⟩
  | 93 => ⟨S2048x1, .f32⟩
  | 94 => ⟨S2048x1, .f32⟩
  | 95 => ⟨S2048x128, .f32⟩
  | 96 => ⟨S2048x128, .f32⟩
  | 97 => ⟨S2048x128, .f32⟩
  | 98 => ⟨S1x1x128x128, .f32⟩
  | 99 => ⟨S128x128, .f32⟩
  | 100 => ⟨S2048x128, .f32⟩
  | 101 => ⟨S2048x128, .f32⟩
  | 102 => ⟨S_, .f32⟩
  | 103 => ⟨S0x128, .f32⟩
  | 104 => ⟨S2048x128, .f32⟩
  | 105 => ⟨S_, .f32⟩
  | 106 => ⟨S2048x128, .f32⟩
  | 107 => ⟨S2048x128, .f32⟩
  | 108 => ⟨S_, .f32⟩
  | 109 => ⟨S1x128, .f32⟩
  | 110 => ⟨S2047x128, .f32⟩
  | 111 => ⟨S2048x128, .f32⟩
  | 112 => ⟨S2048x128, .f32⟩
  | 113 => ⟨S_, .f32⟩
  | 114 => ⟨S2x128, .f32⟩
  | 115 => ⟨S2046x128, .f32⟩
  | 116 => ⟨S2048x128, .f32⟩
  | 117 => ⟨S2048x128, .f32⟩
  | 118 => ⟨S_, .f32⟩
  | 119 => ⟨S3x128, .f32⟩
  | 120 => ⟨S2045x128, .f32⟩
  | 121 => ⟨S2048x128, .f32⟩
  | 122 => ⟨S2048x128, .f32⟩
  | 123 => ⟨S_, .f32⟩
  | 124 => ⟨S4x128, .f32⟩
  | 125 => ⟨S2044x128, .f32⟩
  | 126 => ⟨S2048x128, .f32⟩
  | 127 => ⟨S2048x128, .f32⟩
  | _ => ⟨S2048x5760, .f32⟩

abbrev hbmTy0_1 (i : Nat) : BufTy := match i % 128 with
  | 0 => ⟨S_, .f32⟩
  | 1 => ⟨S5x128, .f32⟩
  | 2 => ⟨S2043x128, .f32⟩
  | 3 => ⟨S2048x128, .f32⟩
  | 4 => ⟨S2048x128, .f32⟩
  | 5 => ⟨S_, .f32⟩
  | 6 => ⟨S6x128, .f32⟩
  | 7 => ⟨S2042x128, .f32⟩
  | 8 => ⟨S2048x128, .f32⟩
  | 9 => ⟨S2048x128, .f32⟩
  | 10 => ⟨S_, .f32⟩
  | 11 => ⟨S7x128, .f32⟩
  | 12 => ⟨S2041x128, .f32⟩
  | 13 => ⟨S2048x128, .f32⟩
  | 14 => ⟨S2048x128, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x128, .f32⟩
  | 22 => ⟨S2048x128, .f32⟩
  | 23 => ⟨S2048x128, .f32⟩
  | 24 => ⟨S1x1x128x128, .f32⟩
  | 25 => ⟨S128x128, .f32⟩
  | 26 => ⟨S2048x128, .f32⟩
  | 27 => ⟨S2048x128, .f32⟩
  | 28 => ⟨S_, .f32⟩
  | 29 => ⟨S0x128, .f32⟩
  | 30 => ⟨S2048x128, .f32⟩
  | 31 => ⟨S_, .f32⟩
  | 32 => ⟨S2048x128, .f32⟩
  | 33 => ⟨S2048x128, .f32⟩
  | 34 => ⟨S_, .f32⟩
  | 35 => ⟨S1x128, .f32⟩
  | 36 => ⟨S2047x128, .f32⟩
  | 37 => ⟨S2048x128, .f32⟩
  | 38 => ⟨S2048x128, .f32⟩
  | 39 => ⟨S_, .f32⟩
  | 40 => ⟨S2x128, .f32⟩
  | 41 => ⟨S2046x128, .f32⟩
  | 42 => ⟨S2048x128, .f32⟩
  | 43 => ⟨S2048x128, .f32⟩
  | 44 => ⟨S_, .f32⟩
  | 45 => ⟨S3x128, .f32⟩
  | 46 => ⟨S2045x128, .f32⟩
  | 47 => ⟨S2048x128, .f32⟩
  | 48 => ⟨S2048x128, .f32⟩
  | 49 => ⟨S_, .f32⟩
  | 50 => ⟨S4x128, .f32⟩
  | 51 => ⟨S2044x128, .f32⟩
  | 52 => ⟨S2048x128, .f32⟩
  | 53 => ⟨S2048x128, .f32⟩
  | 54 => ⟨S_, .f32⟩
  | 55 => ⟨S5x128, .f32⟩
  | 56 => ⟨S2043x128, .f32⟩
  | 57 => ⟨S2048x128, .f32⟩
  | 58 => ⟨S2048x128, .f32⟩
  | 59 => ⟨S_, .f32⟩
  | 60 => ⟨S6x128, .f32⟩
  | 61 => ⟨S2042x128, .f32⟩
  | 62 => ⟨S2048x128, .f32⟩
  | 63 => ⟨S2048x128, .f32⟩
  | 64 => ⟨S_, .f32⟩
  | 65 => ⟨S7x128, .f32⟩
  | 66 => ⟨S2041x128, .f32⟩
  | 67 => ⟨S2048x128, .f32⟩
  | 68 => ⟨S2048x128, .f32⟩
  | 69 => ⟨S_, .f32⟩
  | 70 => ⟨S8x128, .f32⟩
  | 71 => ⟨S2040x128, .f32⟩
  | 72 => ⟨S2048x128, .f32⟩
  | 73 => ⟨S2048x128, .f32⟩
  | 74 => ⟨S_, .f32⟩
  | 75 => ⟨S9x128, .f32⟩
  | 76 => ⟨S2039x128, .f32⟩
  | 77 => ⟨S2048x128, .f32⟩
  | 78 => ⟨S2048x128, .f32⟩
  | 79 => ⟨S_, .f32⟩
  | 80 => ⟨S10x128, .f32⟩
  | 81 => ⟨S2038x128, .f32⟩
  | 82 => ⟨S2048x128, .f32⟩
  | 83 => ⟨S2048x128, .f32⟩
  | 84 => ⟨S_, .f32⟩
  | 85 => ⟨S11x128, .f32⟩
  | 86 => ⟨S2037x128, .f32⟩
  | 87 => ⟨S2048x128, .f32⟩
  | 88 => ⟨S2048x128, .f32⟩
  | 89 => ⟨S_, .f32⟩
  | 90 => ⟨S12x128, .f32⟩
  | 91 => ⟨S2036x128, .f32⟩
  | 92 => ⟨S2048x128, .f32⟩
  | 93 => ⟨S2048x128, .f32⟩
  | 94 => ⟨S_, .f32⟩
  | 95 => ⟨S13x128, .f32⟩
  | 96 => ⟨S2035x128, .f32⟩
  | 97 => ⟨S2048x128, .f32⟩
  | 98 => ⟨S2048x128, .f32⟩
  | 99 => ⟨S_, .f32⟩
  | 100 => ⟨S14x128, .f32⟩
  | 101 => ⟨S2034x128, .f32⟩
  | 102 => ⟨S2048x128, .f32⟩
  | 103 => ⟨S2048x128, .f32⟩
  | 104 => ⟨S_, .f32⟩
  | 105 => ⟨S15x128, .f32⟩
  | 106 => ⟨S2033x128, .f32⟩
  | 107 => ⟨S2048x128, .f32⟩
  | 108 => ⟨S2048x128, .f32⟩
  | 109 => ⟨S_, .f32⟩
  | 110 => ⟨S2048x1, .f32⟩
  | 111 => ⟨S2048x1, .f32⟩
  | 112 => ⟨S_, .f32⟩
  | 113 => ⟨S2048x1, .f32⟩
  | 114 => ⟨S2048x1, .f32⟩
  | 115 => ⟨S2048x128, .f32⟩
  | 116 => ⟨S2048x128, .f32⟩
  | 117 => ⟨S2048x128, .f32⟩
  | 118 => ⟨S1x1x128x128, .f32⟩
  | 119 => ⟨S128x128, .f32⟩
  | 120 => ⟨S2048x128, .f32⟩
  | 121 => ⟨S2048x512, .f32⟩
  | 122 => ⟨S2048x512, .bf16⟩
  | 123 => ⟨S2048x512, .f32⟩
  | 124 => ⟨S1x1x512, .f32⟩
  | 125 => ⟨S1x512, .f32⟩
  | 126 => ⟨S2048x512, .f32⟩
  | 127 => ⟨S2048x512, .f32⟩
  | _ => ⟨S2048x5760, .f32⟩

abbrev hbmTy0_2 (i : Nat) : BufTy := match i % 128 with
  | 0 => ⟨S2048x512, .bf16⟩
  | _ => ⟨S2048x5760, .f32⟩

abbrev hbmTy (i : Nat) : BufTy := match i / 128 with
  | 0 => hbmTy0_0 i
  | 1 => hbmTy0_1 i
  | 2 => hbmTy0_2 i
  | _ => ⟨S2048x5760, .f32⟩

abbrev bufTy : (tb : Table) → Fin (tcTables nBuf tb) → BufTy
  | .hbm, ⟨i, _⟩ => hbmTy i
  | _, _ => ⟨S2048x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_cst_16 : Ref sig .tc := ⟨.hbm, 105, rfl⟩
abbrev main_v84 : Ref sig .tc := ⟨.hbm, 106, rfl⟩
abbrev main_v85 : Ref sig .tc := ⟨.hbm, 107, rfl⟩
abbrev main_cst_17 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_18 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_19 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_21 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_22 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_23 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_24 : Ref sig .tc := ⟨.hbm, 143, rfl⟩
abbrev main_v114 : Ref sig .tc := ⟨.hbm, 144, rfl⟩
abbrev main_v115 : Ref sig .tc := ⟨.hbm, 145, rfl⟩
abbrev main_cst_25 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_26 : Ref sig .tc := ⟨.hbm, 156, rfl⟩
abbrev main_v125 : Ref sig .tc := ⟨.hbm, 157, rfl⟩
abbrev main_v126 : Ref sig .tc := ⟨.hbm, 158, rfl⟩
abbrev main_cst_27 : Ref sig .tc := ⟨.hbm, 159, rfl⟩
abbrev main_v127 : Ref sig .tc := ⟨.hbm, 160, rfl⟩
abbrev main_v128 : Ref sig .tc := ⟨.hbm, 161, rfl⟩
abbrev main_cst_28 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_29 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_30 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_31 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_32 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_33 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_34 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_35 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_cst_36 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_37 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_cst_38 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_39 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_40 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_41 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_cst_42 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_cst_43 : Ref sig .tc := ⟨.hbm, 237, rfl⟩
abbrev main_v189 : Ref sig .tc := ⟨.hbm, 238, rfl⟩
abbrev main_v190 : Ref sig .tc := ⟨.hbm, 239, rfl⟩
abbrev main_cst_44 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩

abbrev nD : Nat := 1
abbrev τ : Topo := Topo.v7x

variable {F : FTy → Type} [FloatOps F]
-- ==== Loss.lean ====
abbrev S2048x2048 : Shape := ⟨2, ![2048, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_9 : BitVec 32 := 0#32
  let v18 : BitVec 1 := Scalar.cmpi .ne v17 c0_i32_9
  v18

def k0_cond2 (i : grid0.Coords) : BitVec 1 :=
  let arg0 : BitVec 32 := BitVec.ofNat 32 (i 0).val
  let c0_i32_10 : BitVec 32 := 0#32
  let v19 : BitVec 1 := Scalar.cmpi .sgt arg0 c0_i32_10
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossRefIdeal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S_, .f32⟩
  | .hbm, ⟨29, _⟩ => ⟨S8x128, .f32⟩
  | .hbm, ⟨30, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== OptOut.lean ====
abbrev S512x2048 : Shape := ⟨2, ![512, 2048]⟩
abbrev S2x512x2048 : Shape := ⟨3, ![2, 512, 2048]⟩
abbrev S256x2048 : Shape := ⟨2, ![256, 2048]⟩
abbrev S1x256x2048 : Shape := ⟨3, ![1, 256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptOutIdeal.lean ====
abbrev S512x2048 : Shape := ⟨2, ![512, 2048]⟩
abbrev S2x512x2048 : Shape := ⟨3, ![2, 512, 2048]⟩
abbrev S256x2048 : Shape := ⟨2, ![256, 2048]⟩
abbrev S1x256x2048 : Shape := ⟨3, ![1, 256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptOutRefIdeal.lean ====
abbrev S512x2048 : Shape := ⟨2, ![512, 2048]⟩
abbrev S2x512x2048 : Shape := ⟨3, ![2, 512, 2048]⟩
abbrev S1x512x2048 : Shape := ⟨3, ![1, 512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S1x512x2048, .f32⟩
  | .hbm, ⟨6, _⟩ => ⟨S1x512x2048, .f32⟩
  | .hbm, ⟨7, _⟩ => ⟨S2x512x2048, .f32⟩
  | .hbm, ⟨8, _⟩ => ⟨S_, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== OptGate.lean ====
abbrev S2048x1408 : Shape := ⟨2, ![2048, 1408]⟩
abbrev S2x2048x1408 : Shape := ⟨3, ![2, 2048, 1408]⟩
abbrev S256x1408 : Shape := ⟨2, ![256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c7_i32 : BitVec 32 := 7#32
  let v2 : BitVec 32 := Scalar.muli c7_i32 arg0
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptGateIdeal.lean ====
abbrev S2048x1408 : Shape := ⟨2, ![2048, 1408]⟩
abbrev S2x2048x1408 : Shape := ⟨3, ![2, 2048, 1408]⟩
abbrev S256x1408 : Shape := ⟨2, ![256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c7_i32 : BitVec 32 := 7#32
  let v2 : BitVec 32 := Scalar.muli c7_i32 arg0
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptGateRefIdeal.lean ====
abbrev S2048x1408 : Shape := ⟨2, ![2048, 1408]⟩
abbrev S2x2048x1408 : Shape := ⟨3, ![2, 2048, 1408]⟩
abbrev S1x2048x1408 : Shape := ⟨3, ![1, 2048, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S1x2048x1408, .f32⟩
  | .hbm, ⟨6, _⟩ => ⟨S1x2048x1408, .f32⟩
  | .hbm, ⟨7, _⟩ => ⟨S2x2048x1408, .f32⟩
  | .hbm, ⟨8, _⟩ => ⟨S_, .f32⟩
  | .hbm, ⟨9, _⟩ => ⟨S2x2048x1408, .f32⟩
  | .hbm, ⟨10, _⟩ => ⟨S2x2048x1408, .f32⟩
  | .hbm, ⟨11, _⟩ => ⟨S_, .f32⟩
  | .hbm, ⟨12, _⟩ => ⟨S2x2048x1408, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S2x2048x1408, .f32⟩
  | .hbm, ⟨19, _⟩ => ⟨S_, .f32⟩
  | .hbm, ⟨20, _⟩ => ⟨S2x2048x1408, .f32⟩
  | .hbm, ⟨21, _⟩ => ⟨S2x2048x1408, .f32⟩
  | .hbm, ⟨22, _⟩ => ⟨S2x2048x1408, .f32⟩
  | .hbm, ⟨23, _⟩ => ⟨S_, .f32⟩
  | .hbm, ⟨24, _⟩ => ⟨S2x2048x1408, .f32⟩
  | .hbm, ⟨25, _⟩ => ⟨S2x2048x1408, .f32⟩
  | .hbm, ⟨26, _⟩ => ⟨S_, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S_, .f32⟩
  | .hbm, ⟨31, _⟩ => ⟨S2x2048x1408, .f32⟩
  | .hbm, ⟨32, _⟩ => ⟨S2x2048x1408, .f32⟩
  | .hbm, ⟨33, _⟩ => ⟨S2x2048x1408, .f32⟩
  | .hbm, ⟨34, _⟩ => ⟨S_, .f32⟩
  | .hbm, ⟨35, _⟩ => ⟨S2x2048x1408, .f32⟩
  | .hbm, ⟨36, _⟩ => ⟨S2x2048x1408, .f32⟩
  | .hbm, ⟨37, _⟩ => ⟨S2x2048x1408, .f32⟩
  | .hbm, ⟨38, _⟩ => ⟨S_, .f32⟩
  | .hbm, ⟨39, _⟩ => ⟨S2x2048x1408, .f32⟩
  | .hbm, ⟨40, _⟩ => ⟨S2x2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== OptDown.lean ====
abbrev S1408x2048 : Shape := ⟨2, ![1408, 2048]⟩
abbrev S2x1408x2048 : Shape := ⟨3, ![2, 1408, 2048]⟩
abbrev S128x2048 : Shape := ⟨2, ![128, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c10_i32 : BitVec 32 := 10#32
  let v2 : BitVec 32 := Scalar.muli c10_i32 arg0
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptDownRefIdeal.lean ====
abbrev S1408x2048 : Shape := ⟨2, ![1408, 2048]⟩
abbrev S2x1408x2048 : Shape := ⟨3, ![2, 1408, 2048]⟩
abbrev S1x1408x2048 : Shape := ⟨3, ![1, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S1x1408x2048, .f32⟩
  | .hbm, ⟨6, _⟩ => ⟨S1x1408x2048, .f32⟩
  | .hbm, ⟨7, _⟩ => ⟨S2x1408x2048, .f32⟩
  | .hbm, ⟨8, _⟩ => ⟨S_, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S2x1408x2048, .f32⟩
  | .hbm, ⟨23, _⟩ => ⟨S_, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2x1408x2048, .f32⟩
  | .hbm, ⟨38, _⟩ => ⟨S_, .f32⟩
  | .hbm, ⟨39, _⟩ => ⟨S2x1408x2048, .f32⟩
  | .hbm, ⟨40, _⟩ => ⟨S2x1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Sum8.lean ====
abbrev S9792x128 : Shape := ⟨2, ![9792, 128]⟩
abbrev S1224x128 : Shape := ⟨2, ![1224, 128]⟩

abbrev nBuf : Space → Nat
  | .hbm => 2
  | .vmem => 2
  | .smem => 0
  | _ => 0

abbrev bufTy : (tb : Table) → Fin (tcTables nBuf tb) → BufTy
  | .hbm, ⟨0, _⟩ => ⟨S9792x128, .f32⟩
  | .hbm, ⟨1, _⟩ => ⟨S1224x128, .f32⟩
  | .local _ .vmem, ⟨0, _⟩ => ⟨S9792x128, .f32⟩
  | .local _ .vmem, ⟨1, _⟩ => ⟨S1224x128, .f32⟩
  | _, _ => ⟨S9792x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S9792x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Sum8RefIdeal.lean ====
abbrev S9792x128 : Shape := ⟨2, ![9792, 128]⟩
abbrev S8x1224x128 : Shape := ⟨3, ![8, 1224, 128]⟩
abbrev S_ : Shape := ⟨0, ![]⟩
abbrev S1224x128 : Shape := ⟨2, ![1224, 128]⟩

abbrev nBuf : Space → Nat
  | .hbm => 4
  | .vmem => 0
  | .smem => 0
  | _ => 0

abbrev bufTy : (tb : Table) → Fin (tcTables nBuf tb) → BufTy
  | .hbm, ⟨0, _⟩ => ⟨S9792x128, .f32⟩
  | .hbm, ⟨1, _⟩ => ⟨S8x1224x128, .f32⟩
  | .hbm, ⟨2, _⟩ => ⟨S_, .f32⟩
  | .hbm, ⟨3, _⟩ => ⟨S1224x128, .f32⟩
  | _, _ => ⟨S9792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OptSmall.lean ====
abbrev S1160x128 : Shape := ⟨2, ![1160, 128]⟩

abbrev nBuf : Space → Nat
  | .hbm => 7
  | .vmem => 7
  | .smem => 0
  | _ => 0

abbrev bufTy : (tb : Table) → Fin (tcTables nBuf tb) → BufTy
  | .hbm, ⟨0, _⟩ => ⟨S1160x128, .f32⟩
  | .hbm, ⟨1, _⟩ => ⟨S1160x128, .f32⟩
  | .hbm, ⟨2, _⟩ => ⟨S1160x128, .f32⟩
  | .hbm, ⟨3, _⟩ => ⟨S1160x128, .f32⟩
  | .hbm, ⟨4, _⟩ => ⟨S1160x128, .f32⟩
  | .hbm, ⟨5, _⟩ => ⟨S1160x128, .f32⟩
  | .hbm, ⟨6, _⟩ => ⟨S1160x128, .f32⟩
  | .local _ .vmem, ⟨0, _⟩ => ⟨S1160x128, .f32⟩
  | .local _ .vmem, ⟨1, _⟩ => ⟨S1160x128, .f32⟩
  | .local _ .vmem, ⟨2, _⟩ => ⟨S1160x128, .f32⟩
  | .local _ .vmem, ⟨3, _⟩ => ⟨S1160x128, .f32⟩
  | .local _ .vmem, ⟨4, _⟩ => ⟨S1160x128, .f32⟩
  | .local _ .vmem, ⟨5, _⟩ => ⟨S1160x128, .f32⟩
  | .local _ .vmem, ⟨6, _⟩ => ⟨S1160x128, .f32⟩
  | _, _ => ⟨S1160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OptSmallRefIdeal.lean ====
abbrev S1160x128 : Shape := ⟨2, ![1160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1160x128, .f32⟩
  | .hbm, ⟨1, _⟩ => ⟨S1160x128, .f32⟩
  | .hbm, ⟨2, _⟩ => ⟨S1160x128, .f32⟩
  | .hbm, ⟨3, _⟩ => ⟨S1160x128, .f32⟩
  | .hbm, ⟨4, _⟩ => ⟨S_, .f32⟩
  | .hbm, ⟨5, _⟩ => ⟨S1160x128, .f32⟩
  | .hbm, ⟨6, _⟩ => ⟨S1160x128, .f32⟩
  | .hbm, ⟨7, _⟩ => ⟨S_, .f32⟩
  | .hbm, ⟨8, _⟩ => ⟨S1160x128, .f32⟩
  | .hbm, ⟨9, _⟩ => ⟨S1160x128, .f32⟩
  | .hbm, ⟨10, _⟩ => ⟨S1160x128, .f32⟩
  | .hbm, ⟨11, _⟩ => ⟨S_, .f32⟩
  | .hbm, ⟨12, _⟩ => ⟨S1160x128, .f32⟩
  | .hbm, ⟨13, _⟩ => ⟨S1160x128, .f32⟩
  | .hbm, ⟨14, _⟩ => ⟨S1160x128, .f32⟩
  | .hbm, ⟨15, _⟩ => ⟨S_, .f32⟩
  | .hbm, ⟨16, _⟩ => ⟨S1160x128, .f32⟩
  | .hbm, ⟨17, _⟩ => ⟨S1160x128, .f32⟩
  | .hbm, ⟨18, _⟩ => ⟨S1160x128, .f32⟩
  | .hbm, ⟨19, _⟩ => ⟨S_, .f32⟩
  | .hbm, ⟨20, _⟩ => ⟨S1160x128, .f32⟩
  | .hbm, ⟨21, _⟩ => ⟨S1160x128, .f32⟩
  | .hbm, ⟨22, _⟩ => ⟨S_, .f32⟩
  | .hbm, ⟨23, _⟩ => ⟨S1160x128, .f32⟩
  | .hbm, ⟨24, _⟩ => ⟨S1160x128, .f32⟩
  | .hbm, ⟨25, _⟩ => ⟨S1160x128, .f32⟩
  | .hbm, ⟨26, _⟩ => ⟨S_, .f32⟩
  | .hbm, ⟨27, _⟩ => ⟨S1160x128, .f32⟩
  | .hbm, ⟨28, _⟩ => ⟨S1160x128, .f32⟩
  | .hbm, ⟨29, _⟩ => ⟨S1160x128, .f32⟩
  | .hbm, ⟨30, _⟩ => ⟨S_, .f32⟩
  | .hbm, ⟨31, _⟩ => ⟨S1160x128, .f32⟩
  | .hbm, ⟨32, _⟩ => ⟨S1160x128, .f32⟩
  | .hbm, ⟨33, _⟩ => ⟨S1160x128, .f32⟩
  | .hbm, ⟨34, _⟩ => ⟨S_, .f32⟩
  | .hbm, ⟨35, _⟩ => ⟨S1160x128, .f32⟩
  | .hbm, ⟨36, _⟩ => ⟨S1160x128, .f32⟩
  | _, _ => ⟨S1160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FoxPrep.lean ====
abbrev S2048x5760 : Shape := ⟨2, ![2048, 5760]⟩
abbrev S2x1x128 : Shape := ⟨3, ![2, 1, 128]⟩
abbrev S2048x128 : Shape := ⟨2, ![2048, 128]⟩
abbrev S128x2048 : Shape := ⟨2, ![128, 2048]⟩
abbrev S1x1x128 : Shape := ⟨3, ![1, 1, 128]⟩
abbrev S1x128 : Shape := ⟨2, ![1, 128]⟩

abbrev nBuf : Space → Nat
  | .hbm => 4
  | .vmem => 4
  | .smem => 0
  | _ => 0

abbrev bufTy : (tb : Table) → Fin (tcTables nBuf tb) → BufTy
  | .hbm, ⟨0, _⟩ => ⟨S2048x5760, .f32⟩
  | .hbm, ⟨1, _⟩ => ⟨S2x1x128, .f32⟩
  | .hbm, ⟨2, _⟩ => ⟨S2048x128, .f32⟩
  | .hbm, ⟨3, _⟩ => ⟨S128x2048, .f32⟩
  | .local _ .vmem, ⟨0, _⟩ => ⟨S2048x128, .f32⟩
  | .local _ .vmem, ⟨1, _⟩ => ⟨S1x1x128, .f32⟩
  | .local _ .vmem, ⟨2, _⟩ => ⟨S2048x128, .f32⟩
  | .local _ .vmem, ⟨3, _⟩ => ⟨S128x2048, .f32⟩
  | _, _ => ⟨S2048x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c44_i32 : BitVec 32 := 44#32
  let c0_i32_0 : BitVec 32 := 0#32
  ![c0_i32.toNat, c44_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FoxPrepRefIdeal.lean ====
abbrev S2048x5760 : Shape := ⟨2, ![2048, 5760]⟩
abbrev S2x1x128 : Shape := ⟨3, ![2, 1, 128]⟩
abbrev S2048x128 : Shape := ⟨2, ![2048, 128]⟩
abbrev S1x1x128 : Shape := ⟨3, ![1, 1, 128]⟩
abbrev S1x128 : Shape := ⟨2, ![1, 128]⟩
abbrev S_ : Shape := ⟨0, ![]⟩
abbrev S128x2048 : Shape := ⟨2, ![128, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x5760, .f32⟩
  | .hbm, ⟨1, _⟩ => ⟨S2x1x128, .f32⟩
  | .hbm, ⟨2, _⟩ => ⟨S2048x128, .f32⟩
  | .hbm, ⟨3, _⟩ => ⟨S1x1x128, .f32⟩
  | .hbm, ⟨4, _⟩ => ⟨S1x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S_, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .i1⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S_, .f32⟩
  | .hbm, ⟨25, _⟩ => ⟨S2048x128, .f32⟩
  | .hbm, ⟨26, _⟩ => ⟨S128x2048, .f32⟩
  | _, _ => ⟨S2048x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Fox.lean ====
abbrev S2048x5760 : Shape := ⟨2, ![2048, 5760]⟩
abbrev S2048x128 : Shape := ⟨2, ![2048, 128]⟩
abbrev S128x2048 : Shape := ⟨2, ![128, 2048]⟩
abbrev S2x1x128 : Shape := ⟨3, ![2, 1, 128]⟩
abbrev S2048x512 : Shape := ⟨2, ![2048, 512]⟩
abbrev S8x2048 : Shape := ⟨2, ![8, 2048]⟩
abbrev S1x1x128 : Shape := ⟨3, ![1, 1, 128]⟩
abbrev S256x128 : Shape := ⟨2, ![256, 128]⟩
abbrev S8x256 : Shape := ⟨2, ![8, 256]⟩
abbrev S1x128 : Shape := ⟨2, ![1, 128]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S256x512 : Shape := ⟨2, ![256, 512]⟩
abbrev S1x512 : Shape := ⟨2, ![1, 512]⟩
abbrev S768x128 : Shape := ⟨2, ![768, 128]⟩
abbrev S8x768 : Shape := ⟨2, ![8, 768]⟩
abbrev S768 : Shape := ⟨1, ![768]⟩
abbrev S768x1 : Shape := ⟨2, ![768, 1]⟩
abbrev S256x768 : Shape := ⟨2, ![256, 768]⟩
abbrev S1x768 : Shape := ⟨2, ![1, 768]⟩
abbrev S1024x128 : Shape := ⟨2, ![1024, 128]⟩
abbrev S8x1024 : Shape := ⟨2, ![8, 1024]⟩
abbrev S1024 : Shape := ⟨1, ![1024]⟩
abbrev S1024x1 : Shape := ⟨2, ![1024, 1]⟩
abbrev S256x1024 : Shape := ⟨2, ![256, 1024]⟩
abbrev S1x1024 : Shape := ⟨2, ![1, 1024]⟩
abbrev S1280x128 : Shape := ⟨2, ![1280, 128]⟩
abbrev S8x1280 : Shape := ⟨2, ![8, 1280]⟩
abbrev S1280 : Shape := ⟨1, ![1280]⟩
abbrev S1280x1 : Shape := ⟨2, ![1280, 1]⟩
abbrev S256x1280 : Shape := ⟨2, ![256, 1280]⟩
abbrev S1x1280 : Shape := ⟨2, ![1, 1280]⟩
abbrev S1536x128 : Shape := ⟨2, ![1536, 128]⟩
abbrev S8x1536 : Shape := ⟨2, ![8, 1536]⟩
abbrev S1536 : Shape := ⟨1, ![1536]⟩
abbrev S1536x1 : Shape := ⟨2, ![1536, 1]⟩
abbrev S256x1536 : Shape := ⟨2, ![256, 1536]⟩
abbrev S1x1536 : Shape := ⟨2, ![1, 1536]⟩
abbrev S1792x128 : Shape := ⟨2, ![1792, 128]⟩
abbrev S8x1792 : Shape := ⟨2, ![8, 1792]⟩
abbrev S1792 : Shape := ⟨1, ![1792]⟩
abbrev S1792x1 : Shape := ⟨2, ![1792, 1]⟩
abbrev S256x1792 : Shape := ⟨2, ![256, 1792]⟩
abbrev S1x1792 : Shape := ⟨2, ![1, 1792]⟩
abbrev S2048 : Shape := ⟨1, ![2048]⟩
abbrev S2048x1 : Shape := ⟨2, ![2048, 1]⟩
abbrev S256x2048 : Shape := ⟨2, ![256, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2048x5760, .f32⟩
  | .hbm, ⟨1, _⟩ => ⟨S2048x128, .f32⟩
  | .hbm, ⟨2, _⟩ => ⟨S128x2048, .f32⟩
  | .hbm, ⟨3, _⟩ => ⟨S2x1x128, .f32⟩
  | .hbm, ⟨4, _⟩ => ⟨S2x1x128, .f32⟩
  | .hbm, ⟨5, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S8x2048, .f32⟩
  | .local _ .vmem, ⟨8, _⟩ => ⟨S1x1x128, .f32⟩
  | .local _ .vmem, ⟨9, _⟩ => ⟨S1x1x128, .f32⟩
  | .local _ .vmem, ⟨10, _⟩ => ⟨S2048x128, .bf16⟩
  | .local _ .vmem, ⟨11, _⟩ => ⟨S2048x128, .bf16⟩
  | _, _ => ⟨S2048x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FoxRefIdeal.lean ====
abbrev S2048x5760 : Shape := ⟨2, ![2048, 5760]⟩
abbrev S2048x128 : Shape := ⟨2, ![2048, 128]⟩
abbrev S128x2048 : Shape := ⟨2, ![128, 2048]⟩
abbrev S2x1x128 : Shape := ⟨3, ![2, 1, 128]⟩
abbrev S2048x512 : Shape := ⟨2, ![2048, 512]⟩
abbrev S2048x4x128 : Shape := ⟨3, ![2048, 4, 128]⟩
abbrev S1x1x128 : Shape := ⟨3, ![1, 1, 128]⟩
abbrev S128 : Shape := ⟨1, ![128]⟩
abbrev S_ : Shape := ⟨0, ![]⟩
abbrev S2048x4 : Shape := ⟨2, ![2048, 4]⟩
abbrev S2048x4x1 : Shape := ⟨3, ![2048, 4, 1]⟩
abbrev S4x2048x2048 : Shape := ⟨3, ![4, 2048, 2048]⟩
abbrev S4x2048 : Shape := ⟨2, ![4, 2048]⟩
abbrev S4x2048x1 : Shape := ⟨3, ![4, 2048, 1]⟩
abbrev S4x1x2048 : Shape := ⟨3, ![4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x128x2048 : Shape := ⟨3, ![4, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x5760, .f32⟩
  | .hbm, ⟨1, _⟩ => ⟨S2048x128, .f32⟩
  | .hbm, ⟨2, _⟩ => ⟨S128x2048, .f32⟩
  | .hbm, ⟨3, _⟩ => ⟨S2x1x128, .f32⟩
  | .hbm, ⟨4, _⟩ => ⟨S2x1x128, .f32⟩
  | .hbm, ⟨5, _⟩ => ⟨S2048x512, .f32⟩
  | .hbm, ⟨6, _⟩ => ⟨S2048x4x128, .f32⟩
  | .hbm, ⟨7, _⟩ => ⟨S2048x512, .f32⟩
  | .hbm, ⟨8, _⟩ => ⟨S2048x4x128, .f32⟩
  | .hbm, ⟨9, _⟩ => ⟨S2048x512, .f32⟩
  | .hbm, ⟨10, _⟩ => ⟨S2048x4x128, .f32⟩
  | .hbm, ⟨11, _⟩ => ⟨S1x1x128, .f32⟩
  | .hbm, ⟨12, _⟩ => ⟨S128, .f32⟩
  | .hbm, ⟨13, _⟩ => ⟨S2048x4x128, .f32⟩
  | .hbm, ⟨14, _⟩ => ⟨S_, .f32⟩
  | .hbm, ⟨15, _⟩ => ⟨S2048x4, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S_, .f32⟩
  | .hbm, ⟨21, _⟩ => ⟨S2048x4x1, .f32⟩
  | .hbm, ⟨22, _⟩ => ⟨S2048x4x1, .f32⟩
  | .hbm, ⟨23, _⟩ => ⟨S2048x4x1, .f32⟩
  | .hbm, ⟨24, _⟩ => ⟨S2048x4x128, .f32⟩
  | .hbm, ⟨25, _⟩ => ⟨S2048x4x128, .f32⟩
  | .hbm, ⟨26, _⟩ => ⟨S1x1x128, .f32⟩
  | .hbm, ⟨27, _⟩ => ⟨S2048x4x128, .f32⟩
  | .hbm, ⟨28, _⟩ => ⟨S2048x4x128, .f32⟩
  | .hbm, ⟨29, _⟩ => ⟨S1x1x128, .f32⟩
  | .hbm, ⟨30, _⟩ => ⟨S128, .f32⟩
  | .hbm, ⟨31, _⟩ => ⟨S2048x4x128, .f32⟩
  | .hbm, ⟨32, _⟩ => ⟨S_, .f32⟩
  | .hbm, ⟨33, _⟩ => ⟨S2048x4, .f32⟩
  | .hbm, ⟨34, _⟩ => ⟨S2048x4x1, .f32⟩
  | .hbm, ⟨35, _⟩ => ⟨S_, .f32⟩
  | .hbm, ⟨36, _⟩ => ⟨S2048x4x1, .f32⟩
  | .hbm, ⟨37, _⟩ => ⟨S2048x4x1, .f32⟩
  | .hbm, ⟨38, _⟩ => ⟨S_, .f32⟩
  | .hbm, ⟨39, _⟩ => ⟨S2048x4x1, .f32⟩
  | .hbm, ⟨40, _⟩ => ⟨S2048x4x1, .f32⟩
  | .hbm, ⟨41, _⟩ => ⟨S2048x4x1, .f32⟩
  | .hbm, ⟨42, _⟩ => ⟨S2048x4x128, .f32⟩
  | .hbm, ⟨43, _⟩ => ⟨S2048x4x128, .f32⟩
  | .hbm, ⟨44, _⟩ => ⟨S1x1x128, .f32⟩
  | .hbm, ⟨45, _⟩ => ⟨S2048x4x128, .f32⟩
  | .hbm, ⟨46, _⟩ => ⟨S2048x4x128, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S2048x4, .f32⟩
  | .hbm, ⟨52, _⟩ => ⟨S4x2048, .f32⟩
  | .hbm, ⟨53, _⟩ => ⟨S4x2048x1, .f32⟩
  | .hbm, ⟨54, _⟩ => ⟨S4x2048x2048, .f32⟩
  | .hbm, ⟨55, _⟩ => ⟨S4x2048x2048, .f32⟩
  | .hbm, ⟨56, _⟩ => ⟨S4x2048, .f32⟩
  | .hbm, ⟨57, _⟩ => ⟨S4x1x2048, .f32⟩
  | .hbm, ⟨58, _⟩ => ⟨S4x2048x2048, .f32⟩
  | .hbm, ⟨59, _⟩ => ⟨S4x2048x2048, .f32⟩
  | .hbm, ⟨60, _⟩ => ⟨S2048, .i32⟩
  | .hbm, ⟨61, _⟩ => ⟨S1x2048, .i32⟩
  | .hbm, ⟨62, _⟩ => ⟨S2048x1, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S4x2048x2048, .i1⟩
  | .hbm, ⟨69, _⟩ => ⟨S4x2048x2048, .f32⟩
  | .hbm, ⟨70, _⟩ => ⟨S4x2048x2048, .f32⟩
  | .hbm, ⟨71, _⟩ => ⟨S_, .f32⟩
  | .hbm, ⟨72, _⟩ => ⟨S4x2048, .f32⟩
  | .hbm, ⟨73, _⟩ => ⟨S_, .f32⟩
  | .hbm, ⟨74, _⟩ => ⟨S4x2048, .f32⟩
  | .hbm, ⟨75, _⟩ => ⟨S4x2048, .f32⟩
  | .hbm, ⟨76, _⟩ => ⟨S4x2048x1, .f32⟩
  | .hbm, ⟨77, _⟩ => ⟨S4x2048x2048, .f32⟩
  | .hbm, ⟨78, _⟩ => ⟨S4x2048x2048, .f32⟩
  | .hbm, ⟨79, _⟩ => ⟨S4x2048x2048, .f32⟩
  | .hbm, ⟨80, _⟩ => ⟨S_, .f32⟩
  | .hbm, ⟨81, _⟩ => ⟨S4x2048, .f32⟩
  | .hbm, ⟨82, _⟩ => ⟨S4x2048x1, .f32⟩
  | .hbm, ⟨83, _⟩ => ⟨S4x2048x2048, .f32⟩
  | .hbm, ⟨84, _⟩ => ⟨S4x2048x2048, .f32⟩
  | .hbm, ⟨85, _⟩ => ⟨S4x128x2048, .f32⟩
  | .hbm, ⟨86, _⟩ => ⟨S2048x4x128, .f32⟩
  | .hbm, ⟨87, _⟩ => ⟨S2048x512, .f32⟩
  | .hbm, ⟨88, _⟩ => ⟨S2048x512, .bf16⟩
  | _, _ => ⟨S2048x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== FoxPrepBwd.lean ====
abbrev S2048x5760 : Shape := ⟨2, ![2048, 5760]⟩
abbrev S2x1x128 : Shape := ⟨3, ![2, 1, 128]⟩
abbrev S4x2048x128 : Shape := ⟨3, ![4, 2048, 128]⟩
abbrev S4x8x2048 : Shape := ⟨3, ![4, 8, 2048]⟩
abbrev S2048x128 : Shape := ⟨2, ![2048, 128]⟩
abbrev S1x128 : Shape := ⟨2, ![1, 128]⟩
abbrev S1x1x128 : Shape := ⟨3, ![1, 1, 128]⟩
abbrev S1x2048x128 : Shape := ⟨3, ![1, 2048, 128]⟩
abbrev S1x8x2048 : Shape := ⟨3, ![1, 8, 2048]⟩
abbrev S8x2048 : Shape := ⟨2, ![8, 2048]⟩
abbrev S120x2048 : Shape := ⟨2, ![120, 2048]⟩
abbrev S128x2048 : Shape := ⟨2, ![128, 2048]⟩
abbrev S128 : Shape := ⟨1, ![128]⟩

abbrev nBuf : Space → Nat
  | .hbm => 7
  | .vmem => 7
  | .smem => 0
  | _ => 0

abbrev bufTy : (tb : Table) → Fin (tcTables nBuf tb) → BufTy
  | .hbm, ⟨0, _⟩ => ⟨S2048x5760, .f32⟩
  | .hbm, ⟨1, _⟩ => ⟨S2x1x128, .f32⟩
  | .hbm, ⟨2, _⟩ => ⟨S4x2048x128, .f32⟩
  | .hbm, ⟨3, _⟩ => ⟨S4x8x2048, .f32⟩
  | .hbm, ⟨4, _⟩ => ⟨S4x2048x128, .f32⟩
  | .hbm, ⟨5, _⟩ => ⟨S2048x128, .bf16⟩
  | .hbm, ⟨6, _⟩ => ⟨S1x128, .f32⟩
  | .local _ .vmem, ⟨0, _⟩ => ⟨S2048x128, .f32⟩
  | .local _ .vmem, ⟨1, _⟩ => ⟨S1x1x128, .f32⟩
  | .local _ .vmem, ⟨2, _⟩ => ⟨S4x2048x128, .f32⟩
  | .local _ .vmem, ⟨3, _⟩ => ⟨S4x8x2048, .f32⟩
  | .local _ .vmem, ⟨4, _⟩ => ⟨S4x2048x128, .f32⟩
  | .local _ .vmem, ⟨5, _⟩ => ⟨S2048x128, .bf16⟩
  | .local _ .vmem, ⟨6, _⟩ => ⟨S1x128, .f32⟩
  | _, _ => ⟨S2048x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c44_i32 : BitVec 32 := 44#32
  let c0_i32_0 : BitVec 32 := 0#32
  ![c0_i32.toNat, c44_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FoxPrepBwdRefIdeal.lean ====
abbrev S2048x5760 : Shape := ⟨2, ![2048, 5760]⟩
abbrev S2x1x128 : Shape := ⟨3, ![2, 1, 128]⟩
abbrev S4x2048x128 : Shape := ⟨3, ![4, 2048, 128]⟩
abbrev S4x8x2048 : Shape := ⟨3, ![4, 8, 2048]⟩
abbrev S2048x128 : Shape := ⟨2, ![2048, 128]⟩
abbrev S1x1x128 : Shape := ⟨3, ![1, 1, 128]⟩
abbrev S1x128 : Shape := ⟨2, ![1, 128]⟩
abbrev S_ : Shape := ⟨0, ![]⟩
abbrev S2048x8 : Shape := ⟨2, ![2048, 8]⟩
abbrev S8x2048 : Shape := ⟨2, ![8, 2048]⟩
abbrev S128 : Shape := ⟨1, ![128]⟩

abbrev nBuf : Space → Nat
  | .hbm => 84
  | .vmem => 0
  | .smem => 0
  | _ => 0

abbrev bufTy : (tb : Table) → Fin (tcTables nBuf tb) → BufTy
  | .hbm, ⟨0, _⟩ => ⟨S2048x5760, .f32⟩
  | .hbm, ⟨1, _⟩ => ⟨S2x1x128, .f32⟩
  | .hbm, ⟨2, _⟩ => ⟨S4x2048x128, .f32⟩
  | .hbm, ⟨3, _⟩ => ⟨S4x8x2048, .f32⟩
  | .hbm, ⟨4, _⟩ => ⟨S4x2048x128, .f32⟩
  | .hbm, ⟨5, _⟩ => ⟨S2048x128, .f32⟩
  | .hbm, ⟨6, _⟩ => ⟨S1x1x128, .f32⟩
  | .hbm, ⟨7, _⟩ => ⟨S1x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .i1⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x128, .i1⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S_, .f32⟩
  | .hbm, ⟨32, _⟩ => ⟨S2048x128, .f32⟩
  | .hbm, ⟨33, _⟩ => ⟨S2048x128, .i1⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048x128, .f32⟩
  | .hbm, ⟨47, _⟩ => ⟨S2048x128, .i1⟩
  | .hbm, ⟨48, _⟩ => ⟨S_, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S2048x128, .f32⟩
  | .hbm, ⟨54, _⟩ => ⟨S_, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S_, .f32⟩
  | .hbm, ⟨59, _⟩ => ⟨S_, .f32⟩
  | .hbm, ⟨60, _⟩ => ⟨S2048x128, .f32⟩
  | .hbm, ⟨61, _⟩ => ⟨S2048x8, .f32⟩
  | .hbm, ⟨62, _⟩ => ⟨S8x2048, .f32⟩
  | .hbm, ⟨63, _⟩ => ⟨S_, .f32⟩
  | .hbm, ⟨64, _⟩ => ⟨S2048x128, .f32⟩
  | .hbm, ⟨65, _⟩ => ⟨S_, .f32⟩
  | .hbm, ⟨66, _⟩ => ⟨S8x2048, .f32⟩
  | .hbm, ⟨67, _⟩ => ⟨S2048x8, .f32⟩
  | .hbm, ⟨68, _⟩ => ⟨S_, .f32⟩
  | .hbm, ⟨69, _⟩ => ⟨S2048x128, .f32⟩
  | .hbm, ⟨70, _⟩ => ⟨S2048x128, .f32⟩
  | .hbm, ⟨71, _⟩ => ⟨S_, .f32⟩
  | .hbm, ⟨72, _⟩ => ⟨S_, .f32⟩
  | .hbm, ⟨73, _⟩ => ⟨S2048x128, .f32⟩
  | .hbm, ⟨74, _⟩ => ⟨S2048x128, .f32⟩
  | .hbm, ⟨75, _⟩ => ⟨S2048x128, .f32⟩
  | .hbm, ⟨76, _⟩ => ⟨S2048x128, .f32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .f32⟩
  | .hbm, ⟨81, _⟩ => ⟨S2048x128, .f32⟩
  | .hbm, ⟨82, _⟩ => ⟨S2048x128, .f32⟩
  | .hbm, ⟨83, _⟩ => ⟨S2048x128, .bf16⟩
  | _, _ => ⟨S2048x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1_0 : Ref sig .tc := ⟨.hbm, 24, rfl⟩
abbrev main_call0_call0_cst_0 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst_1 : Ref sig .tc := ⟨.hbm, 28, rfl⟩
abbrev main_call0_call0_v15 : Ref sig .tc := ⟨.hbm, 29, rfl⟩
abbrev main_call0_call0_v16 : Ref sig .tc := ⟨.hbm, 30, rfl⟩
abbrev main_call0_call0_cst_2 : Ref sig .tc := ⟨.hbm, 31, rfl⟩
abbrev main_call0_call0_v17 : Ref sig .tc := ⟨.hbm, 32, rfl⟩
abbrev main_call0_call0_v18 : Ref sig .tc := ⟨.hbm, 33, rfl⟩
abbrev main_call0_call0_cst_3 : Ref sig .tc := ⟨.hbm, 34, rfl⟩
abbrev main_call0_call0_v19 : Ref sig .tc := ⟨.hbm, 35, rfl⟩
abbrev main_call0_call0_v20 : Ref sig .tc := ⟨.hbm, 36, rfl⟩
abbrev main_call0_call0_v21 : Ref sig .tc := ⟨.hbm, 37, rfl⟩
abbrev main_v5_1 : Ref sig .tc := ⟨.hbm, 38, rfl⟩
abbrev main_call0_call0_cst_4 : Ref sig .tc := ⟨.hbm, 39, rfl⟩
abbrev main_call0_call0_cst_5 : Ref sig .tc := ⟨.hbm, 40, rfl⟩
abbrev main_call0_call0_v23 : Ref sig .tc := ⟨.hbm, 41, rfl⟩
abbrev main_call0_call0_cst_6 : Ref sig .tc := ⟨.hbm, 42, rfl⟩
abbrev main_call0_call0_cst_7 : Ref sig .tc := ⟨.hbm, 43, rfl⟩
abbrev main_call0_call0_v24 : Ref sig .tc := ⟨.hbm, 44, rfl⟩
abbrev main_call0_call0_cst_8 : Ref sig .tc := ⟨.hbm, 45, rfl⟩
abbrev main_call0_call0_v25 : Ref sig .tc := ⟨.hbm, 46, rfl⟩
abbrev main_call0_call0_v26 : Ref sig .tc := ⟨.hbm, 47, rfl⟩
abbrev main_call0_call0_cst_9 : Ref sig .tc := ⟨.hbm, 48, rfl⟩
abbrev main_call0_call0_v27 : Ref sig .tc := ⟨.hbm, 49, rfl⟩
abbrev main_call0_call0_v28 : Ref sig .tc := ⟨.hbm, 50, rfl⟩
abbrev main_call0_call0_v29 : Ref sig .tc := ⟨.hbm, 51, rfl⟩
abbrev main_call0_call0_v30 : Ref sig .tc := ⟨.hbm, 52, rfl⟩
abbrev main_call0_call0_v31 : Ref sig .tc := ⟨.hbm, 53, rfl⟩
abbrev main_call0_call0_cst_10 : Ref sig .tc := ⟨.hbm, 54, rfl⟩
abbrev main_call0_call0_v32 : Ref sig .tc := ⟨.hbm, 55, rfl⟩
abbrev main_v5_2 : Ref sig .tc := ⟨.hbm, 56, rfl⟩
abbrev main_v5_0 : Ref sig .tc := ⟨.hbm, 57, rfl⟩
abbrev main_call1_call0_cst : Ref sig .tc := ⟨.hbm, 58, rfl⟩
abbrev main_call1_call0_v0 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_cst : Ref sig .tc := ⟨.hbm, 63, rfl⟩
abbrev main_v9 : Ref sig .tc := ⟨.hbm, 64, rfl⟩
abbrev main_cst_0 : Ref sig .tc := ⟨.hbm, 65, rfl⟩
abbrev main_v10 : Ref sig .tc := ⟨.hbm, 66, rfl⟩
abbrev main_v11 : Ref sig .tc := ⟨.hbm, 67, rfl⟩
abbrev main_cst_1 : Ref sig .tc := ⟨.hbm, 68, rfl⟩
abbrev main_v12 : Ref sig .tc := ⟨.hbm, 69, rfl⟩
abbrev main_v13 : Ref sig .tc := ⟨.hbm, 70, rfl⟩
abbrev main_call2_call0_cst : Ref sig .tc := ⟨.hbm, 71, rfl⟩
abbrev main_call2_call0_v0 : Ref sig .tc := ⟨.hbm, 72, rfl⟩
abbrev main_v14 : Ref sig .tc := ⟨.hbm, 73, rfl⟩
abbrev main_call3_v0 : Ref sig .tc := ⟨.hbm, 74, rfl⟩
abbrev main_call3_v1 : Ref sig .tc := ⟨.hbm, 75, rfl⟩
abbrev main_v15 : Ref sig .tc := ⟨.hbm, 76, rfl⟩
abbrev main_cst_2 : Ref sig .tc := ⟨.hbm, 77, rfl⟩
abbrev main_v16 : Ref sig .tc := ⟨.hbm, 78, rfl⟩
abbrev main_v17 : Ref sig .tc := ⟨.hbm, 79, rfl⟩
abbrev main_cst_3 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩

abbrev nD : Nat := 1
abbrev τ : Topo := Topo.v7x

variable {F : FTy → Type} [FloatOps F]
-- ==== Chunk.lean ====
abbrev S2048x5760 : Shape := ⟨2, ![2048, 5760]⟩
abbrev S2x128x512 : Shape := ⟨3, ![2, 128, 512]⟩
abbrev S2x1x512 : Shape := ⟨3, ![2, 1, 512]⟩
abbrev S2048x512 : Shape := ⟨2, ![2048, 512]⟩
abbrev S32x512 : Shape := ⟨2, ![32, 512]⟩
abbrev S512x128 : Shape := ⟨2, ![512, 128]⟩
abbrev S1x128x128 : Shape := ⟨3, ![1, 128, 128]⟩
abbrev S1x1x128 : Shape := ⟨3, ![1, 1, 128]⟩
abbrev S8x128 : Shape := ⟨2, ![8, 128]⟩
abbrev S128x128 : Shape := ⟨2, ![128, 128]⟩
abbrev S1x128 : Shape := ⟨2, ![1, 128]⟩
abbrev S8x64x128 : Shape := ⟨3, ![8, 64, 128]⟩
abbrev S8x1x128 : Shape := ⟨3, ![8, 1, 128]⟩
abbrev S8x64x64 : Shape := ⟨3, ![8, 64, 64]⟩

abbrev nBuf : Space → Nat
  | .hbm => 7
  | .vmem => 20
  | .smem => 0
  | _ => 0

abbrev bufTy : (tb : Table) → Fin (tcTables nBuf tb) → BufTy
  | .hbm, ⟨0, _⟩ => ⟨S2048x5760, .f32⟩
  | .hbm, ⟨1, _⟩ => ⟨S2x128x512, .f32⟩
  | .hbm, ⟨2, _⟩ => ⟨S2x1x512, .f32⟩
  | .hbm, ⟨3, _⟩ => ⟨S2048x512, .bf16⟩
  | .hbm, ⟨4, _⟩ => ⟨S2048x512, .bf16⟩
  | .hbm, ⟨5, _⟩ => ⟨S32x512, .f32⟩
  | .hbm, ⟨6, _⟩ => ⟨S2048x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128x128, .f32⟩
  | .local _ .vmem, ⟨9, _⟩ => ⟨S1x128x128, .f32⟩
  | .local _ .vmem, ⟨10, _⟩ => ⟨S1x1x128, .f32⟩
  | .local _ .vmem, ⟨11, _⟩ => ⟨S1x1x128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S8x128, .f32⟩
  | .local _ .vmem, ⟨17, _⟩ => ⟨S8x128, .f32⟩
  | .local _ .vmem, ⟨18, _⟩ => ⟨S512x128, .f32⟩
  | .local _ .vmem, ⟨19, _⟩ => ⟨S512x128, .f32⟩
  | _, _ => ⟨S2048x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg1.toNat, c44_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ChunkRefIdeal.lean ====
abbrev S2048x5760 : Shape := ⟨2, ![2048, 5760]⟩
abbrev S2x128x512 : Shape := ⟨3, ![2, 128, 512]⟩
abbrev S2x1x512 : Shape := ⟨3, ![2, 1, 512]⟩
abbrev S2048x128 : Shape := ⟨2, ![2048, 128]⟩
abbrev S1x128x512 : Shape := ⟨3, ![1, 128, 512]⟩
abbrev S128x512 : Shape := ⟨2, ![128, 512]⟩
abbrev S2048x512 : Shape := ⟨2, ![2048, 512]⟩
abbrev S1x1x512 : Shape := ⟨3, ![1, 1, 512]⟩
abbrev S1x512 : Shape := ⟨2, ![1, 512]⟩
abbrev S_ : Shape := ⟨0, ![]⟩
abbrev S32x64x4x128 : Shape := ⟨4, ![32, 64, 4, 128]⟩
abbrev S32x64x1x4x128 : Shape := ⟨5, ![32, 64, 1, 4, 128]⟩
abbrev S32x1x64x4x128 : Shape := ⟨5, ![32, 1, 64, 4, 128]⟩
abbrev S32x64x64x4x128 : Shape := ⟨5, ![32, 64, 64, 4, 128]⟩
abbrev S32x64x64x4 : Shape := ⟨4, ![32, 64, 64, 4]⟩
abbrev S32x4x128x64 : Shape := ⟨4, ![32, 4, 128, 64]⟩
abbrev S32x1x4x128 : Shape := ⟨4, ![32, 1, 4, 128]⟩
abbrev S32x4x128 : Shape := ⟨3, ![32, 4, 128]⟩
abbrev S32x512 : Shape := ⟨2, ![32, 512]⟩

abbrev nBuf : Space → Nat
  | .hbm => 77
  | .vmem => 0
  | .smem => 0
  | _ => 0

abbrev bufTy : (tb : Table) → Fin (tcTables nBuf tb) → BufTy
  | .hbm, ⟨0, _⟩ => ⟨S2048x5760, .f32⟩
  | .hbm, ⟨1, _⟩ => ⟨S2x128x512, .f32⟩
  | .hbm, ⟨2, _⟩ => ⟨S2x1x512, .f32⟩
  | .hbm, ⟨3, _⟩ => ⟨S2048x128, .f32⟩
  | .hbm, ⟨4, _⟩ => ⟨S1x128x512, .f32⟩
  | .hbm, ⟨5, _⟩ => ⟨S128x512, .f32⟩
  | .hbm, ⟨6, _⟩ => ⟨S2048x512, .f32⟩
  | .hbm, ⟨7, _⟩ => ⟨S1x1x512, .f32⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .i1⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S32x64x4x128, .f32⟩
  | .hbm, ⟨31, _⟩ => ⟨S_, .f32⟩
  | .hbm, ⟨32, _⟩ => ⟨S_, .f32⟩
  | .hbm, ⟨33, _⟩ => ⟨S32x64x4x128, .f32⟩
  | .hbm, ⟨34, _⟩ => ⟨S2048x512, .f32⟩
  | .hbm, ⟨35, _⟩ => ⟨S32x64x4x128, .f32⟩
  | .hbm, ⟨36, _⟩ => ⟨S_, .f32⟩
  | .hbm, ⟨37, _⟩ => ⟨S32x64x4x128, .f32⟩
  | .hbm, ⟨38, _⟩ => ⟨S32x64x4x128, .f32⟩
  | .hbm, ⟨39, _⟩ => ⟨S2048x512, .f32⟩
  | .hbm, ⟨40, _⟩ => ⟨S32x64x4x128, .f32⟩
  | .hbm, ⟨41, _⟩ => ⟨S2048x512, .f32⟩
  | .hbm, ⟨42, _⟩ => ⟨S32x64x4x128, .f32⟩
  | .hbm, ⟨43, _⟩ => ⟨S32x64x1x4x128, .f32⟩
  | .hbm, ⟨44, _⟩ => ⟨S32x1x64x4x128, .f32⟩
  | .hbm, ⟨45, _⟩ => ⟨S32x64x64x4x128, .f32⟩
  | .hbm, ⟨46, _⟩ => ⟨S32x64x64x4x128, .f32⟩
  | .hbm, ⟨47, _⟩ => ⟨S32x64x64x4x128, .f32⟩
  | .hbm, ⟨48, _⟩ => ⟨S32x64x64x4x128, .f32⟩
  | .hbm, ⟨49, _⟩ => ⟨S32x64x64x4x128, .f32⟩
  | .hbm, ⟨50, _⟩ => ⟨S32x64x64x4x128, .f32⟩
  | .hbm, ⟨51, _⟩ => ⟨S32x64x1x4x128, .f32⟩
  | .hbm, ⟨52, _⟩ => ⟨S32x64x64x4x128, .f32⟩
  | .hbm, ⟨53, _⟩ => ⟨S32x64x64x4x128, .f32⟩
  | .hbm, ⟨54, _⟩ => ⟨S32x1x64x4x128, .f32⟩
  | .hbm, ⟨55, _⟩ => ⟨S32x64x64x4x128, .f32⟩
  | .hbm, ⟨56, _⟩ => ⟨S32x64x64x4x128, .f32⟩
  | .hbm, ⟨57, _⟩ => ⟨S_, .f32⟩
  | .hbm, ⟨58, _⟩ => ⟨S32x64x64x4, .f32⟩
  | .hbm, ⟨59, _⟩ => ⟨S32x4x128x64, .f32⟩
  | .hbm, ⟨60, _⟩ => ⟨S32x64x4x128, .f32⟩
  | .hbm, ⟨61, _⟩ => ⟨S32x1x4x128, .f32⟩
  | .hbm, ⟨62, _⟩ => ⟨S32x4x128, .f32⟩
  | .hbm, ⟨63, _⟩ => ⟨S32x64x4x128, .f32⟩
  | .hbm, ⟨64, _⟩ => ⟨S32x64x4x128, .f32⟩
  | .hbm, ⟨65, _⟩ => ⟨S2048x512, .f32⟩
  | .hbm, ⟨66, _⟩ => ⟨S2048x512, .bf16⟩
  | .hbm, ⟨67, _⟩ => ⟨S32x1x4x128, .f32⟩
  | .hbm, ⟨68, _⟩ => ⟨S32x64x4x128, .f32⟩
  | .hbm, ⟨69, _⟩ => ⟨S32x64x4x128, .f32⟩
  | .hbm, ⟨70, _⟩ => ⟨S32x64x4x128, .f32⟩
  | .hbm, ⟨71, _⟩ => ⟨S32x64x4x128, .f32⟩
  | .hbm, ⟨72, _⟩ => ⟨S2048x512, .f32⟩
  | .hbm, ⟨73, _⟩ => ⟨S2048x512, .bf16⟩
  | .hbm, ⟨74, _⟩ => ⟨S32x4x128, .f32⟩
  | .hbm, ⟨75, _⟩ => ⟨S32x512, .f32⟩
  | .hbm, ⟨76, _⟩ => ⟨S2048x512, .f32⟩
  | _, _ => ⟨S2048x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_call0_cst : Ref sig .tc := ⟨.hbm, 31, rfl⟩
abbrev main_call1_call0_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Proof.ConvPoolCols.lean ====
module

public import proofs.«01_k».proof.Proof.Gen.ConvPoolIdeal.Value
public import Idealize.ShloMosaic.Lib.WordCmp
public import Idealize.ShloMosaic.Lib.Pipeline.ValueKit
public import Idealize.ShloMosaic.Lib.KernelVsHost

/-! # The gated convolution's and the pool's gradient: columns delayed and advanced, and what the kernel's rotations and
the reference's shifted slices make of them -/

@[expose] public section

set_option maxRecDepth 16384

noncomputable section

namespace Cert.Proof.ConvPoolCols

open Idealize.ShloMosaic Idealize.ShloMosaic.TcCoe Idealize.SL.Sem
open Cert.ConvPoolIdeal Cert.ConvPoolIdeal.Gen

/-- A column delayed by `n` rows: zero in its first `n` rows. -/
def del (n : ℕ) (f : Fin 2048 → EReal) (i : Fin 2048) : EReal :=
  if h : i.val < n then 0 else f ⟨i.val - n, by omega⟩

/-- A column advanced by `n` rows: zero in its last `n` rows. -/
def adv (n : ℕ) (f : Fin 2048 → EReal) (i : Fin 2048) : EReal :=
  if h : i.val < 2048 - n then f ⟨n + i.val, by omega⟩ else 0

/-- A delay of a sum is the sum of the delays. -/
theorem del_add (n : ℕ) (f g : Fin 2048 → EReal) (i : Fin 2048) :
    del n (fun r => f r + g r) i = del n f i + del n g i := by
  unfold del; split <;> simp

/-- So for an advance. -/
theorem adv_add (n : ℕ) (f g : Fin 2048 → EReal) (i : Fin 2048) :
    adv n (fun r => f r + g r) i = adv n f i + adv n g i := by
  unfold adv; split <;> simp

/-- Delays add up. -/
theorem del_del (n k : ℕ) (f : Fin 2048 → EReal) (i : Fin 2048) :
    del n (fun r => del k f r) i = del (n + k) f i := by
  simp only [del]; split
  · rw [dif_pos (by omega)]
  · split
    · rw [dif_pos (by omega)]
    · rw [dif_neg (by omega)]; congr 2; omega

/-- Advances add up. -/
theorem adv_adv (n k : ℕ) (f : Fin 2048 → EReal) (i : Fin 2048) :
    adv n (fun r => adv k f r) i = adv (n + k) f i := by
  simp only [adv]; split
  · split
    · rw [dif_pos (by omega)]; congr 2; omega
    · rw [dif_neg (by omega)]
  · rw [dif_neg (by omega)]

/-- Nothing advanced is nothing. -/
theorem adv_const (n : ℕ) (i : Fin 2048) : adv n (fun _ => 0) i = 0 := by simp [adv]

/-- No delay. -/
theorem del_zero (f : Fin 2048 → EReal) (i : Fin 2048) : del 0 f i = f i := by simp [del]

/-- No advance. -/
theorem adv_zero (f : Fin 2048 → EReal) (i : Fin 2048) : adv 0 f i = f i := by simp [adv, i.isLt]

/-- A tile from its columns. -/
def cols (g : Fin 128 → Fin 2048 → EReal) : FVec Ideal S2048x128 .f32 := fun y => g (y 1) (y 0)

/-- Every tile is that of its columns. -/
theorem eq_cols (x : FVec Ideal S2048x128 .f32) : x = cols fun l r => x (ix2 r l) :=
  funext fun y => congrArg x (eq_ix2 y)

/-- A sum of tiles, column by column. -/
theorem addf_cols (f g : Fin 128 → Fin 2048 → EReal) : addf (cols f) (cols g) = cols fun l r => f l r + g l r := rfl

/-- The tile of zeros. -/
theorem zero_cols : broadcast S2048x128 (Scalar.ofBits .f32 0x00000000#32 : Ideal .f32) = cols fun _ _ => 0 := by
  funext y; pointwise [cols]

/-- The kernel's delay: rotate the rows down and clear what came around the end. -/
theorem delay_cols (n : ℕ) (hn : n < 2048) (f : Fin 128 → Fin 2048 → EReal) :
    select (cmpi .sge (iota .tc S2048x128 32 [0] iota_S2048x128_d0_w32) (broadcast S2048x128 (BitVec.ofNat 32 n)))
        (dynamicRotate 0 (BitVec.ofNat 32 n) none (cols f) rotates_S2048x128_d0)
        (cols fun _ _ => 0) = cols fun l r => del n (f l) r := by
  funext y
  have y0 : (y 0).val < 2048 := (y 0).isLt
  have e : (BitVec.ofNat 32 n).toNat % 2048 = n := by rw [BitVec.toNat_ofNat]; omega
  pointwise [del, Scalar.select, e, cols]
  rw [WordCmp.cmpi_sge_ofNat (by omega) (by omega)]
  by_cases h : (y 0).val < n
  · rw [dif_pos h]; simp [show ¬ n ≤ (y 0).val by omega]
  · rw [dif_neg h]
    have e2 : ((y 0).val + 2048 - n) % 2048 = (y 0).val - n := by omega
    simp [show n ≤ (y 0).val by omega, e2]

/-- The kernel's advance: clear the first rows and rotate the rest up. -/
theorem advance_cols (n : ℕ) (hn : n < 2048) (hn0 : 0 < n) (f : Fin 128 → Fin 2048 → EReal) :
    dynamicRotate 0 (BitVec.ofNat 32 (2048 - n)) none
        (select (cmpi .sge (iota .tc S2048x128 32 [0] iota_S2048x128_d0_w32) (broadcast S2048x128 (BitVec.ofNat 32 n)))
          (cols f) (cols fun _ _ => 0)) rotates_S2048x128_d0
      = cols fun l r => adv n (f l) r := by
  funext y
  have y0 : (y 0).val < 2048 := (y 0).isLt
  have e : (BitVec.ofNat 32 (2048 - n)).toNat % 2048 = 2048 - n := by rw [BitVec.toNat_ofNat]; omega
  have e2 : (y 0).val + 2048 - (2048 - n) = n + (y 0).val := by omega
  pointwise [adv, Scalar.select, e, e2, cols]
  by_cases h : (y 0).val < 2048 - n
  · rw [dif_pos h]
    have e3 : (n + (y 0).val) % 2048 = n + (y 0).val := by omega
    simp [e3, WordCmp.cmpi_sge_ofNat (w := 32) (a := n + (y 0).val) (b := n) (by omega) (by omega)]
  · rw [dif_neg h]
    have e3 : (n + (y 0).val) % 2048 = n + (y 0).val - 2048 := by omega
    simp [e3, WordCmp.cmpi_sge_ofNat (w := 32) (a := n + (y 0).val - 2048) (b := n) (by omega) (by omega),
      show ¬ n ≤ n + (y 0).val - 2048 by omega]

/-- The convolution of a column with three taps. -/
def conv (w : Fin 3 → EReal) (x : Fin 2048 → EReal) (i : Fin 2048) : EReal :=
  w 0 * del 2 x i + w 1 * del 1 x i + w 2 * x i

/-- The gradient through it. -/
def convT (w : Fin 3 → EReal) (g : Fin 2048 → EReal) (i : Fin 2048) : EReal :=
  w 2 * g i + adv 1 (fun r => w 1 * g r) i + adv 2 (fun r => w 0 * g r) i

/-- What each tap multiplies: the column delayed by two rows, by one, and as it is. -/
def tap (x : Fin 2048 → EReal) : Fin 3 → Fin 2048 → EReal := ![del 2 x, del 1 x, x]

/-- The lengths of the four groups' windows. -/
def len : Fin 4 → ℕ := ![2, 4, 8, 16]

/-- The lengths as the programs write them. -/
def width : Fin 4 → EReal := ![Ideal.ofBits .f32 0x40000000#32, Ideal.ofBits .f32 0x40800000#32,
  Ideal.ofBits .f32 0x41000000#32, Ideal.ofBits .f32 0x41800000#32]

/-- The window sum of a column: the last `len j` rows up to each row. -/
def wsum (j : Fin 4) (f : Fin 2048 → EReal) (i : Fin 2048) : EReal := ∑ k ∈ Finset.range (len j), del k f i

/-- Its transpose: the next `len j` rows from each row on. -/
def wsumT (j : Fin 4) (f : Fin 2048 → EReal) (i : Fin 2048) : EReal := ∑ k ∈ Finset.range (len j), adv k f i

/-- How many rows group `j`'s window holds at a row. -/
def held (j : Fin 4) (i : Fin 2048) : EReal :=
  min ((((BitVec.ofNat 32 i.val).toInt : ℝ) : EReal) + 1) (width j)

/-- The pooled column of group `j`: its window mean less the column. -/
def pooled (j : Fin 4) (f : Fin 2048 → EReal) (i : Fin 2048) : EReal :=
  Ideal.div (wsum j f i) (held j i) - f i

/-- The gradient through it. -/
def pooledT (j : Fin 4) (d : Fin 2048 → EReal) (i : Fin 2048) : EReal :=
  -d i + wsumT j (fun r => Ideal.div (d r) (held j r)) i

/-- An integer's ideal reading. -/
theorem sitofp_ideal (b : BitVec 32) : FloatOps.sitofp (F := Ideal) FTy.f32 b = ((b.toInt : ℝ) : EReal) := rfl

/-- A choice by whether two small words agree. -/
theorem select_eq_words {α : Type} (a b : ℕ) (x y : α) :
    Scalar.select (Scalar.cmpi .eq (BitVec.ofNat 32 a) (BitVec.ofNat 32 b)) x y
      = if BitVec.ofNat 32 a = BitVec.ofNat 32 b then x else y := by
  exact if_congr (IntOp.cmpi_eq (x := BitVec.ofNat 32 a) (y := BitVec.ofNat 32 b)) rfl rfl

/-- The words of the lengths are the lengths. -/
theorem width_eq (j : Fin 4) : width j = (((2 : ℝ) * 2 ^ j.val : ℝ) : EReal) := by
  fin_cases j <;> simp only [width] <;>
    simp [Ideal.ofBits, Ideal.ieee, -EReal.coe_mul]
  all_goals norm_num

/-- The kernel's length of group `j`, two doubled `j` times. -/
theorem pay14_eq (j : Fin 4) : k0_pay14 (F := Ideal) (BitVec.ofNat 32 j.val) = width j := by
  have h : ∀ j : Fin 4, (Scalar.shli 2#32 (BitVec.ofNat 32 j.val)).toInt = 2 * 2 ^ j.val := by decide
  rw [width_eq]
  refine Eq.trans (b := (((Scalar.shli 2#32 (BitVec.ofNat 32 j.val)).toInt : ℝ) : EReal)) rfl ?_
  rw [h]
  push_cast
  rfl

/-- The kernel's window sum of group `j`, by doubling. -/
theorem pay13_cols (j : Fin 4) (f : Fin 128 → Fin 2048 → EReal) :
    k0_pay13 (F := Ideal) (BitVec.ofNat 32 j.val) (cols f) = cols fun l r => wsum j (f l) r := by
  fin_cases j <;>
    simp only [k0_pay13, select_eq_words, BitVec.reduceEq, ↓reduceIte, zero_cols, delay_cols 1 (by omega), delay_cols 2 (by omega), delay_cols 4 (by omega),
      delay_cols 8 (by omega), addf_cols]
  all_goals
    refine congrArg cols (funext fun l => funext fun r => ?_)
    simp only [del_add, del_del, wsum, len]
    simp [Finset.sum_range_succ, del_zero, add_assoc]

/-- The kernel's transposed window sum of group `j`: the doublings that the group does not use add nothing. -/
theorem dpu_cols (j : Fin 4) (w : FVec Ideal S128x128 .f32) (s : FVec Ideal S1x128 .f32) (dy : FVec Ideal S2048x128 .f32)
    (f d : Fin 128 → Fin 2048 → EReal) (hf : k0_pay23 (F := Ideal) w s dy = cols f)
    (hd : k0_pay24 (F := Ideal) w s (width j) (k0_pay15 (F := Ideal)) dy = cols d) :
    k0_pay31 (F := Ideal) (k0_pay23 w s dy)
        (k0_pay27 w s (Scalar.cmpi .eq (BitVec.ofNat 32 j.val) 0#32) (width j) k0_pay15 dy)
        (k0_pay29 w s (Scalar.cmpi .eq (BitVec.ofNat 32 j.val) 0#32) (Scalar.cmpi .eq (BitVec.ofNat 32 j.val) 1#32)
          (Scalar.cmpi .eq (BitVec.ofNat 32 j.val) 2#32) (width j) k0_pay15 dy)
        (k0_pay30 w s (Scalar.cmpi .eq (BitVec.ofNat 32 j.val) 0#32) (Scalar.cmpi .eq (BitVec.ofNat 32 j.val) 1#32)
          (Scalar.cmpi .eq (BitVec.ofNat 32 j.val) 2#32) (width j) k0_pay15 dy)
      = cols fun l r => f l r + wsumT j (d l) r := by
  have a8 := advance_cols 8 (by omega) (by omega)
  have a4 := advance_cols 4 (by omega) (by omega)
  have a2 := advance_cols 2 (by omega) (by omega)
  have a1 := advance_cols 1 (by omega) (by omega)
  simp only [Nat.reduceSub] at a8 a4 a2 a1
  fin_cases j <;>
    simp only [k0_pay31, k0_pay30, k0_pay29, k0_pay28, k0_pay27, k0_pay26, k0_pay25, hf, hd, select_eq_words,
      BitVec.reduceEq, ↓reduceIte, zero_cols, addf_cols, a8, a4, a2, a1]
  all_goals
    refine congrArg cols (funext fun l => funext fun r => ?_)
    simp only [adv_add, adv_adv, adv_const, wsumT, len]
    simp [Finset.sum_range_succ, adv_zero, add_assoc, add_left_comm, add_comm]

end Cert.Proof.ConvPoolCols
-- ==== Proof.ConvPoolTiles.lean ====
module

public import proofs.«01_k».proof.Proof.ConvPoolCols

/-! # The gated convolution's and the pool's gradient: what the kernel's body computes from one group's blocks -/

@[expose] public section

set_option maxRecDepth 16384

noncomputable section

namespace Cert.Proof.ConvPoolTiles

open Idealize.ShloMosaic Idealize.ShloMosaic.TcCoe Idealize.SL.Sem
open Cert.ConvPoolIdeal Cert.ConvPoolIdeal.Gen Cert.Proof.ConvPoolCols

variable (x0 x1 x2 x3 x7 x8 : FVec Ideal S2048x128 .f32) (cw : FVec Ideal S1x3x128 .f32)
  (pw : FVec Ideal S1x1x128x128 .f32) (ps : FVec Ideal S1x1x128 .f32)

/-- The product of two tiles, column by column. -/
abbrev prod (x y : FVec Ideal S2048x128 .f32) (l : Fin 128) (r : Fin 2048) : EReal := x (ix2 r l) * y (ix2 r l)

/-- The taps of one lane. -/
abbrev taps (l : Fin 128) (k : Fin 3) : EReal := cw (ix3 0 k l)

/-- A product of tiles is that of its columns. -/
theorem mulf_prod (x y : FVec Ideal S2048x128 .f32) : mulf x y = cols (prod x y) :=
  funext fun i => congrArg (fun i => x i * y i) (eq_ix2 i)

/-- The gated input. -/
theorem pay6_cols : k0_pay6 (F := Ideal) x1 x2 = cols (prod x1 x2) := mulf_prod x1 x2

/-- The gradient of the convolution's output. -/
theorem pay32_cols : k0_pay32 (F := Ideal) x0 x7 = cols (prod x0 x7) := mulf_prod x0 x7

/-- A lane's weight times a column. -/
theorem mulf_row (w : FVec Ideal S1x128 .f32) (f : Fin 128 → Fin 2048 → EReal) (h) :
    mulf (broadcastTo S2048x128 w h) (cols f) = cols fun l r => w (ix2 0 l) * f l r := by
  funext y; pointwise [cols]

/-- The three taps as the body loads them. -/
theorem tap_at (l : Fin 128) :
    k0_pay1 (F := Ideal) (View.ld cw r0_1) (ix2 0 l) = taps cw l 0
      ∧ k0_pay2 (F := Ideal) (View.ld cw r0_2) (ix2 0 l) = taps cw l 1
      ∧ k0_pay3 (F := Ideal) (View.ld cw r0_3) (ix2 0 l) = taps cw l 2 := by
  refine ⟨?_, ?_, ?_⟩ <;> blk_point [k0_pay1, k0_pay2, k0_pay3]

/-- The gated input delayed by one row. -/
theorem late1 : k0_pay7 (F := Ideal) x1 x2 = cols fun l r => del 1 (prod x1 x2 l) r := by
  simp only [k0_pay7, pay6_cols, zero_cols]
  exact delay_cols 1 (by omega) _

/-- The gated input delayed by two rows. -/
theorem late2 : k0_pay11 (F := Ideal) k0_pay9 (k0_pay10 x1 x2) = cols fun l r => del 2 (prod x1 x2 l) r := by
  simp only [k0_pay11, k0_pay9, k0_pay10, pay6_cols, zero_cols]
  exact delay_cols 2 (by omega) _

/-- The convolution of the gated input. -/
theorem convolved :
    k0_pay12 (F := Ideal) (k0_pay1 (View.ld cw r0_1)) (k0_pay8 x1 x2 (View.ld cw r0_2) (View.ld cw r0_3)) k0_pay9
      (k0_pay10 x1 x2) = cols fun l r => conv (taps cw l) (prod x1 x2 l) r := by
  simp only [k0_pay12, k0_pay8, late1, late2, pay6_cols, mulf_row, addf_cols, (tap_at cw _).1, (tap_at cw _).2.1,
    (tap_at cw _).2.2]
  refine congrArg cols (funext fun l => funext fun r => ?_)
  simp only [conv]
  ac_rfl

/-- The gradient through the convolution. -/
theorem convolvedT :
    k0_pay39 (F := Ideal) (k0_pay3 (View.ld cw r0_3)) (k0_pay32 x0 x7) (k0_pay35 x0 (k0_pay1 (View.ld cw r0_1)) x7)
      (k0_pay36 x0 (k0_pay2 (View.ld cw r0_2)) x7) k0_pay38 (Scalar.ofBits .f32 0x00000000#32)
      = cols fun l r => convT (taps cw l) (prod x0 x7 l) r := by
  have a2 := advance_cols 2 (by omega) (by omega)
  have a1 := advance_cols 1 (by omega) (by omega)
  simp only [Nat.reduceSub] at a2 a1
  simp only [k0_pay39, k0_pay38, k0_pay36, k0_pay35, pay32_cols, mulf_row, zero_cols, a2, a1, addf_cols,
    (tap_at cw _).1, (tap_at cw _).2.1, (tap_at cw _).2.2]
  refine congrArg cols (funext fun l => funext fun r => ?_)
  simp only [convT]
  ac_rfl

/-- The outer gate's gradient. -/
theorem tile9 (y : S2048x128.Idx) :
    k0_pay41 (F := Ideal) (k0_pay33 (k0_pay12 (k0_pay1 (View.ld cw r0_1)) (k0_pay8 x1 x2 (View.ld cw r0_2) (View.ld cw r0_3))
      k0_pay9 (k0_pay10 x1 x2)) x7) y = x7 (ix2 (y 0) (y 1)) * conv (taps cw (y 1)) (prod x1 x2 (y 1)) (y 0) := by
  rw [convolved]
  pointwise [k0_pay41, k0_pay33, cols]

/-- The inner gate's gradient. -/
theorem tile10 (y : S2048x128.Idx) :
    k0_pay42 (F := Ideal) x2 (k0_pay3 (View.ld cw r0_3)) (k0_pay32 x0 x7) (k0_pay35 x0 (k0_pay1 (View.ld cw r0_1)) x7)
      (k0_pay36 x0 (k0_pay2 (View.ld cw r0_2)) x7) k0_pay38 (Scalar.ofBits .f32 0x00000000#32) y
      = convT (taps cw (y 1)) (prod x0 x7 (y 1)) (y 0) * x2 (ix2 (y 0) (y 1)) := by
  rw [k0_pay42, convolvedT]
  pointwise [cols]

/-- The value's gradient. -/
theorem tile11 (y : S2048x128.Idx) :
    k0_pay43 (F := Ideal) x1 (k0_pay3 (View.ld cw r0_3)) (k0_pay32 x0 x7) (k0_pay35 x0 (k0_pay1 (View.ld cw r0_1)) x7)
      (k0_pay36 x0 (k0_pay2 (View.ld cw r0_2)) x7) k0_pay38 (Scalar.ofBits .f32 0x00000000#32) y
      = x1 (ix2 (y 0) (y 1)) * convT (taps cw (y 1)) (prod x0 x7 (y 1)) (y 0) := by
  rw [k0_pay43, convolvedT]
  pointwise [cols]

/-- The gradients of the taps. -/
theorem tile13 (l : Fin 128) :
    k0_pay34 (F := Ideal) x0 (k0_pay11 k0_pay9 (k0_pay10 x1 x2)) x7 (ix2 0 l)
        = ∑ r : Fin 2048, prod x0 x7 l r * tap (prod x1 x2 l) 0 r
      ∧ k0_pay37 (F := Ideal) x0 (k0_pay7 x1 x2) x7 (ix2 0 l) = ∑ r : Fin 2048, prod x0 x7 l r * tap (prod x1 x2 l) 1 r
      ∧ k0_pay40 (F := Ideal) (k0_pay6 x1 x2) (k0_pay32 x0 x7) (ix2 0 l)
        = ∑ r : Fin 2048, prod x0 x7 l r * tap (prod x1 x2 l) 2 r := by
  rw [late1, late2]
  refine ⟨?_, ?_, ?_⟩
  · pointwise [k0_pay34, k0_pay32, cols, tap]
  · pointwise [k0_pay37, k0_pay32, cols, tap]
  · pointwise [k0_pay40, k0_pay32, k0_pay6, cols, tap]

/-- The taps' gradients of a group. -/
def tapGrad : FVec Ideal S3x128 .f32 := fun y => ∑ r : Fin 2048, prod x0 x7 (y 1) r * tap (prod x1 x2 (y 1)) (y 0) r

/-- The block of the taps' gradients: its three rows, stored one by one. -/
theorem tile13_all (i : grid0.Coords) (y : S3x128.Idx) :
    out0_13 (F := Ideal) i x0 x1 x2 x3 cw pw ps x7 x8 y = tapGrad x0 x1 x2 x7 y := by
  have ld0 : ∀ x : Vec Ideal S2048x128 .f32, (View.ld x r0_0 : Vec Ideal S2048x128 .f32) = x :=
    fun x => View.ld_unit_zero (S := S2048x128) (off := ![0, 0]) (by funext a; fin_cases a <;> rfl)
      inb_S2048x128_S2048x128_0_0 x
  have row : ∀ x : S1x128.Idx, x = ix2 0 (x 1) := fun x => by blk_ext
  have e0 : ∀ x : S1x128.Idx, (r0_6.emb x : S3x128.Idx) = ix2 0 (x 1) := fun x => by blk_ext
  have e1 : ∀ x : S1x128.Idx, (r0_7.emb x : S3x128.Idx) = ix2 1 (x 1) := fun x => by blk_ext
  have e2 : ∀ x : S1x128.Idx, (r0_8.emb x : S3x128.Idx) = ix2 2 (x 1) := fun x => by blk_ext
  unfold_out out0_13
  rw [ld0, ld0, ld0, ld0]
  refine View.canon_apply_of_pieces (Val := Elt Ideal) (e := .f32) (tapGrad x0 x1 x2 x7) _ ?_ y (cover0_13 _ _ _ y)
  simp only [List.forall_mem_cons, List.not_mem_nil, false_imp_iff, implies_true, and_true]
  refine ⟨fun x => ?_, fun x => ?_, fun x => ?_⟩
  · exact (congrArg _ (row x)).trans ((tile13 x0 x1 x2 x7 (x 1)).2.2.trans (congrArg (tapGrad x0 x1 x2 x7) (e2 x)).symm)
  · exact (congrArg _ (row x)).trans ((tile13 x0 x1 x2 x7 (x 1)).2.1.trans (congrArg (tapGrad x0 x1 x2 x7) (e1 x)).symm)
  · exact (congrArg _ (row x)).trans ((tile13 x0 x1 x2 x7 (x 1)).1.trans (congrArg (tapGrad x0 x1 x2 x7) (e0 x)).symm)

/-- The pooled tile. -/
theorem pooledTile (j : Fin 4) (r : Fin 2048) (l : Fin 128) :
    k0_pay17 (F := Ideal) x3 (k0_pay13 (BitVec.ofNat 32 j.val) x3) (k0_pay14 (BitVec.ofNat 32 j.val)) k0_pay15 (ix2 r l)
      = pooled j (fun r => x3 (ix2 r l)) r := by
  have h := pay13_cols j fun l r => x3 (ix2 r l)
  rw [← eq_cols] at h
  rw [h, pay14_eq]
  pointwise [k0_pay17, k0_pay16, k0_pay15, pooled, held, cols, sitofp_ideal]

/-- The scale's gradient. -/
theorem tile15 (j : Fin 4) (l : Fin 128) :
    k0_pay19 (F := Ideal) x3 (k0_pay4 pw) (k0_pay13 (BitVec.ofNat 32 j.val) x3) (k0_pay14 (BitVec.ofNat 32 j.val)) k0_pay15
      x8 (ix2 0 l) = ∑ r : Fin 2048, (∑ a : Fin 128, pooled j (fun r => x3 (ix2 r a)) r * pw (ix4 0 0 a l)) * x8 (ix2 r l) := by
  simp only [← pooledTile]
  pointwise [k0_pay19, k0_pay18, k0_pay4]

/-- The group's weight gradient. -/
theorem tile14 (j : Fin 4) (a b : Fin 128) :
    k0_pay45 (F := Ideal) (k0_pay21 x3 (k0_pay5 ps) (k0_pay13 (BitVec.ofNat 32 j.val) x3) (k0_pay14 (BitVec.ofNat 32 j.val))
      k0_pay15 x8) (ix3 0 a b) = ∑ r : Fin 2048, x8 (ix2 r b) * ps (ix3 0 0 b) * pooled j (fun r => x3 (ix2 r a)) r := by
  simp only [← pooledTile]
  pointwise [k0_pay45, k0_pay21, k0_pay20, k0_pay5]

/-- The gradient of the pooled tile, column by column. -/
def dpooled (l : Fin 128) (r : Fin 2048) : EReal := ∑ b : Fin 128, x8 (ix2 r b) * ps (ix3 0 0 b) * pw (ix4 0 0 l b)

/-- The body's product is that. -/
theorem pay22_cols : k0_pay22 (F := Ideal) (k0_pay4 pw) (k0_pay5 ps) x8 = cols (dpooled x8 pw ps) := by
  funext y; pointwise [k0_pay22, k0_pay20, k0_pay18, k0_pay4, k0_pay5, cols, dpooled]

/-- The pool's input gradient. -/
theorem tile12 (j : Fin 4) (y : S2048x128.Idx) :
    k0_pay44 (F := Ideal) (k0_pay31 (k0_pay23 (k0_pay4 pw) (k0_pay5 ps) x8)
        (k0_pay27 (k0_pay4 pw) (k0_pay5 ps) (Scalar.cmpi .eq (BitVec.ofNat 32 j.val) 0#32) (k0_pay14 (BitVec.ofNat 32 j.val))
          k0_pay15 x8)
        (k0_pay29 (k0_pay4 pw) (k0_pay5 ps) (Scalar.cmpi .eq (BitVec.ofNat 32 j.val) 0#32)
          (Scalar.cmpi .eq (BitVec.ofNat 32 j.val) 1#32) (Scalar.cmpi .eq (BitVec.ofNat 32 j.val) 2#32)
          (k0_pay14 (BitVec.ofNat 32 j.val)) k0_pay15 x8)
        (k0_pay30 (k0_pay4 pw) (k0_pay5 ps) (Scalar.cmpi .eq (BitVec.ofNat 32 j.val) 0#32)
          (Scalar.cmpi .eq (BitVec.ofNat 32 j.val) 1#32) (Scalar.cmpi .eq (BitVec.ofNat 32 j.val) 2#32)
          (k0_pay14 (BitVec.ofNat 32 j.val)) k0_pay15 x8)) y
      = pooledT j (dpooled x8 pw ps (y 1)) (y 0) := by
  rw [pay14_eq, dpu_cols j _ _ x8 (fun l r => -dpooled x8 pw ps l r) (fun l r => Ideal.div (dpooled x8 pw ps l r) (held j r))]
  · pointwise [k0_pay44, cols, pooledT]
  · rw [k0_pay23, pay22_cols]
    funext y; pointwise [cols, zero_sub]
  · rw [k0_pay24, pay22_cols]
    funext y; pointwise [cols, k0_pay16, k0_pay15, held, sitofp_ideal]

end Cert.Proof.ConvPoolTiles
-- ==== Proof.ConvPoolRefCols.lean ====
module

public import proofs.«01_k».proof.Proof.ConvPoolCols
public import proofs.«01_k».proof.Proof.Gen.ConvPoolRefIdeal.Read

/-! # The gated convolution's and the pool's gradient: the reference, column by column -/

@[expose] public section

set_option maxRecDepth 16384

noncomputable section

namespace Cert.Proof.ConvPoolRefCols

open Idealize.ShloMosaic Idealize.ShloMosaic.TcCoe Idealize.SL.Sem
open Cert.ConvPoolRefIdeal Cert.ConvPoolRefIdeal.Read Cert.Proof.ConvPoolCols

variable (z : FVec Ideal S2048x5760 .f32) (cw : FVec Ideal S2x3x512 .f32) (pw : FVec Ideal S2x4x128x128 .f32)
  (ps : FVec Ideal S2x1x512 .f32) (dy : FVec Ideal S2048x2048 .f32)

/-- The pooled columns, group by group. -/
def pooledRef : Fin 4 → FVec Ideal S2048x128 .f32 :=
  ![val_main_v61 (F := Ideal) z, val_main_v92 (F := Ideal) z, val_main_v143 (F := Ideal) z, val_main_v234 (F := Ideal) z]

/-- Each is the window mean less the column. -/
theorem pooledRef_eq (j : Fin 4) (i : Fin 2048) (l : Fin 128) :
    pooledRef z j (ix2 i l) = pooled j (fun r => z (ix2 r ⟨1536 + (j.val * 128 + l.val), by omega⟩)) i := by
  fin_cases j
  all_goals
    pointwise [pooledRef, pooled, wsum, held, width, len, sitofp_ideal, del, Finset.sum_range_succ, Finset.sum_range_zero,
      val_main_v3, val_main_v41, val_main_v42, val_main_v43, val_main_v44, val_main_cst_6, val_main_v45,
      val_main_v46, val_main_cst_8, val_main_v48, val_main_v49, val_main_cst_9, val_main_v50, val_main_v51,
      val_main_v52, val_main_v54, val_main_cst_11, val_main_v55, val_main_v56, val_main_cst_12, val_main_v57,
      val_main_v58, val_main_v59, val_main_v60, val_main_v61, val_main_v65, val_main_cst_13, val_main_v66,
      val_main_v67, val_main_cst_15, val_main_v69, val_main_v70, val_main_cst_16, val_main_v71, val_main_v72,
      val_main_v73, val_main_v75, val_main_cst_18, val_main_v76, val_main_v77, val_main_v78, val_main_v80,
      val_main_cst_20, val_main_v81, val_main_v82, val_main_v83, val_main_v85, val_main_cst_22, val_main_v86,
      val_main_v87, val_main_cst_23, val_main_v88, val_main_v89, val_main_v90, val_main_v91, val_main_v92,
      val_main_v96, val_main_cst_24, val_main_v97, val_main_v98, val_main_cst_26, val_main_v100, val_main_v101,
      val_main_cst_27, val_main_v102, val_main_v103, val_main_v104, val_main_v106, val_main_cst_29, val_main_v107,
      val_main_v108, val_main_v109, val_main_v111, val_main_cst_31, val_main_v112, val_main_v113, val_main_v114,
      val_main_v116, val_main_cst_33, val_main_v117, val_main_v118, val_main_v119, val_main_v121, val_main_cst_35,
      val_main_v122, val_main_v123, val_main_v124, val_main_v126, val_main_cst_37, val_main_v127, val_main_v128,
      val_main_v129, val_main_v131, val_main_cst_39, val_main_v132, val_main_v133, val_main_v134, val_main_v136,
      val_main_cst_41, val_main_v137, val_main_v138, val_main_cst_42, val_main_v139, val_main_v140, val_main_v141,
      val_main_v142, val_main_v143, val_main_v147, val_main_cst_43, val_main_v148, val_main_v149, val_main_cst_45,
      val_main_v151, val_main_v152, val_main_cst_46, val_main_v153, val_main_v154, val_main_v155, val_main_v157,
      val_main_cst_48, val_main_v158, val_main_v159, val_main_v160, val_main_v162, val_main_cst_50, val_main_v163,
      val_main_v164, val_main_v165, val_main_v167, val_main_cst_52, val_main_v168, val_main_v169, val_main_v170,
      val_main_v172, val_main_cst_54, val_main_v173, val_main_v174, val_main_v175, val_main_v177, val_main_cst_56,
      val_main_v178, val_main_v179, val_main_v180, val_main_v182, val_main_cst_58, val_main_v183, val_main_v184,
      val_main_v185, val_main_v187, val_main_cst_60, val_main_v188, val_main_v189, val_main_v190, val_main_v192,
      val_main_cst_62, val_main_v193, val_main_v194, val_main_v195, val_main_v197, val_main_cst_64, val_main_v198,
      val_main_v199, val_main_v200, val_main_v202, val_main_cst_66, val_main_v203, val_main_v204, val_main_v205,
      val_main_v207, val_main_cst_68, val_main_v208, val_main_v209, val_main_v210, val_main_v212, val_main_cst_70,
      val_main_v213, val_main_v214, val_main_v215, val_main_v217, val_main_cst_72, val_main_v218, val_main_v219,
      val_main_v220, val_main_v222, val_main_cst_74, val_main_v223, val_main_v224, val_main_v225, val_main_v227,
      val_main_cst_76, val_main_v228, val_main_v229, val_main_cst_77, val_main_v230, val_main_v231, val_main_v232,
      val_main_v233, val_main_v234]

/-- The groups' products with their weights, side by side. -/
theorem mixed (j : Fin 4) (i : Fin 2048) (l : Fin 128) :
    val_main_v239 (F := Ideal) z pw (ix2 i ⟨j.val * 128 + l.val, by omega⟩)
      = ∑ a, pooledRef z j (ix2 i a) * pw (ix4 0 j a l) := by
  have n1 : ¬ 256 + l.val < 128 := by omega
  have n2 : ¬ 256 + l.val - 128 < 128 := by omega
  have n3 : ¬ 384 + l.val < 128 := by omega
  have n4 : ¬ 384 + l.val - 128 < 128 := by omega
  have n5 : ¬ 384 + l.val - 128 - 128 < 128 := by omega
  have s1 : 256 + l.val - 128 - 128 = l.val := by omega
  have s2 : 384 + l.val - 128 - 128 - 128 = l.val := by omega
  fin_cases j
  all_goals
    pointwise [pooledRef, n1, n2, n3, n4, n5, s1, s2, dite_false,
      val_main_v6, val_main_v7, val_main_v62, val_main_v63, val_main_v64, val_main_v93, val_main_v94, val_main_v95,
      val_main_v144, val_main_v145, val_main_v146, val_main_v235, val_main_v236, val_main_v237, val_main_v239]

/-- The gradients of the pooled columns, group by group. -/
def dpooledRef : Fin 4 → FVec Ideal S2048x128 .f32 :=
  ![val_main_v397 (F := Ideal) pw ps dy, val_main_v371 (F := Ideal) pw ps dy, val_main_v329 (F := Ideal) pw ps dy,
    val_main_v257 (F := Ideal) pw ps dy]

/-- Each is the scaled incoming gradient times the transposed weights. -/
theorem dpooledRef_eq (j : Fin 4) (i : Fin 2048) (l : Fin 128) :
    dpooledRef pw ps dy j (ix2 i l) = ∑ b : Fin 128, dy (ix2 i ⟨512 + (j.val * 128 + b.val), by omega⟩)
      * ps (ix3 0 0 ⟨j.val * 128 + b.val, by omega⟩) * pw (ix4 0 j l b) := by
  fin_cases j
  all_goals
    pointwise [dpooledRef,
      val_main_v6, val_main_v7, val_main_v8, val_main_v9, val_main_v62, val_main_v63, val_main_v93, val_main_v94,
      val_main_v144, val_main_v145, val_main_v235, val_main_v236, val_main_v243, val_main_v247, val_main_v248,
      val_main_v249, val_main_v250, val_main_v251, val_main_v252, val_main_v257, val_main_v329, val_main_v371,
      val_main_v397]

/-- The gradients of the columns, group by group. -/
def dpuRef : Fin 4 → FVec Ideal S2048x128 .f32 :=
  ![val_main_v410 (F := Ideal) pw ps dy, val_main_v392 (F := Ideal) pw ps dy, val_main_v366 (F := Ideal) pw ps dy,
    val_main_v325 (F := Ideal) pw ps dy]

/-- Each goes back through the window mean. -/
theorem dpuRef_eq (j : Fin 4) (i : Fin 2048) (l : Fin 128) :
    dpuRef pw ps dy j (ix2 i l) = pooledT j (fun r => dpooledRef pw ps dy j (ix2 r l)) i := by
  fin_cases j
  all_goals
    pointwise [dpuRef, dpooledRef, pooledT, wsumT, held, width, len, sitofp_ideal, adv, Finset.sum_range_succ,
      Finset.sum_range_zero, Nat.not_lt_zero, dite_false,
      val_main_v41, val_main_v42, val_main_v43, val_main_cst_11, val_main_v55, val_main_v56, val_main_cst_12,
      val_main_v57, val_main_v58, val_main_cst_22, val_main_v86, val_main_v87, val_main_cst_23, val_main_v88,
      val_main_v89, val_main_cst_41, val_main_v137, val_main_v138, val_main_cst_42, val_main_v139, val_main_v140,
      val_main_cst_76, val_main_v228, val_main_v229, val_main_cst_77, val_main_v230, val_main_v231, val_main_v260,
      val_main_v261, val_main_v262, val_main_v264, val_main_cst_80, val_main_v265, val_main_v266, val_main_v268,
      val_main_cst_81, val_main_v269, val_main_v270, val_main_v272, val_main_cst_82, val_main_v273, val_main_v274,
      val_main_v276, val_main_cst_83, val_main_v277, val_main_v278, val_main_v280, val_main_cst_84, val_main_v281,
      val_main_v282, val_main_v284, val_main_cst_85, val_main_v285, val_main_v286, val_main_v288, val_main_cst_86,
      val_main_v289, val_main_v290, val_main_v292, val_main_cst_87, val_main_v293, val_main_v294, val_main_v296,
      val_main_cst_88, val_main_v297, val_main_v298, val_main_v300, val_main_cst_89, val_main_v301, val_main_v302,
      val_main_v304, val_main_cst_90, val_main_v305, val_main_v306, val_main_v308, val_main_cst_91, val_main_v309,
      val_main_v310, val_main_v312, val_main_cst_92, val_main_v313, val_main_v314, val_main_v316, val_main_cst_93,
      val_main_v317, val_main_v318, val_main_v320, val_main_cst_94, val_main_v321, val_main_v322, val_main_v324,
      val_main_v325, val_main_v333, val_main_v334, val_main_v335, val_main_v337, val_main_cst_97, val_main_v338,
      val_main_v339, val_main_v341, val_main_cst_98, val_main_v342, val_main_v343, val_main_v345, val_main_cst_99,
      val_main_v346, val_main_v347, val_main_v349, val_main_cst_100, val_main_v350, val_main_v351, val_main_v353,
      val_main_cst_101, val_main_v354, val_main_v355, val_main_v357, val_main_cst_102, val_main_v358, val_main_v359,
      val_main_v361, val_main_cst_103, val_main_v362, val_main_v363, val_main_v365, val_main_v366, val_main_v375,
      val_main_v376, val_main_v377, val_main_v379, val_main_cst_106, val_main_v380, val_main_v381, val_main_v383,
      val_main_cst_107, val_main_v384, val_main_v385, val_main_v387, val_main_cst_108, val_main_v388, val_main_v389,
      val_main_v391, val_main_v392, val_main_v401, val_main_v402, val_main_v403, val_main_v405, val_main_cst_111,
      val_main_v406, val_main_v407, val_main_v409, val_main_v410]
    try ac_rfl

/-- The fourth result: those gradients side by side. -/
theorem whole12 (j : Fin 4) (i : Fin 2048) (l : Fin 128) :
    val_main_v454 (F := Ideal) pw ps dy (ix2 i ⟨j.val * 128 + l.val, by omega⟩)
      = pooledT j (fun r => ∑ b : Fin 128, dy (ix2 r ⟨512 + (j.val * 128 + b.val), by omega⟩)
        * ps (ix3 0 0 ⟨j.val * 128 + b.val, by omega⟩) * pw (ix4 0 j l b)) i := by
  refine Eq.trans (b := dpuRef pw ps dy j (ix2 i l)) ?_
    ((dpuRef_eq pw ps dy j i l).trans (congrArg (pooledT j · i) (funext fun r => dpooledRef_eq pw ps dy j r l)))
  have n1 : ¬ 256 + l.val < 128 := by omega
  have n2 : ¬ 256 + l.val - 128 < 128 := by omega
  have n3 : ¬ 384 + l.val < 128 := by omega
  have n4 : ¬ 384 + l.val - 128 < 128 := by omega
  have n5 : ¬ 384 + l.val - 256 < 128 := by omega
  have n6 : ¬ 384 ≤ l.val := by omega
  have n7 : ¬ 256 ≤ l.val := by omega
  have n8 : ¬ 384 ≤ 128 + l.val := by omega
  have n9 : ¬ 256 ≤ 128 + l.val := by omega
  have n10 : ¬ 384 ≤ 256 + l.val := by omega
  fin_cases j
  all_goals
    pointwise [dpuRef, n1, n2, n3, n4, n5, n6, n7, n8, n9, n10, false_and, and_false, dite_false, zero_add, add_zero,
      val_main_cst_95, val_main_v326, val_main_cst_104, val_main_v367, val_main_v368, val_main_cst_109,
      val_main_v393, val_main_v394, val_main_cst_112, val_main_v411, val_main_v412, val_main_v454]

/-- The sixth result: the groups' weight gradients. -/
theorem whole14 (j : Fin 4) (a b : Fin 128) :
    val_main_v400 (F := Ideal) z ps dy (ix3 j a b)
      = ∑ r : Fin 2048, dy (ix2 r ⟨512 + (j.val * 128 + b.val), by omega⟩) * ps (ix3 0 0 ⟨j.val * 128 + b.val, by omega⟩)
        * pooled j (fun r => z (ix2 r ⟨1536 + (j.val * 128 + a.val), by omega⟩)) r := by
  simp only [← pooledRef_eq]
  fin_cases j
  all_goals
    pointwise [pooledRef,
      val_main_v8, val_main_v9, val_main_v243, val_main_v247, val_main_v248, val_main_v249, val_main_v250,
      val_main_v251, val_main_v252, val_main_v255, val_main_v256, val_main_v258, val_main_cst_79, val_main_v259,
      val_main_v327, val_main_v328, val_main_v330, val_main_cst_96, val_main_v331, val_main_v332, val_main_v369,
      val_main_v370, val_main_v372, val_main_cst_105, val_main_v373, val_main_v374, val_main_v395, val_main_v396,
      val_main_v398, val_main_cst_110, val_main_v399, val_main_v400]

/-- The seventh result: the scales' gradients. -/
theorem whole15 (j : Fin 4) (l : Fin 128) :
    val_main_v246 (F := Ideal) z pw dy (ix2 0 ⟨j.val * 128 + l.val, by omega⟩)
      = ∑ r : Fin 2048, (∑ a : Fin 128, pooled j (fun r => z (ix2 r ⟨1536 + (j.val * 128 + a.val), by omega⟩)) r
        * pw (ix4 0 j a l)) * dy (ix2 r ⟨512 + (j.val * 128 + l.val), by omega⟩) := by
  simp only [← pooledRef_eq, ← mixed]
  pointwise [
val_main_v243, val_main_v244, val_main_cst_78, val_main_v245, val_main_v246]

/-- The gated input's column. -/
abbrev gated (l : Fin 512) (r : Fin 2048) : EReal :=
  z (ix2 r ⟨512 + l.val, by omega⟩) * z (ix2 r ⟨1024 + l.val, by omega⟩)

/-- The convolution's output gradient's column. -/
abbrev dconv (l : Fin 512) (r : Fin 2048) : EReal :=
  z (ix2 r ⟨l.val, by omega⟩) * dy (ix2 r ⟨l.val, by omega⟩)

/-- The first result: the outer gate's gradient. -/
theorem whole9 (i : Fin 2048) (l : Fin 512) :
    val_main_v451 (F := Ideal) z cw dy (ix2 i l)
      = dy (ix2 i ⟨l.val, by omega⟩) * conv (fun k => cw (ix3 0 k l)) (gated z l) i := by
  pointwise [conv, gated, del, Nat.not_lt_zero, dite_false,
    val_main_v1, val_main_v2, val_main_v4, val_main_v5, val_main_v10, val_main_v11, val_main_v12, val_main_cst,
    val_main_v13, val_main_v14, val_main_v15, val_main_v17, val_main_v18, val_main_v19, val_main_cst_1,
    val_main_v20, val_main_v21, val_main_v22, val_main_v23, val_main_cst_2, val_main_v24, val_main_v25,
    val_main_v26, val_main_v28, val_main_v29, val_main_v30, val_main_v31, val_main_v32, val_main_v33,
    val_main_cst_4, val_main_v34, val_main_v35, val_main_v37, val_main_v38, val_main_v39, val_main_v40,
    val_main_v242, val_main_v254, val_main_v451]

/-- The convolution's input gradient. -/
theorem dinput (i : Fin 2048) (l : Fin 512) :
    val_main_v445 (F := Ideal) z cw dy (ix2 i l) = convT (fun k => cw (ix3 0 k l)) (dconv z dy l) i := by
  pointwise [convT, dconv, adv,
    val_main_v0, val_main_v4, val_main_v5, val_main_v11, val_main_v12, val_main_v17, val_main_v22, val_main_v23,
    val_main_v28, val_main_v32, val_main_v33, val_main_v37, val_main_v242, val_main_v253, val_main_v413,
    val_main_v414, val_main_v420, val_main_v423, val_main_v424, val_main_v430, val_main_cst_118, val_main_v431,
    val_main_v432, val_main_v436, val_main_v437, val_main_v443, val_main_cst_122, val_main_v444, val_main_v445]

/-- The second result: the inner gate's gradient. -/
theorem whole10 (i : Fin 2048) (l : Fin 512) :
    val_main_v452 (F := Ideal) z cw dy (ix2 i l)
      = convT (fun k => cw (ix3 0 k l)) (dconv z dy l) i * z (ix2 i ⟨1024 + l.val, by omega⟩) := by
  rw [← dinput]
  pointwise [
val_main_v2, val_main_v450, val_main_v452]

/-- The third result: the value's gradient. -/
theorem whole11 (i : Fin 2048) (l : Fin 512) :
    val_main_v453 (F := Ideal) z cw dy (ix2 i l)
      = z (ix2 i ⟨512 + l.val, by omega⟩) * convT (fun k => cw (ix3 0 k l)) (dconv z dy l) i := by
  rw [← dinput]
  pointwise [
val_main_v1, val_main_v449, val_main_v453]

/-- The fifth result: the taps' gradients. -/
theorem whole13 (k : Fin 3) (l : Fin 512) :
    val_main_v448 (F := Ideal) z dy (ix2 k l) = ∑ r : Fin 2048, dconv z dy l r * tap (gated z l) k r := by
  fin_cases k
  all_goals
    pointwise [dconv, gated, tap, del, Fin.sum_univ_one, Nat.not_lt_zero, dite_false,
      val_main_v0, val_main_v1, val_main_v2, val_main_v10, val_main_cst, val_main_v13, val_main_v14, val_main_v15,
      val_main_cst_2, val_main_v24, val_main_v25, val_main_v26, val_main_cst_4, val_main_v34, val_main_v35,
      val_main_v242, val_main_v253, val_main_v415, val_main_cst_113, val_main_v416, val_main_v417, val_main_cst_114,
      val_main_v418, val_main_v421, val_main_cst_115, val_main_v422, val_main_v425, val_main_cst_116, val_main_v426,
      val_main_v427, val_main_cst_117, val_main_v428, val_main_v433, val_main_cst_119, val_main_v434, val_main_v435,
      val_main_v438, val_main_cst_120, val_main_v439, val_main_v440, val_main_cst_121, val_main_v441, val_main_v446,
      val_main_cst_123, val_main_v447, val_main_v448]

end Cert.Proof.ConvPoolRefCols
-- ==== Proof.ConvPoolValue.lean ====
module

public import proofs.«01_k».proof.Proof.ConvPoolTiles
public import proofs.«01_k».proof.Proof.ConvPoolRefCols
public import proofs.«01_k».proof.Proof.Gen.ConvPoolIdeal.Value
public import proofs.«01_k».proof.Proof.Gen.ConvPoolRefIdeal.Run

/-! # The gated convolution's and the pool's gradient: what the seven result arrays hold -/

@[expose] public section

set_option maxRecDepth 16384

noncomputable section

namespace Cert.Proof.ConvPoolValue

open Idealize.ShloMosaic Idealize.ShloMosaic.TcCoe Idealize.SL.Sem
open Cert.ConvPoolIdeal Cert.ConvPoolIdeal.Gen Cert.Proof.ConvPoolCols

variable (m : (ℓ : Loc nD τ sig) → Buf (Elt Ideal) ℓ) (c : Dev nD) (t : Fin cfg0.N)

/-- Every window's block at grid point `t`: lane group `t`. -/
theorem idx : ∀ t : Fin cfg0.N,
    win0_0.index t = ![0, t.val] ∧ win0_1.index t = ![0, 4 + t.val] ∧ win0_2.index t = ![0, 8 + t.val]
      ∧ win0_3.index t = ![0, 12 + t.val] ∧ win0_4.index t = ![0, 0, t.val] ∧ win0_5.index t = ![0, t.val, 0, 0]
      ∧ win0_6.index t = ![0, 0, t.val] ∧ win0_7.index t = ![0, t.val] ∧ win0_8.index t = ![0, 4 + t.val]
      ∧ win0_9.index t = ![0, t.val] ∧ win0_10.index t = ![0, t.val] ∧ win0_11.index t = ![0, t.val]
      ∧ win0_12.index t = ![0, t.val] ∧ win0_13.index t = ![0, t.val] ∧ win0_14.index t = ![t.val, 0, 0]
      ∧ win0_15.index t = ![0, t.val] :=
  (by decide +kernel : ∀ t : Fin grid0.N, _)

/-- The grid's coordinate is the group. -/
theorem coord : ∀ t : Fin cfg0.N, (grid0.coords t 0).val = t.val := (by decide +kernel : ∀ t : Fin grid0.N, _)

/-- The group of a grid point. -/
abbrev grp : Fin 4 := ⟨t.val, lt_of_lt_of_eq t.isLt N_0⟩

/-- Its lanes' places in a row of four groups. -/
abbrev lane (l : Fin 128) : Fin 512 := ⟨t.val * 128 + l.val, by have := (grp t).isLt; simp only at this; omega⟩

/-- The arguments. -/
abbrev z := m ((c : Thread nD τ).loc main_arg0)
abbrev cw := m ((c : Thread nD τ).loc main_arg1)
abbrev pw := m ((c : Thread nD τ).loc main_arg2)
abbrev ps := m ((c : Thread nD τ).loc main_arg3)
abbrev dy := m ((c : Thread nD τ).loc main_arg4)

/-- Window 0's block is its group's part of the argument. -/
theorem read0 (r : Fin 2048) (l : Fin 128) : iblk m c 0 t (ix2 r l) = z m c (ix2 r ⟨(lane t l).val, by omega⟩) := by
  have := (grp t).isLt; simp only at this
  blk_point [iblk, V, idx t]

/-- Window 1's block is its group's part of the argument. -/
theorem read1 (r : Fin 2048) (l : Fin 128) : iblk m c 1 t (ix2 r l) = z m c (ix2 r ⟨512 + (lane t l).val, by omega⟩) := by
  have := (grp t).isLt; simp only at this
  blk_point [iblk, V, idx t]

/-- Window 2's block is its group's part of the argument. -/
theorem read2 (r : Fin 2048) (l : Fin 128) : iblk m c 2 t (ix2 r l) = z m c (ix2 r ⟨1024 + (lane t l).val, by omega⟩) := by
  have := (grp t).isLt; simp only at this
  blk_point [iblk, V, idx t]

/-- Window 3's block is its group's part of the argument. -/
theorem read3 (r : Fin 2048) (l : Fin 128) : iblk m c 3 t (ix2 r l) = z m c (ix2 r ⟨1536 + (lane t l).val, by omega⟩) := by
  have := (grp t).isLt; simp only at this
  blk_point [iblk, V, idx t]

/-- Window 4's block is its group's part of the argument. -/
theorem read4 (k : Fin 3) (l : Fin 128) : iblk m c 4 t (ix3 0 k l) = cw m c (ix3 0 k (lane t l)) := by
  have := (grp t).isLt; simp only at this
  blk_point [iblk, V, idx t]

/-- Window 5's block is its group's part of the argument. -/
theorem read5 (a b : Fin 128) : iblk m c 5 t (ix4 0 0 a b) = pw m c (ix4 0 (grp t) a b) := by
  have := (grp t).isLt; simp only at this
  blk_point [iblk, V, idx t]

/-- Window 6's block is its group's part of the argument. -/
theorem read6 (l : Fin 128) : iblk m c 6 t (ix3 0 0 l) = ps m c (ix3 0 0 (lane t l)) := by
  have := (grp t).isLt; simp only at this
  blk_point [iblk, V, idx t]

/-- Window 7's block is its group's part of the argument. -/
theorem read7 (r : Fin 2048) (l : Fin 128) : iblk m c 7 t (ix2 r l) = dy m c (ix2 r ⟨(lane t l).val, by omega⟩) := by
  have := (grp t).isLt; simp only at this
  blk_point [iblk, V, idx t]

/-- Window 8's block is its group's part of the argument. -/
theorem read8 (r : Fin 2048) (l : Fin 128) : iblk m c 8 t (ix2 r l) = dy m c (ix2 r ⟨512 + (lane t l).val, by omega⟩) := by
  have := (grp t).isLt; simp only at this
  blk_point [iblk, V, idx t]

/-- The group's taps. -/
theorem taps_eq (l : Fin 128) : ConvPoolTiles.taps (iblk m c 4 t) l = fun k => cw m c (ix3 0 k (lane t l)) :=
  funext fun k => read4 m c t k l

/-- The group's gated input. -/
theorem gated_eq (l : Fin 128) :
    ConvPoolTiles.prod (iblk m c 1 t) (iblk m c 2 t) l = ConvPoolRefCols.gated (z m c) (lane t l) :=
  funext fun r => congrArg₂ (· * ·) (read1 m c t r l) (read2 m c t r l)

/-- The group's gradient of the convolution's output. -/
theorem dconv_eq (l : Fin 128) :
    ConvPoolTiles.prod (iblk m c 0 t) (iblk m c 7 t) l = ConvPoolRefCols.dconv (z m c) (dy m c) (lane t l) :=
  funext fun r => congrArg₂ (· * ·) (read0 m c t r l) (read7 m c t r l)

/-- The reference's the outer gate's gradient. -/
abbrev res9 := Cert.ConvPoolRefIdeal.Read.val_main_v451 (F := Ideal) (z m c) (cw m c) (dy m c)

/-- The reference's the inner gate's gradient. -/
abbrev res10 := Cert.ConvPoolRefIdeal.Read.val_main_v452 (F := Ideal) (z m c) (cw m c) (dy m c)

/-- The reference's the value's gradient. -/
abbrev res11 := Cert.ConvPoolRefIdeal.Read.val_main_v453 (F := Ideal) (z m c) (cw m c) (dy m c)

/-- The reference's the pool's input gradient. -/
abbrev res12 := Cert.ConvPoolRefIdeal.Read.val_main_v454 (F := Ideal) (pw m c) (ps m c) (dy m c)

/-- The reference's the taps' gradient. -/
abbrev res13 := Cert.ConvPoolRefIdeal.Read.val_main_v448 (F := Ideal) (z m c) (dy m c)

/-- The reference's the pool weights' gradient. -/
abbrev res14 := Cert.ConvPoolRefIdeal.Read.val_main_v400 (F := Ideal) (z m c) (ps m c) (dy m c)

/-- The reference's the pool scales' gradient. -/
abbrev res15 := Cert.ConvPoolRefIdeal.Read.val_main_v246 (F := Ideal) (z m c) (pw m c) (dy m c)

/-- Result array 0 after the run: the outer gate's gradient. -/
theorem final9 : (dats m 0 c).arrAt 9 (cfgs 0).N = res9 m c := by
  refine (dats m 0 c).arrAt_eq_of_covers 9 _ (by decide +kernel) fun t _ y => ?_
  blk_simp
  have e : ((cfg0.win 9).blk t).view.emb y = ix2 (y 0) (lane t (y 1)) := by blk_ext [idx t]
  rw [after0_9]
  unfold_out out0_9
  frame_out
  refine (ConvPoolTiles.tile9 _ _ _ _ y).trans (Eq.trans ?_ ((congrArg (res9 m c) e).trans
    (ConvPoolRefCols.whole9 (z m c) (cw m c) (dy m c) (y 0) (lane t (y 1)))).symm)
  exact congrArg₂ (· * ·) (read7 m c t (y 0) (y 1)) (congrFun (congrArg₂ conv (taps_eq m c t (y 1))
    (gated_eq m c t (y 1))) (y 0))

/-- Result array 1 after the run: the inner gate's gradient. -/
theorem final10 : (dats m 0 c).arrAt 10 (cfgs 0).N = res10 m c := by
  refine (dats m 0 c).arrAt_eq_of_covers 10 _ (by decide +kernel) fun t _ y => ?_
  blk_simp
  have e : ((cfg0.win 10).blk t).view.emb y = ix2 (y 0) (lane t (y 1)) := by blk_ext [idx t]
  rw [after0_10]
  unfold_out out0_10
  frame_out
  refine (ConvPoolTiles.tile10 _ _ _ _ y).trans (Eq.trans ?_ ((congrArg (res10 m c) e).trans
    (ConvPoolRefCols.whole10 (z m c) (cw m c) (dy m c) (y 0) (lane t (y 1)))).symm)
  exact congrArg₂ (· * ·) (congrFun (congrArg₂ convT (taps_eq m c t (y 1)) (dconv_eq m c t (y 1))) (y 0)) (read2 m c t (y 0) (y 1))

/-- Result array 2 after the run: the value's gradient. -/
theorem final11 : (dats m 0 c).arrAt 11 (cfgs 0).N = res11 m c := by
  refine (dats m 0 c).arrAt_eq_of_covers 11 _ (by decide +kernel) fun t _ y => ?_
  blk_simp
  have e : ((cfg0.win 11).blk t).view.emb y = ix2 (y 0) (lane t (y 1)) := by blk_ext [idx t]
  rw [after0_11]
  unfold_out out0_11
  frame_out
  refine (ConvPoolTiles.tile11 _ _ _ _ y).trans (Eq.trans ?_ ((congrArg (res11 m c) e).trans
    (ConvPoolRefCols.whole11 (z m c) (cw m c) (dy m c) (y 0) (lane t (y 1)))).symm)
  exact congrArg₂ (· * ·) (read1 m c t (y 0) (y 1)) (congrFun (congrArg₂ convT (taps_eq m c t (y 1)) (dconv_eq m c t (y 1))) (y 0))

/-- Result array 3 after the run: the pool's input gradient. -/
theorem final12 : (dats m 0 c).arrAt 12 (cfgs 0).N = res12 m c := by
  refine (dats m 0 c).arrAt_eq_of_covers 12 _ (by decide +kernel) fun t _ y => ?_
  blk_simp
  have e : ((cfg0.win 12).blk t).view.emb y = ix2 (y 0) (lane t (y 1)) := by blk_ext [idx t]
  rw [after0_12]
  unfold_out out0_12
  frame_out
  rw [coord]
  refine (ConvPoolTiles.tile12 _ _ _ (grp t) y).trans (Eq.trans ?_ ((congrArg (res12 m c) e).trans
    (ConvPoolRefCols.whole12 (pw m c) (ps m c) (dy m c) (grp t) (y 0) (y 1))).symm)
  exact congrArg (pooledT (grp t) · (y 0)) (funext fun r => Finset.sum_congr rfl fun b _ =>
    congrArg₂ (· * ·) (congrArg₂ (· * ·) (read8 m c t r b) (read6 m c t b)) (read5 m c t (y 1) b))

/-- The body's weight gradient is the reference's at its group. -/
theorem core14 (a b : Fin 128) :
    k0_pay45 (F := Ideal) (k0_pay21 (iblk m c 3 t) (k0_pay5 (iblk m c 6 t)) (k0_pay13 (BitVec.ofNat 32 t.val) (iblk m c 3 t))
      (k0_pay14 (BitVec.ofNat 32 t.val)) k0_pay15 (iblk m c 8 t)) (ix3 0 a b) = res14 m c (ix3 (grp t) a b) := by
  refine (ConvPoolTiles.tile14 _ _ _ (grp t) a b).trans (Eq.trans ?_
    (ConvPoolRefCols.whole14 (z m c) (ps m c) (dy m c) (grp t) a b).symm)
  exact Finset.sum_congr rfl fun r _ => congrArg₂ (· * ·) (congrArg₂ (· * ·) (read8 m c t r b) (read6 m c t b))
    (congrArg (pooled (grp t) · r) (funext fun r => read3 m c t r a))

/-- The body's scale gradient is the reference's at its group. -/
theorem core15 (l : Fin 128) :
    k0_pay19 (F := Ideal) (iblk m c 3 t) (k0_pay4 (iblk m c 5 t)) (k0_pay13 (BitVec.ofNat 32 t.val) (iblk m c 3 t))
      (k0_pay14 (BitVec.ofNat 32 t.val)) k0_pay15 (iblk m c 8 t) (ix2 0 l) = res15 m c (ix2 0 (lane t l)) := by
  refine (ConvPoolTiles.tile15 _ _ _ (grp t) l).trans (Eq.trans ?_
    (ConvPoolRefCols.whole15 (z m c) (pw m c) (dy m c) (grp t) l).symm)
  exact Finset.sum_congr rfl fun r _ => congrArg₂ (· * ·) (Finset.sum_congr rfl fun a _ => congrArg₂ (· * ·)
    (congrArg (pooled (grp t) · r) (funext fun r => read3 m c t r a)) (read5 m c t a l)) (read8 m c t r l)

/-- Result array 4 after the run: the taps' gradient, whose three rows the body stores one by one. -/
theorem final13 : (dats m 0 c).arrAt 13 (cfgs 0).N = res13 m c := by
  refine (dats m 0 c).arrAt_eq_of_covers 13 _ (by decide +kernel) fun t _ y => ?_
  blk_simp
  have e : ((cfg0.win 13).blk t).view.emb y = ix2 (y 0) (lane t (y 1)) := by blk_ext [idx t]
  rw [after0_13]
  refine Eq.trans ?_ ((congrArg (res13 m c) e).trans
    (ConvPoolRefCols.whole13 (z m c) (dy m c) (y 0) (lane t (y 1)))).symm
  exact (ConvPoolTiles.tile13_all (iblk m c 0 t) (iblk m c 1 t) (iblk m c 2 t) (iblk m c 3 t) (iblk m c 7 t) (iblk m c 8 t)
    (iblk m c 4 t) (iblk m c 5 t) (iblk m c 6 t) (grid0.coords t) y).trans
    (Finset.sum_congr rfl fun r _ => congrArg₂ (· * ·) (congrFun (dconv_eq m c t (y 1)) r)
      (congrArg (fun x => tap x (y 0) r) (gated_eq m c t (y 1))))

/-- Result array 5 after the run: the pool weights' gradient. -/
theorem final14 : (dats m 0 c).arrAt 14 (cfgs 0).N = res14 m c := by
  refine (dats m 0 c).arrAt_eq_of_covers 14 _ (by decide +kernel) fun t _ y => ?_
  blk_simp
  have e : ((cfg0.win 14).blk t).view.emb y = ix3 (grp t) (y 1) (y 2) := by blk_ext [idx t]
  have ey : y = ix3 0 (y 1) (y 2) := by blk_ext
  rw [after0_14]
  unfold_out out0_14
  frame_out
  rw [coord]
  exact (congrArg _ ey).trans ((core14 m c t (y 1) (y 2)).trans (congrArg (res14 m c) e.symm))

/-- Result array 6 after the run: the pool scales' gradient. -/
theorem final15 : (dats m 0 c).arrAt 15 (cfgs 0).N = res15 m c := by
  refine (dats m 0 c).arrAt_eq_of_covers 15 _ (by decide +kernel) fun t _ y => ?_
  blk_simp
  have e : ((cfg0.win 15).blk t).view.emb y = ix2 0 (lane t (y 1)) := by blk_ext [idx t]
  have ey : y = ix2 0 (y 1) := by blk_ext
  rw [after0_15]
  unfold_out out0_15
  frame_out
  rw [coord]
  exact (congrArg _ ey).trans ((core15 m c t (y 1)).trans (congrArg (res15 m c) e.symm))

end Cert.Proof.ConvPoolValue
-- ==== Proof.ConvPoolClaims.lean ====
module

public import proofs.«01_k».proof.Defs
public import proofs.«01_k».proof.Proof.Gen.ConvPool.Frame
public import proofs.«01_k».proof.Proof.ConvPoolValue
public import Idealize.ShloMosaic.Lib.Claim
public import Idealize.ShloMosaic.Lib.Quiescent

/-! # The claims about the gradients of the gated convolution and the multi-scale pool -/

@[expose] public section

set_option maxRecDepth 16384

noncomputable section

namespace Cert.Proof.ConvPoolClaims

open Idealize.ShloMosaic Idealize.SL.Sem

/-- The printed kernel runs to the end, leaves its arguments alone and its counters at zero. -/
theorem frame : Cert.quiescent_ConvPool := fun m ρ _ => Cert.ConvPool.Gen.frame m ρ

/-- So does its ideal reading. -/
theorem frameIdeal : Cert.quiescent_ConvPoolIdeal := fun m ρ _ => Cert.ConvPoolIdeal.Gen.frame m ρ

/-- So does the reference. -/
theorem frameRef : Cert.quiescent_ConvPoolRefIdeal := fun m ρ _ =>
  (θ_run Cert.ConvPoolRefIdeal.defs _ _).mono
    (fun r h => ⟨fun c => (h c).2.2.2.2.2.2.2, Idealize.ShloMosaic.sem_eq_zero_of_no_sems (by decide) r.2⟩)
    (Cert.ConvPoolRefIdeal.Value.run (F := Idealize.ShloMosaic.Ideal) m ρ)

open Cert.ConvPoolRefIdeal in
/-- The reference's run, its results by name. -/
theorem refRun (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ (fun r => ∀ c : Dev nD,
      r.2.mem ((c.tc : Thread nD τ).loc main_v451) = Read.val_main_v451 (F := Idealize.ShloMosaic.Ideal)
        (m ((c.tc : Thread nD τ).loc main_arg0)) (m ((c.tc : Thread nD τ).loc main_arg1)) (m ((c.tc : Thread nD τ).loc main_arg4))
      ∧ r.2.mem ((c.tc : Thread nD τ).loc main_v452) = Read.val_main_v452 (F := Idealize.ShloMosaic.Ideal)
        (m ((c.tc : Thread nD τ).loc main_arg0)) (m ((c.tc : Thread nD τ).loc main_arg1)) (m ((c.tc : Thread nD τ).loc main_arg4))
      ∧ r.2.mem ((c.tc : Thread nD τ).loc main_v453) = Read.val_main_v453 (F := Idealize.ShloMosaic.Ideal)
        (m ((c.tc : Thread nD τ).loc main_arg0)) (m ((c.tc : Thread nD τ).loc main_arg1)) (m ((c.tc : Thread nD τ).loc main_arg4))
      ∧ r.2.mem ((c.tc : Thread nD τ).loc main_v454) = Read.val_main_v454 (F := Idealize.ShloMosaic.Ideal)
        (m ((c.tc : Thread nD τ).loc main_arg2)) (m ((c.tc : Thread nD τ).loc main_arg3)) (m ((c.tc : Thread nD τ).loc main_arg4))
      ∧ r.2.mem ((c.tc : Thread nD τ).loc main_v448) = Read.val_main_v448 (F := Idealize.ShloMosaic.Ideal)
        (m ((c.tc : Thread nD τ).loc main_arg0)) (m ((c.tc : Thread nD τ).loc main_arg4))
      ∧ r.2.mem ((c.tc : Thread nD τ).loc main_v400) = Read.val_main_v400 (F := Idealize.ShloMosaic.Ideal)
        (m ((c.tc : Thread nD τ).loc main_arg0)) (m ((c.tc : Thread nD τ).loc main_arg3)) (m ((c.tc : Thread nD τ).loc main_arg4))
      ∧ r.2.mem ((c.tc : Thread nD τ).loc main_v246) = Read.val_main_v246 (F := Idealize.ShloMosaic.Ideal)
        (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Value.run (F := Idealize.ShloMosaic.Ideal) m ρ)
  obtain ⟨h0, h1, h2, h3, h4, h5, h6, h7⟩ := h c
  exact ⟨h0.trans (Read.val_main_v451_eq ..), h1.trans (Read.val_main_v452_eq ..), h2.trans (Read.val_main_v453_eq ..), h3.trans (Read.val_main_v454_eq ..), h4.trans (Read.val_main_v448_eq ..), h5.trans (Read.val_main_v400_eq ..), h6.trans (Read.val_main_v246_eq ..), h7⟩

open Cert.ConvPoolIdeal Cert.ConvPoolIdeal.Gen in
/-- The kernel's run: its seven result arrays are the reference's terms of the kernel's own arguments. -/
theorem kernelRun (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ (fun r => ∀ c : Dev nD,
      r.2.mem ((c.tc : Thread nD τ).loc main_v0_0) = Cert.Proof.ConvPoolValue.res9 m c
      ∧ r.2.mem ((c.tc : Thread nD τ).loc main_v0_1) = Cert.Proof.ConvPoolValue.res10 m c
      ∧ r.2.mem ((c.tc : Thread nD τ).loc main_v0_2) = Cert.Proof.ConvPoolValue.res11 m c
      ∧ r.2.mem ((c.tc : Thread nD τ).loc main_v0_3) = Cert.Proof.ConvPoolValue.res12 m c
      ∧ r.2.mem ((c.tc : Thread nD τ).loc main_v0_4) = Cert.Proof.ConvPoolValue.res13 m c
      ∧ r.2.mem ((c.tc : Thread nD τ).loc main_v0_5) = Cert.Proof.ConvPoolValue.res14 m c
      ∧ r.2.mem ((c.tc : Thread nD τ).loc main_v0_6) = Cert.Proof.ConvPoolValue.res15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 9).trans (Cert.Proof.ConvPoolValue.final9 m c),
      ((h c).1 10).trans (Cert.Proof.ConvPoolValue.final10 m c),
      ((h c).1 11).trans (Cert.Proof.ConvPoolValue.final11 m c),
      ((h c).1 12).trans (Cert.Proof.ConvPoolValue.final12 m c),
      ((h c).1 13).trans (Cert.Proof.ConvPoolValue.final13 m c),
      ((h c).1 14).trans (Cert.Proof.ConvPoolValue.final14 m c),
      ((h c).1 15).trans (Cert.Proof.ConvPoolValue.final15 m c),
      ((h c).1 3).trans (((dats m 0 c).arrAt_in 3 rfl _).trans ((A_eq m c 3).trans (V_main_arg0 m c))),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 6).trans (((dats m 0 c).arrAt_in 6 rfl _).trans ((A_eq m c 6).trans (V_main_arg3 m c))),
      ((h c).1 8).trans (((dats m 0 c).arrAt_in 8 rfl _).trans ((A_eq m c 8).trans (V_main_arg4 m c)))⟩) (run_main m ρ)

/-- All seven arrays the kernel writes are the reference's, at the ideal reading, on all arguments. -/
theorem algebraic : Cert.algebraic_ConvPoolIdeal_ConvPoolRefIdeal := by
  intro m g m' g' _ hagree
  refine ⟨_, _, _, _, _, _, _, kernelRun m g, ?_⟩
  refine (θ_run Cert.ConvPoolRefIdeal.defs _ _).mono (fun r h c => ?_) (refRun m' g')
  obtain ⟨h0, h1, h2, h3, h4, h5, h6, h7⟩ := h c
  obtain ⟨e0, e1, e2, e3, e4⟩ := hagree c
  refine ⟨h0.trans ?_, h1.trans ?_, h2.trans ?_, h3.trans ?_, h4.trans ?_, h5.trans ?_, h6.trans ?_, h7⟩
  · rw [e0, e1, e4]
  · rw [e0, e1, e4]
  · rw [e0, e1, e4]
  · rw [e2, e3, e4]
  · rw [e0, e4]
  · rw [e0, e3, e4]
  · rw [e0, e2, e4]

end Cert.Proof.ConvPoolClaims
-- ==== Proof.HeadValue.lean ====
module

public import proofs.«01_k».proof.Proof.Gen.HeadIdeal.Value
public import proofs.«01_k».proof.Proof.Gen.HeadRefIdeal.Run
public import proofs.«01_k».proof.Proof.Gen.HeadRefIdeal.Read
public import Idealize.ShloMosaic.Lib.Pipeline.ValueKit

/-! # The head norm and output gate of gated linear attention: what one row tile of one head computes,
and what the three result arrays hold -/

@[expose] public section

set_option maxRecDepth 16384

noncomputable section

namespace Cert.Proof.HeadValue

open Idealize.ShloMosaic Idealize.ShloMosaic.TcCoe Idealize.SL.Sem
open Cert.HeadIdeal Cert.HeadIdeal.Gen

variable (m : (ℓ : Loc nD τ sig) → Buf (Elt Ideal) ℓ)

/-- Every window's block at grid point `t`: head `t / 4`, row tile `t % 4`. -/
theorem idx : ∀ t : Fin cfg0.N,
    win0_0.index t = ![t.val % 4, t.val / 4] ∧ win0_1.index t = ![t.val % 4, 28 + t.val / 4]
      ∧ win0_2.index t = ![0, 0, 0] ∧ win0_3.index t = ![t.val % 4, 8 + t.val / 4]
      ∧ win0_4.index t = ![t.val % 4, t.val / 4] ∧ win0_5.index t = ![t.val % 4, t.val / 4]
      ∧ win0_6.index t = ![t.val / 4, 0, 0] :=
  (by decide +kernel : ∀ t : Fin grid0.N, _)

/-- The gradient of the attention output, as the reference computes it. -/
abbrev dout (c : Dev nD) := Cert.HeadRefIdeal.Read.val_main_v51 (F := Ideal)
  (m ((c : Thread nD τ).loc main_arg0)) (m ((c : Thread nD τ).loc main_arg1))
  (m ((c : Thread nD τ).loc main_arg2)) (m ((c : Thread nD τ).loc main_arg3))

/-- The gradient of the output gate, as the reference computes it. -/
abbrev dgate (c : Dev nD) := Cert.HeadRefIdeal.Read.val_main_v52 (F := Ideal)
  (m ((c : Thread nD τ).loc main_arg0)) (m ((c : Thread nD τ).loc main_arg1))
  (m ((c : Thread nD τ).loc main_arg2)) (m ((c : Thread nD τ).loc main_arg3))

/-- The heads' gain gradients, as the reference computes them. -/
abbrev dgain (c : Dev nD) := Cert.HeadRefIdeal.Read.val_main_v53 (F := Ideal)
  (m ((c : Thread nD τ).loc main_arg0)) (m ((c : Thread nD τ).loc main_arg1))
  (m ((c : Thread nD τ).loc main_arg3))

/-- The gradient of one head's row `o` of attention outputs, from the row of output gates `g`, of incoming gradients
`dy` and the gain: through the norm over the head's 128 lanes. -/
def rowGrad (o g dy gain : Fin 128 → EReal) (l : Fin 128) : EReal :=
  have ms : EReal := Ideal.div (∑ k, o k * o k) (Ideal.ofBits .f32 0x43000000#32) + Ideal.ofBits .f32 0x358637BD#32
  have dn : Fin 128 → EReal := fun k => dy k * (g k * Ideal.div 1 (1 + Ideal.exp (-g k))) * gain k
  have dms : EReal := Ideal.div ((∑ k, o k * dn k) * (Ideal.ofBits .f32 0xBF000000#32 * Ideal.div (Ideal.rsqrt ms) ms))
    (Ideal.ofBits .f32 0x43000000#32)
  dn l * Ideal.rsqrt ms + o l * dms + dms * o l

/-- The body's first payload is that gradient, row by row of its tile. -/
theorem tile4 (o g dy : FVec Ideal S512x128 .f32) (gain : FVec Ideal S1x1x128 .f32) (y : S512x128.Idx) :
    k0_pay1 (F := Ideal) o (k0_pay5 gain) (k0_pay7 o) (k0_pay8 o) (k0_pay11 g dy) y
      = rowGrad (fun k => o (ix2 (y 0) k)) (fun k => g (ix2 (y 0) k)) (fun k => dy (ix2 (y 0) k))
          (fun k => gain (ix3 0 0 k)) (y 1) := by
  pointwise [k0_pay1, k0_pay5, k0_pay6, k0_pay7, k0_pay8, k0_pay9, k0_pay10, k0_pay11, rowGrad, zero_sub, Fin.sum_univ_one]

/-- The reference's first result is that gradient, row by row and head by head. -/
theorem whole4 (o : FVec Ideal S2048x512 .f32) (z : FVec Ideal S2048x5760 .f32) (gain : FVec Ideal S2x1x128 .f32)
    (dy : FVec Ideal S2048x2048 .f32) (i : Fin 2048) (h : Fin 4) (l : Fin 128) :
    Cert.HeadRefIdeal.Read.val_main_v51 (F := Ideal) o z gain dy (ix2 i ⟨h.val * 128 + l.val, by omega⟩)
      = rowGrad (fun k => o (ix2 i ⟨h.val * 128 + k.val, by omega⟩))
          (fun k => z (ix2 i ⟨3584 + (h.val * 128 + k.val), by omega⟩))
          (fun k => dy (ix2 i ⟨1024 + (h.val * 128 + k.val), by omega⟩)) (fun k => gain (ix3 0 0 k)) l := by
  have e1 : (h.val * 128 + l.val) / 128 = h.val := by omega
  have e2 : (h.val * 128 + l.val) % 128 = l.val := by omega
  open Cert.HeadRefIdeal.Read in
  pointwise [e1, e2, rowGrad, zero_sub, Fin.sum_univ_one,
    val_main_v0, val_main_v1, val_main_v2, val_main_v3, val_main_v4, val_main_v5, val_main_cst, val_main_v6, val_main_v7,
    val_main_cst_0, val_main_v8, val_main_v9, val_main_cst_1, val_main_v10, val_main_v11, val_main_v12, val_main_v13,
    val_main_cst_2, val_main_v14, val_main_v15, val_main_v16, val_main_v17, val_main_v18, val_main_v19, val_main_v20,
    val_main_call0_v0, val_main_call0_v1, val_main_call0_cst, val_main_call0_v2, val_main_call0_v3, val_main_call0_cst_0,
    val_main_call0_v4, val_main_v21_2, val_main_call0_cst_1, val_main_call0_v6, val_main_call0_v7, val_main_v21_1,
    val_main_v21_0, val_main_v22, val_main_v23, val_main_v24, val_main_v25, val_main_v26, val_main_v27, val_main_v28,
    val_main_v29, val_main_call1_v0, val_main_call1_v1, val_main_call1_v2, val_main_v30, val_main_v31, val_main_cst_3,
    val_main_v32, val_main_v33, val_main_v34, val_main_v35, val_main_cst_4, val_main_v36, val_main_v37, val_main_cst_5,
    val_main_v38, val_main_v39, val_main_v40, val_main_v41, val_main_v42, val_main_cst_6, val_main_v43, val_main_v44,
    val_main_cst_7, val_main_v45, val_main_v46, val_main_v47, val_main_v48, val_main_v49, val_main_v50, val_main_v51,
    val_main_v52, val_main_v53]

/-- The body's first payload on one tile's blocks is the reference's gradient at the tile's rows and head. -/
theorem core4 (c : Dev nD) (t : Fin cfg0.N) (y : S512x128.Idx) :
    k0_pay1 (F := Ideal) (iblk m c 0 t) (k0_pay5 (iblk m c 2 t)) (k0_pay7 (iblk m c 0 t)) (k0_pay8 (iblk m c 0 t))
        (k0_pay11 (iblk m c 1 t) (iblk m c 3 t)) y = dout m c (((cfg0.win 4).blk t).view.emb y) := by
  have ht : t.val < 16 := lt_of_lt_of_eq t.isLt N_0
  have y0 : (y 0).val < 512 := (y 0).isLt
  have y1 : (y 1).val < 128 := (y 1).isLt
  have e : ((cfg0.win 4).blk t).view.emb y
      = ix2 ⟨t.val % 4 * 512 + (y 0).val, by omega⟩ ⟨t.val / 4 * 128 + (y 1).val, by omega⟩ := by
    blk_ext [idx t]
  refine (tile4 _ _ _ _ y).trans (Eq.trans ?_ ((congrArg (dout m c) e).trans
    (whole4 _ _ _ _ ⟨t.val % 4 * 512 + (y 0).val, by omega⟩ ⟨t.val / 4, by omega⟩ (y 1))).symm)
  congr 1 <;> funext k <;> blk_ext [iblk, V, idx t]

/-- The gradient of one head's row of output gates: through `silu`. -/
def rowGate (o g dy gain : Fin 128 → EReal) (l : Fin 128) : EReal :=
  have ms : EReal := Ideal.div (∑ k, o k * o k) (Ideal.ofBits .f32 0x43000000#32) + Ideal.ofBits .f32 0x358637BD#32
  have ds : EReal := o l * Ideal.rsqrt ms * gain l * dy l
  have sg : EReal := Ideal.div 1 (1 + Ideal.exp (-g l))
  ds * sg + g l * ds * (sg * (1 - sg))

/-- The body's second payload is that gradient, row by row of its tile. -/
theorem tile5 (o g dy : FVec Ideal S512x128 .f32) (gain : FVec Ideal S1x1x128 .f32) (y : S512x128.Idx) :
    k0_pay2 (F := Ideal) (k0_pay12 o g gain dy) y
      = rowGate (fun k => o (ix2 (y 0) k)) (fun k => g (ix2 (y 0) k)) (fun k => dy (ix2 (y 0) k))
          (fun k => gain (ix3 0 0 k)) (y 1) := by
  pointwise [k0_pay2, k0_pay12, k0_pay5, k0_pay6, k0_pay7, k0_pay9, k0_pay10, rowGate, zero_sub, mul_assoc]

/-- The reference's second result is that gradient, row by row and head by head. -/
theorem whole5 (o : FVec Ideal S2048x512 .f32) (z : FVec Ideal S2048x5760 .f32) (gain : FVec Ideal S2x1x128 .f32)
    (dy : FVec Ideal S2048x2048 .f32) (i : Fin 2048) (h : Fin 4) (l : Fin 128) :
    Cert.HeadRefIdeal.Read.val_main_v52 (F := Ideal) o z gain dy (ix2 i ⟨h.val * 128 + l.val, by omega⟩)
      = rowGate (fun k => o (ix2 i ⟨h.val * 128 + k.val, by omega⟩))
          (fun k => z (ix2 i ⟨3584 + (h.val * 128 + k.val), by omega⟩))
          (fun k => dy (ix2 i ⟨1024 + (h.val * 128 + k.val), by omega⟩)) (fun k => gain (ix3 0 0 k)) l := by
  have e1 : (h.val * 128 + l.val) / 128 = h.val := by omega
  have e2 : (h.val * 128 + l.val) % 128 = l.val := by omega
  open Cert.HeadRefIdeal.Read in
  pointwise [e1, e2, rowGate, zero_sub, mul_assoc,
    val_main_v0, val_main_v1, val_main_v2, val_main_v3, val_main_v4, val_main_v5, val_main_cst, val_main_v6, val_main_v7,
    val_main_cst_0, val_main_v8, val_main_v9, val_main_cst_1, val_main_v10, val_main_v11, val_main_v12, val_main_v13,
    val_main_cst_2, val_main_v14, val_main_v15, val_main_v16, val_main_v17, val_main_v18, val_main_v19, val_main_v20,
    val_main_call0_v0, val_main_call0_v1, val_main_call0_cst, val_main_call0_v2, val_main_call0_v3, val_main_call0_cst_0,
    val_main_call0_v4, val_main_v21_2, val_main_call0_cst_1, val_main_call0_v6, val_main_call0_v7, val_main_v21_1,
    val_main_v21_0, val_main_v22, val_main_v23, val_main_v24, val_main_v25, val_main_v26, val_main_v27, val_main_v28,
    val_main_v29, val_main_call1_v0, val_main_call1_v1, val_main_call1_v2, val_main_v30, val_main_v31, val_main_cst_3,
    val_main_v32, val_main_v33, val_main_v34, val_main_v35, val_main_cst_4, val_main_v36, val_main_v37, val_main_cst_5,
    val_main_v38, val_main_v39, val_main_v40, val_main_v41, val_main_v42, val_main_cst_6, val_main_v43, val_main_v44,
    val_main_cst_7, val_main_v45, val_main_v46, val_main_v47, val_main_v48, val_main_v49, val_main_v50, val_main_v51,
    val_main_v52, val_main_v53]

/-- So the second payload on one tile's blocks is the reference's gradient there. -/
theorem core5 (c : Dev nD) (t : Fin cfg0.N) (y : S512x128.Idx) :
    k0_pay2 (F := Ideal) (k0_pay12 (iblk m c 0 t) (iblk m c 1 t) (iblk m c 2 t) (iblk m c 3 t)) y
      = dgate m c (((cfg0.win 5).blk t).view.emb y) := by
  have ht : t.val < 16 := lt_of_lt_of_eq t.isLt N_0
  have y0 : (y 0).val < 512 := (y 0).isLt
  have y1 : (y 1).val < 128 := (y 1).isLt
  have e : ((cfg0.win 5).blk t).view.emb y
      = ix2 ⟨t.val % 4 * 512 + (y 0).val, by omega⟩ ⟨t.val / 4 * 128 + (y 1).val, by omega⟩ := by
    blk_ext [idx t]
  refine (tile5 _ _ _ _ y).trans (Eq.trans ?_ ((congrArg (dgate m c) e).trans
    (whole5 _ _ _ _ ⟨t.val % 4 * 512 + (y 0).val, by omega⟩ ⟨t.val / 4, by omega⟩ (y 1))).symm)
  congr 1 <;> funext k <;> blk_ext [iblk, V, idx t]

/-- What a grid point leaves in its tile of the first result, whether or not it is a head's first point. -/
theorem point4 (c : Dev nD) (t : Fin cfg0.N) (y : S512x128.Idx) :
    (outsAt0 m c t.val t.isLt).1 y = dout m c (((cfg0.win 4).blk t).view.emb y) := by
  by_cases h : 1 ≤ t.val % 4
  · rw [outsAt0_B m c t (by omega) h]; frame_out
    exact core4 m c t y
  · rw [outsAt0_A m c t (by omega) h]; frame_out
    exact core4 m c t y

/-- The same for the second result. -/
theorem point5 (c : Dev nD) (t : Fin cfg0.N) (y : S512x128.Idx) :
    (outsAt0 m c t.val t.isLt).2.1 y = dgate m c (((cfg0.win 5).blk t).view.emb y) := by
  by_cases h : 1 ≤ t.val % 4
  · rw [outsAt0_B m c t (by omega) h]; frame_out
    exact core5 m c t y
  · rw [outsAt0_A m c t (by omega) h]; frame_out
    exact core5 m c t y

/-- The first result array after the run. -/
theorem final4 (c : Dev nD) : (dats m 0 c).arrAt 4 (cfgs 0).N = dout m c := by
  refine (dats m 0 c).arrAt_eq_of_covers 4 _ (by decide +kernel) fun t _ y => ?_
  blk_simp
  rw [after0_4]
  exact point4 m c t y

/-- The second result array after the run. -/
theorem final5 (c : Dev nD) : (dats m 0 c).arrAt 5 (cfgs 0).N = dgate m c := by
  refine (dats m 0 c).arrAt_eq_of_covers 5 _ (by decide +kernel) fun t _ y => ?_
  blk_simp
  rw [after0_5]
  exact point5 m c t y

/-- One entry of the gated, normalised row: what the gain's gradient sums. -/
def term (o g dy : Ideal .f32) (ss : Ideal .f32) : Ideal .f32 :=
  o * Ideal.rsqrt (Ideal.div ss (Ideal.ofBits .f32 0x43000000#32) + Ideal.ofBits .f32 0x358637BD#32)
    * (dy * (g * Ideal.div (Ideal.ofBits .f32 0x3F800000#32) (Ideal.ofBits .f32 0x3F800000#32 + Ideal.exp (-g))))

/-- One row tile's share of a head's gain gradient. -/
theorem share (o g dy : FVec Ideal S512x128 .f32) (j : S1x1x128.Idx) :
    k0_pay3 (F := Ideal) (k0_pay13 o g dy) j = ∑ r : Fin 512, term (o (ix2 r (j 2))) (g (ix2 r (j 2)))
      (dy (ix2 r (j 2))) (∑ k : Fin 128, o (ix2 r k) * o (ix2 r k)) := by
  pointwise [k0_pay3, k0_pay13, k0_pay6, k0_pay7, k0_pay9, k0_pay10, k0_pay11, term, zero_sub]

/-- The accumulating store adds a tile's share to what the point before left. -/
theorem step (o g dy : FVec Ideal S512x128 .f32) (acc : FVec Ideal S1x1x128 .f32) (j : S1x1x128.Idx) :
    k0_pay4 (F := Ideal) (k0_pay13 o g dy) acc j = acc j + k0_pay3 (F := Ideal) (k0_pay13 o g dy) j := by
  pointwise [k0_pay4, k0_pay3]

/-- The third result array after the run: a head's four row tiles add up to the reference's sum over all rows. -/
theorem final6 (c : Dev nD) : (dats m 0 c).arrAt 6 (cfgs 0).N = dgain m c := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => 0) _
    (fun t h j => by rw [outsAt0_A m c t h (by omega)]; frame_out; rw [zero_add, share])
    (fun t h j => by rw [outsAt0_B m c t h (by omega)]; frame_out; rw [step, share])
    t ((flush0_6 t).mp hf) _, zero_add]
  open Cert.HeadRefIdeal.Read in
  pointwise [dgain, term, zero_sub, Fin.sum_univ_one,
    val_main_v0, val_main_v1, val_main_v2, val_main_v3, val_main_v4, val_main_v5, val_main_cst, val_main_v6, val_main_v7,
    val_main_cst_0, val_main_v8, val_main_v9, val_main_cst_1, val_main_v10, val_main_v11, val_main_v12, val_main_v13,
    val_main_cst_2, val_main_v14, val_main_v15, val_main_v16, val_main_v17, val_main_v18, val_main_v19, val_main_v20,
    val_main_call0_v0, val_main_call0_v1, val_main_call0_cst, val_main_call0_v2, val_main_call0_v3, val_main_call0_cst_0,
    val_main_call0_v4, val_main_v21_2, val_main_call0_cst_1, val_main_call0_v6, val_main_call0_v7, val_main_v21_1,
    val_main_v21_0, val_main_v22, val_main_v23, val_main_v24, val_main_v25, val_main_v26, val_main_v27, val_main_v28,
    val_main_v29, val_main_call1_v0, val_main_call1_v1, val_main_call1_v2, val_main_v30, val_main_v31, val_main_cst_3,
    val_main_v32, val_main_v33, val_main_v34, val_main_v35, val_main_cst_4, val_main_v36, val_main_v37, val_main_cst_5,
    val_main_v38, val_main_v39, val_main_v40, val_main_v41, val_main_v42, val_main_cst_6, val_main_v43, val_main_v44,
    val_main_cst_7, val_main_v45, val_main_v46, val_main_v47, val_main_v48, val_main_v49, val_main_v50, val_main_v51,
    val_main_v52, val_main_v53]
  refine Fin.sum_mul_add_congr fun s r hl => ?_
  blk_point [iblk, V, idx t, idx ⟨_, Pipeline.run_point_lt_of_flush t ((flush0_6 t).mp hf) s⟩]

end Cert.Proof.HeadValue
-- ==== Proof.HeadClaims.lean ====
module

public import proofs.«01_k».proof.Defs
public import proofs.«01_k».proof.Proof.Gen.Head.Frame
public import proofs.«01_k».proof.Proof.HeadValue
public import Idealize.ShloMosaic.Lib.Claim
public import Idealize.ShloMosaic.Lib.Quiescent

/-! # The claims about the head norm and output gate of gated linear attention -/

@[expose] public section

set_option maxRecDepth 16384

noncomputable section

namespace Cert.Proof.HeadClaims

open Idealize.ShloMosaic Idealize.SL.Sem

/-- The printed kernel runs to the end, leaves its arguments alone and its counters at zero. -/
theorem frame : Cert.quiescent_Head := fun m ρ _ => Cert.Head.Gen.frame m ρ

/-- So does its ideal reading. -/
theorem frameIdeal : Cert.quiescent_HeadIdeal := fun m ρ _ => Cert.HeadIdeal.Gen.frame m ρ

/-- So does the reference. -/
theorem frameRef : Cert.quiescent_HeadRefIdeal := fun m ρ _ =>
  (θ_run Cert.HeadRefIdeal.defs _ _).mono
    (fun r h => ⟨fun c => (h c).2.2.2, Idealize.ShloMosaic.sem_eq_zero_of_no_sems (by decide) r.2⟩)
    (Cert.HeadRefIdeal.Value.run (F := Idealize.ShloMosaic.Ideal) m ρ)

/-- All three arrays the kernel writes are the reference's, at the ideal reading, on all arguments. -/
theorem algebraic : Cert.algebraic_HeadIdeal_HeadRefIdeal := by
  pair_intro
  · run_from Cert.HeadIdeal.Gen.run_main m g
  · refine (θ_run Cert.HeadRefIdeal.defs _ _).mono (fun r h c => ?_) (Cert.HeadRefIdeal.Value.run m' g')
    obtain ⟨e0, e1, e2, e3⟩ := hagree c
    refine ⟨(h c).1.trans ?_, (h c).2.1.trans ?_, (h c).2.2.1.trans ?_, (h c).2.2.2⟩
    · refine (Cert.HeadRefIdeal.Read.val_main_v51_eq ..).trans (Eq.trans ?_ (Cert.Proof.HeadValue.final4 m c).symm)
      rw [e0, e1, e2, e3]
    · refine (Cert.HeadRefIdeal.Read.val_main_v52_eq ..).trans (Eq.trans ?_ (Cert.Proof.HeadValue.final5 m c).symm)
      rw [e0, e1, e2, e3]
    · refine (Cert.HeadRefIdeal.Read.val_main_v53_eq ..).trans (Eq.trans ?_ (Cert.Proof.HeadValue.final6 m c).symm)
      rw [e0, e1, e3]

end Cert.Proof.HeadClaims
-- ==== Proof.GateValue.lean ====
module

public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.ValueKit

/-! # The gate's gradient: what one block computes and what the two result arrays hold -/

@[expose] public section

set_option maxRecDepth 16384

noncomputable section

namespace Cert.Proof.GateValue

open Idealize.ShloMosaic Idealize.ShloMosaic.TcCoe Idealize.SL.Sem
open Cert.GateIdeal Cert.GateIdeal.Gen

variable (m : (ℓ : Loc nD τ sig) → Buf (Elt Ideal) ℓ)

/-- The block every window stands at, at grid point `t`: the hidden columns move slowly, the rows fast. -/
theorem idx : ∀ t : Fin cfg0.N,
    win0_0.index t = ![t.val % 4, 0] ∧ win0_1.index t = ![t.val / 4, 0, 0]
      ∧ win0_2.index t = ![t.val % 4, t.val / 4] ∧ win0_3.index t = ![t.val % 4, t.val / 4]
      ∧ win0_4.index t = ![t.val % 4, t.val / 4] ∧ win0_5.index t = ![t.val % 4, t.val / 4] :=
  (by decide +kernel : ∀ t : Fin grid0.N, _)

/-- The gradient of the gate as the reference computes it, over the kernel's own arguments. -/
abbrev dgate (c : Dev nD) := Cert.GateRefIdeal.Read.val_main_v10 (F := Ideal)
  (m ((c : Thread nD τ).loc main_arg0)) (m ((c : Thread nD τ).loc main_arg1))
  (m ((c : Thread nD τ).loc main_arg2)) (m ((c : Thread nD τ).loc main_arg3))

/-- The gradient of the other branch as the reference computes it, over the kernel's own arguments. -/
abbrev dup (c : Dev nD) := Cert.GateRefIdeal.Read.val_main_v11 (F := Ideal)
  (m ((c : Thread nD τ).loc main_arg0)) (m ((c : Thread nD τ).loc main_arg1))
  (m ((c : Thread nD τ).loc main_arg2))

open Cert.GateRefIdeal.Read in
/-- What the body stores in a block of the gate's gradient is the reference's array at the block's place. -/
theorem point4 (c : Dev nD) (t : Fin cfg0.N) (y : S512x1408.Idx) :
    k0_pay3 (F := Ideal) (iblk m c 0 t) (iblk m c 1 t) (iblk m c 2 t) (iblk m c 3 t) y
      = dgate m c (((cfg0.win 4).blk t).view.emb y) := by
  pointwise [k0_pay3, k0_pay2, k0_pay1, dgate, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_v3, val_main_v4, val_main_v5, val_main_v6, val_main_v7, val_main_v8, val_main_call1_v0, val_main_call1_v1, val_main_call1_v2, val_main_v9, val_main_v10, val_main_v11, zero_sub, mul_assoc]
  blk_point [iblk, V, idx t]

open Cert.GateRefIdeal.Read in
/-- What the body stores in a block of the other branch's gradient is the reference's array at the block's place. -/
theorem point5 (c : Dev nD) (t : Fin cfg0.N) (y : S512x1408.Idx) :
    k0_pay4 (F := Ideal) (iblk m c 0 t) (iblk m c 1 t) (iblk m c 2 t) y
      = dup m c (((cfg0.win 5).blk t).view.emb y) := by
  pointwise [k0_pay4, k0_pay2, k0_pay1, dup, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_v3, val_main_v4, val_main_v5, val_main_v6, val_main_v7, val_main_v8, val_main_call1_v0, val_main_call1_v1, val_main_call1_v2, val_main_v9, val_main_v10, val_main_v11, zero_sub]
  blk_point [iblk, V, idx t]

/-- The first result array after the run is the reference's gradient of the gate. -/
theorem final4 (c : Dev nD) : (dats m 0 c).arrAt 4 (cfgs 0).N = dgate m c := by
  refine (dats m 0 c).arrAt_eq_of_covers 4 _ (by decide +kernel) fun t _ y => ?_
  blk_simp
  rw [after0_4]; frame_out
  exact point4 m c t y

/-- The second result array after the run is the reference's gradient of the other branch. -/
theorem final5 (c : Dev nD) : (dats m 0 c).arrAt 5 (cfgs 0).N = dup m c := by
  refine (dats m 0 c).arrAt_eq_of_covers 5 _ (by decide +kernel) fun t _ y => ?_
  blk_simp
  rw [after0_5]; frame_out
  exact point5 m c t y

end Cert.Proof.GateValue
-- ==== Proof.GateClaims.lean ====
module

public import proofs.«01_k».proof.Defs
public import proofs.«01_k».proof.Proof.Gen.Gate.Frame
public import proofs.«01_k».proof.Proof.GateValue
public import Idealize.ShloMosaic.Lib.Claim
public import Idealize.ShloMosaic.Lib.Quiescent

/-! # The claims about the gate's gradient -/

@[expose] public section

set_option maxRecDepth 16384

noncomputable section

namespace Cert.Proof.GateClaims

open Idealize.ShloMosaic Idealize.SL.Sem

/-- The printed kernel runs to the end, leaves its arguments alone and its counters at zero. -/
theorem frame : Cert.quiescent_Gate := fun m ρ _ => Cert.Gate.Gen.frame m ρ

/-- So does its ideal reading. -/
theorem frameIdeal : Cert.quiescent_GateIdeal := fun m ρ _ => Cert.GateIdeal.Gen.frame m ρ

/-- So does the reference. -/
theorem frameRef : Cert.quiescent_GateRefIdeal := fun m ρ _ =>
  (θ_run Cert.GateRefIdeal.defs _ _).mono
    (fun r h => ⟨fun c => (h c).2.2, Idealize.ShloMosaic.sem_eq_zero_of_no_sems (by decide) r.2⟩)
    (Cert.GateRefIdeal.Value.run (F := Idealize.ShloMosaic.Ideal) m ρ)

/-- Both gradients the kernel writes are the reference's, at the ideal reading, on all arguments. -/
theorem algebraic : Cert.algebraic_GateIdeal_GateRefIdeal := by
  pair_intro
  · run_from Cert.GateIdeal.Gen.run_main m g
  · run_from Cert.GateRefIdeal.Value.run m' g'
    · exact Eq.trans (Cert.GateRefIdeal.Read.val_main_v10_eq ..) (Cert.Proof.GateValue.final4 m c).symm
    · exact Eq.trans (Cert.GateRefIdeal.Read.val_main_v11_eq ..) (Cert.Proof.GateValue.final5 m c).symm

end Cert.Proof.GateClaims
-- ==== Proof.NormValue.lean ====
module

public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit

/-! # The normalisation's gradient: what one row tile computes and what the three result arrays hold -/

@[expose] public section

set_option maxRecDepth 16384

noncomputable section

namespace Cert.Proof.NormValue

open Idealize.ShloMosaic Idealize.ShloMosaic.TcCoe Idealize.SL.Sem
open Cert.NormIdeal Cert.NormIdeal.Gen

variable (m : (ℓ : Loc nD τ sig) → Buf (Elt Ideal) ℓ)

/-- Every window's block at grid point `t`: the row tiles move with the point, gain and its gradient stand still. -/
theorem idx : ∀ t : Fin cfg0.N,
    win0_0.index t = ![t.val, 0] ∧ win0_1.index t = ![0, 0, 0]
      ∧ win0_2.index t = ![t.val, 0] ∧ win0_3.index t = ![t.val, 0]
      ∧ win0_4.index t = ![t.val, 0] ∧ win0_5.index t = ![t.val, 0] ∧ win0_6.index t = ![0, 0] :=
  (by decide +kernel : ∀ t : Fin grid0.N, _)

/-- The residual's gradient plus the normalisation's, as the reference computes them. -/
abbrev dx (c : Dev nD) := Cert.NormRefIdeal.Read.val_main_v36 (F := Ideal)
  (m ((c : Thread nD τ).loc main_arg0)) (m ((c : Thread nD τ).loc main_arg1))
  (m ((c : Thread nD τ).loc main_arg2)) (m ((c : Thread nD τ).loc main_arg3))

/-- The same sum, rounded (at the ideal reading: unchanged). -/
abbrev dxLow (c : Dev nD) := Cert.NormRefIdeal.Read.val_main_v38 (F := Ideal)
  (m ((c : Thread nD τ).loc main_arg0)) (m ((c : Thread nD τ).loc main_arg1))
  (m ((c : Thread nD τ).loc main_arg2)) (m ((c : Thread nD τ).loc main_arg3))

/-- The gain's gradient as the reference computes it: one sum over all rows. -/
abbrev dg (c : Dev nD) := Cert.NormRefIdeal.Read.val_main_v19 (F := Ideal)
  (m ((c : Thread nD τ).loc main_arg0)) (m ((c : Thread nD τ).loc main_arg2))

/-- The body's arithmetic on one row tile's blocks is the reference's at the tile's rows. -/
theorem core (c : Dev nD) (t : Fin cfg0.N) (y : S256x2048.Idx) :
    k0_pay6 (F := Ideal) (iblk m c 0 t) (iblk m c 1 t) (iblk m c 2 t) (iblk m c 3 t) y
      = dx m c (((cfg0.win 4).blk t).view.emb y) := by
  open Cert.NormRefIdeal.Read in
  pointwise [k0_pay6, k0_pay5, k0_pay4, k0_pay3, dx, val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_cst_3, val_main_v18, val_main_v19, val_main_v20, val_main_v21, val_main_v22, val_main_cst_4, val_main_v23, val_main_v24, val_main_v25, val_main_v26, val_main_v27, val_main_cst_5, val_main_v28, val_main_v29, val_main_cst_6, val_main_v30, val_main_v31, val_main_v32, val_main_v33, val_main_v34, val_main_v35, val_main_v36, val_main_v37, val_main_v38]
  blk_point [iblk, V, idx t]

/-- What a grid point leaves in its tile of the first result, whether or not it is the first point. -/
theorem point4 (c : Dev nD) (t : Fin cfg0.N) (y : S256x2048.Idx) :
    (outsAt0 m c t.val t.isLt).1 y = dx m c (((cfg0.win 4).blk t).view.emb y) := by
  by_cases h : 1 ≤ t.val
  · have h0 : ¬t.val % 8 = 0 := by have := lt_of_lt_of_eq t.isLt N_0; omega
    rw [outsAt0_B m c t h0 h]; frame_out
    exact core m c t y
  · rw [outsAt0_A m c t (by omega) h]; frame_out
    exact core m c t y

/-- What a grid point leaves in its tile of the rounded copy: the same entries. -/
theorem point5 (c : Dev nD) (t : Fin cfg0.N) (y : S256x2048.Idx) :
    (outsAt0 m c t.val t.isLt).2.1 y = dxLow m c (((cfg0.win 5).blk t).view.emb y) := by
  have e : ((cfg0.win 5).blk t).view.emb y = ((cfg0.win 4).blk t).view.emb y := by blk_ext [idx t]
  have low : dxLow m c (((cfg0.win 5).blk t).view.emb y) = dx m c (((cfg0.win 4).blk t).view.emb y) := by
    rw [e]; rfl
  rw [low]
  by_cases h : 1 ≤ t.val
  · have h0 : ¬t.val % 8 = 0 := by have := lt_of_lt_of_eq t.isLt N_0; omega
    rw [outsAt0_B m c t h0 h]; frame_out
    exact core m c t y
  · rw [outsAt0_A m c t (by omega) h]; frame_out
    exact core m c t y

/-- The first result array after the run. -/
theorem final4 (c : Dev nD) : (dats m 0 c).arrAt 4 (cfgs 0).N = dx m c := by
  refine (dats m 0 c).arrAt_eq_of_covers 4 _ (by decide +kernel) fun t _ y => ?_
  blk_simp
  rw [after0_4]
  exact point4 m c t y

/-- The second result array after the run. -/
theorem final5 (c : Dev nD) : (dats m 0 c).arrAt 5 (cfgs 0).N = dxLow m c := by
  refine (dats m 0 c).arrAt_eq_of_covers 5 _ (by decide +kernel) fun t _ y => ?_
  blk_simp
  rw [after0_5]
  exact point5 m c t y

/-- One row tile's share of the gain's gradient: normalised row times incoming gradient, summed over the tile. -/
theorem share (x du : FVec Ideal S256x2048 .f32) (j : S1x2048.Idx) :
    k0_pay5 (F := Ideal) x du j = ∑ r : Fin 256, x (ix2 r (j 1))
      * Ideal.rsqrt (Ideal.div (∑ k : Fin 2048, x (ix2 r k) * x (ix2 r k)) (Ideal.ofBits .f32 0x45000000#32)
          + Ideal.ofBits .f32 0x358637BD#32) * du (ix2 r (j 1)) := by
  pointwise [k0_pay5, k0_pay4, k0_pay3]

/-- The accumulating store adds a tile's share to what the point before left. -/
theorem step (x du : FVec Ideal S256x2048 .f32) (acc : FVec Ideal S1x2048 .f32) (j : S1x2048.Idx) :
    k0_pay2 (F := Ideal) (k0_pay5 x du) acc j = acc j + k0_pay5 (F := Ideal) x du j := by
  pointwise [k0_pay2]

/-- The reference's gradient of the gain at a column: one sum over all 2048 rows. -/
theorem whole (x du : FVec Ideal S2048x2048 .f32) (j : S1x2048.Idx) :
    Cert.NormRefIdeal.Read.val_main_v19 (F := Ideal) x du j = ∑ r : Fin 2048, x (ix2 r (j 1))
      * Ideal.rsqrt (Ideal.div (∑ k : Fin 2048, x (ix2 r k) * x (ix2 r k)) (Ideal.ofBits .f32 0x45000000#32)
          + Ideal.ofBits .f32 0x358637BD#32) * du (ix2 r (j 1)) := by
  open Cert.NormRefIdeal.Read in
  pointwise [val_main_v19, val_main_v18, val_main_cst_3, val_main_v17, val_main_v14, val_main_v13, val_main_v9,
    val_main_v8, val_main_v7, val_main_cst_1, val_main_v6, val_main_v5, val_main_cst_0, val_main_v4, val_main_v3,
    val_main_cst, val_main_v2]

/-- The third result array after the run: the tiles' shares add up to the reference's sum over all rows. -/
theorem final6 (c : Dev nD) : (dats m 0 c).arrAt 6 (cfgs 0).N = dg m c := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _
    (fun t h j => by
      rw [outsAt0_A m c t h (by have := lt_of_lt_of_eq t.isLt N_0; omega)]; frame_out; rw [zero_add, share])
    (fun t h j => by
      rw [outsAt0_B m c t h (by omega)]; frame_out; rw [step, share])
    (le_of_eq N_0) t0_7 rfl j, zero_add]
  refine Eq.trans ?_ (whole _ _ j).symm
  refine Fin.sum_mul_add_congr fun t r hl => ?_
  blk_point [iblk, V, idx t]

end Cert.Proof.NormValue
-- ==== Proof.NormClaims.lean ====
module

public import proofs.«01_k».proof.Defs
public import proofs.«01_k».proof.Proof.Gen.Norm.Frame
public import proofs.«01_k».proof.Proof.NormValue
public import Idealize.ShloMosaic.Lib.Claim
public import Idealize.ShloMosaic.Lib.Quiescent

/-! # The claims about the normalisation's gradient -/

@[expose] public section

set_option maxRecDepth 16384

noncomputable section

namespace Cert.Proof.NormClaims

open Idealize.ShloMosaic Idealize.SL.Sem

/-- The printed kernel runs to the end, leaves its arguments alone and its counters at zero. -/
theorem frame : Cert.quiescent_Norm := fun m ρ _ => Cert.Norm.Gen.frame m ρ

/-- So does its ideal reading. -/
theorem frameIdeal : Cert.quiescent_NormIdeal := fun m ρ _ => Cert.NormIdeal.Gen.frame m ρ

/-- So does the reference. -/
theorem frameRef : Cert.quiescent_NormRefIdeal := fun m ρ _ =>
  (θ_run Cert.NormRefIdeal.defs _ _).mono
    (fun r h => ⟨fun c => (h c).2.2.2, Idealize.ShloMosaic.sem_eq_zero_of_no_sems (by decide) r.2⟩)
    (Cert.NormRefIdeal.Value.run (F := Idealize.ShloMosaic.Ideal) m ρ)

/-- All three arrays the kernel writes are the reference's, at the ideal reading, on all arguments. -/
theorem algebraic : Cert.algebraic_NormIdeal_NormRefIdeal := by
  pair_intro
  · run_from Cert.NormIdeal.Gen.run_main m g
  · refine (θ_run Cert.NormRefIdeal.defs _ _).mono (fun r h c => ?_) (Cert.NormRefIdeal.Value.run m' g')
    obtain ⟨e0, e1, e2, e3⟩ := hagree c
    refine ⟨(h c).1.trans ?_, (h c).2.1.trans ?_, (h c).2.2.1.trans ?_, (h c).2.2.2⟩
    · refine (Cert.NormRefIdeal.Read.val_main_v36_eq ..).trans (Eq.trans ?_ (Cert.Proof.NormValue.final4 m c).symm)
      rw [e0, e1, e2, e3]
    · refine (Cert.NormRefIdeal.Read.val_main_v38_eq ..).trans (Eq.trans ?_ (Cert.Proof.NormValue.final5 m c).symm)
      rw [e0, e1, e2, e3]
    · refine (Cert.NormRefIdeal.Read.val_main_v19_eq ..).trans (Eq.trans ?_ (Cert.Proof.NormValue.final6 m c).symm)
      rw [e0, e2]

end Cert.Proof.NormClaims
-- ==== Proof.DwDownValue.lean ====
module

public import proofs.«01_k».proof.Proof.Gen.DwDownIdeal.Value
public import proofs.«01_k».proof.Proof.Gen.DwDownRefIdeal.Run
public import proofs.«01_k».proof.Proof.Gen.DwDownRefIdeal.Read
public import Idealize.ShloMosaic.Lib.Pipeline.ValueKit

/-! # The gradient of the down projection's weight: one product per chip's slab and column half -/

@[expose] public section

set_option maxRecDepth 16384

noncomputable section

namespace Cert.Proof.DwDownValue

open Idealize.ShloMosaic Idealize.ShloMosaic.TcCoe Idealize.SL.Sem
open Cert.DwDownIdeal Cert.DwDownIdeal.Gen

variable (m : (ℓ : Loc nD τ sig) → Buf (Elt Ideal) ℓ)

/-- Every window's block at grid point `t`. -/
theorem idx : ∀ t : Fin cfg0.N,
    win0_0.index t = ![0, t.val / 2] ∧ win0_1.index t = ![0, t.val % 2] ∧ win0_2.index t = ![t.val / 2, 0, t.val % 2] :=
  (by decide +kernel : ∀ t : Fin grid0.N, _)

/-- The weight's gradient, as the reference computes it. -/
abbrev whole (c : Dev nD) := Cert.DwDownRefIdeal.Read.val_main_v7 (F := Ideal)
  (m ((c : Thread nD τ).loc main_arg0)) (m ((c : Thread nD τ).loc main_arg1))

/-- What a grid point leaves in its block is the reference's array at that block. -/
theorem point (c : Dev nD) (t : Fin cfg0.N) (y : S1x1408x1024.Idx) :
    k0_pay1 (F := Ideal) (iblk m c 0 t) (iblk m c 1 t) y = whole m c (((cfg0.win 2).blk t).view.emb y) := by
  open Cert.DwDownRefIdeal.Read in
  pointwise [k0_pay1, whole,
    val_main_cst, val_main_v0, val_main_v1, val_main_v2, val_main_v3, val_main_v4, val_main_v5, val_main_v6, val_main_v7]
  refine Finset.sum_congr rfl fun r _ => (mul_comm _ _).trans ?_
  blk_point [iblk, V, idx t]

/-- The result array after the run. -/
theorem final (c : Dev nD) : (dats m 0 c).arrAt 2 (cfgs 0).N = whole m c := by
  refine (dats m 0 c).arrAt_eq_of_covers 2 _ (by decide +kernel) fun t _ y => ?_
  blk_simp
  rw [after0_2]; frame_out
  exact point m c t y

end Cert.Proof.DwDownValue
-- ==== Proof.DwDownClaims.lean ====
module

public import proofs.«01_k».proof.Defs
public import proofs.«01_k».proof.Proof.Gen.DwDown.Frame
public import proofs.«01_k».proof.Proof.DwDownValue
public import Idealize.ShloMosaic.Lib.Claim
public import Idealize.ShloMosaic.Lib.Quiescent

/-! # The claims about the gradient of the down projection's weight -/

@[expose] public section

set_option maxRecDepth 16384

noncomputable section

namespace Cert.Proof.DwDownClaims

open Idealize.ShloMosaic Idealize.SL.Sem

/-- The printed kernel runs to the end, leaves its arguments alone and its counters at zero. -/
theorem frame : Cert.quiescent_DwDown := fun m ρ _ => Cert.DwDown.Gen.frame m ρ

/-- So does its ideal reading. -/
theorem frameIdeal : Cert.quiescent_DwDownIdeal := fun m ρ _ => Cert.DwDownIdeal.Gen.frame m ρ

/-- So does the reference. -/
theorem frameRef : Cert.quiescent_DwDownRefIdeal := fun m ρ _ =>
  (θ_run Cert.DwDownRefIdeal.defs _ _).mono
    (fun r h => ⟨fun c => (h c).2, Idealize.ShloMosaic.sem_eq_zero_of_no_sems (by decide) r.2⟩)
    (Cert.DwDownRefIdeal.Value.run (F := Idealize.ShloMosaic.Ideal) m ρ)

/-- The array the kernel writes is the reference's, at the ideal reading, on all arguments. -/
theorem algebraic : Cert.algebraic_DwDownIdeal_DwDownRefIdeal := by
  pair_intro
  · run_from Cert.DwDownIdeal.Gen.run_main m g
  · refine (θ_run Cert.DwDownRefIdeal.defs _ _).mono (fun r h c => ?_) (Cert.DwDownRefIdeal.Value.run m' g')
    obtain ⟨e0, e1⟩ := hagree c
    refine ⟨(h c).1.trans ?_, (h c).2⟩
    · refine (Cert.DwDownRefIdeal.Read.val_main_v7_eq ..).trans (Eq.trans ?_ (Cert.Proof.DwDownValue.final m c).symm)
      rw [e0, e1]

end Cert.Proof.DwDownClaims
-- ==== Proof.DwGateValue.lean ====
module

public import proofs.«01_k».proof.Proof.Gen.DwGateIdeal.Value
public import proofs.«01_k».proof.Proof.Gen.DwGateRefIdeal.Run
public import proofs.«01_k».proof.Proof.Gen.DwGateRefIdeal.Read
public import Idealize.ShloMosaic.Lib.Pipeline.ValueKit

/-! # The gradient of the gate (and of the up) projection's weight: one product per row half and chip's slab -/

@[expose] public section

set_option maxRecDepth 16384

noncomputable section

namespace Cert.Proof.DwGateValue

open Idealize.ShloMosaic Idealize.ShloMosaic.TcCoe Idealize.SL.Sem
open Cert.DwGateIdeal Cert.DwGateIdeal.Gen

variable (m : (ℓ : Loc nD τ sig) → Buf (Elt Ideal) ℓ)

/-- Every window's block at grid point `t`. -/
theorem idx : ∀ t : Fin cfg0.N,
    win0_0.index t = ![0, t.val / 4] ∧ win0_1.index t = ![0, t.val % 4] ∧ win0_2.index t = ![t.val % 4, t.val / 4, 0] :=
  (by decide +kernel : ∀ t : Fin grid0.N, _)

/-- The weight's gradient, as the reference computes it. -/
abbrev whole (c : Dev nD) := Cert.DwGateRefIdeal.Read.val_main_v8 (F := Ideal)
  (m ((c : Thread nD τ).loc main_arg0)) (m ((c : Thread nD τ).loc main_arg1))

/-- What a grid point leaves in its block is the reference's array at that block. -/
theorem point (c : Dev nD) (t : Fin cfg0.N) (y : S1x1024x1408.Idx) :
    k0_pay1 (F := Ideal) (iblk m c 0 t) (iblk m c 1 t) y = whole m c (((cfg0.win 2).blk t).view.emb y) := by
  open Cert.DwGateRefIdeal.Read in
  pointwise [k0_pay1, whole,
    val_main_cst, val_main_v0, val_main_v1, val_main_v2, val_main_v3, val_main_v4, val_main_v5, val_main_v6, val_main_v7,
    val_main_v8]
  refine Finset.sum_congr rfl fun r _ => (mul_comm _ _).trans ?_
  blk_point [iblk, V, idx t]

/-- The result array after the run. -/
theorem final (c : Dev nD) : (dats m 0 c).arrAt 2 (cfgs 0).N = whole m c := by
  refine (dats m 0 c).arrAt_eq_of_covers 2 _ (by decide +kernel) fun t _ y => ?_
  blk_simp
  rw [after0_2]; frame_out
  exact point m c t y

end Cert.Proof.DwGateValue
-- ==== Proof.DwGateClaims.lean ====
module

public import proofs.«01_k».proof.Defs
public import proofs.«01_k».proof.Proof.Gen.DwGate.Frame
public import proofs.«01_k».proof.Proof.DwGateValue
public import Idealize.ShloMosaic.Lib.Claim
public import Idealize.ShloMosaic.Lib.Quiescent

/-! # The claims about the gradient of the gate and up projections' weights -/

@[expose] public section

set_option maxRecDepth 16384

noncomputable section

namespace Cert.Proof.DwGateClaims

open Idealize.ShloMosaic Idealize.SL.Sem

/-- The printed kernel runs to the end, leaves its arguments alone and its counters at zero. -/
theorem frame : Cert.quiescent_DwGate := fun m ρ _ => Cert.DwGate.Gen.frame m ρ

/-- So does its ideal reading. -/
theorem frameIdeal : Cert.quiescent_DwGateIdeal := fun m ρ _ => Cert.DwGateIdeal.Gen.frame m ρ

/-- So does the reference. -/
theorem frameRef : Cert.quiescent_DwGateRefIdeal := fun m ρ _ =>
  (θ_run Cert.DwGateRefIdeal.defs _ _).mono
    (fun r h => ⟨fun c => (h c).2, Idealize.ShloMosaic.sem_eq_zero_of_no_sems (by decide) r.2⟩)
    (Cert.DwGateRefIdeal.Value.run (F := Idealize.ShloMosaic.Ideal) m ρ)

/-- The array the kernel writes is the reference's, at the ideal reading, on all arguments. -/
theorem algebraic : Cert.algebraic_DwGateIdeal_DwGateRefIdeal := by
  pair_intro
  · run_from Cert.DwGateIdeal.Gen.run_main m g
  · refine (θ_run Cert.DwGateRefIdeal.defs _ _).mono (fun r h c => ?_) (Cert.DwGateRefIdeal.Value.run m' g')
    obtain ⟨e0, e1⟩ := hagree c
    refine ⟨(h c).1.trans ?_, (h c).2⟩
    · refine (Cert.DwGateRefIdeal.Read.val_main_v8_eq ..).trans (Eq.trans ?_ (Cert.Proof.DwGateValue.final m c).symm)
      rw [e0, e1]

end Cert.Proof.DwGateClaims
-- ==== Proof.Du2Value.lean ====
module

public import proofs.«01_k».proof.Proof.Gen.Du2Ideal.Value
public import proofs.«01_k».proof.Proof.Gen.Du2RefIdeal.Run
public import proofs.«01_k».proof.Proof.Gen.Du2RefIdeal.Read
public import Idealize.ShloMosaic.Lib.Pipeline.ValueKit
public import Idealize.ShloMosaic.Lib.Pipeline.ReadBack

/-! # The gradient of the SwiGLU block's input: two products, added, accumulated over the four chips' slabs -/

@[expose] public section

set_option maxRecDepth 16384

noncomputable section

namespace Cert.Proof.Du2Value

open Idealize.ShloMosaic Idealize.ShloMosaic.TcCoe Idealize.SL.Sem
open Cert.Du2Ideal Cert.Du2Ideal.Gen

variable (m : (ℓ : Loc nD τ sig) → Buf (Elt Ideal) ℓ)

/-- Every window's block at grid point `t`. -/
theorem idx : ∀ t : Fin cfg0.N,
    win0_0.index t = ![t.val / 4 % 2, t.val % 4] ∧ win0_1.index t = ![t.val % 4, t.val / 8, 0]
      ∧ win0_2.index t = ![t.val / 4 % 2, t.val % 4] ∧ win0_3.index t = ![t.val % 4, t.val / 8, 0]
      ∧ win0_4.index t = ![t.val / 4 % 2, t.val / 8] :=
  (by decide +kernel : ∀ t : Fin grid0.N, _)

/-- The gradient, as the reference computes it. -/
abbrev whole (c : Dev nD) := Cert.Du2RefIdeal.Read.val_main_v13 (F := Ideal)
  (m ((c : Thread nD τ).loc main_arg0)) (m ((c : Thread nD τ).loc main_arg1))
  (m ((c : Thread nD τ).loc main_arg2)) (m ((c : Thread nD τ).loc main_arg3))

/-- A product of two blocks, before it is added to what the points before left. -/
theorem share (a : FVec Ideal S1024x1408 .bf16) (b : FVec Ideal S1x1024x1408 .bf16)
    (a' : FVec Ideal S1024x1408 .bf16) (b' : FVec Ideal S1x1024x1408 .bf16) (y : S1024x1024.Idx) :
    k0_pay2 (F := Ideal) a b a' b' y = ∑ r : Fin 1408, (a (ix2 (y 0) r) * b (ix3 0 (y 1) r)
      + a' (ix2 (y 0) r) * b' (ix3 0 (y 1) r)) := by
  pointwise [k0_pay2, k0_pay1, Finset.sum_add_distrib]

/-- The accumulating store adds the product to what the points before left. -/
theorem step (a : FVec Ideal S1024x1408 .bf16) (b : FVec Ideal S1x1024x1408 .bf16)
    (a' : FVec Ideal S1024x1408 .bf16) (b' : FVec Ideal S1x1024x1408 .bf16) (acc : FVec Ideal S1024x1024 .f32) (y : S1024x1024.Idx) :
    k0_pay3 (F := Ideal) a b a' b' acc y = acc y + k0_pay2 (F := Ideal) a b a' b' y := by
  pointwise [k0_pay3, k0_pay2]

/-- At the last point of a run of 4 the output block holds what the accumulator holds. -/
theorem last (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]; frame_out

/-- The result array after the run: each block is the reference's sum over all columns, in 4 runs. -/
theorem final (c : Dev nD) : (dats m 0 c).arrAt 4 (cfgs 0).N = whole m c := by
  refine (dats m 0 c).arrAt_eq_of_covers 4 _ (by decide +kernel) fun t hf y => ?_
  blk_simp
  rw [after0_4, last m c t ((flush0_4 t).mp hf),
    Pipeline.eq_sum_fin_of_reset_step_apply_of_flush (fun n h => (outsAt0 m c n h).2) 4 (fun _ => 0) _
      (fun t h j => by rw [outsAt0_A m c t h (by omega) (by omega)]; frame_out; rw [zero_add, share])
      (fun t h j => by
        by_cases h2 : t.val % 4 = 3
        · rw [outsAt0_C m c t h (by omega) h2]; frame_out; rw [read_unread_whole, step, share]
        · rw [outsAt0_B m c t h (by omega) h2]; frame_out; rw [read_unread_whole, step, share])
      t ((flush0_4 t).mp hf) _, zero_add]
  open Cert.Du2RefIdeal.Read in
  pointwise [whole,
    val_main_cst, val_main_v0, val_main_v1, val_main_v2, val_main_v3, val_main_v4, val_main_v5, val_main_v6, val_main_v7,
    val_main_v8, val_main_v9, val_main_v10, val_main_v11, val_main_v12, val_main_v13]
  rw [add_comm, ← Finset.sum_add_distrib]
  refine Fin.sum_mul_add_congr fun s r hl => ?_
  blk_point [iblk, V, idx t, idx ⟨_, Pipeline.run_point_lt_of_flush t ((flush0_4 t).mp hf) s⟩]

end Cert.Proof.Du2Value
-- ==== Proof.Du2Claims.lean ====
module

public import proofs.«01_k».proof.Defs
public import proofs.«01_k».proof.Proof.Gen.Du2.Frame
public import proofs.«01_k».proof.Proof.Du2Value
public import Idealize.ShloMosaic.Lib.Claim
public import Idealize.ShloMosaic.Lib.Quiescent

/-! # The claims about the gradient of the SwiGLU block's input -/

@[expose] public section

set_option maxRecDepth 16384

noncomputable section

namespace Cert.Proof.Du2Claims

open Idealize.ShloMosaic Idealize.SL.Sem

/-- The printed kernel runs to the end, leaves its arguments alone and its counters at zero. -/
theorem frame : Cert.quiescent_Du2 := fun m ρ _ => Cert.Du2.Gen.frame m ρ

/-- So does its ideal reading. -/
theorem frameIdeal : Cert.quiescent_Du2Ideal := fun m ρ _ => Cert.Du2Ideal.Gen.frame m ρ

/-- So does the reference. -/
theorem frameRef : Cert.quiescent_Du2RefIdeal := fun m ρ _ =>
  (θ_run Cert.Du2RefIdeal.defs _ _).mono
    (fun r h => ⟨fun c => (h c).2, Idealize.ShloMosaic.sem_eq_zero_of_no_sems (by decide) r.2⟩)
    (Cert.Du2RefIdeal.Value.run (F := Idealize.ShloMosaic.Ideal) m ρ)

/-- The array the kernel writes is the reference's, at the ideal reading, on all arguments. -/
theorem algebraic : Cert.algebraic_Du2Ideal_Du2RefIdeal := by
  pair_intro
  · run_from Cert.Du2Ideal.Gen.run_main m g
  · refine (θ_run Cert.Du2RefIdeal.defs _ _).mono (fun r h c => ?_) (Cert.Du2RefIdeal.Value.run m' g')
    obtain ⟨e0, e1, e2, e3⟩ := hagree c
    refine ⟨(h c).1.trans ?_, (h c).2⟩
    · refine (Cert.Du2RefIdeal.Read.val_main_v13_eq ..).trans (Eq.trans ?_ (Cert.Proof.Du2Value.final m c).symm)
      rw [e0, e1, e2, e3]

end Cert.Proof.Du2Claims
-- ==== Proof.DwOutValue.lean ====
module

public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Pipeline.ValueKit

/-! # The gradient of the output projection's weight: one product per chip's slab and column half -/

@[expose] public section

set_option maxRecDepth 16384

noncomputable section

namespace Cert.Proof.DwOutValue

open Idealize.ShloMosaic Idealize.ShloMosaic.TcCoe Idealize.SL.Sem
open Cert.DwOutIdeal Cert.DwOutIdeal.Gen

variable (m : (ℓ : Loc nD τ sig) → Buf (Elt Ideal) ℓ)

/-- Every window's block at grid point `t`. -/
theorem idx : ∀ t : Fin cfg0.N,
    win0_0.index t = ![0, t.val / 2] ∧ win0_1.index t = ![0, t.val % 2] ∧ win0_2.index t = ![t.val / 2, 0, t.val % 2] :=
  (by decide +kernel : ∀ t : Fin grid0.N, _)

/-- The weight's gradient, as the reference computes it. -/
abbrev whole (c : Dev nD) := Cert.DwOutRefIdeal.Read.val_main_v7 (F := Ideal)
  (m ((c : Thread nD τ).loc main_arg0)) (m ((c : Thread nD τ).loc main_arg1))

/-- What a grid point leaves in its block is the reference's array at that block. -/
theorem point (c : Dev nD) (t : Fin cfg0.N) (y : S1x512x1024.Idx) :
    k0_pay1 (F := Ideal) (iblk m c 0 t) (iblk m c 1 t) y = whole m c (((cfg0.win 2).blk t).view.emb y) := by
  open Cert.DwOutRefIdeal.Read in
  pointwise [k0_pay1, whole,
    val_main_cst, val_main_v0, val_main_v1, val_main_v2, val_main_v3, val_main_v4, val_main_v5, val_main_v6, val_main_v7]
  refine Finset.sum_congr rfl fun r _ => (mul_comm _ _).trans ?_
  blk_point [iblk, V, idx t]

/-- The result array after the run. -/
theorem final (c : Dev nD) : (dats m 0 c).arrAt 2 (cfgs 0).N = whole m c := by
  refine (dats m 0 c).arrAt_eq_of_covers 2 _ (by decide +kernel) fun t _ y => ?_
  blk_simp
  rw [after0_2]; frame_out
  exact point m c t y

end Cert.Proof.DwOutValue
-- ==== Proof.DwOutClaims.lean ====
module

public import proofs.«01_k».proof.Defs
public import proofs.«01_k».proof.Proof.Gen.DwOut.Frame
public import proofs.«01_k».proof.Proof.DwOutValue
public import Idealize.ShloMosaic.Lib.Claim
public import Idealize.ShloMosaic.Lib.Quiescent

/-! # The claims about the gradient of the output projection's weight -/

@[expose] public section

set_option maxRecDepth 16384

noncomputable section

namespace Cert.Proof.DwOutClaims

open Idealize.ShloMosaic Idealize.SL.Sem

/-- The printed kernel runs to the end, leaves its arguments alone and its counters at zero. -/
theorem frame : Cert.quiescent_DwOut := fun m ρ _ => Cert.DwOut.Gen.frame m ρ

/-- So does its ideal reading. -/
theorem frameIdeal : Cert.quiescent_DwOutIdeal := fun m ρ _ => Cert.DwOutIdeal.Gen.frame m ρ

/-- So does the reference. -/
theorem frameRef : Cert.quiescent_DwOutRefIdeal := fun m ρ _ =>
  (θ_run Cert.DwOutRefIdeal.defs _ _).mono
    (fun r h => ⟨fun c => (h c).2, Idealize.ShloMosaic.sem_eq_zero_of_no_sems (by decide) r.2⟩)
    (Cert.DwOutRefIdeal.Value.run (F := Idealize.ShloMosaic.Ideal) m ρ)

/-- The array the kernel writes is the reference's, at the ideal reading, on all arguments. -/
theorem algebraic : Cert.algebraic_DwOutIdeal_DwOutRefIdeal := by
  pair_intro
  · run_from Cert.DwOutIdeal.Gen.run_main m g
  · refine (θ_run Cert.DwOutRefIdeal.defs _ _).mono (fun r h c => ?_) (Cert.DwOutRefIdeal.Value.run m' g')
    obtain ⟨e0, e1⟩ := hagree c
    refine ⟨(h c).1.trans ?_, (h c).2⟩
    · refine (Cert.DwOutRefIdeal.Read.val_main_v7_eq ..).trans (Eq.trans ?_ (Cert.Proof.DwOutValue.final m c).symm)
      rw [e0, e1]

end Cert.Proof.DwOutClaims
-- ==== Proof.DyValue.lean ====
module

public import proofs.«01_k».proof.Proof.Gen.DyIdeal.Value
public import proofs.«01_k».proof.Proof.Gen.DyRefIdeal.Run
public import proofs.«01_k».proof.Proof.Gen.DyRefIdeal.Read
public import Idealize.ShloMosaic.Lib.Pipeline.ValueKit
public import Idealize.ShloMosaic.Lib.Claim

/-! # The gradient of the mixers' joint output: one product per column half and row half -/

@[expose] public section

set_option maxRecDepth 16384

noncomputable section

namespace Cert.Proof.DyValue

open Idealize.ShloMosaic Idealize.ShloMosaic.TcCoe Idealize.SL.Sem
open Cert.DyIdeal Cert.DyIdeal.Gen

variable (m : (ℓ : Loc nD τ sig) → Buf (Elt Ideal) ℓ)

/-- Every window's block at grid point `t`. -/
theorem idx : ∀ t : Fin cfg0.N,
    win0_0.index t = ![t.val % 2, 0] ∧ win0_1.index t = ![t.val / 2, 0] ∧ win0_2.index t = ![t.val % 2, t.val / 2] :=
  (by decide +kernel : ∀ t : Fin grid0.N, _)

/-- The gradient, as the reference computes it. -/
abbrev whole (c : Dev nD) := Cert.DyRefIdeal.Read.val_main_v5 (F := Ideal)
  (m ((c : Thread nD τ).loc main_arg0)) (m ((c : Thread nD τ).loc main_arg1))

/-- The reshaped weight, as the host leaves it for the kernel. -/
theorem V_v0 (c : Dev nD) : V m c main_v0 = shapeCast S2048x2048 (m ((c : Thread nD τ).loc main_arg1)) shapeCasts_S4x512x2048_S2048x2048 := by
  unfold V; after_results; try rfl

/-- A row of the reshaped weight is a row of one chip's slab. -/
theorem flat (x : FVec Ideal S4x512x2048 .bf16) (i : S2048x2048.Idx) : shapeCast S2048x2048 x shapeCasts_S4x512x2048_S2048x2048 i
    = x (ix3 ⟨(i 0).val / 512, by have : (i 0).val < 2048 := (i 0).isLt; omega⟩ ⟨(i 0).val % 512, by omega⟩ (i 1)) := by
  pointwise

/-- So is a row of what the kernel reads. -/
theorem V_at (c : Dev nD) (i : S2048x2048.Idx) : V m c main_v0 i
    = m ((c : Thread nD τ).loc main_arg1) (ix3 ⟨(i 0).val / 512, by have : (i 0).val < 2048 := (i 0).isLt; omega⟩ ⟨(i 0).val % 512, by omega⟩ (i 1)) :=
  (congrFun (V_v0 m c) i).trans (flat _ i)

/-- The block of it at a grid point. -/
theorem read1 (c : Dev nD) (t : Fin cfg0.N) (y : Fin 1024) (r : Fin 2048) (h0 : t.val / 2 * 1024 + y.val < 2048) :
    iblk m c 1 t (ix2 y r) = V m c main_v0 (ix2 ⟨t.val / 2 * 1024 + y.val, h0⟩ r) := by
  blk_ext [iblk, idx t]

/-- What a grid point leaves in its block is the reference's array at that block. -/
theorem point (c : Dev nD) (t : Fin cfg0.N) (y : S1024x1024.Idx) :
    k0_pay1 (F := Ideal) (iblk m c 0 t) (iblk m c 1 t) y = whole m c (((cfg0.win 2).blk t).view.emb y) := by
  have ht : t.val < 4 := lt_of_lt_of_eq t.isLt N_0
  have y0 : (y 0).val < 1024 := (y 0).isLt
  have y1 : (y 1).val < 1024 := (y 1).isLt
  have e : ((cfg0.win 2).blk t).view.emb y
      = ix2 ⟨t.val % 2 * 1024 + (y 0).val, by omega⟩ ⟨t.val / 2 * 1024 + (y 1).val, by omega⟩ := by
    blk_ext [idx t]
  refine Eq.trans ?_ (congrArg (whole m c) e).symm
  open Cert.DyRefIdeal.Read in
  pointwise [k0_pay1, whole,
    val_main_cst, val_main_v0, val_main_v1, val_main_v2, val_main_v3, val_main_v4, val_main_v5]
  refine Finset.sum_congr rfl fun r _ => ?_
  rw [read1 m c t (y 1) r (by omega), V_at]
  blk_point [iblk, V, idx t]

/-- The result array after the run. -/
theorem final (c : Dev nD) : (dats m 0 c).arrAt 2 (cfgs 0).N = whole m c := by
  refine (dats m 0 c).arrAt_eq_of_covers 2 _ (by decide +kernel) fun t _ y => ?_
  blk_simp
  rw [after0_2]; frame_out
  exact point m c t y

end Cert.Proof.DyValue
-- ==== Proof.DyClaims.lean ====
module

public import proofs.«01_k».proof.Defs
public import proofs.«01_k».proof.Proof.Gen.Dy.Frame
public import proofs.«01_k».proof.Proof.DyValue
public import Idealize.ShloMosaic.Lib.Claim
public import Idealize.ShloMosaic.Lib.Quiescent

/-! # The claims about the gradient of the mixers' joint output -/

@[expose] public section

set_option maxRecDepth 16384

noncomputable section

namespace Cert.Proof.DyClaims

open Idealize.ShloMosaic Idealize.SL.Sem

/-- The printed kernel runs to the end, leaves its arguments alone and its counters at zero. -/
theorem frame : Cert.quiescent_Dy := fun m ρ _ => Cert.Dy.Gen.frame m ρ

/-- So does its ideal reading. -/
theorem frameIdeal : Cert.quiescent_DyIdeal := fun m ρ _ => Cert.DyIdeal.Gen.frame m ρ

/-- So does the reference. -/
theorem frameRef : Cert.quiescent_DyRefIdeal := fun m ρ _ =>
  (θ_run Cert.DyRefIdeal.defs _ _).mono
    (fun r h => ⟨fun c => (h c).2, Idealize.ShloMosaic.sem_eq_zero_of_no_sems (by decide) r.2⟩)
    (Cert.DyRefIdeal.Value.run (F := Idealize.ShloMosaic.Ideal) m ρ)

/-- The array the kernel writes is the reference's, at the ideal reading, on all arguments. -/
theorem algebraic : Cert.algebraic_DyIdeal_DyRefIdeal := by
  pair_intro
  · run_from Cert.DyIdeal.Gen.run_main m g
  · refine (θ_run Cert.DyRefIdeal.defs _ _).mono (fun r h c => ?_) (Cert.DyRefIdeal.Value.run m' g')
    obtain ⟨e0, e1⟩ := hagree c
    refine ⟨(h c).1.trans ?_, (h c).2⟩
    · refine (Cert.DyRefIdeal.Read.val_main_v5_eq ..).trans (Eq.trans ?_ (Cert.Proof.DyValue.final m c).symm)
      rw [e0, e1]

end Cert.Proof.DyClaims
-- ==== Proof.DwInValue.lean ====
module

public import proofs.«01_k».proof.Proof.Gen.DwInIdeal.Value
public import proofs.«01_k».proof.Proof.Gen.DwInRefIdeal.Run
public import proofs.«01_k».proof.Proof.Gen.DwInRefIdeal.Read
public import Idealize.ShloMosaic.Lib.Pipeline.ValueKit

/-! # The gradient of the input projection's weight: one product per row half and fifth of the columns -/

@[expose] public section

set_option maxRecDepth 16384

noncomputable section

namespace Cert.Proof.DwInValue

open Idealize.ShloMosaic Idealize.ShloMosaic.TcCoe Idealize.SL.Sem
open Cert.DwInIdeal Cert.DwInIdeal.Gen

variable (m : (ℓ : Loc nD τ sig) → Buf (Elt Ideal) ℓ)

/-- Every window's block at grid point `t`. -/
theorem idx : ∀ t : Fin cfg0.N,
    win0_0.index t = ![0, t.val / 5] ∧ win0_1.index t = ![0, t.val % 5] ∧ win0_2.index t = ![t.val / 5, t.val % 5] :=
  (by decide +kernel : ∀ t : Fin grid0.N, _)

/-- The weight's gradient, as the reference computes it. -/
abbrev whole (c : Dev nD) := Cert.DwInRefIdeal.Read.val_main_v6 (F := Ideal)
  (m ((c : Thread nD τ).loc main_arg0)) (m ((c : Thread nD τ).loc main_arg1))

/-- What a grid point leaves in its block is the reference's array at that block. -/
theorem point (c : Dev nD) (t : Fin cfg0.N) (y : S1024x1152.Idx) :
    k0_pay1 (F := Ideal) (iblk m c 0 t) (iblk m c 1 t) y = whole m c (((cfg0.win 2).blk t).view.emb y) := by
  open Cert.DwInRefIdeal.Read in
  pointwise [k0_pay1, whole,
    val_main_cst, val_main_v0, val_main_v1, val_main_v2, val_main_v3, val_main_v4, val_main_v5, val_main_v6]
  refine Finset.sum_congr rfl fun r _ => (mul_comm _ _).trans ?_
  blk_point [iblk, V, idx t]

/-- The result array after the run. -/
theorem final (c : Dev nD) : (dats m 0 c).arrAt 2 (cfgs 0).N = whole m c := by
  refine (dats m 0 c).arrAt_eq_of_covers 2 _ (by decide +kernel) fun t _ y => ?_
  blk_simp
  rw [after0_2]; frame_out
  exact point m c t y

end Cert.Proof.DwInValue
-- ==== Proof.DwInClaims.lean ====
module

public import proofs.«01_k».proof.Defs
public import proofs.«01_k».proof.Proof.Gen.DwIn.Frame
public import proofs.«01_k».proof.Proof.DwInValue
public import Idealize.ShloMosaic.Lib.Claim
public import Idealize.ShloMosaic.Lib.Quiescent

/-! # The claims about the gradient of the input projection's weight -/

@[expose] public section

set_option maxRecDepth 16384

noncomputable section

namespace Cert.Proof.DwInClaims

open Idealize.ShloMosaic Idealize.SL.Sem

/-- The printed kernel runs to the end, leaves its arguments alone and its counters at zero. -/
theorem frame : Cert.quiescent_DwIn := fun m ρ _ => Cert.DwIn.Gen.frame m ρ

/-- So does its ideal reading. -/
theorem frameIdeal : Cert.quiescent_DwInIdeal := fun m ρ _ => Cert.DwInIdeal.Gen.frame m ρ

/-- So does the reference. -/
theorem frameRef : Cert.quiescent_DwInRefIdeal := fun m ρ _ =>
  (θ_run Cert.DwInRefIdeal.defs _ _).mono
    (fun r h => ⟨fun c => (h c).2, Idealize.ShloMosaic.sem_eq_zero_of_no_sems (by decide) r.2⟩)
    (Cert.DwInRefIdeal.Value.run (F := Idealize.ShloMosaic.Ideal) m ρ)

/-- The array the kernel writes is the reference's, at the ideal reading, on all arguments. -/
theorem algebraic : Cert.algebraic_DwInIdeal_DwInRefIdeal := by
  pair_intro
  · run_from Cert.DwInIdeal.Gen.run_main m g
  · refine (θ_run Cert.DwInRefIdeal.defs _ _).mono (fun r h c => ?_) (Cert.DwInRefIdeal.Value.run m' g')
    obtain ⟨e0, e1⟩ := hagree c
    refine ⟨(h c).1.trans ?_, (h c).2⟩
    · refine (Cert.DwInRefIdeal.Read.val_main_v6_eq ..).trans (Eq.trans ?_ (Cert.Proof.DwInValue.final m c).symm)
      rw [e0, e1]

end Cert.Proof.DwInClaims
-- ==== Proof.DuValue.lean ====
module

public import proofs.«01_k».proof.Proof.Gen.DuIdeal.Value
public import proofs.«01_k».proof.Proof.Gen.DuRefIdeal.Run
public import proofs.«01_k».proof.Proof.Gen.DuRefIdeal.Read
public import Idealize.ShloMosaic.Lib.Pipeline.ValueKit
public import Idealize.ShloMosaic.Lib.Pipeline.ReadBack

/-! # The gradient of the trunk's normalised input: a product accumulated over three runs of columns -/

@[expose] public section

set_option maxRecDepth 16384

noncomputable section

namespace Cert.Proof.DuValue

open Idealize.ShloMosaic Idealize.ShloMosaic.TcCoe Idealize.SL.Sem
open Cert.DuIdeal Cert.DuIdeal.Gen

variable (m : (ℓ : Loc nD τ sig) → Buf (Elt Ideal) ℓ)

/-- Every window's block at grid point `t`. -/
theorem idx : ∀ t : Fin cfg0.N,
    win0_0.index t = ![t.val / 3 % 2, t.val % 3] ∧ win0_1.index t = ![t.val / 6, t.val % 3]
      ∧ win0_2.index t = ![t.val / 3 % 2, t.val / 6] :=
  (by decide +kernel : ∀ t : Fin grid0.N, _)

/-- The gradient, as the reference computes it. -/
abbrev whole (c : Dev nD) := Cert.DuRefIdeal.Read.val_main_v4 (F := Ideal)
  (m ((c : Thread nD τ).loc main_arg0)) (m ((c : Thread nD τ).loc main_arg1))

/-- A product of two blocks, before it is added to what the points before left. -/
theorem share (a b : FVec Ideal S1024x1920 .bf16) (y : S1024x1024.Idx) :
    k0_pay2 (F := Ideal) a b y = ∑ r : Fin 1920, a (ix2 (y 0) r) * b (ix2 (y 1) r) := by
  pointwise [k0_pay2, k0_pay1]

/-- The accumulating store adds the product to what the points before left. -/
theorem step (a b : FVec Ideal S1024x1920 .bf16) (acc : FVec Ideal S1024x1024 .f32) (y : S1024x1024.Idx) :
    k0_pay3 (F := Ideal) a b acc y = acc y + k0_pay2 (F := Ideal) a b y := by
  pointwise [k0_pay3, k0_pay2]

/-- At the last point of a run of 3 the output block holds what the accumulator holds. -/
theorem last (c : Dev nD) (t : Fin cfg0.N) (h : t.val % 3 = 2) (y : S1024x1024.Idx) :
    (outsAt0 m c t.val t.isLt).1 y = (outsAt0 m c t.val t.isLt).2 y := by
  rw [outsAt0_C m c t (by omega) (by omega) h]; frame_out

/-- The result array after the run: each block is the reference's sum over all columns, in 3 runs. -/
theorem final (c : Dev nD) : (dats m 0 c).arrAt 2 (cfgs 0).N = whole m c := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 3 (fun _ => 0) _
      (fun t h j => by rw [outsAt0_A m c t h (by omega) (by omega)]; frame_out; rw [zero_add, share])
      (fun t h j => by
        by_cases h2 : t.val % 3 = 2
        · rw [outsAt0_C m c t h (by omega) h2]; frame_out; rw [read_unread_whole, step, share]
        · rw [outsAt0_B m c t h (by omega) h2]; frame_out; rw [read_unread_whole, step, share])
      t ((flush0_2 t).mp hf) _, zero_add]
  open Cert.DuRefIdeal.Read in
  pointwise [whole,
    val_main_cst, val_main_v0, val_main_v1, val_main_v2, val_main_v3, val_main_v4]
  refine Fin.sum_mul_add_congr fun s r hl => ?_
  blk_point [iblk, V, idx t, idx ⟨_, Pipeline.run_point_lt_of_flush t ((flush0_2 t).mp hf) s⟩]

end Cert.Proof.DuValue
-- ==== Proof.DuClaims.lean ====
module

public import proofs.«01_k».proof.Defs
public import proofs.«01_k».proof.Proof.Gen.Du.Frame
public import proofs.«01_k».proof.Proof.DuValue
public import Idealize.ShloMosaic.Lib.Claim
public import Idealize.ShloMosaic.Lib.Quiescent

/-! # The claims about the gradient of the trunk's normalised input -/

@[expose] public section

set_option maxRecDepth 16384

noncomputable section

namespace Cert.Proof.DuClaims

open Idealize.ShloMosaic Idealize.SL.Sem

/-- The printed kernel runs to the end, leaves its arguments alone and its counters at zero. -/
theorem frame : Cert.quiescent_Du := fun m ρ _ => Cert.Du.Gen.frame m ρ

/-- So does its ideal reading. -/
theorem frameIdeal : Cert.quiescent_DuIdeal := fun m ρ _ => Cert.DuIdeal.Gen.frame m ρ

/-- So does the reference. -/
theorem frameRef : Cert.quiescent_DuRefIdeal := fun m ρ _ =>
  (θ_run Cert.DuRefIdeal.defs _ _).mono
    (fun r h => ⟨fun c => (h c).2, Idealize.ShloMosaic.sem_eq_zero_of_no_sems (by decide) r.2⟩)
    (Cert.DuRefIdeal.Value.run (F := Idealize.ShloMosaic.Ideal) m ρ)

/-- The array the kernel writes is the reference's, at the ideal reading, on all arguments. -/
theorem algebraic : Cert.algebraic_DuIdeal_DuRefIdeal := by
  pair_intro
  · run_from Cert.DuIdeal.Gen.run_main m g
  · refine (θ_run Cert.DuRefIdeal.defs _ _).mono (fun r h c => ?_) (Cert.DuRefIdeal.Value.run m' g')
    obtain ⟨e0, e1⟩ := hagree c
    refine ⟨(h c).1.trans ?_, (h c).2⟩
    · refine (Cert.DuRefIdeal.Read.val_main_v4_eq ..).trans (Eq.trans ?_ (Cert.Proof.DuValue.final m c).symm)
      rw [e0, e1]

end Cert.Proof.DuClaims
-- ==== Proof.ZinValue.lean ====
module

public import proofs.«01_k».proof.Proof.Gen.ZinIdeal.Value
public import proofs.«01_k».proof.Proof.Gen.ZinRefIdeal.Run
public import proofs.«01_k».proof.Proof.Gen.ZinRefIdeal.Read
public import Idealize.ShloMosaic.Lib.Pipeline.ValueKit

/-! # The mixers' joint input: one product per fifth of the columns and row half -/

@[expose] public section

set_option maxRecDepth 16384

noncomputable section

namespace Cert.Proof.ZinValue

open Idealize.ShloMosaic Idealize.ShloMosaic.TcCoe Idealize.SL.Sem
open Cert.ZinIdeal Cert.ZinIdeal.Gen

variable (m : (ℓ : Loc nD τ sig) → Buf (Elt Ideal) ℓ)

/-- Every window's block at grid point `t`. -/
theorem idx : ∀ t : Fin cfg0.N,
    win0_0.index t = ![t.val % 2, 0] ∧ win0_1.index t = ![0, t.val / 2] ∧ win0_2.index t = ![t.val % 2, t.val / 2] :=
  (by decide +kernel : ∀ t : Fin grid0.N, _)

/-- The product, as the reference computes it. -/
abbrev whole (c : Dev nD) := Cert.ZinRefIdeal.Read.val_main_v2 (F := Ideal)
  (m ((c : Thread nD τ).loc main_arg0)) (m ((c : Thread nD τ).loc main_arg1))

/-- What a grid point leaves in its block is the reference's array at that block. -/
theorem point (c : Dev nD) (t : Fin cfg0.N) (y : S1024x1152.Idx) :
    k0_pay1 (F := Ideal) (iblk m c 0 t) (iblk m c 1 t) y = whole m c (((cfg0.win 2).blk t).view.emb y) := by
  open Cert.ZinRefIdeal.Read in
  pointwise [k0_pay1, whole,
    val_main_v0, val_main_v1, val_main_v2]
  refine Finset.sum_congr rfl fun r _ => ?_
  blk_point [iblk, V, idx t]

/-- The result array after the run. -/
theorem final (c : Dev nD) : (dats m 0 c).arrAt 2 (cfgs 0).N = whole m c := by
  refine (dats m 0 c).arrAt_eq_of_covers 2 _ (by decide +kernel) fun t _ y => ?_
  blk_simp
  rw [after0_2]; frame_out
  exact point m c t y

end Cert.Proof.ZinValue
-- ==== Proof.ZinClaims.lean ====
module

public import proofs.«01_k».proof.Defs
public import proofs.«01_k».proof.Proof.Gen.Zin.Frame
public import proofs.«01_k».proof.Proof.ZinValue
public import Idealize.ShloMosaic.Lib.Claim
public import Idealize.ShloMosaic.Lib.Quiescent

/-! # The claims about the mixers' joint input -/

@[expose] public section

set_option maxRecDepth 16384

noncomputable section

namespace Cert.Proof.ZinClaims

open Idealize.ShloMosaic Idealize.SL.Sem

/-- The printed kernel runs to the end, leaves its arguments alone and its counters at zero. -/
theorem frame : Cert.quiescent_Zin := fun m ρ _ => Cert.Zin.Gen.frame m ρ

/-- So does its ideal reading. -/
theorem frameIdeal : Cert.quiescent_ZinIdeal := fun m ρ _ => Cert.ZinIdeal.Gen.frame m ρ

/-- So does the reference. -/
theorem frameRef : Cert.quiescent_ZinRefIdeal := fun m ρ _ =>
  (θ_run Cert.ZinRefIdeal.defs _ _).mono
    (fun r h => ⟨fun c => (h c).2, Idealize.ShloMosaic.sem_eq_zero_of_no_sems (by decide) r.2⟩)
    (Cert.ZinRefIdeal.Value.run (F := Idealize.ShloMosaic.Ideal) m ρ)

/-- The array the kernel writes is the reference's, at the ideal reading, on all arguments. -/
theorem algebraic : Cert.algebraic_ZinIdeal_ZinRefIdeal := by
  pair_intro
  · run_from Cert.ZinIdeal.Gen.run_main m g
  · refine (θ_run Cert.ZinRefIdeal.defs _ _).mono (fun r h c => ?_) (Cert.ZinRefIdeal.Value.run m' g')
    obtain ⟨e0, e1⟩ := hagree c
    refine ⟨(h c).1.trans ?_, (h c).2⟩
    · refine (Cert.ZinRefIdeal.Read.val_main_v2_eq ..).trans (Eq.trans ?_ (Cert.Proof.ZinValue.final m c).symm)
      rw [e0, e1]

end Cert.Proof.ZinClaims
-- ==== Proof.OutValue.lean ====
module

public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Claim

/-! # The mixers' output: one product per column half and row half, added to the trunk -/

@[expose] public section

set_option maxRecDepth 16384

noncomputable section

namespace Cert.Proof.OutValue

open Idealize.ShloMosaic Idealize.ShloMosaic.TcCoe Idealize.SL.Sem
open Cert.OutIdeal Cert.OutIdeal.Gen

variable (m : (ℓ : Loc nD τ sig) → Buf (Elt Ideal) ℓ)

/-- Every window's block at grid point `t`. -/
theorem idx : ∀ t : Fin cfg0.N,
    win0_0.index t = ![t.val % 2, 0] ∧ win0_1.index t = ![0, t.val / 2] ∧ win0_2.index t = ![t.val % 2, t.val / 2]
      ∧ win0_3.index t = ![t.val % 2, t.val / 2] :=
  (by decide +kernel : ∀ t : Fin grid0.N, _)

/-- The trunk after the mixers, as the reference computes it. -/
abbrev whole (c : Dev nD) := Cert.OutRefIdeal.Read.val_main_v4 (F := Ideal)
  (m ((c : Thread nD τ).loc main_arg0)) (m ((c : Thread nD τ).loc main_arg1))
  (m ((c : Thread nD τ).loc main_arg2))

/-- The reshaped weight, as the host leaves it for the kernel. -/
theorem V_v0 (c : Dev nD) : V m c main_v0 = shapeCast S2048x2048 (m ((c : Thread nD τ).loc main_arg1)) shapeCasts_S4x512x2048_S2048x2048 := by
  unfold V; after_results; try rfl

/-- A row of the reshaped weight is a row of one chip's slab. -/
theorem flat (x : FVec Ideal S4x512x2048 .bf16) (i : S2048x2048.Idx) : shapeCast S2048x2048 x shapeCasts_S4x512x2048_S2048x2048 i
    = x (ix3 ⟨(i 0).val / 512, by have : (i 0).val < 2048 := (i 0).isLt; omega⟩ ⟨(i 0).val % 512, by omega⟩ (i 1)) := by
  pointwise

/-- So is a row of what the kernel reads. -/
theorem V_at (c : Dev nD) (i : S2048x2048.Idx) : V m c main_v0 i
    = m ((c : Thread nD τ).loc main_arg1) (ix3 ⟨(i 0).val / 512, by have : (i 0).val < 2048 := (i 0).isLt; omega⟩ ⟨(i 0).val % 512, by omega⟩ (i 1)) :=
  (congrFun (V_v0 m c) i).trans (flat _ i)

/-- The block of it at a grid point. -/
theorem read1 (c : Dev nD) (t : Fin cfg0.N) (r : Fin 2048) (y : Fin 1024) (h0 : t.val / 2 * 1024 + y.val < 2048) :
    iblk m c 1 t (ix2 r y) = V m c main_v0 (ix2 r ⟨t.val / 2 * 1024 + y.val, h0⟩) := by
  blk_ext [iblk, idx t]

/-- What a grid point leaves in its block is the reference's array at that block. -/
theorem point (c : Dev nD) (t : Fin cfg0.N) (y : S1024x1024.Idx) :
    k0_pay1 (F := Ideal) (iblk m c 0 t) (iblk m c 1 t) (iblk m c 2 t) y = whole m c (((cfg0.win 3).blk t).view.emb y) := by
  have ht : t.val < 4 := lt_of_lt_of_eq t.isLt N_0
  have y0 : (y 0).val < 1024 := (y 0).isLt
  have y1 : (y 1).val < 1024 := (y 1).isLt
  have e : ((cfg0.win 3).blk t).view.emb y
      = ix2 ⟨t.val % 2 * 1024 + (y 0).val, by omega⟩ ⟨t.val / 2 * 1024 + (y 1).val, by omega⟩ := by
    blk_ext [idx t]
  refine Eq.trans ?_ (congrArg (whole m c) e).symm
  open Cert.OutRefIdeal.Read in
  pointwise [k0_pay1, whole,
    val_main_v0, val_main_v1, val_main_v2, val_main_v3, val_main_v4]
  rw [add_comm]
  refine congrArg₂ (· + ·) (by blk_point [iblk, V, idx t]) (Finset.sum_congr rfl fun r _ => ?_)
  rw [read1 m c t r (y 1) (by omega), V_at]
  blk_point [iblk, V, idx t]

/-- The result array after the run. -/
theorem final (c : Dev nD) : (dats m 0 c).arrAt 3 (cfgs 0).N = whole m c := by
  refine (dats m 0 c).arrAt_eq_of_covers 3 _ (by decide +kernel) fun t _ y => ?_
  blk_simp
  rw [after0_3]; frame_out
  exact point m c t y

end Cert.Proof.OutValue
-- ==== Proof.OutClaims.lean ====
module

public import proofs.«01_k».proof.Defs
public import proofs.«01_k».proof.Proof.Gen.Out.Frame
public import proofs.«01_k».proof.Proof.OutValue
public import Idealize.ShloMosaic.Lib.Claim
public import Idealize.ShloMosaic.Lib.Quiescent

/-! # The claims about the mixers' output -/

@[expose] public section

set_option maxRecDepth 16384

noncomputable section

namespace Cert.Proof.OutClaims

open Idealize.ShloMosaic Idealize.SL.Sem

/-- The printed kernel runs to the end, leaves its arguments alone and its counters at zero. -/
theorem frame : Cert.quiescent_Out := fun m ρ _ => Cert.Out.Gen.frame m ρ

/-- So does its ideal reading. -/
theorem frameIdeal : Cert.quiescent_OutIdeal := fun m ρ _ => Cert.OutIdeal.Gen.frame m ρ

/-- So does the reference. -/
theorem frameRef : Cert.quiescent_OutRefIdeal := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Idealize.ShloMosaic.Ideal) m ρ)

/-- The array the kernel writes is the reference's, at the ideal reading, on all arguments. -/
theorem algebraic : Cert.algebraic_OutIdeal_OutRefIdeal := by
  pair_intro
  · run_from Cert.OutIdeal.Gen.run_main m g
  · refine (θ_run Cert.OutRefIdeal.defs _ _).mono (fun r h c => ?_) (Cert.OutRefIdeal.Value.run m' g')
    obtain ⟨e0, e1, e2⟩ := hagree c
    refine ⟨(h c).1.trans ?_, (h c).2⟩
    · refine (Cert.OutRefIdeal.Read.val_main_v4_eq ..).trans (Eq.trans ?_ (Cert.Proof.OutValue.final m c).symm)
      rw [e0, e1, e2]

end Cert.Proof.OutClaims
-- ==== Proof.GateUpValue.lean ====
module

public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Pipeline.ValueKit

/-! # The SwiGLU block's two products and its activation -/

@[expose] public section

set_option maxRecDepth 16384

noncomputable section

namespace Cert.Proof.GateUpValue

open Idealize.ShloMosaic Idealize.ShloMosaic.TcCoe Idealize.SL.Sem
open Cert.GateUpIdeal Cert.GateUpIdeal.Gen

variable (m : (ℓ : Loc nD τ sig) → Buf (Elt Ideal) ℓ)

/-- Every window's block at grid point `t`. -/
theorem idx : ∀ t : Fin cfg0.N,
    win0_0.index t = ![t.val % 4, 0] ∧ win0_1.index t = ![t.val / 4, 0, 0] ∧ win0_2.index t = ![t.val / 4, 0, 0]
      ∧ win0_3.index t = ![t.val % 4, t.val / 4] ∧ win0_4.index t = ![t.val % 4, t.val / 4]
      ∧ win0_5.index t = ![t.val % 4, t.val / 4] :=
  (by decide +kernel : ∀ t : Fin grid0.N, _)

/-- The gate's product, as the reference computes it. -/
abbrev gate (c : Dev nD) := Cert.GateUpRefIdeal.Read.val_main_v4 (F := Ideal)
  (m ((c : Thread nD τ).loc main_arg0)) (m ((c : Thread nD τ).loc main_arg1))

/-- The other branch's product, as the reference computes it. -/
abbrev up (c : Dev nD) := Cert.GateUpRefIdeal.Read.val_main_v9 (F := Ideal)
  (m ((c : Thread nD τ).loc main_arg0)) (m ((c : Thread nD τ).loc main_arg2))

/-- The activation, as the reference computes it. -/
abbrev act (c : Dev nD) := Cert.GateUpRefIdeal.Read.val_main_v12 (F := Ideal)
  (m ((c : Thread nD τ).loc main_arg0)) (m ((c : Thread nD τ).loc main_arg1)) (m ((c : Thread nD τ).loc main_arg2))

/-- The gate's product in a block. -/
theorem point3 (c : Dev nD) (t : Fin cfg0.N) (y : S512x1408.Idx) :
    k0_pay1 (F := Ideal) (iblk m c 0 t) (iblk m c 1 t) y = gate m c (((cfg0.win 3).blk t).view.emb y) := by
  open Cert.GateUpRefIdeal.Read in
  pointwise [k0_pay1, gate, val_main_v0, val_main_v1, val_main_v2, val_main_v3, val_main_v4]
  refine Finset.sum_congr rfl fun r _ => ?_
  blk_point [iblk, V, idx t]

/-- The other branch's product in a block. -/
theorem point4 (c : Dev nD) (t : Fin cfg0.N) (y : S512x1408.Idx) :
    k0_pay2 (F := Ideal) (iblk m c 0 t) (iblk m c 2 t) y = up m c (((cfg0.win 4).blk t).view.emb y) := by
  open Cert.GateUpRefIdeal.Read in
  pointwise [k0_pay2, up, val_main_v5, val_main_v6, val_main_v7, val_main_v8, val_main_v9]
  refine Finset.sum_congr rfl fun r _ => ?_
  blk_point [iblk, V, idx t]

/-- The activation in a block, from the two products there. -/
theorem tile5 (a : FVec Ideal S512x2048 .bf16) (b b' : FVec Ideal S1x2048x1408 .bf16) (y : S512x1408.Idx) :
    k0_pay3 (F := Ideal) a b a b' y
      = k0_pay1 (F := Ideal) a b y * Idealize.ShloMosaic.Ideal.div 1 (1 + Ideal.exp (-(k0_pay1 (F := Ideal) a b y)))
        * k0_pay2 (F := Ideal) a b' y := by
  pointwise [k0_pay3, k0_pay1, k0_pay2, zero_sub]

/-- The activation in a block is the reference's. -/
theorem point5 (c : Dev nD) (t : Fin cfg0.N) (y : S512x1408.Idx) :
    k0_pay3 (F := Ideal) (iblk m c 0 t) (iblk m c 1 t) (iblk m c 0 t) (iblk m c 2 t) y
      = act m c (((cfg0.win 5).blk t).view.emb y) := by
  have e3 : ((cfg0.win 3).blk t).view.emb y = ((cfg0.win 5).blk t).view.emb y := by blk_ext [idx t]
  have e4 : ((cfg0.win 4).blk t).view.emb y = ((cfg0.win 5).blk t).view.emb y := by blk_ext [idx t]
  rw [tile5, point3, point4, e3, e4]
  open Cert.GateUpRefIdeal.Read in
  pointwise [act, gate, up,
    val_main_call0_v0, val_main_call0_v1, val_main_call0_cst, val_main_call0_v2, val_main_call0_v3, val_main_call0_cst_0, val_main_call0_v4, val_main_call0_v5, val_main_v10, val_main_v11, val_main_v12]

/-- The gate's product after the run. -/
theorem final3 (c : Dev nD) : (dats m 0 c).arrAt 3 (cfgs 0).N = gate m c := by
  refine (dats m 0 c).arrAt_eq_of_covers 3 _ (by decide +kernel) fun t _ y => ?_
  blk_simp
  rw [after0_3]; frame_out
  exact point3 m c t y

/-- The other branch's product after the run. -/
theorem final4 (c : Dev nD) : (dats m 0 c).arrAt 4 (cfgs 0).N = up m c := by
  refine (dats m 0 c).arrAt_eq_of_covers 4 _ (by decide +kernel) fun t _ y => ?_
  blk_simp
  rw [after0_4]; frame_out
  exact point4 m c t y

/-- The activation after the run. -/
theorem final5 (c : Dev nD) : (dats m 0 c).arrAt 5 (cfgs 0).N = act m c := by
  refine (dats m 0 c).arrAt_eq_of_covers 5 _ (by decide +kernel) fun t _ y => ?_
  blk_simp
  rw [after0_5]; frame_out
  exact point5 m c t y

end Cert.Proof.GateUpValue
-- ==== Proof.GateUpClaims.lean ====
module

public import proofs.«01_k».proof.Defs
public import proofs.«01_k».proof.Proof.Gen.GateUp.Frame
public import proofs.«01_k».proof.Proof.GateUpValue
public import Idealize.ShloMosaic.Lib.Claim
public import Idealize.ShloMosaic.Lib.Quiescent

/-! # The claims about the SwiGLU block's products and activation -/

@[expose] public section

set_option maxRecDepth 16384

noncomputable section

namespace Cert.Proof.GateUpClaims

open Idealize.ShloMosaic Idealize.SL.Sem

/-- The printed kernel runs to the end, leaves its arguments alone and its counters at zero. -/
theorem frame : Cert.quiescent_GateUp := fun m ρ _ => Cert.GateUp.Gen.frame m ρ

/-- So does its ideal reading. -/
theorem frameIdeal : Cert.quiescent_GateUpIdeal := fun m ρ _ => Cert.GateUpIdeal.Gen.frame m ρ

/-- So does the reference. -/
theorem frameRef : Cert.quiescent_GateUpRefIdeal := fun m ρ _ =>
  (θ_run Cert.GateUpRefIdeal.defs _ _).mono
    (fun r h => ⟨fun c => (h c).2.2.2, Idealize.ShloMosaic.sem_eq_zero_of_no_sems (by decide) r.2⟩)
    (Cert.GateUpRefIdeal.Value.run (F := Idealize.ShloMosaic.Ideal) m ρ)

/-- The three arrays the kernel writes are the reference's, at the ideal reading, on all arguments. -/
theorem algebraic : Cert.algebraic_GateUpIdeal_GateUpRefIdeal := by
  pair_intro
  · run_from Cert.GateUpIdeal.Gen.run_main m g
  · refine (θ_run Cert.GateUpRefIdeal.defs _ _).mono (fun r h c => ?_) (Cert.GateUpRefIdeal.Value.run m' g')
    obtain ⟨e0, e1, e2⟩ := hagree c
    refine ⟨(h c).1.trans ?_, (h c).2.1.trans ?_, (h c).2.2.1.trans ?_, (h c).2.2.2⟩
    · refine (Cert.GateUpRefIdeal.Read.val_main_v4_eq ..).trans (Eq.trans ?_ (Cert.Proof.GateUpValue.final3 m c).symm)
      rw [e0, e1]
    · refine (Cert.GateUpRefIdeal.Read.val_main_v9_eq ..).trans (Eq.trans ?_ (Cert.Proof.GateUpValue.final4 m c).symm)
      rw [e0, e2]
    · refine (Cert.GateUpRefIdeal.Read.val_main_v12_eq ..).trans (Eq.trans ?_ (Cert.Proof.GateUpValue.final5 m c).symm)
      rw [e0, e1, e2]

end Cert.Proof.GateUpClaims
-- ==== Proof.DownValue.lean ====
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pipeline.ReadBack

/-! # The SwiGLU block's output: a product accumulated over the four chips' slabs, added to the trunk -/

@[expose] public section

set_option maxRecDepth 16384

noncomputable section

namespace Cert.Proof.DownValue

open Idealize.ShloMosaic Idealize.ShloMosaic.TcCoe Idealize.SL.Sem
open Cert.DownIdeal Cert.DownIdeal.Gen

variable (m : (ℓ : Loc nD τ sig) → Buf (Elt Ideal) ℓ)

/-- Every window's block at grid point `t`. -/
theorem idx : ∀ t : Fin cfg0.N,
    win0_0.index t = ![t.val / 4 % 2, t.val % 4] ∧ win0_1.index t = ![t.val % 4, 0, t.val / 8]
      ∧ win0_2.index t = ![t.val / 4 % 2, t.val / 8] ∧ win0_3.index t = ![t.val / 4 % 2, t.val / 8] :=
  (by decide +kernel : ∀ t : Fin grid0.N, _)

/-- The trunk after the block, as the reference computes it. -/
abbrev whole (c : Dev nD) := Cert.DownRefIdeal.Read.val_main_v4 (F := Ideal)
  (m ((c : Thread nD τ).loc main_arg0)) (m ((c : Thread nD τ).loc main_arg1))
  (m ((c : Thread nD τ).loc main_arg2))

/-- A product of two blocks, before it is added to what the points before left. -/
theorem share (a : FVec Ideal S1024x1408 .bf16) (b : FVec Ideal S1x1408x1024 .bf16) (y : S1024x1024.Idx) :
    k0_pay2 (F := Ideal) a b y = ∑ r : Fin 1408, a (ix2 (y 0) r) * b (ix3 0 r (y 1)) := by
  pointwise [k0_pay2, k0_pay1]

/-- The accumulating store adds the product to what the points before left. -/
theorem step (a : FVec Ideal S1024x1408 .bf16) (b : FVec Ideal S1x1408x1024 .bf16) (acc : FVec Ideal S1024x1024 .f32)
    (y : S1024x1024.Idx) : k0_pay3 (F := Ideal) a b acc y = acc y + k0_pay2 (F := Ideal) a b y := by
  pointwise [k0_pay3, k0_pay2]

/-- The last store adds the trunk to what the accumulator holds. -/
theorem close (acc x : FVec Ideal S1024x1024 .f32) (y : S1024x1024.Idx) : k0_pay4 (F := Ideal) acc x y = acc y + x y := by
  pointwise [k0_pay4]

/-- At the last point of a run of 4 the output block holds what the accumulator holds, and the trunk added. -/
theorem last (c : Dev nD) (t : Fin cfg0.N) (h : t.val % 4 = 3) (y : S1024x1024.Idx) :
    (outsAt0 m c t.val t.isLt).1 y = (outsAt0 m c t.val t.isLt).2 y + iblk m c 2 t y := by
  rw [outsAt0_C m c t (by omega) (by omega) h]; frame_out; rw [close]

/-- The result array after the run: each block is the reference's sum over all hidden columns, in 4 runs. -/
theorem final (c : Dev nD) : (dats m 0 c).arrAt 3 (cfgs 0).N = whole m c := by
  refine (dats m 0 c).arrAt_eq_of_covers 3 _ (by decide +kernel) fun t hf y => ?_
  blk_simp
  rw [after0_3, last m c t ((flush0_3 t).mp hf),
    Pipeline.eq_sum_fin_of_reset_step_apply_of_flush (fun n h => (outsAt0 m c n h).2) 4 (fun _ => 0) _
      (fun t h j => by rw [outsAt0_A m c t h (by omega) (by omega)]; frame_out; rw [zero_add, share])
      (fun t h j => by
        by_cases h2 : t.val % 4 = 3
        · rw [outsAt0_C m c t h (by omega) h2]; frame_out; rw [read_unread_whole, step, share]
        · rw [outsAt0_B m c t h (by omega) h2]; frame_out; rw [read_unread_whole, step, share])
      t ((flush0_3 t).mp hf) _, zero_add]
  open Cert.DownRefIdeal.Read in
  pointwise [whole,
    val_main_v0, val_main_v1, val_main_v2, val_main_v3, val_main_v4]
  rw [add_comm]
  refine congrArg₂ (· + ·) (by blk_point [iblk, V, idx t]) (Fin.sum_mul_add_congr fun s r hl => ?_)
  blk_point [iblk, V, idx t, idx ⟨_, Pipeline.run_point_lt_of_flush t ((flush0_3 t).mp hf) s⟩]

end Cert.Proof.DownValue
-- ==== Proof.DownClaims.lean ====
module

public import proofs.«01_k».proof.Defs
public import proofs.«01_k».proof.Proof.Gen.Down.Frame
public import proofs.«01_k».proof.Proof.DownValue
public import Idealize.ShloMosaic.Lib.Claim
public import Idealize.ShloMosaic.Lib.Quiescent

/-! # The claims about the SwiGLU block's output -/

@[expose] public section

set_option maxRecDepth 16384

noncomputable section

namespace Cert.Proof.DownClaims

open Idealize.ShloMosaic Idealize.SL.Sem

/-- The printed kernel runs to the end, leaves its arguments alone and its counters at zero. -/
theorem frame : Cert.quiescent_Down := fun m ρ _ => Cert.Down.Gen.frame m ρ

/-- So does its ideal reading. -/
theorem frameIdeal : Cert.quiescent_DownIdeal := fun m ρ _ => Cert.DownIdeal.Gen.frame m ρ

/-- So does the reference. -/
theorem frameRef : Cert.quiescent_DownRefIdeal := fun m ρ _ =>
  (θ_run Cert.DownRefIdeal.defs _ _).mono
    (fun r h => ⟨fun c => (h c).2, Idealize.ShloMosaic.sem_eq_zero_of_no_sems (by decide) r.2⟩)
    (Cert.DownRefIdeal.Value.run (F := Idealize.ShloMosaic.Ideal) m ρ)

/-- The array the kernel writes is the reference's, at the ideal reading, on all arguments. -/
theorem algebraic : Cert.algebraic_DownIdeal_DownRefIdeal := by
  pair_intro
  · run_from Cert.DownIdeal.Gen.run_main m g
  · refine (θ_run Cert.DownRefIdeal.defs _ _).mono (fun r h c => ?_) (Cert.DownRefIdeal.Value.run m' g')
    obtain ⟨e0, e1, e2⟩ := hagree c
    refine ⟨(h c).1.trans ?_, (h c).2⟩
    · refine (Cert.DownRefIdeal.Read.val_main_v4_eq ..).trans (Eq.trans ?_ (Cert.Proof.DownValue.final m c).symm)
      rw [e0, e1, e2]

end Cert.Proof.DownClaims
-- ==== Proof.FwdNormValue.lean ====
module

public import proofs.«01_k».proof.Proof.Gen.FwdNormIdeal.Value
public import proofs.«01_k».proof.Proof.Gen.FwdNormRefIdeal.Run
public import proofs.«01_k».proof.Proof.Gen.FwdNormRefIdeal.Read
public import Idealize.ShloMosaic.Lib.Pipeline.ValueKit

/-! # The norm before each block -/

@[expose] public section

set_option maxRecDepth 16384

noncomputable section

namespace Cert.Proof.FwdNormValue

open Idealize.ShloMosaic Idealize.ShloMosaic.TcCoe Idealize.SL.Sem
open Cert.FwdNormIdeal Cert.FwdNormIdeal.Gen

variable (m : (ℓ : Loc nD τ sig) → Buf (Elt Ideal) ℓ)

/-- Every window's block at grid point `t`. -/
theorem idx : ∀ t : Fin cfg0.N,
    win0_0.index t = ![t.val, 0] ∧ win0_1.index t = ![0, 0, 0] ∧ win0_2.index t = ![t.val, 0] :=
  (by decide +kernel : ∀ t : Fin grid0.N, _)

/-- The normalised rows, as the reference computes it. -/
abbrev whole (c : Dev nD) := Cert.FwdNormRefIdeal.Read.val_main_v14 (F := Ideal)
  (m ((c : Thread nD τ).loc main_arg0)) (m ((c : Thread nD τ).loc main_arg1))

/-- What a grid point leaves in its block is the reference's array at that block. -/
theorem point (c : Dev nD) (t : Fin cfg0.N) (y : S256x2048.Idx) :
    k0_pay1 (F := Ideal) (iblk m c 0 t) (iblk m c 1 t) y = whole m c (((cfg0.win 2).blk t).view.emb y) := by
  open Cert.FwdNormRefIdeal.Read in
  pointwise [k0_pay1, whole,
    val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14]
  blk_point [iblk, V, idx t]

/-- The result array after the run. -/
theorem final (c : Dev nD) : (dats m 0 c).arrAt 2 (cfgs 0).N = whole m c := by
  refine (dats m 0 c).arrAt_eq_of_covers 2 _ (by decide +kernel) fun t _ y => ?_
  blk_simp
  rw [after0_2]; frame_out
  exact point m c t y

end Cert.Proof.FwdNormValue
-- ==== Proof.FwdNormClaims.lean ====
module

public import proofs.«01_k».proof.Defs
public import proofs.«01_k».proof.Proof.Gen.FwdNorm.Frame
public import proofs.«01_k».proof.Proof.FwdNormValue
public import Idealize.ShloMosaic.Lib.Claim
public import Idealize.ShloMosaic.Lib.Quiescent

/-! # The claims about the norm -/

@[expose] public section

set_option maxRecDepth 16384

noncomputable section

namespace Cert.Proof.FwdNormClaims

open Idealize.ShloMosaic Idealize.SL.Sem

/-- The printed kernel runs to the end, leaves its arguments alone and its counters at zero. -/
theorem frame : Cert.quiescent_FwdNorm := fun m ρ _ => Cert.FwdNorm.Gen.frame m ρ

/-- So does its ideal reading. -/
theorem frameIdeal : Cert.quiescent_FwdNormIdeal := fun m ρ _ => Cert.FwdNormIdeal.Gen.frame m ρ

/-- So does the reference. -/
theorem frameRef : Cert.quiescent_FwdNormRefIdeal := fun m ρ _ =>
  (θ_run Cert.FwdNormRefIdeal.defs _ _).mono
    (fun r h => ⟨fun c => (h c).2, Idealize.ShloMosaic.sem_eq_zero_of_no_sems (by decide) r.2⟩)
    (Cert.FwdNormRefIdeal.Value.run (F := Idealize.ShloMosaic.Ideal) m ρ)

/-- The array the kernel writes is the reference's, at the ideal reading, on all arguments. -/
theorem algebraic : Cert.algebraic_FwdNormIdeal_FwdNormRefIdeal := by
  pair_intro
  · run_from Cert.FwdNormIdeal.Gen.run_main m g
  · refine (θ_run Cert.FwdNormRefIdeal.defs _ _).mono (fun r h c => ?_) (Cert.FwdNormRefIdeal.Value.run m' g')
    obtain ⟨e0, e1⟩ := hagree c
    refine ⟨(h c).1.trans ?_, (h c).2⟩
    · refine (Cert.FwdNormRefIdeal.Read.val_main_v14_eq ..).trans (Eq.trans ?_ (Cert.Proof.FwdNormValue.final m c).symm)
      rw [e0, e1]

end Cert.Proof.FwdNormClaims
-- ==== Proof.FwdHeadValue.lean ====
module

public import proofs.«01_k».proof.Proof.Gen.FwdHeadIdeal.Value
public import proofs.«01_k».proof.Proof.Gen.FwdHeadRefIdeal.Run
public import proofs.«01_k».proof.Proof.Gen.FwdHeadRefIdeal.Read
public import Idealize.ShloMosaic.Lib.Pipeline.ValueKit

/-! # Gated linear attention: the norm over each head and its output gate -/

@[expose] public section

set_option maxRecDepth 16384

noncomputable section

namespace Cert.Proof.FwdHeadValue

open Idealize.ShloMosaic Idealize.ShloMosaic.TcCoe Idealize.SL.Sem
open Cert.FwdHeadIdeal Cert.FwdHeadIdeal.Gen

variable (m : (ℓ : Loc nD τ sig) → Buf (Elt Ideal) ℓ)

/-- Every window's block at grid point `t`. -/
theorem idx : ∀ t : Fin cfg0.N,
    win0_0.index t = ![t.val % 4, t.val / 4] ∧ win0_1.index t = ![t.val % 4, 28 + t.val / 4] ∧ win0_2.index t = ![0, 0, 0]
      ∧ win0_3.index t = ![t.val % 4, t.val / 4] :=
  (by decide +kernel : ∀ t : Fin grid0.N, _)

/-- The gated heads, as the reference computes it. -/
abbrev whole (c : Dev nD) := Cert.FwdHeadRefIdeal.Read.val_main_v21 (F := Ideal)
  (m ((c : Thread nD τ).loc main_arg0)) (m ((c : Thread nD τ).loc main_arg1))
  (m ((c : Thread nD τ).loc main_arg2))

/-- What a grid point leaves in its block is the reference's array at that block. -/
theorem point (c : Dev nD) (t : Fin cfg0.N) (y : S512x128.Idx) :
    k0_pay1 (F := Ideal) (iblk m c 0 t) (iblk m c 1 t) (iblk m c 2 t) y = whole m c (((cfg0.win 3).blk t).view.emb y) := by
  open Cert.FwdHeadRefIdeal.Read in
  pointwise [k0_pay1, whole, zero_sub,
    val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_v16, val_main_call0_v0, val_main_call0_v1, val_main_call0_cst,
    val_main_call0_v2, val_main_call0_v3, val_main_call0_cst_0, val_main_call0_v4, val_main_call0_v5, val_main_v17,
    val_main_v18, val_main_v19, val_main_v20, val_main_v21]
  blk_point [iblk, V, idx t]

/-- The result array after the run. -/
theorem final (c : Dev nD) : (dats m 0 c).arrAt 3 (cfgs 0).N = whole m c := by
  refine (dats m 0 c).arrAt_eq_of_covers 3 _ (by decide +kernel) fun t _ y => ?_
  blk_simp
  rw [after0_3]; frame_out
  exact point m c t y

end Cert.Proof.FwdHeadValue
-- ==== Proof.FwdHeadClaims.lean ====
module

public import proofs.«01_k».proof.Defs
public import proofs.«01_k».proof.Proof.Gen.FwdHead.Frame
public import proofs.«01_k».proof.Proof.FwdHeadValue
public import Idealize.ShloMosaic.Lib.Claim
public import Idealize.ShloMosaic.Lib.Quiescent

/-! # The claims about the gated heads of linear attention -/

@[expose] public section

set_option maxRecDepth 16384

noncomputable section

namespace Cert.Proof.FwdHeadClaims

open Idealize.ShloMosaic Idealize.SL.Sem

/-- The printed kernel runs to the end, leaves its arguments alone and its counters at zero. -/
theorem frame : Cert.quiescent_FwdHead := fun m ρ _ => Cert.FwdHead.Gen.frame m ρ

/-- So does its ideal reading. -/
theorem frameIdeal : Cert.quiescent_FwdHeadIdeal := fun m ρ _ => Cert.FwdHeadIdeal.Gen.frame m ρ

/-- So does the reference. -/
theorem frameRef : Cert.quiescent_FwdHeadRefIdeal := fun m ρ _ =>
  (θ_run Cert.FwdHeadRefIdeal.defs _ _).mono
    (fun r h => ⟨fun c => (h c).2, Idealize.ShloMosaic.sem_eq_zero_of_no_sems (by decide) r.2⟩)
    (Cert.FwdHeadRefIdeal.Value.run (F := Idealize.ShloMosaic.Ideal) m ρ)

/-- The array the kernel writes is the reference's, at the ideal reading, on all arguments. -/
theorem algebraic : Cert.algebraic_FwdHeadIdeal_FwdHeadRefIdeal := by
  pair_intro
  · run_from Cert.FwdHeadIdeal.Gen.run_main m g
  · refine (θ_run Cert.FwdHeadRefIdeal.defs _ _).mono (fun r h c => ?_) (Cert.FwdHeadRefIdeal.Value.run m' g')
    obtain ⟨e0, e1, e2⟩ := hagree c
    refine ⟨(h c).1.trans ?_, (h c).2⟩
    · refine (Cert.FwdHeadRefIdeal.Read.val_main_v21_eq ..).trans (Eq.trans ?_ (Cert.Proof.FwdHeadValue.final m c).symm)
      rw [e0, e1, e2]

end Cert.Proof.FwdHeadClaims
-- ==== Proof.FwdPoolValue.lean ====
module

public import proofs.«01_k».proof.Proof.ConvPoolTiles
public import proofs.«01_k».proof.Proof.ConvPoolRefCols
public import proofs.«01_k».proof.Proof.Gen.FwdPoolIdeal.Value
public import proofs.«01_k».proof.Proof.Gen.FwdPoolRefIdeal.Run
public import proofs.«01_k».proof.Proof.Gen.FwdPoolRefIdeal.Read

/-! # The gated convolution and the pool: what the two result arrays hold

The body and the reference compute here what the gradient's body and reference compute again, so the lemmas about columns
are the gradient's. -/

@[expose] public section

set_option maxRecDepth 16384

noncomputable section

namespace Cert.Proof.FwdPoolValue

open Idealize.ShloMosaic Idealize.ShloMosaic.TcCoe Idealize.SL.Sem
open Cert.FwdPoolIdeal Cert.FwdPoolIdeal.Gen Cert.Proof.ConvPoolCols

section Tiles

variable (x0 x1 x2 x3 : FVec Ideal S2048x128 .f32) (cw : FVec Ideal S1x3x128 .f32)
  (pw : FVec Ideal S1x1x128x128 .f32) (ps : FVec Ideal S1x1x128 .f32)

/-- The body's convolution is the one that the gradient's body computes again. -/
theorem same_conv :
    k0_pay10 (F := Ideal) x0 (k0_pay3 (View.ld cw r0_1)) (k0_pay7 x1 x2 (View.ld cw r0_2) (View.ld cw r0_3)) k0_pay8
        (k0_pay9 x1 x2)
      = mulf x0 (Cert.ConvPoolIdeal.Gen.k0_pay12 (Cert.ConvPoolIdeal.Gen.k0_pay1 (View.ld cw Cert.ConvPoolIdeal.Gen.r0_1))
        (Cert.ConvPoolIdeal.Gen.k0_pay8 x1 x2 (View.ld cw Cert.ConvPoolIdeal.Gen.r0_2)
          (View.ld cw Cert.ConvPoolIdeal.Gen.r0_3)) Cert.ConvPoolIdeal.Gen.k0_pay9
        (Cert.ConvPoolIdeal.Gen.k0_pay10 x1 x2)) := rfl

/-- The first result's tile: the outer gate times the convolution of the gated input. -/
theorem tile7 (y : S2048x128.Idx) :
    k0_pay1 (F := Ideal) (k0_pay10 x0 (k0_pay3 (View.ld cw r0_1)) (k0_pay7 x1 x2 (View.ld cw r0_2) (View.ld cw r0_3)) k0_pay8
        (k0_pay9 x1 x2)) y
      = x0 (ix2 (y 0) (y 1)) * conv (ConvPoolTiles.taps cw (y 1)) (ConvPoolTiles.prod x1 x2 (y 1)) (y 0) := by
  rw [same_conv, ConvPoolTiles.convolved]
  pointwise [k0_pay1, cols]

/-- The body's window sum is the gradient's body's. -/
theorem same_wsum (b : BitVec 32) : k0_pay11 (F := Ideal) b x3 = Cert.ConvPoolIdeal.Gen.k0_pay13 b x3 := rfl

/-- So is its window length. -/
theorem same_len (b : BitVec 32) : k0_pay12 (F := Ideal) b = Cert.ConvPoolIdeal.Gen.k0_pay14 b := rfl

/-- The second result's tile: the pooled columns times the group's weights, scaled. -/
theorem tile8 (j : Fin 4) (y : S2048x128.Idx) :
    k0_pay2 (F := Ideal) x3 (k0_pay4 pw) (k0_pay5 ps) (k0_pay11 (BitVec.ofNat 32 j.val) x3)
        (k0_pay12 (F := Ideal) (BitVec.ofNat 32 j.val)) (iota .tc S2048x128 32 [0] iota_S2048x128_d0_w32) y
      = (∑ a : Fin 128, pooled j (fun r => x3 (ix2 r a)) (y 0) * pw (ix4 0 0 a (y 1))) * ps (ix3 0 0 (y 1)) := by
  have h := pay13_cols j fun l r => x3 (ix2 r l)
  rw [← eq_cols] at h
  rw [same_wsum, same_len, h, pay14_eq]
  pointwise [k0_pay2, k0_pay4, k0_pay5, pooled, held, cols, sitofp_ideal]

end Tiles

section Reference

open Cert.FwdPoolRefIdeal.Read

variable (z : FVec Ideal S2048x5760 .f32) (cw : FVec Ideal S2x3x512 .f32) (pw : FVec Ideal S2x4x128x128 .f32)
  (ps : FVec Ideal S2x1x512 .f32)

/-- The reference's pooled columns are those that its gradient computes again. -/
theorem same_pooled (j : Fin 4) :
    ![val_main_v50 (F := Ideal) z, val_main_v77 (F := Ideal) z, val_main_v120 (F := Ideal) z, val_main_v195 (F := Ideal) z] j
      = ConvPoolRefCols.pooledRef z j := by
  fin_cases j <;> rfl

/-- The first result: the outer gate times the convolution. -/
theorem whole7 (i : Fin 2048) (l : Fin 512) :
    val_main_v200 (F := Ideal) z cw (ix2 i l)
      = z (ix2 i ⟨l.val, by omega⟩) * conv (fun k => cw (ix3 0 k l)) (ConvPoolRefCols.gated z l) i := by
  pointwise [conv, ConvPoolRefCols.gated, del, Nat.not_lt_zero, dite_false,
    val_main_v0, val_main_v1, val_main_v2, val_main_v4, val_main_v5, val_main_v6, val_main_cst, val_main_v7,
    val_main_v8, val_main_v9, val_main_v10, val_main_v11, val_main_v12, val_main_cst_0, val_main_v13, val_main_v14,
    val_main_v15, val_main_v16, val_main_cst_1, val_main_v17, val_main_v18, val_main_v19, val_main_v20,
    val_main_v21, val_main_v22, val_main_v23, val_main_v24, val_main_v25, val_main_cst_2, val_main_v26,
    val_main_v27, val_main_v28, val_main_v29, val_main_v30, val_main_v31, val_main_v199, val_main_v200]

/-- The second result: the groups' products with their weights, scaled. -/
theorem whole8 (j : Fin 4) (i : Fin 2048) (l : Fin 128) :
    val_main_v206 (F := Ideal) z pw ps (ix2 i ⟨j.val * 128 + l.val, by omega⟩)
      = (∑ a, pooled j (fun r => z (ix2 r ⟨1536 + (j.val * 128 + a.val), by omega⟩)) i * pw (ix4 0 j a l))
        * ps (ix3 0 0 ⟨j.val * 128 + l.val, by omega⟩) := by
  simp only [← ConvPoolRefCols.pooledRef_eq, ← same_pooled]
  have n1 : ¬ 256 + l.val < 128 := by omega
  have n2 : ¬ 256 + l.val - 128 < 128 := by omega
  have n3 : ¬ 384 + l.val < 128 := by omega
  have n4 : ¬ 384 + l.val - 128 < 128 := by omega
  have n5 : ¬ 384 + l.val - 128 - 128 < 128 := by omega
  have s1 : 256 + l.val - 128 - 128 = l.val := by omega
  have s2 : 384 + l.val - 128 - 128 - 128 = l.val := by omega
  fin_cases j
  all_goals
    pointwise [n1, n2, n3, n4, n5, s1, s2, dite_false,
      val_main_v51, val_main_v52, val_main_v53, val_main_v78, val_main_v79, val_main_v80, val_main_v121,
      val_main_v122, val_main_v123, val_main_v196, val_main_v197, val_main_v198, val_main_v201, val_main_v202,
      val_main_v203, val_main_v204, val_main_v205, val_main_v206]

end Reference

variable (m : (ℓ : Loc nD τ sig) → Buf (Elt Ideal) ℓ) (c : Dev nD) (t : Fin cfg0.N)

/-- Every window's block at grid point `t`: lane group `t`. -/
theorem idx : ∀ t : Fin cfg0.N,
    win0_0.index t = ![0, t.val] ∧ win0_1.index t = ![0, 4 + t.val] ∧ win0_2.index t = ![0, 8 + t.val]
      ∧ win0_3.index t = ![0, 12 + t.val] ∧ win0_4.index t = ![0, 0, t.val] ∧ win0_5.index t = ![0, t.val, 0, 0]
      ∧ win0_6.index t = ![0, 0, t.val] ∧ win0_7.index t = ![0, t.val] ∧ win0_8.index t = ![0, t.val] :=
  (by decide +kernel : ∀ t : Fin grid0.N, _)

/-- The grid's coordinate is the group. -/
theorem coord : ∀ t : Fin cfg0.N, (grid0.coords t 0).val = t.val := (by decide +kernel : ∀ t : Fin grid0.N, _)

/-- The group of a grid point. -/
abbrev grp : Fin 4 := ⟨t.val, lt_of_lt_of_eq t.isLt N_0⟩

/-- Its lanes' places in a row of four groups. -/
abbrev lane (l : Fin 128) : Fin 512 := ⟨t.val * 128 + l.val, by have := (grp t).isLt; simp only at this; omega⟩

/-- The arguments. -/
abbrev z := m ((c : Thread nD τ).loc main_arg0)
abbrev cw := m ((c : Thread nD τ).loc main_arg1)
abbrev pw := m ((c : Thread nD τ).loc main_arg2)
abbrev ps := m ((c : Thread nD τ).loc main_arg3)

/-- The blocks of the four column groups of the first argument. -/
theorem reads (r : Fin 2048) (l : Fin 128) :
    iblk m c 0 t (ix2 r l) = z m c (ix2 r ⟨(lane t l).val, by omega⟩)
      ∧ iblk m c 1 t (ix2 r l) = z m c (ix2 r ⟨512 + (lane t l).val, by omega⟩)
      ∧ iblk m c 2 t (ix2 r l) = z m c (ix2 r ⟨1024 + (lane t l).val, by omega⟩)
      ∧ iblk m c 3 t (ix2 r l) = z m c (ix2 r ⟨1536 + (lane t l).val, by omega⟩) := by
  have := (grp t).isLt; simp only at this
  refine ⟨?_, ?_, ?_, ?_⟩ <;> blk_point [iblk, V, idx t]

/-- The blocks of the taps, the weights and the scales. -/
theorem readsW (k : Fin 3) (a l : Fin 128) :
    iblk m c 4 t (ix3 0 k l) = cw m c (ix3 0 k (lane t l)) ∧ iblk m c 5 t (ix4 0 0 a l) = pw m c (ix4 0 (grp t) a l)
      ∧ iblk m c 6 t (ix3 0 0 l) = ps m c (ix3 0 0 (lane t l)) := by
  have := (grp t).isLt; simp only at this
  refine ⟨?_, ?_, ?_⟩ <;> blk_point [iblk, V, idx t]

/-- The reference's gated convolution. -/
abbrev res7 := Cert.FwdPoolRefIdeal.Read.val_main_v200 (F := Ideal) (z m c) (cw m c)

/-- The reference's pool. -/
abbrev res8 := Cert.FwdPoolRefIdeal.Read.val_main_v206 (F := Ideal) (z m c) (pw m c) (ps m c)

/-- Result array 0 after the run: the gated convolution. -/
theorem final7 : (dats m 0 c).arrAt 7 (cfgs 0).N = res7 m c := by
  refine (dats m 0 c).arrAt_eq_of_covers 7 _ (by decide +kernel) fun t _ y => ?_
  blk_simp
  have e : ((cfg0.win 7).blk t).view.emb y = ix2 (y 0) (lane t (y 1)) := by blk_ext [idx t]
  rw [after0_7]
  unfold out0_7
  frame_out
  refine (tile7 _ _ _ _ y).trans (Eq.trans ?_ ((congrArg (res7 m c) e).trans
    (whole7 (z m c) (cw m c) (y 0) (lane t (y 1)))).symm)
  exact congrArg₂ (· * ·) (reads m c t (y 0) (y 1)).1 (congrFun (congrArg₂ conv
    (funext fun k => (readsW m c t k 0 (y 1)).1)
    (funext fun r => congrArg₂ (fun p q : EReal => p * q) (reads m c t r (y 1)).2.1 (reads m c t r (y 1)).2.2.1)) (y 0))

/-- Result array 1 after the run: the pool. -/
theorem final8 : (dats m 0 c).arrAt 8 (cfgs 0).N = res8 m c := by
  refine (dats m 0 c).arrAt_eq_of_covers 8 _ (by decide +kernel) fun t _ y => ?_
  blk_simp
  have e : ((cfg0.win 8).blk t).view.emb y = ix2 (y 0) (lane t (y 1)) := by blk_ext [idx t]
  rw [after0_8]
  unfold out0_8
  frame_out
  rw [coord]
  refine (tile8 _ _ _ (grp t) y).trans (Eq.trans ?_ ((congrArg (res8 m c) e).trans
    (whole8 (z m c) (pw m c) (ps m c) (grp t) (y 0) (y 1))).symm)
  exact congrArg₂ (· * ·) (Finset.sum_congr rfl fun a _ => congrArg₂ (· * ·)
    (congrArg (pooled (grp t) · (y 0)) (funext fun r => (reads m c t r a).2.2.2)) (readsW m c t 0 a (y 1)).2.1)
    (readsW m c t 0 0 (y 1)).2.2

end Cert.Proof.FwdPoolValue
-- ==== Proof.FwdPoolClaims.lean ====
module

public import proofs.«01_k».proof.Defs
public import proofs.«01_k».proof.Proof.Gen.FwdPool.Frame
public import proofs.«01_k».proof.Proof.FwdPoolValue
public import Idealize.ShloMosaic.Lib.Claim
public import Idealize.ShloMosaic.Lib.Quiescent

/-! # The claims about the gated convolution and the multi-scale pool -/

@[expose] public section

set_option maxRecDepth 16384

noncomputable section

namespace Cert.Proof.FwdPoolClaims

open Idealize.ShloMosaic Idealize.SL.Sem

/-- The printed kernel runs to the end, leaves its arguments alone and its counters at zero. -/
theorem frame : Cert.quiescent_FwdPool := fun m ρ _ => Cert.FwdPool.Gen.frame m ρ

/-- So does its ideal reading. -/
theorem frameIdeal : Cert.quiescent_FwdPoolIdeal := fun m ρ _ => Cert.FwdPoolIdeal.Gen.frame m ρ

/-- So does the reference. -/
theorem frameRef : Cert.quiescent_FwdPoolRefIdeal := fun m ρ _ =>
  (θ_run Cert.FwdPoolRefIdeal.defs _ _).mono
    (fun r h => ⟨fun c => (h c).2.2, Idealize.ShloMosaic.sem_eq_zero_of_no_sems (by decide) r.2⟩)
    (Cert.FwdPoolRefIdeal.Value.run (F := Idealize.ShloMosaic.Ideal) m ρ)

/-- The two arrays the kernel writes are the reference's, at the ideal reading, on all arguments. -/
theorem algebraic : Cert.algebraic_FwdPoolIdeal_FwdPoolRefIdeal := by
  pair_intro
  · run_from Cert.FwdPoolIdeal.Gen.run_main m g
  · refine (θ_run Cert.FwdPoolRefIdeal.defs _ _).mono (fun r h c => ?_) (Cert.FwdPoolRefIdeal.Value.run m' g')
    obtain ⟨e0, e1, e2, e3⟩ := hagree c
    refine ⟨(h c).1.trans ?_, (h c).2.1.trans ?_, (h c).2.2⟩
    · refine (Cert.FwdPoolRefIdeal.Read.val_main_v200_eq ..).trans (Eq.trans ?_ (Cert.Proof.FwdPoolValue.final7 m c).symm)
      exact congr (congrArg (Cert.FwdPoolRefIdeal.Read.val_main_v200 (F := Idealize.ShloMosaic.Ideal)) e0) e1
    · refine (Cert.FwdPoolRefIdeal.Read.val_main_v206_eq ..).trans (Eq.trans ?_ (Cert.Proof.FwdPoolValue.final8 m c).symm)
      exact congr (congr (congrArg (Cert.FwdPoolRefIdeal.Read.val_main_v206 (F := Idealize.ShloMosaic.Ideal)) e0) e2) e3

end Cert.Proof.FwdPoolClaims
-- ==== Proof.LossValue.lean ====
module

public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit

/-! # The loss: its gradient on each row tile, and the sum of squares over all of them -/

@[expose] public section

set_option maxRecDepth 16384

noncomputable section

namespace Cert.Proof.LossValue

open Idealize.ShloMosaic Idealize.ShloMosaic.TcCoe Idealize.SL.Sem
open Cert.LossIdeal Cert.LossIdeal.Gen

/-- The gradient's constants: a half of the row's mean, differentiated, leaves the 2048th part. -/
theorem scale (e : EReal) : e * Ideal.ofBits .f32 0x3A000000#32
    = Ideal.div (Ideal.ofBits .f32 0x3F000000#32 * Ideal.ofBits .f32 0x3F800000#32) (Ideal.ofBits .f32 0x45000000#32)
      * (Ideal.ofBits .f32 0x40000000#32 * e) := by
  have a : Ideal.ofBits .f32 0x3A000000#32 = ((1 / 2048 : ℝ) : EReal) := by
    simp [Ideal.ofBits, Ideal.ieee, -EReal.coe_mul]; norm_num
  have b : Ideal.ofBits .f32 0x3F000000#32 = ((1 / 2 : ℝ) : EReal) := by
    simp [Ideal.ofBits, Ideal.ieee, -EReal.coe_mul]; norm_num
  have d : Ideal.ofBits .f32 0x45000000#32 = ((2048 : ℝ) : EReal) := by
    simp [Ideal.ofBits, Ideal.ieee, -EReal.coe_mul]; norm_num
  have f : Ideal.ofBits .f32 0x40000000#32 = ((2 : ℝ) : EReal) := by
    simp [Ideal.ofBits, Ideal.ieee, -EReal.coe_mul]; norm_num
  have q : Ideal.div ((1 / 2 : ℝ) : EReal) ((2048 : ℝ) : EReal) = ((1 / 2 / 2048 : ℝ) : EReal) := by
    simp [Ideal.div]
    rw [div_eq_mul_inv, EReal.coe_mul, EReal.coe_inv, EReal.coe_inv]
  rw [a, b, d, f, Ideal.ofBits_one_f32, mul_one, q, ← mul_assoc, ← EReal.coe_mul, mul_comm]
  norm_num

variable (m : (ℓ : Loc nD τ sig) → Buf (Elt Ideal) ℓ)

/-- Every window's block at grid point `t`: the row tiles move with the point, the sum of squares stands still. -/
theorem idx : ∀ t : Fin cfg0.N,
    win0_0.index t = ![t.val, 0] ∧ win0_1.index t = ![t.val, 0] ∧ win0_2.index t = ![0, 0]
      ∧ win0_3.index t = ![t.val, 0] ∧ win0_4.index t = ![t.val, 0] :=
  (by decide +kernel : ∀ t : Fin grid0.N, _)

/-- The sum of squares, the gradient and its rounded copy, as the reference computes them. -/
abbrev sq (c : Dev nD) := Cert.LossRefIdeal.Read.val_main_v18 (F := Ideal)
  (m ((c : Thread nD τ).loc main_arg0)) (m ((c : Thread nD τ).loc main_arg1))
abbrev dy (c : Dev nD) := Cert.LossRefIdeal.Read.val_main_v14 (F := Ideal)
  (m ((c : Thread nD τ).loc main_arg0)) (m ((c : Thread nD τ).loc main_arg1))
abbrev dyLow (c : Dev nD) := Cert.LossRefIdeal.Read.val_main_v19 (F := Ideal)
  (m ((c : Thread nD τ).loc main_arg0)) (m ((c : Thread nD τ).loc main_arg1))

/-- The reference's gradient at an entry, with the body's constant. -/
theorem grad (y tg : FVec Ideal S2048x2048 .f32) (j : S2048x2048.Idx) :
    Cert.LossRefIdeal.Read.val_main_v14 (F := Ideal) y tg j = (y j - tg j) * Ideal.ofBits .f32 0x3A000000#32 := by
  rw [scale]
  open Cert.LossRefIdeal.Read in
  pointwise [val_main_v0, val_main_cst, val_main_v2, val_main_v3, val_main_cst_4, val_main_cst_5, val_main_v9,
    val_main_v10, val_main_cst_6, val_main_v11, val_main_v12, val_main_v13, val_main_v14]

/-- The body's gradient on one row tile is the reference's at the tile's rows. -/
theorem core (c : Dev nD) (t : Fin cfg0.N) (y : S256x2048.Idx) :
    k0_pay2 (F := Ideal) (iblk m c 0 t) (iblk m c 1 t) y = dy m c (((cfg0.win 3).blk t).view.emb y) := by
  rw [dy, grad]
  pointwise [k0_pay2, k0_pay1]
  blk_point [iblk, V, idx t]

/-- What a grid point leaves in its tile of the gradient, whether or not it is the first point. -/
theorem point3 (c : Dev nD) (t : Fin cfg0.N) (y : S256x2048.Idx) :
    (outsAt0 m c t.val t.isLt).2.1 y = dy m c (((cfg0.win 3).blk t).view.emb y) := by
  by_cases h : 1 ≤ t.val
  · have h0 : ¬t.val % 8 = 0 := by have := lt_of_lt_of_eq t.isLt N_0; omega
    rw [outsAt0_B m c t h0 h]; frame_out
    exact core m c t y
  · rw [outsAt0_A m c t (by omega) h]; frame_out
    exact core m c t y

/-- What a grid point leaves in its tile of the rounded copy: the same entries. -/
theorem point4 (c : Dev nD) (t : Fin cfg0.N) (y : S256x2048.Idx) :
    (outsAt0 m c t.val t.isLt).2.2 y = dyLow m c (((cfg0.win 4).blk t).view.emb y) := by
  have e : ((cfg0.win 4).blk t).view.emb y = ((cfg0.win 3).blk t).view.emb y := by blk_ext [idx t]
  have low : dyLow m c (((cfg0.win 4).blk t).view.emb y) = dy m c (((cfg0.win 3).blk t).view.emb y) := by
    rw [e]; rfl
  rw [low]
  by_cases h : 1 ≤ t.val
  · have h0 : ¬t.val % 8 = 0 := by have := lt_of_lt_of_eq t.isLt N_0; omega
    rw [outsAt0_B m c t h0 h]; frame_out
    exact core m c t y
  · rw [outsAt0_A m c t (by omega) h]; frame_out
    exact core m c t y

/-- The gradient's array after the run. -/
theorem final3 (c : Dev nD) : (dats m 0 c).arrAt 3 (cfgs 0).N = dy m c := by
  refine (dats m 0 c).arrAt_eq_of_covers 3 _ (by decide +kernel) fun t _ y => ?_
  blk_simp
  rw [after0_3]
  exact point3 m c t y

/-- The rounded copy's array after the run. -/
theorem final4 (c : Dev nD) : (dats m 0 c).arrAt 4 (cfgs 0).N = dyLow m c := by
  refine (dats m 0 c).arrAt_eq_of_covers 4 _ (by decide +kernel) fun t _ y => ?_
  blk_simp
  rw [after0_4]
  exact point4 m c t y

/-- One row tile's share of the sum of squares. -/
theorem share (y tg : FVec Ideal S256x2048 .f32) (j : S8x128.Idx) :
    k0_pay4 (F := Ideal) y tg j = ∑ r : Fin 256, ∑ k : Fin 2048,
      (y (ix2 r k) - tg (ix2 r k)) * (y (ix2 r k) - tg (ix2 r k)) := by
  pointwise [k0_pay4, k0_pay1]

/-- The accumulating store adds a tile's share to what the point before left. -/
theorem step (y tg : FVec Ideal S256x2048 .f32) (acc : FVec Ideal S8x128 .f32) (j : S8x128.Idx) :
    k0_pay5 (F := Ideal) y tg acc j = acc j + k0_pay4 (F := Ideal) y tg j := by
  pointwise [k0_pay5]

/-- The reference's sum of squares: over all rows and columns. -/
theorem whole (y tg : FVec Ideal S2048x2048 .f32) (j : S8x128.Idx) :
    Cert.LossRefIdeal.Read.val_main_v18 (F := Ideal) y tg j = ∑ r : Fin 2048, ∑ k : Fin 2048,
      (y (ix2 r k) - tg (ix2 r k)) * (y (ix2 r k) - tg (ix2 r k)) := by
  open Cert.LossRefIdeal.Read in
  pointwise [val_main_v15, val_main_v16, val_main_cst_7, val_main_v17, val_main_v18]

/-- The sum of squares after the run: the tiles' shares add up to the reference's sum over all rows. -/
theorem final2 (c : Dev nD) : (dats m 0 c).arrAt 2 (cfgs 0).N = sq m c := by
  refine (dats m 0 c).arrAt_eq_of_after_last 2 t0_7 (by decide +kernel) _ fun j => ?_
  blk_simp
  rw [after0_2, Pipeline.eq_sum_fin_of_reset_step_apply_last (fun n h => (outsAt0 m c n h).1) 8 (fun _ => 0) _
    (fun t h j => by
      rw [outsAt0_A m c t h (by have := lt_of_lt_of_eq t.isLt N_0; omega)]; frame_out; rw [zero_add, share])
    (fun t h j => by
      rw [outsAt0_B m c t h (by omega)]; frame_out; rw [step, share])
    (le_of_eq N_0) t0_7 rfl j, zero_add]
  refine Eq.trans (α := EReal) ?_ (whole _ _ j).symm
  refine Fin.sum_mul_add_congr fun t r hl => Finset.sum_congr rfl fun k _ => ?_
  blk_point [iblk, V, idx t]

end Cert.Proof.LossValue
-- ==== Proof.LossClaims.lean ====
module

public import proofs.«01_k».proof.Defs
public import proofs.«01_k».proof.Proof.Gen.Loss.Frame
public import proofs.«01_k».proof.Proof.LossValue
public import Idealize.ShloMosaic.Lib.Claim
public import Idealize.ShloMosaic.Lib.Quiescent

/-! # The claims about the loss and its gradient -/

@[expose] public section

set_option maxRecDepth 16384

noncomputable section

namespace Cert.Proof.LossClaims

open Idealize.ShloMosaic Idealize.SL.Sem

/-- The printed kernel runs to the end, leaves its arguments alone and its counters at zero. -/
theorem frame : Cert.quiescent_Loss := fun m ρ _ => Cert.Loss.Gen.frame m ρ

/-- So does its ideal reading. -/
theorem frameIdeal : Cert.quiescent_LossIdeal := fun m ρ _ => Cert.LossIdeal.Gen.frame m ρ

/-- So does the reference. -/
theorem frameRef : Cert.quiescent_LossRefIdeal := fun m ρ _ =>
  (θ_run Cert.LossRefIdeal.defs _ _).mono
    (fun r h => ⟨fun c => (h c).2.2.2, Idealize.ShloMosaic.sem_eq_zero_of_no_sems (by decide) r.2⟩)
    (Cert.LossRefIdeal.Value.run (F := Idealize.ShloMosaic.Ideal) m ρ)

/-- The three arrays the kernel writes are the reference's, at the ideal reading, on all arguments. -/
theorem algebraic : Cert.algebraic_LossIdeal_LossRefIdeal := by
  pair_intro
  · run_from Cert.LossIdeal.Gen.run_main m g
  · refine (θ_run Cert.LossRefIdeal.defs _ _).mono (fun r h c => ?_) (Cert.LossRefIdeal.Value.run m' g')
    obtain ⟨e0, e1⟩ := hagree c
    refine ⟨(h c).1.trans ?_, (h c).2.1.trans ?_, (h c).2.2.1.trans ?_, (h c).2.2.2⟩
    · refine (Cert.LossRefIdeal.Read.val_main_v18_eq ..).trans (Eq.trans ?_ (Cert.Proof.LossValue.final2 m c).symm)
      rw [e0, e1]
    · refine (Cert.LossRefIdeal.Read.val_main_v14_eq ..).trans (Eq.trans ?_ (Cert.Proof.LossValue.final3 m c).symm)
      rw [e0, e1]
    · refine (Cert.LossRefIdeal.Read.val_main_v19_eq ..).trans (Eq.trans ?_ (Cert.Proof.LossValue.final4 m c).symm)
      rw [e0, e1]

end Cert.Proof.LossClaims
-- ==== Proof.OptStep.lean ====
module

public import Idealize.ShloMosaic.Lib.Pipeline.ValueKit

/-! # One AdamW step at one weight: the three numbers it leaves, as functions of the old ones -/

@[expose] public section

noncomputable section

namespace Cert.Proof.OptStep

open Idealize.ShloMosaic

/-- The new first moment. -/
abbrev first (g m : EReal) : EReal := Ideal.ofBits .f32 0x3F666666#32 * m + Ideal.ofBits .f32 0x3DCCCCCD#32 * g

/-- The new second moment. -/
abbrev second (g v : EReal) : EReal := Ideal.ofBits .f32 0x3F7FBE77#32 * v + Ideal.ofBits .f32 0x3A83126F#32 * (g * g)

/-- The change of the weight. -/
abbrev change (w g m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.Proof.OptStep
-- ==== Proof.OptOutValue.lean ====
module

public import proofs.«01_k».proof.Proof.OptStep
public import proofs.«01_k».proof.Proof.Gen.OptOutIdeal.Value
public import proofs.«01_k».proof.Proof.Gen.OptOutRefIdeal.Run
public import proofs.«01_k».proof.Proof.Gen.OptOutRefIdeal.Read

/-! # The optimiser's step on `w_out`: per layer and tile of rows -/

@[expose] public section

set_option maxRecDepth 16384

noncomputable section

namespace Cert.Proof.OptOutValue

open Idealize.ShloMosaic Idealize.ShloMosaic.TcCoe Idealize.SL.Sem
open Cert.OptOutIdeal Cert.OptOutIdeal.Gen Cert.Proof.OptStep

section Body

variable (i : grid0.Coords) (g0 g1 : FVec Ideal S256x2048 .f32) (w m v : FVec Ideal S1x256x2048 .f32) (y : S1x256x2048.Idx)

/-- The body's first moment at an entry. -/
theorem body7 : k0_pay3 (F := Ideal) (k0_pay6 i g0 g1 m) y = first (k0_pay5 (F := Ideal) i g0 g1 (ix2 (y 1) (y 2))) (m y) := by
  pointwise [k0_pay3, k0_pay6]

/-- The body's second moment at an entry. -/
theorem body8 : k0_pay4 (F := Ideal) (k0_pay7 i g0 g1 v) y = second (k0_pay5 (F := Ideal) i g0 g1 (ix2 (y 1) (y 2))) (v y) := by
  pointwise [k0_pay4, k0_pay7]

/-- The body's change of the weight at an entry. -/
theorem body6 : k0_pay2 (F := Ideal) (k0_pay8 i g0 g1 w m v) y
    = change (w y) (k0_pay5 (F := Ideal) i g0 g1 (ix2 (y 1) (y 2))) (m y) (v y) := by
  pointwise [k0_pay2, k0_pay8, k0_pay6, k0_pay7]

end Body

section Reference

open Cert.OptOutRefIdeal.Read

variable (g0 g1 : FVec Ideal S512x2048 .f32) (w m v : FVec Ideal S2x512x2048 .f32) (y : S2x512x2048.Idx)

/-- The reference's first moment at an entry. -/
theorem whole7 : val_main_v7 (F := Ideal) g0 g1 m y = first (val_main_v2 (F := Ideal) g0 g1 y) (m y) := by
  pointwise [val_main_cst, val_main_v3, val_main_v4, val_main_cst_0, val_main_v5, val_main_v6, val_main_v7]

/-- The reference's second moment at an entry. -/
theorem whole8 : val_main_v13 (F := Ideal) g0 g1 v y = second (val_main_v2 (F := Ideal) g0 g1 y) (v y) := by
  pointwise [val_main_cst_1, val_main_v8, val_main_v9, val_main_v10, val_main_cst_2, val_main_v11, val_main_v12,
    val_main_v13]

/-- The reference's change of the weight at an entry. -/
theorem whole6 : val_main_v26 (F := Ideal) g0 g1 w m v y
    = change (w y) (val_main_v2 (F := Ideal) g0 g1 y) (m y) (v y) := by
  pointwise [whole7, whole8, val_main_cst_3, val_main_v14, val_main_v15, val_main_cst_4, val_main_v16, val_main_v17, val_main_v18,
    val_main_cst_5, val_main_v19, val_main_v20, val_main_v21, val_main_cst_6, val_main_v22, val_main_v23, val_main_v24,
    val_main_cst_7, val_main_v25, val_main_v26]

end Reference

variable (m : (ℓ : Loc nD τ sig) → Buf (Elt Ideal) ℓ) (c : Dev nD) (t : Fin cfg0.N)

/-- Every layered window's block at grid point `t`: layer `t / 2`, row tile `t % 2`. -/
theorem idx : ∀ t : Fin cfg0.N, win0_2.index t = ![t.val / 2, t.val % 2, 0] ∧ win0_3.index t = ![t.val / 2, t.val % 2, 0]
      ∧ win0_4.index t = ![t.val / 2, t.val % 2, 0] ∧ win0_5.index t = ![t.val / 2, t.val % 2, 0]
      ∧ win0_6.index t = ![t.val / 2, t.val % 2, 0] ∧ win0_7.index t = ![t.val / 2, t.val % 2, 0]
      ∧ win0_8.index t = ![t.val / 2, t.val % 2, 0] := (by decide +kernel : ∀ t : Fin grid0.N, _)

/-- In the first layer the first gradient's block is the row tile, in the second layer the second gradient's is. -/
theorem idxG : ∀ t : Fin cfg0.N, (t.val < 2 → win0_0.index t = ![t.val % 2, 0])
      ∧ (¬ t.val < 2 → win0_1.index t = ![t.val % 2, 0]) := (by decide +kernel : ∀ t : Fin grid0.N, _)

/-- The body asks for the layer. -/
theorem cond : ∀ t : Fin cfg0.N, (t.val < 2 → Scalar.cmpi .eq (BitVec.ofNat 32 (grid0.coords t 0).val) 0#32 = 1#1)
      ∧ (¬ t.val < 2 → Scalar.cmpi .eq (BitVec.ofNat 32 (grid0.coords t 0).val) 0#32 = 0#1) :=
  (by decide +kernel : ∀ t : Fin grid0.N, _)

/-- The arguments. -/
abbrev g0 := m ((c : Thread nD τ).loc main_arg0)
abbrev g1 := m ((c : Thread nD τ).loc main_arg1)
abbrev w := m ((c : Thread nD τ).loc main_arg2)
abbrev mom := m ((c : Thread nD τ).loc main_arg3)
abbrev sq := m ((c : Thread nD τ).loc main_arg4)

/-- The reference's results. -/
abbrev res5 := Cert.OptOutRefIdeal.Read.val_main_v2 (F := Ideal) (g0 m c) (g1 m c)
abbrev res6 := Cert.OptOutRefIdeal.Read.val_main_v26 (F := Ideal) (g0 m c) (g1 m c) (w m c) (mom m c) (sq m c)
abbrev res7 := Cert.OptOutRefIdeal.Read.val_main_v7 (F := Ideal) (g0 m c) (g1 m c) (mom m c)
abbrev res8 := Cert.OptOutRefIdeal.Read.val_main_v13 (F := Ideal) (g0 m c) (g1 m c) (sq m c)

/-- The layer of a grid point. -/
abbrev lay : Fin 2 := ⟨t.val / 2, by have := lt_of_lt_of_eq t.isLt N_0; omega⟩

/-- The place of a row of its tile. -/
abbrev row (r : Fin 256) : Fin 512 := ⟨t.val % 2 * 256 + r.val, by omega⟩

/-- The gradient the body picks is its layer's. -/
theorem grad (y : S1x256x2048.Idx) : k0_pay5 (F := Ideal) (grid0.coords t) (iblk m c 0 t) (iblk m c 1 t) (ix2 (y 1) (y 2))
    = res5 m c (ix3 (lay t) (row t (y 1)) (y 2)) := by
  have hN := lt_of_lt_of_eq t.isLt N_0
  open Cert.OptOutRefIdeal.Read in
  by_cases h : t.val < 2
  · have hi := (idxG t).1 h
    have hl : t.val / 2 < 1 := by omega
    unfold k0_pay5
    simp only [(cond t).1 h]
    pointwise [val_main_v0, val_main_v1, val_main_v2, hl]
    blk_point [iblk, V, hi]
  · have hi := (idxG t).2 h
    have hl : ¬ t.val / 2 < 1 := by omega
    unfold k0_pay5
    simp only [(cond t).2 h]
    pointwise [val_main_v0, val_main_v1, val_main_v2, hl]
    blk_point [iblk, V, hi]

/-- The blocks of the weight and the two moments. -/
theorem reads (y : S1x256x2048.Idx) : iblk m c 2 t y = w m c (ix3 (lay t) (row t (y 1)) (y 2)) ∧ iblk m c 3 t y = mom m c (ix3 (lay t) (row t (y 1)) (y 2))
    ∧ iblk m c 4 t y = sq m c (ix3 (lay t) (row t (y 1)) (y 2)) := by
  refine ⟨?_, ?_, ?_⟩ <;> blk_point [iblk, V, idx t]

/-- Result array 0 after the run: the two layers' gradients. -/
theorem final5 : (dats m 0 c).arrAt 5 (cfgs 0).N = res5 m c := by
  refine (dats m 0 c).arrAt_eq_of_covers 5 _ (by decide +kernel) fun t _ y => ?_
  blk_simp
  have e : ((cfg0.win 5).blk t).view.emb y = ix3 (lay t) (row t (y 1)) (y 2) := by blk_ext [idx t]
  rw [after0_5]; unfold out0_5; frame_out
  refine Eq.trans ?_ ((grad m c t y).trans (congrArg (res5 m c) e.symm))
  pointwise [k0_pay1]

/-- Result array 1 after the run: the change of the weight. -/
theorem final6 : (dats m 0 c).arrAt 6 (cfgs 0).N = res6 m c := by
  refine (dats m 0 c).arrAt_eq_of_covers 6 _ (by decide +kernel) fun t _ y => ?_
  blk_simp
  have e : ((cfg0.win 6).blk t).view.emb y = ix3 (lay t) (row t (y 1)) (y 2) := by blk_ext [idx t]
  rw [after0_6]; unfold out0_6; frame_out
  refine (body6 _ _ _ _ _ _ y).trans (Eq.trans ?_ ((congrArg (res6 m c) e).trans (whole6 _ _ _ _ _ _)).symm)
  rw [grad m c t y, (reads m c t y).1, (reads m c t y).2.1, (reads m c t y).2.2]
  rfl

/-- Result array 2 after the run: the first moment. -/
theorem final7 : (dats m 0 c).arrAt 7 (cfgs 0).N = res7 m c := by
  refine (dats m 0 c).arrAt_eq_of_covers 7 _ (by decide +kernel) fun t _ y => ?_
  blk_simp
  have e : ((cfg0.win 7).blk t).view.emb y = ix3 (lay t) (row t (y 1)) (y 2) := by blk_ext [idx t]
  rw [after0_7]; unfold out0_7; frame_out
  refine (body7 _ _ _ _ y).trans (Eq.trans ?_ ((congrArg (res7 m c) e).trans (whole7 _ _ _ _)).symm)
  rw [grad m c t y, (reads m c t y).2.1]
  rfl

/-- Result array 3 after the run: the second moment. -/
theorem final8 : (dats m 0 c).arrAt 8 (cfgs 0).N = res8 m c := by
  refine (dats m 0 c).arrAt_eq_of_covers 8 _ (by decide +kernel) fun t _ y => ?_
  blk_simp
  have e : ((cfg0.win 8).blk t).view.emb y = ix3 (lay t) (row t (y 1)) (y 2) := by blk_ext [idx t]
  rw [after0_8]; unfold out0_8; frame_out
  refine (body8 _ _ _ _ y).trans (Eq.trans ?_ ((congrArg (res8 m c) e).trans (whole8 _ _ _ _)).symm)
  rw [grad m c t y, (reads m c t y).2.2]
  rfl

end Cert.Proof.OptOutValue
-- ==== Proof.OptOutClaims.lean ====
module

public import proofs.«01_k».proof.Defs
public import proofs.«01_k».proof.Proof.Gen.OptOut.Frame
public import proofs.«01_k».proof.Proof.OptOutValue
public import Idealize.ShloMosaic.Lib.Claim
public import Idealize.ShloMosaic.Lib.Quiescent

/-! # The claims about the optimiser's step on `w_out` -/

@[expose] public section

set_option maxRecDepth 16384

noncomputable section

namespace Cert.Proof.OptOutClaims

open Idealize.ShloMosaic Idealize.SL.Sem

/-- The printed kernel runs to the end, leaves its arguments alone and its counters at zero. -/
theorem frame : Cert.quiescent_OptOut := fun m ρ _ => Cert.OptOut.Gen.frame m ρ

/-- So does its ideal reading. -/
theorem frameIdeal : Cert.quiescent_OptOutIdeal := fun m ρ _ => Cert.OptOutIdeal.Gen.frame m ρ

/-- So does the reference. -/
theorem frameRef : Cert.quiescent_OptOutRefIdeal := fun m ρ _ =>
  (θ_run Cert.OptOutRefIdeal.defs _ _).mono
    (fun r h => ⟨fun c => (h c).2.2.2.2, Idealize.ShloMosaic.sem_eq_zero_of_no_sems (by decide) r.2⟩)
    (Cert.OptOutRefIdeal.Value.run (F := Idealize.ShloMosaic.Ideal) m ρ)

/-- The four arrays the kernel writes are the reference's, at the ideal reading, on all arguments. -/
theorem algebraic : Cert.algebraic_OptOutIdeal_OptOutRefIdeal := by
  pair_intro
  · run_from Cert.OptOutIdeal.Gen.run_main m g
  · refine (θ_run Cert.OptOutRefIdeal.defs _ _).mono (fun r h c => ?_) (Cert.OptOutRefIdeal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · refine (Cert.OptOutRefIdeal.Read.val_main_v2_eq ..).trans (Eq.trans ?_ (Cert.Proof.OptOutValue.final5 m c).symm)
      rw [e0, e1]
    · refine (Cert.OptOutRefIdeal.Read.val_main_v26_eq ..).trans (Eq.trans ?_ (Cert.Proof.OptOutValue.final6 m c).symm)
      rw [e0, e1, e2, e3, e4]
    · refine (Cert.OptOutRefIdeal.Read.val_main_v7_eq ..).trans (Eq.trans ?_ (Cert.Proof.OptOutValue.final7 m c).symm)
      rw [e0, e1, e3]
    · refine (Cert.OptOutRefIdeal.Read.val_main_v13_eq ..).trans (Eq.trans ?_ (Cert.Proof.OptOutValue.final8 m c).symm)
      rw [e0, e1, e4]

end Cert.Proof.OptOutClaims
-- ==== Proof.OptGateValue.lean ====
module

public import proofs.«01_k».proof.Proof.OptStep
public import proofs.«01_k».proof.Proof.Gen.OptGateIdeal.Value
public import proofs.«01_k».proof.Proof.Gen.OptGateRefIdeal.Run
public import proofs.«01_k».proof.Proof.Gen.OptGateRefIdeal.Read

/-! # The optimiser's step on `w_gate` (and `w_up`): per layer and tile of rows -/

@[expose] public section

set_option maxRecDepth 16384

noncomputable section

namespace Cert.Proof.OptGateValue

open Idealize.ShloMosaic Idealize.ShloMosaic.TcCoe Idealize.SL.Sem
open Cert.OptGateIdeal Cert.OptGateIdeal.Gen Cert.Proof.OptStep

section Body

variable (i : grid0.Coords) (g0 g1 : FVec Ideal S256x1408 .f32) (w m v : FVec Ideal S1x256x1408 .f32) (y : S1x256x1408.Idx)

/-- The body's first moment at an entry. -/
theorem body7 : k0_pay3 (F := Ideal) (k0_pay6 i g0 g1 m) y = first (k0_pay5 (F := Ideal) i g0 g1 (ix2 (y 1) (y 2))) (m y) := by
  pointwise [k0_pay3, k0_pay6]

/-- The body's second moment at an entry. -/
theorem body8 : k0_pay4 (F := Ideal) (k0_pay7 i g0 g1 v) y = second (k0_pay5 (F := Ideal) i g0 g1 (ix2 (y 1) (y 2))) (v y) := by
  pointwise [k0_pay4, k0_pay7]

/-- The body's change of the weight at an entry. -/
theorem body6 : k0_pay2 (F := Ideal) (k0_pay8 i g0 g1 w m v) y
    = change (w y) (k0_pay5 (F := Ideal) i g0 g1 (ix2 (y 1) (y 2))) (m y) (v y) := by
  pointwise [k0_pay2, k0_pay8, k0_pay6, k0_pay7]

end Body

section Reference

open Cert.OptGateRefIdeal.Read

variable (g0 g1 : FVec Ideal S2048x1408 .f32) (w m v : FVec Ideal S2x2048x1408 .f32) (y : S2x2048x1408.Idx)

/-- The reference's first moment at an entry. -/
theorem whole7 : val_main_v7 (F := Ideal) g0 g1 m y = first (val_main_v2 (F := Ideal) g0 g1 y) (m y) := by
  pointwise [val_main_cst, val_main_v3, val_main_v4, val_main_cst_0, val_main_v5, val_main_v6, val_main_v7]

/-- The reference's second moment at an entry. -/
theorem whole8 : val_main_v13 (F := Ideal) g0 g1 v y = second (val_main_v2 (F := Ideal) g0 g1 y) (v y) := by
  pointwise [val_main_cst_1, val_main_v8, val_main_v9, val_main_v10, val_main_cst_2, val_main_v11, val_main_v12,
    val_main_v13]

/-- The reference's change of the weight at an entry. -/
theorem whole6 : val_main_v26 (F := Ideal) g0 g1 w m v y
    = change (w y) (val_main_v2 (F := Ideal) g0 g1 y) (m y) (v y) := by
  pointwise [whole7, whole8, val_main_cst_3, val_main_v14, val_main_v15, val_main_cst_4, val_main_v16, val_main_v17, val_main_v18,
    val_main_cst_5, val_main_v19, val_main_v20, val_main_v21, val_main_cst_6, val_main_v22, val_main_v23, val_main_v24,
    val_main_cst_7, val_main_v25, val_main_v26]

end Reference

variable (m : (ℓ : Loc nD τ sig) → Buf (Elt Ideal) ℓ) (c : Dev nD) (t : Fin cfg0.N)

/-- Every layered window's block at grid point `t`: layer `t / 8`, row tile `t % 8`. -/
theorem idx : ∀ t : Fin cfg0.N, win0_2.index t = ![t.val / 8, t.val % 8, 0] ∧ win0_3.index t = ![t.val / 8, t.val % 8, 0]
      ∧ win0_4.index t = ![t.val / 8, t.val % 8, 0] ∧ win0_5.index t = ![t.val / 8, t.val % 8, 0]
      ∧ win0_6.index t = ![t.val / 8, t.val % 8, 0] ∧ win0_7.index t = ![t.val / 8, t.val % 8, 0]
      ∧ win0_8.index t = ![t.val / 8, t.val % 8, 0] := (by decide +kernel : ∀ t : Fin grid0.N, _)

/-- In the first layer the first gradient's block is the row tile, in the second layer the second gradient's is. -/
theorem idxG : ∀ t : Fin cfg0.N, (t.val < 8 → win0_0.index t = ![t.val % 8, 0])
      ∧ (¬ t.val < 8 → win0_1.index t = ![t.val % 8, 0]) := (by decide +kernel : ∀ t : Fin grid0.N, _)

/-- The body asks for the layer. -/
theorem cond : ∀ t : Fin cfg0.N, (t.val < 8 → Scalar.cmpi .eq (BitVec.ofNat 32 (grid0.coords t 0).val) 0#32 = 1#1)
      ∧ (¬ t.val < 8 → Scalar.cmpi .eq (BitVec.ofNat 32 (grid0.coords t 0).val) 0#32 = 0#1) :=
  (by decide +kernel : ∀ t : Fin grid0.N, _)

/-- The arguments. -/
abbrev g0 := m ((c : Thread nD τ).loc main_arg0)
abbrev g1 := m ((c : Thread nD τ).loc main_arg1)
abbrev w := m ((c : Thread nD τ).loc main_arg2)
abbrev mom := m ((c : Thread nD τ).loc main_arg3)
abbrev sq := m ((c : Thread nD τ).loc main_arg4)

/-- The reference's results. -/
abbrev res5 := Cert.OptGateRefIdeal.Read.val_main_v2 (F := Ideal) (g0 m c) (g1 m c)
abbrev res6 := Cert.OptGateRefIdeal.Read.val_main_v26 (F := Ideal) (g0 m c) (g1 m c) (w m c) (mom m c) (sq m c)
abbrev res7 := Cert.OptGateRefIdeal.Read.val_main_v7 (F := Ideal) (g0 m c) (g1 m c) (mom m c)
abbrev res8 := Cert.OptGateRefIdeal.Read.val_main_v13 (F := Ideal) (g0 m c) (g1 m c) (sq m c)

/-- The layer of a grid point. -/
abbrev lay : Fin 2 := ⟨t.val / 8, by have := lt_of_lt_of_eq t.isLt N_0; omega⟩

/-- The place of a row of its tile. -/
abbrev row (r : Fin 256) : Fin 2048 := ⟨t.val % 8 * 256 + r.val, by omega⟩

/-- The gradient the body picks is its layer's. -/
theorem grad (y : S1x256x1408.Idx) : k0_pay5 (F := Ideal) (grid0.coords t) (iblk m c 0 t) (iblk m c 1 t) (ix2 (y 1) (y 2))
    = res5 m c (ix3 (lay t) (row t (y 1)) (y 2)) := by
  have hN := lt_of_lt_of_eq t.isLt N_0
  open Cert.OptGateRefIdeal.Read in
  by_cases h : t.val < 8
  · have hi := (idxG t).1 h
    have hl : t.val / 8 < 1 := by omega
    unfold k0_pay5
    simp only [(cond t).1 h]
    pointwise [val_main_v0, val_main_v1, val_main_v2, hl]
    blk_point [iblk, V, hi]
  · have hi := (idxG t).2 h
    have hl : ¬ t.val / 8 < 1 := by omega
    unfold k0_pay5
    simp only [(cond t).2 h]
    pointwise [val_main_v0, val_main_v1, val_main_v2, hl]
    blk_point [iblk, V, hi]

/-- The blocks of the weight and the two moments. -/
theorem reads (y : S1x256x1408.Idx) : iblk m c 2 t y = w m c (ix3 (lay t) (row t (y 1)) (y 2)) ∧ iblk m c 3 t y = mom m c (ix3 (lay t) (row t (y 1)) (y 2))
    ∧ iblk m c 4 t y = sq m c (ix3 (lay t) (row t (y 1)) (y 2)) := by
  refine ⟨?_, ?_, ?_⟩ <;> blk_point [iblk, V, idx t]

/-- Result array 0 after the run: the two layers' gradients. -/
theorem final5 : (dats m 0 c).arrAt 5 (cfgs 0).N = res5 m c := by
  refine (dats m 0 c).arrAt_eq_of_covers 5 _ (by decide +kernel) fun t _ y => ?_
  blk_simp
  have e : ((cfg0.win 5).blk t).view.emb y = ix3 (lay t) (row t (y 1)) (y 2) := by blk_ext [idx t]
  rw [after0_5]; unfold out0_5; frame_out
  refine Eq.trans ?_ ((grad m c t y).trans (congrArg (res5 m c) e.symm))
  pointwise [k0_pay1]

/-- Result array 1 after the run: the change of the weight. -/
theorem final6 : (dats m 0 c).arrAt 6 (cfgs 0).N = res6 m c := by
  refine (dats m 0 c).arrAt_eq_of_covers 6 _ (by decide +kernel) fun t _ y => ?_
  blk_simp
  have e : ((cfg0.win 6).blk t).view.emb y = ix3 (lay t) (row t (y 1)) (y 2) := by blk_ext [idx t]
  rw [after0_6]; unfold out0_6; frame_out
  refine (body6 _ _ _ _ _ _ y).trans (Eq.trans ?_ ((congrArg (res6 m c) e).trans (whole6 _ _ _ _ _ _)).symm)
  rw [grad m c t y, (reads m c t y).1, (reads m c t y).2.1, (reads m c t y).2.2]
  rfl

/-- Result array 2 after the run: the first moment. -/
theorem final7 : (dats m 0 c).arrAt 7 (cfgs 0).N = res7 m c := by
  refine (dats m 0 c).arrAt_eq_of_covers 7 _ (by decide +kernel) fun t _ y => ?_
  blk_simp
  have e : ((cfg0.win 7).blk t).view.emb y = ix3 (lay t) (row t (y 1)) (y 2) := by blk_ext [idx t]
  rw [after0_7]; unfold out0_7; frame_out
  refine (body7 _ _ _ _ y).trans (Eq.trans ?_ ((congrArg (res7 m c) e).trans (whole7 _ _ _ _)).symm)
  rw [grad m c t y, (reads m c t y).2.1]
  rfl

/-- Result array 3 after the run: the second moment. -/
theorem final8 : (dats m 0 c).arrAt 8 (cfgs 0).N = res8 m c := by
  refine (dats m 0 c).arrAt_eq_of_covers 8 _ (by decide +kernel) fun t _ y => ?_
  blk_simp
  have e : ((cfg0.win 8).blk t).view.emb y = ix3 (lay t) (row t (y 1)) (y 2) := by blk_ext [idx t]
  rw [after0_8]; unfold out0_8; frame_out
  refine (body8 _ _ _ _ y).trans (Eq.trans ?_ ((congrArg (res8 m c) e).trans (whole8 _ _ _ _)).symm)
  rw [grad m c t y, (reads m c t y).2.2]
  rfl

end Cert.Proof.OptGateValue
-- ==== Proof.OptGateClaims.lean ====
module

public import proofs.«01_k».proof.Defs
public import proofs.«01_k».proof.Proof.Gen.OptGate.Frame
public import proofs.«01_k».proof.Proof.OptGateValue
public import Idealize.ShloMosaic.Lib.Claim
public import Idealize.ShloMosaic.Lib.Quiescent

/-! # The claims about the optimiser's step on `w_gate` or `w_up` -/

@[expose] public section

set_option maxRecDepth 16384

noncomputable section

namespace Cert.Proof.OptGateClaims

open Idealize.ShloMosaic Idealize.SL.Sem

/-- The printed kernel runs to the end, leaves its arguments alone and its counters at zero. -/
theorem frame : Cert.quiescent_OptGate := fun m ρ _ => Cert.OptGate.Gen.frame m ρ

/-- So does its ideal reading. -/
theorem frameIdeal : Cert.quiescent_OptGateIdeal := fun m ρ _ => Cert.OptGateIdeal.Gen.frame m ρ

/-- So does the reference. -/
theorem frameRef : Cert.quiescent_OptGateRefIdeal := fun m ρ _ =>
  (θ_run Cert.OptGateRefIdeal.defs _ _).mono
    (fun r h => ⟨fun c => (h c).2.2.2.2, Idealize.ShloMosaic.sem_eq_zero_of_no_sems (by decide) r.2⟩)
    (Cert.OptGateRefIdeal.Value.run (F := Idealize.ShloMosaic.Ideal) m ρ)

/-- The four arrays the kernel writes are the reference's, at the ideal reading, on all arguments. -/
theorem algebraic : Cert.algebraic_OptGateIdeal_OptGateRefIdeal := by
  pair_intro
  · run_from Cert.OptGateIdeal.Gen.run_main m g
  · refine (θ_run Cert.OptGateRefIdeal.defs _ _).mono (fun r h c => ?_) (Cert.OptGateRefIdeal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · refine (Cert.OptGateRefIdeal.Read.val_main_v2_eq ..).trans (Eq.trans ?_ (Cert.Proof.OptGateValue.final5 m c).symm)
      rw [e0, e1]
    · refine (Cert.OptGateRefIdeal.Read.val_main_v26_eq ..).trans (Eq.trans ?_ (Cert.Proof.OptGateValue.final6 m c).symm)
      rw [e0, e1, e2, e3, e4]
    · refine (Cert.OptGateRefIdeal.Read.val_main_v7_eq ..).trans (Eq.trans ?_ (Cert.Proof.OptGateValue.final7 m c).symm)
      rw [e0, e1, e3]
    · refine (Cert.OptGateRefIdeal.Read.val_main_v13_eq ..).trans (Eq.trans ?_ (Cert.Proof.OptGateValue.final8 m c).symm)
      rw [e0, e1, e4]

end Cert.Proof.OptGateClaims
-- ==== Proof.OptDownValue.lean ====
module

public import proofs.«01_k».proof.Proof.OptStep
public import proofs.«01_k».proof.Proof.Gen.OptDownIdeal.Value
public import proofs.«01_k».proof.Proof.Gen.OptDownRefIdeal.Run
public import proofs.«01_k».proof.Proof.Gen.OptDownRefIdeal.Read

/-! # The optimiser's step on `w_down`: per layer and tile of rows -/

@[expose] public section

set_option maxRecDepth 16384

noncomputable section

namespace Cert.Proof.OptDownValue

open Idealize.ShloMosaic Idealize.ShloMosaic.TcCoe Idealize.SL.Sem
open Cert.OptDownIdeal Cert.OptDownIdeal.Gen Cert.Proof.OptStep

section Body

variable (i : grid0.Coords) (g0 g1 : FVec Ideal S128x2048 .f32) (w m v : FVec Ideal S1x128x2048 .f32) (y : S1x128x2048.Idx)

/-- The body's first moment at an entry. -/
theorem body7 : k0_pay3 (F := Ideal) (k0_pay6 i g0 g1 m) y = first (k0_pay5 (F := Ideal) i g0 g1 (ix2 (y 1) (y 2))) (m y) := by
  pointwise [k0_pay3, k0_pay6]

/-- The body's second moment at an entry. -/
theorem body8 : k0_pay4 (F := Ideal) (k0_pay7 i g0 g1 v) y = second (k0_pay5 (F := Ideal) i g0 g1 (ix2 (y 1) (y 2))) (v y) := by
  pointwise [k0_pay4, k0_pay7]

/-- The body's change of the weight at an entry. -/
theorem body6 : k0_pay2 (F := Ideal) (k0_pay8 i g0 g1 w m v) y
    = change (w y) (k0_pay5 (F := Ideal) i g0 g1 (ix2 (y 1) (y 2))) (m y) (v y) := by
  pointwise [k0_pay2, k0_pay8, k0_pay6, k0_pay7]

end Body

section Reference

open Cert.OptDownRefIdeal.Read

variable (g0 g1 : FVec Ideal S1408x2048 .f32) (w m v : FVec Ideal S2x1408x2048 .f32) (y : S2x1408x2048.Idx)

/-- The reference's first moment at an entry. -/
theorem whole7 : val_main_v7 (F := Ideal) g0 g1 m y = first (val_main_v2 (F := Ideal) g0 g1 y) (m y) := by
  pointwise [val_main_cst, val_main_v3, val_main_v4, val_main_cst_0, val_main_v5, val_main_v6, val_main_v7]

/-- The reference's second moment at an entry. -/
theorem whole8 : val_main_v13 (F := Ideal) g0 g1 v y = second (val_main_v2 (F := Ideal) g0 g1 y) (v y) := by
  pointwise [val_main_cst_1, val_main_v8, val_main_v9, val_main_v10, val_main_cst_2, val_main_v11, val_main_v12,
    val_main_v13]

/-- The reference's change of the weight at an entry. -/
theorem whole6 : val_main_v26 (F := Ideal) g0 g1 w m v y
    = change (w y) (val_main_v2 (F := Ideal) g0 g1 y) (m y) (v y) := by
  pointwise [whole7, whole8, val_main_cst_3, val_main_v14, val_main_v15, val_main_cst_4, val_main_v16, val_main_v17, val_main_v18,
    val_main_cst_5, val_main_v19, val_main_v20, val_main_v21, val_main_cst_6, val_main_v22, val_main_v23, val_main_v24,
    val_main_cst_7, val_main_v25, val_main_v26]

end Reference

variable (m : (ℓ : Loc nD τ sig) → Buf (Elt Ideal) ℓ) (c : Dev nD) (t : Fin cfg0.N)

/-- Every layered window's block at grid point `t`: layer `t / 11`, row tile `t % 11`. -/
theorem idx : ∀ t : Fin cfg0.N, win0_2.index t = ![t.val / 11, t.val % 11, 0] ∧ win0_3.index t = ![t.val / 11, t.val % 11, 0]
      ∧ win0_4.index t = ![t.val / 11, t.val % 11, 0] ∧ win0_5.index t = ![t.val / 11, t.val % 11, 0]
      ∧ win0_6.index t = ![t.val / 11, t.val % 11, 0] ∧ win0_7.index t = ![t.val / 11, t.val % 11, 0]
      ∧ win0_8.index t = ![t.val / 11, t.val % 11, 0] := (by decide +kernel : ∀ t : Fin grid0.N, _)

/-- In the first layer the first gradient's block is the row tile, in the second layer the second gradient's is. -/
theorem idxG : ∀ t : Fin cfg0.N, (t.val < 11 → win0_0.index t = ![t.val % 11, 0])
      ∧ (¬ t.val < 11 → win0_1.index t = ![t.val % 11, 0]) := (by decide +kernel : ∀ t : Fin grid0.N, _)

/-- The body asks for the layer. -/
theorem cond : ∀ t : Fin cfg0.N, (t.val < 11 → Scalar.cmpi .eq (BitVec.ofNat 32 (grid0.coords t 0).val) 0#32 = 1#1)
      ∧ (¬ t.val < 11 → Scalar.cmpi .eq (BitVec.ofNat 32 (grid0.coords t 0).val) 0#32 = 0#1) :=
  (by decide +kernel : ∀ t : Fin grid0.N, _)

/-- The arguments. -/
abbrev g0 := m ((c : Thread nD τ).loc main_arg0)
abbrev g1 := m ((c : Thread nD τ).loc main_arg1)
abbrev w := m ((c : Thread nD τ).loc main_arg2)
abbrev mom := m ((c : Thread nD τ).loc main_arg3)
abbrev sq := m ((c : Thread nD τ).loc main_arg4)

/-- The reference's results. -/
abbrev res5 := Cert.OptDownRefIdeal.Read.val_main_v2 (F := Ideal) (g0 m c) (g1 m c)
abbrev res6 := Cert.OptDownRefIdeal.Read.val_main_v26 (F := Ideal) (g0 m c) (g1 m c) (w m c) (mom m c) (sq m c)
abbrev res7 := Cert.OptDownRefIdeal.Read.val_main_v7 (F := Ideal) (g0 m c) (g1 m c) (mom m c)
abbrev res8 := Cert.OptDownRefIdeal.Read.val_main_v13 (F := Ideal) (g0 m c) (g1 m c) (sq m c)

/-- The layer of a grid point. -/
abbrev lay : Fin 2 := ⟨t.val / 11, by have := lt_of_lt_of_eq t.isLt N_0; omega⟩

/-- The place of a row of its tile. -/
abbrev row (r : Fin 128) : Fin 1408 := ⟨t.val % 11 * 128 + r.val, by omega⟩

/-- The gradient the body picks is its layer's. -/
theorem grad (y : S1x128x2048.Idx) : k0_pay5 (F := Ideal) (grid0.coords t) (iblk m c 0 t) (iblk m c 1 t) (ix2 (y 1) (y 2))
    = res5 m c (ix3 (lay t) (row t (y 1)) (y 2)) := by
  have hN := lt_of_lt_of_eq t.isLt N_0
  open Cert.OptDownRefIdeal.Read in
  by_cases h : t.val < 11
  · have hi := (idxG t).1 h
    have hl : t.val / 11 < 1 := by omega
    unfold k0_pay5
    simp only [(cond t).1 h]
    pointwise [val_main_v0, val_main_v1, val_main_v2, hl]
    blk_point [iblk, V, hi]
  · have hi := (idxG t).2 h
    have hl : ¬ t.val / 11 < 1 := by omega
    unfold k0_pay5
    simp only [(cond t).2 h]
    pointwise [val_main_v0, val_main_v1, val_main_v2, hl]
    blk_point [iblk, V, hi]

/-- The blocks of the weight and the two moments. -/
theorem reads (y : S1x128x2048.Idx) : iblk m c 2 t y = w m c (ix3 (lay t) (row t (y 1)) (y 2)) ∧ iblk m c 3 t y = mom m c (ix3 (lay t) (row t (y 1)) (y 2))
    ∧ iblk m c 4 t y = sq m c (ix3 (lay t) (row t (y 1)) (y 2)) := by
  refine ⟨?_, ?_, ?_⟩ <;> blk_point [iblk, V, idx t]

/-- Result array 0 after the run: the two layers' gradients. -/
theorem final5 : (dats m 0 c).arrAt 5 (cfgs 0).N = res5 m c := by
  refine (dats m 0 c).arrAt_eq_of_covers 5 _ (by decide +kernel) fun t _ y => ?_
  blk_simp
  have e : ((cfg0.win 5).blk t).view.emb y = ix3 (lay t) (row t (y 1)) (y 2) := by blk_ext [idx t]
  rw [after0_5]; unfold out0_5; frame_out
  refine Eq.trans ?_ ((grad m c t y).trans (congrArg (res5 m c) e.symm))
  pointwise [k0_pay1]

/-- Result array 1 after the run: the change of the weight. -/
theorem final6 : (dats m 0 c).arrAt 6 (cfgs 0).N = res6 m c := by
  refine (dats m 0 c).arrAt_eq_of_covers 6 _ (by decide +kernel) fun t _ y => ?_
  blk_simp
  have e : ((cfg0.win 6).blk t).view.emb y = ix3 (lay t) (row t (y 1)) (y 2) := by blk_ext [idx t]
  rw [after0_6]; unfold out0_6; frame_out
  refine (body6 _ _ _ _ _ _ y).trans (Eq.trans ?_ ((congrArg (res6 m c) e).trans (whole6 _ _ _ _ _ _)).symm)
  rw [grad m c t y, (reads m c t y).1, (reads m c t y).2.1, (reads m c t y).2.2]
  rfl

/-- Result array 2 after the run: the first moment. -/
theorem final7 : (dats m 0 c).arrAt 7 (cfgs 0).N = res7 m c := by
  refine (dats m 0 c).arrAt_eq_of_covers 7 _ (by decide +kernel) fun t _ y => ?_
  blk_simp
  have e : ((cfg0.win 7).blk t).view.emb y = ix3 (lay t) (row t (y 1)) (y 2) := by blk_ext [idx t]
  rw [after0_7]; unfold out0_7; frame_out
  refine (body7 _ _ _ _ y).trans (Eq.trans ?_ ((congrArg (res7 m c) e).trans (whole7 _ _ _ _)).symm)
  rw [grad m c t y, (reads m c t y).2.1]
  rfl

/-- Result array 3 after the run: the second moment. -/
theorem final8 : (dats m 0 c).arrAt 8 (cfgs 0).N = res8 m c := by
  refine (dats m 0 c).arrAt_eq_of_covers 8 _ (by decide +kernel) fun t _ y => ?_
  blk_simp
  have e : ((cfg0.win 8).blk t).view.emb y = ix3 (lay t) (row t (y 1)) (y 2) := by blk_ext [idx t]
  rw [after0_8]; unfold out0_8; frame_out
  refine (body8 _ _ _ _ y).trans (Eq.trans ?_ ((congrArg (res8 m c) e).trans (whole8 _ _ _ _)).symm)
  rw [grad m c t y, (reads m c t y).2.2]
  rfl

end Cert.Proof.OptDownValue
-- ==== Proof.OptDownClaims.lean ====
module

public import proofs.«01_k».proof.Defs
public import proofs.«01_k».proof.Proof.Gen.OptDown.Frame
public import proofs.«01_k».proof.Proof.OptDownValue
public import Idealize.ShloMosaic.Lib.Claim
public import Idealize.ShloMosaic.Lib.Quiescent

/-! # The claims about the optimiser's step on `w_down` -/

@[expose] public section

set_option maxRecDepth 16384

noncomputable section

namespace Cert.Proof.OptDownClaims

open Idealize.ShloMosaic Idealize.SL.Sem

/-- The printed kernel runs to the end, leaves its arguments alone and its counters at zero. -/
theorem frame : Cert.quiescent_OptDown := fun m ρ _ => Cert.OptDown.Gen.frame m ρ

/-- So does its ideal reading. -/
theorem frameIdeal : Cert.quiescent_OptDownIdeal := fun m ρ _ => Cert.OptDownIdeal.Gen.frame m ρ

/-- So does the reference. -/
theorem frameRef : Cert.quiescent_OptDownRefIdeal := fun m ρ _ =>
  (θ_run Cert.OptDownRefIdeal.defs _ _).mono
    (fun r h => ⟨fun c => (h c).2.2.2.2, Idealize.ShloMosaic.sem_eq_zero_of_no_sems (by decide) r.2⟩)
    (Cert.OptDownRefIdeal.Value.run (F := Idealize.ShloMosaic.Ideal) m ρ)

/-- The four arrays the kernel writes are the reference's, at the ideal reading, on all arguments. -/
theorem algebraic : Cert.algebraic_OptDownIdeal_OptDownRefIdeal := by
  pair_intro
  · run_from Cert.OptDownIdeal.Gen.run_main m g
  · refine (θ_run Cert.OptDownRefIdeal.defs _ _).mono (fun r h c => ?_) (Cert.OptDownRefIdeal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · refine (Cert.OptDownRefIdeal.Read.val_main_v2_eq ..).trans (Eq.trans ?_ (Cert.Proof.OptDownValue.final5 m c).symm)
      rw [e0, e1]
    · refine (Cert.OptDownRefIdeal.Read.val_main_v26_eq ..).trans (Eq.trans ?_ (Cert.Proof.OptDownValue.final6 m c).symm)
      rw [e0, e1, e2, e3, e4]
    · refine (Cert.OptDownRefIdeal.Read.val_main_v7_eq ..).trans (Eq.trans ?_ (Cert.Proof.OptDownValue.final7 m c).symm)
      rw [e0, e1, e3]
    · refine (Cert.OptDownRefIdeal.Read.val_main_v13_eq ..).trans (Eq.trans ?_ (Cert.Proof.OptDownValue.final8 m c).symm)
      rw [e0, e1, e4]

end Cert.Proof.OptDownClaims
-- ==== Proof.Sum8Value.lean ====
module

public import proofs.«01_k».proof.Proof.Gen.Sum8Ideal.Value
public import proofs.«01_k».proof.Proof.Gen.Sum8RefIdeal.Run
public import proofs.«01_k».proof.Proof.Gen.Sum8RefIdeal.Read
public import Idealize.ShloMosaic.Lib.Pipeline.ValueKit

/-! # The eight devices' small gradients: the parts of the stacked array added up -/

@[expose] public section

set_option maxRecDepth 16384

noncomputable section

namespace Cert.Proof.Sum8Value

open Idealize.ShloMosaic Idealize.ShloMosaic.TcCoe Idealize.SL.Sem
open Cert.Sum8Ideal Cert.Sum8Ideal.Gen

variable (m : (ℓ : Loc nD τ sig) → Buf (Elt Ideal) ℓ) (c : Dev nD)

/-- Both windows stay at the origin. -/
theorem idx : ∀ t : Fin cfg0.N, win0_0.index t = ![0, 0] ∧ win0_1.index t = ![0, 0] :=
  (by decide +kernel : ∀ t : Fin grid0.N, _)

/-- The reference's sum over the devices. -/
abbrev total := Cert.Sum8RefIdeal.Read.val_main_v1 (F := Ideal) (m ((c : Thread nD τ).loc main_arg0))

/-- A row of a device's part, by its place in the stack. -/
abbrev row (d : Fin 8) (r : Fin 1224) : Fin 9792 := ⟨d.val * 1224 + r.val, by omega⟩

/-- The reference's sum at an entry: one summand per device. -/
theorem whole (x : FVec Ideal S9792x128 .f32) (y : S1224x128.Idx) :
    Cert.Sum8RefIdeal.Read.val_main_v1 (F := Ideal) x y = ∑ d : Fin 8, x (ix2 (row d (y 0)) (y 1)) := by
  open Cert.Sum8RefIdeal.Read in
  pointwise [val_main_v0, val_main_cst, val_main_v1]

/-- The result array after the run. -/
theorem final1 : (dats m 0 c).arrAt 1 (cfgs 0).N = total m c := by
  refine (dats m 0 c).arrAt_eq_of_covers 1 _ (by decide +kernel) fun t _ y => ?_
  blk_simp
  have e : ((cfg0.win 1).blk t).view.emb y = y := by blk_ext [idx t]
  rw [after0_1]; unfold out0_1; frame_out
  refine Eq.trans ?_ ((congrArg (total m c) e).trans ((whole _ y).trans (Fin.sum_univ_eight _))).symm
  pointwise [k0_pay1]
  blk_point [iblk, V, idx t]

end Cert.Proof.Sum8Value
-- ==== Proof.Sum8Claims.lean ====
module

public import proofs.«01_k».proof.Defs
public import proofs.«01_k».proof.Proof.Gen.Sum8.Frame
public import proofs.«01_k».proof.Proof.Sum8Value
public import Idealize.ShloMosaic.Lib.Claim
public import Idealize.ShloMosaic.Lib.Quiescent

/-! # The claims about the sum of the devices' small gradients -/

@[expose] public section

set_option maxRecDepth 16384

noncomputable section

namespace Cert.Proof.Sum8Claims

open Idealize.ShloMosaic Idealize.SL.Sem

/-- The printed kernel runs to the end, leaves its arguments alone and its counters at zero. -/
theorem frame : Cert.quiescent_Sum8 := fun m ρ _ => Cert.Sum8.Gen.frame m ρ

/-- So does its ideal reading. -/
theorem frameIdeal : Cert.quiescent_Sum8Ideal := fun m ρ _ => Cert.Sum8Ideal.Gen.frame m ρ

/-- So does the reference. -/
theorem frameRef : Cert.quiescent_Sum8RefIdeal := fun m ρ _ =>
  (θ_run Cert.Sum8RefIdeal.defs _ _).mono
    (fun r h => ⟨fun c => (h c).2, Idealize.ShloMosaic.sem_eq_zero_of_no_sems (by decide) r.2⟩)
    (Cert.Sum8RefIdeal.Value.run (F := Idealize.ShloMosaic.Ideal) m ρ)

/-- The array the kernel writes is the reference's, at the ideal reading, on all arguments. -/
theorem algebraic : Cert.algebraic_Sum8Ideal_Sum8RefIdeal := by
  pair_intro
  · run_from Cert.Sum8Ideal.Gen.run_main m g
  · refine (θ_run Cert.Sum8RefIdeal.defs _ _).mono (fun r h c => ?_) (Cert.Sum8RefIdeal.Value.run m' g')
    have e0 := hagree c
    refine ⟨(h c).1.trans ?_, (h c).2⟩
    · refine (Cert.Sum8RefIdeal.Read.val_main_v1_eq ..).trans (Eq.trans ?_ (Cert.Proof.Sum8Value.final1 m c).symm)
      rw [e0]

end Cert.Proof.Sum8Claims
-- ==== Proof.OptSmallValue.lean ====
module

public import proofs.«01_k».proof.Proof.OptStep
public import proofs.«01_k».proof.Proof.Gen.OptSmallIdeal.Value
public import proofs.«01_k».proof.Proof.Gen.OptSmallRefIdeal.Run
public import proofs.«01_k».proof.Proof.Gen.OptSmallRefIdeal.Read
public import Idealize.ShloMosaic.Lib.Pipeline.ValueKit

/-! # The optimiser's step on the eleven small weights, all in one packed array -/

@[expose] public section

set_option maxRecDepth 16384

noncomputable section

namespace Cert.Proof.OptSmallValue

open Idealize.ShloMosaic Idealize.ShloMosaic.TcCoe Idealize.SL.Sem
open Cert.OptSmallIdeal Cert.OptSmallIdeal.Gen Cert.Proof.OptStep

section Body

variable (w g m v : FVec Ideal S1160x128 .f32) (y : S1160x128.Idx)

/-- The body's first moment at an entry. -/
theorem body5 : k0_pay1 (F := Ideal) g m y = first (g y) (m y) := by
  pointwise [k0_pay1]

/-- The body's second moment at an entry. -/
theorem body6 : k0_pay2 (F := Ideal) g v y = second (g y) (v y) := by
  pointwise [k0_pay2]

/-- The body's change of the weight at an entry. -/
theorem body4 : k0_pay3 (F := Ideal) w g m v y = change (w y) (g y) (m y) (v y) := by
  pointwise [k0_pay3, k0_pay1, k0_pay2]

open Cert.OptSmallRefIdeal.Read

/-- The reference's first moment at an entry. -/
theorem whole5 : val_main_v4 (F := Ideal) g m y = first (g y) (m y) := by
  pointwise [val_main_cst, val_main_v0, val_main_v1, val_main_cst_0, val_main_v2, val_main_v3, val_main_v4]

/-- The reference's second moment at an entry. -/
theorem whole6 : val_main_v10 (F := Ideal) g v y = second (g y) (v y) := by
  pointwise [val_main_cst_1, val_main_v5, val_main_v6, val_main_v7, val_main_cst_2, val_main_v8, val_main_v9, val_main_v10]

/-- The reference's change of the weight at an entry. -/
theorem whole4 : val_main_v23 (F := Ideal) g w m v y = change (w y) (g y) (m y) (v y) := by
  pointwise [whole5, whole6, val_main_cst_3, val_main_v11, val_main_v12, val_main_cst_4, val_main_v13, val_main_v14,
    val_main_v15, val_main_cst_5, val_main_v16, val_main_v17, val_main_v18, val_main_cst_6, val_main_v19, val_main_v20,
    val_main_v21, val_main_cst_7, val_main_v22, val_main_v23]

end Body

variable (m : (ℓ : Loc nD τ sig) → Buf (Elt Ideal) ℓ) (c : Dev nD) (t : Fin cfg0.N)

/-- Every window stays at the origin. -/
theorem idx : ∀ t : Fin cfg0.N, win0_0.index t = ![0, 0] ∧ win0_1.index t = ![0, 0] ∧ win0_2.index t = ![0, 0]
      ∧ win0_3.index t = ![0, 0] ∧ win0_4.index t = ![0, 0] ∧ win0_5.index t = ![0, 0] ∧ win0_6.index t = ![0, 0] :=
  (by decide +kernel : ∀ t : Fin grid0.N, _)

/-- The arguments. -/
abbrev g := m ((c : Thread nD τ).loc main_arg0)
abbrev w := m ((c : Thread nD τ).loc main_arg1)
abbrev mom := m ((c : Thread nD τ).loc main_arg2)
abbrev sq := m ((c : Thread nD τ).loc main_arg3)

/-- The reference's results. -/
abbrev res4 := Cert.OptSmallRefIdeal.Read.val_main_v23 (F := Ideal) (g m c) (w m c) (mom m c) (sq m c)
abbrev res5 := Cert.OptSmallRefIdeal.Read.val_main_v4 (F := Ideal) (g m c) (mom m c)
abbrev res6 := Cert.OptSmallRefIdeal.Read.val_main_v10 (F := Ideal) (g m c) (sq m c)

/-- Each block is its whole array. -/
theorem reads (y : S1160x128.Idx) : iblk m c 0 t y = g m c y ∧ iblk m c 1 t y = w m c y
    ∧ iblk m c 2 t y = mom m c y ∧ iblk m c 3 t y = sq m c y := by
  refine ⟨?_, ?_, ?_, ?_⟩ <;> blk_point [iblk, V, idx t]

/-- Result array 0 after the run: the change of the weight. -/
theorem final4 : (dats m 0 c).arrAt 4 (cfgs 0).N = res4 m c := by
  refine (dats m 0 c).arrAt_eq_of_covers 4 _ (by decide +kernel) fun t _ y => ?_
  blk_simp
  have e : ((cfg0.win 4).blk t).view.emb y = y := by blk_ext [idx t]
  rw [after0_4]; unfold out0_4; frame_out
  refine (body4 _ _ _ _ y).trans (Eq.trans ?_ ((congrArg (res4 m c) e).trans (whole4 _ _ _ _ _)).symm)
  rw [(reads m c t y).2.1, (reads m c t y).1, (reads m c t y).2.2.1, (reads m c t y).2.2.2]

/-- Result array 1 after the run: the first moment. -/
theorem final5 : (dats m 0 c).arrAt 5 (cfgs 0).N = res5 m c := by
  refine (dats m 0 c).arrAt_eq_of_covers 5 _ (by decide +kernel) fun t _ y => ?_
  blk_simp
  have e : ((cfg0.win 5).blk t).view.emb y = y := by blk_ext [idx t]
  rw [after0_5]; unfold out0_5; frame_out
  refine (body5 _ _ y).trans (Eq.trans ?_ ((congrArg (res5 m c) e).trans (whole5 _ _ _)).symm)
  rw [(reads m c t y).1, (reads m c t y).2.2.1]

/-- Result array 2 after the run: the second moment. -/
theorem final6 : (dats m 0 c).arrAt 6 (cfgs 0).N = res6 m c := by
  refine (dats m 0 c).arrAt_eq_of_covers 6 _ (by decide +kernel) fun t _ y => ?_
  blk_simp
  have e : ((cfg0.win 6).blk t).view.emb y = y := by blk_ext [idx t]
  rw [after0_6]; unfold out0_6; frame_out
  refine (body6 _ _ y).trans (Eq.trans ?_ ((congrArg (res6 m c) e).trans (whole6 _ _ _)).symm)
  rw [(reads m c t y).1, (reads m c t y).2.2.2]

end Cert.Proof.OptSmallValue
-- ==== Proof.OptSmallClaims.lean ====
module

public import proofs.«01_k».proof.Defs
public import proofs.«01_k».proof.Proof.Gen.OptSmall.Frame
public import proofs.«01_k».proof.Proof.OptSmallValue
public import Idealize.ShloMosaic.Lib.Claim
public import Idealize.ShloMosaic.Lib.Quiescent

/-! # The claims about the optimiser's step on the small weights -/

@[expose] public section

set_option maxRecDepth 16384

noncomputable section

namespace Cert.Proof.OptSmallClaims

open Idealize.ShloMosaic Idealize.SL.Sem

/-- The printed kernel runs to the end, leaves its arguments alone and its counters at zero. -/
theorem frame : Cert.quiescent_OptSmall := fun m ρ _ => Cert.OptSmall.Gen.frame m ρ

/-- So does its ideal reading. -/
theorem frameIdeal : Cert.quiescent_OptSmallIdeal := fun m ρ _ => Cert.OptSmallIdeal.Gen.frame m ρ

/-- So does the reference. -/
theorem frameRef : Cert.quiescent_OptSmallRefIdeal := fun m ρ _ =>
  (θ_run Cert.OptSmallRefIdeal.defs _ _).mono
    (fun r h => ⟨fun c => (h c).2.2.2, Idealize.ShloMosaic.sem_eq_zero_of_no_sems (by decide) r.2⟩)
    (Cert.OptSmallRefIdeal.Value.run (F := Idealize.ShloMosaic.Ideal) m ρ)

/-- The three arrays the kernel writes are the reference's, at the ideal reading, on all arguments. -/
theorem algebraic : Cert.algebraic_OptSmallIdeal_OptSmallRefIdeal := by
  pair_intro
  · run_from Cert.OptSmallIdeal.Gen.run_main m g
  · refine (θ_run Cert.OptSmallRefIdeal.defs _ _).mono (fun r h c => ?_) (Cert.OptSmallRefIdeal.Value.run m' g')
    obtain ⟨e0, e1, e2, e3⟩ := hagree c
    refine ⟨(h c).1.trans ?_, (h c).2.1.trans ?_, (h c).2.2.1.trans ?_, (h c).2.2.2⟩
    · refine (Cert.OptSmallRefIdeal.Read.val_main_v23_eq ..).trans (Eq.trans ?_ (Cert.Proof.OptSmallValue.final4 m c).symm)
      rw [e0, e1, e2, e3]
    · refine (Cert.OptSmallRefIdeal.Read.val_main_v4_eq ..).trans (Eq.trans ?_ (Cert.Proof.OptSmallValue.final5 m c).symm)
      rw [e0, e2]
    · refine (Cert.OptSmallRefIdeal.Read.val_main_v10_eq ..).trans (Eq.trans ?_ (Cert.Proof.OptSmallValue.final6 m c).symm)
      rw [e0, e3]

end Cert.Proof.OptSmallClaims
-- ==== Proof.Prefix.lean ====
module

public import Idealize.ShloMosaic.Lib.Pipeline.ValueKit

/-! # Running sums and the logarithm of the logistic function

What the forward calls of both attentions share: `jax.numpy.cumsum` is a sum over the delays of a column, a kernel's
doubling steps build the same sum, and the two ways of writing the logarithm of the logistic function agree. -/

@[expose] public section

noncomputable section

namespace Cert.Proof.Prefix

open Idealize.ShloMosaic Idealize.ShloMosaic.TcCoe Idealize.SL.Sem

/-- One doubling step: the first `n` delays of a function, plus these delayed by `n`, are its first `2 n` delays. -/
theorem doubling {ι : Type} (D : ℕ → (ι → EReal) → ι → EReal) (nil : ∀ n i, D n (fun _ => 0) i = 0)
    (add : ∀ n f g i, D n (fun r => f r + g r) i = D n f i + D n g i)
    (comp : ∀ n k f i, D n (fun r => D k f r) i = D (n + k) f i) (n : ℕ) (f : ι → EReal) (i : ι) :
    ∑ k ∈ Finset.range n, D k f i + D n (fun r => ∑ k ∈ Finset.range n, D k f r) i
      = ∑ k ∈ Finset.range (n + n), D k f i := by
  have h : ∀ l, D n (fun r => ∑ k ∈ Finset.range l, D k f r) i = ∑ k ∈ Finset.range l, D (n + k) f i := by
    intro l
    induction l with
    | zero => simpa using nil n i
    | succ l ih => simp only [Finset.sum_range_succ, add, comp, ih]
  rw [h, Finset.sum_range_add]

/-- A left fold of additions is a sum. -/
theorem foldl_add {N : ℕ} (g : Fin N → EReal) (v : EReal) :
    (List.finRange N).foldl (fun r n => r + g n) v = v + ∑ n, g n := by
  have h : ∀ (l : List (Fin N)) (v : EReal), l.foldl (fun r n => r + g n) v = v + (l.map g).sum := by
    intro l
    induction l with
    | nil => simp
    | cons a l ih => intro v; simp [ih, add_assoc]
  rw [h, ← List.ofFn_eq_map, List.sum_ofFn]

/-- The index at place `k` of a window that is one element wide but along one axis. -/
def along (W : Shape) (a : Fin W.rank) (one : ∀ b, b ≠ a → W.size b = 1) (k : Fin (W.size a)) : W.Idx := fun b =>
  if h : b = a then ⟨k.val, h ▸ k.isLt⟩ else ⟨0, (one b h).symm ▸ Nat.one_pos⟩

/-- A sum over a window that is one element wide but along one axis: over that axis. -/
theorem sum_axis (W : Shape) (a : Fin W.rank) (one : ∀ b, b ≠ a → W.size b = 1) (g : W.Idx → EReal) :
    ∑ n, g (W.rowMajor.symm n) = ∑ k : Fin (W.size a), g (along W a one k) := by
  rw [Equiv.sum_comp W.rowMajor.symm g]
  have e : ∀ p : W.Idx, along W a one (p a) = p := fun p => funext fun b => by
    unfold along
    split
    · next h => subst h; rfl
    · next h => apply Fin.ext; have := (p b).isLt; have := one b h; dsimp only; omega
  refine Fintype.sum_equiv
    { toFun := fun p : W.Idx => p a
      invFun := along W a one
      left_inv := e
      right_inv := fun k => Fin.ext (by simp [along]) } _ _ fun p => congrArg g (e p).symm

/-- `cumsum` along an axis: an entry is the sum over the delays along it. -/
theorem cumsum (s u : Shape) (a : Fin s.rank) (window strides lo hi : Fin s.rank → ℕ) (x : FVec Ideal s .f32)
    (init : FVec Ideal u .f32) (h : s.ReduceWindows window strides lo hi s) (hu : 0 < u.numel)
    (h0 : init (Shape.Idx.first hu) = 0) (hw : ∀ b, window b = if b = a then s.size a else 1)
    (hs : ∀ b, strides b = 1) (hl : ∀ b, lo b = if b = a then s.size a - 1 else 0) (j : s.Idx) :
    Host.reduceWindowAdd (F := Ideal) window strides lo hi x init h hu j
      = ∑ k ∈ Finset.range (s.size a), if (j a).val < k then (0 : EReal) else
          x fun b => ⟨if b = a then (j b).val - k else (j b).val, by have := (j b).isLt; split <;> omega⟩ := by
  refine (foldl_add _ _).trans ?_
  rw [h0, zero_add]
  refine Eq.trans (Finset.sum_congr rfl fun n _ => ?_) <| (sum_axis ⟨s.rank, window⟩ a (fun b hb => (hw b).trans (if_neg hb)) fun q =>
    if hin : ∀ b, lo b ≤ (j b).val * strides b + (q b).val ∧ (j b).val * strides b + (q b).val - lo b < s.size b then
      x fun b => ⟨(j b).val * strides b + (q b).val - lo b, (hin b).2⟩ else 0).trans ?_
  · dsimp only [Fin.cast_eq_self]
    congr
  rw [← Finset.sum_range_reflect, ← Fin.sum_univ_eq_sum_range]
  have e : window a = s.size a := by rw [hw, if_pos rfl]
  refine Fintype.sum_equiv (finCongr e) _ _ fun k => ?_
  have kl : k.val < s.size a := lt_of_lt_of_eq k.isLt e
  have ja := (j a).isLt
  simp only [finCongr_apply, Fin.val_cast]
  by_cases c : (j a).val < s.size a - 1 - k.val
  · rw [if_pos c, dif_neg]
    intro hin
    have := (hin a).1
    simp only [along, hs, hl, if_true, dite_true] at this
    omega
  · rw [if_neg c, dif_pos]
    · refine congrArg x (funext fun b => Fin.ext ?_)
      by_cases hb : b = a
      · subst hb; simp only [along, hs, hl, if_true, dite_true]; omega
      · simp only [along, hs, hl, if_neg hb, dif_neg hb]; omega
    · intro b
      have jb := (j b).isLt
      by_cases hb : b = a
      · subst hb; simp only [along, hs, hl, if_true, dite_true]; omega
      · simp only [along, hs, hl, if_neg hb, dif_neg hb]; omega

/-- The logarithm of one. -/
theorem log_one : Ideal.log 1 = 0 := by
  rw [← EReal.coe_one, Ideal.log_coe]; simp

/-- Where the exponential is of nothing above zero, the softened part is a real number. -/
theorem log_real (x : EReal) : ∃ l : ℝ, Ideal.log (1 + Ideal.exp (0 - max x (-x))) = l := by
  induction x with
  | bot => exact ⟨0, by simp [log_one]⟩
  | top => exact ⟨0, by simp [log_one]⟩
  | coe r =>
    have e : (0 : EReal) - max (r : EReal) (-(r : EReal)) = ((-max r (-r) : ℝ) : EReal) := by
      rw [zero_sub, EReal.coe_neg, EReal.coe_strictMono.monotone.map_max, EReal.coe_neg]
    have p : ¬ 1 + Real.exp (-max r (-r)) ≤ 0 := by have := Real.exp_pos (-max r (-r)); linarith
    refine ⟨Real.log (1 + Real.exp (-max r (-r))), ?_⟩
    rw [e, Ideal.exp_coe, ← EReal.coe_one, ← EReal.coe_add, Ideal.log_coe, if_neg p]

/-- The logarithm of the logistic function as the kernels write it is `jax.nn.log_sigmoid`. -/
theorem logSigmoid (x : EReal) :
    min x 0 - Ideal.log (1 + Ideal.exp (0 - max x (-x)))
      = -(max (-x) 0 + Ideal.log1p (Ideal.exp (-max (-x - 0) (-(-x - 0))))) := by
  have a : 0 - max x (-x) = -max (-x - 0) (-(-x - 0)) := by
    rw [zero_sub, sub_zero, neg_neg, max_comm]
  have b : -max (-x) 0 = min x 0 := by
    induction x with
    | bot => simp
    | top => simp
    | coe r =>
      have h : -max (-r) 0 = min r 0 := by rw [← neg_zero (G := ℝ), max_neg_neg, neg_neg, neg_zero]
      rw [← EReal.coe_zero, ← EReal.coe_strictMono.monotone.map_min, ← h, EReal.coe_neg,
        EReal.coe_strictMono.monotone.map_max, EReal.coe_neg]
  obtain ⟨l, e⟩ := log_real x
  rw [Ideal.log1p, ← a, e, EReal.neg_add (by simp) (by simp), b]

end Cert.Proof.Prefix
-- ==== Proof.FoxPrepValue.lean ====
module

public import proofs.«01_k».proof.Proof.ConvPoolCols
public import proofs.«01_k».proof.Proof.Prefix
public import proofs.«01_k».proof.Proof.Gen.FoxPrepIdeal.Value
public import proofs.«01_k».proof.Proof.Gen.FoxPrepRefIdeal.Run
public import proofs.«01_k».proof.Proof.Gen.FoxPrepRefIdeal.Read
public import Idealize.ShloMosaic.Lib.Pipeline.ValueKit

/-! # The forget gates' running sums: what the two result arrays hold -/

@[expose] public section

set_option maxRecDepth 16384

noncomputable section

namespace Cert.Proof.FoxPrepValue

open Idealize.ShloMosaic Idealize.ShloMosaic.TcCoe Idealize.SL.Sem
open Cert.FoxPrepIdeal Cert.FoxPrepIdeal.Gen Cert.Proof.ConvPoolCols

/-- The last `n` rows of a column up to each row, summed. -/
def win (n : ℕ) (f : Fin 2048 → EReal) (i : Fin 2048) : EReal := ∑ k ∈ Finset.range n, del k f i

/-- Summing the last `n` rows twice, the second time delayed by `n`, sums the last `2 n`. -/
theorem win_twice (n : ℕ) (f : Fin 2048 → EReal) (i : Fin 2048) :
    win n f i + del n (win n f) i = win (n + n) f i :=
  Prefix.doubling del (fun n i => by simp [del]) del_add del_del n f i

/-- One of the body's doubling steps on a tile. -/
def twice (n : ℕ) (x : FVec Ideal S2048x128 .f32) : FVec Ideal S2048x128 .f32 :=
  addf x (select (cmpi .sge (iota .tc S2048x128 32 [0] iota_S2048x128_d0_w32) (broadcast S2048x128 (BitVec.ofNat 32 n)))
    (dynamicRotate 0 (BitVec.ofNat 32 n) none x rotates_S2048x128_d0)
    (broadcast S2048x128 (Scalar.ofBits .f32 0x00000000#32 : Ideal .f32)))

/-- A doubling step on columns. -/
theorem twice_cols (n : ℕ) (hn : n < 2048) (f : Fin 128 → Fin 2048 → EReal) :
    twice n (cols fun l => win n (f l)) = cols fun l => win (n + n) (f l) := by
  have d := delay_cols n hn fun l => win n (f l)
  have z := zero_cols
  unfold twice
  refine (congrArg (addf _) ((congrArg (select _ _) z).trans d)).trans ?_
  rw [addf_cols]
  exact congrArg cols (funext fun l => funext fun r => win_twice n (f l) r)

/-- The logarithm of the forget gate from its logit, as the body writes it. -/
def logGate (x : EReal) : EReal := min x 0 - Ideal.log (1 + Ideal.exp (0 - max x (-x)))

/-- The body's forget logits, as columns of logarithms. -/
def gates (x : FVec Ideal S2048x128 .f32) (b : FVec Ideal S1x1x128 .f32) : Fin 128 → Fin 2048 → EReal :=
  fun l r => logGate (x (ix2 r l) + b (ix3 0 0 l))

/-- The tile that the doubling starts from. -/
def start (v0 : FVec Ideal S2048x128 .f32) (v1 : FVec Ideal S1x1x128 .f32) : FVec Ideal S2048x128 .f32 :=
  have x := addf v0 (broadcastTo S2048x128 (shapeCast S1x128 v1 shapeCasts_S1x1x128_S1x128) broadcasts_S1x128_S2048x128)
  have z := broadcast S2048x128 (Scalar.ofBits .f32 0x00000000#32 : Ideal .f32)
  have o := broadcast S2048x128 (Scalar.ofBits .f32 0x3F800000#32 : Ideal .f32)
  subf (minimumf x z) (log (addf o (exp (subf z (absf x)))))

/-- It holds the logarithms of the gates. -/
theorem start_cols (x : FVec Ideal S2048x128 .f32) (b : FVec Ideal S1x1x128 .f32) :
    start x b = cols fun l => win 1 (gates x b l) := by
  funext y
  refine Eq.trans ?_ ((Finset.sum_range_one fun k => del k (gates x b (y 1)) (y 0)).trans (del_zero _ _)).symm
  pointwise [start, gates, logGate]
  rfl

/-- The body is eleven doubling steps. -/
theorem body (x : FVec Ideal S2048x128 .f32) (b : FVec Ideal S1x1x128 .f32) :
    k0_pay1 (F := Ideal) (k0_pay6 (k0_pay3 x b) k0_pay4 (k0_pay5 x b)) k0_pay7
        (k0_pay8 (k0_pay3 x b) k0_pay4 (k0_pay5 x b))
      = cols fun l => win 2048 (gates x b l) := by
  have h : k0_pay1 (F := Ideal) (k0_pay6 (k0_pay3 x b) k0_pay4 (k0_pay5 x b)) k0_pay7
        (k0_pay8 (k0_pay3 x b) k0_pay4 (k0_pay5 x b))
      = twice 1024 (twice 512 (twice 256 (twice 128 (twice 64 (twice 32 (twice 16 (twice 8 (twice 4 (twice 2
          (twice 1 (start x b))))))))))) := rfl
  rw [h, start_cols]
  iterate 11 rw [twice_cols _ (by norm_num)]

open Cert.FoxPrepRefIdeal.Read

/-- The reference's logarithm of the forget gate. -/
theorem logs (z : FVec Ideal S2048x5760 .f32) (b : FVec Ideal S2x1x128 .f32) (r : Fin 2048) (l : Fin 128) :
    val_main_v5 (F := Ideal) z b (ix2 r l) = logGate (z (ix2 r ⟨5632 + l.val, by omega⟩) + b (ix3 0 0 l)) := by
  refine Eq.trans ?_ (Prefix.logSigmoid _).symm
  pointwise [val_main_v0, val_main_v1, val_main_v2, val_main_v3, val_main_v4, val_main_call0_v0, val_main_call0_call0_cst,
    val_main_call0_call0_v0, val_main_call0_call0_v1, val_main_call0_call0_v2, val_main_call0_call0_v3,
    val_main_call0_call0_v4, val_main_call0_call0_v5, val_main_call0_call0_v6, val_main_call0_call0_v7,
    val_main_call0_call0_v8, val_main_call0_call0_v9, val_main_call0_call0_v10, val_main_call0_call0_v11,
    val_main_call0_v1, val_main_v5]
  rw [if_neg (not_not_intro rfl)]
  rfl

/-- The reference's running sum. -/
theorem whole (z : FVec Ideal S2048x5760 .f32) (b : FVec Ideal S2x1x128 .f32) (r : Fin 2048) (l : Fin 128) :
    val_main_v6 (F := Ideal) z b (ix2 r l)
      = win 2048 (fun i => logGate (z (ix2 i ⟨5632 + l.val, by omega⟩) + b (ix3 0 0 l))) r := by
  refine (Prefix.cumsum _ _ 0 _ _ _ _ _ _ _ _ ?_ ?_ ?_ ?_ _).trans ?_
  · pointwise [val_main_call1_call0_cst, val_main_call1_call0_v0]
  · decide
  · decide
  · decide
  · refine Finset.sum_congr rfl fun k _ => ?_
    unfold del
    split
    · next h => rw [dif_pos (show r.val < k from h)]
    · next h =>
      refine Eq.trans ?_ (dif_neg (show ¬ r.val < k from h)).symm
      refine Eq.trans (congrArg _ (funext fun a => Fin.ext ?_)) (logs z b ⟨r.val - k, by omega⟩ l)
      match a with
      | ⟨0, _⟩ => rfl
      | ⟨1, _⟩ => rfl

variable (m : (ℓ : Loc nD τ sig) → Buf (Elt Ideal) ℓ) (c : Dev nD) (t : Fin cfg0.N)

/-- Every window stays where it is: the forget logits' lanes, the bias's layer, the whole of both results. -/
theorem idx : ∀ t : Fin cfg0.N, win0_0.index t = ![0, 44] ∧ win0_1.index t = ![0, 0, 0]
      ∧ win0_2.index t = ![0, 0] ∧ win0_3.index t = ![0, 0] :=
  (by decide +kernel : ∀ t : Fin grid0.N, _)

/-- The arguments. -/
abbrev zin : FVec Ideal S2048x5760 .f32 := m ((c : Thread nD τ).loc main_arg0)
abbrev bias : FVec Ideal S2x1x128 .f32 := m ((c : Thread nD τ).loc main_arg1)

/-- The reference's results. -/
abbrev res2 := val_main_v6 (F := Ideal) (zin m c) (bias m c)
abbrev res3 := val_main_v7 (F := Ideal) (zin m c) (bias m c)

/-- The blocks the body reads hold the reference's logits. -/
theorem gates_eq (l : Fin 128) : gates (iblk m c 0 t) (iblk m c 1 t) l
    = fun i => logGate (zin m c (ix2 i ⟨5632 + l.val, by omega⟩) + bias m c (ix3 0 0 l)) := by
  funext r
  have a : iblk m c 0 t (ix2 r l) = zin m c (ix2 r ⟨5632 + l.val, by omega⟩) := by blk_point [iblk, V, idx t]
  have b : iblk m c 1 t (ix3 0 0 l) = bias m c (ix3 0 0 l) := by blk_point [iblk, V, idx t]
  unfold gates
  rw [a, b]

/-- The running sums after the run. -/
theorem final2 : (dats m 0 c).arrAt 2 (cfgs 0).N = res2 m c := by
  refine (dats m 0 c).arrAt_eq_of_covers 2 _ (by decide +kernel) fun t _ y => ?_
  blk_simp
  have e : ((cfg0.win 2).blk t).view.emb y = ix2 (y 0) (y 1) := by blk_ext [idx t]
  rw [after0_2]; unfold_out out0_2; frame_out
  refine Eq.trans ?_ ((congrArg (res2 m c) e).trans (whole _ _ (y 0) (y 1))).symm
  refine (congrFun (body _ _) y).trans ?_
  exact congrFun (congrArg (win 2048) (gates_eq m c t (y 1))) (y 0)

/-- Their transpose after the run. -/
theorem final3 : (dats m 0 c).arrAt 3 (cfgs 0).N = res3 m c := by
  refine (dats m 0 c).arrAt_eq_of_covers 3 _ (by decide +kernel) fun t _ y => ?_
  blk_simp
  have e : ((cfg0.win 3).blk t).view.emb y = ix2 (y 0) (y 1) := by blk_ext [idx t]
  rw [after0_3]; unfold_out out0_3; frame_out
  have w : res3 m c (ix2 (y 0) (y 1)) = res2 m c (ix2 (y 1) (y 0)) := by
    pointwise [res3, res2, val_main_v7]
  refine Eq.trans ?_ ((congrArg (res3 m c) e).trans (w.trans (whole _ _ (y 1) (y 0)))).symm
  unfold k0_pay2
  rw [body]
  have q : transpose S128x2048 [1, 0] (cols fun l => win 2048 (gates (iblk m c 0 t) (iblk m c 1 t) l))
      transposes_S2048x128_p1_0_S128x2048 y = win 2048 (gates (iblk m c 0 t) (iblk m c 1 t) (y 0)) (y 1) := by
    pointwise [cols]
  exact q.trans (congrFun (congrArg (win 2048) (gates_eq m c t (y 0))) (y 1))

end Cert.Proof.FoxPrepValue
-- ==== Proof.FoxPrepClaims.lean ====
module

public import proofs.«01_k».proof.Defs
public import proofs.«01_k».proof.Proof.Gen.FoxPrep.Frame
public import proofs.«01_k».proof.Proof.FoxPrepValue
public import Idealize.ShloMosaic.Lib.Claim
public import Idealize.ShloMosaic.Lib.Quiescent

/-! # The claims about the forget gates' running sums -/

@[expose] public section

set_option maxRecDepth 16384

noncomputable section

namespace Cert.Proof.FoxPrepClaims

open Idealize.ShloMosaic Idealize.SL.Sem

/-- The printed kernel runs to the end, leaves its arguments alone and its counters at zero. -/
theorem frame : Cert.quiescent_FoxPrep := fun m ρ _ => Cert.FoxPrep.Gen.frame m ρ

/-- So does its ideal reading. -/
theorem frameIdeal : Cert.quiescent_FoxPrepIdeal := fun m ρ _ => Cert.FoxPrepIdeal.Gen.frame m ρ

/-- So does the reference. -/
theorem frameRef : Cert.quiescent_FoxPrepRefIdeal := fun m ρ _ =>
  (θ_run Cert.FoxPrepRefIdeal.defs _ _).mono
    (fun r h => ⟨fun c => (h c).2.2, Idealize.ShloMosaic.sem_eq_zero_of_no_sems (by decide) r.2⟩)
    (Cert.FoxPrepRefIdeal.Value.run (F := Idealize.ShloMosaic.Ideal) m ρ)

/-- The two arrays the kernel writes are the reference's, at the ideal reading, on all arguments. -/
theorem algebraic : Cert.algebraic_FoxPrepIdeal_FoxPrepRefIdeal := by
  pair_intro
  · run_from Cert.FoxPrepIdeal.Gen.run_main m g
  · refine (θ_run Cert.FoxPrepRefIdeal.defs _ _).mono (fun r h c => ?_) (Cert.FoxPrepRefIdeal.Value.run m' g')
    obtain ⟨e0, e1⟩ := hagree c
    refine ⟨(h c).1.trans ?_, (h c).2.1.trans ?_, (h c).2.2⟩
    · refine (Cert.FoxPrepRefIdeal.Read.val_main_v6_eq ..).trans (Eq.trans ?_ (Cert.Proof.FoxPrepValue.final2 m c).symm)
      rw [e0, e1]
    · refine (Cert.FoxPrepRefIdeal.Read.val_main_v7_eq ..).trans (Eq.trans ?_ (Cert.Proof.FoxPrepValue.final3 m c).symm)
      rw [e0, e1]

end Cert.Proof.FoxPrepClaims
-- ==== Proof.FoxRow.lean ====
module

public import Idealize.ShloMosaic.Lib.WordCmp
public import Idealize.ShloMosaic.Lib.Pipeline.ValueKit

/-! # One row of a causal attention

A row's weights are the exponentials of its logits, divided by their sum; a key above the diagonal has the logit `⊥` and
so the weight zero. Where the logits below the diagonal are real numbers, a row read only up to the end of its block of
keys is the row read whole. -/

@[expose] public section

noncomputable section

namespace Cert.Proof.FoxRow

open Idealize.ShloMosaic Idealize.ShloMosaic.TcCoe Idealize.SL.Sem

/-- The largest of a row's logits. -/
def top {n : ℕ} (e : Fin n → EReal) : EReal :=
  Finset.fold max (Ideal.ofBits .f32 0xFF800000#32) (fun x => e x) Finset.univ

/-- A row of the attention: the values weighted by the softmax of the logits. -/
def soft {n : ℕ} (e v : Fin n → EReal) : EReal :=
  ∑ x, Ideal.div (Ideal.exp (e x - top e)) (∑ y, Ideal.exp (e y - top e)) * v x

/-- The word the kernel masks with is minus infinity. -/
theorem mask : Ideal.ofBits .f32 0xFF800000#32 = ⊥ := by simp [Ideal.ofBits, Ideal.ieee]

/-- A row's largest logit as a supremum. -/
theorem top_sup {n : ℕ} (e : Fin n → EReal) : top e = Finset.univ.sup e := by
  unfold top; rw [mask]; rfl

/-- An exponential is not negative. -/
theorem exp_nonneg (x : EReal) : 0 ≤ Ideal.exp x := by
  induction x with
  | bot => simp
  | top => simp
  | coe r => rw [Ideal.exp_coe]; exact_mod_cast (Real.exp_pos r).le

/-- The sum of a row's exponentials is not zero where its logits are below `⊤` and not all `⊥`. -/
theorem weight_ne {n : ℕ} (e : Fin n → EReal) (p : Fin n) (hp : e p ≠ ⊥) (ht : ∀ x, e x ≠ ⊤) :
    ∑ y, Ideal.exp (e y - top e) ≠ 0 := by
  obtain ⟨i, -, hi⟩ := Finset.exists_mem_eq_sup Finset.univ ⟨p, Finset.mem_univ p⟩ e
  have hb : e i ≠ ⊥ := fun h => hp (le_bot_iff.mp (h ▸ hi ▸ Finset.le_sup (Finset.mem_univ p)))
  have one : Ideal.exp (e i - top e) = 1 := by
    rw [top_sup, hi, EReal.sub_self (ht i) hb, ← EReal.coe_zero, Ideal.exp_coe]; simp
  have := Finset.single_le_sum (f := fun y => Ideal.exp (e y - top e)) (fun y _ => exp_nonneg _) (Finset.mem_univ i)
  simp only [one] at this
  exact fun h => absurd (h ▸ this) (by simp)

/-- A function that vanishes past the first `n` places sums over these alone. -/
theorem sum_narrow {n k : ℕ} (h : n ≤ k) (f : Fin k → EReal) (z : ∀ x : Fin k, n ≤ x.val → f x = 0) :
    ∑ x : Fin n, f (x.castLE h) = ∑ x, f x := by
  have e : ∑ x : Fin n, f (x.castLE h) = ∑ x ∈ Finset.univ.map (Fin.castLEEmb h), f x := by
    rw [Finset.sum_map]; rfl
  rw [e]
  refine Finset.sum_subset (Finset.subset_univ _) fun x _ hx => z x ?_
  by_contra c
  exact hx (Finset.mem_map.mpr ⟨⟨x.val, by omega⟩, Finset.mem_univ _, rfl⟩)

/-- A row read up to a key past which every logit is `⊥` is the row read whole. -/
theorem narrow {n k : ℕ} (h : n ≤ k) (e v : Fin n → EReal) (E V : Fin k → EReal) (he : ∀ x, e x = E (x.castLE h))
    (hv : ∀ x, v x = V (x.castLE h)) (hb : ∀ x : Fin k, n ≤ x.val → E x = ⊥) (p : Fin k) (hp : E p ≠ ⊥)
    (ht : ∀ x, E x ≠ ⊤) : soft e v = soft E V := by
  have t : top e = top E := by
    rw [top_sup, top_sup]
    refine le_antisymm (Finset.sup_le fun x _ => he x ▸ Finset.le_sup (Finset.mem_univ _)) (Finset.sup_le fun x _ => ?_)
    by_cases c : x.val < n
    · exact (he ⟨x.val, c⟩).symm ▸ Finset.le_sup (f := e) (Finset.mem_univ (⟨x.val, c⟩ : Fin n))
    · rw [hb x (by omega)]; exact bot_le
  have z : ∀ x : Fin k, n ≤ x.val → Ideal.exp (E x - top E) = 0 := by
    intro x hx
    rw [hb x hx, EReal.bot_sub, Ideal.exp_bot]
  have d : ∑ y, Ideal.exp (e y - top e) = ∑ y, Ideal.exp (E y - top E) := by
    rw [← sum_narrow h _ z, t]; simp only [he]
  have g : ∀ x : Fin k, n ≤ x.val → Ideal.div (Ideal.exp (E x - top E)) (∑ y, Ideal.exp (E y - top E)) * V x = 0 := by
    intro x hx
    rw [z x hx]
    unfold Ideal.div
    rw [if_neg (weight_ne E p hp ht), zero_mul, zero_mul]
  unfold soft
  rw [d, t]
  refine Eq.trans (Finset.sum_congr rfl fun x _ => ?_) (sum_narrow h _ g)
  rw [he, hv]

/-- The reciprocal root mean square of a vector of 128. -/
def rms (q : Fin 128 → EReal) : EReal :=
  Ideal.rsqrt (Ideal.div (∑ x, q x * q x) (Ideal.ofBits .f32 0x43000000#32) + Ideal.ofBits .f32 0x358637BD#32)

/-- The logit of a query and a key: the product of their normalised vectors, scaled, plus the difference of the forget
    gates' running sums. -/
def score (q k a b : Fin 128 → EReal) (f g : EReal) : EReal :=
  (∑ x, q x * rms q * a x * (k x * rms k * b x)) * Ideal.ofBits .f32 0x3DB504F3#32 + f - g

/-- A real number among the extended ones. -/
def Tame (x : EReal) : Prop := ∃ r : ℝ, x = r

theorem Tame.add {x y : EReal} : Tame x → Tame y → Tame (x + y) := by
  rintro ⟨r, rfl⟩ ⟨s, rfl⟩; exact ⟨r + s, (EReal.coe_add r s).symm⟩

theorem Tame.sub {x y : EReal} : Tame x → Tame y → Tame (x - y) := by
  rintro ⟨r, rfl⟩ ⟨s, rfl⟩; exact ⟨r - s, (EReal.coe_sub r s).symm⟩

theorem Tame.mul {x y : EReal} : Tame x → Tame y → Tame (x * y) := by
  rintro ⟨r, rfl⟩ ⟨s, rfl⟩; exact ⟨r * s, (EReal.coe_mul r s).symm⟩

/-- A finite sum of real numbers is one. -/
theorem Tame.sum {ι : Type} (s : Finset ι) (f : ι → EReal) (h : ∀ x, Tame (f x)) : Tame (∑ x ∈ s, f x) := by
  classical
  induction s using Finset.induction_on with
  | empty => exact ⟨0, by simp⟩
  | insert a s ha ih => rw [Finset.sum_insert ha]; exact (h a).add ih

/-- Neither infinity. -/
theorem Tame.ne {x : EReal} : Tame x → x ≠ ⊥ ∧ x ≠ ⊤ := by
  rintro ⟨r, rfl⟩; exact ⟨EReal.coe_ne_bot r, EReal.coe_ne_top r⟩

/-- An absolute value below infinity is that of a real number. -/
theorem tame_abs {x : EReal} (h : max x (-x) < ⊤) : Tame x := by
  induction x with
  | bot => simp at h
  | top => simp at h
  | coe r => exact ⟨r, rfl⟩

/-- The constants are real numbers. -/
theorem width : Ideal.ofBits .f32 0x43000000#32 = (128 : ℝ) := by
  simp [Ideal.ofBits, Ideal.ieee, -EReal.coe_mul]; norm_num

theorem eps : ∃ r : ℝ, 0 < r ∧ Ideal.ofBits .f32 0x358637BD#32 = r :=
  ⟨8796093 / 8796093022208, by norm_num, by simp [Ideal.ofBits, Ideal.ieee, -EReal.coe_mul]; norm_num⟩

theorem scale : Tame (Ideal.ofBits .f32 0x3DB504F3#32) :=
  ⟨_, by simp [Ideal.ofBits, Ideal.ieee, -EReal.coe_mul]; rfl⟩

/-- The reciprocal root mean square of a real vector is real. -/
theorem tame_rms (q : Fin 128 → EReal) (h : ∀ x, Tame (q x)) : Tame (rms q) := by
  choose r hr using h
  obtain ⟨s, hs⟩ : Tame (∑ x, q x * q x) := Tame.sum _ _ fun x => (Tame.mul ⟨_, hr x⟩ ⟨_, hr x⟩)
  have p : (0 : EReal) ≤ ∑ x, q x * q x :=
    Finset.sum_nonneg fun x _ => by rw [hr x, ← EReal.coe_mul]; exact_mod_cast mul_self_nonneg (r x)
  have p' : 0 ≤ s := by rw [hs] at p; exact_mod_cast p
  obtain ⟨ε, hε, he⟩ := eps
  have pos : 0 < s * (1 / 128) + ε := by positivity
  refine ⟨(Real.sqrt (s * (1 / 128) + ε))⁻¹, ?_⟩
  unfold rms
  rw [hs, width, he, Ideal.div_coe (by norm_num), ← EReal.coe_mul, ← EReal.coe_add, Ideal.rsqrt_coe,
    if_neg (not_lt.mpr pos.le), if_neg pos.ne']

/-- A logit of real numbers is real. -/
theorem tame_score (q k a b : Fin 128 → EReal) (f g : EReal) (hq : ∀ x, Tame (q x)) (hk : ∀ x, Tame (k x))
    (ha : ∀ x, Tame (a x)) (hb : ∀ x, Tame (b x)) (hf : Tame f) (hg : Tame g) : Tame (score q k a b f g) :=
  (((Tame.sum _ _ fun x => (((hq x).mul (tame_rms q hq)).mul (ha x)).mul
    (((hk x).mul (tame_rms k hk)).mul (hb x))).mul scale).add hf).sub hg

/-- A sum that keeps one place is that place. -/
theorem pick {n : ℕ} (hn : n < 2 ^ 31) (h : Fin n) (f : Fin n → EReal) :
    (∑ x : Fin n, Scalar.select (IntOp.cmpi .eq (BitVec.ofNat 32 x.val) (BitVec.ofNat 32 h.val)) (f x) 0) = f h := by
  refine (Finset.sum_eq_single h (fun x _ hx => ?_) (by simp)).trans ?_
  · have hv : x.val ≠ h.val := fun c => hx (Fin.ext c)
    rw [WordCmp.cmpi_eq_ofNat (by omega) (by omega)]
    simp [hv, Scalar.select]
  · rw [WordCmp.cmpi_eq_ofNat (by omega) (by omega)]
    simp [Scalar.select]

/-- The causal mask on small positions. -/
theorem below (i s : ℕ) (hi : i < 2 ^ 31) (hs : s < 2 ^ 31) (A : EReal) :
    (Scalar.select (IntOp.cmpi .sle (BitVec.ofNat 32 s) (BitVec.ofNat 32 i)) A (Ideal.ofBits .f32 0xFF800000#32) : EReal)
      = if s ≤ i then A else ⊥ := by
  rw [WordCmp.cmpi_sle_ofNat (by omega) (by omega), mask]
  by_cases c : s ≤ i <;> simp [c, Scalar.select]

/-- The causal mask in a block that starts `o` rows on. -/
theorem causal (o r s : ℕ) (h : o + r < 2 ^ 31) (hs : s < 2 ^ 31) (A : EReal) :
    (Scalar.select (IntOp.cmpi .sle (BitVec.ofNat 32 s) (IntOp.addi (BitVec.ofNat 32 o) (BitVec.ofNat 32 r))) A
      (Ideal.ofBits .f32 0xFF800000#32) : EReal) = if s ≤ o + r then A else ⊥ := by
  have e : IntOp.addi (BitVec.ofNat 32 o) (BitVec.ofNat 32 r) = BitVec.ofNat 32 (o + r) := by
    unfold IntOp.addi; exact (BitVec.ofNat_add o r).symm
  rw [e, below _ _ h hs]

/-- The supremum is above the word it starts from. -/
theorem top_max {n : ℕ} (e : Fin n → EReal) : max (Ideal.ofBits .f32 0xFF800000#32) (top e) = top e := by
  rw [mask]; exact max_eq_right bot_le

end Cert.Proof.FoxRow
-- ==== Proof.FoxTiles.lean ====
module

public import proofs.«01_k».proof.Proof.FoxRow
public import proofs.«01_k».proof.Proof.Gen.FoxIdeal.Value
public import Idealize.ShloMosaic.Lib.Pipeline.ValueKit

/-! # The forgetting attention's eight blocks of queries, each with the keys up to its end -/

@[expose] public section

set_option maxRecDepth 16384

noncomputable section

namespace Cert.Proof.FoxTiles

open Idealize.ShloMosaic Idealize.ShloMosaic.TcCoe Idealize.SL.Sem
open Cert.FoxIdeal Cert.FoxIdeal.Gen Cert.Proof.FoxRow

/-- A number of rows of 128 lanes, and eight rows of a number of lanes. -/
abbrev rows (n : ℕ) : Shape := ⟨2, ![n, 128]⟩
abbrev eight (n : ℕ) : Shape := ⟨2, ![8, n]⟩

variable (h : BitVec 32) (q fc : FVec Ideal S256x128 .f32) (a b : FVec Ideal S1x1x128 .f32)

/-- A block's masked logit: query row `r` against key `s`, the block starting `o` keys on. -/
def logit {n : ℕ} (o : BitVec 32) (k : FVec Ideal (rows n) .f32) (fr : FVec Ideal (eight n) .f32) (r : Fin 256)
    (s : Fin n) : EReal :=
  Scalar.select (IntOp.cmpi .sle (BitVec.ofNat 32 s.val) (IntOp.addi o (BitVec.ofNat 32 r.val)))
    (score (fun x => q (ix2 r x)) (fun x => k (ix2 s x)) (fun x => a (ix3 0 0 x)) (fun x => b (ix3 0 0 x))
      (∑ x : Fin 128, Scalar.select (IntOp.cmpi .eq (BitVec.ofNat 32 x.val) h) (fc (ix2 r x)) 0)
      (∑ x : Fin 8, Scalar.select (IntOp.cmpi .eq (BitVec.ofNat 32 x.val) h) (fr (ix2 x s)) 0))
    (Ideal.ofBits .f32 0xFF800000#32)

/-- A block's row of the attention. -/
def tile {n : ℕ} (o : BitVec 32) (k v : FVec Ideal (rows n) .f32) (fr : FVec Ideal (eight n) .f32) (r : Fin 256)
    (l : Fin 128) : EReal :=
  soft (fun s => logit h q fc a b o k fr r s) fun s => v (ix2 s l)

/-- Block 0. -/
theorem block_0 (k v : FVec Ideal S256x128 .f32) (fr : FVec Ideal S8x256 .f32) (r : Fin 256) (l : Fin 128) :
    k0_pay3 (F := Ideal) h v fc fr (k0_pay2 q k a b) (ix2 r l)
      = tile h q fc a b 0#32 k v fr r l := by
  pointwise [k0_pay3, k0_pay2, tile, logit, soft, top, score, rms]

/-- Block 1. -/
theorem block_1 (k v : FVec Ideal S512x128 .f32) (fr : FVec Ideal S8x512 .f32) (r : Fin 256) (l : Fin 128) :
    k0_pay6 (F := Ideal) h v fc fr (k0_pay4 q k a b) (k0_pay5 h) (Scalar.ofBits .f32 0x00000000#32) (ix2 r l)
      = tile h q fc a b 256#32 k v fr r l := by
  pointwise [k0_pay6, k0_pay4, k0_pay5, tile, logit, soft, top, score, rms]

/-- Block 2. -/
theorem block_2 (k v : FVec Ideal S768x128 .f32) (fr : FVec Ideal S8x768 .f32) (r : Fin 256) (l : Fin 128) :
    k0_pay10 (F := Ideal) v fr (k0_pay7 q k a b) (k0_pay8 h fc) (iota .tc S8x768 32 [0] iota_S8x768_d0_w32) (k0_pay9 h) (ix2 r l)
      = tile h q fc a b 512#32 k v fr r l := by
  pointwise [k0_pay10, k0_pay7, k0_pay8, k0_pay9, tile, logit, soft, top, score, rms]

/-- Block 3. -/
theorem block_3 (k v : FVec Ideal S1024x128 .f32) (fr : FVec Ideal S8x1024 .f32) (r : Fin 256) (l : Fin 128) :
    k0_pay15 (F := Ideal) v (k0_pay12 q k (k0_pay11 a) b) (k0_pay13 h fc) (k0_pay14 h fr) (ix2 r l)
      = tile h q fc a b 768#32 k v fr r l := by
  pointwise [k0_pay15, k0_pay12, k0_pay11, k0_pay13, k0_pay14, tile, logit, soft, top, score, rms]

/-- Block 4. -/
theorem block_4 (k v : FVec Ideal S1280x128 .f32) (fr : FVec Ideal S8x1280 .f32) (r : Fin 256) (l : Fin 128) :
    k0_pay21 (F := Ideal) v (k0_pay19 h q k fc fr (k0_pay16 a) (k0_pay17 b) (k0_pay18 q))
      (iota .tc S256x1280 32 [0] iota_S256x1280_d0_w32) k0_pay20 (ix2 r l)
      = tile h q fc a b 1024#32 k v fr r l := by
  pointwise [k0_pay21, k0_pay19, k0_pay16, k0_pay17, k0_pay18, k0_pay20, tile, logit, soft, top, score, rms]

/-- Block 5. -/
theorem block_5 (k v : FVec Ideal S1536x128 .f32) (fr : FVec Ideal S8x1536 .f32) (r : Fin 256) (l : Fin 128) :
    k0_pay27 (F := Ideal) v (k0_pay26 h q k fc fr (k0_pay22 a) (k0_pay23 b) (k0_pay24 q) (k0_pay25 (F := Ideal))) (ix2 r l)
      = tile h q fc a b 1280#32 k v fr r l := by
  pointwise [k0_pay27, k0_pay26, k0_pay22, k0_pay23, k0_pay24, k0_pay25, tile, logit, soft, top, score, rms]

/-- Block 6. -/
theorem block_6 (k v : FVec Ideal S1792x128 .f32) (fr : FVec Ideal S8x1792 .f32) (r : Fin 256) (l : Fin 128) :
    k0_pay33 (F := Ideal) v (k0_pay31 h k fc fr (k0_pay28 b) (k0_pay29 q a) (k0_pay30 k))
      (k0_pay32 h k fc fr (k0_pay28 b) (k0_pay29 q a) (k0_pay30 k)) (ix2 r l)
      = tile h q fc a b 1536#32 k v fr r l := by
  pointwise [k0_pay33, k0_pay31, k0_pay32, k0_pay28, k0_pay29, k0_pay30, tile, logit, soft, top, score, rms]

/-- Block 7. -/
theorem block_7 (k v : FVec Ideal S2048x128 .f32) (fr : FVec Ideal S8x2048 .f32) (r : Fin 256) (l : Fin 128) :
    k0_pay1 (F := Ideal) (k0_pay37 h k v fc fr (k0_pay34 b) (k0_pay35 q a) (k0_pay36 k) (Scalar.ofBits .f32 0x358637BD#32)) (ix2 r l)
      = tile h q fc a b 1792#32 k v fr r l := by
  pointwise [k0_pay1, k0_pay37, k0_pay34, k0_pay35, k0_pay36, tile, logit, soft, top, score, rms]

end Cert.Proof.FoxTiles
-- ==== Proof.FoxRef.lean ====
module

public import proofs.«01_k».proof.Proof.FoxRow
public import proofs.«01_k».proof.Proof.Gen.FoxRefIdeal.Read
public import Idealize.ShloMosaic.Lib.Pipeline.ValueKit

/-! # The forgetting attention of the reference, row by row -/

@[expose] public section

set_option maxRecDepth 16384

noncomputable section

namespace Cert.Proof.FoxRef

open Idealize.ShloMosaic Idealize.ShloMosaic.TcCoe Idealize.SL.Sem
open Cert.FoxRefIdeal Cert.FoxRefIdeal.Gen Cert.FoxRefIdeal.Read Cert.Proof.FoxRow

variable (z : FVec Ideal S2048x5760 .f32) (fc : FVec Ideal S2048x128 .f32) (fr : FVec Ideal S128x2048 .f32)
  (a b : FVec Ideal S2x1x128 .f32)

/-- Column `o + 128 h + x` of the activations: of a head's queries, keys or values. -/
def col (o : ℕ) (ho : o + 512 ≤ 5760) (h : Fin 4) (i : Fin 2048) (x : Fin 128) : EReal :=
  z (ix2 i ⟨o + (h.val * 128 + x.val), by omega⟩)

/-- A head's logit before the mask. -/
def pair (h : Fin 4) (i s : Fin 2048) : EReal :=
  score (col z 4096 (by decide) h i) (col z 4608 (by decide) h s) (fun x => a (ix3 0 0 x)) (fun x => b (ix3 0 0 x))
    (fc (ix2 i ⟨h.val, by omega⟩)) (fr (ix2 ⟨h.val, by omega⟩ s))

/-- A head's logit: a key after the query has none. -/
def logit (h : Fin 4) (i s : Fin 2048) : EReal := if s.val ≤ i.val then pair z fc fr a b h i s else ⊥

/-- The normalised queries. -/
theorem query (h : Fin 4) (i : Fin 2048) (x : Fin 128) :
    val_main_v20 (F := Ideal) z a (ix3 i h x)
      = col z 4096 (by decide) h i x * rms (col z 4096 (by decide) h i) * a (ix3 0 0 x) := by
  pointwise [val_main_v20, val_main_v19, val_main_v18, val_main_v17, val_main_v16, val_main_v15, val_main_v14,
    val_main_v13, val_main_v12, val_main_v11, val_main_v10, val_main_v9, val_main_v8, val_main_v7, val_main_v6,
    val_main_v1, val_main_v0, val_main_cst, val_main_cst_0, val_main_cst_1, col, rms]

/-- The normalised keys. -/
theorem key (h : Fin 4) (i : Fin 2048) (x : Fin 128) :
    val_main_v35 (F := Ideal) z b (ix3 i h x)
      = col z 4608 (by decide) h i x * rms (col z 4608 (by decide) h i) * b (ix3 0 0 x) := by
  pointwise [val_main_v35, val_main_v34, val_main_v33, val_main_v32, val_main_v31, val_main_v30, val_main_v29,
    val_main_v28, val_main_v27, val_main_v26, val_main_v25, val_main_v24, val_main_v23, val_main_v22, val_main_v21,
    val_main_v3, val_main_v2, val_main_cst_2, val_main_cst_3, val_main_cst_4, col, rms]

/-- The logits before the mask. -/
theorem pair_eq (h : Fin 4) (i s : Fin 2048) :
    val_main_v47 (F := Ideal) z fc fr a b (ix3 h i s) = pair z fc fr a b h i s := by
  pointwise [val_main_v47, val_main_v46, val_main_v45, val_main_v44, val_main_v43, val_main_v42, val_main_v41,
    val_main_v40, val_main_v39, val_main_v38, val_main_v37, val_main_v36, val_main_cst_5, query, key, pair, score]

/-- The logits. -/
theorem logit_eq (h : Fin 4) (i s : Fin 2048) :
    val_main_v54 (F := Ideal) z fc fr a b (ix3 h i s) = logit z fc fr a b h i s := by
  refine Eq.trans (?_ : _ = (Scalar.select (IntOp.cmpi .sle (BitVec.ofNat 32 s.val) (BitVec.ofNat 32 i.val))
    (val_main_v47 (F := Ideal) z fc fr a b (ix3 h i s)) (Ideal.ofBits .f32 0xFF800000#32) : EReal)) ?_
  · have k : id (constant S_ .f32 0xFF800000#32 : FVec Ideal S_ .f32) ix0 = Ideal.ofBits .f32 0xFF800000#32 := rfl
    pointwise [k, val_main_v54, val_main_call0_v2, val_main_call0_v1, val_main_call0_v0, val_main_cst_6, val_main_v53,
      val_main_v52, val_main_v51, val_main_v50, val_main_v49, val_main_v48]
  · rw [pair_eq]; exact below i.val s.val (by omega) (by omega) _

/-- The largest element of each row. -/
theorem row_max (x : FVec Ideal S4x2048x2048 .f32) (c : FVec Ideal S_ .f32) (h : Fin 4) (i : Fin 2048) :
    Host.reduce FloatOps.maximumf x c reducesTo_S4x2048x2048_S4x2048_d2 h_S_ (ix2 h i)
      = Finset.fold max (c (Shape.Idx.first h_S_)) (fun s => x (ix3 h i s)) Finset.univ := by
  simp only [pointwise]

/-- A row's largest logit. -/
theorem top_eq (h : Fin 4) (i : Fin 2048) :
    val_main_v57 (F := Ideal) z fc fr a b (ix2 h i) = top (logit z fc fr a b h i) := by
  have e : val_main_v55 (F := Ideal) z fc fr a b (ix2 h i) = top (logit z fc fr a b h i) := by
    unfold val_main_v55
    refine (row_max (val_main_v54 (F := Ideal) z fc fr a b) (val_main_cst_7 (F := Ideal)) h i).trans ?_
    rw [val_main_cst_7_apply]
    simp only [logit_eq]
    rfl
  rw [val_main_v57_apply, e]
  exact top_max _

/-- The exponentials. -/
theorem power (h : Fin 4) (i s : Fin 2048) : val_main_v61 (F := Ideal) z fc fr a b (ix3 h i s)
    = Ideal.exp (logit z fc fr a b h i s - top (logit z fc fr a b h i)) := by
  rw [← logit_eq, ← top_eq]
  pointwise [val_main_v61, val_main_v60, val_main_v59, val_main_v58]

/-- The result. -/
theorem row (h : Fin 4) (i : Fin 2048) (l : Fin 128) :
    val_main_v69 (F := Ideal) z fc fr a b (ix2 i ⟨h.val * 128 + l.val, by omega⟩)
      = soft (logit z fc fr a b h i) fun s => col z 5120 (by decide) h s l := by
  refine Eq.trans (?_ : _ = ∑ s, col z 5120 (by decide) h s l
    * Ideal.div (val_main_v61 (F := Ideal) z fc fr a b (ix3 h i s))
        (∑ y, val_main_v61 (F := Ideal) z fc fr a b (ix3 h i y))) ?_
  · pointwise [val_main_v69, val_main_v68, val_main_v67, val_main_v66, val_main_v65, val_main_v64, val_main_v63,
      val_main_v62, val_main_cst_9, val_main_v5, val_main_v4, col]
  · simp only [power]
    exact Finset.sum_congr rfl fun s _ => mul_comm _ _

end Cert.Proof.FoxRef
-- ==== Proof.FoxValue.lean ====
module

public import proofs.«01_k».proof.Proof.FoxTiles
public import proofs.«01_k».proof.Proof.FoxRef
public import Idealize.ShloMosaic.Lib.Pipeline.ValueKit

/-! # The forgetting attention: what the result array holds -/

@[expose] public section

set_option maxRecDepth 16384

noncomputable section

namespace Cert.Proof.FoxValue

open Idealize.ShloMosaic Idealize.ShloMosaic.TcCoe Idealize.SL.Sem
open Cert.FoxIdeal Cert.FoxIdeal.Gen Cert.Proof.FoxRow Cert.Proof.FoxTiles

/-- What the logits are made of is real: queries and keys, the running sums' four heads, both gains. -/
structure Real (z : FVec Ideal S2048x5760 .f32) (fc : FVec Ideal S2048x128 .f32) (fr : FVec Ideal S128x2048 .f32)
    (a b : FVec Ideal S2x1x128 .f32) : Prop where
  query : ∀ h i x, Tame (FoxRef.col z 4096 (by decide) h i x)
  key : ∀ h i x, Tame (FoxRef.col z 4608 (by decide) h i x)
  column : ∀ (i : Fin 2048) (h : Fin 4), Tame (fc (ix2 i ⟨h.val, by omega⟩))
  row : ∀ (h : Fin 4) (i : Fin 2048), Tame (fr (ix2 ⟨h.val, by omega⟩ i))
  gainQ : ∀ x : Fin 128, Tame (a (ix3 0 0 x))
  gainK : ∀ x : Fin 128, Tame (b (ix3 0 0 x))

section

variable (z : FVec Ideal S2048x5760 .f32) (fc : FVec Ideal S2048x128 .f32) (fr : FVec Ideal S128x2048 .f32)
  (a b : FVec Ideal S2x1x128 .f32) (R : Real z fc fr a b)

include R in
/-- So every logit up to the query is real. -/
theorem tame_pair (h : Fin 4) (i s : Fin 2048) : Tame (FoxRef.pair z fc fr a b h i s) :=
  tame_score _ _ _ _ _ _ (R.query h i) (R.key h s) R.gainQ R.gainK (R.column i h) (R.row h s)

include R in
/-- A block of queries that starts `o` rows on, with the first `n` keys, gives the reference's rows. -/
theorem block (h : Fin 4) (o n : ℕ) (hn : n ≤ 2048) (ho : o + 256 ≤ n) (q f : FVec Ideal S256x128 .f32)
    (k v : FVec Ideal (rows n) .f32) (g : FVec Ideal (eight n) .f32) (a' b' : FVec Ideal S1x1x128 .f32) (r : Fin 256)
    (l : Fin 128)
    (hq : ∀ x, q (ix2 r x) = FoxRef.col z 4096 (by decide) h ⟨o + r.val, by omega⟩ x)
    (hf : ∀ x, f (ix2 r x) = fc (ix2 ⟨o + r.val, by omega⟩ x))
    (hk : ∀ s x, k (ix2 s x) = FoxRef.col z 4608 (by decide) h (s.castLE hn) x)
    (hv : ∀ s, v (ix2 s l) = FoxRef.col z 5120 (by decide) h (s.castLE hn) l)
    (hg : ∀ (x : Fin 8) s, g (ix2 x s) = fr (ix2 ⟨x.val, by omega⟩ (s.castLE hn)))
    (ha : ∀ x, a' (ix3 0 0 x) = a (ix3 0 0 x)) (hb : ∀ x, b' (ix3 0 0 x) = b (ix3 0 0 x)) :
    tile (BitVec.ofNat 32 h.val) q f a' b' (BitVec.ofNat 32 o) k v g r l
      = soft (FoxRef.logit z fc fr a b h ⟨o + r.val, by omega⟩) fun s => FoxRef.col z 5120 (by decide) h s l := by
  have real := fun s => tame_pair z fc fr a b R h ⟨o + r.val, by omega⟩ s
  unfold tile
  refine narrow hn _ _ _ _ (fun s => ?_) hv (fun s hs => ?_) ⟨o + r.val, by omega⟩ ?_ fun s => ?_
  · unfold logit FoxRef.logit
    rw [causal o r.val s.val (by omega) (by omega), pick (by decide) (⟨h.val, by omega⟩ : Fin 128),
      pick (by decide) (⟨h.val, by omega⟩ : Fin 8)]
    unfold FoxRef.pair
    simp only [hq, hf, hk, hg, ha, hb]
    rfl
  · exact if_neg (by simp only; omega)
  · unfold FoxRef.logit
    rw [if_pos le_rfl]
    exact (real _).ne.1
  · unfold FoxRef.logit
    split
    · exact (real _).ne.2
    · exact bot_ne_top

end

variable (m : (ℓ : Loc nD τ sig) → Buf (Elt Ideal) ℓ) (c : Dev nD) (t : Fin cfg0.N)

/-- Head `t`'s columns of the activations and of the result, and the whole of the running sums and gains. -/
theorem idx : ∀ t : Fin cfg0.N, win0_0.index t = ![0, 32 + t.val] ∧ win0_1.index t = ![0, 36 + t.val]
      ∧ win0_2.index t = ![0, 40 + t.val] ∧ win0_3.index t = ![0, 0] ∧ win0_4.index t = ![0, 0]
      ∧ win0_5.index t = ![0, 0, 0] ∧ win0_6.index t = ![0, 0, 0] ∧ win0_7.index t = ![0, t.val] :=
  (by decide +kernel : ∀ t : Fin grid0.N, _)

/-- The arguments. -/
abbrev zin : FVec Ideal S2048x5760 .f32 := m ((c : Thread nD τ).loc main_arg0)
abbrev fcol : FVec Ideal S2048x128 .f32 := m ((c : Thread nD τ).loc main_arg1)
abbrev frow : FVec Ideal S128x2048 .f32 := m ((c : Thread nD τ).loc main_arg2)
abbrev gainQ : FVec Ideal S2x1x128 .f32 := m ((c : Thread nD τ).loc main_arg3)
abbrev gainK : FVec Ideal S2x1x128 .f32 := m ((c : Thread nD τ).loc main_arg4)

/-- The reference's result. -/
abbrev res := Cert.FoxRefIdeal.Read.val_main_v69 (F := Ideal) (zin m c) (fcol m c) (frow m c) (gainQ m c) (gainK m c)

/-- The head of a grid point. -/
abbrev head : Fin 4 := ⟨t.val, t.isLt⟩

/-- Its query, key and value columns. -/
theorem read0 (i : Fin 2048) (x : Fin 128) :
    iblk m c 0 t (ix2 i x) = FoxRef.col (zin m c) 4096 (by decide) (head t) i x := by
  unfold FoxRef.col; blk_point [iblk, V, idx t]
theorem read1 (i : Fin 2048) (x : Fin 128) :
    iblk m c 1 t (ix2 i x) = FoxRef.col (zin m c) 4608 (by decide) (head t) i x := by
  unfold FoxRef.col; blk_point [iblk, V, idx t]
theorem read2 (i : Fin 2048) (x : Fin 128) :
    iblk m c 2 t (ix2 i x) = FoxRef.col (zin m c) 5120 (by decide) (head t) i x := by
  unfold FoxRef.col; blk_point [iblk, V, idx t]

/-- The running sums and the gains. -/
theorem read3 (i : Fin 2048) (x : Fin 128) : iblk m c 3 t (ix2 i x) = fcol m c (ix2 i x) := by
  blk_point [iblk, V, idx t]
theorem read4 (x : Fin 8) (i : Fin 2048) : iblk m c 4 t (ix2 x i) = frow m c (ix2 ⟨x.val, by omega⟩ i) := by
  blk_point [iblk, V, idx t]
theorem read5 (x : Fin 128) : iblk m c 5 t (ix3 0 0 x) = gainQ m c (ix3 0 0 x) := by
  blk_point [iblk, V, idx t]
theorem read6 (x : Fin 128) : iblk m c 6 t (ix3 0 0 x) = gainK m c (ix3 0 0 x) := by
  blk_point [iblk, V, idx t]

/-- A load of whole rows reads these rows. -/
theorem ld_rows (X : FVec Ideal S2048x128 .f32) (o n : ℕ)
    (b : ∀ a, (![o, 0] : Fin 2 → ℕ) a + (rows n).size a ≤ S2048x128.size a) (r : Fin n) (x : Fin 128) (h : o + r.val < 2048) :
    View.ld (Val := Elt Ideal) (e' := .f32) X (Rect.unit (s := S2048x128) ![o, 0] (rows n).size b) (ix2 r x)
      = X (ix2 ⟨o + r.val, h⟩ x) :=
  congrArg X (funext fun a => Fin.ext ((Rect.idx_unit_val _ _ b (ix2 r x) a).trans (by
    fin_cases a
    · rfl
    · exact Nat.zero_add _)))

/-- A load of the first lanes of eight rows reads these lanes. -/
theorem ld_lanes (X : FVec Ideal S8x2048 .f32) (n : ℕ)
    (b : ∀ a, (![0, 0] : Fin 2 → ℕ) a + (eight n).size a ≤ S8x2048.size a) (x : Fin 8) (s : Fin n) (h : n ≤ 2048) :
    View.ld (Val := Elt Ideal) (e' := .f32) X (Rect.unit (s := S8x2048) ![0, 0] (eight n).size b) (ix2 x s)
      = X (ix2 x (s.castLE h)) :=
  congrArg X (funext fun a => Fin.ext ((Rect.idx_unit_val _ _ b (ix2 x s) a).trans (by
    fin_cases a
    · exact Nat.zero_add _
    · exact Nat.zero_add _)))

/-- The reference's result of head `t`, at a row and a lane. -/
def goal (y : S2048x128.Idx) : EReal :=
  soft (FoxRef.logit (zin m c) (fcol m c) (frow m c) (gainQ m c) (gainK m c) (head t) (y 0)) fun s =>
    FoxRef.col (zin m c) 5120 (by decide) (head t) s (y 1)

variable (R : Real (zin m c) (fcol m c) (frow m c) (gainQ m c) (gainK m c))

include R in
/-- A block of queries, loaded from the windows. -/
theorem piece (o n : ℕ) (hn : n ≤ 2048) (ho : o + 256 ≤ n)
    (b : ∀ a, (![o, 0] : Fin 2 → ℕ) a + (rows 256).size a ≤ S2048x128.size a)
    (b' : ∀ a, (![0, 0] : Fin 2 → ℕ) a + (rows n).size a ≤ S2048x128.size a)
    (b'' : ∀ a, (![0, 0] : Fin 2 → ℕ) a + (eight n).size a ≤ S8x2048.size a) (x : S256x128.Idx) :
    tile (BitVec.ofNat 32 t.val) (View.ld (iblk m c 0 t) (Rect.unit (s := S2048x128) ![o, 0] (rows 256).size b))
      (View.ld (iblk m c 3 t) (Rect.unit (s := S2048x128) ![o, 0] (rows 256).size b)) (iblk m c 5 t) (iblk m c 6 t)
      (BitVec.ofNat 32 o) (View.ld (iblk m c 1 t) (Rect.unit (s := S2048x128) ![0, 0] (rows n).size b'))
      (View.ld (iblk m c 2 t) (Rect.unit (s := S2048x128) ![0, 0] (rows n).size b'))
      (View.ld (iblk m c 4 t) (Rect.unit (s := S8x2048) ![0, 0] (eight n).size b'')) (x 0) (x 1)
      = goal m c t ((Rect.unit (s := S2048x128) ![o, 0] (rows 256).size b).emb x) := by
  have hx : (x 0).val < 256 := (x 0).isLt
  have e : ((Rect.unit (s := S2048x128) ![o, 0] (rows 256).size b).emb x : S2048x128.Idx)
      = ix2 ⟨o + (x 0).val, by omega⟩ (x 1) := by blk_ext
  have z : ∀ s : Fin n, (⟨0 + s.val, by omega⟩ : Fin 2048) = s.castLE hn := fun s => Fin.ext (Nat.zero_add _)
  rw [e]
  refine block _ _ _ _ _ R (head t) o n hn ho _ _ _ _ _ _ _ (x 0) (x 1) (fun l => ?_) (fun l => ?_) (fun s l => ?_)
    (fun s => ?_) (fun l s => ?_) (read5 m c t) (read6 m c t)
  · exact (ld_rows _ o 256 b (x 0) l _).trans (read0 m c t _ l)
  · exact (ld_rows _ o 256 b (x 0) l _).trans (read3 m c t _ l)
  · exact (ld_rows _ 0 n b' s l (by omega)).trans ((read1 m c t _ l).trans (by rw [z]))
  · exact (ld_rows _ 0 n b' s (x 1) (by omega)).trans ((read2 m c t _ (x 1)).trans (by rw [z]))
  · exact (ld_lanes _ n b'' l s hn).trans (read4 m c t l _)

include R in
/-- What a grid point leaves in its block. -/
theorem out_eq (y : S2048x128.Idx) : out0_7 (F := Ideal) (grid0.coords t) (iblk m c 0 t) (iblk m c 1 t) (iblk m c 2 t)
    (iblk m c 3 t) (iblk m c 4 t) (iblk m c 5 t) (iblk m c 6 t) y = goal m c t y := by
  have g : ((grid0.coords t) 0).val = t.val := (by decide +kernel : ∀ t : Fin grid0.N, ((grid0.coords t) 0).val = t.val) t
  have ld : ∀ x : Vec Ideal S1x1x128 .f32, (View.ld x r0_2 : Vec Ideal S1x1x128 .f32) = x :=
    fun x => View.ld_unit_zero (S := S1x1x128) (off := ![0, 0, 0]) (by funext a; fin_cases a <;> rfl)
      inb_S1x1x128_S1x1x128_0_0_0 x
  have row : ∀ x : S256x128.Idx, x = ix2 (x 0) (x 1) := fun x => by blk_ext
  unfold_out out0_7
  rw [g, ld, ld]
  refine View.canon_apply_of_pieces (Val := Elt Ideal) (e := .bf16) (goal m c t) _ ?_ y (cover0_7 _ _ _ _ _ _ _ _ y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact (congrArg _ (row x)).trans ((block_7 ..).trans (piece m c t R 1792 2048 (by decide) (by decide) _ _ _ x))
  · exact (congrArg _ (row x)).trans ((block_6 ..).trans (piece m c t R 1536 1792 (by decide) (by decide) _ _ _ x))
  · exact (congrArg _ (row x)).trans ((block_5 ..).trans (piece m c t R 1280 1536 (by decide) (by decide) _ _ _ x))
  · exact (congrArg _ (row x)).trans ((block_4 ..).trans (piece m c t R 1024 1280 (by decide) (by decide) _ _ _ x))
  · exact (congrArg _ (row x)).trans ((block_3 ..).trans (piece m c t R 768 1024 (by decide) (by decide) _ _ _ x))
  · exact (congrArg _ (row x)).trans ((block_2 ..).trans (piece m c t R 512 768 (by decide) (by decide) _ _ _ x))
  · exact (congrArg _ (row x)).trans ((block_1 ..).trans (piece m c t R 256 512 (by decide) (by decide) _ _ _ x))
  · exact (congrArg _ (row x)).trans ((block_0 ..).trans (piece m c t R 0 256 (by decide) (by decide) _ _ _ x))

include R in
/-- The result after the run. -/
theorem final : (dats m 0 c).arrAt 7 (cfgs 0).N = res m c := by
  refine (dats m 0 c).arrAt_eq_of_covers 7 _ (by decide +kernel) fun t _ y => ?_
  blk_simp
  have e : ((cfg0.win 7).blk t).view.emb y
      = ix2 (y 0) ⟨(head t).val * 128 + (y 1).val, by have := (head t).isLt; have : (y 1).val < 128 := (y 1).isLt; omega⟩ := by
    blk_ext [idx t]
  rw [after0_7]
  refine (out_eq m c t R y).trans ?_
  exact ((congrArg (res m c) e).trans (FoxRef.row _ _ _ _ _ (head t) (y 0) (y 1))).symm

end Cert.Proof.FoxValue
-- ==== Proof.FoxClaims.lean ====
module

public import proofs.«01_k».proof.Defs
public import proofs.«01_k».proof.Proof.Gen.Fox.Frame
public import proofs.«01_k».proof.Proof.FoxValue
public import Idealize.ShloMosaic.Lib.Claim
public import Idealize.ShloMosaic.Lib.Quiescent

/-! # The claims about the forgetting attention -/

@[expose] public section

set_option maxRecDepth 16384

noncomputable section

namespace Cert.Proof.FoxClaims

open Idealize.ShloMosaic Idealize.SL.Sem Cert.Proof.FoxRow

/-- The printed kernel runs to the end, leaves its arguments alone and its counters at zero. -/
theorem frame : Cert.quiescent_Fox := fun m ρ _ => Cert.Fox.Gen.frame m ρ

/-- So does its ideal reading. -/
theorem frameIdeal : Cert.quiescent_FoxIdeal := fun m ρ _ => Cert.FoxIdeal.Gen.frame m ρ

/-- So does the reference. -/
theorem frameRef : Cert.quiescent_FoxRefIdeal := fun m ρ _ =>
  (θ_run Cert.FoxRefIdeal.defs _ _).mono
    (fun r h => ⟨fun c => (h c).2, Idealize.ShloMosaic.sem_eq_zero_of_no_sems (by decide) r.2⟩)
    (Cert.FoxRefIdeal.Value.run (F := Idealize.ShloMosaic.Ideal) m ρ)

variable [Cert.Pre_finite_fox.Facts]

/-- The ideal reading's run does not need the precondition. -/
theorem frameIdealPre : Cert.quiescent_FoxIdeal_pre_finite_fox := fun m ρ _ => Cert.FoxIdeal.Gen.frame m ρ

/-- Nor does the reference's. -/
theorem frameRefPre : Cert.quiescent_FoxRefIdeal_pre_finite_fox := fun m ρ _ => frameRef m ρ trivial

section

variable (z : FVec Ideal ⟨2, ![2048, 5760]⟩ .f32) (fc : FVec Ideal ⟨2, ![2048, 128]⟩ .f32)
  (fr : FVec Ideal ⟨2, ![128, 2048]⟩ .f32) (a b : FVec Ideal ⟨3, ![2, 1, 128]⟩ .f32)

/-- A comparison of an absolute value with infinity that holds tells of a real number. -/
theorem tame_cmp {x : EReal}
    (h : Ideal.cmp .olt (max x (-x)) (Ideal.ofBits .f32 0x7F800000#32) = 1#1) : Tame x := by
  refine tame_abs (lt_of_lt_of_le ?_ (le_top (a := Ideal.ofBits .f32 0x7F800000#32)))
  by_contra hn
  simp [Ideal.cmp, hn] at h

/-- The queries' and keys' columns are real. -/
theorem tame_in (h : (Cert.Pre_finite_fox.fn (F := Ideal) z fc fr a b).1 = fun _ => 1#1) (i : Fin 2048) (x : Fin 1024) :
    Tame (z (ix2 i ⟨4096 + x.val, by omega⟩)) := by
  have e := congrFun h (ix2 i x)
  unfold Cert.Pre_finite_fox.fn Cert.Pre_finite_fox.fn_part1 at e
  refine tame_cmp (Eq.trans ?_ e)
  pointwise []
  rfl

/-- The running sums' columns are real. -/
theorem tame_col (h : (Cert.Pre_finite_fox.fn (F := Ideal) z fc fr a b).2.1 = fun _ => 1#1) (i : Fin 2048) (x : Fin 4) :
    Tame (fc (ix2 i ⟨x.val, by omega⟩)) := by
  have e := congrFun h (ix2 i x)
  unfold Cert.Pre_finite_fox.fn Cert.Pre_finite_fox.fn_part1 at e
  refine tame_cmp (Eq.trans ?_ e)
  pointwise []
  rfl

/-- Their rows are. -/
theorem tame_row (h : (Cert.Pre_finite_fox.fn (F := Ideal) z fc fr a b).2.2.1 = fun _ => 1#1) (x : Fin 4) (i : Fin 2048) :
    Tame (fr (ix2 ⟨x.val, by omega⟩ i)) := by
  have e := congrFun h (ix2 x i)
  unfold Cert.Pre_finite_fox.fn Cert.Pre_finite_fox.fn_part1 at e
  refine tame_cmp (Eq.trans ?_ e)
  pointwise []
  rfl

/-- The queries' gains are. -/
theorem tame_gainQ (h : (Cert.Pre_finite_fox.fn (F := Ideal) z fc fr a b).2.2.2.1 = fun _ => 1#1) (x : Fin 128) :
    Tame (a (ix3 0 0 x)) := by
  have e := congrFun h (ix2 0 x)
  unfold Cert.Pre_finite_fox.fn Cert.Pre_finite_fox.fn_part1 at e
  refine tame_cmp (Eq.trans ?_ e)
  pointwise []
  rfl

/-- The keys' gains are. -/
theorem tame_gainK (h : (Cert.Pre_finite_fox.fn (F := Ideal) z fc fr a b).2.2.2.2 = fun _ => 1#1) (x : Fin 128) :
    Tame (b (ix3 0 0 x)) := by
  have e := congrFun h (ix2 0 x)
  unfold Cert.Pre_finite_fox.fn Cert.Pre_finite_fox.fn_part1 at e
  refine tame_cmp (Eq.trans ?_ e)
  pointwise []
  rfl

end

/-- The precondition, read at one device. -/
theorem real (m : (ℓ : Loc Cert.FoxIdeal.nD Cert.FoxIdeal.τ Cert.FoxIdeal.sig) → Buf (Elt Ideal) ℓ)
    (h : Cert.Pre_FoxIdeal_finite_fox m) (c : Dev Cert.FoxIdeal.nD) :
    FoxValue.Real (FoxValue.zin m c) (FoxValue.fcol m c) (FoxValue.frow m c) (FoxValue.gainQ m c) (FoxValue.gainK m c) := by
  obtain ⟨h0, h1, h2, h3, h4⟩ := h c
  refine ⟨fun k i x => ?_, fun k i x => ?_, fun i k => tame_col _ _ _ _ _ h1 i k, fun k i => tame_row _ _ _ _ _ h2 k i,
    tame_gainQ _ _ _ _ _ h3, tame_gainK _ _ _ _ _ h4⟩
  · exact tame_in _ _ _ _ _ h0 i ⟨k.val * 128 + x.val, by omega⟩
  · have e : (⟨4608 + (k.val * 128 + x.val), by omega⟩ : Fin 5760) = ⟨4096 + (512 + (k.val * 128 + x.val)), by omega⟩ :=
      Fin.ext (by simp only; omega)
    unfold FoxRef.col
    rw [e]
    exact tame_in _ _ _ _ _ h0 i ⟨512 + (k.val * 128 + x.val), by omega⟩

/-- The array the kernel writes is the reference's, at the ideal reading, where the logits are real. -/
theorem algebraic : Cert.algebraic_FoxIdeal_FoxRefIdeal_pre_finite_fox := by
  pair_intro
  · run_from Cert.FoxIdeal.Gen.run_main m g
  · refine (θ_run Cert.FoxRefIdeal.defs _ _).mono (fun r h c => ?_) (Cert.FoxRefIdeal.Value.run m' g')
    obtain ⟨e0, e1, e2, e3, e4⟩ := hagree c
    refine ⟨(h c).1.trans ?_, (h c).2⟩
    refine (Cert.FoxRefIdeal.Read.val_main_v69_eq ..).trans
      (Eq.trans ?_ (FoxValue.final m c (real m (by assumption) c)).symm)
    rw [e0, e1, e2, e3, e4]

end Cert.Proof.FoxClaims
-- ==== Proof.FoxPrepBwdMath.lean ====
module

public import proofs.«01_k».proof.Proof.Prefix
public import proofs.«01_k».proof.Proof.FoxRow
public import Idealize.ShloMosaic.Lib.Pipeline.ValueKit

/-! # Sums from each row on

The gradient of a running sum sums from each row to the end. The reference writes that as a sum over a window, the kernel
builds it by steps of half the length each time. -/

@[expose] public section

noncomputable section

namespace Cert.Proof.FoxPrepBwdMath

open Idealize.ShloMosaic Idealize.ShloMosaic.TcCoe Idealize.SL.Sem Cert.Proof.FoxRow

/-- One halving step: `m` shifts `2 n` apart, plus these shifted by `n`, are `2 m` shifts `n` apart. -/
theorem halving {ι : Type} (D : ℕ → (ι → EReal) → ι → EReal) (nil : ∀ n i, D n (fun _ => 0) i = 0)
    (add : ∀ n f g i, D n (fun r => f r + g r) i = D n f i + D n g i)
    (comp : ∀ n k f i, D n (fun r => D k f r) i = D (n + k) f i) (n m : ℕ) (f : ι → EReal) (i : ι) :
    ∑ k ∈ Finset.range m, D ((n + n) * k) f i + D n (fun r => ∑ k ∈ Finset.range m, D ((n + n) * k) f r) i
      = ∑ k ∈ Finset.range (m + m), D (n * k) f i := by
  have h : ∀ l, D n (fun r => ∑ k ∈ Finset.range l, D ((n + n) * k) f r) i
      = ∑ k ∈ Finset.range l, D (n + (n + n) * k) f i := by
    intro l
    induction l with
    | zero => simpa using nil n i
    | succ l ih => simp only [Finset.sum_range_succ, add, comp, ih]
  rw [h, ← Finset.sum_add_distrib]
  induction m with
  | zero => simp
  | succ m ih =>
    rw [Finset.sum_range_succ, ih, show m + 1 + (m + 1) = m + m + 1 + 1 by omega, Finset.sum_range_succ,
      Finset.sum_range_succ, add_assoc, show n * (m + m) = (n + n) * m by ring,
      show n * (m + m + 1) = n + (n + n) * m by ring]

/-- `cumsum` from the end along an axis: an entry is the sum over the places from it on. -/
theorem cumsum_back (s u : Shape) (a : Fin s.rank) (window strides lo hi : Fin s.rank → ℕ) (x : FVec Ideal s .f32)
    (init : FVec Ideal u .f32) (h : s.ReduceWindows window strides lo hi s) (hu : 0 < u.numel)
    (h0 : init (Shape.Idx.first hu) = 0) (hw : ∀ b, window b = if b = a then s.size a else 1)
    (hs : ∀ b, strides b = 1) (hl : ∀ b, lo b = 0) (j : s.Idx) :
    Host.reduceWindowAdd (F := Ideal) window strides lo hi x init h hu j
      = ∑ k ∈ Finset.range (s.size a), if c : (j a).val + k < s.size a then
          x (fun b => ⟨if b = a then (j b).val + k else (j b).val, by
            have := (j b).isLt
            split
            · next e => subst e; exact c
            · exact this⟩) else (0 : EReal) := by
  refine (Prefix.foldl_add _ _).trans ?_
  rw [h0, zero_add]
  refine Eq.trans (Finset.sum_congr rfl fun n _ => ?_) <| (Prefix.sum_axis ⟨s.rank, window⟩ a (fun b hb => (hw b).trans (if_neg hb)) fun q =>
    if hin : ∀ b, lo b ≤ (j b).val * strides b + (q b).val ∧ (j b).val * strides b + (q b).val - lo b < s.size b then
      x fun b => ⟨(j b).val * strides b + (q b).val - lo b, (hin b).2⟩ else 0).trans ?_
  · dsimp only [Fin.cast_eq_self]
    congr
  rw [← Fin.sum_univ_eq_sum_range (f := fun k => if c : (j a).val + k < s.size a then
          x (fun b => ⟨if b = a then (j b).val + k else (j b).val, by
            have := (j b).isLt
            split
            · next e => subst e; exact c
            · exact this⟩) else (0 : EReal))]
  have e : window a = s.size a := by rw [hw, if_pos rfl]
  refine Fintype.sum_equiv (finCongr e) _ _ fun k => ?_
  have kl : k.val < s.size a := lt_of_lt_of_eq k.isLt e
  simp only [finCongr_apply, Fin.val_cast]
  by_cases c : (j a).val + k.val < s.size a
  · rw [dif_pos c, dif_pos]
    · refine congrArg x (funext fun b => Fin.ext ?_)
      by_cases hb : b = a
      · subst hb; simp only [Prefix.along, hs, hl, if_true, dite_true]; omega
      · simp only [Prefix.along, hs, hl, if_neg hb, dif_neg hb]; omega
    · intro b
      have jb := (j b).isLt
      by_cases hb : b = a
      · subst hb; simp only [Prefix.along, hs, hl, dite_true]; omega
      · simp only [Prefix.along, hs, hl, dif_neg hb]; omega
  · rw [dif_neg c, dif_neg]
    intro hin
    have := (hin a).2
    simp only [Prefix.along, hs, hl, dite_true] at this
    omega

/-- What the body does at one element: the gradient `g` of the running sum's argument through the logarithm of the
logistic function at `x`. -/
def back (x g : EReal) : EReal :=
  ((if 0 ≤ x then 0 - Ideal.div (0 - g) (1 + Ideal.exp (0 - max x (-x))) * Ideal.exp (0 - max x (-x)) else 0)
    + (0 - if 0 ≤ x then 0 else
        0 - Ideal.div (0 - g) (1 + Ideal.exp (0 - max x (-x))) * Ideal.exp (0 - max x (-x))))
    + g * if x < 0 then 1 else if 0 = x then Ideal.ofBits .f32 0x3F000000#32 else 0

/-- The softened maximum of `-x` and zero. -/
def lse (x : EReal) : EReal := max (-x) 0 + Ideal.log1p (Ideal.exp (-max (-x) (-(-x))))

/-- The reference's derivative at `x`: the exponential of `-x` less the softened maximum. -/
def slope (x : EReal) : EReal :=
  Ideal.exp ((if -x = Ideal.ofBits .f32 0x7F800000#32 then 0 else -x)
    - if lse x = Ideal.ofBits .f32 0x7F800000#32 then 0 else lse x)

/-- The word for infinity. -/
theorem inf : Ideal.ofBits .f32 0x7F800000#32 = ⊤ := by simp [Ideal.ofBits, Ideal.ieee]

/-- At a real number, from its softened maximum. -/
theorem slope_real (r t : ℝ) (h : lse r = t) : slope r = ((Real.exp (-r - t) : ℝ) : EReal) := by
  unfold slope
  rw [h, inf, if_neg (by rw [← EReal.coe_neg]; exact EReal.coe_ne_top _), if_neg (EReal.coe_ne_top _), ← EReal.coe_neg,
    ← EReal.coe_sub, Ideal.exp_coe]

/-- The softened maximum at a real number. -/
theorem lse_real (r : ℝ) : lse r = ((max (-r) 0 + Real.log (1 + Real.exp (-max (-r) r)) : ℝ) : EReal) := by
  have p : ¬ 1 + Real.exp (-max (-r) r) ≤ 0 := by have := Real.exp_pos (-max (-r) r); linarith
  unfold lse
  rw [neg_neg, ← EReal.coe_neg, ← EReal.coe_zero, ← EReal.coe_strictMono.monotone.map_max,
    ← EReal.coe_strictMono.monotone.map_max, ← EReal.coe_neg, Ideal.exp_coe, Ideal.log1p, ← EReal.coe_one,
    ← EReal.coe_add, Ideal.log_coe, if_neg p, ← EReal.coe_add]

/-- Away from zero the body's derivative is the reference's. -/
theorem back_eq (x g : EReal) (hx : x ≠ 0) (hg : Tame g) : back x g = -(-g * slope x) := by
  obtain ⟨g, rfl⟩ := hg
  induction x with
  | bot =>
    have s : slope ⊥ = 1 := by
      have l : lse ⊥ = ⊤ := by simp [lse, Ideal.log1p, Prefix.log_one]
      unfold slope
      rw [l, inf]; simp
      rw [← EReal.coe_zero, Ideal.exp_coe]; simp
    rw [s]; simp [back]
  | top =>
    have s : slope ⊤ = 0 := by
      have l : lse ⊤ = 0 := by simp [lse, Ideal.log1p, Prefix.log_one]
      unfold slope
      rw [l, inf]; simp
    rw [s]; simp [back]
  | coe r =>
    have hr : r ≠ 0 := fun h => hx (by rw [h]; rfl)
    have ab : (0 : EReal) - max (r : EReal) (-(r : EReal)) = ((-max r (-r) : ℝ) : EReal) := by
      rw [zero_sub, EReal.coe_neg, EReal.coe_strictMono.monotone.map_max, EReal.coe_neg]
    have pos := Real.exp_pos (-max r (-r))
    have ne : 1 + Real.exp (-max r (-r)) ≠ 0 := by linarith
    have w : (0 : EReal) - Ideal.div (0 - (g : EReal)) (1 + Ideal.exp (0 - max (r : EReal) (-(r : EReal))))
        * Ideal.exp (0 - max (r : EReal) (-(r : EReal)))
        = ((g * (1 / (1 + Real.exp (-max r (-r)))) * Real.exp (-max r (-r)) : ℝ) : EReal) := by
      rw [ab, Ideal.exp_coe, ← EReal.coe_one, ← EReal.coe_add, Ideal.div_coe ne, ← EReal.coe_zero, ← EReal.coe_sub,
        ← EReal.coe_mul, ← EReal.coe_mul, ← EReal.coe_sub]
      congr 1; ring
    rw [slope_real r _ (lse_real r), ← EReal.coe_neg, ← EReal.coe_mul, ← EReal.coe_neg]
    unfold back
    rw [w]
    rcases lt_or_gt_of_ne hr with h | h
    · have c : ¬ (0 : EReal) ≤ r := by rw [not_le]; exact_mod_cast h
      rw [if_neg c, if_neg c, if_pos (not_le.mp c), mul_one, zero_add, zero_sub, ← EReal.coe_neg, ← EReal.coe_add]
      congr 1
      rw [max_eq_right (by linarith : r ≤ -r), max_eq_left (by linarith : r ≤ -r), max_eq_left (by linarith : 0 ≤ -r)]
      rw [max_eq_right (by linarith : r ≤ -r)] at ne pos
      rw [neg_neg] at *
      rw [show -r - (-r + Real.log (1 + Real.exp r)) = -Real.log (1 + Real.exp r) by ring, Real.exp_neg,
        Real.exp_log (by linarith)]
      field_simp
      ring
    · have c : (0 : EReal) ≤ r := by exact_mod_cast h.le
      have d : ¬ (0 : EReal) = r := by intro e; exact hr (by exact_mod_cast e.symm)
      rw [if_pos c, if_pos c, if_neg (not_lt.mpr c), if_neg d, mul_zero, add_zero, sub_zero, add_zero]
      congr 1
      rw [max_eq_left (by linarith : -r ≤ r)] at ne pos ⊢
      rw [max_eq_right (by linarith : -r ≤ r), max_eq_right (by linarith : -r ≤ 0), zero_add, Real.exp_sub,
        Real.exp_log (by linarith)]
      field_simp

end Cert.Proof.FoxPrepBwdMath
-- ==== Proof.FoxPrepBwdValue.lean ====
module

public import proofs.«01_k».proof.Proof.ConvPoolCols
public import proofs.«01_k».proof.Proof.FoxPrepBwdMath
public import proofs.«01_k».proof.Proof.Gen.FoxPrepBwdIdeal.Value
public import proofs.«01_k».proof.Proof.Gen.FoxPrepBwdRefIdeal.Run
public import proofs.«01_k».proof.Proof.Gen.FoxPrepBwdRefIdeal.Read
public import Idealize.ShloMosaic.Lib.Pipeline.ValueKit

/-! # The forget gates' gradients: what the two result arrays hold -/

@[expose] public section

set_option maxRecDepth 16384

noncomputable section

namespace Cert.Proof.FoxPrepBwdValue

open Idealize.ShloMosaic Idealize.ShloMosaic.TcCoe Idealize.SL.Sem
open Cert.FoxPrepBwdIdeal Cert.FoxPrepBwdIdeal.Gen Cert.Proof.ConvPoolCols

/-- `m` advances of a column, `n` rows apart, summed. -/
def skip (n m : ℕ) (f : Fin 2048 → EReal) (i : Fin 2048) : EReal := ∑ k ∈ Finset.range m, adv (n * k) f i

/-- One of the body's halving steps on a tile. -/
def up (n : ℕ) (x : FVec Ideal S2048x128 .f32) : FVec Ideal S2048x128 .f32 :=
  addf x (dynamicRotate 0 (BitVec.ofNat 32 (2048 - n)) none
    (select (cmpi .sge (iota .tc S2048x128 32 [0] iota_S2048x128_d0_w32) (broadcast S2048x128 (BitVec.ofNat 32 n))) x
      (broadcast S2048x128 (Scalar.ofBits .f32 0x00000000#32 : Ideal .f32))) rotates_S2048x128_d0)

/-- A halving step on columns. -/
theorem up_cols (n n' m m' : ℕ) (hn : n < 2048) (hn0 : 0 < n) (e : n' = n + n) (e' : m' = m + m)
    (f : Fin 128 → Fin 2048 → EReal) :
    up n (cols fun l => skip n' m (f l)) = cols fun l => skip n m' (f l) := by
  subst e e'
  have d := advance_cols n hn hn0 fun l => skip (n + n) m (f l)
  have z := zero_cols
  unfold up
  refine (congrArg (addf _) ((congrArg (fun o => dynamicRotate 0 (BitVec.ofNat 32 (2048 - n)) none
    (select (cmpi .sge (iota .tc S2048x128 32 [0] iota_S2048x128_d0_w32) (broadcast S2048x128 (BitVec.ofNat 32 n)))
      (cols fun l => skip (n + n) m (f l)) o) rotates_S2048x128_d0) z).trans d)).trans ?_
  rw [addf_cols]
  exact congrArg cols (funext fun l => funext fun r =>
    FoxPrepBwdMath.halving adv adv_const adv_add adv_adv n m (f l) r)

/-- The tile the steps start from. -/
def start (s : FVec Ideal S2048x128 .f32) (p0 p1 p2 p3 : FVec Ideal S1x8x2048 .f32) : FVec Ideal S2048x128 .f32 :=
  have a := addf (addf (addf (shapeCast S8x2048 p0 shapeCasts_S1x8x2048_S8x2048)
    (shapeCast S8x2048 p1 shapeCasts_S1x8x2048_S8x2048)) (shapeCast S8x2048 p2 shapeCasts_S1x8x2048_S8x2048))
    (shapeCast S8x2048 p3 shapeCasts_S1x8x2048_S8x2048)
  have z := broadcast S120x2048 (Scalar.ofBits .f32 0x00000000#32 : Ideal .f32)
  addf s (transpose S2048x128 [1, 0]
    (concatenate S128x2048 0 [⟨S8x2048, a⟩, ⟨S120x2048, z⟩] concatenates_S8x2048_S120x2048_S128x2048_d0)
    transposes_S128x2048_p1_0_S2048x128)

/-- The body's last part on a tile: through the logarithm of the logistic function. -/
def through (x : FVec Ideal S2048x128 .f32) (b : FVec Ideal S1x1x128 .f32) (g : FVec Ideal S2048x128 .f32) :
    FVec Ideal S2048x128 .f32 :=
  have z := broadcast S2048x128 (Scalar.ofBits .f32 0x00000000#32 : Ideal .f32)
  have w : FVec Ideal S2048x128 .f32 := subf z (mulf (divf (subf z g) (k0_pay6 (F := Ideal) x b)) (k0_pay5 (F := Ideal) x b))
  addf (addf (select (k0_pay4 (F := Ideal) x b) w z) (subf z (select (k0_pay4 (F := Ideal) x b) z w))) (mulf g (k0_pay3 (F := Ideal) x b))

/-- The whole body. -/
theorem body (x : FVec Ideal S2048x128 .f32) (b : FVec Ideal S1x1x128 .f32) (s : FVec Ideal S2048x128 .f32)
    (p0 p1 p2 p3 : FVec Ideal S1x8x2048 .f32) (f : Fin 128 → Fin 2048 → EReal) (h : start s p0 p1 p2 p3 = cols f) :
    k0_pay12 (F := Ideal) (k0_pay3 x b) (k0_pay4 (F := Ideal) x b) (k0_pay5 x b) (k0_pay6 x b)
        (k0_pay10 (k0_pay8 s p0 p1 p2 p3) (iota .tc S2048x128 32 [0] iota_S2048x128_d0_w32) k0_pay9)
        (iota .tc S2048x128 32 [0] iota_S2048x128_d0_w32) k0_pay11
      = through x b (cols fun l => skip 1 2048 (f l)) := by
  have e : k0_pay12 (F := Ideal) (k0_pay3 x b) (k0_pay4 (F := Ideal) x b) (k0_pay5 x b) (k0_pay6 x b)
        (k0_pay10 (k0_pay8 s p0 p1 p2 p3) (iota .tc S2048x128 32 [0] iota_S2048x128_d0_w32) k0_pay9)
        (iota .tc S2048x128 32 [0] iota_S2048x128_d0_w32) k0_pay11
      = through x b (up 1 (up 2 (up 4 (up 8 (up 16 (up 32 (up 64 (up 128 (up 256 (up 512 (up 1024
          (start s p0 p1 p2 p3)))))))))))) := rfl
  have o : cols f = cols fun l => skip 2048 1 (f l) :=
    congrArg cols (funext fun l => funext fun r => by simp [skip, adv_zero])
  rw [e, h, o, up_cols 1024 2048 1 2, up_cols 512 1024 2 4, up_cols 256 512 4 8, up_cols 128 256 8 16,
    up_cols 64 128 16 32, up_cols 32 64 32 64, up_cols 16 32 64 128, up_cols 8 16 128 256, up_cols 4 8 256 512,
    up_cols 2 4 512 1024, up_cols 1 2 1024 2048] <;> norm_num

/-- What the body does at one element to the gradient of the running sum. -/
theorem through_apply (x : FVec Ideal S2048x128 .f32) (b : FVec Ideal S1x1x128 .f32) (f : Fin 128 → Fin 2048 → EReal)
    (r : Fin 2048) (l : Fin 128) :
    through x b (cols f) (ix2 r l) = FoxPrepBwdMath.back (x (ix2 r l) + b (ix3 0 0 l)) (f l r) := by
  pointwise [through, cols, k0_pay2, k0_pay3, k0_pay4, k0_pay5, k0_pay6, FoxPrepBwdMath.back]
  rfl

open Cert.FoxPrepBwdRefIdeal.Read

/-- The reference's derivative of the logarithm of the logistic function. -/
theorem slopes (z : FVec Ideal S2048x5760 .f32) (b : FVec Ideal S2x1x128 .f32) (r : Fin 2048) (l : Fin 128) :
    val_main_v5_1 (F := Ideal) z b (ix2 r l)
      = FoxPrepBwdMath.slope (z (ix2 r ⟨5632 + l.val, by omega⟩) + b (ix3 0 0 l)) := by
  pointwise [val_main_v0, val_main_v1, val_main_v2, val_main_v3, val_main_v4, val_main_call0_v0, val_main_call0_call0_cst,
    val_main_call0_call0_v0, val_main_call0_call0_v1, val_main_call0_call0_v2, val_main_call0_call0_v3,
    val_main_call0_call0_v4, val_main_call0_call0_v5, val_main_call0_call0_v6, val_main_call0_call0_v7,
    val_main_call0_call0_v8, val_main_call0_call0_v9, val_main_call0_call0_v10, val_main_call0_call0_v11,
    val_main_call0_v1_0, val_main_call0_call0_v13, val_main_call0_call0_v14, val_main_call0_call0_v15,
    val_main_call0_call0_v16, val_main_call0_call0_v17, val_main_call0_call0_v18, val_main_call0_call0_v19,
    val_main_call0_call0_v20, val_main_call0_call0_v21, val_main_call0_call0_cst_0, val_main_call0_call0_cst_1,
    val_main_call0_call0_cst_2, val_main_call0_call0_cst_3, val_main_v5_1, FoxPrepBwdMath.slope, FoxPrepBwdMath.lse]
  rw [if_neg (not_not_intro rfl)]
  rfl

/-- The gradients of the running sum, from the attention's columns and from its rows, one column. -/
def given (p : FVec Ideal S4x2048x128 .f32) (q : FVec Ideal S4x8x2048 .f32) (l : Fin 128) (r : Fin 2048) : EReal :=
  ∑ h : Fin 4, p (ix3 h r l) + if c : l.val < 8 then ∑ h : Fin 4, q (ix3 h ⟨l.val, c⟩ r) else 0

/-- They are what the reference sums from the end. -/
theorem given_ref (p : FVec Ideal S4x2048x128 .f32) (q : FVec Ideal S4x8x2048 .f32) (r : Fin 2048) (l : Fin 128) :
    val_main_v13 (F := Ideal) p q (ix2 r l) = given p q l r := by
  have h0 : val_main_cst (F := Ideal) (Shape.Idx.first Cert.FoxPrepBwdRefIdeal.Gen.h_S_) = 0 := by
    pointwise [val_main_cst]
  have h1 : val_main_cst_0 (F := Ideal) (Shape.Idx.first Cert.FoxPrepBwdRefIdeal.Gen.h_S_) = 0 := by
    pointwise [val_main_cst_0]
  have h2 : val_main_cst_1 (F := Ideal) (Shape.Idx.first Cert.FoxPrepBwdRefIdeal.Gen.h_S_) = 0 := by
    pointwise [val_main_cst_1]
  pointwise [val_main_v13, val_main_v12, val_main_v11, val_main_v10, val_main_v9]
  rw [h0, h1, h2, zero_add]
  simp only [zero_add]
  rfl

/-- The gradient of the running sum's argument, one column. -/
def total (p : FVec Ideal S4x2048x128 .f32) (q : FVec Ideal S4x8x2048 .f32) (l : Fin 128) : Fin 2048 → EReal :=
  skip 1 2048 (given p q l)

/-- It is the reference's. -/
theorem total_ref (p : FVec Ideal S4x2048x128 .f32) (q : FVec Ideal S4x8x2048 .f32) (r : Fin 2048) (l : Fin 128) :
    val_main_v14 (F := Ideal) p q (ix2 r l) = total p q l r := by
  refine (FoxPrepBwdMath.cumsum_back _ _ 0 _ _ _ _ _ _ _ _ ?_ ?_ ?_ ?_ _).trans ?_
  · pointwise [val_main_call2_call0_cst, val_main_call2_call0_v0]
  · decide
  · decide
  · decide
  · refine Eq.trans (b := ∑ k ∈ Finset.range 2048, adv (1 * k) (given p q l) r) (Finset.sum_congr rfl fun k _ => ?_) rfl
    rw [one_mul]
    unfold adv
    split
    · next h =>
      have h' : r.val + k < 2048 := h
      rw [dif_pos (show r.val < 2048 - k by omega)]
      refine Eq.trans (congrArg _ (funext fun a => Fin.ext ?_)) (given_ref p q ⟨k + r.val, by omega⟩ l)
      match a with
      | ⟨0, _⟩ => exact Nat.add_comm _ _
      | ⟨1, _⟩ => rfl
    · next h =>
      have h' : ¬ r.val + k < 2048 := h
      rw [dif_neg (show ¬ r.val < 2048 - k by omega)]

/-- The reference's gradient of the forget logit at one element. -/
theorem grad_ref (z : FVec Ideal S2048x5760 .f32) (b : FVec Ideal S2x1x128 .f32) (p : FVec Ideal S4x2048x128 .f32)
    (q : FVec Ideal S4x8x2048 .f32) (r : Fin 2048) (l : Fin 128) :
    val_main_v15 (F := Ideal) z b p q (ix2 r l)
      = -(-total p q l r * FoxPrepBwdMath.slope (z (ix2 r ⟨5632 + l.val, by omega⟩) + b (ix3 0 0 l))) := by
  rw [← total_ref, ← slopes]
  pointwise [val_main_v15, val_main_call3_v1, val_main_call3_v0]

/-- The tile the body starts from. -/
theorem start_apply (s : FVec Ideal S2048x128 .f32) (p0 p1 p2 p3 : FVec Ideal S1x8x2048 .f32) (r : Fin 2048)
    (l : Fin 128) : start s p0 p1 p2 p3 (ix2 r l) = s (ix2 r l) + if h : l.val < 8 then
      p0 (ix3 0 ⟨l.val, h⟩ r) + p1 (ix3 0 ⟨l.val, h⟩ r) + p2 (ix3 0 ⟨l.val, h⟩ r) + p3 (ix3 0 ⟨l.val, h⟩ r) else 0 := by
  pointwise [start]

/-- A slab read out of the columns' gradients. -/
theorem slab_col (o : Fin 4) (b : ∀ a, (![o.val, 0, 0] : Fin 3 → ℕ) a + S1x2048x128.size a ≤ S4x2048x128.size a) (X : FVec Ideal S4x2048x128 .f32)
    (r : Fin 2048) (l : Fin 128) :
    View.ld (Val := Elt Ideal) (e' := .f32) X (Rect.unit (s := S4x2048x128) ![o.val, 0, 0] S1x2048x128.size b) (ix3 0 r l)
      = X (ix3 o r l) :=
  congrArg X (funext fun a => Fin.ext ((Rect.idx_unit_val _ _ b (ix3 0 r l) a).trans (by
    match a with
    | ⟨0, _⟩ => rfl
    | ⟨1, _⟩ => exact Nat.zero_add _
    | ⟨2, _⟩ => exact Nat.zero_add _)))

/-- A slab read out of the rows' gradients. -/
theorem slab_row (o : Fin 4) (b : ∀ a, (![o.val, 0, 0] : Fin 3 → ℕ) a + S1x8x2048.size a ≤ S4x8x2048.size a) (X : FVec Ideal S4x8x2048 .f32)
    (l : Fin 8) (r : Fin 2048) :
    View.ld (Val := Elt Ideal) (e' := .f32) X (Rect.unit (s := S4x8x2048) ![o.val, 0, 0] S1x8x2048.size b) (ix3 0 l r)
      = X (ix3 o l r) :=
  congrArg X (funext fun a => Fin.ext ((Rect.idx_unit_val _ _ b (ix3 0 l r) a).trans (by
    match a with
    | ⟨0, _⟩ => rfl
    | ⟨1, _⟩ => exact Nat.zero_add _
    | ⟨2, _⟩ => exact Nat.zero_add _)))

/-- The tile the body starts from holds the given gradients. -/
theorem start_given (p : FVec Ideal S4x2048x128 .f32) (q : FVec Ideal S4x8x2048 .f32) :
    start (k0_pay7 (View.ld (Val := Elt Ideal) (e' := .f32) p r0_2) (View.ld (Val := Elt Ideal) (e' := .f32) p r0_3)
        (View.ld (Val := Elt Ideal) (e' := .f32) p r0_4) (View.ld (Val := Elt Ideal) (e' := .f32) p r0_5))
      (View.ld (Val := Elt Ideal) (e' := .f32) q r0_6) (View.ld (Val := Elt Ideal) (e' := .f32) q r0_7)
      (View.ld (Val := Elt Ideal) (e' := .f32) q r0_8) (View.ld (Val := Elt Ideal) (e' := .f32) q r0_9)
      = cols (given p q) := by
  refine (eq_cols _).trans (congrArg cols (funext fun l => funext fun r => ?_))
  rw [start_apply]
  unfold given
  congr 1
  · refine Eq.trans ?_ (Fin.sum_univ_four _).symm
    rw [← slab_col 0 inb_S4x2048x128_S1x2048x128_0_0_0 p r l, ← slab_col 1 inb_S4x2048x128_S1x2048x128_1_0_0 p r l,
      ← slab_col 2 inb_S4x2048x128_S1x2048x128_2_0_0 p r l, ← slab_col 3 inb_S4x2048x128_S1x2048x128_3_0_0 p r l]
    pointwise [k0_pay7]
  · split
    · next h =>
      refine Eq.trans ?_ (Fin.sum_univ_four _).symm
      rw [← slab_row 0 inb_S4x8x2048_S1x8x2048_0_0_0 q ⟨l.val, h⟩ r, ← slab_row 1 inb_S4x8x2048_S1x8x2048_1_0_0 q ⟨l.val, h⟩ r,
        ← slab_row 2 inb_S4x8x2048_S1x8x2048_2_0_0 q ⟨l.val, h⟩ r, ← slab_row 3 inb_S4x8x2048_S1x8x2048_3_0_0 q ⟨l.val, h⟩ r]
      rfl
    · rfl

/-- Real gradients given, and no logit exactly zero. -/
structure Regular (z : FVec Ideal S2048x5760 .f32) (b : FVec Ideal S2x1x128 .f32) (p : FVec Ideal S4x2048x128 .f32)
    (q : FVec Ideal S4x8x2048 .f32) : Prop where
  logit : ∀ (r : Fin 2048) (l : Fin 128), z (ix2 r ⟨5632 + l.val, by omega⟩) + b (ix3 0 0 l) ≠ 0
  col : ∀ h r l, FoxRow.Tame (p (ix3 h r l))
  row : ∀ h l r, FoxRow.Tame (q (ix3 h l r))

/-- Then the gradient of the running sum's argument is real. -/
theorem Regular.total {z : FVec Ideal S2048x5760 .f32} {b : FVec Ideal S2x1x128 .f32} {p : FVec Ideal S4x2048x128 .f32}
    {q : FVec Ideal S4x8x2048 .f32} (h : Regular z b p q) (l : Fin 128) (r : Fin 2048) :
    FoxRow.Tame (total p q l r) := by
  have zero : FoxRow.Tame 0 := ⟨0, rfl⟩
  have g : ∀ r, FoxRow.Tame (given p q l r) := fun r => by
    refine (FoxRow.Tame.sum _ _ fun k => h.col k r l).add ?_
    split
    · exact FoxRow.Tame.sum _ _ fun k => h.row k _ r
    · exact zero
  unfold FoxPrepBwdValue.total skip
  refine FoxRow.Tame.sum _ _ fun k => ?_
  unfold adv
  split
  · exact g _
  · exact zero

variable (m : (ℓ : Loc nD τ sig) → Buf (Elt Ideal) ℓ) (c : Dev nD) (t : Fin cfg0.N)

/-- Every window stays where it is: the forget logits' lanes, the bias's layer, the whole of the others. -/
theorem idx : ∀ t : Fin cfg0.N, win0_0.index t = ![0, 44] ∧ win0_1.index t = ![0, 0, 0]
      ∧ win0_2.index t = ![0, 0, 0] ∧ win0_3.index t = ![0, 0, 0] ∧ win0_4.index t = ![0, 0, 0]
      ∧ win0_5.index t = ![0, 0] ∧ win0_6.index t = ![0, 0] :=
  (by decide +kernel : ∀ t : Fin grid0.N, _)

/-- The arguments. -/
abbrev zin : FVec Ideal S2048x5760 .f32 := m ((c : Thread nD τ).loc main_arg0)
abbrev bias : FVec Ideal S2x1x128 .f32 := m ((c : Thread nD τ).loc main_arg1)
abbrev dcol : FVec Ideal S4x2048x128 .f32 := m ((c : Thread nD τ).loc main_arg2)
abbrev drow : FVec Ideal S4x8x2048 .f32 := m ((c : Thread nD τ).loc main_arg3)
abbrev dmisc : FVec Ideal S4x2048x128 .f32 := m ((c : Thread nD τ).loc main_arg4)

/-- The reference's results. -/
abbrev res5 := val_main_v20 (F := Ideal) (zin m c) (bias m c) (dcol m c) (drow m c) (dmisc m c)
abbrev res6 := val_main_v17 (F := Ideal) (zin m c) (bias m c) (dcol m c) (drow m c)

/-- The blocks of the two given gradients are the whole arrays. -/
theorem blk_col : iblk m c 2 t = dcol m c := by
  funext y
  rw [eq_ix3 y]
  blk_point [iblk, V, idx t]

theorem blk_row : iblk m c 3 t = drow m c := by
  funext y
  rw [eq_ix3 y]
  blk_point [iblk, V, idx t]

theorem blk_misc : iblk m c 4 t = dmisc m c := by
  funext y
  rw [eq_ix3 y]
  blk_point [iblk, V, idx t]

/-- The body's gradient of the forget logits is the reference's. -/
theorem grad (h : Regular (zin m c) (bias m c) (dcol m c) (drow m c)) (r : Fin 2048) (l : Fin 128) :
    through (iblk m c 0 t) (iblk m c 1 t) (cols fun l => total (dcol m c) (drow m c) l) (ix2 r l)
      = val_main_v15 (F := Ideal) (zin m c) (bias m c) (dcol m c) (drow m c) (ix2 r l) := by
  have a : iblk m c 0 t (ix2 r l) = zin m c (ix2 r ⟨5632 + l.val, by omega⟩) := by blk_point [iblk, V, idx t]
  have b : iblk m c 1 t (ix3 0 0 l) = bias m c (ix3 0 0 l) := by blk_point [iblk, V, idx t]
  rw [through_apply, a, b, grad_ref]
  exact FoxPrepBwdMath.back_eq _ _ (h.logit r l) (h.total l r)

/-- The other gradients of the columns, the four slabs summed. -/
theorem miscs (x : FVec Ideal S2048x128 .f32) (p : FVec Ideal S4x2048x128 .f32) (r : Fin 2048) (l : Fin 128) :
    k0_pay1 (F := Ideal) x (k0_pay14 (View.ld (Val := Elt Ideal) (e' := .f32) p r0_2)
        (View.ld (Val := Elt Ideal) (e' := .f32) p r0_3) (View.ld (Val := Elt Ideal) (e' := .f32) p r0_4))
      (k0_pay15 (View.ld (Val := Elt Ideal) (e' := .f32) p r0_5)) (ix2 r l)
      = x (ix2 r l) + ∑ k : Fin 4, p (ix3 k r l) := by
  rw [Fin.sum_univ_four, ← slab_col 0 inb_S4x2048x128_S1x2048x128_0_0_0 p r l, ← slab_col 1 inb_S4x2048x128_S1x2048x128_1_0_0 p r l,
    ← slab_col 2 inb_S4x2048x128_S1x2048x128_2_0_0 p r l, ← slab_col 3 inb_S4x2048x128_S1x2048x128_3_0_0 p r l]
  pointwise [k0_pay1, k0_pay14, k0_pay15]

/-- The reference adds the same. -/
theorem ref5 (r : Fin 2048) (l : Fin 128) : res5 m c (ix2 r l)
    = val_main_v15 (F := Ideal) (zin m c) (bias m c) (dcol m c) (drow m c) (ix2 r l)
      + ∑ k : Fin 4, dmisc m c (ix3 k r l) := by
  have z0 : val_main_cst_3 (F := Ideal) (Shape.Idx.first Cert.FoxPrepBwdRefIdeal.Gen.h_S_) = 0 := by
    pointwise [val_main_cst_3]
  pointwise [res5, val_main_v20, val_main_v19, val_main_v18]
  rw [z0, zero_add]

/-- The reference's gradient of a bias sums over the rows. -/
theorem ref6 (l : Fin 128) : res6 m c (ix2 0 l)
    = ∑ r, val_main_v15 (F := Ideal) (zin m c) (bias m c) (dcol m c) (drow m c) (ix2 r l) := by
  have z0 : val_main_cst_2 (F := Ideal) (Shape.Idx.first Cert.FoxPrepBwdRefIdeal.Gen.h_S_) = 0 := by
    pointwise [val_main_cst_2]
  pointwise [res6, val_main_v17, val_main_v16]
  rw [z0, zero_add]

/-- So does the body. -/
theorem sums (x : FVec Ideal S2048x128 .f32) (l : Fin 128) :
    shapeCast S1x128 (multiReduction (F := Ideal) .add [0] S128 x 0x00000000#32 reduces_S2048x128_S128 (.inl rfl) rfl)
      shapeCasts_S128_S1x128 (ix2 0 l) = ∑ r, x (ix2 r l) := by
  pointwise []

/-- The forget logits' gradients after the run. -/
theorem final5 (h : Regular (zin m c) (bias m c) (dcol m c) (drow m c)) :
    (dats m 0 c).arrAt 5 (cfgs 0).N = res5 m c := by
  refine (dats m 0 c).arrAt_eq_of_covers 5 _ (by decide +kernel) fun t _ y => ?_
  blk_simp
  have e : ((cfg0.win 5).blk t).view.emb y = ix2 (y 0) (y 1) := by blk_ext [idx t]
  rw [after0_5]; unfold_out out0_5; frame_out
  rw [blk_col, blk_row, blk_misc, body _ _ _ _ _ _ _ _ (start_given _ _)]
  refine Eq.trans ?_ ((congrArg (res5 m c) e).trans (ref5 m c (y 0) (y 1))).symm
  refine (congrArg _ (eq_ix2 y)).trans ((miscs _ _ (y 0) (y 1)).trans ?_)
  exact congrArg (· + _) (grad m c t h (y 0) (y 1))

/-- The forget biases' gradient after the run. -/
theorem final6 (h : Regular (zin m c) (bias m c) (dcol m c) (drow m c)) :
    (dats m 0 c).arrAt 6 (cfgs 0).N = res6 m c := by
  refine (dats m 0 c).arrAt_eq_of_covers 6 _ (by decide +kernel) fun t _ y => ?_
  blk_simp
  have e : ((cfg0.win 6).blk t).view.emb y = ix2 0 (y 1) := by blk_ext [idx t]
  have i : y = ix2 (0 : Fin 1) (y 1) := (eq_ix2 y).trans (congrArg (ix2 · (y 1)) (Subsingleton.elim _ _))
  rw [after0_6]; unfold_out out0_6; frame_out
  unfold k0_pay13
  rw [blk_col, blk_row, body _ _ _ _ _ _ _ _ (start_given _ _)]
  refine Eq.trans ?_ ((congrArg (res6 m c) e).trans (ref6 m c (y 1))).symm
  refine (congrArg _ i).trans ((sums _ (y 1)).trans ?_)
  exact Finset.sum_congr rfl fun r _ => grad m c t h r (y 1)

end Cert.Proof.FoxPrepBwdValue
-- ==== Proof.FoxPrepBwdClaims.lean ====
module

public import proofs.«01_k».proof.Defs
public import proofs.«01_k».proof.Proof.Gen.FoxPrepBwd.Frame
public import proofs.«01_k».proof.Proof.FoxPrepBwdValue
public import Idealize.ShloMosaic.Lib.Claim
public import Idealize.ShloMosaic.Lib.Quiescent

/-! # The claims about the forget gates' gradients -/

@[expose] public section

set_option maxRecDepth 16384

noncomputable section

namespace Cert.Proof.FoxPrepBwdClaims

open Idealize.ShloMosaic Idealize.SL.Sem Cert.Proof.FoxRow

/-- The printed kernel runs to the end, leaves its arguments alone and its counters at zero. -/
theorem frame : Cert.quiescent_FoxPrepBwd := fun m ρ _ => Cert.FoxPrepBwd.Gen.frame m ρ

/-- So does its ideal reading. -/
theorem frameIdeal : Cert.quiescent_FoxPrepBwdIdeal := fun m ρ _ => Cert.FoxPrepBwdIdeal.Gen.frame m ρ

/-- So does the reference. -/
theorem frameRef : Cert.quiescent_FoxPrepBwdRefIdeal := fun m ρ _ =>
  (θ_run Cert.FoxPrepBwdRefIdeal.defs _ _).mono
    (fun r h => ⟨fun c => (h c).2.2, Idealize.ShloMosaic.sem_eq_zero_of_no_sems (by decide) r.2⟩)
    (Cert.FoxPrepBwdRefIdeal.Value.run (F := Idealize.ShloMosaic.Ideal) m ρ)

variable [Cert.Pre_smooth_foxprep.Facts]

/-- The ideal reading's run does not need the precondition. -/
theorem frameIdealPre : Cert.quiescent_FoxPrepBwdIdeal_pre_smooth_foxprep := fun m ρ _ => Cert.FoxPrepBwdIdeal.Gen.frame m ρ

/-- Nor does the reference's. -/
theorem frameRefPre : Cert.quiescent_FoxPrepBwdRefIdeal_pre_smooth_foxprep := fun m ρ _ => frameRef m ρ trivial

section

variable (z : FVec Ideal ⟨2, ![2048, 5760]⟩ .f32) (b : FVec Ideal ⟨3, ![2, 1, 128]⟩ .f32)
  (p : FVec Ideal ⟨3, ![4, 2048, 128]⟩ .f32) (q : FVec Ideal ⟨3, ![4, 8, 2048]⟩ .f32)
  (d : FVec Ideal ⟨3, ![4, 2048, 128]⟩ .f32)

/-- A comparison of an absolute value with infinity that holds tells of a real number. -/
theorem tame_cmp {x : EReal}
    (h : Ideal.cmp .olt (max x (-x)) (Ideal.ofBits .f32 0x7F800000#32) = 1#1) : Tame x := by
  refine tame_abs (lt_of_lt_of_le ?_ (le_top (a := Ideal.ofBits .f32 0x7F800000#32)))
  by_contra hn
  simp [Ideal.cmp, hn] at h

/-- A comparison with zero that holds tells that the number is another. -/
theorem ne_cmp {x : EReal} (h : Ideal.cmp .une x (Ideal.ofBits .f32 0x00000000#32) = 1#1) : x ≠ 0 := by
  intro e
  have o : Ideal.ofBits .f32 0x00000000#32 = 0 := by simp [Ideal.ofBits, Ideal.ieee]
  rw [e, o] at h
  simp [Ideal.cmp] at h

/-- No logit is zero. -/
theorem logit (h : (Cert.Pre_smooth_foxprep.fn (F := Ideal) z b p q d).1 = fun _ => 1#1) (r : Fin 2048) (l : Fin 128) :
    z (ix2 r ⟨5632 + l.val, by omega⟩) + b (ix3 0 0 l) ≠ 0 := by
  have e := congrFun h (ix2 r l)
  unfold Cert.Pre_smooth_foxprep.fn at e
  refine ne_cmp (Eq.trans ?_ e)
  pointwise []

/-- The columns' gradients are real. -/
theorem tame_col (h : (Cert.Pre_smooth_foxprep.fn (F := Ideal) z b p q d).2.1 = fun _ => 1#1) (k : Fin 4) (r : Fin 2048)
    (l : Fin 128) : Tame (p (ix3 k r l)) := by
  have e := congrFun h (ix3 k r l)
  unfold Cert.Pre_smooth_foxprep.fn at e
  refine tame_cmp (Eq.trans ?_ e)
  pointwise []
  rfl

/-- The rows' gradients are. -/
theorem tame_row (h : (Cert.Pre_smooth_foxprep.fn (F := Ideal) z b p q d).2.2 = fun _ => 1#1) (k : Fin 4) (l : Fin 8)
    (r : Fin 2048) : Tame (q (ix3 k l r)) := by
  have e := congrFun h (ix3 k l r)
  unfold Cert.Pre_smooth_foxprep.fn at e
  refine tame_cmp (Eq.trans ?_ e)
  pointwise []
  rfl

end

/-- The precondition, read at one device. -/
theorem regular (m : (ℓ : Loc Cert.FoxPrepBwdIdeal.nD Cert.FoxPrepBwdIdeal.τ Cert.FoxPrepBwdIdeal.sig) → Buf (Elt Ideal) ℓ)
    (h : Cert.Pre_FoxPrepBwdIdeal_smooth_foxprep m) (c : Dev Cert.FoxPrepBwdIdeal.nD) :
    FoxPrepBwdValue.Regular (FoxPrepBwdValue.zin m c) (FoxPrepBwdValue.bias m c) (FoxPrepBwdValue.dcol m c)
      (FoxPrepBwdValue.drow m c) := by
  obtain ⟨h0, h1, h2⟩ := h c
  exact ⟨logit _ _ _ _ _ h0, tame_col _ _ _ _ _ h1, tame_row _ _ _ _ _ h2⟩

/-- The arrays the kernel writes are the reference's, at the ideal reading, where the gradients given are real and no
logit is zero. -/
theorem algebraic : Cert.algebraic_FoxPrepBwdIdeal_FoxPrepBwdRefIdeal_pre_smooth_foxprep := by
  pair_intro
  · run_from Cert.FoxPrepBwdIdeal.Gen.run_main m g
  · refine (θ_run Cert.FoxPrepBwdRefIdeal.defs _ _).mono (fun r h c => ?_) (Cert.FoxPrepBwdRefIdeal.Value.run m' g')
    obtain ⟨e0, e1, e2, e3, e4⟩ := hagree c
    refine ⟨(h c).1.trans ?_, (h c).2.1.trans ?_, (h c).2.2⟩
    · refine (Cert.FoxPrepBwdRefIdeal.Read.val_main_v20_eq ..).trans
        (Eq.trans ?_ (FoxPrepBwdValue.final5 m c (regular m (by assumption) c)).symm)
      rw [e0, e1, e2, e3, e4]
    · refine (Cert.FoxPrepBwdRefIdeal.Read.val_main_v17_eq ..).trans
        (Eq.trans ?_ (FoxPrepBwdValue.final6 m c (regular m (by assumption) c)).symm)
      rw [e0, e1, e2, e3]

end Cert.Proof.FoxPrepBwdClaims
-- ==== Proof.ChunkMath.lean ====
module

public import proofs.«01_k».proof.Proof.Prefix

/-! # Decays inside a chunk: sums of nonpositive logarithms and the products of their exponentials -/

@[expose] public section

noncomputable section

namespace Cert.Proof.ChunkMath

open Idealize.ShloMosaic

/-- The logarithm of a gate, a sixteenth of it, from the gate's logit, as the body writes it. -/
def gate (x : EReal) : EReal :=
  (min x 0 - Ideal.log (1 + Ideal.exp (0 - max x (-x)))) * Ideal.ofBits .f32 0x3D800000#32

/-- The word of a sixteenth. -/
theorem sixteenth : Ideal.ofBits .f32 0x3D800000#32 = ((1 / 16 : ℝ) : EReal) := by
  simp [Ideal.ofBits, Ideal.ieee, -EReal.coe_mul]; norm_num

/-- The word of sixteen. -/
theorem sixteen : Ideal.ofBits .f32 0x41800000#32 = ((16 : ℝ) : EReal) := by
  simp [Ideal.ofBits, Ideal.ieee, -EReal.coe_mul]; norm_num

/-- The logarithm that the gate softens by is not negative. -/
theorem log_nonneg (x : EReal) : 0 ≤ Ideal.log (1 + Ideal.exp (0 - max x (-x))) := by
  induction x with
  | bot => simp [Prefix.log_one]
  | top => simp [Prefix.log_one]
  | coe r =>
    have e : (0 : EReal) - max (r : EReal) (-(r : EReal)) = ((-max r (-r) : ℝ) : EReal) := by
      rw [zero_sub, EReal.coe_neg, EReal.coe_strictMono.monotone.map_max, EReal.coe_neg]
    have p := Real.exp_pos (-max r (-r))
    rw [e, Ideal.exp_coe, ← EReal.coe_one, ← EReal.coe_add, Ideal.log_coe, if_neg (by linarith)]
    exact EReal.coe_nonneg.mpr (Real.log_nonneg (by linarith))

/-- A gate's logarithm is not positive. -/
theorem gate_le (x : EReal) : gate x ≤ 0 := by
  unfold gate
  rw [sixteenth]
  refine EReal.mul_nonpos_iff.mpr (Or.inr ⟨?_, EReal.coe_nonneg.mpr (by norm_num)⟩)
  rw [sub_eq_add_neg]
  exact add_nonpos (min_le_right _ _) (EReal.neg_le_zero.mpr (log_nonneg x))

/-- The reference divides by sixteen. -/
theorem gate_eq (x : EReal) :
    Ideal.div (-(max (-x) 0 + Ideal.log1p (Ideal.exp (-max (-x) (-(-x)))))) (Ideal.ofBits .f32 0x41800000#32) = gate x := by
  have h := Prefix.logSigmoid x
  simp only [sub_zero] at h
  unfold gate
  rw [h, sixteen, sixteenth, Ideal.div_coe (by norm_num)]

/-- The sum of a chunk's rows up to and with row `t`. -/
def acc (f : Fin 64 → EReal) (t : Fin 64) : EReal := ∑ u : Fin 64, if u.val ≤ t.val then f u else 0

/-- Summing back from row `t` is summing up to it. -/
theorem back (f : Fin 64 → EReal) (t : Fin 64) :
    (∑ k ∈ Finset.range 64, if t.val < k then 0 else f ⟨t.val - k, by omega⟩) = acc f t := by
  let g : ℕ → EReal := fun u => if h : u < 64 then f ⟨u, h⟩ else 0
  have ht := t.isLt
  have sub : Finset.range (t.val + 1) ⊆ Finset.range 64 := Finset.range_mono (by omega)
  have a : (∑ k ∈ Finset.range 64, if t.val < k then 0 else f ⟨t.val - k, by omega⟩)
      = ∑ k ∈ Finset.range (t.val + 1), g (t.val + 1 - 1 - k) := by
    refine ((Finset.sum_subset sub fun k _ hk => if_pos ?_).symm).trans (Finset.sum_congr rfl fun k hk => ?_)
    · rw [Finset.mem_range] at hk; omega
    · rw [Finset.mem_range] at hk
      rw [if_neg (by omega)]
      have q : g (t.val + 1 - 1 - k) = f ⟨t.val + 1 - 1 - k, by omega⟩ := dif_pos _
      rw [q]
      exact congrArg f (Fin.ext (by simp))
  have b : acc f t = ∑ u ∈ Finset.range 64, if u ≤ t.val then g u else 0 := by
    rw [Finset.sum_range]
    refine Finset.sum_congr rfl fun u _ => ?_
    rw [show g u.val = f u from dif_pos u.isLt]
  rw [a, b, Finset.sum_range_reflect]
  refine Eq.trans (Finset.sum_congr rfl fun u hu => ?_) (Finset.sum_subset sub fun u _ hu => if_neg ?_)
  · rw [Finset.mem_range] at hu; rw [if_pos (by omega)]
  · rw [Finset.mem_range] at hu; omega

/-- The sum up to the last row is the whole sum. -/
theorem acc_last (f : Fin 64 → EReal) : acc f 63 = ∑ u, f u :=
  Finset.sum_congr rfl fun u _ => if_pos (by have := u.isLt; show u.val ≤ 63; omega)

/-- Of nonpositive rows the sums fall. -/
theorem acc_anti (f : Fin 64 → EReal) (hf : ∀ u, f u ≤ 0) (s t : Fin 64) (h : s.val ≤ t.val) : acc f t ≤ acc f s := by
  refine Finset.sum_le_sum fun u _ => ?_
  split
  · split
    · exact le_rfl
    · exact hf u
  · rw [if_neg (by omega)]

/-- They are not positive. -/
theorem acc_le (f : Fin 64 → EReal) (hf : ∀ u, f u ≤ 0) (t : Fin 64) : acc f t ≤ 0 :=
  Finset.sum_nonpos fun u _ => by split; exacts [hf u, le_rfl]

/-- The decay between two sums, of which `a` is the lower: the product of two exponentials. -/
theorem decay (a b : EReal) (h : a ≤ b) (hb : b ≤ 0) :
    Ideal.exp a * Ideal.exp (0 - b) = Ideal.exp (-max (a - b) (-(a - b)))
      ∧ Ideal.exp a * Ideal.exp (0 - b) = Ideal.exp (-max (b - a) (-(b - a))) := by
  induction b with
  | top => exact absurd hb (by simp)
  | bot => rw [le_bot_iff.mp h]; simp
  | coe s =>
    induction a with
    | top => exact absurd h (by simp)
    | bot => simp
    | coe r =>
      have l : r ≤ s := EReal.coe_le_coe_iff.mp h
      have e : Ideal.exp (r : EReal) * Ideal.exp (0 - (s : EReal)) = ((Real.exp (r - s) : ℝ) : EReal) := by
        rw [zero_sub, ← EReal.coe_neg, Ideal.exp_coe, Ideal.exp_coe, ← EReal.coe_mul, ← Real.exp_add, sub_eq_add_neg]
      have p : -max ((r : EReal) - s) (-((r : EReal) - s)) = ((r - s : ℝ) : EReal) := by
        rw [← EReal.coe_sub, ← EReal.coe_neg, max_eq_right (EReal.coe_le_coe_iff.mpr (by linarith)), ← EReal.coe_neg, neg_neg]
      have q : -max ((s : EReal) - r) (-((s : EReal) - r)) = ((r - s : ℝ) : EReal) := by
        rw [← EReal.coe_sub, ← EReal.coe_neg, max_eq_left (EReal.coe_le_coe_iff.mpr (by linarith)), ← EReal.coe_neg, neg_sub]
      rw [e, p, q, Ideal.exp_coe]
      exact ⟨rfl, rfl⟩

/-- A row's score against an earlier one, as the body forms it. -/
theorem score_low (q k a b : EReal) (h : a ≤ b) (hb : b ≤ 0) :
    q * Ideal.exp a * (k * Ideal.exp (0 - b)) = q * Ideal.exp (-max (a - b) (-(a - b))) * k := by
  rw [← (decay a b h hb).1]; ac_rfl

/-- A row's score against a later one. -/
theorem score_high (q k a b : EReal) (h : b ≤ a) (ha : a ≤ 0) :
    q * Ideal.exp (0 - a) * (k * Ideal.exp b) = q * Ideal.exp (-max (a - b) (-(a - b))) * k := by
  rw [← (decay b a h ha).2]; ac_rfl

end Cert.Proof.ChunkMath
-- ==== Proof.ChunkValue.lean ====
module

public import proofs.«01_k».proof.Proof.ChunkMath
public import proofs.«01_k».proof.Proof.Gen.ChunkIdeal.Value
public import Idealize.ShloMosaic.Lib.WordCmp
public import Idealize.ShloMosaic.Lib.Pipeline.ValueKit

/-! # The gated linear attention's chunks: what the body writes, element by element -/

@[expose] public section

set_option maxRecDepth 16384

noncomputable section

namespace Cert.Proof.ChunkValue

open Idealize.ShloMosaic Idealize.ShloMosaic.TcCoe Idealize.SL.Sem
open Cert.ChunkIdeal Cert.ChunkIdeal.Gen Cert.Proof.ChunkMath

/-- A column delayed by `n` rows within its chunk of 64: zero in a chunk's first `n` rows. -/
def del (n : ℕ) (f : Fin 512 → EReal) (i : Fin 512) : EReal :=
  if i.val % 64 < n then 0 else f ⟨i.val - n, by omega⟩

/-- A delay of a sum is the sum of the delays. -/
theorem del_add (n : ℕ) (f g : Fin 512 → EReal) (i : Fin 512) :
    del n (fun r => f r + g r) i = del n f i + del n g i := by
  unfold del; split <;> simp

/-- Delays add up. -/
theorem del_del (n k : ℕ) (f : Fin 512 → EReal) (i : Fin 512) :
    del n (fun r => del k f r) i = del (n + k) f i := by
  simp only [del]; split
  · rw [if_pos (by omega)]
  · split
    · rw [if_pos (by omega)]
    · rw [if_neg (by omega)]
      exact congrArg f (Fin.ext (by simp only; omega))

/-- The last `n` rows of a column up to each row, within its chunk, summed. -/
def win (n : ℕ) (f : Fin 512 → EReal) (i : Fin 512) : EReal := ∑ k ∈ Finset.range n, del k f i

/-- Summing the last `n` rows twice, the second time delayed by `n`, sums the last `2 n`. -/
theorem win_twice (n : ℕ) (f : Fin 512 → EReal) (i : Fin 512) :
    win n f i + del n (win n f) i = win (n + n) f i :=
  Prefix.doubling del (fun n i => by simp [del]) del_add del_del n f i

/-- A tile from its columns. -/
def cols (g : Fin 128 → Fin 512 → EReal) : FVec Ideal S512x128 .f32 := fun y => g (y 1) (y 0)

/-- One of the body's doubling steps on a tile. -/
def twice (n : ℕ) (x : FVec Ideal S512x128 .f32) : FVec Ideal S512x128 .f32 :=
  addf x (select (cmpi .sge (andi (iota .tc S512x128 32 [0] iota_S512x128_d0_w32) (broadcast S512x128 63#32))
      (broadcast S512x128 (BitVec.ofNat 32 n)))
    (dynamicRotate 0 (BitVec.ofNat 32 n) none x rotates_S512x128_d0)
    (broadcast S512x128 (Scalar.ofBits .f32 0x00000000#32 : Ideal .f32)))

/-- A row's place in its chunk, as the body finds it. -/
theorem place (r : Fin 512) : BitVec.ofNat 32 r.val &&& 63#32 = BitVec.ofNat 32 (r.val % 64) := by
  have h : ∀ r : Fin 512, BitVec.ofNat 32 r.val &&& 63#32 = BitVec.ofNat 32 (r.val % 64) := by decide +kernel
  exact h r

/-- A doubling step on columns. -/
theorem twice_cols (n : ℕ) (hn : n < 512) (f : Fin 128 → Fin 512 → EReal) :
    twice n (cols fun l => win n (f l)) = cols fun l => win (n + n) (f l) := by
  funext y
  have y0 : (y 0).val < 512 := (y 0).isLt
  refine Eq.trans ?_ (win_twice n (f (y 1)) (y 0))
  have e : (BitVec.ofNat 32 n).toNat % 512 = n := by rw [BitVec.toNat_ofNat]; omega
  pointwise [twice, del, Scalar.select, e, cols]
  rw [show IntOp.andi (BitVec.ofNat 32 (y 0).val) 63#32 = BitVec.ofNat 32 ((y 0).val % 64) from place (y 0),
    WordCmp.cmpi_sge_ofNat (by omega) (by omega)]
  by_cases h : (y 0).val % 64 < n
  · have d : decide (n ≤ (y 0).val % 64) = false := decide_eq_false (by omega)
    rw [if_pos h, d, if_neg (by decide)]
  · have d : decide (n ≤ (y 0).val % 64) = true := decide_eq_true (by omega)
    rw [if_neg h, d, if_pos (by decide)]
    have q : (⟨((y 0).val + 512 - n) % 512, Nat.mod_lt _ (by norm_num)⟩ : Fin 512) = ⟨(y 0).val - n, by omega⟩ :=
      Fin.ext (by dsimp only; omega)
    exact congrArg (fun v : Fin 512 => win n (f (y 1)) (y 0) + win n (f (y 1)) v) q

/-- The body's gates, as columns. -/
def gates (x : FVec Ideal S512x128 .f32) (w : FVec Ideal S1x128x128 .f32) (b : FVec Ideal S1x1x128 .f32)
    (l : Fin 128) (r : Fin 512) : EReal :=
  gate (∑ k : Fin 128, x (ix2 r k) * w (ix3 0 k l) + b (ix3 0 0 l))

variable (x0 x1 x2 x3 : FVec Ideal S512x128 .f32) (x4 : FVec Ideal S1x128x128 .f32) (x5 : FVec Ideal S1x1x128 .f32)

/-- The tile that the doubling starts from. -/
theorem start (r : Fin 512) (l : Fin 128) : k0_pay1 (F := Ideal) x3 x4 x5 (ix2 r l) = gates x3 x4 x5 l r := by
  pointwise [k0_pay1, gates, gate]
  rfl

/-- It holds the gates' logarithms. -/
theorem start_cols : k0_pay1 (F := Ideal) x3 x4 x5 = cols fun l => win 1 (gates x3 x4 x5 l) := by
  funext y
  refine Eq.trans ((congrArg _ (eq_ix2 y)).trans (start x3 x4 x5 (y 0) (y 1))) ?_
  refine Eq.trans ?_ (Finset.sum_range_one fun k => del k (gates x3 x4 x5 (y 1)) (y 0)).symm
  simp [del]

/-- The body's running sums, from what it reads. -/
abbrev sums : FVec Ideal S8x64x128 .f32 :=
  k0_pay7 (F := Ideal) (k0_pay3 (k0_pay2 x3 x4 x5) (iota .tc S512x128 32 [0] iota_S512x128_d0_w32)) k0_pay4
    (k0_pay5 (k0_pay2 x3 x4 x5) (iota .tc S512x128 32 [0] iota_S512x128_d0_w32))

/-- A chunk's gates in one lane. -/
def chunk (p : Fin 8) (l : Fin 128) (u : Fin 64) : EReal := gates x3 x4 x5 l ⟨p.val * 64 + u.val, by omega⟩

/-- They are not positive. -/
theorem chunk_le (p : Fin 8) (l : Fin 128) (u : Fin 64) : chunk x3 x4 x5 p l u ≤ 0 := gate_le _

/-- The body is six doubling steps: it sums each chunk's rows. -/
theorem body (p : Fin 8) (s : Fin 64) (l : Fin 128) : sums x3 x4 x5 (ix3 p s l) = acc (chunk x3 x4 x5 p l) s := by
  have h : sums x3 x4 x5 = shapeCast S8x64x128 (twice 32 (twice 16 (twice 8 (twice 4 (twice 2 (twice 1
      (k0_pay1 (F := Ideal) x3 x4 x5))))))) shapeCasts_S512x128_S8x64x128 := rfl
  rw [h, start_cols]
  iterate 6 rw [twice_cols _ (by norm_num)]
  refine Eq.trans (b := win 64 (gates x3 x4 x5 l) ⟨p.val * 64 + s.val, by omega⟩) ?_ ?_
  · pointwise [cols]
  · rw [← back]
    refine Finset.sum_congr rfl fun k _ => ?_
    have e : (p.val * 64 + s.val) % 64 = s.val := by omega
    unfold del
    simp only [e]
    split
    · rfl
    · exact congrArg (gates x3 x4 x5 l) (Fin.ext (by simp only; omega))

/-- A row's chunk and its place there. -/
abbrev part (r : Fin 512) : Fin 8 := ⟨r.val / 64, by omega⟩
abbrev spot (r : Fin 512) : Fin 64 := ⟨r.val % 64, by omega⟩

variable (r : Fin 512) (l : Fin 128)

/-- The decayed queries. -/
theorem point6 : k0_pay14 (F := Ideal) x0 (k0_pay3 (k0_pay2 x3 x4 x5) (iota .tc S512x128 32 [0] iota_S512x128_d0_w32))
      k0_pay4 (k0_pay5 (k0_pay2 x3 x4 x5) (iota .tc S512x128 32 [0] iota_S512x128_d0_w32)) (ix2 r l)
    = x0 (ix2 r l) * Ideal.ofBits .f32 0x3E000000#32 * Ideal.exp (acc (chunk x3 x4 x5 (part r) l) (spot r)) := by
  rw [← body]
  pointwise [k0_pay14, k0_pay11, k0_pay10, k0_pay9, k0_pay8]

/-- The keys decayed to their chunk's end. -/
theorem point7 : k0_pay15 (F := Ideal) x1 (k0_pay1 x3 x4 x5)
      (k0_pay3 (k0_pay2 x3 x4 x5) (iota .tc S512x128 32 [0] iota_S512x128_d0_w32))
      k0_pay4 (k0_pay5 (k0_pay2 x3 x4 x5) (iota .tc S512x128 32 [0] iota_S512x128_d0_w32)) (ix2 r l)
    = x1 (ix2 r l) * Ideal.exp (acc (chunk x3 x4 x5 (part r) l) 63 - acc (chunk x3 x4 x5 (part r) l) (spot r)) := by
  rw [acc_last, ← body]
  refine Eq.trans ?_ (congrArg (fun s : EReal => x1 (ix2 r l) * Ideal.exp (s - _))
    (Finset.sum_congr rfl fun u _ => start x3 x4 x5 ⟨(part r).val * 64 + u.val, by have := (part r).isLt; omega⟩ l))
  pointwise [k0_pay15, k0_pay11, k0_pay10, k0_pay9, k0_pay8, k0_pay6]

/-- The chunks' whole decays. -/
theorem point8 (p : Fin 8) : k0_pay12 (F := Ideal) (k0_pay1 x3 x4 x5) (ix2 p l)
    = Ideal.exp (acc (chunk x3 x4 x5 p l) 63) := by
  rw [acc_last]
  refine Eq.trans ?_ (congrArg Ideal.exp
    (Finset.sum_congr rfl fun u _ => start x3 x4 x5 ⟨p.val * 64 + u.val, by omega⟩ l))
  pointwise [k0_pay12, k0_pay6]

/-- A row's score against row `s` of its chunk. -/
def score (p : Fin 8) (t s : Fin 64) : EReal :=
  ∑ k : Fin 128, x0 (ix2 ⟨p.val * 64 + t.val, by omega⟩ k) * Ideal.ofBits .f32 0x3E000000#32
    * Ideal.exp (-max (acc (chunk x3 x4 x5 p k) t - acc (chunk x3 x4 x5 p k) s)
        (-(acc (chunk x3 x4 x5 p k) t - acc (chunk x3 x4 x5 p k) s)))
    * x1 (ix2 ⟨p.val * 64 + s.val, by omega⟩ k)

/-- The attention inside the chunks. -/
theorem point9 : k0_pay13 (F := Ideal) x0 x1 x2 (k0_pay3 (k0_pay2 x3 x4 x5) (iota .tc S512x128 32 [0] iota_S512x128_d0_w32))
      k0_pay4 (k0_pay5 (k0_pay2 x3 x4 x5) (iota .tc S512x128 32 [0] iota_S512x128_d0_w32)) (ix2 r l)
    = ∑ s : Fin 64, score x0 x1 x3 x4 x5 (part r) (spot r) s * x2 (ix2 ⟨(part r).val * 64 + s.val, by have := (part r).isLt; omega⟩ l) := by
  pointwise [k0_pay13, k0_pay11, k0_pay10, k0_pay9, k0_pay8]
  refine Finset.sum_congr rfl fun s _ => congrArg (· * _) ?_
  have hs := s.isLt
  have hr : r = ⟨(part r).val * 64 + (spot r).val, by have := r.isLt; simp only [part, spot]; omega⟩ := Fin.ext (by simp only [part, spot]; omega)
  unfold Scalar.select score
  rw [WordCmp.cmpi_sle_ofNat (by omega) (by omega), ← hr]
  by_cases h : s.val ≤ r.val % 64
  · rw [if_pos (by simp [h])]
    refine Finset.sum_congr rfl fun k _ => ?_
    refine Eq.trans ?_ (score_low _ _ _ _ (acc_anti _ (chunk_le x3 x4 x5 (part r) k) s (spot r) h) (acc_le _ (chunk_le x3 x4 x5 (part r) k) s))
    rw [← body, ← body]
  · rw [if_neg (by simp [h])]
    refine Finset.sum_congr rfl fun k _ => ?_
    refine Eq.trans ?_ (score_high _ _ _ _ (acc_anti _ (chunk_le x3 x4 x5 (part r) k) (spot r) s (by simp only [spot]; omega)) (acc_le _ (chunk_le x3 x4 x5 (part r) k) (spot r)))
    rw [← body, ← body]

end Cert.Proof.ChunkValue
-- ==== Proof.ChunkRef.lean ====
module

public import proofs.«01_k».proof.Proof.ChunkMath
public import proofs.«01_k».proof.Proof.Gen.ChunkRefIdeal.Read
public import Idealize.ShloMosaic.Lib.Pipeline.ValueKit

/-! # The gated linear attention's chunks: the reference's four results, element by element -/

@[expose] public section

set_option maxRecDepth 16384

noncomputable section

namespace Cert.Proof.ChunkRef

open Idealize.ShloMosaic Idealize.ShloMosaic.TcCoe Idealize.SL.Sem
open Cert.ChunkRefIdeal Cert.ChunkRefIdeal.Read Cert.Proof.ChunkMath

variable (z : FVec Ideal S2048x5760 .f32) (w : FVec Ideal S2x128x512 .f32) (b : FVec Ideal S2x1x512 .f32)

/-- A gate's logarithm at a row and a lane. -/
def gates (i : Fin 2048) (c : Fin 512) : EReal :=
  gate (∑ k : Fin 128, z (ix2 i ⟨5632 + k.val, by omega⟩) * w (ix3 0 k c) + b (ix3 0 0 c))

/-- The reference computes it by a softplus. -/
theorem logs (i : Fin 2048) (c : Fin 512) : val_main_v10 (F := Ideal) z w b (ix2 i c) = gates z w b i c := by
  refine Eq.trans ?_ (gate_eq _)
  pointwise [val_main_v0, val_main_v1, val_main_v2, val_main_v3, val_main_v4, val_main_v5, val_main_v6, val_main_v7, val_main_v8,
    val_main_v9, val_main_v10, val_main_call0_v0, val_main_call0_call0_cst,
    val_main_call0_call0_v0, val_main_call0_call0_v1, val_main_call0_call0_v2, val_main_call0_call0_v3,
    val_main_call0_call0_v4, val_main_call0_call0_v5, val_main_call0_call0_v6, val_main_call0_call0_v7,
    val_main_call0_call0_v8, val_main_call0_call0_v9, val_main_call0_call0_v10, val_main_call0_call0_v11,
    val_main_call0_v1, val_main_cst]
  rw [if_neg (not_not_intro rfl)]
  rfl

/-- A chunk's gates in one lane. -/
def chunk (n : Fin 32) (c : Fin 512) (u : Fin 64) : EReal := gates z w b ⟨n.val * 64 + u.val, by omega⟩ c

/-- The same by chunk, head and lane. -/
theorem parts (n : Fin 32) (t : Fin 64) (h : Fin 4) (x : Fin 128) :
    val_main_v11 (F := Ideal) z w b (ix4 n t h x) = chunk z w b n ⟨h.val * 128 + x.val, by omega⟩ t := by
  refine Eq.trans ?_ (logs z w b ⟨n.val * 64 + t.val, by omega⟩ ⟨h.val * 128 + x.val, by omega⟩)
  pointwise [val_main_v11]

/-- The reference's running sums. -/
theorem whole (n : Fin 32) (t : Fin 64) (h : Fin 4) (x : Fin 128) :
    val_main_v12 (F := Ideal) z w b (ix4 n t h x) = acc (chunk z w b n ⟨h.val * 128 + x.val, by omega⟩) t := by
  refine (Prefix.cumsum _ _ 1 _ _ _ _ _ _ _ _ ?_ ?_ ?_ ?_ _).trans ?_
  · pointwise [val_main_call1_call0_cst, val_main_call1_call0_v0]
  · decide
  · decide
  · decide
  · refine Eq.trans ?_ (back _ t)
    refine Finset.sum_congr rfl fun k _ => ?_
    split
    · next h => rw [if_pos (show t.val < k from h)]
    · next g =>
      refine Eq.trans ?_ (if_neg (show ¬ t.val < k from g)).symm
      refine Eq.trans (congrArg _ (funext fun a => Fin.ext ?_)) (parts z w b n ⟨t.val - k, by omega⟩ h x)
      match a with
      | ⟨0, _⟩ => rfl
      | ⟨1, _⟩ => rfl
      | ⟨2, _⟩ => rfl
      | ⟨3, _⟩ => rfl

/-- The same at a lane of all heads. -/
theorem whole_lane (n : Fin 32) (t : Fin 64) (c : Fin 512) (h : c.val / 128 < 4) (h' : c.val % 128 < 128) :
    val_main_v12 (F := Ideal) z w b (ix4 n t ⟨c.val / 128, h⟩ ⟨c.val % 128, h'⟩) = acc (chunk z w b n c) t :=
  (whole z w b n t _ _).trans (congrArg (fun d => acc (chunk z w b n d) t) (Fin.ext (by dsimp only; omega)))

/-- A row's chunk and its place there. -/
abbrev part (i : Fin 2048) : Fin 32 := ⟨i.val / 64, by omega⟩
abbrev spot (i : Fin 2048) : Fin 64 := ⟨i.val % 64, by omega⟩

variable (i : Fin 2048) (c : Fin 512)

/-- The decayed queries. -/
theorem point6 : val_main_v43 (F := Ideal) z w b (ix2 i c)
    = z (ix2 i ⟨2048 + c.val, by omega⟩) * Ideal.ofBits .f32 0x3E000000#32 * Ideal.exp (acc (chunk z w b (part i) c) (spot i)) := by
  rw [← whole_lane z w b (part i) (spot i) c (by omega) (by omega)]
  pointwise [val_main_v43, val_main_v42, val_main_v41, val_main_v40, val_main_v16, val_main_v15, val_main_v14, val_main_v13,
    val_main_cst_0]

/-- The keys decayed to their chunk's end. -/
theorem point7 : val_main_v50 (F := Ideal) z w b (ix2 i c)
    = z (ix2 i ⟨2560 + c.val, by omega⟩)
      * Ideal.exp (acc (chunk z w b (part i) c) 63 - acc (chunk z w b (part i) c) (spot i)) := by
  rw [← whole_lane z w b (part i) (spot i) c (by omega) (by omega), ← whole_lane z w b (part i) 63 c (by omega) (by omega)]
  pointwise [val_main_v50, val_main_v49, val_main_v48, val_main_v47, val_main_v46, val_main_v45, val_main_v44, val_main_v39,
    val_main_v38, val_main_v18, val_main_v17]

/-- The chunks' whole decays. -/
theorem point8 (n : Fin 32) : val_main_v52 (F := Ideal) z w b (ix2 n c) = Ideal.exp (acc (chunk z w b n c) 63) := by
  rw [← whole_lane z w b n 63 c (by omega) (by omega)]
  pointwise [val_main_v52, val_main_v51, val_main_v39, val_main_v38]

/-- A row's score against row `s` of its chunk. -/
def score (n : Fin 32) (t s : Fin 64) (h : Fin 4) : EReal :=
  ∑ k : Fin 128, z (ix2 ⟨n.val * 64 + t.val, by omega⟩ ⟨2048 + (h.val * 128 + k.val), by omega⟩) * Ideal.ofBits .f32 0x3E000000#32
    * Ideal.exp (-max (acc (chunk z w b n ⟨h.val * 128 + k.val, by omega⟩) t - acc (chunk z w b n ⟨h.val * 128 + k.val, by omega⟩) s)
        (-(acc (chunk z w b n ⟨h.val * 128 + k.val, by omega⟩) t - acc (chunk z w b n ⟨h.val * 128 + k.val, by omega⟩) s)))
    * z (ix2 ⟨n.val * 64 + s.val, by omega⟩ ⟨2560 + (h.val * 128 + k.val), by omega⟩)

/-- The reference's scores. -/
theorem scores (n : Fin 32) (t s : Fin 64) (h : Fin 4) :
    val_main_v35 (F := Ideal) z w b (ix4 n t s h) = score z w b n t s h := by
  unfold score
  simp only [← whole]
  pointwise [val_main_v35, val_main_v34, val_main_v33, val_main_v32, val_main_v31, val_main_v30, val_main_v29, val_main_v28,
    val_main_v27, val_main_v26, val_main_v25, val_main_v24, val_main_v23, val_main_v22, val_main_v21, val_main_cst_1,
    val_main_v16, val_main_v15, val_main_v14, val_main_v13, val_main_v18, val_main_v17, val_main_cst_0]
  rfl

/-- The attention inside the chunks. -/
theorem point9 : val_main_v53 (F := Ideal) z w b (ix2 i c)
    = ∑ s : Fin 64, score z w b (part i) (spot i) s ⟨c.val / 128, by omega⟩
        * z (ix2 ⟨(part i).val * 64 + s.val, by have := (part i).isLt; omega⟩ ⟨3072 + c.val, by omega⟩) := by
  simp only [← scores]
  pointwise [val_main_v53, val_main_v37, val_main_v36, val_main_v20, val_main_v19]
  exact Finset.sum_congr rfl fun s _ => mul_comm _ _

end Cert.Proof.ChunkRef
-- ==== Proof.ChunkFinal.lean ====
module

public import proofs.«01_k».proof.Proof.ChunkValue
public import proofs.«01_k».proof.Proof.ChunkRef

/-! # The gated linear attention's chunks: what the four result arrays hold -/

@[expose] public section

set_option maxRecDepth 16384

noncomputable section

namespace Cert.Proof.ChunkFinal

open Idealize.ShloMosaic Idealize.ShloMosaic.TcCoe Idealize.SL.Sem
open Cert.ChunkIdeal Cert.ChunkIdeal.Gen Cert.ChunkRefIdeal.Read Cert.Proof.ChunkMath

variable (m : (ℓ : Loc nD τ sig) → Buf (Elt Ideal) ℓ) (c : Dev nD) (t : Fin cfg0.N)

/-- Grid point `t` reads the rows of block `t % 4` and the lanes of head `t / 4`. -/
theorem idx : ∀ t : Fin cfg0.N, win0_0.index t = ![t.val % 4, 16 + t.val / 4] ∧ win0_1.index t = ![t.val % 4, 20 + t.val / 4]
      ∧ win0_2.index t = ![t.val % 4, 24 + t.val / 4] ∧ win0_3.index t = ![t.val % 4, 44]
      ∧ win0_4.index t = ![0, 0, t.val / 4] ∧ win0_5.index t = ![0, 0, t.val / 4]
      ∧ win0_6.index t = ![t.val % 4, t.val / 4] ∧ win0_7.index t = ![t.val % 4, t.val / 4]
      ∧ win0_8.index t = ![t.val % 4, t.val / 4] ∧ win0_9.index t = ![t.val % 4, t.val / 4] :=
  (by decide +kernel : ∀ t : Fin grid0.N, _)

/-- There are four heads. -/
theorem heads (t : Fin cfg0.N) : t.val / 4 < 4 := by
  have h : t.val < 16 := t.isLt
  omega

/-- The arguments. -/
abbrev zin : FVec Ideal S2048x5760 .f32 := m ((c : Thread nD τ).loc main_arg0)
abbrev wdec : FVec Ideal S2x128x512 .f32 := m ((c : Thread nD τ).loc main_arg1)
abbrev bdec : FVec Ideal S2x1x512 .f32 := m ((c : Thread nD τ).loc main_arg2)

/-- The reference's results. -/
abbrev res6 := val_main_v43 (F := Ideal) (zin m c) (wdec m c) (bdec m c)
abbrev res7 := val_main_v50 (F := Ideal) (zin m c) (wdec m c) (bdec m c)
abbrev res8 := val_main_v52 (F := Ideal) (zin m c) (wdec m c) (bdec m c)
abbrev res9 := val_main_v53 (F := Ideal) (zin m c) (wdec m c) (bdec m c)

/-- The blocks that the body reads of the queries, the keys and the values. -/
abbrev qblk : FVec Ideal S512x128 .f32 := iblk m c 0 t
abbrev kblk : FVec Ideal S512x128 .f32 := iblk m c 1 t
abbrev vblk : FVec Ideal S512x128 .f32 := iblk m c 2 t

/-- A block's row and lane in the arrays. -/
abbrev row (r : Fin 512) : Fin 2048 := ⟨t.val % 4 * 512 + r.val, by omega⟩
abbrev lane (l : Fin 128) : Fin 512 := ⟨t.val / 4 * 128 + l.val, by have := heads t; omega⟩
abbrev num (p : Fin 8) : Fin 32 := ⟨t.val % 4 * 8 + p.val, by omega⟩

variable (r : Fin 512) (l : Fin 128)

/-- The queries' block. -/
theorem block0 : qblk m c t (ix2 r l) = zin m c (ix2 (row t r) ⟨2048 + (lane t l).val, by omega⟩) := by
  blk_point [qblk, iblk, V, idx t]
/-- The keys' block. -/
theorem block1 : kblk m c t (ix2 r l) = zin m c (ix2 (row t r) ⟨2560 + (lane t l).val, by omega⟩) := by
  blk_point [kblk, iblk, V, idx t]
/-- The values' block. -/
theorem block2 : vblk m c t (ix2 r l) = zin m c (ix2 (row t r) ⟨3072 + (lane t l).val, by omega⟩) := by
  blk_point [vblk, iblk, V, idx t]
/-- The decay logits' block. -/
theorem block3 : iblk m c 3 t (ix2 r l) = zin m c (ix2 (row t r) ⟨5632 + l.val, by omega⟩) := by
  blk_point [iblk, V, idx t]
/-- The decay weights' block. -/
theorem block4 (k : Fin 128) : iblk m c 4 t (ix3 0 k l) = wdec m c (ix3 0 k (lane t l)) := by
  blk_point [iblk, V, idx t]
/-- The decay bias's block. -/
theorem block5 : iblk m c 5 t (ix3 0 0 l) = bdec m c (ix3 0 0 (lane t l)) := by
  blk_point [iblk, V, idx t]

/-- The body's gates are the reference's. -/
theorem chunk_eq (p : Fin 8) : ChunkValue.chunk (iblk m c 3 t) (iblk m c 4 t) (iblk m c 5 t) p l
    = ChunkRef.chunk (zin m c) (wdec m c) (bdec m c) (num t p) (lane t l) := by
  funext u
  unfold ChunkValue.chunk ChunkValue.gates ChunkRef.chunk ChunkRef.gates
  simp only [block3 m c t, block4 m c t, block5 m c t]
  have e : row t ⟨p.val * 64 + u.val, by omega⟩ = ⟨(num t p).val * 64 + u.val, by omega⟩ :=
    Fin.ext (by dsimp only; omega)
  rw [e]

/-- A row's chunk in the arrays. -/
theorem part_eq : ChunkRef.part (row t r) = num t (ChunkValue.part r) := Fin.ext (by dsimp only; omega)
/-- Its place there. -/
theorem spot_eq : ChunkRef.spot (row t r) = ChunkValue.spot r := Fin.ext (by dsimp only; omega)
/-- A row of a chunk in the arrays. -/
theorem row_eq (p : Fin 8) (s : Fin 64) : row t ⟨p.val * 64 + s.val, by omega⟩ = ⟨(num t p).val * 64 + s.val, by omega⟩ :=
  Fin.ext (by dsimp only; omega)

/-- The scores are the reference's. -/
theorem score_eq (p : Fin 8) (u s : Fin 64) :
    ChunkValue.score (qblk m c t) (kblk m c t) (iblk m c 3 t) (iblk m c 4 t) (iblk m c 5 t) p u s
      = ChunkRef.score (zin m c) (wdec m c) (bdec m c) (num t p) u s ⟨(lane t l).val / 128, by omega⟩ := by
  unfold ChunkValue.score ChunkRef.score
  refine Finset.sum_congr rfl fun k _ => ?_
  have e : (⟨(lane t l).val / 128 * 128 + k.val, by omega⟩ : Fin 512) = lane t k := Fin.ext (by dsimp only; omega)
  rw [block0 m c t, block1 m c t, chunk_eq, row_eq, row_eq]
  have e' : (lane t l).val / 128 * 128 + k.val = (lane t k).val := congrArg Fin.val e
  simp only [e']

/-- The decayed queries, from the blocks. -/
theorem elem6 : qblk m c t (ix2 r l) * Ideal.ofBits .f32 0x3E000000#32
      * Ideal.exp (acc (ChunkValue.chunk (iblk m c 3 t) (iblk m c 4 t) (iblk m c 5 t) (ChunkValue.part r) l) (ChunkValue.spot r))
    = res6 m c (ix2 (row t r) (lane t l)) := by
  refine Eq.trans ?_ (ChunkRef.point6 _ _ _ (row t r) (lane t l)).symm
  rw [part_eq, spot_eq, ← chunk_eq, block0]

/-- The decayed keys, from the blocks. -/
theorem elem7 : kblk m c t (ix2 r l)
      * Ideal.exp (acc (ChunkValue.chunk (iblk m c 3 t) (iblk m c 4 t) (iblk m c 5 t) (ChunkValue.part r) l) 63
        - acc (ChunkValue.chunk (iblk m c 3 t) (iblk m c 4 t) (iblk m c 5 t) (ChunkValue.part r) l) (ChunkValue.spot r))
    = res7 m c (ix2 (row t r) (lane t l)) := by
  refine Eq.trans ?_ (ChunkRef.point7 _ _ _ (row t r) (lane t l)).symm
  rw [part_eq, spot_eq, ← chunk_eq, block1]

/-- The chunks' decays, from the blocks. -/
theorem elem8 (p : Fin 8) : Ideal.exp (acc (ChunkValue.chunk (iblk m c 3 t) (iblk m c 4 t) (iblk m c 5 t) p l) 63)
    = res8 m c (ix2 (num t p) (lane t l)) := by
  refine Eq.trans ?_ (ChunkRef.point8 _ _ _ (lane t l) (num t p)).symm
  rw [← chunk_eq]

/-- The attention inside the chunks, from the blocks. -/
theorem elem9 : (∑ s : Fin 64, ChunkValue.score (qblk m c t) (kblk m c t) (iblk m c 3 t) (iblk m c 4 t) (iblk m c 5 t)
        (ChunkValue.part r) (ChunkValue.spot r) s
      * vblk m c t (ix2 ⟨(ChunkValue.part r).val * 64 + s.val, by have := (ChunkValue.part r).isLt; omega⟩ l))
    = res9 m c (ix2 (row t r) (lane t l)) := by
  refine Eq.trans (Finset.sum_congr rfl fun s _ => ?_) (ChunkRef.point9 _ _ _ (row t r) (lane t l)).symm
  have e : row t ⟨(ChunkValue.part r).val * 64 + s.val, by have := (ChunkValue.part r).isLt; omega⟩
      = ⟨(ChunkRef.part (row t r)).val * 64 + s.val, by have := (ChunkRef.part (row t r)).isLt; omega⟩ :=
    Fin.ext (by dsimp only; omega)
  rw [score_eq m c t l, block2, e, spot_eq, ← part_eq]

/-- The decayed queries after the run. -/
theorem final6 : (dats m 0 c).arrAt 6 (cfgs 0).N = res6 m c := by
  refine (dats m 0 c).arrAt_eq_of_covers 6 _ (by decide +kernel) fun t _ y => ?_
  blk_simp
  have e : ((cfg0.win 6).blk t).view.emb y = ix2 (row t (y 0)) (lane t (y 1)) := by blk_ext [idx t]
  rw [after0_6]; unfold_out out0_6; frame_out
  refine Eq.trans ?_ (congrArg (res6 m c) e).symm
  exact (congrArg _ (eq_ix2 y)).trans ((ChunkValue.point6 _ _ _ _ (y 0) (y 1)).trans (elem6 m c t (y 0) (y 1)))

/-- The decayed keys after the run. -/
theorem final7 : (dats m 0 c).arrAt 7 (cfgs 0).N = res7 m c := by
  refine (dats m 0 c).arrAt_eq_of_covers 7 _ (by decide +kernel) fun t _ y => ?_
  blk_simp
  have e : ((cfg0.win 7).blk t).view.emb y = ix2 (row t (y 0)) (lane t (y 1)) := by blk_ext [idx t]
  rw [after0_7]; unfold_out out0_7; frame_out
  refine Eq.trans ?_ (congrArg (res7 m c) e).symm
  exact (congrArg _ (eq_ix2 y)).trans ((ChunkValue.point7 _ _ _ _ (y 0) (y 1)).trans (elem7 m c t (y 0) (y 1)))

/-- The chunks' decays after the run. -/
theorem final8 : (dats m 0 c).arrAt 8 (cfgs 0).N = res8 m c := by
  refine (dats m 0 c).arrAt_eq_of_covers 8 _ (by decide +kernel) fun t _ y => ?_
  blk_simp
  have e : ((cfg0.win 8).blk t).view.emb y = ix2 (num t (y 0)) (lane t (y 1)) := by blk_ext [idx t]
  rw [after0_8]; unfold_out out0_8; frame_out
  refine Eq.trans ?_ (congrArg (res8 m c) e).symm
  exact (congrArg _ (eq_ix2 y)).trans ((ChunkValue.point8 _ _ _ (y 1) (y 0)).trans (elem8 m c t (y 1) (y 0)))

/-- The attention inside the chunks after the run. -/
theorem final9 : (dats m 0 c).arrAt 9 (cfgs 0).N = res9 m c := by
  refine (dats m 0 c).arrAt_eq_of_covers 9 _ (by decide +kernel) fun t _ y => ?_
  blk_simp
  have e : ((cfg0.win 9).blk t).view.emb y = ix2 (row t (y 0)) (lane t (y 1)) := by blk_ext [idx t]
  rw [after0_9]; unfold_out out0_9; frame_out
  refine Eq.trans ?_ (congrArg (res9 m c) e).symm
  exact (congrArg _ (eq_ix2 y)).trans ((ChunkValue.point9 _ _ _ _ _ _ (y 0) (y 1)).trans (elem9 m c t (y 0) (y 1)))

end Cert.Proof.ChunkFinal
-- ==== Proof.ChunkClaims.lean ====
module

public import proofs.«01_k».proof.Defs
public import proofs.«01_k».proof.Proof.Gen.Chunk.Frame
public import proofs.«01_k».proof.Proof.ChunkFinal
public import Idealize.ShloMosaic.Lib.Claim
public import Idealize.ShloMosaic.Lib.Quiescent

/-! # The claims about the gated linear attention's chunks -/

@[expose] public section

set_option maxRecDepth 16384

noncomputable section

namespace Cert.Proof.ChunkClaims

open Idealize.ShloMosaic Idealize.SL.Sem

/-- The printed kernel runs to the end, leaves its arguments alone and its counters at zero. -/
theorem frame : Cert.quiescent_Chunk := fun m ρ _ => Cert.Chunk.Gen.frame m ρ

/-- So does its ideal reading. -/
theorem frameIdeal : Cert.quiescent_ChunkIdeal := fun m ρ _ => Cert.ChunkIdeal.Gen.frame m ρ

/-- So does the reference. -/
theorem frameRef : Cert.quiescent_ChunkRefIdeal := fun m ρ _ =>
  (θ_run Cert.ChunkRefIdeal.defs _ _).mono
    (fun r h => ⟨fun c => (h c).2.2.2.2, Idealize.ShloMosaic.sem_eq_zero_of_no_sems (by decide) r.2⟩)
    (Cert.ChunkRefIdeal.Value.run (F := Idealize.ShloMosaic.Ideal) m ρ)

/-- The four arrays the kernel writes are the reference's, at the ideal reading, on all arguments. -/
theorem algebraic : Cert.algebraic_ChunkIdeal_ChunkRefIdeal := by
  pair_intro
  · run_from Cert.ChunkIdeal.Gen.run_main m g
  · refine (θ_run Cert.ChunkRefIdeal.defs _ _).mono (fun r h c => ?_) (Cert.ChunkRefIdeal.Value.run m' g')
    obtain ⟨e0, e1, e2⟩ := hagree c
    refine ⟨(h c).1.trans ?_, (h c).2.1.trans ?_, (h c).2.2.1.trans ?_, (h c).2.2.2.1.trans ?_, (h c).2.2.2.2⟩
    · refine (Cert.ChunkRefIdeal.Read.val_main_v43_eq ..).trans (Eq.trans ?_ (Cert.Proof.ChunkFinal.final6 m c).symm)
      rw [e0, e1, e2]
    · refine (Cert.ChunkRefIdeal.Read.val_main_v50_eq ..).trans (Eq.trans ?_ (Cert.Proof.ChunkFinal.final7 m c).symm)
      rw [e0, e1, e2]
    · refine (Cert.ChunkRefIdeal.Read.val_main_v52_eq ..).trans (Eq.trans ?_ (Cert.Proof.ChunkFinal.final8 m c).symm)
      rw [e0, e1, e2]
    · refine (Cert.ChunkRefIdeal.Read.val_main_v53_eq ..).trans (Eq.trans ?_ (Cert.Proof.ChunkFinal.final9 m c).symm)
      rw [e0, e1, e2]

end Cert.Proof.ChunkClaims
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.ConvPoolIdeal.Value
public import proofs.«01_k».proof.Proof.Gen.ConvPoolRefIdeal.Run
public import proofs.«01_k».proof.Proof.Gen.ConvPoolRefIdeal.Read
public import proofs.«01_k».proof.Proof.Gen.HeadIdeal.Value
public import proofs.«01_k».proof.Proof.Gen.HeadRefIdeal.Run
public import proofs.«01_k».proof.Proof.Gen.HeadRefIdeal.Read
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DwGateIdeal.Value
public import proofs.«01_k».proof.Proof.Gen.DwGateRefIdeal.Run
public import proofs.«01_k».proof.Proof.Gen.DwGateRefIdeal.Read
public import proofs.«01_k».proof.Proof.Gen.Du2Ideal.Value
public import proofs.«01_k».proof.Proof.Gen.Du2RefIdeal.Run
public import proofs.«01_k».proof.Proof.Gen.Du2RefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DyIdeal.Value
public import proofs.«01_k».proof.Proof.Gen.DyRefIdeal.Run
public import proofs.«01_k».proof.Proof.Gen.DyRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DuIdeal.Value
public import proofs.«01_k».proof.Proof.Gen.DuRefIdeal.Run
public import proofs.«01_k».proof.Proof.Gen.DuRefIdeal.Read
public import proofs.«01_k».proof.Proof.Gen.ConvPool.Frame
public import proofs.«01_k».proof.Proof.Gen.ConvPoolIdeal.Frame
public import proofs.«01_k».proof.Proof.Gen.Head.Frame
public import proofs.«01_k».proof.Proof.Gen.HeadIdeal.Frame
public import proofs.«01_k».proof.Proof.Gen.DwDown.Frame
public import proofs.«01_k».proof.Proof.Gen.DwDownIdeal.Frame
public import proofs.«01_k».proof.Proof.Gen.DwGate.Frame
public import proofs.«01_k».proof.Proof.Gen.DwGateIdeal.Frame
public import proofs.«01_k».proof.Proof.Gen.Du2.Frame
public import proofs.«01_k».proof.Proof.Gen.Du2Ideal.Frame
public import proofs.«01_k».proof.Proof.Gen.DwOut.Frame
public import proofs.«01_k».proof.Proof.Gen.DwOutIdeal.Frame
public import proofs.«01_k».proof.Proof.Gen.Dy.Frame
public import proofs.«01_k».proof.Proof.Gen.DyIdeal.Frame
public import proofs.«01_k».proof.Proof.Gen.DwIn.Frame
public import proofs.«01_k».proof.Proof.Gen.DwInIdeal.Frame
public import proofs.«01_k».proof.Proof.Gen.Du.Frame
public import proofs.«01_k».proof.Proof.Gen.DuIdeal.Frame
public import proofs.«01_k».proof.Proof.Gen.Zin.Frame
public import proofs.«01_k».proof.Proof.Gen.ZinIdeal.Frame
public import proofs.«01_k».proof.Proof.Gen.ZinIdeal.Value
public import proofs.«01_k».proof.Proof.Gen.ZinRefIdeal.Run
public import proofs.«01_k».proof.Proof.Gen.ZinRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.FwdNorm.Frame
public import proofs.«01_k».proof.Proof.Gen.FwdNormIdeal.Frame
public import proofs.«01_k».proof.Proof.Gen.FwdNormIdeal.Value
public import proofs.«01_k».proof.Proof.Gen.FwdNormRefIdeal.Run
public import proofs.«01_k».proof.Proof.Gen.FwdNormRefIdeal.Read
public import proofs.«01_k».proof.Proof.Gen.FwdHead.Frame
public import proofs.«01_k».proof.Proof.Gen.FwdHeadIdeal.Frame
public import proofs.«01_k».proof.Proof.Gen.FwdHeadIdeal.Value
public import proofs.«01_k».proof.Proof.Gen.FwdHeadRefIdeal.Run
public import proofs.«01_k».proof.Proof.Gen.FwdHeadRefIdeal.Read
public import proofs.«01_k».proof.Proof.Gen.FwdPool.Frame
public import proofs.«01_k».proof.Proof.Gen.FwdPoolIdeal.Frame
public import proofs.«01_k».proof.Proof.Gen.FwdPoolIdeal.Value
public import proofs.«01_k».proof.Proof.Gen.FwdPoolRefIdeal.Run
public import proofs.«01_k».proof.Proof.Gen.FwdPoolRefIdeal.Read
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.OptOut.Frame
public import proofs.«01_k».proof.Proof.Gen.OptOutIdeal.Frame
public import proofs.«01_k».proof.Proof.Gen.OptOutIdeal.Value
public import proofs.«01_k».proof.Proof.Gen.OptOutRefIdeal.Run
public import proofs.«01_k».proof.Proof.Gen.OptOutRefIdeal.Read
public import proofs.«01_k».proof.Proof.Gen.OptGate.Frame
public import proofs.«01_k».proof.Proof.Gen.OptGateIdeal.Frame
public import proofs.«01_k».proof.Proof.Gen.OptGateIdeal.Value
public import proofs.«01_k».proof.Proof.Gen.OptGateRefIdeal.Run
public import proofs.«01_k».proof.Proof.Gen.OptGateRefIdeal.Read
public import proofs.«01_k».proof.Proof.Gen.OptDown.Frame
public import proofs.«01_k».proof.Proof.Gen.OptDownIdeal.Frame
public import proofs.«01_k».proof.Proof.Gen.OptDownIdeal.Value
public import proofs.«01_k».proof.Proof.Gen.OptDownRefIdeal.Run
public import proofs.«01_k».proof.Proof.Gen.OptDownRefIdeal.Read
public import proofs.«01_k».proof.Proof.Gen.Sum8.Frame
public import proofs.«01_k».proof.Proof.Gen.Sum8Ideal.Frame
public import proofs.«01_k».proof.Proof.Gen.Sum8Ideal.Value
public import proofs.«01_k».proof.Proof.Gen.Sum8RefIdeal.Run
public import proofs.«01_k».proof.Proof.Gen.Sum8RefIdeal.Read
public import proofs.«01_k».proof.Proof.Gen.OptSmall.Frame
public import proofs.«01_k».proof.Proof.Gen.OptSmallIdeal.Frame
public import proofs.«01_k».proof.Proof.Gen.OptSmallIdeal.Value
public import proofs.«01_k».proof.Proof.Gen.OptSmallRefIdeal.Run
public import proofs.«01_k».proof.Proof.Gen.OptSmallRefIdeal.Read
public import proofs.«01_k».proof.Proof.Gen.FoxPrep.Frame
public import proofs.«01_k».proof.Proof.Gen.FoxPrepIdeal.Frame
public import proofs.«01_k».proof.Proof.Gen.FoxPrepIdeal.Value
public import proofs.«01_k».proof.Proof.Gen.FoxPrepRefIdeal.Run
public import proofs.«01_k».proof.Proof.Gen.FoxPrepRefIdeal.Read
public import proofs.«01_k».proof.Proof.Gen.Fox.Frame
public import proofs.«01_k».proof.Proof.Gen.FoxIdeal.Frame
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.Pre_finite_fox
public import proofs.«01_k».proof.Proof.Gen.Chunk
public import proofs.«01_k».proof.Proof.Gen.Chunk.Skeleton
public import proofs.«01_k».proof.Proof.Gen.Chunk.Launch
public import proofs.«01_k».proof.Proof.Gen.Chunk.Points
public import proofs.«01_k».proof.Proof.Gen.Chunk.Frame
public import proofs.«01_k».proof.Proof.Gen.ChunkIdeal
public import proofs.«01_k».proof.Proof.Gen.ChunkIdeal.Skeleton
public import proofs.«01_k».proof.Proof.Gen.ChunkIdeal.Launch
public import proofs.«01_k».proof.Proof.Gen.ChunkIdeal.Points
public import proofs.«01_k».proof.Proof.Gen.ChunkIdeal.Frame
public import proofs.«01_k».proof.Proof.Gen.ChunkIdeal.Value
public import proofs.«01_k».proof.Proof.Gen.ChunkRefIdeal
public import proofs.«01_k».proof.Proof.Gen.ChunkRefIdeal.Run
public import proofs.«01_k».proof.Proof.Gen.ChunkRefIdeal.Read
public import proofs.«01_k».proof.Proof.Gen.FoxPrepBwd
public import proofs.«01_k».proof.Proof.Gen.FoxPrepBwd.Skeleton
public import proofs.«01_k».proof.Proof.Gen.FoxPrepBwd.Launch
public import proofs.«01_k».proof.Proof.Gen.FoxPrepBwd.Points
public import proofs.«01_k».proof.Proof.Gen.FoxPrepBwd.Frame
public import proofs.«01_k».proof.Proof.Gen.FoxPrepBwdIdeal
public import proofs.«01_k».proof.Proof.Gen.FoxPrepBwdIdeal.Skeleton
public import proofs.«01_k».proof.Proof.Gen.FoxPrepBwdIdeal.Launch
public import proofs.«01_k».proof.Proof.Gen.FoxPrepBwdIdeal.Points
public import proofs.«01_k».proof.Proof.Gen.FoxPrepBwdIdeal.Frame
public import proofs.«01_k».proof.Proof.Gen.FoxPrepBwdIdeal.Value
public import proofs.«01_k».proof.Proof.Gen.FoxPrepBwdRefIdeal
public import proofs.«01_k».proof.Proof.Gen.FoxPrepBwdRefIdeal.Run
public import proofs.«01_k».proof.Proof.Gen.FoxPrepBwdRefIdeal.Read
public import proofs.«01_k».proof.Proof.Gen.Pre_smooth_foxprep
public import proofs.«01_k».proof.Proof.ConvPoolClaims
public import proofs.«01_k».proof.Proof.HeadClaims
public import proofs.«01_k».proof.Proof.GateClaims
public import proofs.«01_k».proof.Proof.NormClaims
public import proofs.«01_k».proof.Proof.DwDownClaims
public import proofs.«01_k».proof.Proof.DwGateClaims
public import proofs.«01_k».proof.Proof.Du2Claims
public import proofs.«01_k».proof.Proof.DwOutClaims
public import proofs.«01_k».proof.Proof.DyClaims
public import proofs.«01_k».proof.Proof.DwInClaims
public import proofs.«01_k».proof.Proof.DuClaims
public import proofs.«01_k».proof.Proof.ZinClaims
public import proofs.«01_k».proof.Proof.OutClaims
public import proofs.«01_k».proof.Proof.GateUpClaims
public import proofs.«01_k».proof.Proof.DownClaims
public import proofs.«01_k».proof.Proof.FwdNormClaims
public import proofs.«01_k».proof.Proof.FwdHeadClaims
public import proofs.«01_k».proof.Proof.FwdPoolClaims
public import proofs.«01_k».proof.Proof.LossClaims
public import proofs.«01_k».proof.Proof.OptOutClaims
public import proofs.«01_k».proof.Proof.OptGateClaims
public import proofs.«01_k».proof.Proof.OptDownClaims
public import proofs.«01_k».proof.Proof.Sum8Claims
public import proofs.«01_k».proof.Proof.OptSmallClaims
public import proofs.«01_k».proof.Proof.FoxPrepClaims
public import proofs.«01_k».proof.Proof.FoxClaims
public import proofs.«01_k».proof.Proof.FoxPrepBwdClaims
public import proofs.«01_k».proof.Proof.ChunkClaims
public import Idealize.ShloMosaic.Adequacy
public import Idealize.ShloMosaic.Init

@[expose] public section

noncomputable section

namespace Cert.Proof

open Idealize.ShloMosaic Idealize.SL.Sem Cert.Gate

/-- Every stated claim: the frames of all programs, then per kernel the (empty) rewriting and the equation. -/
theorem claim : Cert.Claim := ⟨
  Cert.ConvPool.Gen.facts,
  Cert.ConvPoolIdeal.Gen.facts,
  Cert.ConvPoolRefIdeal.Gen.facts,
  Cert.Head.Gen.facts,
  Cert.HeadIdeal.Gen.facts,
  Cert.HeadRefIdeal.Gen.facts,
  Cert.Gate.Gen.facts,
  Cert.GateIdeal.Gen.facts,
  Cert.GateRefIdeal.Gen.facts,
  Cert.Norm.Gen.facts,
  Cert.NormIdeal.Gen.facts,
  Cert.NormRefIdeal.Gen.facts,
  Cert.DwDown.Gen.facts,
  Cert.DwDownIdeal.Gen.facts,
  Cert.DwDownRefIdeal.Gen.facts,
  Cert.DwGate.Gen.facts,
  Cert.DwGateIdeal.Gen.facts,
  Cert.DwGateRefIdeal.Gen.facts,
  Cert.Du2.Gen.facts,
  Cert.Du2Ideal.Gen.facts,
  Cert.Du2RefIdeal.Gen.facts,
  Cert.DwOut.Gen.facts,
  Cert.DwOutIdeal.Gen.facts,
  Cert.DwOutRefIdeal.Gen.facts,
  Cert.Dy.Gen.facts,
  Cert.DyIdeal.Gen.facts,
  Cert.DyRefIdeal.Gen.facts,
  Cert.DwIn.Gen.facts,
  Cert.DwInIdeal.Gen.facts,
  Cert.DwInRefIdeal.Gen.facts,
  Cert.Du.Gen.facts,
  Cert.DuIdeal.Gen.facts,
  Cert.DuRefIdeal.Gen.facts,
  Cert.Zin.Gen.facts,
  Cert.ZinIdeal.Gen.facts,
  Cert.ZinRefIdeal.Gen.facts,
  Cert.Out.Gen.facts,
  Cert.OutIdeal.Gen.facts,
  Cert.OutRefIdeal.Gen.facts,
  Cert.GateUp.Gen.facts,
  Cert.GateUpIdeal.Gen.facts,
  Cert.GateUpRefIdeal.Gen.facts,
  Cert.Down.Gen.facts,
  Cert.DownIdeal.Gen.facts,
  Cert.DownRefIdeal.Gen.facts,
  Cert.FwdNorm.Gen.facts,
  Cert.FwdNormIdeal.Gen.facts,
  Cert.FwdNormRefIdeal.Gen.facts,
  Cert.FwdHead.Gen.facts,
  Cert.FwdHeadIdeal.Gen.facts,
  Cert.FwdHeadRefIdeal.Gen.facts,
  Cert.FwdPool.Gen.facts,
  Cert.FwdPoolIdeal.Gen.facts,
  Cert.FwdPoolRefIdeal.Gen.facts,
  Cert.Loss.Gen.facts,
  Cert.LossIdeal.Gen.facts,
  Cert.LossRefIdeal.Gen.facts,
  Cert.OptOut.Gen.facts,
  Cert.OptOutIdeal.Gen.facts,
  Cert.OptOutRefIdeal.Gen.facts,
  Cert.OptGate.Gen.facts,
  Cert.OptGateIdeal.Gen.facts,
  Cert.OptGateRefIdeal.Gen.facts,
  Cert.OptDown.Gen.facts,
  Cert.OptDownIdeal.Gen.facts,
  Cert.OptDownRefIdeal.Gen.facts,
  Cert.Sum8.Gen.facts,
  Cert.Sum8Ideal.Gen.facts,
  Cert.Sum8RefIdeal.Gen.facts,
  Cert.OptSmall.Gen.facts,
  Cert.OptSmallIdeal.Gen.facts,
  Cert.OptSmallRefIdeal.Gen.facts,
  Cert.FoxPrep.Gen.facts,
  Cert.FoxPrepIdeal.Gen.facts,
  Cert.FoxPrepRefIdeal.Gen.facts,
  Cert.Fox.Gen.facts,
  Cert.FoxIdeal.Gen.facts,
  Cert.FoxRefIdeal.Gen.facts,
  Cert.FoxPrepBwd.Gen.facts,
  Cert.FoxPrepBwdIdeal.Gen.facts,
  Cert.FoxPrepBwdRefIdeal.Gen.facts,
  Cert.Chunk.Gen.facts,
  Cert.ChunkIdeal.Gen.facts,
  Cert.ChunkRefIdeal.Gen.facts,
  Cert.Pre_finite_fox.Gen.facts,
  Cert.Pre_smooth_foxprep.Gen.facts,
  ConvPoolClaims.frame,
  ConvPoolClaims.frameIdeal,
  ConvPoolClaims.frameRef,
  HeadClaims.frame,
  HeadClaims.frameIdeal,
  HeadClaims.frameRef,
  GateClaims.frame,
  GateClaims.frameIdeal,
  GateClaims.frameRef,
  NormClaims.frame,
  NormClaims.frameIdeal,
  NormClaims.frameRef,
  DwDownClaims.frame,
  DwDownClaims.frameIdeal,
  DwDownClaims.frameRef,
  DwGateClaims.frame,
  DwGateClaims.frameIdeal,
  DwGateClaims.frameRef,
  Du2Claims.frame,
  Du2Claims.frameIdeal,
  Du2Claims.frameRef,
  DwOutClaims.frame,
  DwOutClaims.frameIdeal,
  DwOutClaims.frameRef,
  DyClaims.frame,
  DyClaims.frameIdeal,
  DyClaims.frameRef,
  DwInClaims.frame,
  DwInClaims.frameIdeal,
  DwInClaims.frameRef,
  DuClaims.frame,
  DuClaims.frameIdeal,
  DuClaims.frameRef,
  ZinClaims.frame,
  ZinClaims.frameIdeal,
  ZinClaims.frameRef,
  OutClaims.frame,
  OutClaims.frameIdeal,
  OutClaims.frameRef,
  GateUpClaims.frame,
  GateUpClaims.frameIdeal,
  GateUpClaims.frameRef,
  DownClaims.frame,
  DownClaims.frameIdeal,
  DownClaims.frameRef,
  FwdNormClaims.frame,
  FwdNormClaims.frameIdeal,
  FwdNormClaims.frameRef,
  FwdHeadClaims.frame,
  FwdHeadClaims.frameIdeal,
  FwdHeadClaims.frameRef,
  FwdPoolClaims.frame,
  FwdPoolClaims.frameIdeal,
  FwdPoolClaims.frameRef,
  LossClaims.frame,
  LossClaims.frameIdeal,
  LossClaims.frameRef,
  OptOutClaims.frame,
  OptOutClaims.frameIdeal,
  OptOutClaims.frameRef,
  OptGateClaims.frame,
  OptGateClaims.frameIdeal,
  OptGateClaims.frameRef,
  OptDownClaims.frame,
  OptDownClaims.frameIdeal,
  OptDownClaims.frameRef,
  Sum8Claims.frame,
  Sum8Claims.frameIdeal,
  Sum8Claims.frameRef,
  OptSmallClaims.frame,
  OptSmallClaims.frameIdeal,
  OptSmallClaims.frameRef,
  FoxPrepClaims.frame,
  FoxPrepClaims.frameIdeal,
  FoxPrepClaims.frameRef,
  FoxClaims.frame,
  FoxClaims.frameIdeal,
  FoxClaims.frameIdealPre,
  FoxClaims.frameRef,
  FoxClaims.frameRefPre,
  FoxPrepBwdClaims.frame,
  FoxPrepBwdClaims.frameIdeal,
  FoxPrepBwdClaims.frameIdealPre,
  FoxPrepBwdClaims.frameRef,
  FoxPrepBwdClaims.frameRefPre,
  ChunkClaims.frame,
  ChunkClaims.frameIdeal,
  ChunkClaims.frameRef,
  trivial, ConvPoolClaims.algebraic,
  trivial, HeadClaims.algebraic,
  trivial, GateClaims.algebraic,
  trivial, NormClaims.algebraic,
  trivial, DwDownClaims.algebraic,
  trivial, DwGateClaims.algebraic,
  trivial, Du2Claims.algebraic,
  trivial, DwOutClaims.algebraic,
  trivial, DyClaims.algebraic,
  trivial, DwInClaims.algebraic,
  trivial, DuClaims.algebraic,
  trivial, ZinClaims.algebraic,
  trivial, OutClaims.algebraic,
  trivial, GateUpClaims.algebraic,
  trivial, DownClaims.algebraic,
  trivial, FwdNormClaims.algebraic,
  trivial, FwdHeadClaims.algebraic,
  trivial, FwdPoolClaims.algebraic,
  trivial, LossClaims.algebraic,
  trivial, OptOutClaims.algebraic,
  trivial, OptGateClaims.algebraic,
  trivial, OptDownClaims.algebraic,
  trivial, Sum8Claims.algebraic,
  trivial, OptSmallClaims.algebraic,
  trivial, FoxPrepClaims.algebraic,
  trivial, FoxClaims.algebraic,
  trivial, FoxPrepBwdClaims.algebraic,
  trivial, ChunkClaims.algebraic⟩

end Cert.Proof

end
